-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  IdealRules.named_const.Statement Cert.Kernel4Ideal.κ "scale2" .f32 0x3E0293EE#32 (((11863283 / 134217728) * (Real.log 2)⁻¹ : ℝ) : EReal)

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v44) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v19_0)) (v1 : (c : Dev Cert.Kernel5Ideal.nD) → Buf (Elt Ideal) ((c.tc : Thread Cert.Kernel5Ideal.nD Cert.Kernel5Ideal.τ).loc Cert.Kernel5Ideal.main_v19_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19_0) = v0 c
          ∧ r.2.mem ((c.tc : Thread Cert.Kernel5Ideal.nD Cert.Kernel5Ideal.τ).loc Cert.Kernel5Ideal.main_v19_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_v32) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v26) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  IdealRules.named_const.Statement Cert.Kernel7Ideal.κ "scale2" .f32 0x3E0293EE#32 (((11863283 / 134217728) * (Real.log 2)⁻¹ : ℝ) : EReal)

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v50) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite4 : Cert.Pre_finite4.Facts) (hPre_finite7 : Cert.Pre_finite7.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
-- ==== Pre_finite4.lean ====
abbrev S16x2048x1024 : Shape := ⟨3, ![16, 2048, 1024]⟩
abbrev S2x1024 : Shape := ⟨2, ![2, 1024]⟩
abbrev S2x1024x512 : Shape := ⟨3, ![2, 1024, 512]⟩
abbrev S16x256x1024 : Shape := ⟨3, ![16, 256, 1024]⟩
abbrev S2x512x1024 : Shape := ⟨3, ![2, 512, 1024]⟩
abbrev S1x1024 : Shape := ⟨2, ![1, 1024]⟩
abbrev S1024 : Shape := ⟨1, ![1024]⟩
abbrev S_ : Shape := ⟨0, ![]⟩
abbrev S1x1024x512 : Shape := ⟨3, ![1, 1024, 512]⟩
abbrev S1024x512 : Shape := ⟨2, ![1024, 512]⟩
abbrev S16x256x512 : Shape := ⟨3, ![16, 256, 512]⟩

class Facts : Prop where
  slices_S2x1024_S1x1024_1_0 : S2x1024.Slices ![1, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel
  slices_S2x1024x512_S1x1024x512_1_0_0 : S2x1024x512.Slices ![1, 0, 0] S1x1024x512
  shapeCasts_S1x1024x512_S1024x512 : S1x1024x512.ShapeCasts S1024x512
  bcast_S_S1024x512 : S_.BroadcastsInDim S1024x512 (![] : Fin 0 → Fin S1024x512.rank)
  reducesTo_S1024x512_S_d0_1 : S1024x512.ReducesTo [0, 1] S_
  slices_S16x256x1024_S16x256x512_0_0_0 : S16x256x1024.Slices ![0, 0, 0] S16x256x512
  slices_S16x256x1024_S16x256x512_0_0_512 : S16x256x1024.Slices ![0, 0, 512] S16x256x512
  bitsLt_bf16_f32 : FTy.bits .bf16 < FTy.bits .f32
  bcast_S_S16x256x512 : S_.BroadcastsInDim S16x256x512 (![] : Fin 0 → Fin S16x256x512.rank)
  reducesTo_S16x256x512_S_d0_1_2 : S16x256x512.ReducesTo [0, 1, 2] S_

variable [Facts]

def fn_part1 {F : FTy → Type} [FloatOps F] (main_v12 : IVec S_ 1) (main_v18 : IVec S16x256x512 1) : IVec S_ 1 :=
  let main_c_3 : IVec S_ 1 := constantI S_ 1 1#1
  let main_v19 : IVec S_ 1 := (fun x v => Host.reduce IntOp.andi x v reducesTo_S16x256x512_S_d0_1_2 h_S_) main_v18 main_c_3
  let main_v20 : IVec S_ 1 := andi main_v12 main_v19
  main_v20

def fn {F : FTy → Type} [FloatOps F] (main_arg0 : FVec F S16x2048x1024 .f32) (main_arg1 : FVec F S2x1024 .f32) (main_arg2 : FVec F S2x1024x512 .f32) (main_arg3 : FVec F S16x256x1024 .bf16) (main_arg4 : FVec F S2x512x1024 .f32) : IVec S_ 1 :=
  let main_v0 : FVec F S1x1024 .f32 := (extractStridedSlice S1x1024 ![1, 0] · slices_S2x1024_S1x1024_1_0) main_arg1
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  let main_v6 : FVec F S1x1024x512 .f32 := (extractStridedSlice S1x1024x512 ![1, 0, 0] · slices_S2x1024x512_S1x1024x512_1_0_0) main_arg2
  let main_v7 : FVec F S1024x512 .f32 := shapeCast S1024x512 main_v6 shapeCasts_S1x1024x512_S1024x512
  let main_v8 : FVec F S1024x512 .f32 := Host.absf main_v7
  let main_cst_0 : FVec F S_ .f32 := constant S_ .f32 0x7F800000#32
  let main_v9 : FVec F S1024x512 .f32 := broadcastInDim S1024x512 ![] bcast_S_S1024x512 main_cst_0
  let main_v10 : IVec S1024x512 1 := cmpf .olt main_v8 main_v9
  let main_c_1 : IVec S_ 1 := constantI S_ 1 1#1
  let main_v11 : IVec S_ 1 := (fun x v => Host.reduce IntOp.andi x v reducesTo_S1024x512_S_d0_1 h_S_) main_v10 main_c_1
  let main_v12 : IVec S_ 1 := andi main_v5 main_v11
  let main_v13 : FVec F S16x256x512 .bf16 := (extractStridedSlice S16x256x512 ![0, 0, 0] · slices_S16x256x1024_S16x256x512_0_0_0) main_arg3
  let main_v14 : FVec F S16x256x512 .bf16 := (extractStridedSlice S16x256x512 ![0, 0, 512] · slices_S16x256x1024_S16x256x512_0_0_512) main_arg3
  let main_v15 : FVec F S16x256x512 .f32 := (extf .f32 · bitsLt_bf16_f32) main_v13
  let main_v16 : FVec F S16x256x512 .f32 := Host.absf main_v15
  let main_cst_2 : FVec F S_ .f32 := constant S_ .f32 0x7F800000#32
  let main_v17 : FVec F S16x256x512 .f32 := broadcastInDim S16x256x512 ![] bcast_S_S16x256x512 main_cst_2
  let main_v18 : IVec S16x256x512 1 := cmpf .olt main_v16 main_v17
  fn_part1 (F := F) main_v12 main_v18
-- ==== Pre_finite7.lean ====
abbrev S16x2048x1024 : Shape := ⟨3, ![16, 2048, 1024]⟩
abbrev S16x512x2048 : Shape := ⟨3, ![16, 512, 2048]⟩
abbrev S16x2048x512 : Shape := ⟨3, ![16, 2048, 512]⟩
abbrev S1x1024x1024 : Shape := ⟨3, ![1, 1024, 1024]⟩
abbrev S2x1024 : Shape := ⟨2, ![2, 1024]⟩
abbrev S2x1024x512 : Shape := ⟨3, ![2, 1024, 512]⟩
abbrev S16x256x1024 : Shape := ⟨3, ![16, 256, 1024]⟩
abbrev S2x512x1024 : Shape := ⟨3, ![2, 512, 1024]⟩
abbrev S1x1024 : Shape := ⟨2, ![1, 1024]⟩
abbrev S1024 : Shape := ⟨1, ![1024]⟩
abbrev S_ : Shape := ⟨0, ![]⟩
abbrev S1x1024x512 : Shape := ⟨3, ![1, 1024, 512]⟩
abbrev S1024x512 : Shape := ⟨2, ![1024, 512]⟩
abbrev S16x256x512 : Shape := ⟨3, ![16, 256, 512]⟩

class Facts : Prop where
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel
  slices_S2x1024x512_S1x1024x512_0_0_0 : S2x1024x512.Slices ![0, 0, 0] S1x1024x512
  shapeCasts_S1x1024x512_S1024x512 : S1x1024x512.ShapeCasts S1024x512
  bcast_S_S1024x512 : S_.BroadcastsInDim S1024x512 (![] : Fin 0 → Fin S1024x512.rank)
  reducesTo_S1024x512_S_d0_1 : S1024x512.ReducesTo [0, 1] S_
  slices_S16x256x1024_S16x256x512_0_0_0 : S16x256x1024.Slices ![0, 0, 0] S16x256x512
  slices_S16x256x1024_S16x256x512_0_0_512 : S16x256x1024.Slices ![0, 0, 512] S16x256x512
  bitsLt_bf16_f32 : FTy.bits .bf16 < FTy.bits .f32
  bcast_S_S16x256x512 : S_.BroadcastsInDim S16x256x512 (![] : Fin 0 → Fin S16x256x512.rank)
  reducesTo_S16x256x512_S_d0_1_2 : S16x256x512.ReducesTo [0, 1, 2] S_

variable [Facts]

def fn_part1 {F : FTy → Type} [FloatOps F] (main_v12 : IVec S_ 1) (main_v18 : IVec S16x256x512 1) : IVec S_ 1 :=
  let main_c_3 : IVec S_ 1 := constantI S_ 1 1#1
  let main_v19 : IVec S_ 1 := (fun x v => Host.reduce IntOp.andi x v reducesTo_S16x256x512_S_d0_1_2 h_S_) main_v18 main_c_3
  let main_v20 : IVec S_ 1 := andi main_v12 main_v19
  main_v20

def fn {F : FTy → Type} [FloatOps F] (main_arg0 : FVec F S16x2048x1024 .f32) (main_arg1 : FVec F S16x512x2048 .bf16) (main_arg2 : FVec F S16x2048x512 .bf16) (main_arg3 : FVec F S1x1024x1024 .f32) (main_arg4 : FVec F S2x1024 .f32) (main_arg5 : FVec F S2x1024x512 .f32) (main_arg6 : FVec F S16x256x1024 .bf16) (main_arg7 : FVec F S2x512x1024 .f32) : IVec S_ 1 :=
  let main_v0 : FVec F S1x1024 .f32 := (extractStridedSlice S1x1024 ![0, 0] · slices_S2x1024_S1x1024_0_0) main_arg4
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  let main_v6 : FVec F S1x1024x512 .f32 := (extractStridedSlice S1x1024x512 ![0, 0, 0] · slices_S2x1024x512_S1x1024x512_0_0_0) main_arg5
  let main_v7 : FVec F S1024x512 .f32 := shapeCast S1024x512 main_v6 shapeCasts_S1x1024x512_S1024x512
  let main_v8 : FVec F S1024x512 .f32 := Host.absf main_v7
  let main_cst_0 : FVec F S_ .f32 := constant S_ .f32 0x7F800000#32
  let main_v9 : FVec F S1024x512 .f32 := broadcastInDim S1024x512 ![] bcast_S_S1024x512 main_cst_0
  let main_v10 : IVec S1024x512 1 := cmpf .olt main_v8 main_v9
  let main_c_1 : IVec S_ 1 := constantI S_ 1 1#1
  let main_v11 : IVec S_ 1 := (fun x v => Host.reduce IntOp.andi x v reducesTo_S1024x512_S_d0_1 h_S_) main_v10 main_c_1
  let main_v12 : IVec S_ 1 := andi main_v5 main_v11
  let main_v13 : FVec F S16x256x512 .bf16 := (extractStridedSlice S16x256x512 ![0, 0, 0] · slices_S16x256x1024_S16x256x512_0_0_0) main_arg6
  let main_v14 : FVec F S16x256x512 .bf16 := (extractStridedSlice S16x256x512 ![0, 0, 512] · slices_S16x256x1024_S16x256x512_0_0_512) main_arg6
  let main_v15 : FVec F S16x256x512 .f32 := (extf .f32 · bitsLt_bf16_f32) main_v13
  let main_v16 : FVec F S16x256x512 .f32 := Host.absf main_v15
  let main_cst_2 : FVec F S_ .f32 := constant S_ .f32 0x7F800000#32
  let main_v17 : FVec F S16x256x512 .f32 := broadcastInDim S16x256x512 ![] bcast_S_S16x256x512 main_cst_2
  let main_v18 : IVec S16x256x512 1 := cmpf .olt main_v16 main_v17
  fn_part1 (F := F) main_v12 main_v18
-- ==== Kernel.lean ====
abbrev S16x2048x1792 : Shape := ⟨3, ![16, 2048, 1792]⟩
abbrev S128 : Shape := ⟨1, ![128]⟩
abbrev S8x128x64 : Shape := ⟨3, ![8, 128, 64]⟩
abbrev S3x256x2048 : Shape := ⟨3, ![3, 256, 2048]⟩
abbrev S8x64x128 : Shape := ⟨3, ![8, 64, 128]⟩
abbrev S_ : Shape := ⟨0, ![]⟩
abbrev S8 : Shape := ⟨1, ![8]⟩
abbrev S8x1x1 : Shape := ⟨3, ![8, 1, 1]⟩
abbrev S8x128x128 : Shape := ⟨3, ![8, 128, 128]⟩
abbrev S1x128 : Shape := ⟨2, ![1, 128]⟩
abbrev S16x512x2048 : Shape := ⟨3, ![16, 512, 2048]⟩
abbrev S1x256x512 : Shape := ⟨3, ![1, 256, 512]⟩
abbrev S1x256x128 : Shape := ⟨3, ![1, 256, 128]⟩
abbrev S1x2048x128 : Shape := ⟨3, ![1, 2048, 128]⟩
abbrev S1x512x256 : Shape := ⟨3, ![1, 512, 256]⟩
abbrev S2048x128 : Shape := ⟨2, ![2048, 128]⟩
abbrev S8x144x256 : Shape := ⟨3, ![8, 144, 256]⟩
abbrev S8x256x256 : Shape := ⟨3, ![8, 256, 256]⟩
abbrev S8x256x2048 : Shape := ⟨3, ![8, 256, 2048]⟩
abbrev S144x2048 : Shape := ⟨2, ![144, 2048]⟩
abbrev S512x1024 : Shape := ⟨2, ![512, 1024]⟩
abbrev S256x256 : Shape := ⟨2, ![256, 256]⟩
abbrev S256x2048 : Shape := ⟨2, ![256, 2048]⟩
abbrev S8x8x2048 : Shape := ⟨3, ![8, 8, 2048]⟩
abbrev S8x8x256 : Shape := ⟨3, ![8, 8, 256]⟩
abbrev S2048 : Shape := ⟨1, ![2048]⟩
abbrev S2048x1 : Shape := ⟨2, ![2048, 1]⟩
abbrev S16x256 : Shape := ⟨2, ![16, 256]⟩
abbrev S256x128 : Shape := ⟨2, ![256, 128]⟩
abbrev S128x256 : Shape := ⟨2, ![128, 256]⟩
abbrev S1x128x256 : Shape := ⟨3, ![1, 128, 256]⟩
abbrev S1x16x256 : Shape := ⟨3, ![1, 16, 256]⟩
abbrev S256x512 : Shape := ⟨2, ![256, 512]⟩
abbrev S1x128x128 : Shape := ⟨3, ![1, 128, 128]⟩
abbrev S128x128 : Shape := ⟨2, ![128, 128]⟩
abbrev S1024x128 : Shape := ⟨2, ![1024, 128]⟩
abbrev S512x128 : Shape := ⟨2, ![512, 128]⟩
abbrev S1x256x2048 : Shape := ⟨3, ![1, 256, 2048]⟩
abbrev S32x8x2048 : Shape := ⟨3, ![32, 8, 2048]⟩
abbrev S8x2048 : Shape := ⟨2, ![8, 2048]⟩
abbrev S1x8x2048 : Shape := ⟨3, ![1, 8, 2048]⟩
abbrev S1x256 : Shape := ⟨2, ![1, 256]⟩
abbrev S1x256x256 : Shape := ⟨3, ![1, 256, 256]⟩
abbrev S256 : Shape := ⟨1, ![256]⟩
abbrev S8x256 : Shape := ⟨2, ![8, 256]⟩
abbrev S32x8x256 : Shape := ⟨3, ![32, 8, 256]⟩
abbrev S1x8x256 : Shape := ⟨3, ![1, 8, 256]⟩
abbrev S1x2048 : Shape := ⟨2, ![1, 2048]⟩
abbrev S1x1x256 : Shape := ⟨3, ![1, 1, 256]⟩
abbrev S1x144x256 : Shape := ⟨3, ![1, 144, 256]⟩
abbrev S144x256 : Shape := ⟨2, ![144, 256]⟩
abbrev S1x1x2048 : Shape := ⟨3, ![1, 1, 2048]⟩
abbrev S1 : Shape := ⟨1, ![1]⟩
abbrev S1x1x1 : Shape := ⟨3, ![1, 1, 1]⟩
abbrev S128x2048 : Shape := ⟨2, ![128, 2048]⟩
abbrev S1x64x128 : Shape := ⟨3, ![1, 64, 128]⟩
abbrev S64x128 : Shape := ⟨2, ![64, 128]⟩
abbrev S64x256 : Shape := ⟨2, ![64, 256]⟩
abbrev S1x64x256 : Shape := ⟨3, ![1, 64, 256]⟩

abbrev nBuf : Space → Nat
  | .hbm => 46
  | .vmem => 32
  | .smem => 0
  | _ => 0

abbrev bufTy : (tb : Table) → Fin (tcTables nBuf tb) → BufTy
  | .hbm, ⟨0, _⟩ => ⟨S16x2048x1792, .bf16⟩
  | .hbm, ⟨1, _⟩ => ⟨S16x2048x1792, .f32⟩
  | .hbm, ⟨2, _⟩ => ⟨S128, .f32⟩
  | .hbm, ⟨3, _⟩ => ⟨S8x128x64, .f32⟩
  | .hbm, ⟨4, _⟩ => ⟨S8x128x64, .f32⟩
  | .hbm, ⟨5, _⟩ => ⟨S3x256x2048, .f32⟩
  | .hbm, ⟨6, _⟩ => ⟨S8x64x128, .f32⟩
  | .hbm, ⟨7, _⟩ => ⟨S_, .f32⟩
  | .hbm, ⟨8, _⟩ => ⟨S8x64x128, .f32⟩
  | .hbm, ⟨9, _⟩ => ⟨S8, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i1⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S_, .i32⟩
  | .hbm, ⟨25, _⟩ => ⟨S_, .i1⟩
  | .hbm, ⟨26, _⟩ => ⟨S8, .i1⟩
  | .hbm, ⟨27, _⟩ => ⟨S8, .i1⟩
  | .hbm, ⟨28, _⟩ => ⟨S8, .i1⟩
  | .hbm, ⟨29, _⟩ => ⟨S8, .i32⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S8, .i32⟩
  | .hbm, ⟨34, _⟩ => ⟨S8, .i1⟩
  | .hbm, ⟨35, _⟩ => ⟨S8x1x1, .i1⟩
  | .hbm, ⟨36, _⟩ => ⟨S8x64x128, .i1⟩
  | .hbm, ⟨37, _⟩ => ⟨S8x64x128, .f32⟩
  | .hbm, ⟨38, _⟩ => ⟨S8x64x128, .i1⟩
  | .hbm, ⟨39, _⟩ => ⟨S8x64x128, .f32⟩
  | .hbm, ⟨40, _⟩ => ⟨S8x128x128, .f32⟩
  | .hbm, ⟨41, _⟩ => ⟨S1x128, .f32⟩
  | .hbm, ⟨42, _⟩ => ⟨S8x128x128, .bf16⟩
  | .hbm, ⟨43, _⟩ => ⟨S8x64x128, .f32⟩
  | .hbm, ⟨44, _⟩ => ⟨S8x64x128, .bf16⟩
  | .hbm, ⟨45, _⟩ => ⟨S16x512x2048, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x128, .f32⟩
  | .local _ .vmem, ⟨5, _⟩ => ⟨S1x256x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x128, .f32⟩
  | .local _ .vmem, ⟨13, _⟩ => ⟨S8x128x128, .bf16⟩
  | .local _ .vmem, ⟨14, _⟩ => ⟨S8x64x128, .bf16⟩
  | .local _ .vmem, ⟨15, _⟩ => ⟨S3x256x2048, .f32⟩
  | .local _ .vmem, ⟨16, _⟩ => ⟨S1x512x256, .bf16⟩
  | .local _ .vmem, ⟨17, _⟩ => ⟨S1x512x256, .bf16⟩
  | .local _ .vmem, ⟨18, _⟩ => ⟨S2048x128, .bf16⟩
  | .local _ .vmem, ⟨19, _⟩ => ⟨S8x144x256, .bf16⟩
  | .local _ .vmem, ⟨20, _⟩ => ⟨S8x256x256, .i32⟩
  | .local _ .vmem, ⟨21, _⟩ => ⟨S8x256x256, .i16⟩
  | .local _ .vmem, ⟨22, _⟩ => ⟨S8x256x2048, .f32⟩
  | .local _ .vmem, ⟨23, _⟩ => ⟨S144x2048, .f32⟩
  | .local _ .vmem, ⟨24, _⟩ => ⟨S512x1024, .f32⟩
  | .local _ .vmem, ⟨25, _⟩ => ⟨S512x1024, .f32⟩
  | .local _ .vmem, ⟨26, _⟩ => ⟨S256x256, .f32⟩
  | .local _ .vmem, ⟨27, _⟩ => ⟨S256x256, .f32⟩
  | .local _ .vmem, ⟨28, _⟩ => ⟨S256x2048, .bf16⟩
  | .local _ .vmem, ⟨29, _⟩ => ⟨S256x2048, .bf16⟩
  | .local _ .vmem, ⟨30, _⟩ => ⟨S8x8x2048, .f32⟩
  | .local _ .vmem, ⟨31, _⟩ => ⟨S8x8x256, .f32⟩
  | _, _ => ⟨S16x2048x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v3 : Ref sig .tc := ⟨.hbm, 31, rfl⟩
abbrev main_c_0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_call1_v0 : Ref sig .tc := ⟨.hbm, 36, rfl⟩
abbrev main_v7 : Ref sig .tc := ⟨.hbm, 37, rfl⟩
abbrev main_call2_v0 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_scratch10 : Ref sig .tc := ⟨.vmem, 28, rfl⟩
abbrev cc0_scratch11 : Ref sig .tc := ⟨.vmem, 29, rfl⟩
abbrev cc0_scratch12 : Ref sig .tc := ⟨.vmem, 30, rfl⟩
abbrev cc0_scratch13 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [BitOps F]

abbrev grid0 : Pipeline.Grid := ⟨2, ![16, 8], ![false, false]⟩

def k0_mult1 : BitVec 32 :=
  let c0_i32_39 : BitVec 32 := 0#32
  c0_i32_39
def k0_off1 (i : grid0.Coords) : Fin 3 → Nat :=
  let arg1 : BitVec 32 := BitVec.ofNat 32 (i 1).val
  let c0_i32_49 : BitVec 32 := 0#32
  let v81 : BitVec 32 := Scalar.subi arg1 c0_i32_49
  let c2_i32 : BitVec 32 := 2#32
  let v82 : BitVec 32 := Scalar.minsi v81 c2_i32
  let v83 : Index := Scalar.indexCast v82
  let c0_50 : Index := 0#32
  let c0_51 : Index := 0#32
  ![v83.toNat, 0, 0]
@[reducible] def k0_t1_loop (i : grid0.Coords) : Scf.Loop 32 :=
  let c0_i32_61 : BitVec 32 := 0#32
  let arg1 : BitVec 32 := BitVec.ofNat 32 (i 1).val
  let c1_i32 : BitVec 32 := 1#32
  let v0 : BitVec 32 := Scalar.addi arg1 c1_i32
  let c1_i32_59 : BitVec 32 := 1#32
  let v95 : BitVec 32 := Scalar.shrui v0 c1_i32_59
  let v96 : BitVec 32 := Scalar.subi v95 c0_i32_61
  let c1_i32_62 : BitVec 32 := 1#32
  let v98 : BitVec 32 := Scalar.divsi v96 c1_i32_62
  let v99 : BitVec 32 := Scalar.muli v98 c1_i32_62
  let v100 : BitVec 32 := Scalar.addi c0_i32_61 v99
  let c1_i32_63 : BitVec 32 := 1#32
  ⟨c0_i32_61, v100, c1_i32_63⟩
def k0_mult2 (i : grid0.Coords) (k0_t1 : Fin (k0_t1_loop i).trips) : BitVec 32 :=
  let c2_i32_205 : BitVec 32 := 2#32
  let c0_i32_61 : BitVec 32 := 0#32
  let c1_i32_63 : BitVec 32 := 1#32
  let arg27 : BitVec 32 := Scf.iv c0_i32_61 c1_i32_63 k0_t1
  let v349 : BitVec 32 := Scalar.muli c2_i32_205 arg27
  let c1_i32_206 : BitVec 32 := 1#32
  let v350 : BitVec 32 := Scalar.addi v349 c1_i32_206
  let c256_i32 : BitVec 32 := 256#32
  let v351 : BitVec 32 := Scalar.muli v350 c256_i32
  v351
def k0_off2 (i : grid0.Coords) (k0_t1 : Fin (k0_t1_loop i).trips) : Fin 3 → Nat :=
  let c0_207 : Index := 0#32
  let c2_i32_205 : BitVec 32 := 2#32
  let c0_i32_61 : BitVec 32 := 0#32
  let c1_i32_63 : BitVec 32 := 1#32
  let arg27 : BitVec 32 := Scf.iv c0_i32_61 c1_i32_63 k0_t1
  let v349 : BitVec 32 := Scalar.muli c2_i32_205 arg27
  let c1_i32_206 : BitVec 32 := 1#32
  let v350 : BitVec 32 := Scalar.addi v349 c1_i32_206
  let c256_i32 : BitVec 32 := 256#32
  let v351 : BitVec 32 := Scalar.muli v350 c256_i32
  let v352 : BitVec 32 := v351
  let v353 : Index := Scalar.indexCast v352
  let c0_208 : Index := 0#32
  ![0, v353.toNat, 0]
def k0_off3 (i : grid0.Coords) (k0_t1 : Fin (k0_t1_loop i).trips) : Fin 2 → Nat :=
  let c2_i32_205 : BitVec 32 := 2#32
  let c0_i32_61 : BitVec 32 := 0#32
  let c1_i32_63 : BitVec 32 := 1#32
  let arg27 : BitVec 32 := Scf.iv c0_i32_61 c1_i32_63 k0_t1
  let v349 : BitVec 32 := Scalar.muli c2_i32_205 arg27
  let c1_i32_206 : BitVec 32 := 1#32
  let v350 : BitVec 32 := Scalar.addi v349 c1_i32_206
  let c256_i32 : BitVec 32 := 256#32
  let v351 : BitVec 32 := Scalar.muli v350 c256_i32
  let v352 : BitVec 32 := v351
  let v364 : Index := Scalar.indexCast v352
  let c0_214 : Index := 0#32
  ![v364.toNat, 0]
def k0_off4 (i : grid0.Coords) (k0_t1 : Fin (k0_t1_loop i).trips) : Fin 3 → Nat :=
  let arg1 : BitVec 32 := BitVec.ofNat 32 (i 1).val
  let c2_i32_205 : BitVec 32 := 2#32
  let c0_i32_61 : BitVec 32 := 0#32
  let c1_i32_63 : BitVec 32 := 1#32
  let arg27 : BitVec 32 := Scf.iv c0_i32_61 c1_i32_63 k0_t1
  let v349 : BitVec 32 := Scalar.muli c2_i32_205 arg27
  let c1_i32_206 : BitVec 32 := 1#32
  let v350 : BitVec 32 := Scalar.addi v349 c1_i32_206
  let v367 : BitVec 32 := Scalar.subi arg1 v350
  let c2_i32_216 : BitVec 32 := 2#32
  let v368 : BitVec 32 := Scalar.minsi v367 c2_i32_216
  let v369 : Index := Scalar.indexCast v368
  let c0_217 : Index := 0#32
  let c0_218 : Index := 0#32
  ![v369.toNat, 0, 0]
def k0_off5 (i : grid0.Coords) (k0_t1 : Fin (k0_t1_loop i).trips) : Fin 3 → Nat :=
  let c2_i32_205 : BitVec 32 := 2#32
  let c0_i32_61 : BitVec 32 := 0#32
  let c1_i32_63 : BitVec 32 := 1#32
  let arg27 : BitVec 32 := Scf.iv c0_i32_61 c1_i32_63 k0_t1
  let v349 : BitVec 32 := Scalar.muli c2_i32_205 arg27
  let c1_i32_206 : BitVec 32 := 1#32
  let v350 : BitVec 32 := Scalar.addi v349 c1_i32_206
  let v373 : Index := Scalar.indexCast v350
  let c0_219 : Index := 0#32
  let c0_220 : Index := 0#32
  ![v373.toNat, 0, 0]
def k0_off6 (i : grid0.Coords) (k0_t1 : Fin (k0_t1_loop i).trips) : Fin 3 → Nat :=
  let c2_i32_205 : BitVec 32 := 2#32
  let c0_i32_61 : BitVec 32 := 0#32
  let c1_i32_63 : BitVec 32 := 1#32
  let arg27 : BitVec 32 := Scf.iv c0_i32_61 c1_i32_63 k0_t1
  let v349 : BitVec 32 := Scalar.muli c2_i32_205 arg27
  let c1_i32_206 : BitVec 32 := 1#32
  let v350 : BitVec 32 := Scalar.addi v349 c1_i32_206
  let v379 : Index := Scalar.indexCast v350
  let c0_222 : Index := 0#32
  let c0_223 : Index := 0#32
  ![v379.toNat, 0, 0]
def k0_off7 (i : grid0.Coords) (k0_t1 : Fin (k0_t1_loop i).trips) : Fin 3 → Nat :=
  let c2_i32_205 : BitVec 32 := 2#32
  let c0_i32_61 : BitVec 32 := 0#32
  let c1_i32_63 : BitVec 32 := 1#32
  let arg27 : BitVec 32 := Scf.iv c0_i32_61 c1_i32_63 k0_t1
  let v349 : BitVec 32 := Scalar.muli c2_i32_205 arg27
  let v458 : Index := Scalar.indexCast v349
  let c0_255 : Index := 0#32
  let c0_256 : Index := 0#32
  ![v458.toNat, 0, 0]
def k0_mult3 (i : grid0.Coords) (k0_t1 : Fin (k0_t1_loop i).trips) : BitVec 32 :=
  let c2_i32_205 : BitVec 32 := 2#32
  let c0_i32_61 : BitVec 32 := 0#32
  let c1_i32_63 : BitVec 32 := 1#32
  let arg27 : BitVec 32 := Scf.iv c0_i32_61 c1_i32_63 k0_t1
  let v349 : BitVec 32 := Scalar.muli c2_i32_205 arg27
  let c2_i32_259 : BitVec 32 := 2#32
  let v469 : BitVec 32 := Scalar.addi v349 c2_i32_259
  let arg1 : BitVec 32 := BitVec.ofNat 32 (i 1).val
  let v470 : BitVec 32 := Scalar.minsi v469 arg1
  let c256_i32_260 : BitVec 32 := 256#32
  let v471 : BitVec 32 := Scalar.muli v470 c256_i32_260
  v471
def k0_off8 (i : grid0.Coords) (k0_t1 : Fin (k0_t1_loop i).trips) : Fin 3 → Nat :=
  let c0_261 : Index := 0#32
  let c2_i32_205 : BitVec 32 := 2#32
  let c0_i32_61 : BitVec 32 := 0#32
  let c1_i32_63 : BitVec 32 := 1#32
  let arg27 : BitVec 32 := Scf.iv c0_i32_61 c1_i32_63 k0_t1
  let v349 : BitVec 32 := Scalar.muli c2_i32_205 arg27
  let c2_i32_259 : BitVec 32 := 2#32
  let v469 : BitVec 32 := Scalar.addi v349 c2_i32_259
  let arg1 : BitVec 32 := BitVec.ofNat 32 (i 1).val
  let v470 : BitVec 32 := Scalar.minsi v469 arg1
  let c256_i32_260 : BitVec 32 := 256#32
  let v471 : BitVec 32 := Scalar.muli v470 c256_i32_260
  let v472 : BitVec 32 := v471
  let v473 : Index := Scalar.indexCast v472
  let c0_262 : Index := 0#32
  ![0, v473.toNat, 0]
def k0_off9 (i : grid0.Coords) (k0_t1 : Fin (k0_t1_loop i).trips) : Fin 2 → Nat :=
  let c2_i32_205 : BitVec 32 := 2#32
  let c0_i32_61 : BitVec 32 := 0#32
  let c1_i32_63 : BitVec 32 := 1#32
  let arg27 : BitVec 32 := Scf.iv c0_i32_61 c1_i32_63 k0_t1
  let v349 : BitVec 32 := Scalar.muli c2_i32_205 arg27
  let c2_i32_259 : BitVec 32 := 2#32
  let v469 : BitVec 32 := Scalar.addi v349 c2_i32_259
  let arg1 : BitVec 32 := BitVec.ofNat 32 (i 1).val
  let v470 : BitVec 32 := Scalar.minsi v469 arg1
  let c256_i32_260 : BitVec 32 := 256#32
  let v471 : BitVec 32 := Scalar.muli v470 c256_i32_260
  let v472 : BitVec 32 := v471
  let v484 : Index := Scalar.indexCast v472
  let c0_268 : Index := 0#32
  ![v484.toNat, 0]
def k0_off10 (i : grid0.Coords) (k0_t1 : Fin (k0_t1_loop i).trips) : Fin 3 → Nat :=
  let arg1 : BitVec 32 := BitVec.ofNat 32 (i 1).val
  let c2_i32_205 : BitVec 32 := 2#32
  let c0_i32_61 : BitVec 32 := 0#32
  let c1_i32_63 : BitVec 32 := 1#32
  let arg27 : BitVec 32 := Scf.iv c0_i32_61 c1_i32_63 k0_t1
  let v349 : BitVec 32 := Scalar.muli c2_i32_205 arg27
  let c2_i32_259 : BitVec 32 := 2#32
  let v469 : BitVec 32 := Scalar.addi v349 c2_i32_259
  let v470 : BitVec 32 := Scalar.minsi v469 arg1
  let v487 : BitVec 32 := Scalar.subi arg1 v470
  let c2_i32_270 : BitVec 32 := 2#32
  let v488 : BitVec 32 := Scalar.minsi v487 c2_i32_270
  let v489 : Index := Scalar.indexCast v488
  let c0_271 : Index := 0#32
  let c0_272 : Index := 0#32
  ![v489.toNat, 0, 0]
def k0_off11 (i : grid0.Coords) (k0_t1 : Fin (k0_t1_loop i).trips) : Fin 3 → Nat :=
  let c2_i32_205 : BitVec 32 := 2#32
  let c0_i32_61 : BitVec 32 := 0#32
  let c1_i32_63 : BitVec 32 := 1#32
  let arg27 : BitVec 32 := Scf.iv c0_i32_61 c1_i32_63 k0_t1
  let v349 : BitVec 32 := Scalar.muli c2_i32_205 arg27
  let c2_i32_259 : BitVec 32 := 2#32
  let v469 : BitVec 32 := Scalar.addi v349 c2_i32_259
  let arg1 : BitVec 32 := BitVec.ofNat 32 (i 1).val
  let v470 : BitVec 32 := Scalar.minsi v469 arg1
  let v493 : Index := Scalar.indexCast v470
  let c0_273 : Index := 0#32
  let c0_274 : Index := 0#32
  ![v493.toNat, 0, 0]
def k0_off12 (i : grid0.Coords) (k0_t1 : Fin (k0_t1_loop i).trips) : Fin 3 → Nat :=
  let c2_i32_205 : BitVec 32 := 2#32
  let c0_i32_61 : BitVec 32 := 0#32
  let c1_i32_63 : BitVec 32 := 1#32
  let arg27 : BitVec 32 := Scf.iv c0_i32_61 c1_i32_63 k0_t1
  let v349 : BitVec 32 := Scalar.muli c2_i32_205 arg27
  let c2_i32_259 : BitVec 32 := 2#32
  let v469 : BitVec 32 := Scalar.addi v349 c2_i32_259
  let arg1 : BitVec 32 := BitVec.ofNat 32 (i 1).val
  let v470 : BitVec 32 := Scalar.minsi v469 arg1
  let v499 : Index := Scalar.indexCast v470
  let c0_276 : Index := 0#32
  let c0_277 : Index := 0#32
  ![v499.toNat, 0, 0]
def k0_off13 (i : grid0.Coords) (k0_t1 : Fin (k0_t1_loop i).trips) : Fin 3 → Nat :=
  let c2_i32_205 : BitVec 32 := 2#32
  let c0_i32_61 : BitVec 32 := 0#32
  let c1_i32_63 : BitVec 32 := 1#32
  let arg27 : BitVec 32 := Scf.iv c0_i32_61 c1_i32_63 k0_t1
  let v349 : BitVec 32 := Scalar.muli c2_i32_205 arg27
  let c1_i32_278 : BitVec 32 := 1#32
  let v503 : BitVec 32 := Scalar.addi v349 c1_i32_278
  let v579 : Index := Scalar.indexCast v503
  let c0_312 : Index := 0#32
  let c0_313 : Index := 0#32
  ![v579.toNat, 0, 0]
@[reducible] def k0_t2_loop (i : grid0.Coords) : Scf.Loop 32 :=
  let c0_i32_61 : BitVec 32 := 0#32
  let arg1 : BitVec 32 := BitVec.ofNat 32 (i 1).val
  let c1_i32 : BitVec 32 := 1#32
  let v0 : BitVec 32 := Scalar.addi arg1 c1_i32
  let c1_i32_59 : BitVec 32 := 1#32
  let v95 : BitVec 32 := Scalar.shrui v0 c1_i32_59
  let v96 : BitVec 32 := Scalar.subi v95 c0_i32_61
  let c1_i32_62 : BitVec 32 := 1#32
  let v98 : BitVec 32 := Scalar.divsi v96 c1_i32_62
  let v99 : BitVec 32 := Scalar.muli v98 c1_i32_62
  let v100 : BitVec 32 := Scalar.addi c0_i32_61 v99
  let v97 : BitVec 32 := Scalar.addi c0_i32_61 v96
  let c1_i32_64 : BitVec 32 := 1#32
  ⟨v100, v97, c1_i32_64⟩
def k0_mult4 (i : grid0.Coords) (k0_t2 : Fin (k0_t2_loop i).trips) : BitVec 32 :=
  let c2_i32_205 : BitVec 32 := 2#32
  let c0_i32_61 : BitVec 32 := 0#32
  let arg1 : BitVec 32 := BitVec.ofNat 32 (i 1).val
  let c1_i32 : BitVec 32 := 1#32
  let v0 : BitVec 32 := Scalar.addi arg1 c1_i32
  let c1_i32_59 : BitVec 32 := 1#32
  let v95 : BitVec 32 := Scalar.shrui v0 c1_i32_59
  let v96 : BitVec 32 := Scalar.subi v95 c0_i32_61
  let c1_i32_62 : BitVec 32 := 1#32
  let v98 : BitVec 32 := Scalar.divsi v96 c1_i32_62
  let v99 : BitVec 32 := Scalar.muli v98 c1_i32_62
  let v100 : BitVec 32 := Scalar.addi c0_i32_61 v99
  let c1_i32_64 : BitVec 32 := 1#32
  let arg27 : BitVec 32 := Scf.iv v100 c1_i32_64 k0_t2
  let v349 : BitVec 32 := Scalar.muli c2_i32_205 arg27
  let c1_i32_206 : BitVec 32 := 1#32
  let v350 : BitVec 32 := Scalar.addi v349 c1_i32_206
  let c256_i32 : BitVec 32 := 256#32
  let v351 : BitVec 32 := Scalar.muli v350 c256_i32
  v351
def k0_off14 (i : grid0.Coords) (k0_t2 : Fin (k0_t2_loop i).trips) : Fin 3 → Nat :=
  let c0_207 : Index := 0#32
  let c2_i32_205 : BitVec 32 := 2#32
  let c0_i32_61 : BitVec 32 := 0#32
  let arg1 : BitVec 32 := BitVec.ofNat 32 (i 1).val
  let c1_i32 : BitVec 32 := 1#32
  let v0 : BitVec 32 := Scalar.addi arg1 c1_i32
  let c1_i32_59 : BitVec 32 := 1#32
  let v95 : BitVec 32 := Scalar.shrui v0 c1_i32_59
  let v96 : BitVec 32 := Scalar.subi v95 c0_i32_61
  let c1_i32_62 : BitVec 32 := 1#32
  let v98 : BitVec 32 := Scalar.divsi v96 c1_i32_62
  let v99 : BitVec 32 := Scalar.muli v98 c1_i32_62
  let v100 : BitVec 32 := Scalar.addi c0_i32_61 v99
  let c1_i32_64 : BitVec 32 := 1#32
  let arg27 : BitVec 32 := Scf.iv v100 c1_i32_64 k0_t2
  let v349 : BitVec 32 := Scalar.muli c2_i32_205 arg27
  let c1_i32_206 : BitVec 32 := 1#32
  let v350 : BitVec 32 := Scalar.addi v349 c1_i32_206
  let c256_i32 : BitVec 32 := 256#32
  let v351 : BitVec 32 := Scalar.muli v350 c256_i32
  let v352 : BitVec 32 := v351
  let v353 : Index := Scalar.indexCast v352
  let c0_208 : Index := 0#32
  ![0, v353.toNat, 0]
def k0_off15 (i : grid0.Coords) (k0_t2 : Fin (k0_t2_loop i).trips) : Fin 2 → Nat :=
  let c2_i32_205 : BitVec 32 := 2#32
  let c0_i32_61 : BitVec 32 := 0#32
  let arg1 : BitVec 32 := BitVec.ofNat 32 (i 1).val
  let c1_i32 : BitVec 32 := 1#32
  let v0 : BitVec 32 := Scalar.addi arg1 c1_i32
  let c1_i32_59 : BitVec 32 := 1#32
  let v95 : BitVec 32 := Scalar.shrui v0 c1_i32_59
  let v96 : BitVec 32 := Scalar.subi v95 c0_i32_61
  let c1_i32_62 : BitVec 32 := 1#32
  let v98 : BitVec 32 := Scalar.divsi v96 c1_i32_62
  let v99 : BitVec 32 := Scalar.muli v98 c1_i32_62
  let v100 : BitVec 32 := Scalar.addi c0_i32_61 v99
  let c1_i32_64 : BitVec 32 := 1#32
  let arg27 : BitVec 32 := Scf.iv v100 c1_i32_64 k0_t2
  let v349 : BitVec 32 := Scalar.muli c2_i32_205 arg27
  let c1_i32_206 : BitVec 32 := 1#32
  let v350 : BitVec 32 := Scalar.addi v349 c1_i32_206
  let c256_i32 : BitVec 32 := 256#32
  let v351 : BitVec 32 := Scalar.muli v350 c256_i32
  let v352 : BitVec 32 := v351
  let v364 : Index := Scalar.indexCast v352
  let c0_214 : Index := 0#32
  ![v364.toNat, 0]
def k0_off16 (i : grid0.Coords) (k0_t2 : Fin (k0_t2_loop i).trips) : Fin 3 → Nat :=
  let arg1 : BitVec 32 := BitVec.ofNat 32 (i 1).val
  let c2_i32_205 : BitVec 32 := 2#32
  let c0_i32_61 : BitVec 32 := 0#32
  let c1_i32 : BitVec 32 := 1#32
  let v0 : BitVec 32 := Scalar.addi arg1 c1_i32
  let c1_i32_59 : BitVec 32 := 1#32
  let v95 : BitVec 32 := Scalar.shrui v0 c1_i32_59
  let v96 : BitVec 32 := Scalar.subi v95 c0_i32_61
  let c1_i32_62 : BitVec 32 := 1#32
  let v98 : BitVec 32 := Scalar.divsi v96 c1_i32_62
  let v99 : BitVec 32 := Scalar.muli v98 c1_i32_62
  let v100 : BitVec 32 := Scalar.addi c0_i32_61 v99
  let c1_i32_64 : BitVec 32 := 1#32
  let arg27 : BitVec 32 := Scf.iv v100 c1_i32_64 k0_t2
  let v349 : BitVec 32 := Scalar.muli c2_i32_205 arg27
  let c1_i32_206 : BitVec 32 := 1#32
  let v350 : BitVec 32 := Scalar.addi v349 c1_i32_206
  let v367 : BitVec 32 := Scalar.subi arg1 v350
  let c2_i32_216 : BitVec 32 := 2#32
  let v368 : BitVec 32 := Scalar.minsi v367 c2_i32_216
  let v369 : Index := Scalar.indexCast v368
  let c0_217 : Index := 0#32
  let c0_218 : Index := 0#32
  ![v369.toNat, 0, 0]
def k0_off17 (i : grid0.Coords) (k0_t2 : Fin (k0_t2_loop i).trips) : Fin 3 → Nat :=
  let c2_i32_205 : BitVec 32 := 2#32
  let c0_i32_61 : BitVec 32 := 0#32
  let arg1 : BitVec 32 := BitVec.ofNat 32 (i 1).val
  let c1_i32 : BitVec 32 := 1#32
  let v0 : BitVec 32 := Scalar.addi arg1 c1_i32
  let c1_i32_59 : BitVec 32 := 1#32
  let v95 : BitVec 32 := Scalar.shrui v0 c1_i32_59
  let v96 : BitVec 32 := Scalar.subi v95 c0_i32_61
  let c1_i32_62 : BitVec 32 := 1#32
  let v98 : BitVec 32 := Scalar.divsi v96 c1_i32_62
  let v99 : BitVec 32 := Scalar.muli v98 c1_i32_62
  let v100 : BitVec 32 := Scalar.addi c0_i32_61 v99
  let c1_i32_64 : BitVec 32 := 1#32
  let arg27 : BitVec 32 := Scf.iv v100 c1_i32_64 k0_t2
  let v349 : BitVec 32 := Scalar.muli c2_i32_205 arg27
  let c1_i32_206 : BitVec 32 := 1#32
  let v350 : BitVec 32 := Scalar.addi v349 c1_i32_206
  let v373 : Index := Scalar.indexCast v350
  let c0_219 : Index := 0#32
  let c0_220 : Index := 0#32
  ![v373.toNat, 0, 0]
def k0_off18 (i : grid0.Coords) (k0_t2 : Fin (k0_t2_loop i).trips) : Fin 3 → Nat :=
  let c2_i32_205 : BitVec 32 := 2#32
  let c0_i32_61 : BitVec 32 := 0#32
  let arg1 : BitVec 32 := BitVec.ofNat 32 (i 1).val
  let c1_i32 : BitVec 32 := 1#32
  let v0 : BitVec 32 := Scalar.addi arg1 c1_i32
  let c1_i32_59 : BitVec 32 := 1#32
  let v95 : BitVec 32 := Scalar.shrui v0 c1_i32_59
  let v96 : BitVec 32 := Scalar.subi v95 c0_i32_61
  let c1_i32_62 : BitVec 32 := 1#32
  let v98 : BitVec 32 := Scalar.divsi v96 c1_i32_62
  let v99 : BitVec 32 := Scalar.muli v98 c1_i32_62
  let v100 : BitVec 32 := Scalar.addi c0_i32_61 v99
  let c1_i32_64 : BitVec 32 := 1#32
  let arg27 : BitVec 32 := Scf.iv v100 c1_i32_64 k0_t2
  let v349 : BitVec 32 := Scalar.muli c2_i32_205 arg27
  let c1_i32_206 : BitVec 32 := 1#32
  let v350 : BitVec 32 := Scalar.addi v349 c1_i32_206
  let v379 : Index := Scalar.indexCast v350
  let c0_222 : Index := 0#32
  let c0_223 : Index := 0#32
  ![v379.toNat, 0, 0]
def k0_off19 (i : grid0.Coords) (k0_t2 : Fin (k0_t2_loop i).trips) : Fin 3 → Nat :=
  let c2_i32_205 : BitVec 32 := 2#32
  let c0_i32_61 : BitVec 32 := 0#32
  let arg1 : BitVec 32 := BitVec.ofNat 32 (i 1).val
  let c1_i32 : BitVec 32 := 1#32
  let v0 : BitVec 32 := Scalar.addi arg1 c1_i32
  let c1_i32_59 : BitVec 32 := 1#32
  let v95 : BitVec 32 := Scalar.shrui v0 c1_i32_59
  let v96 : BitVec 32 := Scalar.subi v95 c0_i32_61
  let c1_i32_62 : BitVec 32 := 1#32
  let v98 : BitVec 32 := Scalar.divsi v96 c1_i32_62
  let v99 : BitVec 32 := Scalar.muli v98 c1_i32_62
  let v100 : BitVec 32 := Scalar.addi c0_i32_61 v99
  let c1_i32_64 : BitVec 32 := 1#32
  let arg27 : BitVec 32 := Scf.iv v100 c1_i32_64 k0_t2
  let v349 : BitVec 32 := Scalar.muli c2_i32_205 arg27
  let v458 : Index := Scalar.indexCast v349
  let c0_255 : Index := 0#32
  let c0_256 : Index := 0#32
  ![v458.toNat, 0, 0]
def k0_mult5 (i : grid0.Coords) (k0_t2 : Fin (k0_t2_loop i).trips) : BitVec 32 :=
  let c2_i32_205 : BitVec 32 := 2#32
  let c0_i32_61 : BitVec 32 := 0#32
  let arg1 : BitVec 32 := BitVec.ofNat 32 (i 1).val
  let c1_i32 : BitVec 32 := 1#32
  let v0 : BitVec 32 := Scalar.addi arg1 c1_i32
  let c1_i32_59 : BitVec 32 := 1#32
  let v95 : BitVec 32 := Scalar.shrui v0 c1_i32_59
  let v96 : BitVec 32 := Scalar.subi v95 c0_i32_61
  let c1_i32_62 : BitVec 32 := 1#32
  let v98 : BitVec 32 := Scalar.divsi v96 c1_i32_62
  let v99 : BitVec 32 := Scalar.muli v98 c1_i32_62
  let v100 : BitVec 32 := Scalar.addi c0_i32_61 v99
  let c1_i32_64 : BitVec 32 := 1#32
  let arg27 : BitVec 32 := Scf.iv v100 c1_i32_64 k0_t2
  let v349 : BitVec 32 := Scalar.muli c2_i32_205 arg27
  let c2_i32_259 : BitVec 32 := 2#32
  let v469 : BitVec 32 := Scalar.addi v349 c2_i32_259
  let v470 : BitVec 32 := Scalar.minsi v469 arg1
  let c256_i32_260 : BitVec 32 := 256#32
  let v471 : BitVec 32 := Scalar.muli v470 c256_i32_260
  v471
def k0_off20 (i : grid0.Coords) (k0_t2 : Fin (k0_t2_loop i).trips) : Fin 3 → Nat :=
  let c0_261 : Index := 0#32
  let c2_i32_205 : BitVec 32 := 2#32
  let c0_i32_61 : BitVec 32 := 0#32
  let arg1 : BitVec 32 := BitVec.ofNat 32 (i 1).val
  let c1_i32 : BitVec 32 := 1#32
  let v0 : BitVec 32 := Scalar.addi arg1 c1_i32
  let c1_i32_59 : BitVec 32 := 1#32
  let v95 : BitVec 32 := Scalar.shrui v0 c1_i32_59
  let v96 : BitVec 32 := Scalar.subi v95 c0_i32_61
  let c1_i32_62 : BitVec 32 := 1#32
  let v98 : BitVec 32 := Scalar.divsi v96 c1_i32_62
  let v99 : BitVec 32 := Scalar.muli v98 c1_i32_62
  let v100 : BitVec 32 := Scalar.addi c0_i32_61 v99
  let c1_i32_64 : BitVec 32 := 1#32
  let arg27 : BitVec 32 := Scf.iv v100 c1_i32_64 k0_t2
  let v349 : BitVec 32 := Scalar.muli c2_i32_205 arg27
  let c2_i32_259 : BitVec 32 := 2#32
  let v469 : BitVec 32 := Scalar.addi v349 c2_i32_259
  let v470 : BitVec 32 := Scalar.minsi v469 arg1
  let c256_i32_260 : BitVec 32 := 256#32
  let v471 : BitVec 32 := Scalar.muli v470 c256_i32_260
  let v472 : BitVec 32 := v471
  let v473 : Index := Scalar.indexCast v472
  let c0_262 : Index := 0#32
  ![0, v473.toNat, 0]
def k0_off21 (i : grid0.Coords) (k0_t2 : Fin (k0_t2_loop i).trips) : Fin 2 → Nat :=
  let c2_i32_205 : BitVec 32 := 2#32
  let c0_i32_61 : BitVec 32 := 0#32
  let arg1 : BitVec 32 := BitVec.ofNat 32 (i 1).val
  let c1_i32 : BitVec 32 := 1#32
  let v0 : BitVec 32 := Scalar.addi arg1 c1_i32
  let c1_i32_59 : BitVec 32 := 1#32
  let v95 : BitVec 32 := Scalar.shrui v0 c1_i32_59
  let v96 : BitVec 32 := Scalar.subi v95 c0_i32_61
  let c1_i32_62 : BitVec 32 := 1#32
  let v98 : BitVec 32 := Scalar.divsi v96 c1_i32_62
  let v99 : BitVec 32 := Scalar.muli v98 c1_i32_62
  let v100 : BitVec 32 := Scalar.addi c0_i32_61 v99
  let c1_i32_64 : BitVec 32 := 1#32
  let arg27 : BitVec 32 := Scf.iv v100 c1_i32_64 k0_t2
  let v349 : BitVec 32 := Scalar.muli c2_i32_205 arg27
  let c2_i32_259 : BitVec 32 := 2#32
  let v469 : BitVec 32 := Scalar.addi v349 c2_i32_259
  let v470 : BitVec 32 := Scalar.minsi v469 arg1
  let c256_i32_260 : BitVec 32 := 256#32
  let v471 : BitVec 32 := Scalar.muli v470 c256_i32_260
  let v472 : BitVec 32 := v471
  let v484 : Index := Scalar.indexCast v472
  let c0_268 : Index := 0#32
  ![v484.toNat, 0]
def k0_off22 (i : grid0.Coords) (k0_t2 : Fin (k0_t2_loop i).trips) : Fin 3 → Nat :=
  let arg1 : BitVec 32 := BitVec.ofNat 32 (i 1).val
  let c2_i32_205 : BitVec 32 := 2#32
  let c0_i32_61 : BitVec 32 := 0#32
  let c1_i32 : BitVec 32 := 1#32
  let v0 : BitVec 32 := Scalar.addi arg1 c1_i32
  let c1_i32_59 : BitVec 32 := 1#32
  let v95 : BitVec 32 := Scalar.shrui v0 c1_i32_59
  let v96 : BitVec 32 := Scalar.subi v95 c0_i32_61
  let c1_i32_62 : BitVec 32 := 1#32
  let v98 : BitVec 32 := Scalar.divsi v96 c1_i32_62
  let v99 : BitVec 32 := Scalar.muli v98 c1_i32_62
  let v100 : BitVec 32 := Scalar.addi c0_i32_61 v99
  let c1_i32_64 : BitVec 32 := 1#32
  let arg27 : BitVec 32 := Scf.iv v100 c1_i32_64 k0_t2
  let v349 : BitVec 32 := Scalar.muli c2_i32_205 arg27
  let c2_i32_259 : BitVec 32 := 2#32
  let v469 : BitVec 32 := Scalar.addi v349 c2_i32_259
  let v470 : BitVec 32 := Scalar.minsi v469 arg1
  let v487 : BitVec 32 := Scalar.subi arg1 v470
  let c2_i32_270 : BitVec 32 := 2#32
  let v488 : BitVec 32 := Scalar.minsi v487 c2_i32_270
  let v489 : Index := Scalar.indexCast v488
  let c0_271 : Index := 0#32
  let c0_272 : Index := 0#32
  ![v489.toNat, 0, 0]
def k0_off23 (i : grid0.Coords) (k0_t2 : Fin (k0_t2_loop i).trips) : Fin 3 → Nat :=
  let c2_i32_205 : BitVec 32 := 2#32
  let c0_i32_61 : BitVec 32 := 0#32
  let arg1 : BitVec 32 := BitVec.ofNat 32 (i 1).val
  let c1_i32 : BitVec 32 := 1#32
  let v0 : BitVec 32 := Scalar.addi arg1 c1_i32
  let c1_i32_59 : BitVec 32 := 1#32
  let v95 : BitVec 32 := Scalar.shrui v0 c1_i32_59
  let v96 : BitVec 32 := Scalar.subi v95 c0_i32_61
  let c1_i32_62 : BitVec 32 := 1#32
  let v98 : BitVec 32 := Scalar.divsi v96 c1_i32_62
  let v99 : BitVec 32 := Scalar.muli v98 c1_i32_62
  let v100 : BitVec 32 := Scalar.addi c0_i32_61 v99
  let c1_i32_64 : BitVec 32 := 1#32
  let arg27 : BitVec 32 := Scf.iv v100 c1_i32_64 k0_t2
  let v349 : BitVec 32 := Scalar.muli c2_i32_205 arg27
  let c2_i32_259 : BitVec 32 := 2#32
  let v469 : BitVec 32 := Scalar.addi v349 c2_i32_259
  let v470 : BitVec 32 := Scalar.minsi v469 arg1
  let v493 : Index := Scalar.indexCast v470
  let c0_273 : Index := 0#32
  let c0_274 : Index := 0#32
  ![v493.toNat, 0, 0]
def k0_off24 (i : grid0.Coords) (k0_t2 : Fin (k0_t2_loop i).trips) : Fin 3 → Nat :=
  let c2_i32_205 : BitVec 32 := 2#32
  let c0_i32_61 : BitVec 32 := 0#32
  let arg1 : BitVec 32 := BitVec.ofNat 32 (i 1).val
  let c1_i32 : BitVec 32 := 1#32
  let v0 : BitVec 32 := Scalar.addi arg1 c1_i32
  let c1_i32_59 : BitVec 32 := 1#32
  let v95 : BitVec 32 := Scalar.shrui v0 c1_i32_59
  let v96 : BitVec 32 := Scalar.subi v95 c0_i32_61
  let c1_i32_62 : BitVec 32 := 1#32
  let v98 : BitVec 32 := Scalar.divsi v96 c1_i32_62
  let v99 : BitVec 32 := Scalar.muli v98 c1_i32_62
  let v100 : BitVec 32 := Scalar.addi c0_i32_61 v99
  let c1_i32_64 : BitVec 32 := 1#32
  let arg27 : BitVec 32 := Scf.iv v100 c1_i32_64 k0_t2
  let v349 : BitVec 32 := Scalar.muli c2_i32_205 arg27
  let c2_i32_259 : BitVec 32 := 2#32
  let v469 : BitVec 32 := Scalar.addi v349 c2_i32_259
  let v470 : BitVec 32 := Scalar.minsi v469 arg1
  let v499 : Index := Scalar.indexCast v470
  let c0_276 : Index := 0#32
  let c0_277 : Index := 0#32
  ![v499.toNat, 0, 0]
def k0_off25 (i : grid0.Coords) (k0_t2 : Fin (k0_t2_loop i).trips) : Fin 3 → Nat :=
  let c2_i32_205 : BitVec 32 := 2#32
  let c0_i32_61 : BitVec 32 := 0#32
  let arg1 : BitVec 32 := BitVec.ofNat 32 (i 1).val
  let c1_i32 : BitVec 32 := 1#32
  let v0 : BitVec 32 := Scalar.addi arg1 c1_i32
  let c1_i32_59 : BitVec 32 := 1#32
  let v95 : BitVec 32 := Scalar.shrui v0 c1_i32_59
  let v96 : BitVec 32 := Scalar.subi v95 c0_i32_61
  let c1_i32_62 : BitVec 32 := 1#32
  let v98 : BitVec 32 := Scalar.divsi v96 c1_i32_62
  let v99 : BitVec 32 := Scalar.muli v98 c1_i32_62
  let v100 : BitVec 32 := Scalar.addi c0_i32_61 v99
  let c1_i32_64 : BitVec 32 := 1#32
  let arg27 : BitVec 32 := Scf.iv v100 c1_i32_64 k0_t2
  let v349 : BitVec 32 := Scalar.muli c2_i32_205 arg27
  let c1_i32_278 : BitVec 32 := 1#32
  let v503 : BitVec 32 := Scalar.addi v349 c1_i32_278
  let v579 : Index := Scalar.indexCast v503
  let c0_312 : Index := 0#32
  let c0_313 : Index := 0#32
  ![v579.toNat, 0, 0]
def k0_cond2 (i : grid0.Coords) : BitVec 1 :=
  let arg1 : BitVec 32 := BitVec.ofNat 32 (i 1).val
  let c1_i32 : BitVec 32 := 1#32
  let v0 : BitVec 32 := Scalar.addi arg1 c1_i32
  let c1_i32_65 : BitVec 32 := 1#32
  let v101 : BitVec 32 := Scalar.andi v0 c1_i32_65
  let c1_i32_66 : BitVec 32 := 1#32
  let v102 : BitVec 1 := Scalar.cmpi .eq v101 c1_i32_66
  let v103 : BitVec 32 := Scalar.extui v102
  let c0_i32_67 : BitVec 32 := 0#32
  let v104 : BitVec 1 := Scalar.cmpi .ne v103 c0_i32_67
  v104

def k0_off26 (i : grid0.Coords) : Fin 3 → Nat :=
  let arg1 : BitVec 32 := BitVec.ofNat 32 (i 1).val
  let v424 : Index := Scalar.indexCast arg1
  let c0_236 : Index := 0#32
  let c0_237 : Index := 0#32
  ![v424.toNat, 0, 0]
def k0_cond3 (i : grid0.Coords) : BitVec 1 :=
  let arg1 : BitVec 32 := BitVec.ofNat 32 (i 1).val
  let c1_i32 : BitVec 32 := 1#32
  let v0 : BitVec 32 := Scalar.addi arg1 c1_i32
  let c1_i32_68 : BitVec 32 := 1#32
  let v105 : BitVec 32 := Scalar.subi v0 c1_i32_68
  let c0_i32_69 : BitVec 32 := 0#32
  let v106 : BitVec 32 := Scalar.maxsi v105 c0_i32_69
  let c7_i32 : BitVec 32 := 7#32
  let v107 : BitVec 32 := Scalar.minsi v106 c7_i32
  let c0_i32_70 : BitVec 32 := 0#32
  let v108 : BitVec 1 := Scalar.cmpi .ne v107 c0_i32_70
  v108

def k0_cond4 (i : grid0.Coords) : BitVec 1 :=
  let arg1 : BitVec 32 := BitVec.ofNat 32 (i 1).val
  let c1_i32 : BitVec 32 := 1#32
  let v0 : BitVec 32 := Scalar.addi arg1 c1_i32
  let c1_i32_68 : BitVec 32 := 1#32
  let v105 : BitVec 32 := Scalar.subi v0 c1_i32_68
  let c0_i32_69 : BitVec 32 := 0#32
  let v106 : BitVec 32 := Scalar.maxsi v105 c0_i32_69
  let c7_i32 : BitVec 32 := 7#32
  let v107 : BitVec 32 := Scalar.minsi v106 c7_i32
  let c1_i32_205 : BitVec 32 := 1#32
  let v349 : BitVec 32 := Scalar.subi v107 c1_i32_205
  let c0_i32_206 : BitVec 32 := 0#32
  let v350 : BitVec 1 := Scalar.cmpi .ne v349 c0_i32_206
  v350

def k0_cond5 (i : grid0.Coords) : BitVec 1 :=
  let arg1 : BitVec 32 := BitVec.ofNat 32 (i 1).val
  let c1_i32 : BitVec 32 := 1#32
  let v0 : BitVec 32 := Scalar.addi arg1 c1_i32
  let c1_i32_68 : BitVec 32 := 1#32
  let v105 : BitVec 32 := Scalar.subi v0 c1_i32_68
  let c0_i32_69 : BitVec 32 := 0#32
  let v106 : BitVec 32 := Scalar.maxsi v105 c0_i32_69
  let c7_i32 : BitVec 32 := 7#32
  let v107 : BitVec 32 := Scalar.minsi v106 c7_i32
  let c1_i32_205 : BitVec 32 := 1#32
  let v349 : BitVec 32 := Scalar.subi v107 c1_i32_205
  let c1_i32_207 : BitVec 32 := 1#32
  let v352 : BitVec 32 := Scalar.subi v349 c1_i32_207
  let c0_i32_208 : BitVec 32 := 0#32
  let v353 : BitVec 1 := Scalar.cmpi .ne v352 c0_i32_208
  v353

def k0_cond6 (i : grid0.Coords) : BitVec 1 :=
  let arg1 : BitVec 32 := BitVec.ofNat 32 (i 1).val
  let c1_i32 : BitVec 32 := 1#32
  let v0 : BitVec 32 := Scalar.addi arg1 c1_i32
  let c1_i32_68 : BitVec 32 := 1#32
  let v105 : BitVec 32 := Scalar.subi v0 c1_i32_68
  let c0_i32_69 : BitVec 32 := 0#32
  let v106 : BitVec 32 := Scalar.maxsi v105 c0_i32_69
  let c7_i32 : BitVec 32 := 7#32
  let v107 : BitVec 32 := Scalar.minsi v106 c7_i32
  let c1_i32_205 : BitVec 32 := 1#32
  let v349 : BitVec 32 := Scalar.subi v107 c1_i32_205
  let c1_i32_207 : BitVec 32 := 1#32
  let v352 : BitVec 32 := Scalar.subi v349 c1_i32_207
  let c1_i32_209 : BitVec 32 := 1#32
  let v355 : BitVec 32 := Scalar.subi v352 c1_i32_209
  let c0_i32_210 : BitVec 32 := 0#32
  let v356 : BitVec 1 := Scalar.cmpi .ne v355 c0_i32_210
  v356

def k0_cond7 (i : grid0.Coords) : BitVec 1 :=
  let arg1 : BitVec 32 := BitVec.ofNat 32 (i 1).val
  let c1_i32 : BitVec 32 := 1#32
  let v0 : BitVec 32 := Scalar.addi arg1 c1_i32
  let c1_i32_68 : BitVec 32 := 1#32
  let v105 : BitVec 32 := Scalar.subi v0 c1_i32_68
  let c0_i32_69 : BitVec 32 := 0#32
  let v106 : BitVec 32 := Scalar.maxsi v105 c0_i32_69
  let c7_i32 : BitVec 32 := 7#32
  let v107 : BitVec 32 := Scalar.minsi v106 c7_i32
  let c1_i32_205 : BitVec 32 := 1#32
  let v349 : BitVec 32 := Scalar.subi v107 c1_i32_205
  let c1_i32_207 : BitVec 32 := 1#32
  let v352 : BitVec 32 := Scalar.subi v349 c1_i32_207
  let c1_i32_209 : BitVec 32 := 1#32
  let v355 : BitVec 32 := Scalar.subi v352 c1_i32_209
  let c1_i32_211 : BitVec 32 := 1#32
  let v358 : BitVec 32 := Scalar.subi v355 c1_i32_211
  let c0_i32_212 : BitVec 32 := 0#32
  let v359 : BitVec 1 := Scalar.cmpi .ne v358 c0_i32_212
  v359

def k0_cond8 (i : grid0.Coords) : BitVec 1 :=
  let arg1 : BitVec 32 := BitVec.ofNat 32 (i 1).val
  let c1_i32 : BitVec 32 := 1#32
  let v0 : BitVec 32 := Scalar.addi arg1 c1_i32
  let c1_i32_68 : BitVec 32 := 1#32
  let v105 : BitVec 32 := Scalar.subi v0 c1_i32_68
  let c0_i32_69 : BitVec 32 := 0#32
  let v106 : BitVec 32 := Scalar.maxsi v105 c0_i32_69
  let c7_i32 : BitVec 32 := 7#32
  let v107 : BitVec 32 := Scalar.minsi v106 c7_i32
  let c1_i32_205 : BitVec 32 := 1#32
  let v349 : BitVec 32 := Scalar.subi v107 c1_i32_205
  let c1_i32_207 : BitVec 32 := 1#32
  let v352 : BitVec 32 := Scalar.subi v349 c1_i32_207
  let c1_i32_209 : BitVec 32 := 1#32
  let v355 : BitVec 32 := Scalar.subi v352 c1_i32_209
  let c1_i32_211 : BitVec 32 := 1#32
  let v358 : BitVec 32 := Scalar.subi v355 c1_i32_211
  let c1_i32_213 : BitVec 32 := 1#32
  let v361 : BitVec 32 := Scalar.subi v358 c1_i32_213
  let c0_i32_214 : BitVec 32 := 0#32
  let v362 : BitVec 1 := Scalar.cmpi .ne v361 c0_i32_214
  v362

def k0_cond9 (i : grid0.Coords) : BitVec 1 :=
  let arg1 : BitVec 32 := BitVec.ofNat 32 (i 1).val
  let c1_i32 : BitVec 32 := 1#32
  let v0 : BitVec 32 := Scalar.addi arg1 c1_i32
  let c1_i32_68 : BitVec 32 := 1#32
  let v105 : BitVec 32 := Scalar.subi v0 c1_i32_68
  let c0_i32_69 : BitVec 32 := 0#32
  let v106 : BitVec 32 := Scalar.maxsi v105 c0_i32_69
  let c7_i32 : BitVec 32 := 7#32
  let v107 : BitVec 32 := Scalar.minsi v106 c7_i32
  let c1_i32_205 : BitVec 32 := 1#32
  let v349 : BitVec 32 := Scalar.subi v107 c1_i32_205
  let c1_i32_207 : BitVec 32 := 1#32
  let v352 : BitVec 32 := Scalar.subi v349 c1_i32_207
  let c1_i32_209 : BitVec 32 := 1#32
  let v355 : BitVec 32 := Scalar.subi v352 c1_i32_209
  let c1_i32_211 : BitVec 32 := 1#32
  let v358 : BitVec 32 := Scalar.subi v355 c1_i32_211
  let c1_i32_213 : BitVec 32 := 1#32
  let v361 : BitVec 32 := Scalar.subi v358 c1_i32_213
  let c1_i32_215 : BitVec 32 := 1#32
  let v364 : BitVec 32 := Scalar.subi v361 c1_i32_215
  let c0_i32_216 : BitVec 32 := 0#32
  let v365 : BitVec 1 := Scalar.cmpi .ne v364 c0_i32_216
  v365

@[reducible] def k0_t3_loop : Scf.Loop 32 :=
  let c0_i32_217 : BitVec 32 := 0#32
  let c16_i32 : BitVec 32 := 16#32
  let v368 : BitVec 32 := Scalar.addi c0_i32_217 c16_i32
  let c1_i32_218 : BitVec 32 := 1#32
  ⟨c0_i32_217, v368, c1_i32_218⟩
@[reducible] def k0_t4_loop (i : grid0.Coords) : Scf.Loop 32 :=
  let c0_i32_221 : BitVec 32 := 0#32
  let arg1 : BitVec 32 := BitVec.ofNat 32 (i 1).val
  let c1_i32 : BitVec 32 := 1#32
  let v0 : BitVec 32 := Scalar.addi arg1 c1_i32
  let v371 : BitVec 32 := Scalar.subi v0 c0_i32_221
  let c1_i32_222 : BitVec 32 := 1#32
  let v373 : BitVec 32 := Scalar.divsi v371 c1_i32_222
  let v374 : BitVec 32 := Scalar.muli v373 c1_i32_222
  let v375 : BitVec 32 := Scalar.addi c0_i32_221 v374
  let c1_i32_223 : BitVec 32 := 1#32
  ⟨c0_i32_221, v375, c1_i32_223⟩
def k0_off27 (i : grid0.Coords) (k0_t4 : Fin (k0_t4_loop i).trips) : Fin 3 → Nat :=
  let c0_i32_221 : BitVec 32 := 0#32
  let c1_i32_223 : BitVec 32 := 1#32
  let arg27 : BitVec 32 := Scf.iv c0_i32_221 c1_i32_223 k0_t4
  let v711 : Index := Scalar.indexCast arg27
  let c0_274 : Index := 0#32
  let c0_275 : Index := 0#32
  ![v711.toNat, 0, 0]
@[reducible] def k0_t5_loop (i : grid0.Coords) : Scf.Loop 32 :=
  let c0_i32_221 : BitVec 32 := 0#32
  let arg1 : BitVec 32 := BitVec.ofNat 32 (i 1).val
  let c1_i32 : BitVec 32 := 1#32
  let v0 : BitVec 32 := Scalar.addi arg1 c1_i32
  let v371 : BitVec 32 := Scalar.subi v0 c0_i32_221
  let c1_i32_222 : BitVec 32 := 1#32
  let v373 : BitVec 32 := Scalar.divsi v371 c1_i32_222
  let v374 : BitVec 32 := Scalar.muli v373 c1_i32_222
  let v375 : BitVec 32 := Scalar.addi c0_i32_221 v374
  let v372 : BitVec 32 := Scalar.addi c0_i32_221 v371
  let c1_i32_224 : BitVec 32 := 1#32
  ⟨v375, v372, c1_i32_224⟩
def k0_off28 (i : grid0.Coords) (k0_t5 : Fin (k0_t5_loop i).trips) : Fin 3 → Nat :=
  let c0_i32_221 : BitVec 32 := 0#32
  let arg1 : BitVec 32 := BitVec.ofNat 32 (i 1).val
  let c1_i32 : BitVec 32 := 1#32
  let v0 : BitVec 32 := Scalar.addi arg1 c1_i32
  let v371 : BitVec 32 := Scalar.subi v0 c0_i32_221
  let c1_i32_222 : BitVec 32 := 1#32
  let v373 : BitVec 32 := Scalar.divsi v371 c1_i32_222
  let v374 : BitVec 32 := Scalar.muli v373 c1_i32_222
  let v375 : BitVec 32 := Scalar.addi c0_i32_221 v374
  let c1_i32_224 : BitVec 32 := 1#32
  let arg27 : BitVec 32 := Scf.iv v375 c1_i32_224 k0_t5
  let v711 : Index := Scalar.indexCast arg27
  let c0_274 : Index := 0#32
  let c0_275 : Index := 0#32
  ![v711.toNat, 0, 0]
@[reducible] def k0_t6_loop : Scf.Loop 32 :=
  let c0_i32_227 : BitVec 32 := 0#32
  let c16_i32_228 : BitVec 32 := 16#32
  let v383 : BitVec 32 := Scalar.addi c0_i32_227 c16_i32_228
  let c1_i32_229 : BitVec 32 := 1#32
  ⟨c0_i32_227, v383, c1_i32_229⟩
@[reducible] def k0_t7_loop : Scf.Loop 32 :=
  let c0_i32_217 : BitVec 32 := 0#32
  let c16_i32 : BitVec 32 := 16#32
  let v368 : BitVec 32 := Scalar.addi c0_i32_217 c16_i32
  let c1_i32_218 : BitVec 32 := 1#32
  ⟨c0_i32_217, v368, c1_i32_218⟩
@[reducible] def k0_t8_loop (i : grid0.Coords) : Scf.Loop 32 :=
  let c0_i32_221 : BitVec 32 := 0#32
  let arg1 : BitVec 32 := BitVec.ofNat 32 (i 1).val
  let c1_i32 : BitVec 32 := 1#32
  let v0 : BitVec 32 := Scalar.addi arg1 c1_i32
  let v371 : BitVec 32 := Scalar.subi v0 c0_i32_221
  let c1_i32_222 : BitVec 32 := 1#32
  let v373 : BitVec 32 := Scalar.divsi v371 c1_i32_222
  let v374 : BitVec 32 := Scalar.muli v373 c1_i32_222
  let v375 : BitVec 32 := Scalar.addi c0_i32_221 v374
  let c1_i32_223 : BitVec 32 := 1#32
  ⟨c0_i32_221, v375, c1_i32_223⟩
def k0_off29 (i : grid0.Coords) (k0_t8 : Fin (k0_t8_loop i).trips) : Fin 3 → Nat :=
  let c0_i32_221 : BitVec 32 := 0#32
  let c1_i32_223 : BitVec 32 := 1#32
  let arg27 : BitVec 32 := Scf.iv c0_i32_221 c1_i32_223 k0_t8
  let v672 : Index := Scalar.indexCast arg27
  let c0_269 : Index := 0#32
  let c0_270 : Index := 0#32
  ![v672.toNat, 0, 0]
@[reducible] def k0_t9_loop (i : grid0.Coords) : Scf.Loop 32 :=
  let c0_i32_221 : BitVec 32 := 0#32
  let arg1 : BitVec 32 := BitVec.ofNat 32 (i 1).val
  let c1_i32 : BitVec 32 := 1#32
  let v0 : BitVec 32 := Scalar.addi arg1 c1_i32
  let v371 : BitVec 32 := Scalar.subi v0 c0_i32_221
  let c1_i32_222 : BitVec 32 := 1#32
  let v373 : BitVec 32 := Scalar.divsi v371 c1_i32_222
  let v374 : BitVec 32 := Scalar.muli v373 c1_i32_222
  let v375 : BitVec 32 := Scalar.addi c0_i32_221 v374
  let v372 : BitVec 32 := Scalar.addi c0_i32_221 v371
  let c1_i32_224 : BitVec 32 := 1#32
  ⟨v375, v372, c1_i32_224⟩
def k0_off30 (i : grid0.Coords) (k0_t9 : Fin (k0_t9_loop i).trips) : Fin 3 → Nat :=
  let c0_i32_221 : BitVec 32 := 0#32
  let arg1 : BitVec 32 := BitVec.ofNat 32 (i 1).val
  let c1_i32 : BitVec 32 := 1#32
  let v0 : BitVec 32 := Scalar.addi arg1 c1_i32
  let v371 : BitVec 32 := Scalar.subi v0 c0_i32_221
  let c1_i32_222 : BitVec 32 := 1#32
  let v373 : BitVec 32 := Scalar.divsi v371 c1_i32_222
  let v374 : BitVec 32 := Scalar.muli v373 c1_i32_222
  let v375 : BitVec 32 := Scalar.addi c0_i32_221 v374
  let c1_i32_224 : BitVec 32 := 1#32
  let arg27 : BitVec 32 := Scf.iv v375 c1_i32_224 k0_t9
  let v672 : Index := Scalar.indexCast arg27
  let c0_269 : Index := 0#32
  let c0_270 : Index := 0#32
  ![v672.toNat, 0, 0]
@[reducible] def k0_t10_loop : Scf.Loop 32 :=
  let c0_i32_227 : BitVec 32 := 0#32
  let c16_i32_228 : BitVec 32 := 16#32
  let v383 : BitVec 32 := Scalar.addi c0_i32_227 c16_i32_228
  let c1_i32_229 : BitVec 32 := 1#32
  ⟨c0_i32_227, v383, c1_i32_229⟩
@[reducible] def k0_t11_loop : Scf.Loop 32 :=
  let c0_i32_215 : BitVec 32 := 0#32
  let c16_i32 : BitVec 32 := 16#32
  let v365 : BitVec 32 := Scalar.addi c0_i32_215 c16_i32
  let c1_i32_216 : BitVec 32 := 1#32
  ⟨c0_i32_215, v365, c1_i32_216⟩
@[reducible] def k0_t12_loop (i : grid0.Coords) : Scf.Loop 32 :=
  let c0_i32_219 : BitVec 32 := 0#32
  let arg1 : BitVec 32 := BitVec.ofNat 32 (i 1).val
  let c1_i32 : BitVec 32 := 1#32
  let v0 : BitVec 32 := Scalar.addi arg1 c1_i32
  let v368 : BitVec 32 := Scalar.subi v0 c0_i32_219
  let c1_i32_220 : BitVec 32 := 1#32
  let v370 : BitVec 32 := Scalar.divsi v368 c1_i32_220
  let v371 : BitVec 32 := Scalar.muli v370 c1_i32_220
  let v372 : BitVec 32 := Scalar.addi c0_i32_219 v371
  let c1_i32_221 : BitVec 32 := 1#32
  ⟨c0_i32_219, v372, c1_i32_221⟩
def k0_off31 (i : grid0.Coords) (k0_t12 : Fin (k0_t12_loop i).trips) : Fin 3 → Nat :=
  let c0_i32_219 : BitVec 32 := 0#32
  let c1_i32_221 : BitVec 32 := 1#32
  let arg27 : BitVec 32 := Scf.iv c0_i32_219 c1_i32_221 k0_t12
  let v630 : Index := Scalar.indexCast arg27
  let c0_262 : Index := 0#32
  let c0_263 : Index := 0#32
  ![v630.toNat, 0, 0]
@[reducible] def k0_t13_loop (i : grid0.Coords) : Scf.Loop 32 :=
  let c0_i32_219 : BitVec 32 := 0#32
  let arg1 : BitVec 32 := BitVec.ofNat 32 (i 1).val
  let c1_i32 : BitVec 32 := 1#32
  let v0 : BitVec 32 := Scalar.addi arg1 c1_i32
  let v368 : BitVec 32 := Scalar.subi v0 c0_i32_219
  let c1_i32_220 : BitVec 32 := 1#32
  let v370 : BitVec 32 := Scalar.divsi v368 c1_i32_220
  let v371 : BitVec 32 := Scalar.muli v370 c1_i32_220
  let v372 : BitVec 32 := Scalar.addi c0_i32_219 v371
  let v369 : BitVec 32 := Scalar.addi c0_i32_219 v368
  let c1_i32_222 : BitVec 32 := 1#32
  ⟨v372, v369, c1_i32_222⟩
def k0_off32 (i : grid0.Coords) (k0_t13 : Fin (k0_t13_loop i).trips) : Fin 3 → Nat :=
  let c0_i32_219 : BitVec 32 := 0#32
  let arg1 : BitVec 32 := BitVec.ofNat 32 (i 1).val
  let c1_i32 : BitVec 32 := 1#32
  let v0 : BitVec 32 := Scalar.addi arg1 c1_i32
  let v368 : BitVec 32 := Scalar.subi v0 c0_i32_219
  let c1_i32_220 : BitVec 32 := 1#32
  let v370 : BitVec 32 := Scalar.divsi v368 c1_i32_220
  let v371 : BitVec 32 := Scalar.muli v370 c1_i32_220
  let v372 : BitVec 32 := Scalar.addi c0_i32_219 v371
  let c1_i32_222 : BitVec 32 := 1#32
  let arg27 : BitVec 32 := Scf.iv v372 c1_i32_222 k0_t13
  let v630 : Index := Scalar.indexCast arg27
  let c0_262 : Index := 0#32
  let c0_263 : Index := 0#32
  ![v630.toNat, 0, 0]
@[reducible] def k0_t14_loop : Scf.Loop 32 :=
  let c0_i32_225 : BitVec 32 := 0#32
  let c16_i32_226 : BitVec 32 := 16#32
  let v380 : BitVec 32 := Scalar.addi c0_i32_225 c16_i32_226
  let c1_i32_227 : BitVec 32 := 1#32
  ⟨c0_i32_225, v380, c1_i32_227⟩
@[reducible] def k0_t15_loop : Scf.Loop 32 :=
  let c0_i32_213 : BitVec 32 := 0#32
  let c16_i32 : BitVec 32 := 16#32
  let v362 : BitVec 32 := Scalar.addi c0_i32_213 c16_i32
  let c1_i32_214 : BitVec 32 := 1#32
  ⟨c0_i32_213, v362, c1_i32_214⟩
@[reducible] def k0_t16_loop (i : grid0.Coords) : Scf.Loop 32 :=
  let c0_i32_217 : BitVec 32 := 0#32
  let arg1 : BitVec 32 := BitVec.ofNat 32 (i 1).val
  let c1_i32 : BitVec 32 := 1#32
  let v0 : BitVec 32 := Scalar.addi arg1 c1_i32
  let v365 : BitVec 32 := Scalar.subi v0 c0_i32_217
  let c1_i32_218 : BitVec 32 := 1#32
  let v367 : BitVec 32 := Scalar.divsi v365 c1_i32_218
  let v368 : BitVec 32 := Scalar.muli v367 c1_i32_218
  let v369 : BitVec 32 := Scalar.addi c0_i32_217 v368
  let c1_i32_219 : BitVec 32 := 1#32
  ⟨c0_i32_217, v369, c1_i32_219⟩
def k0_off33 (i : grid0.Coords) (k0_t16 : Fin (k0_t16_loop i).trips) : Fin 3 → Nat :=
  let c0_i32_217 : BitVec 32 := 0#32
  let c1_i32_219 : BitVec 32 := 1#32
  let arg27 : BitVec 32 := Scf.iv c0_i32_217 c1_i32_219 k0_t16
  let v588 : Index := Scalar.indexCast arg27
  let c0_255 : Index := 0#32
  let c0_256 : Index := 0#32
  ![v588.toNat, 0, 0]
@[reducible] def k0_t17_loop (i : grid0.Coords) : Scf.Loop 32 :=
  let c0_i32_217 : BitVec 32 := 0#32
  let arg1 : BitVec 32 := BitVec.ofNat 32 (i 1).val
  let c1_i32 : BitVec 32 := 1#32
  let v0 : BitVec 32 := Scalar.addi arg1 c1_i32
  let v365 : BitVec 32 := Scalar.subi v0 c0_i32_217
  let c1_i32_218 : BitVec 32 := 1#32
  let v367 : BitVec 32 := Scalar.divsi v365 c1_i32_218
  let v368 : BitVec 32 := Scalar.muli v367 c1_i32_218
  let v369 : BitVec 32 := Scalar.addi c0_i32_217 v368
  let v366 : BitVec 32 := Scalar.addi c0_i32_217 v365
  let c1_i32_220 : BitVec 32 := 1#32
  ⟨v369, v366, c1_i32_220⟩
def k0_off34 (i : grid0.Coords) (k0_t17 : Fin (k0_t17_loop i).trips) : Fin 3 → Nat :=
  let c0_i32_217 : BitVec 32 := 0#32
  let arg1 : BitVec 32 := BitVec.ofNat 32 (i 1).val
  let c1_i32 : BitVec 32 := 1#32
  let v0 : BitVec 32 := Scalar.addi arg1 c1_i32
  let v365 : BitVec 32 := Scalar.subi v0 c0_i32_217
  let c1_i32_218 : BitVec 32 := 1#32
  let v367 : BitVec 32 := Scalar.divsi v365 c1_i32_218
  let v368 : BitVec 32 := Scalar.muli v367 c1_i32_218
  let v369 : BitVec 32 := Scalar.addi c0_i32_217 v368
  let c1_i32_220 : BitVec 32 := 1#32
  let arg27 : BitVec 32 := Scf.iv v369 c1_i32_220 k0_t17
  let v588 : Index := Scalar.indexCast arg27
  let c0_255 : Index := 0#32
  let c0_256 : Index := 0#32
  ![v588.toNat, 0, 0]
@[reducible] def k0_t18_loop : Scf.Loop 32 :=
  let c0_i32_223 : BitVec 32 := 0#32
  let c16_i32_224 : BitVec 32 := 16#32
  let v377 : BitVec 32 := Scalar.addi c0_i32_223 c16_i32_224
  let c1_i32_225 : BitVec 32 := 1#32
  ⟨c0_i32_223, v377, c1_i32_225⟩
@[reducible] def k0_t19_loop : Scf.Loop 32 :=
  let c0_i32_211 : BitVec 32 := 0#32
  let c16_i32 : BitVec 32 := 16#32
  let v359 : BitVec 32 := Scalar.addi c0_i32_211 c16_i32
  let c1_i32_212 : BitVec 32 := 1#32
  ⟨c0_i32_211, v359, c1_i32_212⟩
@[reducible] def k0_t20_loop (i : grid0.Coords) : Scf.Loop 32 :=
  let c0_i32_215 : BitVec 32 := 0#32
  let arg1 : BitVec 32 := BitVec.ofNat 32 (i 1).val
  let c1_i32 : BitVec 32 := 1#32
  let v0 : BitVec 32 := Scalar.addi arg1 c1_i32
  let v362 : BitVec 32 := Scalar.subi v0 c0_i32_215
  let c1_i32_216 : BitVec 32 := 1#32
  let v364 : BitVec 32 := Scalar.divsi v362 c1_i32_216
  let v365 : BitVec 32 := Scalar.muli v364 c1_i32_216
  let v366 : BitVec 32 := Scalar.addi c0_i32_215 v365
  let c1_i32_217 : BitVec 32 := 1#32
  ⟨c0_i32_215, v366, c1_i32_217⟩
def k0_off35 (i : grid0.Coords) (k0_t20 : Fin (k0_t20_loop i).trips) : Fin 3 → Nat :=
  let c0_i32_215 : BitVec 32 := 0#32
  let c1_i32_217 : BitVec 32 := 1#32
  let arg27 : BitVec 32 := Scf.iv c0_i32_215 c1_i32_217 k0_t20
  let v546 : Index := Scalar.indexCast arg27
  let c0_248 : Index := 0#32
  let c0_249 : Index := 0#32
  ![v546.toNat, 0, 0]
@[reducible] def k0_t21_loop (i : grid0.Coords) : Scf.Loop 32 :=
  let c0_i32_215 : BitVec 32 := 0#32
  let arg1 : BitVec 32 := BitVec.ofNat 32 (i 1).val
  let c1_i32 : BitVec 32 := 1#32
  let v0 : BitVec 32 := Scalar.addi arg1 c1_i32
  let v362 : BitVec 32 := Scalar.subi v0 c0_i32_215
  let c1_i32_216 : BitVec 32 := 1#32
  let v364 : BitVec 32 := Scalar.divsi v362 c1_i32_216
  let v365 : BitVec 32 := Scalar.muli v364 c1_i32_216
  let v366 : BitVec 32 := Scalar.addi c0_i32_215 v365
  let v363 : BitVec 32 := Scalar.addi c0_i32_215 v362
  let c1_i32_218 : BitVec 32 := 1#32
  ⟨v366, v363, c1_i32_218⟩
def k0_off36 (i : grid0.Coords) (k0_t21 : Fin (k0_t21_loop i).trips) : Fin 3 → Nat :=
  let c0_i32_215 : BitVec 32 := 0#32
  let arg1 : BitVec 32 := BitVec.ofNat 32 (i 1).val
  let c1_i32 : BitVec 32 := 1#32
  let v0 : BitVec 32 := Scalar.addi arg1 c1_i32
  let v362 : BitVec 32 := Scalar.subi v0 c0_i32_215
  let c1_i32_216 : BitVec 32 := 1#32
  let v364 : BitVec 32 := Scalar.divsi v362 c1_i32_216
  let v365 : BitVec 32 := Scalar.muli v364 c1_i32_216
  let v366 : BitVec 32 := Scalar.addi c0_i32_215 v365
  let c1_i32_218 : BitVec 32 := 1#32
  let arg27 : BitVec 32 := Scf.iv v366 c1_i32_218 k0_t21
  let v546 : Index := Scalar.indexCast arg27
  let c0_248 : Index := 0#32
  let c0_249 : Index := 0#32
  ![v546.toNat, 0, 0]
@[reducible] def k0_t22_loop : Scf.Loop 32 :=
  let c0_i32_221 : BitVec 32 := 0#32
  let c16_i32_222 : BitVec 32 := 16#32
  let v374 : BitVec 32 := Scalar.addi c0_i32_221 c16_i32_222
  let c1_i32_223 : BitVec 32 := 1#32
  ⟨c0_i32_221, v374, c1_i32_223⟩
@[reducible] def k0_t23_loop : Scf.Loop 32 :=
  let c0_i32_209 : BitVec 32 := 0#32
  let c16_i32 : BitVec 32 := 16#32
  let v356 : BitVec 32 := Scalar.addi c0_i32_209 c16_i32
  let c1_i32_210 : BitVec 32 := 1#32
  ⟨c0_i32_209, v356, c1_i32_210⟩
@[reducible] def k0_t24_loop (i : grid0.Coords) : Scf.Loop 32 :=
  let c0_i32_213 : BitVec 32 := 0#32
  let arg1 : BitVec 32 := BitVec.ofNat 32 (i 1).val
  let c1_i32 : BitVec 32 := 1#32
  let v0 : BitVec 32 := Scalar.addi arg1 c1_i32
  let v359 : BitVec 32 := Scalar.subi v0 c0_i32_213
  let c1_i32_214 : BitVec 32 := 1#32
  let v361 : BitVec 32 := Scalar.divsi v359 c1_i32_214
  let v362 : BitVec 32 := Scalar.muli v361 c1_i32_214
  let v363 : BitVec 32 := Scalar.addi c0_i32_213 v362
  let c1_i32_215 : BitVec 32 := 1#32
  ⟨c0_i32_213, v363, c1_i32_215⟩
def k0_off37 (i : grid0.Coords) (k0_t24 : Fin (k0_t24_loop i).trips) : Fin 3 → Nat :=
  let c0_i32_213 : BitVec 32 := 0#32
  let c1_i32_215 : BitVec 32 := 1#32
  let arg27 : BitVec 32 := Scf.iv c0_i32_213 c1_i32_215 k0_t24
  let v504 : Index := Scalar.indexCast arg27
  let c0_241 : Index := 0#32
  let c0_242 : Index := 0#32
  ![v504.toNat, 0, 0]
@[reducible] def k0_t25_loop (i : grid0.Coords) : Scf.Loop 32 :=
  let c0_i32_213 : BitVec 32 := 0#32
  let arg1 : BitVec 32 := BitVec.ofNat 32 (i 1).val
  let c1_i32 : BitVec 32 := 1#32
  let v0 : BitVec 32 := Scalar.addi arg1 c1_i32
  let v359 : BitVec 32 := Scalar.subi v0 c0_i32_213
  let c1_i32_214 : BitVec 32 := 1#32
  let v361 : BitVec 32 := Scalar.divsi v359 c1_i32_214
  let v362 : BitVec 32 := Scalar.muli v361 c1_i32_214
  let v363 : BitVec 32 := Scalar.addi c0_i32_213 v362
  let v360 : BitVec 32 := Scalar.addi c0_i32_213 v359
  let c1_i32_216 : BitVec 32 := 1#32
  ⟨v363, v360, c1_i32_216⟩
def k0_off38 (i : grid0.Coords) (k0_t25 : Fin (k0_t25_loop i).trips) : Fin 3 → Nat :=
  let c0_i32_213 : BitVec 32 := 0#32
  let arg1 : BitVec 32 := BitVec.ofNat 32 (i 1).val
  let c1_i32 : BitVec 32 := 1#32
  let v0 : BitVec 32 := Scalar.addi arg1 c1_i32
  let v359 : BitVec 32 := Scalar.subi v0 c0_i32_213
  let c1_i32_214 : BitVec 32 := 1#32
  let v361 : BitVec 32 := Scalar.divsi v359 c1_i32_214
  let v362 : BitVec 32 := Scalar.muli v361 c1_i32_214
  let v363 : BitVec 32 := Scalar.addi c0_i32_213 v362
  let c1_i32_216 : BitVec 32 := 1#32
  let arg27 : BitVec 32 := Scf.iv v363 c1_i32_216 k0_t25
  let v504 : Index := Scalar.indexCast arg27
  let c0_241 : Index := 0#32
  let c0_242 : Index := 0#32
  ![v504.toNat, 0, 0]
@[reducible] def k0_t26_loop : Scf.Loop 32 :=
  let c0_i32_219 : BitVec 32 := 0#32
  let c16_i32_220 : BitVec 32 := 16#32
  let v371 : BitVec 32 := Scalar.addi c0_i32_219 c16_i32_220
  let c1_i32_221 : BitVec 32 := 1#32
  ⟨c0_i32_219, v371, c1_i32_221⟩
@[reducible] def k0_t27_loop : Scf.Loop 32 :=
  let c0_i32_207 : BitVec 32 := 0#32
  let c16_i32 : BitVec 32 := 16#32
  let v353 : BitVec 32 := Scalar.addi c0_i32_207 c16_i32
  let c1_i32_208 : BitVec 32 := 1#32
  ⟨c0_i32_207, v353, c1_i32_208⟩
@[reducible] def k0_t28_loop (i : grid0.Coords) : Scf.Loop 32 :=
  let c0_i32_211 : BitVec 32 := 0#32
  let arg1 : BitVec 32 := BitVec.ofNat 32 (i 1).val
  let c1_i32 : BitVec 32 := 1#32
  let v0 : BitVec 32 := Scalar.addi arg1 c1_i32
  let v356 : BitVec 32 := Scalar.subi v0 c0_i32_211
  let c1_i32_212 : BitVec 32 := 1#32
  let v358 : BitVec 32 := Scalar.divsi v356 c1_i32_212
  let v359 : BitVec 32 := Scalar.muli v358 c1_i32_212
  let v360 : BitVec 32 := Scalar.addi c0_i32_211 v359
  let c1_i32_213 : BitVec 32 := 1#32
  ⟨c0_i32_211, v360, c1_i32_213⟩
def k0_off39 (i : grid0.Coords) (k0_t28 : Fin (k0_t28_loop i).trips) : Fin 3 → Nat :=
  let c0_i32_211 : BitVec 32 := 0#32
  let c1_i32_213 : BitVec 32 := 1#32
  let arg27 : BitVec 32 := Scf.iv c0_i32_211 c1_i32_213 k0_t28
  let v462 : Index := Scalar.indexCast arg27
  let c0_234 : Index := 0#32
  let c0_235 : Index := 0#32
  ![v462.toNat, 0, 0]
@[reducible] def k0_t29_loop (i : grid0.Coords) : Scf.Loop 32 :=
  let c0_i32_211 : BitVec 32 := 0#32
  let arg1 : BitVec 32 := BitVec.ofNat 32 (i 1).val
  let c1_i32 : BitVec 32 := 1#32
  let v0 : BitVec 32 := Scalar.addi arg1 c1_i32
  let v356 : BitVec 32 := Scalar.subi v0 c0_i32_211
  let c1_i32_212 : BitVec 32 := 1#32
  let v358 : BitVec 32 := Scalar.divsi v356 c1_i32_212
  let v359 : BitVec 32 := Scalar.muli v358 c1_i32_212
  let v360 : BitVec 32 := Scalar.addi c0_i32_211 v359
  let v357 : BitVec 32 := Scalar.addi c0_i32_211 v356
  let c1_i32_214 : BitVec 32 := 1#32
  ⟨v360, v357, c1_i32_214⟩
def k0_off40 (i : grid0.Coords) (k0_t29 : Fin (k0_t29_loop i).trips) : Fin 3 → Nat :=
  let c0_i32_211 : BitVec 32 := 0#32
  let arg1 : BitVec 32 := BitVec.ofNat 32 (i 1).val
  let c1_i32 : BitVec 32 := 1#32
  let v0 : BitVec 32 := Scalar.addi arg1 c1_i32
  let v356 : BitVec 32 := Scalar.subi v0 c0_i32_211
  let c1_i32_212 : BitVec 32 := 1#32
  let v358 : BitVec 32 := Scalar.divsi v356 c1_i32_212
  let v359 : BitVec 32 := Scalar.muli v358 c1_i32_212
  let v360 : BitVec 32 := Scalar.addi c0_i32_211 v359
  let c1_i32_214 : BitVec 32 := 1#32
  let arg27 : BitVec 32 := Scf.iv v360 c1_i32_214 k0_t29
  let v462 : Index := Scalar.indexCast arg27
  let c0_234 : Index := 0#32
  let c0_235 : Index := 0#32
  ![v462.toNat, 0, 0]
@[reducible] def k0_t30_loop : Scf.Loop 32 :=
  let c0_i32_217 : BitVec 32 := 0#32
  let c16_i32_218 : BitVec 32 := 16#32
  let v368 : BitVec 32 := Scalar.addi c0_i32_217 c16_i32_218
  let c1_i32_219 : BitVec 32 := 1#32
  ⟨c0_i32_217, v368, c1_i32_219⟩
@[reducible] def k0_t31_loop (i : grid0.Coords) : Scf.Loop 32 :=
  let c0_i32_74 : BitVec 32 := 0#32
  let arg1 : BitVec 32 := BitVec.ofNat 32 (i 1).val
  let c1_i32 : BitVec 32 := 1#32
  let v0 : BitVec 32 := Scalar.addi arg1 c1_i32
  let v118 : BitVec 32 := Scalar.subi v0 c0_i32_74
  let c1_i32_75 : BitVec 32 := 1#32
  let v120 : BitVec 32 := Scalar.divsi v118 c1_i32_75
  let v121 : BitVec 32 := Scalar.muli v120 c1_i32_75
  let v122 : BitVec 32 := Scalar.addi c0_i32_74 v121
  let c1_i32_76 : BitVec 32 := 1#32
  ⟨c0_i32_74, v122, c1_i32_76⟩
def k0_off41 (i : grid0.Coords) (k0_t31 : Fin (k0_t31_loop i).trips) : Fin 3 → Nat :=
  let c0_i32_74 : BitVec 32 := 0#32
  let c1_i32_76 : BitVec 32 := 1#32
  let arg27 : BitVec 32 := Scf.iv c0_i32_74 c1_i32_76 k0_t31
  let v351 : Index := Scalar.indexCast arg27
  let c0_205 : Index := 0#32
  let c0_206 : Index := 0#32
  ![v351.toNat, 0, 0]
def k0_off42 (i : grid0.Coords) (k0_t31 : Fin (k0_t31_loop i).trips) : Fin 3 → Nat :=
  let c0_i32_74 : BitVec 32 := 0#32
  let c1_i32_76 : BitVec 32 := 1#32
  let arg27 : BitVec 32 := Scf.iv c0_i32_74 c1_i32_76 k0_t31
  let v355 : Index := Scalar.indexCast arg27
  let c0_207 : Index := 0#32
  let c0_208 : Index := 0#32
  ![v355.toNat, 0, 0]
@[reducible] def k0_t32_loop (i : grid0.Coords) : Scf.Loop 32 :=
  let c0_i32_74 : BitVec 32 := 0#32
  let arg1 : BitVec 32 := BitVec.ofNat 32 (i 1).val
  let c1_i32 : BitVec 32 := 1#32
  let v0 : BitVec 32 := Scalar.addi arg1 c1_i32
  let v118 : BitVec 32 := Scalar.subi v0 c0_i32_74
  let c1_i32_75 : BitVec 32 := 1#32
  let v120 : BitVec 32 := Scalar.divsi v118 c1_i32_75
  let v121 : BitVec 32 := Scalar.muli v120 c1_i32_75
  let v122 : BitVec 32 := Scalar.addi c0_i32_74 v121
  let v119 : BitVec 32 := Scalar.addi c0_i32_74 v118
  let c1_i32_77 : BitVec 32 := 1#32
  ⟨v122, v119, c1_i32_77⟩
def k0_off43 (i : grid0.Coords) (k0_t32 : Fin (k0_t32_loop i).trips) : Fin 3 → Nat :=
  let c0_i32_74 : BitVec 32 := 0#32
  let arg1 : BitVec 32 := BitVec.ofNat 32 (i 1).val
  let c1_i32 : BitVec 32 := 1#32
  let v0 : BitVec 32 := Scalar.addi arg1 c1_i32
  let v118 : BitVec 32 := Scalar.subi v0 c0_i32_74
  let c1_i32_75 : BitVec 32 := 1#32
  let v120 : BitVec 32 := Scalar.divsi v118 c1_i32_75
  let v121 : BitVec 32 := Scalar.muli v120 c1_i32_75
  let v122 : BitVec 32 := Scalar.addi c0_i32_74 v121
  let c1_i32_77 : BitVec 32 := 1#32
  let arg27 : BitVec 32 := Scf.iv v122 c1_i32_77 k0_t32
  let v351 : Index := Scalar.indexCast arg27
  let c0_205 : Index := 0#32
  let c0_206 : Index := 0#32
  ![v351.toNat, 0, 0]
def k0_off44 (i : grid0.Coords) (k0_t32 : Fin (k0_t32_loop i).trips) : Fin 3 → Nat :=
  let c0_i32_74 : BitVec 32 := 0#32
  let arg1 : BitVec 32 := BitVec.ofNat 32 (i 1).val
  let c1_i32 : BitVec 32 := 1#32
  let v0 : BitVec 32 := Scalar.addi arg1 c1_i32
  let v118 : BitVec 32 := Scalar.subi v0 c0_i32_74
  let c1_i32_75 : BitVec 32 := 1#32
  let v120 : BitVec 32 := Scalar.divsi v118 c1_i32_75
  let v121 : BitVec 32 := Scalar.muli v120 c1_i32_75
  let v122 : BitVec 32 := Scalar.addi c0_i32_74 v121
  let c1_i32_77 : BitVec 32 := 1#32
  let arg27 : BitVec 32 := Scf.iv v122 c1_i32_77 k0_t32
  let v355 : Index := Scalar.indexCast arg27
  let c0_207 : Index := 0#32
  let c0_208 : Index := 0#32
  ![v355.toNat, 0, 0]
@[reducible] def k0_t33_loop (i : grid0.Coords) : Scf.Loop 32 :=
  let c0_i32_79 : BitVec 32 := 0#32
  let arg1 : BitVec 32 := BitVec.ofNat 32 (i 1).val
  let c1_i32 : BitVec 32 := 1#32
  let v0 : BitVec 32 := Scalar.addi arg1 c1_i32
  let v126 : BitVec 32 := Scalar.subi v0 c0_i32_79
  let c1_i32_80 : BitVec 32 := 1#32
  let v128 : BitVec 32 := Scalar.divsi v126 c1_i32_80
  let v129 : BitVec 32 := Scalar.muli v128 c1_i32_80
  let v130 : BitVec 32 := Scalar.addi c0_i32_79 v129
  let c1_i32_81 : BitVec 32 := 1#32
  ⟨c0_i32_79, v130, c1_i32_81⟩
def k0_off45 (i : grid0.Coords) (k0_t33 : Fin (k0_t33_loop i).trips) : Fin 3 → Nat :=
  let c0_i32_79 : BitVec 32 := 0#32
  let c1_i32_81 : BitVec 32 := 1#32
  let arg27 : BitVec 32 := Scf.iv c0_i32_79 c1_i32_81 k0_t33
  let v349 : Index := Scalar.indexCast arg27
  let c0_205 : Index := 0#32
  let c0_206 : Index := 0#32
  ![v349.toNat, 0, 0]
@[reducible] def k0_t34_loop (i : grid0.Coords) : Scf.Loop 32 :=
  let c0_i32_79 : BitVec 32 := 0#32
  let arg1 : BitVec 32 := BitVec.ofNat 32 (i 1).val
  let c1_i32 : BitVec 32 := 1#32
  let v0 : BitVec 32 := Scalar.addi arg1 c1_i32
  let v126 : BitVec 32 := Scalar.subi v0 c0_i32_79
  let c1_i32_80 : BitVec 32 := 1#32
  let v128 : BitVec 32 := Scalar.divsi v126 c1_i32_80
  let v129 : BitVec 32 := Scalar.muli v128 c1_i32_80
  let v130 : BitVec 32 := Scalar.addi c0_i32_79 v129
  let v127 : BitVec 32 := Scalar.addi c0_i32_79 v126
  let c1_i32_82 : BitVec 32 := 1#32
  ⟨v130, v127, c1_i32_82⟩
def k0_off46 (i : grid0.Coords) (k0_t34 : Fin (k0_t34_loop i).trips) : Fin 3 → Nat :=
  let c0_i32_79 : BitVec 32 := 0#32
  let arg1 : BitVec 32 := BitVec.ofNat 32 (i 1).val
  let c1_i32 : BitVec 32 := 1#32
  let v0 : BitVec 32 := Scalar.addi arg1 c1_i32
  let v126 : BitVec 32 := Scalar.subi v0 c0_i32_79
  let c1_i32_80 : BitVec 32 := 1#32
  let v128 : BitVec 32 := Scalar.divsi v126 c1_i32_80
  let v129 : BitVec 32 := Scalar.muli v128 c1_i32_80
  let v130 : BitVec 32 := Scalar.addi c0_i32_79 v129
  let c1_i32_82 : BitVec 32 := 1#32
  let arg27 : BitVec 32 := Scf.iv v130 c1_i32_82 k0_t34
  let v349 : Index := Scalar.indexCast arg27
  let c0_205 : Index := 0#32
  let c0_206 : Index := 0#32
  ![v349.toNat, 0, 0]
@[reducible] def k0_t35_loop (i : grid0.Coords) : Scf.Loop 32 :=
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_140 : BitVec 32 := 1#32
  ⟨c0_i32_138, v265, c1_i32_140⟩
def k0_off47 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let c1_i32_206 : BitVec 32 := 1#32
  let v350 : BitVec 32 := Scalar.addi v349 c1_i32_206
  let v351 : Index := Scalar.indexCast v350
  let c0_207 : Index := 0#32
  let c0_208 : Index := 0#32
  ![v351.toNat, 0, 0]
def k0_off48 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let c1_i32_206 : BitVec 32 := 1#32
  let v350 : BitVec 32 := Scalar.addi v349 c1_i32_206
  let v361 : Index := Scalar.indexCast v350
  let c0_212 : Index := 0#32
  let c0_213 : Index := 0#32
  ![v361.toNat, 0, 0]
def k0_off49 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let c1_i32_206 : BitVec 32 := 1#32
  let v350 : BitVec 32 := Scalar.addi v349 c1_i32_206
  let v386 : Index := Scalar.indexCast v350
  let c0_220 : Index := 0#32
  let c0_221 : Index := 0#32
  ![v386.toNat, 0, 0]
def k0_off50 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let c1_i32_206 : BitVec 32 := 1#32
  let v350 : BitVec 32 := Scalar.addi v349 c1_i32_206
  let v398 : Index := Scalar.indexCast v350
  let c0_224 : Index := 0#32
  let c256_225 : Index := 256#32
  ![v398.toNat, 0, 256]
def k0_off51 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let c1_i32_206 : BitVec 32 := 1#32
  let v350 : BitVec 32 := Scalar.addi v349 c1_i32_206
  let v410 : Index := Scalar.indexCast v350
  let c0_228 : Index := 0#32
  let c512_229 : Index := 512#32
  ![v410.toNat, 0, 512]
def k0_off52 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let c1_i32_206 : BitVec 32 := 1#32
  let v350 : BitVec 32 := Scalar.addi v349 c1_i32_206
  let v422 : Index := Scalar.indexCast v350
  let c0_232 : Index := 0#32
  let c768_233 : Index := 768#32
  ![v422.toNat, 0, 768]
def k0_off53 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let c1_i32_206 : BitVec 32 := 1#32
  let v350 : BitVec 32 := Scalar.addi v349 c1_i32_206
  let v434 : Index := Scalar.indexCast v350
  let c0_236 : Index := 0#32
  let c1024_237 : Index := 1024#32
  ![v434.toNat, 0, 1024]
def k0_off54 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let c1_i32_206 : BitVec 32 := 1#32
  let v350 : BitVec 32 := Scalar.addi v349 c1_i32_206
  let v446 : Index := Scalar.indexCast v350
  let c0_240 : Index := 0#32
  let c1280_241 : Index := 1280#32
  ![v446.toNat, 0, 1280]
def k0_off55 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let c1_i32_206 : BitVec 32 := 1#32
  let v350 : BitVec 32 := Scalar.addi v349 c1_i32_206
  let v458 : Index := Scalar.indexCast v350
  let c0_244 : Index := 0#32
  let c1536_245 : Index := 1536#32
  ![v458.toNat, 0, 1536]
def k0_off56 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let c1_i32_206 : BitVec 32 := 1#32
  let v350 : BitVec 32 := Scalar.addi v349 c1_i32_206
  let v470 : Index := Scalar.indexCast v350
  let c0_248 : Index := 0#32
  let c1792_249 : Index := 1792#32
  ![v470.toNat, 0, 1792]
def k0_off57 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let v483 : Index := Scalar.indexCast v349
  let c0_254 : Index := 0#32
  let c0_255 : Index := 0#32
  ![v483.toNat, 0, 0]
def k0_off58 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let c2_i32_261 : BitVec 32 := 2#32
  let v492 : BitVec 32 := Scalar.addi v349 c2_i32_261
  let arg1 : BitVec 32 := BitVec.ofNat 32 (i 1).val
  let v493 : BitVec 32 := Scalar.minsi v492 arg1
  let v494 : Index := Scalar.indexCast v493
  let c0_262 : Index := 0#32
  let c0_263 : Index := 0#32
  ![v494.toNat, 0, 0]
def k0_off59 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let c2_i32_261 : BitVec 32 := 2#32
  let v492 : BitVec 32 := Scalar.addi v349 c2_i32_261
  let arg1 : BitVec 32 := BitVec.ofNat 32 (i 1).val
  let v493 : BitVec 32 := Scalar.minsi v492 arg1
  let v504 : Index := Scalar.indexCast v493
  let c0_267 : Index := 0#32
  let c0_268 : Index := 0#32
  ![v504.toNat, 0, 0]
def k0_off60 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let c2_i32_261 : BitVec 32 := 2#32
  let v492 : BitVec 32 := Scalar.addi v349 c2_i32_261
  let arg1 : BitVec 32 := BitVec.ofNat 32 (i 1).val
  let v493 : BitVec 32 := Scalar.minsi v492 arg1
  let v529 : Index := Scalar.indexCast v493
  let c0_275 : Index := 0#32
  let c0_276 : Index := 0#32
  ![v529.toNat, 0, 0]
def k0_off61 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let c2_i32_261 : BitVec 32 := 2#32
  let v492 : BitVec 32 := Scalar.addi v349 c2_i32_261
  let arg1 : BitVec 32 := BitVec.ofNat 32 (i 1).val
  let v493 : BitVec 32 := Scalar.minsi v492 arg1
  let v541 : Index := Scalar.indexCast v493
  let c0_279 : Index := 0#32
  let c256_280 : Index := 256#32
  ![v541.toNat, 0, 256]
def k0_off62 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let c2_i32_261 : BitVec 32 := 2#32
  let v492 : BitVec 32 := Scalar.addi v349 c2_i32_261
  let arg1 : BitVec 32 := BitVec.ofNat 32 (i 1).val
  let v493 : BitVec 32 := Scalar.minsi v492 arg1
  let v553 : Index := Scalar.indexCast v493
  let c0_283 : Index := 0#32
  let c512_284 : Index := 512#32
  ![v553.toNat, 0, 512]
def k0_off63 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let c2_i32_261 : BitVec 32 := 2#32
  let v492 : BitVec 32 := Scalar.addi v349 c2_i32_261
  let arg1 : BitVec 32 := BitVec.ofNat 32 (i 1).val
  let v493 : BitVec 32 := Scalar.minsi v492 arg1
  let v565 : Index := Scalar.indexCast v493
  let c0_287 : Index := 0#32
  let c768_288 : Index := 768#32
  ![v565.toNat, 0, 768]
def k0_off64 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let c2_i32_261 : BitVec 32 := 2#32
  let v492 : BitVec 32 := Scalar.addi v349 c2_i32_261
  let arg1 : BitVec 32 := BitVec.ofNat 32 (i 1).val
  let v493 : BitVec 32 := Scalar.minsi v492 arg1
  let v577 : Index := Scalar.indexCast v493
  let c0_291 : Index := 0#32
  let c1024_292 : Index := 1024#32
  ![v577.toNat, 0, 1024]
def k0_off65 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let c2_i32_261 : BitVec 32 := 2#32
  let v492 : BitVec 32 := Scalar.addi v349 c2_i32_261
  let arg1 : BitVec 32 := BitVec.ofNat 32 (i 1).val
  let v493 : BitVec 32 := Scalar.minsi v492 arg1
  let v589 : Index := Scalar.indexCast v493
  let c0_295 : Index := 0#32
  let c1280_296 : Index := 1280#32
  ![v589.toNat, 0, 1280]
def k0_off66 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let c2_i32_261 : BitVec 32 := 2#32
  let v492 : BitVec 32 := Scalar.addi v349 c2_i32_261
  let arg1 : BitVec 32 := BitVec.ofNat 32 (i 1).val
  let v493 : BitVec 32 := Scalar.minsi v492 arg1
  let v601 : Index := Scalar.indexCast v493
  let c0_299 : Index := 0#32
  let c1536_300 : Index := 1536#32
  ![v601.toNat, 0, 1536]
def k0_off67 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let c2_i32_261 : BitVec 32 := 2#32
  let v492 : BitVec 32 := Scalar.addi v349 c2_i32_261
  let arg1 : BitVec 32 := BitVec.ofNat 32 (i 1).val
  let v493 : BitVec 32 := Scalar.minsi v492 arg1
  let v613 : Index := Scalar.indexCast v493
  let c0_303 : Index := 0#32
  let c1792_304 : Index := 1792#32
  ![v613.toNat, 0, 1792]
def k0_off68 (i : grid0.Coords) (k0_t35 : Fin (k0_t35_loop i).trips) : Fin 3 → Nat :=
  let c2_i32_205 : BitVec 32 := 2#32
  let c0_i32_138 : BitVec 32 := 0#32
  let c1_i32_140 : BitVec 32 := 1#32
  let arg27 : BitVec 32 := Scf.iv c0_i32_138 c1_i32_140 k0_t35
  let v349 : BitVec 32 := Scalar.muli c2_i32_205 arg27
  let c1_i32_307 : BitVec 32 := 1#32
  let v625 : BitVec 32 := Scalar.addi v349 c1_i32_307
  let v627 : Index := Scalar.indexCast v625
  let c0_310 : Index := 0#32
  let c0_311 : Index := 0#32
  ![v627.toNat, 0, 0]
@[reducible] def k0_t36_loop (i : grid0.Coords) : Scf.Loop 32 :=
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let v262 : BitVec 32 := Scalar.addi c0_i32_138 v261
  let c1_i32_141 : BitVec 32 := 1#32
  ⟨v265, v262, c1_i32_141⟩
def k0_off69 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let c1_i32_206 : BitVec 32 := 1#32
  let v350 : BitVec 32 := Scalar.addi v349 c1_i32_206
  let v351 : Index := Scalar.indexCast v350
  let c0_207 : Index := 0#32
  let c0_208 : Index := 0#32
  ![v351.toNat, 0, 0]
def k0_off70 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let c1_i32_206 : BitVec 32 := 1#32
  let v350 : BitVec 32 := Scalar.addi v349 c1_i32_206
  let v361 : Index := Scalar.indexCast v350
  let c0_212 : Index := 0#32
  let c0_213 : Index := 0#32
  ![v361.toNat, 0, 0]
def k0_off71 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let c1_i32_206 : BitVec 32 := 1#32
  let v350 : BitVec 32 := Scalar.addi v349 c1_i32_206
  let v386 : Index := Scalar.indexCast v350
  let c0_220 : Index := 0#32
  let c0_221 : Index := 0#32
  ![v386.toNat, 0, 0]
def k0_off72 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let c1_i32_206 : BitVec 32 := 1#32
  let v350 : BitVec 32 := Scalar.addi v349 c1_i32_206
  let v398 : Index := Scalar.indexCast v350
  let c0_224 : Index := 0#32
  let c256_225 : Index := 256#32
  ![v398.toNat, 0, 256]
def k0_off73 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let c1_i32_206 : BitVec 32 := 1#32
  let v350 : BitVec 32 := Scalar.addi v349 c1_i32_206
  let v410 : Index := Scalar.indexCast v350
  let c0_228 : Index := 0#32
  let c512_229 : Index := 512#32
  ![v410.toNat, 0, 512]
def k0_off74 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let c1_i32_206 : BitVec 32 := 1#32
  let v350 : BitVec 32 := Scalar.addi v349 c1_i32_206
  let v422 : Index := Scalar.indexCast v350
  let c0_232 : Index := 0#32
  let c768_233 : Index := 768#32
  ![v422.toNat, 0, 768]
def k0_off75 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let c1_i32_206 : BitVec 32 := 1#32
  let v350 : BitVec 32 := Scalar.addi v349 c1_i32_206
  let v434 : Index := Scalar.indexCast v350
  let c0_236 : Index := 0#32
  let c1024_237 : Index := 1024#32
  ![v434.toNat, 0, 1024]
def k0_off76 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let c1_i32_206 : BitVec 32 := 1#32
  let v350 : BitVec 32 := Scalar.addi v349 c1_i32_206
  let v446 : Index := Scalar.indexCast v350
  let c0_240 : Index := 0#32
  let c1280_241 : Index := 1280#32
  ![v446.toNat, 0, 1280]
def k0_off77 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let c1_i32_206 : BitVec 32 := 1#32
  let v350 : BitVec 32 := Scalar.addi v349 c1_i32_206
  let v458 : Index := Scalar.indexCast v350
  let c0_244 : Index := 0#32
  let c1536_245 : Index := 1536#32
  ![v458.toNat, 0, 1536]
def k0_off78 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let c1_i32_206 : BitVec 32 := 1#32
  let v350 : BitVec 32 := Scalar.addi v349 c1_i32_206
  let v470 : Index := Scalar.indexCast v350
  let c0_248 : Index := 0#32
  let c1792_249 : Index := 1792#32
  ![v470.toNat, 0, 1792]
def k0_off79 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let v483 : Index := Scalar.indexCast v349
  let c0_254 : Index := 0#32
  let c0_255 : Index := 0#32
  ![v483.toNat, 0, 0]
def k0_off80 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let c2_i32_261 : BitVec 32 := 2#32
  let v492 : BitVec 32 := Scalar.addi v349 c2_i32_261
  let v493 : BitVec 32 := Scalar.minsi v492 arg1
  let v494 : Index := Scalar.indexCast v493
  let c0_262 : Index := 0#32
  let c0_263 : Index := 0#32
  ![v494.toNat, 0, 0]
def k0_off81 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let c2_i32_261 : BitVec 32 := 2#32
  let v492 : BitVec 32 := Scalar.addi v349 c2_i32_261
  let v493 : BitVec 32 := Scalar.minsi v492 arg1
  let v504 : Index := Scalar.indexCast v493
  let c0_267 : Index := 0#32
  let c0_268 : Index := 0#32
  ![v504.toNat, 0, 0]
def k0_off82 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let c2_i32_261 : BitVec 32 := 2#32
  let v492 : BitVec 32 := Scalar.addi v349 c2_i32_261
  let v493 : BitVec 32 := Scalar.minsi v492 arg1
  let v529 : Index := Scalar.indexCast v493
  let c0_275 : Index := 0#32
  let c0_276 : Index := 0#32
  ![v529.toNat, 0, 0]
def k0_off83 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let c2_i32_261 : BitVec 32 := 2#32
  let v492 : BitVec 32 := Scalar.addi v349 c2_i32_261
  let v493 : BitVec 32 := Scalar.minsi v492 arg1
  let v541 : Index := Scalar.indexCast v493
  let c0_279 : Index := 0#32
  let c256_280 : Index := 256#32
  ![v541.toNat, 0, 256]
def k0_off84 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let c2_i32_261 : BitVec 32 := 2#32
  let v492 : BitVec 32 := Scalar.addi v349 c2_i32_261
  let v493 : BitVec 32 := Scalar.minsi v492 arg1
  let v553 : Index := Scalar.indexCast v493
  let c0_283 : Index := 0#32
  let c512_284 : Index := 512#32
  ![v553.toNat, 0, 512]
def k0_off85 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let c2_i32_261 : BitVec 32 := 2#32
  let v492 : BitVec 32 := Scalar.addi v349 c2_i32_261
  let v493 : BitVec 32 := Scalar.minsi v492 arg1
  let v565 : Index := Scalar.indexCast v493
  let c0_287 : Index := 0#32
  let c768_288 : Index := 768#32
  ![v565.toNat, 0, 768]
def k0_off86 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let c2_i32_261 : BitVec 32 := 2#32
  let v492 : BitVec 32 := Scalar.addi v349 c2_i32_261
  let v493 : BitVec 32 := Scalar.minsi v492 arg1
  let v577 : Index := Scalar.indexCast v493
  let c0_291 : Index := 0#32
  let c1024_292 : Index := 1024#32
  ![v577.toNat, 0, 1024]
def k0_off87 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let c2_i32_261 : BitVec 32 := 2#32
  let v492 : BitVec 32 := Scalar.addi v349 c2_i32_261
  let v493 : BitVec 32 := Scalar.minsi v492 arg1
  let v589 : Index := Scalar.indexCast v493
  let c0_295 : Index := 0#32
  let c1280_296 : Index := 1280#32
  ![v589.toNat, 0, 1280]
def k0_off88 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let c2_i32_261 : BitVec 32 := 2#32
  let v492 : BitVec 32 := Scalar.addi v349 c2_i32_261
  let v493 : BitVec 32 := Scalar.minsi v492 arg1
  let v601 : Index := Scalar.indexCast v493
  let c0_299 : Index := 0#32
  let c1536_300 : Index := 1536#32
  ![v601.toNat, 0, 1536]
def k0_off89 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let c2_i32_261 : BitVec 32 := 2#32
  let v492 : BitVec 32 := Scalar.addi v349 c2_i32_261
  let v493 : BitVec 32 := Scalar.minsi v492 arg1
  let v613 : Index := Scalar.indexCast v493
  let c0_303 : Index := 0#32
  let c1792_304 : Index := 1792#32
  ![v613.toNat, 0, 1792]
def k0_off90 (i : grid0.Coords) (k0_t36 : Fin (k0_t36_loop i).trips) : Fin 3 → Nat :=
  let c2_i32_205 : BitVec 32 := 2#32
  let c0_i32_138 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v260 : BitVec 32 := Scalar.shrui v0 c1_i32_136
  let v261 : BitVec 32 := Scalar.subi v260 c0_i32_138
  let c1_i32_139 : BitVec 32 := 1#32
  let v263 : BitVec 32 := Scalar.divsi v261 c1_i32_139
  let v264 : BitVec 32 := Scalar.muli v263 c1_i32_139
  let v265 : BitVec 32 := Scalar.addi c0_i32_138 v264
  let c1_i32_141 : BitVec 32 := 1#32
  let arg27 : BitVec 32 := Scf.iv v265 c1_i32_141 k0_t36
  let v349 : BitVec 32 := Scalar.muli c2_i32_205 arg27
  let c1_i32_307 : BitVec 32 := 1#32
  let v625 : BitVec 32 := Scalar.addi v349 c1_i32_307
  let v627 : Index := Scalar.indexCast v625
  let c0_310 : Index := 0#32
  let c0_311 : Index := 0#32
  ![v627.toNat, 0, 0]
def k0_cond10 (i : grid0.Coords) : BitVec 1 :=
  let arg1 : BitVec 32 := BitVec.ofNat 32 (i 1).val
  let c1_i32 : BitVec 32 := 1#32
  let v0 : BitVec 32 := Scalar.addi arg1 c1_i32
  let c1_i32_142 : BitVec 32 := 1#32
  let v266 : BitVec 32 := Scalar.andi v0 c1_i32_142
  let c1_i32_143 : BitVec 32 := 1#32
  let v267 : BitVec 1 := Scalar.cmpi .eq v266 c1_i32_143
  let v268 : BitVec 32 := Scalar.extui v267
  let c0_i32_144 : BitVec 32 := 0#32
  let v269 : BitVec 1 := Scalar.cmpi .ne v268 c0_i32_144
  v269

def k0_off91 (i : grid0.Coords) : Fin 3 → Nat :=
  let arg1 : BitVec 32 := BitVec.ofNat 32 (i 1).val
  let v350 : Index := Scalar.indexCast arg1
  let c0_207 : Index := 0#32
  let c0_208 : Index := 0#32
  ![v350.toNat, 0, 0]
@[reducible] def k0_t37_loop (i : grid0.Coords) : Scf.Loop 32 :=
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_217 : BitVec 32 := 1#32
  ⟨c0_i32_215, v367, c1_i32_217⟩
def k0_off92 (i : grid0.Coords) (k0_t37 : Fin (k0_t37_loop i).trips) : Fin 3 → Nat :=
  let c2_i32_240 : BitVec 32 := 2#32
  let c0_i32_215 : BitVec 32 := 0#32
  let c1_i32_217 : BitVec 32 := 1#32
  let arg27 : BitVec 32 := Scf.iv c0_i32_215 c1_i32_217 k0_t37
  let v400 : BitVec 32 := Scalar.muli c2_i32_240 arg27
  let c1_i32_241 : BitVec 32 := 1#32
  let v401 : BitVec 32 := Scalar.addi v400 c1_i32_241
  let v402 : Index := Scalar.indexCast v401
  let c0_242 : Index := 0#32
  let c0_243 : Index := 0#32
  ![v402.toNat, 0, 0]
def k0_off93 (i : grid0.Coords) (k0_t37 : Fin (k0_t37_loop i).trips) : Fin 3 → Nat :=
  let c2_i32_240 : BitVec 32 := 2#32
  let c0_i32_215 : BitVec 32 := 0#32
  let c1_i32_217 : BitVec 32 := 1#32
  let arg27 : BitVec 32 := Scf.iv c0_i32_215 c1_i32_217 k0_t37
  let v400 : BitVec 32 := Scalar.muli c2_i32_240 arg27
  let v416 : Index := Scalar.indexCast v400
  let c0_251 : Index := 0#32
  let c0_252 : Index := 0#32
  ![v416.toNat, 0, 0]
def k0_off94 (i : grid0.Coords) (k0_t37 : Fin (k0_t37_loop i).trips) : Fin 3 → Nat :=
  let c2_i32_240 : BitVec 32 := 2#32
  let c0_i32_215 : BitVec 32 := 0#32
  let c1_i32_217 : BitVec 32 := 1#32
  let arg27 : BitVec 32 := Scf.iv c0_i32_215 c1_i32_217 k0_t37
  let v400 : BitVec 32 := Scalar.muli c2_i32_240 arg27
  let v421 : Index := Scalar.indexCast v400
  let c0_253 : Index := 0#32
  let c0_254 : Index := 0#32
  ![v421.toNat, 0, 0]
def k0_off95 (i : grid0.Coords) (k0_t37 : Fin (k0_t37_loop i).trips) : Fin 3 → Nat :=
  let c2_i32_240 : BitVec 32 := 2#32
  let c0_i32_215 : BitVec 32 := 0#32
  let c1_i32_217 : BitVec 32 := 1#32
  let arg27 : BitVec 32 := Scf.iv c0_i32_215 c1_i32_217 k0_t37
  let v400 : BitVec 32 := Scalar.muli c2_i32_240 arg27
  let v443 : Index := Scalar.indexCast v400
  let c0_261 : Index := 0#32
  let c0_262 : Index := 0#32
  ![v443.toNat, 0, 0]
def k0_off96 (i : grid0.Coords) (k0_t37 : Fin (k0_t37_loop i).trips) : Fin 3 → Nat :=
  let c2_i32_240 : BitVec 32 := 2#32
  let c0_i32_215 : BitVec 32 := 0#32
  let c1_i32_217 : BitVec 32 := 1#32
  let arg27 : BitVec 32 := Scf.iv c0_i32_215 c1_i32_217 k0_t37
  let v400 : BitVec 32 := Scalar.muli c2_i32_240 arg27
  let v455 : Index := Scalar.indexCast v400
  let c0_266 : Index := 0#32
  let c256_267 : Index := 256#32
  ![v455.toNat, 0, 256]
def k0_off97 (i : grid0.Coords) (k0_t37 : Fin (k0_t37_loop i).trips) : Fin 3 → Nat :=
  let c2_i32_240 : BitVec 32 := 2#32
  let c0_i32_215 : BitVec 32 := 0#32
  let c1_i32_217 : BitVec 32 := 1#32
  let arg27 : BitVec 32 := Scf.iv c0_i32_215 c1_i32_217 k0_t37
  let v400 : BitVec 32 := Scalar.muli c2_i32_240 arg27
  let v467 : Index := Scalar.indexCast v400
  let c0_271 : Index := 0#32
  let c512_272 : Index := 512#32
  ![v467.toNat, 0, 512]
def k0_off98 (i : grid0.Coords) (k0_t37 : Fin (k0_t37_loop i).trips) : Fin 3 → Nat :=
  let c2_i32_240 : BitVec 32 := 2#32
  let c0_i32_215 : BitVec 32 := 0#32
  let c1_i32_217 : BitVec 32 := 1#32
  let arg27 : BitVec 32 := Scf.iv c0_i32_215 c1_i32_217 k0_t37
  let v400 : BitVec 32 := Scalar.muli c2_i32_240 arg27
  let v479 : Index := Scalar.indexCast v400
  let c0_276 : Index := 0#32
  let c768_277 : Index := 768#32
  ![v479.toNat, 0, 768]
def k0_off99 (i : grid0.Coords) (k0_t37 : Fin (k0_t37_loop i).trips) : Fin 3 → Nat :=
  let c2_i32_240 : BitVec 32 := 2#32
  let c0_i32_215 : BitVec 32 := 0#32
  let c1_i32_217 : BitVec 32 := 1#32
  let arg27 : BitVec 32 := Scf.iv c0_i32_215 c1_i32_217 k0_t37
  let v400 : BitVec 32 := Scalar.muli c2_i32_240 arg27
  let v491 : Index := Scalar.indexCast v400
  let c0_281 : Index := 0#32
  let c1024_282 : Index := 1024#32
  ![v491.toNat, 0, 1024]
def k0_off100 (i : grid0.Coords) (k0_t37 : Fin (k0_t37_loop i).trips) : Fin 3 → Nat :=
  let c2_i32_240 : BitVec 32 := 2#32
  let c0_i32_215 : BitVec 32 := 0#32
  let c1_i32_217 : BitVec 32 := 1#32
  let arg27 : BitVec 32 := Scf.iv c0_i32_215 c1_i32_217 k0_t37
  let v400 : BitVec 32 := Scalar.muli c2_i32_240 arg27
  let v503 : Index := Scalar.indexCast v400
  let c0_286 : Index := 0#32
  let c1280_287 : Index := 1280#32
  ![v503.toNat, 0, 1280]
def k0_off101 (i : grid0.Coords) (k0_t37 : Fin (k0_t37_loop i).trips) : Fin 3 → Nat :=
  let c2_i32_240 : BitVec 32 := 2#32
  let c0_i32_215 : BitVec 32 := 0#32
  let c1_i32_217 : BitVec 32 := 1#32
  let arg27 : BitVec 32 := Scf.iv c0_i32_215 c1_i32_217 k0_t37
  let v400 : BitVec 32 := Scalar.muli c2_i32_240 arg27
  let v515 : Index := Scalar.indexCast v400
  let c0_291 : Index := 0#32
  let c1536_292 : Index := 1536#32
  ![v515.toNat, 0, 1536]
def k0_off102 (i : grid0.Coords) (k0_t37 : Fin (k0_t37_loop i).trips) : Fin 3 → Nat :=
  let c2_i32_240 : BitVec 32 := 2#32
  let c0_i32_215 : BitVec 32 := 0#32
  let c1_i32_217 : BitVec 32 := 1#32
  let arg27 : BitVec 32 := Scf.iv c0_i32_215 c1_i32_217 k0_t37
  let v400 : BitVec 32 := Scalar.muli c2_i32_240 arg27
  let v527 : Index := Scalar.indexCast v400
  let c0_296 : Index := 0#32
  let c1792_297 : Index := 1792#32
  ![v527.toNat, 0, 1792]
def k0_off103 (i : grid0.Coords) (k0_t37 : Fin (k0_t37_loop i).trips) : Fin 3 → Nat :=
  let c2_i32_240 : BitVec 32 := 2#32
  let c0_i32_215 : BitVec 32 := 0#32
  let c1_i32_217 : BitVec 32 := 1#32
  let arg27 : BitVec 32 := Scf.iv c0_i32_215 c1_i32_217 k0_t37
  let v400 : BitVec 32 := Scalar.muli c2_i32_240 arg27
  let c2_i32_301 : BitVec 32 := 2#32
  let v540 : BitVec 32 := Scalar.addi v400 c2_i32_301
  let arg1 : BitVec 32 := BitVec.ofNat 32 (i 1).val
  let v541 : BitVec 32 := Scalar.minsi v540 arg1
  let v542 : Index := Scalar.indexCast v541
  let c0_302 : Index := 0#32
  let c0_303 : Index := 0#32
  ![v542.toNat, 0, 0]
def k0_off104 (i : grid0.Coords) (k0_t37 : Fin (k0_t37_loop i).trips) : Fin 3 → Nat :=
  let c2_i32_240 : BitVec 32 := 2#32
  let c0_i32_215 : BitVec 32 := 0#32
  let c1_i32_217 : BitVec 32 := 1#32
  let arg27 : BitVec 32 := Scf.iv c0_i32_215 c1_i32_217 k0_t37
  let v400 : BitVec 32 := Scalar.muli c2_i32_240 arg27
  let c1_i32_309 : BitVec 32 := 1#32
  let v555 : BitVec 32 := Scalar.addi v400 c1_i32_309
  let v557 : Index := Scalar.indexCast v555
  let c0_312 : Index := 0#32
  let c0_313 : Index := 0#32
  ![v557.toNat, 0, 0]
def k0_off105 (i : grid0.Coords) (k0_t37 : Fin (k0_t37_loop i).trips) : Fin 3 → Nat :=
  let c2_i32_240 : BitVec 32 := 2#32
  let c0_i32_215 : BitVec 32 := 0#32
  let c1_i32_217 : BitVec 32 := 1#32
  let arg27 : BitVec 32 := Scf.iv c0_i32_215 c1_i32_217 k0_t37
  let v400 : BitVec 32 := Scalar.muli c2_i32_240 arg27
  let c1_i32_309 : BitVec 32 := 1#32
  let v555 : BitVec 32 := Scalar.addi v400 c1_i32_309
  let v584 : Index := Scalar.indexCast v555
  let c0_322 : Index := 0#32
  let c0_323 : Index := 0#32
  ![v584.toNat, 0, 0]
def k0_off106 (i : grid0.Coords) (k0_t37 : Fin (k0_t37_loop i).trips) : Fin 3 → Nat :=
  let c2_i32_240 : BitVec 32 := 2#32
  let c0_i32_215 : BitVec 32 := 0#32
  let c1_i32_217 : BitVec 32 := 1#32
  let arg27 : BitVec 32 := Scf.iv c0_i32_215 c1_i32_217 k0_t37
  let v400 : BitVec 32 := Scalar.muli c2_i32_240 arg27
  let c1_i32_309 : BitVec 32 := 1#32
  let v555 : BitVec 32 := Scalar.addi v400 c1_i32_309
  let v596 : Index := Scalar.indexCast v555
  let c0_327 : Index := 0#32
  let c256_328 : Index := 256#32
  ![v596.toNat, 0, 256]
def k0_off107 (i : grid0.Coords) (k0_t37 : Fin (k0_t37_loop i).trips) : Fin 3 → Nat :=
  let c2_i32_240 : BitVec 32 := 2#32
  let c0_i32_215 : BitVec 32 := 0#32
  let c1_i32_217 : BitVec 32 := 1#32
  let arg27 : BitVec 32 := Scf.iv c0_i32_215 c1_i32_217 k0_t37
  let v400 : BitVec 32 := Scalar.muli c2_i32_240 arg27
  let c1_i32_309 : BitVec 32 := 1#32
  let v555 : BitVec 32 := Scalar.addi v400 c1_i32_309
  let v608 : Index := Scalar.indexCast v555
  let c0_332 : Index := 0#32
  let c512_333 : Index := 512#32
  ![v608.toNat, 0, 512]
def k0_off108 (i : grid0.Coords) (k0_t37 : Fin (k0_t37_loop i).trips) : Fin 3 → Nat :=
  let c2_i32_240 : BitVec 32 := 2#32
  let c0_i32_215 : BitVec 32 := 0#32
  let c1_i32_217 : BitVec 32 := 1#32
  let arg27 : BitVec 32 := Scf.iv c0_i32_215 c1_i32_217 k0_t37
  let v400 : BitVec 32 := Scalar.muli c2_i32_240 arg27
  let c1_i32_309 : BitVec 32 := 1#32
  let v555 : BitVec 32 := Scalar.addi v400 c1_i32_309
  let v620 : Index := Scalar.indexCast v555
  let c0_337 : Index := 0#32
  let c768_338 : Index := 768#32
  ![v620.toNat, 0, 768]
def k0_off109 (i : grid0.Coords) (k0_t37 : Fin (k0_t37_loop i).trips) : Fin 3 → Nat :=
  let c2_i32_240 : BitVec 32 := 2#32
  let c0_i32_215 : BitVec 32 := 0#32
  let c1_i32_217 : BitVec 32 := 1#32
  let arg27 : BitVec 32 := Scf.iv c0_i32_215 c1_i32_217 k0_t37
  let v400 : BitVec 32 := Scalar.muli c2_i32_240 arg27
  let c1_i32_309 : BitVec 32 := 1#32
  let v555 : BitVec 32 := Scalar.addi v400 c1_i32_309
  let v632 : Index := Scalar.indexCast v555
  let c0_342 : Index := 0#32
  let c1024_343 : Index := 1024#32
  ![v632.toNat, 0, 1024]
def k0_off110 (i : grid0.Coords) (k0_t37 : Fin (k0_t37_loop i).trips) : Fin 3 → Nat :=
  let c2_i32_240 : BitVec 32 := 2#32
  let c0_i32_215 : BitVec 32 := 0#32
  let c1_i32_217 : BitVec 32 := 1#32
  let arg27 : BitVec 32 := Scf.iv c0_i32_215 c1_i32_217 k0_t37
  let v400 : BitVec 32 := Scalar.muli c2_i32_240 arg27
  let c1_i32_309 : BitVec 32 := 1#32
  let v555 : BitVec 32 := Scalar.addi v400 c1_i32_309
  let v644 : Index := Scalar.indexCast v555
  let c0_347 : Index := 0#32
  let c1280_348 : Index := 1280#32
  ![v644.toNat, 0, 1280]
def k0_off111 (i : grid0.Coords) (k0_t37 : Fin (k0_t37_loop i).trips) : Fin 3 → Nat :=
  let c2_i32_240 : BitVec 32 := 2#32
  let c0_i32_215 : BitVec 32 := 0#32
  let c1_i32_217 : BitVec 32 := 1#32
  let arg27 : BitVec 32 := Scf.iv c0_i32_215 c1_i32_217 k0_t37
  let v400 : BitVec 32 := Scalar.muli c2_i32_240 arg27
  let c1_i32_309 : BitVec 32 := 1#32
  let v555 : BitVec 32 := Scalar.addi v400 c1_i32_309
  let v656 : Index := Scalar.indexCast v555
  let c0_352 : Index := 0#32
  let c1536_353 : Index := 1536#32
  ![v656.toNat, 0, 1536]
def k0_off112 (i : grid0.Coords) (k0_t37 : Fin (k0_t37_loop i).trips) : Fin 3 → Nat :=
  let c2_i32_240 : BitVec 32 := 2#32
  let c0_i32_215 : BitVec 32 := 0#32
  let c1_i32_217 : BitVec 32 := 1#32
  let arg27 : BitVec 32 := Scf.iv c0_i32_215 c1_i32_217 k0_t37
  let v400 : BitVec 32 := Scalar.muli c2_i32_240 arg27
  let c1_i32_309 : BitVec 32 := 1#32
  let v555 : BitVec 32 := Scalar.addi v400 c1_i32_309
  let v668 : Index := Scalar.indexCast v555
  let c0_357 : Index := 0#32
  let c1792_358 : Index := 1792#32
  ![v668.toNat, 0, 1792]
@[reducible] def k0_t38_loop (i : grid0.Coords) : Scf.Loop 32 :=
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let v364 : BitVec 32 := Scalar.addi c0_i32_215 v363
  let c1_i32_218 : BitVec 32 := 1#32
  ⟨v367, v364, c1_i32_218⟩
def k0_off113 (i : grid0.Coords) (k0_t38 : Fin (k0_t38_loop i).trips) : Fin 3 → Nat :=
  let c2_i32_240 : BitVec 32 := 2#32
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_218 : BitVec 32 := 1#32
  let arg27 : BitVec 32 := Scf.iv v367 c1_i32_218 k0_t38
  let v400 : BitVec 32 := Scalar.muli c2_i32_240 arg27
  let c1_i32_241 : BitVec 32 := 1#32
  let v401 : BitVec 32 := Scalar.addi v400 c1_i32_241
  let v402 : Index := Scalar.indexCast v401
  let c0_242 : Index := 0#32
  let c0_243 : Index := 0#32
  ![v402.toNat, 0, 0]
def k0_off114 (i : grid0.Coords) (k0_t38 : Fin (k0_t38_loop i).trips) : Fin 3 → Nat :=
  let c2_i32_240 : BitVec 32 := 2#32
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_218 : BitVec 32 := 1#32
  let arg27 : BitVec 32 := Scf.iv v367 c1_i32_218 k0_t38
  let v400 : BitVec 32 := Scalar.muli c2_i32_240 arg27
  let v416 : Index := Scalar.indexCast v400
  let c0_251 : Index := 0#32
  let c0_252 : Index := 0#32
  ![v416.toNat, 0, 0]
def k0_off115 (i : grid0.Coords) (k0_t38 : Fin (k0_t38_loop i).trips) : Fin 3 → Nat :=
  let c2_i32_240 : BitVec 32 := 2#32
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_218 : BitVec 32 := 1#32
  let arg27 : BitVec 32 := Scf.iv v367 c1_i32_218 k0_t38
  let v400 : BitVec 32 := Scalar.muli c2_i32_240 arg27
  let v421 : Index := Scalar.indexCast v400
  let c0_253 : Index := 0#32
  let c0_254 : Index := 0#32
  ![v421.toNat, 0, 0]
def k0_off116 (i : grid0.Coords) (k0_t38 : Fin (k0_t38_loop i).trips) : Fin 3 → Nat :=
  let c2_i32_240 : BitVec 32 := 2#32
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_218 : BitVec 32 := 1#32
  let arg27 : BitVec 32 := Scf.iv v367 c1_i32_218 k0_t38
  let v400 : BitVec 32 := Scalar.muli c2_i32_240 arg27
  let v443 : Index := Scalar.indexCast v400
  let c0_261 : Index := 0#32
  let c0_262 : Index := 0#32
  ![v443.toNat, 0, 0]
def k0_off117 (i : grid0.Coords) (k0_t38 : Fin (k0_t38_loop i).trips) : Fin 3 → Nat :=
  let c2_i32_240 : BitVec 32 := 2#32
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_218 : BitVec 32 := 1#32
  let arg27 : BitVec 32 := Scf.iv v367 c1_i32_218 k0_t38
  let v400 : BitVec 32 := Scalar.muli c2_i32_240 arg27
  let v455 : Index := Scalar.indexCast v400
  let c0_266 : Index := 0#32
  let c256_267 : Index := 256#32
  ![v455.toNat, 0, 256]
def k0_off118 (i : grid0.Coords) (k0_t38 : Fin (k0_t38_loop i).trips) : Fin 3 → Nat :=
  let c2_i32_240 : BitVec 32 := 2#32
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_218 : BitVec 32 := 1#32
  let arg27 : BitVec 32 := Scf.iv v367 c1_i32_218 k0_t38
  let v400 : BitVec 32 := Scalar.muli c2_i32_240 arg27
  let v467 : Index := Scalar.indexCast v400
  let c0_271 : Index := 0#32
  let c512_272 : Index := 512#32
  ![v467.toNat, 0, 512]
def k0_off119 (i : grid0.Coords) (k0_t38 : Fin (k0_t38_loop i).trips) : Fin 3 → Nat :=
  let c2_i32_240 : BitVec 32 := 2#32
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_218 : BitVec 32 := 1#32
  let arg27 : BitVec 32 := Scf.iv v367 c1_i32_218 k0_t38
  let v400 : BitVec 32 := Scalar.muli c2_i32_240 arg27
  let v479 : Index := Scalar.indexCast v400
  let c0_276 : Index := 0#32
  let c768_277 : Index := 768#32
  ![v479.toNat, 0, 768]
def k0_off120 (i : grid0.Coords) (k0_t38 : Fin (k0_t38_loop i).trips) : Fin 3 → Nat :=
  let c2_i32_240 : BitVec 32 := 2#32
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_218 : BitVec 32 := 1#32
  let arg27 : BitVec 32 := Scf.iv v367 c1_i32_218 k0_t38
  let v400 : BitVec 32 := Scalar.muli c2_i32_240 arg27
  let v491 : Index := Scalar.indexCast v400
  let c0_281 : Index := 0#32
  let c1024_282 : Index := 1024#32
  ![v491.toNat, 0, 1024]
def k0_off121 (i : grid0.Coords) (k0_t38 : Fin (k0_t38_loop i).trips) : Fin 3 → Nat :=
  let c2_i32_240 : BitVec 32 := 2#32
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_218 : BitVec 32 := 1#32
  let arg27 : BitVec 32 := Scf.iv v367 c1_i32_218 k0_t38
  let v400 : BitVec 32 := Scalar.muli c2_i32_240 arg27
  let v503 : Index := Scalar.indexCast v400
  let c0_286 : Index := 0#32
  let c1280_287 : Index := 1280#32
  ![v503.toNat, 0, 1280]
def k0_off122 (i : grid0.Coords) (k0_t38 : Fin (k0_t38_loop i).trips) : Fin 3 → Nat :=
  let c2_i32_240 : BitVec 32 := 2#32
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_218 : BitVec 32 := 1#32
  let arg27 : BitVec 32 := Scf.iv v367 c1_i32_218 k0_t38
  let v400 : BitVec 32 := Scalar.muli c2_i32_240 arg27
  let v515 : Index := Scalar.indexCast v400
  let c0_291 : Index := 0#32
  let c1536_292 : Index := 1536#32
  ![v515.toNat, 0, 1536]
def k0_off123 (i : grid0.Coords) (k0_t38 : Fin (k0_t38_loop i).trips) : Fin 3 → Nat :=
  let c2_i32_240 : BitVec 32 := 2#32
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_218 : BitVec 32 := 1#32
  let arg27 : BitVec 32 := Scf.iv v367 c1_i32_218 k0_t38
  let v400 : BitVec 32 := Scalar.muli c2_i32_240 arg27
  let v527 : Index := Scalar.indexCast v400
  let c0_296 : Index := 0#32
  let c1792_297 : Index := 1792#32
  ![v527.toNat, 0, 1792]
def k0_off124 (i : grid0.Coords) (k0_t38 : Fin (k0_t38_loop i).trips) : Fin 3 → Nat :=
  let c2_i32_240 : BitVec 32 := 2#32
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_218 : BitVec 32 := 1#32
  let arg27 : BitVec 32 := Scf.iv v367 c1_i32_218 k0_t38
  let v400 : BitVec 32 := Scalar.muli c2_i32_240 arg27
  let c2_i32_301 : BitVec 32 := 2#32
  let v540 : BitVec 32 := Scalar.addi v400 c2_i32_301
  let v541 : BitVec 32 := Scalar.minsi v540 arg1
  let v542 : Index := Scalar.indexCast v541
  let c0_302 : Index := 0#32
  let c0_303 : Index := 0#32
  ![v542.toNat, 0, 0]
def k0_off125 (i : grid0.Coords) (k0_t38 : Fin (k0_t38_loop i).trips) : Fin 3 → Nat :=
  let c2_i32_240 : BitVec 32 := 2#32
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_218 : BitVec 32 := 1#32
  let arg27 : BitVec 32 := Scf.iv v367 c1_i32_218 k0_t38
  let v400 : BitVec 32 := Scalar.muli c2_i32_240 arg27
  let c1_i32_309 : BitVec 32 := 1#32
  let v555 : BitVec 32 := Scalar.addi v400 c1_i32_309
  let v557 : Index := Scalar.indexCast v555
  let c0_312 : Index := 0#32
  let c0_313 : Index := 0#32
  ![v557.toNat, 0, 0]
def k0_off126 (i : grid0.Coords) (k0_t38 : Fin (k0_t38_loop i).trips) : Fin 3 → Nat :=
  let c2_i32_240 : BitVec 32 := 2#32
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_218 : BitVec 32 := 1#32
  let arg27 : BitVec 32 := Scf.iv v367 c1_i32_218 k0_t38
  let v400 : BitVec 32 := Scalar.muli c2_i32_240 arg27
  let c1_i32_309 : BitVec 32 := 1#32
  let v555 : BitVec 32 := Scalar.addi v400 c1_i32_309
  let v584 : Index := Scalar.indexCast v555
  let c0_322 : Index := 0#32
  let c0_323 : Index := 0#32
  ![v584.toNat, 0, 0]
def k0_off127 (i : grid0.Coords) (k0_t38 : Fin (k0_t38_loop i).trips) : Fin 3 → Nat :=
  let c2_i32_240 : BitVec 32 := 2#32
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_218 : BitVec 32 := 1#32
  let arg27 : BitVec 32 := Scf.iv v367 c1_i32_218 k0_t38
  let v400 : BitVec 32 := Scalar.muli c2_i32_240 arg27
  let c1_i32_309 : BitVec 32 := 1#32
  let v555 : BitVec 32 := Scalar.addi v400 c1_i32_309
  let v596 : Index := Scalar.indexCast v555
  let c0_327 : Index := 0#32
  let c256_328 : Index := 256#32
  ![v596.toNat, 0, 256]
def k0_off128 (i : grid0.Coords) (k0_t38 : Fin (k0_t38_loop i).trips) : Fin 3 → Nat :=
  let c2_i32_240 : BitVec 32 := 2#32
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_218 : BitVec 32 := 1#32
  let arg27 : BitVec 32 := Scf.iv v367 c1_i32_218 k0_t38
  let v400 : BitVec 32 := Scalar.muli c2_i32_240 arg27
  let c1_i32_309 : BitVec 32 := 1#32
  let v555 : BitVec 32 := Scalar.addi v400 c1_i32_309
  let v608 : Index := Scalar.indexCast v555
  let c0_332 : Index := 0#32
  let c512_333 : Index := 512#32
  ![v608.toNat, 0, 512]
def k0_off129 (i : grid0.Coords) (k0_t38 : Fin (k0_t38_loop i).trips) : Fin 3 → Nat :=
  let c2_i32_240 : BitVec 32 := 2#32
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_218 : BitVec 32 := 1#32
  let arg27 : BitVec 32 := Scf.iv v367 c1_i32_218 k0_t38
  let v400 : BitVec 32 := Scalar.muli c2_i32_240 arg27
  let c1_i32_309 : BitVec 32 := 1#32
  let v555 : BitVec 32 := Scalar.addi v400 c1_i32_309
  let v620 : Index := Scalar.indexCast v555
  let c0_337 : Index := 0#32
  let c768_338 : Index := 768#32
  ![v620.toNat, 0, 768]
def k0_off130 (i : grid0.Coords) (k0_t38 : Fin (k0_t38_loop i).trips) : Fin 3 → Nat :=
  let c2_i32_240 : BitVec 32 := 2#32
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_218 : BitVec 32 := 1#32
  let arg27 : BitVec 32 := Scf.iv v367 c1_i32_218 k0_t38
  let v400 : BitVec 32 := Scalar.muli c2_i32_240 arg27
  let c1_i32_309 : BitVec 32 := 1#32
  let v555 : BitVec 32 := Scalar.addi v400 c1_i32_309
  let v632 : Index := Scalar.indexCast v555
  let c0_342 : Index := 0#32
  let c1024_343 : Index := 1024#32
  ![v632.toNat, 0, 1024]
def k0_off131 (i : grid0.Coords) (k0_t38 : Fin (k0_t38_loop i).trips) : Fin 3 → Nat :=
  let c2_i32_240 : BitVec 32 := 2#32
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_218 : BitVec 32 := 1#32
  let arg27 : BitVec 32 := Scf.iv v367 c1_i32_218 k0_t38
  let v400 : BitVec 32 := Scalar.muli c2_i32_240 arg27
  let c1_i32_309 : BitVec 32 := 1#32
  let v555 : BitVec 32 := Scalar.addi v400 c1_i32_309
  let v644 : Index := Scalar.indexCast v555
  let c0_347 : Index := 0#32
  let c1280_348 : Index := 1280#32
  ![v644.toNat, 0, 1280]
def k0_off132 (i : grid0.Coords) (k0_t38 : Fin (k0_t38_loop i).trips) : Fin 3 → Nat :=
  let c2_i32_240 : BitVec 32 := 2#32
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_218 : BitVec 32 := 1#32
  let arg27 : BitVec 32 := Scf.iv v367 c1_i32_218 k0_t38
  let v400 : BitVec 32 := Scalar.muli c2_i32_240 arg27
  let c1_i32_309 : BitVec 32 := 1#32
  let v555 : BitVec 32 := Scalar.addi v400 c1_i32_309
  let v656 : Index := Scalar.indexCast v555
  let c0_352 : Index := 0#32
  let c1536_353 : Index := 1536#32
  ![v656.toNat, 0, 1536]
def k0_off133 (i : grid0.Coords) (k0_t38 : Fin (k0_t38_loop i).trips) : Fin 3 → Nat :=
  let c2_i32_240 : BitVec 32 := 2#32
  let c0_i32_215 : BitVec 32 := 0#32
  let arg1 : BitVec 32 := BitVec.ofNat 32 (i 1).val
  let c1_i32 : BitVec 32 := 1#32
  let v0 : BitVec 32 := Scalar.addi arg1 c1_i32
  let c1_i32_214 : BitVec 32 := 1#32
  let v362 : BitVec 32 := Scalar.shrui v0 c1_i32_214
  let v363 : BitVec 32 := Scalar.subi v362 c0_i32_215
  let c1_i32_216 : BitVec 32 := 1#32
  let v365 : BitVec 32 := Scalar.divsi v363 c1_i32_216
  let v366 : BitVec 32 := Scalar.muli v365 c1_i32_216
  let v367 : BitVec 32 := Scalar.addi c0_i32_215 v366
  let c1_i32_218 : BitVec 32 := 1#32
  let arg27 : BitVec 32 := Scf.iv v367 c1_i32_218 k0_t38
  let v400 : BitVec 32 := Scalar.muli c2_i32_240 arg27
  let c1_i32_309 : BitVec 32 := 1#32
  let v555 : BitVec 32 := Scalar.addi v400 c1_i32_309
  let v668 : Index := Scalar.indexCast v555
  let c0_357 : Index := 0#32
  let c1792_358 : Index := 1792#32
  ![v668.toNat, 0, 1792]
def k0_cond12 (i : grid0.Coords) : BitVec 1 :=
  let arg1 : BitVec 32 := BitVec.ofNat 32 (i 1).val
  let c1_i32 : BitVec 32 := 1#32
  let v0 : BitVec 32 := Scalar.addi arg1 c1_i32
  let c1_i32_219 : BitVec 32 := 1#32
  let v370 : BitVec 32 := Scalar.andi v0 c1_i32_219
  let c1_i32_220 : BitVec 32 := 1#32
  let v371 : BitVec 1 := Scalar.cmpi .eq v370 c1_i32_220
  let v372 : BitVec 32 := Scalar.extui v371
  let c0_i32_221 : BitVec 32 := 0#32
  let v373 : BitVec 1 := Scalar.cmpi .ne v372 c0_i32_221
  v373

def k0_off134 (i : grid0.Coords) : Fin 3 → Nat :=
  let arg1 : BitVec 32 := BitVec.ofNat 32 (i 1).val
  let v401 : Index := Scalar.indexCast arg1
  let c0_242 : Index := 0#32
  let c0_243 : Index := 0#32
  ![v401.toNat, 0, 0]
def k0_off135 (i : grid0.Coords) : Fin 3 → Nat :=
  let arg1 : BitVec 32 := BitVec.ofNat 32 (i 1).val
  let v406 : Index := Scalar.indexCast arg1
  let c0_244 : Index := 0#32
  let c0_245 : Index := 0#32
  ![v406.toNat, 0, 0]
def k0_off136 (i : grid0.Coords) : Fin 3 → Nat :=
  let arg1 : BitVec 32 := BitVec.ofNat 32 (i 1).val
  let v428 : Index := Scalar.indexCast arg1
  let c0_252 : Index := 0#32
  let c0_253 : Index := 0#32
  ![v428.toNat, 0, 0]
def k0_off137 (i : grid0.Coords) : Fin 3 → Nat :=
  let arg1 : BitVec 32 := BitVec.ofNat 32 (i 1).val
  let v440 : Index := Scalar.indexCast arg1
  let c0_257 : Index := 0#32
  let c256_258 : Index := 256#32
  ![v440.toNat, 0, 256]
def k0_off138 (i : grid0.Coords) : Fin 3 → Nat :=
  let arg1 : BitVec 32 := BitVec.ofNat 32 (i 1).val
  let v452 : Index := Scalar.indexCast arg1
  let c0_262 : Index := 0#32
  let c512_263 : Index := 512#32
  ![v452.toNat, 0, 512]
def k0_off139 (i : grid0.Coords) : Fin 3 → Nat :=
  let arg1 : BitVec 32 := BitVec.ofNat 32 (i 1).val
  let v464 : Index := Scalar.indexCast arg1
  let c0_267 : Index := 0#32
  let c768_268 : Index := 768#32
  ![v464.toNat, 0, 768]
def k0_off140 (i : grid0.Coords) : Fin 3 → Nat :=
  let arg1 : BitVec 32 := BitVec.ofNat 32 (i 1).val
  let v476 : Index := Scalar.indexCast arg1
  let c0_272 : Index := 0#32
  let c1024_273 : Index := 1024#32
  ![v476.toNat, 0, 1024]
def k0_off141 (i : grid0.Coords) : Fin 3 → Nat :=
  let arg1 : BitVec 32 := BitVec.ofNat 32 (i 1).val
  let v488 : Index := Scalar.indexCast arg1
  let c0_277 : Index := 0#32
  let c1280_278 : Index := 1280#32
  ![v488.toNat, 0, 1280]
def k0_off142 (i : grid0.Coords) : Fin 3 → Nat :=
  let arg1 : BitVec 32 := BitVec.ofNat 32 (i 1).val
  let v500 : Index := Scalar.indexCast arg1
  let c0_282 : Index := 0#32
  let c1536_283 : Index := 1536#32
  ![v500.toNat, 0, 1536]
def k0_off143 (i : grid0.Coords) : Fin 3 → Nat :=
  let arg1 : BitVec 32 := BitVec.ofNat 32 (i 1).val
  let v512 : Index := Scalar.indexCast arg1
  let c0_287 : Index := 0#32
  let c1792_288 : Index := 1792#32
  ![v512.toNat, 0, 1792]
@[reducible] def k0_t39_loop (i : grid0.Coords) : Scf.Loop 32 :=
  let c0_i32_233 : BitVec 32 := 0#32
  let arg1 : BitVec 32 := BitVec.ofNat 32 (i 1).val
  let c1_i32 : BitVec 32 := 1#32
  let v0 : BitVec 32 := Scalar.addi arg1 c1_i32
  let c1_i32_231 : BitVec 32 := 1#32
  let v390 : BitVec 32 := Scalar.shrui v0 c1_i32_231
  let v391 : BitVec 32 := Scalar.subi v390 c0_i32_233
  let c1_i32_234 : BitVec 32 := 1#32
  let v393 : BitVec 32 := Scalar.divsi v391 c1_i32_234
  let v394 : BitVec 32 := Scalar.muli v393 c1_i32_234
  let v395 : BitVec 32 := Scalar.addi c0_i32_233 v394
  let c1_i32_235 : BitVec 32 := 1#32
  ⟨c0_i32_233, v395, c1_i32_235⟩
def k0_off144 (i : grid0.Coords) (k0_t39 : Fin (k0_t39_loop i).trips) : Fin 3 → Nat :=
  let c2_i32_240 : BitVec 32 := 2#32
  let c0_i32_233 : BitVec 32 := 0#32
  let c1_i32_235 : BitVec 32 := 1#32
  let arg27 : BitVec 32 := Scf.iv c0_i32_233 c1_i32_235 k0_t39
  let v400 : BitVec 32 := Scalar.muli c2_i32_240 arg27
  let c1_i32_241 : BitVec 32 := 1#32
  let v401 : BitVec 32 := Scalar.addi v400 c1_i32_241
  let v402 : Index := Scalar.indexCast v401
  let c0_242 : Index := 0#32
  let c0_243 : Index := 0#32
  ![v402.toNat, 0, 0]
def k0_off145 (i : grid0.Coords) (k0_t39 : Fin (k0_t39_loop i).trips) : Fin 3 → Nat :=
  let c2_i32_240 : BitVec 32 := 2#32
  let c0_i32_233 : BitVec 32 := 0#32
  let c1_i32_235 : BitVec 32 := 1#32
  let arg27 : BitVec 32 := Scf.iv c0_i32_233 c1_i32_235 k0_t39
  let v400 : BitVec 32 := Scalar.muli c2_i32_240 arg27
  let v413 : Index := Scalar.indexCast v400
  let c0_248 : Index := 0#32
  let c0_249 : Index := 0#32
  ![v413.toNat, 0, 0]
def k0_off146 (i : grid0.Coords) (k0_t39 : Fin (k0_t39_loop i).trips) : Fin 3 → Nat :=
  let c2_i32_240 : BitVec 32 := 2#32
  let c0_i32_233 : BitVec 32 := 0#32
  let c1_i32_235 : BitVec 32 := 1#32
  let arg27 : BitVec 32 := Scf.iv c0_i32_233 c1_i32_235 k0_t39
  let v400 : BitVec 32 := Scalar.muli c2_i32_240 arg27
  let c2_i32_255 : BitVec 32 := 2#32
  let v422 : BitVec 32 := Scalar.addi v400 c2_i32_255
  let arg1 : BitVec 32 := BitVec.ofNat 32 (i 1).val
  let v423 : BitVec 32 := Scalar.minsi v422 arg1
  let v424 : Index := Scalar.indexCast v423
  let c0_256 : Index := 0#32
  let c0_257 : Index := 0#32
  ![v424.toNat, 0, 0]
def k0_off147 (i : grid0.Coords) (k0_t39 : Fin (k0_t39_loop i).trips) : Fin 3 → Nat :=
  let c2_i32_240 : BitVec 32 := 2#32
  let c0_i32_233 : BitVec 32 := 0#32
  let c1_i32_235 : BitVec 32 := 1#32
  let arg27 : BitVec 32 := Scf.iv c0_i32_233 c1_i32_235 k0_t39
  let v400 : BitVec 32 := Scalar.muli c2_i32_240 arg27
  let c1_i32_260 : BitVec 32 := 1#32
  let v434 : BitVec 32 := Scalar.addi v400 c1_i32_260
  let v436 : Index := Scalar.indexCast v434
  let c0_263 : Index := 0#32
  let c0_264 : Index := 0#32
  ![v436.toNat, 0, 0]
@[reducible] def k0_t40_loop (i : grid0.Coords) : Scf.Loop 32 :=
  let c0_i32_233 : BitVec 32 := 0#32
  let arg1 : BitVec 32 := BitVec.ofNat 32 (i 1).val
  let c1_i32 : BitVec 32 := 1#32
  let v0 : BitVec 32 := Scalar.addi arg1 c1_i32
  let c1_i32_231 : BitVec 32 := 1#32
  let v390 : BitVec 32 := Scalar.shrui v0 c1_i32_231
  let v391 : BitVec 32 := Scalar.subi v390 c0_i32_233
  let c1_i32_234 : BitVec 32 := 1#32
  let v393 : BitVec 32 := Scalar.divsi v391 c1_i32_234
  let v394 : BitVec 32 := Scalar.muli v393 c1_i32_234
  let v395 : BitVec 32 := Scalar.addi c0_i32_233 v394
  let v392 : BitVec 32 := Scalar.addi c0_i32_233 v391
  let c1_i32_236 : BitVec 32 := 1#32
  ⟨v395, v392, c1_i32_236⟩
def k0_off148 (i : grid0.Coords) (k0_t40 : Fin (k0_t40_loop i).trips) : Fin 3 → Nat :=
  let c2_i32_240 : BitVec 32 := 2#32
  let c0_i32_233 : BitVec 32 := 0#32
  let arg1 : BitVec 32 := BitVec.ofNat 32 (i 1).val
  let c1_i32 : BitVec 32 := 1#32
  let v0 : BitVec 32 := Scalar.addi arg1 c1_i32
  let c1_i32_231 : BitVec 32 := 1#32
  let v390 : BitVec 32 := Scalar.shrui v0 c1_i32_231
  let v391 : BitVec 32 := Scalar.subi v390 c0_i32_233
  let c1_i32_234 : BitVec 32 := 1#32
  let v393 : BitVec 32 := Scalar.divsi v391 c1_i32_234
  let v394 : BitVec 32 := Scalar.muli v393 c1_i32_234
  let v395 : BitVec 32 := Scalar.addi c0_i32_233 v394
  let c1_i32_236 : BitVec 32 := 1#32
  let arg27 : BitVec 32 := Scf.iv v395 c1_i32_236 k0_t40
  let v400 : BitVec 32 := Scalar.muli c2_i32_240 arg27
  let c1_i32_241 : BitVec 32 := 1#32
  let v401 : BitVec 32 := Scalar.addi v400 c1_i32_241
  let v402 : Index := Scalar.indexCast v401
  let c0_242 : Index := 0#32
  let c0_243 : Index := 0#32
  ![v402.toNat, 0, 0]
def k0_off149 (i : grid0.Coords) (k0_t40 : Fin (k0_t40_loop i).trips) : Fin 3 → Nat :=
  let c2_i32_240 : BitVec 32 := 2#32
  let c0_i32_233 : BitVec 32 := 0#32
  let arg1 : BitVec 32 := BitVec.ofNat 32 (i 1).val
  let c1_i32 : BitVec 32 := 1#32
  let v0 : BitVec 32 := Scalar.addi arg1 c1_i32
  let c1_i32_231 : BitVec 32 := 1#32
  let v390 : BitVec 32 := Scalar.shrui v0 c1_i32_231
  let v391 : BitVec 32 := Scalar.subi v390 c0_i32_233
  let c1_i32_234 : BitVec 32 := 1#32
  let v393 : BitVec 32 := Scalar.divsi v391 c1_i32_234
  let v394 : BitVec 32 := Scalar.muli v393 c1_i32_234
  let v395 : BitVec 32 := Scalar.addi c0_i32_233 v394
  let c1_i32_236 : BitVec 32 := 1#32
  let arg27 : BitVec 32 := Scf.iv v395 c1_i32_236 k0_t40
  let v400 : BitVec 32 := Scalar.muli c2_i32_240 arg27
  let v413 : Index := Scalar.indexCast v400
  let c0_248 : Index := 0#32
  let c0_249 : Index := 0#32
  ![v413.toNat, 0, 0]
def k0_off150 (i : grid0.Coords) (k0_t40 : Fin (k0_t40_loop i).trips) : Fin 3 → Nat :=
  let c2_i32_240 : BitVec 32 := 2#32
  let c0_i32_233 : BitVec 32 := 0#32
  let arg1 : BitVec 32 := BitVec.ofNat 32 (i 1).val
  let c1_i32 : BitVec 32 := 1#32
  let v0 : BitVec 32 := Scalar.addi arg1 c1_i32
  let c1_i32_231 : BitVec 32 := 1#32
  let v390 : BitVec 32 := Scalar.shrui v0 c1_i32_231
  let v391 : BitVec 32 := Scalar.subi v390 c0_i32_233
  let c1_i32_234 : BitVec 32 := 1#32
  let v393 : BitVec 32 := Scalar.divsi v391 c1_i32_234
  let v394 : BitVec 32 := Scalar.muli v393 c1_i32_234
  let v395 : BitVec 32 := Scalar.addi c0_i32_233 v394
  let c1_i32_236 : BitVec 32 := 1#32
  let arg27 : BitVec 32 := Scf.iv v395 c1_i32_236 k0_t40
  let v400 : BitVec 32 := Scalar.muli c2_i32_240 arg27
  let c2_i32_255 : BitVec 32 := 2#32
  let v422 : BitVec 32 := Scalar.addi v400 c2_i32_255
  let v423 : BitVec 32 := Scalar.minsi v422 arg1
  let v424 : Index := Scalar.indexCast v423
  let c0_256 : Index := 0#32
  let c0_257 : Index := 0#32
  ![v424.toNat, 0, 0]
def k0_off151 (i : grid0.Coords) (k0_t40 : Fin (k0_t40_loop i).trips) : Fin 3 → Nat :=
  let c2_i32_240 : BitVec 32 := 2#32
  let c0_i32_233 : BitVec 32 := 0#32
  let arg1 : BitVec 32 := BitVec.ofNat 32 (i 1).val
  let c1_i32 : BitVec 32 := 1#32
  let v0 : BitVec 32 := Scalar.addi arg1 c1_i32
  let c1_i32_231 : BitVec 32 := 1#32
  let v390 : BitVec 32 := Scalar.shrui v0 c1_i32_231
  let v391 : BitVec 32 := Scalar.subi v390 c0_i32_233
  let c1_i32_234 : BitVec 32 := 1#32
  let v393 : BitVec 32 := Scalar.divsi v391 c1_i32_234
  let v394 : BitVec 32 := Scalar.muli v393 c1_i32_234
  let v395 : BitVec 32 := Scalar.addi c0_i32_233 v394
  let c1_i32_236 : BitVec 32 := 1#32
  let arg27 : BitVec 32 := Scf.iv v395 c1_i32_236 k0_t40
  let v400 : BitVec 32 := Scalar.muli c2_i32_240 arg27
  let c1_i32_260 : BitVec 32 := 1#32
  let v434 : BitVec 32 := Scalar.addi v400 c1_i32_260
  let v436 : Index := Scalar.indexCast v434
  let c0_263 : Index := 0#32
  let c0_264 : Index := 0#32
  ![v436.toNat, 0, 0]
def k0_cond13 (i : grid0.Coords) : BitVec 1 :=
  let arg1 : BitVec 32 := BitVec.ofNat 32 (i 1).val
  let c1_i32 : BitVec 32 := 1#32
  let v0 : BitVec 32 := Scalar.addi arg1 c1_i32
  let c1_i32_237 : BitVec 32 := 1#32
  let v396 : BitVec 32 := Scalar.andi v0 c1_i32_237
  let c1_i32_238 : BitVec 32 := 1#32
  let v397 : BitVec 1 := Scalar.cmpi .eq v396 c1_i32_238
  let v398 : BitVec 32 := Scalar.extui v397
  let c0_i32_239 : BitVec 32 := 0#32
  let v399 : BitVec 1 := Scalar.cmpi .ne v398 c0_i32_239
  v399

def k0_off152 (i : grid0.Coords) : Fin 3 → Nat :=
  let arg1 : BitVec 32 := BitVec.ofNat 32 (i 1).val
  let v401 : Index := Scalar.indexCast arg1
  let c0_242 : Index := 0#32
  let c0_243 : Index := 0#32
  ![v401.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg0.toNat, arg1.toNat, c13_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c12_i32 : BitVec 32 := 12#32
  let c0_i32_0 : BitVec 32 := 0#32
  ![arg0.toNat, c0_i32.toNat, c12_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c12_i32 : BitVec 32 := 12#32
  let c0_i32_0 : BitVec 32 := 0#32
  ![arg0.toNat, c0_i32.toNat, c12_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c13_i32 : BitVec 32 := 13#32
  let c0_i32_0 : BitVec 32 := 0#32
  ![arg0.toNat, c0_i32.toNat, c13_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x64x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel2.lean ====
abbrev S16x2048x1024 : Shape := ⟨3, ![16, 2048, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S32768x1024 : Shape := ⟨2, ![32768, 1024]⟩
abbrev S1x1024 : Shape := ⟨2, ![1, 1024]⟩
abbrev S1024x1024 : Shape := ⟨2, ![1024, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 13
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S32768x1024, .f32⟩
  | .hbm, ⟨6, _⟩ => ⟨S1x1024, .f32⟩
  | .hbm, ⟨7, _⟩ => ⟨S1024, .f32⟩
  | .hbm, ⟨8, _⟩ => ⟨S2x1024x5632, .bf16⟩
  | .hbm, ⟨9, _⟩ => ⟨S2x2816x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16x2048x1024 : Shape := ⟨3, ![16, 2048, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S32768x1024 : Shape := ⟨2, ![32768, 1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S1x1024x5632 : Shape := ⟨3, ![1, 1024, 5632]⟩
abbrev S1024x5632 : Shape := ⟨2, ![1024, 5632]⟩
abbrev S32768x5632 : Shape := ⟨2, ![32768, 5632]⟩
abbrev S32768x2816 : Shape := ⟨2, ![32768, 2816]⟩
abbrev S1x2816x1024 : Shape := ⟨3, ![1, 2816, 1024]⟩
abbrev S2816x1024 : Shape := ⟨2, ![2816, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S32768x1024, .f32⟩
  | .hbm, ⟨6, _⟩ => ⟨S1x1024, .f32⟩
  | .hbm, ⟨7, _⟩ => ⟨S1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S1x1024x5632, .f32⟩
  | .hbm, ⟨25, _⟩ => ⟨S1024x5632, .f32⟩
  | .hbm, ⟨26, _⟩ => ⟨S32768x5632, .f32⟩
  | .hbm, ⟨27, _⟩ => ⟨S32768x2816, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S_, .f32⟩
  | .hbm, ⟨32, _⟩ => ⟨S32768x2816, .f32⟩
  | .hbm, ⟨33, _⟩ => ⟨S32768x2816, .f32⟩
  | .hbm, ⟨34, _⟩ => ⟨S_, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S1x2816x1024, .f32⟩
  | .hbm, ⟨40, _⟩ => ⟨S2816x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S32768x1, .f32⟩
  | .hbm, ⟨54, _⟩ => ⟨S32768x1024, .f32⟩
  | .hbm, ⟨55, _⟩ => ⟨S32768x1024, .f32⟩
  | .hbm, ⟨56, _⟩ => ⟨S1x1024, .f32⟩
  | .hbm, ⟨57, _⟩ => ⟨S32768x1024, .f32⟩
  | .hbm, ⟨58, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== Kernel3.lean ====
abbrev S16x2048x1024 : Shape := ⟨3, ![16, 2048, 1024]⟩
abbrev S2x1024 : Shape := ⟨2, ![2, 1024]⟩
abbrev S1x1024x2048 : Shape := ⟨3, ![1, 1024, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S128x8 : Shape := ⟨2, ![128, 8]⟩
abbrev S128x8x128 : Shape := ⟨3, ![128, 8, 128]⟩
abbrev S128x1024 : Shape := ⟨2, ![128, 1024]⟩
abbrev S128x128 : Shape := ⟨2, ![128, 128]⟩
abbrev S1x128x128 : Shape := ⟨3, ![1, 128, 128]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S128x256 : Shape := ⟨2, ![128, 256]⟩

abbrev nBuf : Space → Nat
  | .hbm => 25
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S1x1024x2048, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1x1024x1024, .f32⟩
  | .hbm, ⟨8, _⟩ => ⟨S1x1024, .f32⟩
  | .hbm, ⟨9, _⟩ => ⟨S1024, .f32⟩
  | .hbm, ⟨10, _⟩ => ⟨S1024x2048, .f32⟩
  | .hbm, ⟨11, _⟩ => ⟨S1024, .f32⟩
  | .hbm, ⟨12, _⟩ => ⟨S1024, .f32⟩
  | .hbm, ⟨13, _⟩ => ⟨S8x128x128, .f32⟩
  | .hbm, ⟨14, _⟩ => ⟨S8x128, .f32⟩
  | .hbm, ⟨15, _⟩ => ⟨S1024x1024, .f32⟩
  | .hbm, ⟨16, _⟩ => ⟨S128x8, .f32⟩
  | .hbm, ⟨17, _⟩ => ⟨S128x8x128, .f32⟩
  | .hbm, ⟨18, _⟩ => ⟨S128x1024, .f32⟩
  | .hbm, ⟨19, _⟩ => ⟨S1x1024, .f32⟩
  | .hbm, ⟨20, _⟩ => ⟨S1024x2048, .bf16⟩
  | .hbm, ⟨21, _⟩ => ⟨S1x1024, .f32⟩
  | .hbm, ⟨22, _⟩ => ⟨S1x1024, .f32⟩
  | .hbm, ⟨23, _⟩ => ⟨S1024x1024, .bf16⟩
  | .hbm, ⟨24, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x1024, .f32⟩
  | .local _ .vmem, ⟨8, _⟩ => ⟨S1024x1024, .bf16⟩
  | .local _ .vmem, ⟨9, _⟩ => ⟨S1x1024x1024, .f32⟩
  | .local _ .vmem, ⟨10, _⟩ => ⟨S1x1024x1024, .f32⟩
  | .local _ .vmem, ⟨11, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S16x2048x1024 : Shape := ⟨3, ![16, 2048, 1024]⟩
abbrev S2x1024 : Shape := ⟨2, ![2, 1024]⟩
abbrev S1x1024x2048 : Shape := ⟨3, ![1, 1024, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2048 : Shape := ⟨2, ![1024, 2048]⟩
abbrev S16x2048x2048 : Shape := ⟨3, ![16, 2048, 2048]⟩
abbrev S16x16x128x8x128 : Shape := ⟨5, ![16, 16, 128, 8, 128]⟩
abbrev S128x128 : Shape := ⟨2, ![128, 128]⟩
abbrev S8x128x128 : Shape := ⟨3, ![8, 128, 128]⟩
abbrev S8x16x16x128x128 : Shape := ⟨5, ![8, 16, 16, 128, 128]⟩
abbrev S8x128 : Shape := ⟨2, ![8, 128]⟩
abbrev S128x8 : Shape := ⟨2, ![128, 8]⟩
abbrev S1x1x128x8x1 : Shape := ⟨5, ![1, 1, 128, 8, 1]⟩
abbrev S1024x1024 : Shape := ⟨2, ![1024, 1024]⟩

abbrev nBuf : Space → Nat
  | .hbm => 102
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S1x1024x2048, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1x1024x1024, .f32⟩
  | .hbm, ⟨8, _⟩ => ⟨S1x1024, .f32⟩
  | .hbm, ⟨9, _⟩ => ⟨S1024, .f32⟩
  | .hbm, ⟨10, _⟩ => ⟨S16x2048x1024, .f32⟩
  | .hbm, ⟨11, _⟩ => ⟨S_, .f32⟩
  | .hbm, ⟨12, _⟩ => ⟨S16x2048, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S16x2048x1, .f32⟩
  | .hbm, ⟨21, _⟩ => ⟨S16x2048x1024, .f32⟩
  | .hbm, ⟨22, _⟩ => ⟨S16x2048x1024, .f32⟩
  | .hbm, ⟨23, _⟩ => ⟨S1x1x1024, .f32⟩
  | .hbm, ⟨24, _⟩ => ⟨S16x2048x1024, .f32⟩
  | .hbm, ⟨25, _⟩ => ⟨S16x2048x1024, .f32⟩
  | .hbm, ⟨26, _⟩ => ⟨S1024x2048, .f32⟩
  | .hbm, ⟨27, _⟩ => ⟨S16x2048x2048, .f32⟩
  | .hbm, ⟨28, _⟩ => ⟨S_, .f32⟩
  | .hbm, ⟨29, _⟩ => ⟨S16x2048x2048, .f32⟩
  | .hbm, ⟨30, _⟩ => ⟨S16x2048x2048, .f32⟩
  | .hbm, ⟨31, _⟩ => ⟨S_, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S_, .f32⟩
  | .hbm, ⟨36, _⟩ => ⟨S16x2048x2048, .f32⟩
  | .hbm, ⟨37, _⟩ => ⟨S16x2048x2048, .f32⟩
  | .hbm, ⟨38, _⟩ => ⟨S16x2048x2048, .f32⟩
  | .hbm, ⟨39, _⟩ => ⟨S16x2048x1024, .f32⟩
  | .hbm, ⟨40, _⟩ => ⟨S16x2048x1024, .f32⟩
  | .hbm, ⟨41, _⟩ => ⟨S_, .f32⟩
  | .hbm, ⟨42, _⟩ => ⟨S16x2048, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S_, .f32⟩
  | .hbm, ⟨51, _⟩ => ⟨S16x2048, .f32⟩
  | .hbm, ⟨52, _⟩ => ⟨S16x2048x1, .f32⟩
  | .hbm, ⟨53, _⟩ => ⟨S_, .f32⟩
  | .hbm, ⟨54, _⟩ => ⟨S16x2048x1, .f32⟩
  | .hbm, ⟨55, _⟩ => ⟨S16x2048x1, .f32⟩
  | .hbm, ⟨56, _⟩ => ⟨S16x2048x1024, .f32⟩
  | .hbm, ⟨57, _⟩ => ⟨S16x2048x1024, .f32⟩
  | .hbm, ⟨58, _⟩ => ⟨S_, .f32⟩
  | .hbm, ⟨59, _⟩ => ⟨S16x2048x1, .f32⟩
  | .hbm, ⟨60, _⟩ => ⟨S16x2048x1, .f32⟩
  | .hbm, ⟨61, _⟩ => ⟨S16x2048x1, .f32⟩
  | .hbm, ⟨62, _⟩ => ⟨S16x2048x1024, .f32⟩
  | .hbm, ⟨63, _⟩ => ⟨S16x2048x1024, .f32⟩
  | .hbm, ⟨64, _⟩ => ⟨S1024, .f32⟩
  | .hbm, ⟨65, _⟩ => ⟨S1x1x1024, .f32⟩
  | .hbm, ⟨66, _⟩ => ⟨S16x2048x1024, .f32⟩
  | .hbm, ⟨67, _⟩ => ⟨S16x2048x1024, .f32⟩
  | .hbm, ⟨68, _⟩ => ⟨S1024, .f32⟩
  | .hbm, ⟨69, _⟩ => ⟨S1x1x1024, .f32⟩
  | .hbm, ⟨70, _⟩ => ⟨S16x2048x1024, .f32⟩
  | .hbm, ⟨71, _⟩ => ⟨S16x2048x1024, .f32⟩
  | .hbm, ⟨72, _⟩ => ⟨S16x16x128x8x128, .f32⟩
  | .hbm, ⟨73, _⟩ => ⟨S_, .i1⟩
  | .hbm, ⟨74, _⟩ => ⟨S128x128, .i1⟩
  | .hbm, ⟨75, _⟩ => ⟨S128x128, .i32⟩
  | .hbm, ⟨76, _⟩ => ⟨S_, .i32⟩
  | .hbm, ⟨77, _⟩ => ⟨S128x128, .i32⟩
  | .hbm, ⟨78, _⟩ => ⟨S128x128, .i32⟩
  | .hbm, ⟨79, _⟩ => ⟨S128x128, .i32⟩
  | .hbm, ⟨80, _⟩ => ⟨S128x128, .i1⟩
  | .hbm, ⟨81, _⟩ => ⟨S_, .i1⟩
  | .hbm, ⟨82, _⟩ => ⟨S128x128, .i1⟩
  | .hbm, ⟨83, _⟩ => ⟨S128x128, .i1⟩
  | .hbm, ⟨84, _⟩ => ⟨S8x128x128, .f32⟩
  | .hbm, ⟨85, _⟩ => ⟨S_, .f32⟩
  | .hbm, ⟨86, _⟩ => ⟨S_, .f32⟩
  | .hbm, ⟨87, _⟩ => ⟨S8x128x128, .i1⟩
  | .hbm, ⟨88, _⟩ => ⟨S8x128x128, .f32⟩
  | .hbm, ⟨89, _⟩ => ⟨S8x128x128, .f32⟩
  | .hbm, ⟨90, _⟩ => ⟨S8x16x16x128x128, .f32⟩
  | .hbm, ⟨91, _⟩ => ⟨S16x16x128x8x128, .f32⟩
  | .hbm, ⟨92, _⟩ => ⟨S8x128, .f32⟩
  | .hbm, ⟨93, _⟩ => ⟨S128x8, .f32⟩
  | .hbm, ⟨94, _⟩ => ⟨S1x1x128x8x1, .f32⟩
  | .hbm, ⟨95, _⟩ => ⟨S16x16x128x8x128, .f32⟩
  | .hbm, ⟨96, _⟩ => ⟨S16x16x128x8x128, .f32⟩
  | .hbm, ⟨97, _⟩ => ⟨S16x2048x1024, .f32⟩
  | .hbm, ⟨98, _⟩ => ⟨S16x2048x1024, .f32⟩
  | .hbm, ⟨99, _⟩ => ⟨S1024x1024, .f32⟩
  | .hbm, ⟨100, _⟩ => ⟨S16x2048x1024, .f32⟩
  | .hbm, ⟨101, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c : Ref sig .tc := ⟨.hbm, 73, rfl⟩
abbrev main_v54 : Ref sig .tc := ⟨.hbm, 74, rfl⟩
abbrev main_call0_v0 : Ref sig .tc := ⟨.hbm, 75, rfl⟩
abbrev main_call0_c : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_c_0 : Ref sig .tc := ⟨.hbm, 81, rfl⟩
abbrev main_call0_v5 : Ref sig .tc := ⟨.hbm, 82, rfl⟩
abbrev main_v55 : Ref sig .tc := ⟨.hbm, 83, rfl⟩
abbrev main_v56 : Ref sig .tc := ⟨.hbm, 84, rfl⟩
abbrev main_cst_10 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩

abbrev nD : Nat := 1
abbrev τ : Topo := Topo.v7x

variable {F : FTy → Type} [FloatOps F]
-- ==== Kernel4.lean ====
abbrev S16x2048x1024 : Shape := ⟨3, ![16, 2048, 1024]⟩
abbrev S2x1024 : Shape := ⟨2, ![2, 1024]⟩
abbrev S2x1024x512 : Shape := ⟨3, ![2, 1024, 512]⟩
abbrev S16x256x1024 : Shape := ⟨3, ![16, 256, 1024]⟩
abbrev S2x512x1024 : Shape := ⟨3, ![2, 512, 1024]⟩
abbrev S1x1024 : Shape := ⟨2, ![1, 1024]⟩
abbrev S1024 : Shape := ⟨1, ![1024]⟩
abbrev S1x1024x1024 : Shape := ⟨3, ![1, 1024, 1024]⟩
abbrev S1x1024x512 : Shape := ⟨3, ![1, 1024, 512]⟩
abbrev S1x256x512 : Shape := ⟨3, ![1, 256, 512]⟩
abbrev S1x512x1024 : Shape := ⟨3, ![1, 512, 1024]⟩
abbrev S1024x1024 : Shape := ⟨2, ![1024, 1024]⟩
abbrev S1024x1 : Shape := ⟨2, ![1024, 1]⟩
abbrev S1024x512 : Shape := ⟨2, ![1024, 512]⟩
abbrev S256x128 : Shape := ⟨2, ![256, 128]⟩
abbrev S1024x128 : Shape := ⟨2, ![1024, 128]⟩
abbrev S1x256x128 : Shape := ⟨3, ![1, 256, 128]⟩
abbrev S1024x256 : Shape := ⟨2, ![1024, 256]⟩
abbrev S256x256 : Shape := ⟨2, ![256, 256]⟩
abbrev S512x1024 : Shape := ⟨2, ![512, 1024]⟩

abbrev nBuf : Space → Nat
  | .hbm => 11
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x512, .f32⟩
  | .hbm, ⟨3, _⟩ => ⟨S16x256x1024, .bf16⟩
  | .hbm, ⟨4, _⟩ => ⟨S2x512x1024, .f32⟩
  | .hbm, ⟨5, _⟩ => ⟨S1x1024, .f32⟩
  | .hbm, ⟨6, _⟩ => ⟨S1024, .f32⟩
  | .hbm, ⟨7, _⟩ => ⟨S2x1024x512, .bf16⟩
  | .hbm, ⟨8, _⟩ => ⟨S2x512x1024, .bf16⟩
  | .hbm, ⟨9, _⟩ => ⟨S1x1024, .f32⟩
  | .hbm, ⟨10, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x512x1024, .bf16⟩
  | .local _ .vmem, ⟨9, _⟩ => ⟨S1x1024x1024, .f32⟩
  | .local _ .vmem, ⟨10, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel4Ideal.lean ====
variable {F : FTy → Type} [FloatOps F] [Named F]
def κ : String → Option EReal := fun
  | "scale2" => some (((11863283 / 134217728) * (Real.log 2)⁻¹ : ℝ) : EReal)
  | _ => none
-- ==== Reference4Ideal.lean ====
abbrev S16x2048x1024 : Shape := ⟨3, ![16, 2048, 1024]⟩
abbrev S2x1024 : Shape := ⟨2, ![2, 1024]⟩
abbrev S2x1024x512 : Shape := ⟨3, ![2, 1024, 512]⟩
abbrev S16x256x1024 : Shape := ⟨3, ![16, 256, 1024]⟩
abbrev S2x512x1024 : Shape := ⟨3, ![2, 512, 1024]⟩
abbrev S1x1024 : Shape := ⟨2, ![1, 1024]⟩
abbrev S1024 : Shape := ⟨1, ![1024]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x512 : Shape := ⟨3, ![16, 2048, 512]⟩
abbrev S16x2048x4x128 : Shape := ⟨4, ![16, 2048, 4, 128]⟩
abbrev S16x256x512 : Shape := ⟨3, ![16, 256, 512]⟩
abbrev S16x256x4x128 : Shape := ⟨4, ![16, 256, 4, 128]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x512, .f32⟩
  | .hbm, ⟨3, _⟩ => ⟨S16x256x1024, .bf16⟩
  | .hbm, ⟨4, _⟩ => ⟨S2x512x1024, .f32⟩
  | .hbm, ⟨5, _⟩ => ⟨S1x1024, .f32⟩
  | .hbm, ⟨6, _⟩ => ⟨S1024, .f32⟩
  | .hbm, ⟨7, _⟩ => ⟨S1x1024x512, .f32⟩
  | .hbm, ⟨8, _⟩ => ⟨S1024x512, .f32⟩
  | .hbm, ⟨9, _⟩ => ⟨S1x512x1024, .f32⟩
  | .hbm, ⟨10, _⟩ => ⟨S512x1024, .f32⟩
  | .hbm, ⟨11, _⟩ => ⟨S16x2048x1024, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S16x2048x1, .f32⟩
  | .hbm, ⟨22, _⟩ => ⟨S16x2048x1024, .f32⟩
  | .hbm, ⟨23, _⟩ => ⟨S16x2048x1024, .f32⟩
  | .hbm, ⟨24, _⟩ => ⟨S1x1x1024, .f32⟩
  | .hbm, ⟨25, _⟩ => ⟨S16x2048x1024, .f32⟩
  | .hbm, ⟨26, _⟩ => ⟨S16x2048x1024, .f32⟩
  | .hbm, ⟨27, _⟩ => ⟨S16x2048x512, .f32⟩
  | .hbm, ⟨28, _⟩ => ⟨S16x2048x4x128, .f32⟩
  | .hbm, ⟨29, _⟩ => ⟨S16x256x1024, .f32⟩
  | .hbm, ⟨30, _⟩ => ⟨S16x256x512, .f32⟩
  | .hbm, ⟨31, _⟩ => ⟨S16x256x512, .f32⟩
  | .hbm, ⟨32, _⟩ => ⟨S16x256x4x128, .f32⟩
  | .hbm, ⟨33, _⟩ => ⟨S16x256x4x128, .f32⟩
  | .hbm, ⟨34, _⟩ => ⟨S16x4x2048x256, .f32⟩
  | .hbm, ⟨35, _⟩ => ⟨S_, .f32⟩
  | .hbm, ⟨36, _⟩ => ⟨S16x4x2048x256, .f32⟩
  | .hbm, ⟨37, _⟩ => ⟨S16x4x2048x256, .f32⟩
  | .hbm, ⟨38, _⟩ => ⟨S_, .f32⟩
  | .hbm, ⟨39, _⟩ => ⟨S16x4x2048, .f32⟩
  | .hbm, ⟨40, _⟩ => ⟨S_, .f32⟩
  | .hbm, ⟨41, _⟩ => ⟨S16x4x2048, .f32⟩
  | .hbm, ⟨42, _⟩ => ⟨S16x4x2048, .f32⟩
  | .hbm, ⟨43, _⟩ => ⟨S16x4x2048x1, .f32⟩
  | .hbm, ⟨44, _⟩ => ⟨S16x4x2048x256, .f32⟩
  | .hbm, ⟨45, _⟩ => ⟨S16x4x2048x256, .f32⟩
  | .hbm, ⟨46, _⟩ => ⟨S16x4x2048x256, .f32⟩
  | .hbm, ⟨47, _⟩ => ⟨S_, .f32⟩
  | .hbm, ⟨48, _⟩ => ⟨S16x4x2048, .f32⟩
  | .hbm, ⟨49, _⟩ => ⟨S16x4x2048x1, .f32⟩
  | .hbm, ⟨50, _⟩ => ⟨S16x4x2048x256, .f32⟩
  | .hbm, ⟨51, _⟩ => ⟨S16x4x2048x256, .f32⟩
  | .hbm, ⟨52, _⟩ => ⟨S16x4x128x2048, .f32⟩
  | .hbm, ⟨53, _⟩ => ⟨S16x2048x4x128, .f32⟩
  | .hbm, ⟨54, _⟩ => ⟨S16x2048x512, .f32⟩
  | .hbm, ⟨55, _⟩ => ⟨S16x2048x1024, .f32⟩
  | .hbm, ⟨56, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Kernel5.lean ====
abbrev S16x2048x1024 : Shape := ⟨3, ![16, 2048, 1024]⟩
abbrev S2x1024 : Shape := ⟨2, ![2, 1024]⟩
abbrev S1x1024x3272 : Shape := ⟨3, ![1, 1024, 3272]⟩
abbrev S32768x1024 : Shape := ⟨2, ![32768, 1024]⟩
abbrev S1x1024 : Shape := ⟨2, ![1, 1024]⟩
abbrev S1024 : Shape := ⟨1, ![1024]⟩
abbrev S1024x3272 : Shape := ⟨2, ![1024, 3272]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S_ : Shape := ⟨0, ![]⟩
abbrev S1024x120 : Shape := ⟨2, ![1024, 120]⟩
abbrev S1024x3584 : Shape := ⟨2, ![1024, 3584]⟩
abbrev S32768x1792 : Shape := ⟨2, ![32768, 1792]⟩
abbrev S1024x1024 : Shape := ⟨2, ![1024, 1024]⟩
abbrev S1024x1792 : Shape := ⟨2, ![1024, 1792]⟩
abbrev S1024x1 : Shape := ⟨2, ![1024, 1]⟩
abbrev S1024x256 : Shape := ⟨2, ![1024, 256]⟩

abbrev nBuf : Space → Nat
  | .hbm => 27
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S1x1024x3272, .f32⟩
  | .hbm, ⟨3, _⟩ => ⟨S32768x1024, .f32⟩
  | .hbm, ⟨4, _⟩ => ⟨S1x1024, .f32⟩
  | .hbm, ⟨5, _⟩ => ⟨S1024, .f32⟩
  | .hbm, ⟨6, _⟩ => ⟨S1024x3272, .f32⟩
  | .hbm, ⟨7, _⟩ => ⟨S1024x3272, .bf16⟩
  | .hbm, ⟨8, _⟩ => ⟨S1024x512, .bf16⟩
  | .hbm, ⟨9, _⟩ => ⟨S1024x128, .bf16⟩
  | .hbm, ⟨10, _⟩ => ⟨S1024x512, .bf16⟩
  | .hbm, ⟨11, _⟩ => ⟨S1024x64, .bf16⟩
  | .hbm, ⟨12, _⟩ => ⟨S1024x8, .bf16⟩
  | .hbm, ⟨13, _⟩ => ⟨S1024x512, .bf16⟩
  | .hbm, ⟨14, _⟩ => ⟨S1024x512, .bf16⟩
  | .hbm, ⟨15, _⟩ => ⟨S1024x512, .bf16⟩
  | .hbm, ⟨16, _⟩ => ⟨S1024x512, .bf16⟩
  | .hbm, ⟨17, _⟩ => ⟨S_, .bf16⟩
  | .hbm, ⟨18, _⟩ => ⟨S1024x64, .bf16⟩
  | .hbm, ⟨19, _⟩ => ⟨S_, .bf16⟩
  | .hbm, ⟨20, _⟩ => ⟨S1024x64, .bf16⟩
  | .hbm, ⟨21, _⟩ => ⟨S_, .bf16⟩
  | .hbm, ⟨22, _⟩ => ⟨S1024x120, .bf16⟩
  | .hbm, ⟨23, _⟩ => ⟨S1024x3584, .bf16⟩
  | .hbm, ⟨24, _⟩ => ⟨S1x1024, .f32⟩
  | .hbm, ⟨25, _⟩ => ⟨S32768x1792, .bf16⟩
  | .hbm, ⟨26, _⟩ => ⟨S32768x1792, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3584, .bf16⟩
  | .local _ .vmem, ⟨4, _⟩ => ⟨S1024x1792, .bf16⟩
  | .local _ .vmem, ⟨5, _⟩ => ⟨S1024x1792, .bf16⟩
  | .local _ .vmem, ⟨6, _⟩ => ⟨S1024x1792, .f32⟩
  | .local _ .vmem, ⟨7, _⟩ => ⟨S1024x1792, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S16x2048x1024 : Shape := ⟨3, ![16, 2048, 1024]⟩
abbrev S2x1024 : Shape := ⟨2, ![2, 1024]⟩
abbrev S1x1024x3272 : Shape := ⟨3, ![1, 1024, 3272]⟩
abbrev S32768x1024 : Shape := ⟨2, ![32768, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x3272 : Shape := ⟨2, ![1024, 3272]⟩
abbrev S32768x3272 : Shape := ⟨2, ![32768, 3272]⟩
abbrev S32768x512 : Shape := ⟨2, ![32768, 512]⟩
abbrev S32768x128 : Shape := ⟨2, ![32768, 128]⟩
abbrev S32768x64 : Shape := ⟨2, ![32768, 64]⟩
abbrev S32768x8 : Shape := ⟨2, ![32768, 8]⟩
abbrev S32768x1792 : Shape := ⟨2, ![32768, 1792]⟩
abbrev S32768x120 : Shape := ⟨2, ![32768, 120]⟩

abbrev nBuf : Space → Nat
  | .hbm => 42
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S1x1024x3272, .f32⟩
  | .hbm, ⟨3, _⟩ => ⟨S32768x1024, .f32⟩
  | .hbm, ⟨4, _⟩ => ⟨S1x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1024x3272, .f32⟩
  | .hbm, ⟨23, _⟩ => ⟨S32768x3272, .f32⟩
  | .hbm, ⟨24, _⟩ => ⟨S32768x512, .f32⟩
  | .hbm, ⟨25, _⟩ => ⟨S32768x128, .f32⟩
  | .hbm, ⟨26, _⟩ => ⟨S32768x512, .f32⟩
  | .hbm, ⟨27, _⟩ => ⟨S32768x64, .f32⟩
  | .hbm, ⟨28, _⟩ => ⟨S32768x8, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S_, .f32⟩
  | .hbm, ⟨34, _⟩ => ⟨S32768x64, .f32⟩
  | .hbm, ⟨35, _⟩ => ⟨S_, .f32⟩
  | .hbm, ⟨36, _⟩ => ⟨S32768x64, .f32⟩
  | .hbm, ⟨37, _⟩ => ⟨S32768x1792, .f32⟩
  | .hbm, ⟨38, _⟩ => ⟨S32768x1792, .bf16⟩
  | .hbm, ⟨39, _⟩ => ⟨S_, .f32⟩
  | .hbm, ⟨40, _⟩ => ⟨S32768x120, .f32⟩
  | .hbm, ⟨41, _⟩ => ⟨S32768x1792, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Kernel6.lean ====
abbrev S16x2048x1024 : Shape := ⟨3, ![16, 2048, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S32768x1024 : Shape := ⟨2, ![32768, 1024]⟩
abbrev S1x1024 : Shape := ⟨2, ![1, 1024]⟩
abbrev S1024x1024 : Shape := ⟨2, ![1024, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 13
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S32768x1024, .f32⟩
  | .hbm, ⟨6, _⟩ => ⟨S1x1024, .f32⟩
  | .hbm, ⟨7, _⟩ => ⟨S1024, .f32⟩
  | .hbm, ⟨8, _⟩ => ⟨S2x1024x5632, .bf16⟩
  | .hbm, ⟨9, _⟩ => ⟨S2x2816x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S16x2048x1024 : Shape := ⟨3, ![16, 2048, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S32768x1024 : Shape := ⟨2, ![32768, 1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S1x1024x5632 : Shape := ⟨3, ![1, 1024, 5632]⟩
abbrev S1024x5632 : Shape := ⟨2, ![1024, 5632]⟩
abbrev S32768x5632 : Shape := ⟨2, ![32768, 5632]⟩
abbrev S32768x2816 : Shape := ⟨2, ![32768, 2816]⟩
abbrev S1x2816x1024 : Shape := ⟨3, ![1, 2816, 1024]⟩
abbrev S2816x1024 : Shape := ⟨2, ![2816, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S32768x1024, .f32⟩
  | .hbm, ⟨6, _⟩ => ⟨S1x1024, .f32⟩
  | .hbm, ⟨7, _⟩ => ⟨S1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S1x1024x5632, .f32⟩
  | .hbm, ⟨25, _⟩ => ⟨S1024x5632, .f32⟩
  | .hbm, ⟨26, _⟩ => ⟨S32768x5632, .f32⟩
  | .hbm, ⟨27, _⟩ => ⟨S32768x2816, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S_, .f32⟩
  | .hbm, ⟨32, _⟩ => ⟨S32768x2816, .f32⟩
  | .hbm, ⟨33, _⟩ => ⟨S32768x2816, .f32⟩
  | .hbm, ⟨34, _⟩ => ⟨S_, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S1x2816x1024, .f32⟩
  | .hbm, ⟨40, _⟩ => ⟨S2816x1024, .f32⟩
  | .hbm, ⟨41, _⟩ => ⟨S32768x1024, .f32⟩
  | .hbm, ⟨42, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Kernel7.lean ====
abbrev S16x2048x1024 : Shape := ⟨3, ![16, 2048, 1024]⟩
abbrev S16x512x2048 : Shape := ⟨3, ![16, 512, 2048]⟩
abbrev S16x2048x512 : Shape := ⟨3, ![16, 2048, 512]⟩
abbrev S1x1024x1024 : Shape := ⟨3, ![1, 1024, 1024]⟩
abbrev S2x1024 : Shape := ⟨2, ![2, 1024]⟩
abbrev S2x1024x512 : Shape := ⟨3, ![2, 1024, 512]⟩
abbrev S16x256x1024 : Shape := ⟨3, ![16, 256, 1024]⟩
abbrev S2x512x1024 : Shape := ⟨3, ![2, 512, 1024]⟩
abbrev S1x1024 : Shape := ⟨2, ![1, 1024]⟩
abbrev S1024 : Shape := ⟨1, ![1024]⟩
abbrev S1024x1024 : Shape := ⟨2, ![1024, 1024]⟩
abbrev S1x512x1024 : Shape := ⟨3, ![1, 512, 1024]⟩
abbrev S1x1024x512 : Shape := ⟨3, ![1, 1024, 512]⟩
abbrev S512x1024 : Shape := ⟨2, ![512, 1024]⟩
abbrev S1x256x512 : Shape := ⟨3, ![1, 256, 512]⟩
abbrev S1024x512 : Shape := ⟨2, ![1024, 512]⟩
abbrev S1024x1 : Shape := ⟨2, ![1024, 1]⟩
abbrev S256x128 : Shape := ⟨2, ![256, 128]⟩
abbrev S1024x128 : Shape := ⟨2, ![1024, 128]⟩
abbrev S1x256x128 : Shape := ⟨3, ![1, 256, 128]⟩
abbrev S1024x256 : Shape := ⟨2, ![1024, 256]⟩
abbrev S256x256 : Shape := ⟨2, ![256, 256]⟩

abbrev nBuf : Space → Nat
  | .hbm => 16
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x512x2048, .bf16⟩
  | .hbm, ⟨2, _⟩ => ⟨S16x2048x512, .bf16⟩
  | .hbm, ⟨3, _⟩ => ⟨S1x1024x1024, .f32⟩
  | .hbm, ⟨4, _⟩ => ⟨S2x1024, .f32⟩
  | .hbm, ⟨5, _⟩ => ⟨S2x1024x512, .f32⟩
  | .hbm, ⟨6, _⟩ => ⟨S16x256x1024, .bf16⟩
  | .hbm, ⟨7, _⟩ => ⟨S2x512x1024, .f32⟩
  | .hbm, ⟨8, _⟩ => ⟨S1x1024, .f32⟩
  | .hbm, ⟨9, _⟩ => ⟨S1024, .f32⟩
  | .hbm, ⟨10, _⟩ => ⟨S2x1024x512, .bf16⟩
  | .hbm, ⟨11, _⟩ => ⟨S2x512x1024, .bf16⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x512x1024, .bf16⟩
  | .local _ .vmem, ⟨15, _⟩ => ⟨S1x1024x1024, .f32⟩
  | .local _ .vmem, ⟨16, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel7Ideal.lean ====
variable {F : FTy → Type} [FloatOps F] [Named F]
def κ : String → Option EReal := fun
  | "scale2" => some (((11863283 / 134217728) * (Real.log 2)⁻¹ : ℝ) : EReal)
  | _ => none
-- ==== Reference7Ideal.lean ====
abbrev S16x2048x1024 : Shape := ⟨3, ![16, 2048, 1024]⟩
abbrev S16x512x2048 : Shape := ⟨3, ![16, 512, 2048]⟩
abbrev S16x2048x512 : Shape := ⟨3, ![16, 2048, 512]⟩
abbrev S1x1024x1024 : Shape := ⟨3, ![1, 1024, 1024]⟩
abbrev S2x1024 : Shape := ⟨2, ![2, 1024]⟩
abbrev S2x1024x512 : Shape := ⟨3, ![2, 1024, 512]⟩
abbrev S16x256x1024 : Shape := ⟨3, ![16, 256, 1024]⟩
abbrev S2x512x1024 : Shape := ⟨3, ![2, 512, 1024]⟩
abbrev S1024x1024 : Shape := ⟨2, ![1024, 1024]⟩
abbrev S1x1024 : Shape := ⟨2, ![1, 1024]⟩
abbrev S1024 : Shape := ⟨1, ![1024]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4x128 : Shape := ⟨4, ![16, 2048, 4, 128]⟩
abbrev S16x256x512 : Shape := ⟨3, ![16, 256, 512]⟩
abbrev S16x256x4x128 : Shape := ⟨4, ![16, 256, 4, 128]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩

abbrev nBuf : Space → Nat
  | .hbm => 66
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x512x2048, .bf16⟩
  | .hbm, ⟨2, _⟩ => ⟨S16x2048x512, .bf16⟩
  | .hbm, ⟨3, _⟩ => ⟨S1x1024x1024, .f32⟩
  | .hbm, ⟨4, _⟩ => ⟨S2x1024, .f32⟩
  | .hbm, ⟨5, _⟩ => ⟨S2x1024x512, .f32⟩
  | .hbm, ⟨6, _⟩ => ⟨S16x256x1024, .bf16⟩
  | .hbm, ⟨7, _⟩ => ⟨S2x512x1024, .f32⟩
  | .hbm, ⟨8, _⟩ => ⟨S16x2048x512, .bf16⟩
  | .hbm, ⟨9, _⟩ => ⟨S16x2048x1024, .bf16⟩
  | .hbm, ⟨10, _⟩ => ⟨S16x2048x1024, .f32⟩
  | .hbm, ⟨11, _⟩ => ⟨S1024x1024, .f32⟩
  | .hbm, ⟨12, _⟩ => ⟨S16x2048x1024, .f32⟩
  | .hbm, ⟨13, _⟩ => ⟨S16x2048x1024, .f32⟩
  | .hbm, ⟨14, _⟩ => ⟨S1x1024, .f32⟩
  | .hbm, ⟨15, _⟩ => ⟨S1024, .f32⟩
  | .hbm, ⟨16, _⟩ => ⟨S1x1024x512, .f32⟩
  | .hbm, ⟨17, _⟩ => ⟨S1024x512, .f32⟩
  | .hbm, ⟨18, _⟩ => ⟨S1x512x1024, .f32⟩
  | .hbm, ⟨19, _⟩ => ⟨S512x1024, .f32⟩
  | .hbm, ⟨20, _⟩ => ⟨S16x2048x1024, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S16x2048x1, .f32⟩
  | .hbm, ⟨31, _⟩ => ⟨S16x2048x1024, .f32⟩
  | .hbm, ⟨32, _⟩ => ⟨S16x2048x1024, .f32⟩
  | .hbm, ⟨33, _⟩ => ⟨S1x1x1024, .f32⟩
  | .hbm, ⟨34, _⟩ => ⟨S16x2048x1024, .f32⟩
  | .hbm, ⟨35, _⟩ => ⟨S16x2048x1024, .f32⟩
  | .hbm, ⟨36, _⟩ => ⟨S16x2048x512, .f32⟩
  | .hbm, ⟨37, _⟩ => ⟨S16x2048x4x128, .f32⟩
  | .hbm, ⟨38, _⟩ => ⟨S16x256x1024, .f32⟩
  | .hbm, ⟨39, _⟩ => ⟨S16x256x512, .f32⟩
  | .hbm, ⟨40, _⟩ => ⟨S16x256x512, .f32⟩
  | .hbm, ⟨41, _⟩ => ⟨S16x256x4x128, .f32⟩
  | .hbm, ⟨42, _⟩ => ⟨S16x256x4x128, .f32⟩
  | .hbm, ⟨43, _⟩ => ⟨S16x4x2048x256, .f32⟩
  | .hbm, ⟨44, _⟩ => ⟨S_, .f32⟩
  | .hbm, ⟨45, _⟩ => ⟨S16x4x2048x256, .f32⟩
  | .hbm, ⟨46, _⟩ => ⟨S16x4x2048x256, .f32⟩
  | .hbm, ⟨47, _⟩ => ⟨S_, .f32⟩
  | .hbm, ⟨48, _⟩ => ⟨S16x4x2048, .f32⟩
  | .hbm, ⟨49, _⟩ => ⟨S_, .f32⟩
  | .hbm, ⟨50, _⟩ => ⟨S16x4x2048, .f32⟩
  | .hbm, ⟨51, _⟩ => ⟨S16x4x2048, .f32⟩
  | .hbm, ⟨52, _⟩ => ⟨S16x4x2048x1, .f32⟩
  | .hbm, ⟨53, _⟩ => ⟨S16x4x2048x256, .f32⟩
  | .hbm, ⟨54, _⟩ => ⟨S16x4x2048x256, .f32⟩
  | .hbm, ⟨55, _⟩ => ⟨S16x4x2048x256, .f32⟩
  | .hbm, ⟨56, _⟩ => ⟨S_, .f32⟩
  | .hbm, ⟨57, _⟩ => ⟨S16x4x2048, .f32⟩
  | .hbm, ⟨58, _⟩ => ⟨S16x4x2048x1, .f32⟩
  | .hbm, ⟨59, _⟩ => ⟨S16x4x2048x256, .f32⟩
  | .hbm, ⟨60, _⟩ => ⟨S16x4x2048x256, .f32⟩
  | .hbm, ⟨61, _⟩ => ⟨S16x4x128x2048, .f32⟩
  | .hbm, ⟨62, _⟩ => ⟨S16x2048x4x128, .f32⟩
  | .hbm, ⟨63, _⟩ => ⟨S16x2048x512, .f32⟩
  | .hbm, ⟨64, _⟩ => ⟨S16x2048x1024, .f32⟩
  | .hbm, ⟨65, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Kernel8.lean ====
abbrev S16x256x1024 : Shape := ⟨3, ![16, 256, 1024]⟩
abbrev S2x1024 : Shape := ⟨2, ![2, 1024]⟩
abbrev S2x1024x1024 : Shape := ⟨3, ![2, 1024, 1024]⟩
abbrev S4096x1024 : Shape := ⟨2, ![4096, 1024]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 11
  | .vmem => 6
  | .smem => 0
  | _ => 0

abbrev bufTy : (tb : Table) → Fin (tcTables nBuf tb) → BufTy
  | .hbm, ⟨0, _⟩ => ⟨S16x256x1024, .f32⟩
  | .hbm, ⟨1, _⟩ => ⟨S2x1024, .f32⟩
  | .hbm, ⟨2, _⟩ => ⟨S2x1024x1024, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S1x1024x1024, .f32⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S16x256x1024 : Shape := ⟨3, ![16, 256, 1024]⟩
abbrev S2x1024 : Shape := ⟨2, ![2, 1024]⟩
abbrev S2x1024x1024 : Shape := ⟨3, ![2, 1024, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024x1024 : Shape := ⟨3, ![1, 1024, 1024]⟩
abbrev S1024x1024 : Shape := ⟨2, ![1024, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S2x1024, .f32⟩
  | .hbm, ⟨2, _⟩ => ⟨S2x1024x1024, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S1x1024x1024, .f32⟩
  | .hbm, ⟨23, _⟩ => ⟨S1024x1024, .f32⟩
  | .hbm, ⟨24, _⟩ => ⟨S4096x1024, .f32⟩
  | .hbm, ⟨25, _⟩ => ⟨S4096x1024, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proof.Keeps.lean ====
/-
  Untrusted. What a program over held buffers keeps: `Keeps c H p` says that `p`, run on core `c` from the resource `H`, ends
  with `H` again. `H` will be the staging and scratch buffers of the kernel, each held whole at SOME contents, so every rule
  here is one line of structure (a return, a bind, a load, an unmasked store, a branch, a counted loop) and says nothing of the
  values the program computes.
-/
module

public import proofs.«01_k».proof.Proof.Gen.Kernel.Frame
public import Idealize.ShloMosaic.Lib.Pipeline.Frame
public import Idealize.ShloMosaic.Lib.Scf
public import Idealize.ShloMosaic.Lib.Memref

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- A vector-memory buffer of core `c` held whole, at some contents. -/
def Held (c : Dev nD) {s : Shape} {e : EltTy} (m : Memref sig .tc .vmem s e) : sProp 𝕄 :=
  iprop(∃ d : s.Idx → Elt F e, owns (c : Thread nD τ) m fullShare d)

/-- The resource `H` contains the buffer `m`: it can be taken out and put back. -/
class Has (c : Dev nD) (H : sProp 𝕄) {s : Shape} {e : EltTy} (m : Memref sig .tc .vmem s e) : Prop where
  acc : H ⊢ iprop(Held c m ∗ (Held c m -∗ H))

/-- The program `p` of core `c` keeps the resource `H`. -/
def Keeps (c : Dev nD) (H : sProp 𝕄) {α : Type} (p : Prog (TpuEff nD τ sig (Elt F) Λ₀ .tc) α) : Prop :=
  H ⊢ wp frame (wpE (defs₀ (F := F)) Variants.none (c : Thread nD τ) none) Set.univ p (fun _ => H)

/-- Returning keeps. -/
theorem Keeps.pure {c : Dev nD} {H : sProp 𝕄} {α : Type} (a : α) : Keeps c H (Pure.pure a : Prog (TpuEff nD τ sig (Elt F) Λ₀ .tc) α) := by
  unfold Keeps
  show H ⊢ wp frame (wpE (defs₀ (F := F)) Variants.none (c : Thread nD τ) none) Set.univ (.ret a) (fun _ => H)
  rw [wp_ret]
  iintro H
  imodintro
  iexact H

/-- A sequence keeps what both halves keep. -/
theorem Keeps.bind {c : Dev nD} {H : sProp 𝕄} {α β : Type} {p : Prog (TpuEff nD τ sig (Elt F) Λ₀ .tc) α} {k : α → Prog (TpuEff nD τ sig (Elt F) Λ₀ .tc) β}
    (hp : Keeps c H p) (hk : ∀ a, Keeps c H (k a)) : Keeps c H (p >>= k) := by
  unfold Keeps
  rw [wp_bind]
  exact hp.trans (wp_mono _ _ _ hk)

/-- A load from a buffer the resource contains keeps it. -/
theorem Keeps.load {c : Dev nD} {H : sProp 𝕄} {s : Shape} {e : EltTy} {m : Memref sig .tc .vmem s e} [h : Has c H m] {r : LoadRect s} {hl : m.view.LoadsAt r} :
    Keeps c H (Prog.lift (.load m r hl) : Prog (TpuEff nD τ sig (Elt F) Λ₀ .tc) _) := by
  unfold Keeps
  refine h.acc.trans ?_
  unfold Held owns
  iintro ⟨⟨%d, %f, %hf, H1⟩, H2⟩
  iapply (wp_load Variants.none (c : Thread nD τ) none Set.univ (hl := hl) (m.view.setOn_subset_set r.set)) $$ H1
  iintro H1
  rw [wp_ret]
  imodintro
  iapply H2
  iexists d, f
  isplitr
  · ipureintro; exact hf
  iexact H1

/-- An unmasked store into a buffer the resource contains keeps it. -/
theorem Keeps.store {c : Dev nD} {H : sProp 𝕄} {s : Shape} {e : EltTy} {m : Memref sig .tc .vmem s e} [h : Has c H m] {r : Rect s} {w : r.shape.Idx → Elt F e}
    {hx : (m.access r).Stores Finset.univ} {hm : Finset.univ = Finset.univ ∨ ∀ a, r.stride a = 1} :
    Keeps c H (Prog.lift (.store m r w Finset.univ hx hm) : Prog (TpuEff nD τ sig (Elt F) Λ₀ .tc) _) := by
  unfold Keeps
  refine h.acc.trans ?_
  unfold Held owns
  iintro ⟨⟨%d, %f, %hf, H1⟩, H2⟩
  iapply (wp_store Variants.none (c : Thread nD τ) none Set.univ (hx := hx) (hm := hm)
    (((m.access r).setOn_subset_set Finset.univ).trans (m.view.set_slice_subset r))) $$ H1
  iintro H1
  rw [wp_ret]
  imodintro
  iapply H2
  iexists _, _
  isplitr
  swap
  · iexact H1
  ipureintro; rfl

/-- A branch keeps what both sides keep. -/
theorem Keeps.dite {c : Dev nD} {H : sProp 𝕄} {α : Type} {P : Prop} [Decidable P] {p : P → Prog (TpuEff nD τ sig (Elt F) Λ₀ .tc) α}
    {q : ¬P → Prog (TpuEff nD τ sig (Elt F) Λ₀ .tc) α} (hp : ∀ h, Keeps c H (p h)) (hq : ∀ h, Keeps c H (q h)) :
    Keeps c H (if h : P then p h else q h) := by
  by_cases h : P
  · rw [dif_pos h]; exact hp h
  · rw [dif_neg h]; exact hq h

/-- A branch on a value, each side keeping. -/
theorem Keeps.ite {c : Dev nD} {H : sProp 𝕄} {α : Type} {P : Prop} [Decidable P] {p q : Prog (TpuEff nD τ sig (Elt F) Λ₀ .tc) α}
    (hp : Keeps c H p) (hq : Keeps c H q) : Keeps c H (if P then p else q) := by
  by_cases h : P
  · rw [if_pos h]; exact hp
  · rw [if_neg h]; exact hq

/-- A counted loop keeps what each of its trips keeps. -/
theorem Keeps.loop {c : Dev nD} {H : sProp 𝕄} {w : Nat} {σ : Type} {l : Scf.Loop w} {hok : l.OK} {init : σ}
    {body : Fin l.trips → σ → Prog (TpuEff nD τ sig (Elt F) Λ₀ .tc) σ} (hb : ∀ k a, Keeps c H (body k a)) :
    Keeps c H (Scf.Loop.for l hok init body) := by
  unfold Keeps
  iintro HH
  iapply (Scf.wp_for frame (wpE (defs₀ (F := F)) Variants.none (c : Thread nD τ) none) Set.univ l.lb l.ub l.st hok init body
    (fun _ _ => H) (fun k a => hb k a))
  isplitl [HH]
  · iexact HH
  iintro %_ HH
  iexact HH

/-- A dependent pair's property, from its two components. -/
theorem all_psigma {α : Type} {β : α → Type} {P : (Σ' a : α, β a) → Prop} (h : ∀ a b, P ⟨a, b⟩) : ∀ x, P x := fun x => h x.1 x.2

/-- A pair's property, from its two components. -/
theorem all_prod {α β : Type} {P : α × β → Prop} (h : ∀ a b, P (a, b)) : ∀ x, P x := fun x => h x.1 x.2

end Cert.Kernel.Hand

end
-- ==== Proof.PartsA.lean ====
/-
  Untrusted. The printed kernel's parts, each shown to keep the held buffers: by the rules of Keeps.lean, statement by statement,
  a part called inside another by its own theorem.
-/
module

public import proofs.«01_k».proof.Proof.Keeps

@[expose] public section

set_option maxRecDepth 16384

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]
variable {c : Dev nD} {H : sProp (MT nD τ sig Unit (Elt F) ℕ (UR sig nD τ) ℕ)}
variable (i : grid0.Coords)
  (arg2 : Memref sig .tc .vmem S1x256x512 .bf16) (harg2 : arg2.IsWhole) [Has c H arg2]
  (arg3 : Memref sig .tc .vmem S1x256x512 .bf16) (harg3 : arg3.IsWhole) [Has c H arg3]
  (arg4 : Memref sig .tc .vmem S1x256x128 .f32) (harg4 : arg4.IsWhole) [Has c H arg4]
  (arg5 : Memref sig .tc .vmem S1x2048x128 .f32) (harg5 : arg5.IsWhole) [Has c H arg5]
  (arg6 : Memref sig .tc .vmem S1x2048x128 .bf16) (harg6 : arg6.IsWhole) [Has c H arg6]
  (arg7 : Memref sig .tc .vmem S1x2048x128 .bf16) (harg7 : arg7.IsWhole) [Has c H arg7]
  (arg8 : Memref sig .tc .vmem S1x128 .f32) (harg8 : arg8.IsWhole) [Has c H arg8]
  (arg9 : Memref sig .tc .vmem S8x128x128 .bf16) (harg9 : arg9.IsWhole) [Has c H arg9]
  (arg10 : Memref sig .tc .vmem S8x64x128 .bf16) (harg10 : arg10.IsWhole) [Has c H arg10]
  (arg11 : Memref sig .tc .vmem S3x256x2048 .f32) (harg11 : arg11.IsWhole) [Has c H arg11]
  (arg12 : Memref sig .tc .vmem S1x512x256 .bf16) (harg12 : arg12.IsWhole) [Has c H arg12]
  (arg13 : Memref sig .tc .vmem S2048x128 .bf16) (harg13 : arg13.IsWhole) [Has c H arg13]
  (arg14 : Memref sig .tc .vmem S8x144x256 .bf16) (harg14 : arg14.IsWhole) [Has c H arg14]
  (arg15 : Memref sig .tc .vmem S8x256x256 .i32) (harg15 : arg15.IsWhole) [Has c H arg15]
  (arg16 : Memref sig .tc .vmem S8x256x256 .i16) (harg16 : arg16.IsWhole) [Has c H arg16]
  (arg17 : Memref sig .tc .vmem S8x256x2048 .f32) (harg17 : arg17.IsWhole) [Has c H arg17]
  (arg18 : Memref sig .tc .vmem S144x2048 .f32) (harg18 : arg18.IsWhole) [Has c H arg18]
  (arg19 : Memref sig .tc .vmem S512x1024 .f32) (harg19 : arg19.IsWhole) [Has c H arg19]
  (arg20 : Memref sig .tc .vmem S512x1024 .f32) (harg20 : arg20.IsWhole) [Has c H arg20]
  (arg21 : Memref sig .tc .vmem S256x256 .f32) (harg21 : arg21.IsWhole) [Has c H arg21]
  (arg22 : Memref sig .tc .vmem S256x256 .f32) (harg22 : arg22.IsWhole) [Has c H arg22]
  (arg23 : Memref sig .tc .vmem S256x2048 .bf16) (harg23 : arg23.IsWhole) [Has c H arg23]
  (arg24 : Memref sig .tc .vmem S256x2048 .bf16) (harg24 : arg24.IsWhole) [Has c H arg24]
  (arg25 : Memref sig .tc .vmem S8x8x2048 .f32) (harg25 : arg25.IsWhole) [Has c H arg25]
  (arg26 : Memref sig .tc .vmem S8x8x256 .f32) (harg26 : arg26.IsWhole) [Has c H arg26]

theorem keeps_k0_part1 : Keeps c H (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) := by
  unfold k0_part1
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part2 : ∀ v364 v369, Keeps c H (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v364 v369) := by
  intros
  unfold k0_part2
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part3 : ∀ arg1 v41 v48 c0_i32_61 c1_i32_63 k0_t1, Keeps c H (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v41 v48 c0_i32_61 c1_i32_63 k0_t1) := by
  intros
  unfold k0_part3
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part4 : ∀ v55 v383, Keeps c H (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v55 v383) := by
  intros
  unfold k0_part4
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part5 : ∀ arg1 v55 v65 k0_t1 v349 v425, Keeps c H (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v55 v65 k0_t1 v349 v425) := by
  intros
  unfold k0_part5
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part6 : ∀ arg1 v41 v48 k0_t1 v349 v464, Keeps c H (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v41 v48 k0_t1 v349 v464) := by
  intros
  unfold k0_part6
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part7 : ∀ v55 v349, Keeps c H (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v55 v349) := by
  intros
  unfold k0_part7
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part8 : ∀ arg1 v55 v65 k0_t1 v503 v539 v542, Keeps c H (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v55 v65 k0_t1 v503 v539 v542) := by
  intros
  unfold k0_part8
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part9 : ∀ arg1 v41 v48 v100 c1_i32_64 k0_t2, Keeps c H (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v41 v48 v100 c1_i32_64 k0_t2) := by
  intros
  unfold k0_part9
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part10 : ∀ v55 v383, Keeps c H (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v55 v383) := by
  intros
  unfold k0_part10
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part11 : ∀ arg1 v55 v65 k0_t2 v349 v425, Keeps c H (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v55 v65 k0_t2 v349 v425) := by
  intros
  unfold k0_part11
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part12 : ∀ arg1 v41 v48 k0_t2 v349 v464, Keeps c H (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v41 v48 k0_t2 v349 v464) := by
  intros
  unfold k0_part12
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part13 : ∀ v55 v349, Keeps c H (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v55 v349) := by
  intros
  unfold k0_part13
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part14 : ∀ arg1 v55 v65 k0_t2 v503 v539 v542, Keeps c H (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v55 v65 k0_t2 v503 v539 v542) := by
  intros
  unfold k0_part14
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part15 : ∀ v55, Keeps c H (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v55) := by
  intros
  unfold k0_part15
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part16 : ∀ arg1 v55 v65 k0_h2 v384 v387 v389, Keeps c H (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v55 v65 k0_h2 v384 v387 v389) := by
  intros
  unfold k0_part16
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part17 : ∀ c0_i32_217 c1_i32_218 k0_t3 arg28, Keeps c H (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c0_i32_217 c1_i32_218 k0_t3 arg28) := by
  intros
  unfold k0_part17
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part18 : ∀ v715 v755 v757 v758, Keeps c H (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v715 v755 v757 v758) := by
  intros
  unfold k0_part18
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part19 : ∀ v715 v794 v801 v802 v803 v804 v805 v806 v807 v808 v809 v810 v811, Keeps c H (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v715 v794 v801 v802 v803 v804 v805 v806 v807 v808 v809 v810 v811) := by
  intros
  unfold k0_part19
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part20 : ∀ v715 v833 v861 v862 v863 v864 v865 v866, Keeps c H (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v715 v833 v861 v862 v863 v864 v865 v866) := by
  intros
  unfold k0_part20
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part21 : ∀ v715 v911 v915 c0_i16_305 v916, Keeps c H (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v715 v911 v915 c0_i16_305 v916) := by
  intros
  unfold k0_part21
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part22 : ∀ v715 v950 v957 v958 v959 v960 v961 v962 v963 v964 v965 v966 v967 v968 v969 v970 v971, Keeps c H (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v715 v950 v957 v958 v959 v960 v961 v962 v963 v964 v965 v966 v967 v968 v969 v970 v971) := by
  intros
  unfold k0_part22
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part23 : ∀ c0_i32_227 c1_i32_229 k0_t6 arg28, Keeps c H (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c0_i32_227 c1_i32_229 k0_t6 arg28) := by
  intros
  unfold k0_part23
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part24 : ∀ v715 v755 v757 v758, Keeps c H (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v715 v755 v757 v758) := by
  intros
  unfold k0_part24
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part25 : ∀ v715 v794 v801 v802 v803 v804 v805 v806 v807 v808 v809 v810 v811, Keeps c H (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v715 v794 v801 v802 v803 v804 v805 v806 v807 v808 v809 v810 v811) := by
  intros
  unfold k0_part25
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part26 : ∀ v715 v833 v861 v862 v863 v864 v865 v866, Keeps c H (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v715 v833 v861 v862 v863 v864 v865 v866) := by
  intros
  unfold k0_part26
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part27 : ∀ v715 v911 v915 c0_i16_305 v916, Keeps c H (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v715 v911 v915 c0_i16_305 v916) := by
  intros
  unfold k0_part27
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part28 : ∀ v715 v950 v957 v958 v959 v960 v961 v962 v963 v964 v965 v966 v967 v968 v969 v970 v971, Keeps c H (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v715 v950 v957 v958 v959 v960 v961 v962 v963 v964 v965 v966 v967 v968 v969 v970 v971) := by
  intros
  unfold k0_part28
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

set_option maxHeartbeats 4000000 in
theorem keeps_k0_part29 : ∀ v0 k0_h3 k0_h4 k0_h5 k0_h6 k0_h7 k0_h8 k0_h9, Keeps c H (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v0 k0_h3 k0_h4 k0_h5 k0_h6 k0_h7 k0_h8 k0_h9) := by
  intros
  unfold k0_part29
  repeat' (with_reducible first
    | exact Keeps.pure _
    | refine Keeps.bind ?_ ?_
    | exact Keeps.load
    | exact Keeps.store
    | exact keeps_k0_part17 ..
    | exact keeps_k0_part18 ..
    | exact keeps_k0_part19 ..
    | exact keeps_k0_part20 ..
    | exact keeps_k0_part21 ..
    | exact keeps_k0_part22 ..
    | exact keeps_k0_part23 ..
    | exact keeps_k0_part24 ..
    | exact keeps_k0_part25 ..
    | exact keeps_k0_part26 ..
    | exact keeps_k0_part27 ..
    | exact keeps_k0_part28 ..
    | refine Keeps.dite ?_ ?_
    | refine Keeps.ite ?_ ?_
    | refine Keeps.loop ?_
    | refine all_psigma ?_
    | refine all_prod ?_
    | intro _)

theorem keeps_k0_part30 : ∀ v385 v386 v393 v394 v395 v396 v397 v398 v399 v400 v401 v402 v403, Keeps c H (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v385 v386 v393 v394 v395 v396 v397 v398 v399 v400 v401 v402 v403) := by
  intros
  unfold k0_part30
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part31 : ∀ v385 v425 v453 v454 v455 v456 v457 v458, Keeps c H (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v385 v425 v453 v454 v455 v456 v457 v458) := by
  intros
  unfold k0_part31
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part32 : ∀ v385 v503 v507 c0_i16_249 v508, Keeps c H (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v385 v503 v507 c0_i16_249 v508) := by
  intros
  unfold k0_part32
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part33 : ∀ v385 v542 v549 v550 v551 v552 v553 v554 v555 v556 v557 v558 v559 v560 v561 v562 v563, Keeps c H (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v385 v542 v549 v550 v551 v552 v553 v554 v555 v556 v557 v558 v559 v560 v561 v562 v563) := by
  intros
  unfold k0_part33
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part34 : ∀ v385 v581 v617 v618, Keeps c H (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v385 v581 v617 v618) := by
  intros
  unfold k0_part34
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part35 : ∀ c0_i32_217 c1_i32_218 k0_t7 arg28, Keeps c H (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c0_i32_217 c1_i32_218 k0_t7 arg28) := by
  intros
  unfold k0_part35
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part36 : ∀ v676 v716 v718 v719, Keeps c H (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v676 v716 v718 v719) := by
  intros
  unfold k0_part36
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part37 : ∀ v676 v755 v762 v763 v764 v765 v766 v767 v768 v769 v770 v771 v772, Keeps c H (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v676 v755 v762 v763 v764 v765 v766 v767 v768 v769 v770 v771 v772) := by
  intros
  unfold k0_part37
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part38 : ∀ v676 v794 v822 v823 v824 v825 v826 v827, Keeps c H (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v676 v794 v822 v823 v824 v825 v826 v827) := by
  intros
  unfold k0_part38
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part39 : ∀ v676 v872 v876 c0_i16_300 v877, Keeps c H (k0_part39 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v676 v872 v876 c0_i16_300 v877) := by
  intros
  unfold k0_part39
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part40 : ∀ c0_i32_227 c1_i32_229 k0_t10 arg28, Keeps c H (k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c0_i32_227 c1_i32_229 k0_t10 arg28) := by
  intros
  unfold k0_part40
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part41 : ∀ v676 v716 v718 v719, Keeps c H (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v676 v716 v718 v719) := by
  intros
  unfold k0_part41
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part42 : ∀ v676 v755 v762 v763 v764 v765 v766 v767 v768 v769 v770 v771 v772, Keeps c H (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v676 v755 v762 v763 v764 v765 v766 v767 v768 v769 v770 v771 v772) := by
  intros
  unfold k0_part42
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part43 : ∀ v676 v794 v822 v823 v824 v825 v826 v827, Keeps c H (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v676 v794 v822 v823 v824 v825 v826 v827) := by
  intros
  unfold k0_part43
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part44 : ∀ v676 v872 v876 c0_i16_300 v877, Keeps c H (k0_part44 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v676 v872 v876 c0_i16_300 v877) := by
  intros
  unfold k0_part44
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

set_option maxHeartbeats 4000000 in
theorem keeps_k0_part45 : ∀ v0 k0_h3 k0_h4 k0_h5 k0_h6 k0_h7 k0_h8 k0_h9, Keeps c H (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v0 k0_h3 k0_h4 k0_h5 k0_h6 k0_h7 k0_h8 k0_h9) := by
  intros
  unfold k0_part45
  repeat' (with_reducible first
    | exact Keeps.pure _
    | refine Keeps.bind ?_ ?_
    | exact Keeps.load
    | exact Keeps.store
    | exact keeps_k0_part35 ..
    | exact keeps_k0_part36 ..
    | exact keeps_k0_part37 ..
    | exact keeps_k0_part38 ..
    | exact keeps_k0_part39 ..
    | exact keeps_k0_part40 ..
    | exact keeps_k0_part41 ..
    | exact keeps_k0_part42 ..
    | exact keeps_k0_part43 ..
    | exact keeps_k0_part44 ..
    | refine Keeps.dite ?_ ?_
    | refine Keeps.ite ?_ ?_
    | refine Keeps.loop ?_
    | refine all_psigma ?_
    | refine all_prod ?_
    | intro _)

theorem keeps_k0_part46 : ∀ v385 v386 v393 v394 v395 v396 v397 v398 v399 v400 v401 v402 v403, Keeps c H (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v385 v386 v393 v394 v395 v396 v397 v398 v399 v400 v401 v402 v403) := by
  intros
  unfold k0_part46
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part47 : ∀ v385 v425 v453 v454 v455 v456 v457 v458, Keeps c H (k0_part47 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v385 v425 v453 v454 v455 v456 v457 v458) := by
  intros
  unfold k0_part47
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part48 : ∀ v385 v503 v507 c0_i16_249 v508, Keeps c H (k0_part48 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v385 v503 v507 c0_i16_249 v508) := by
  intros
  unfold k0_part48
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part49 : ∀ v385 v542 v549 v550 v551 v552 v553 v554 v555 v556 v557 v558 v559 v560 v561 v562 v563, Keeps c H (k0_part49 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v385 v542 v549 v550 v551 v552 v553 v554 v555 v556 v557 v558 v559 v560 v561 v562 v563) := by
  intros
  unfold k0_part49
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part50 : ∀ v369 v379 v384 v385 v581 v617 v618, Keeps c H (k0_part50 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v369 v379 v384 v385 v581 v617 v618) := by
  intros
  unfold k0_part50
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part51 : ∀ c0_i32_215 c1_i32_216 k0_t11 arg28, Keeps c H (k0_part51 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c0_i32_215 c1_i32_216 k0_t11 arg28) := by
  intros
  unfold k0_part51
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part52 : ∀ v634 v674 v676 v677, Keeps c H (k0_part52 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v634 v674 v676 v677) := by
  intros
  unfold k0_part52
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part53 : ∀ v634 v713 v720 v721 v722 v723 v724 v725 v726 v727 v728 v729 v730, Keeps c H (k0_part53 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v634 v713 v720 v721 v722 v723 v724 v725 v726 v727 v728 v729 v730) := by
  intros
  unfold k0_part53
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part54 : ∀ v634 v752 v780 v781 v782 v783 v784 v785, Keeps c H (k0_part54 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v634 v752 v780 v781 v782 v783 v784 v785) := by
  intros
  unfold k0_part54
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part55 : ∀ c0_i32_225 c1_i32_227 k0_t14 arg28, Keeps c H (k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c0_i32_225 c1_i32_227 k0_t14 arg28) := by
  intros
  unfold k0_part55
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part56 : ∀ v634 v674 v676 v677, Keeps c H (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v634 v674 v676 v677) := by
  intros
  unfold k0_part56
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part57 : ∀ v634 v713 v720 v721 v722 v723 v724 v725 v726 v727 v728 v729 v730, Keeps c H (k0_part57 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v634 v713 v720 v721 v722 v723 v724 v725 v726 v727 v728 v729 v730) := by
  intros
  unfold k0_part57
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part58 : ∀ v634 v752 v780 v781 v782 v783 v784 v785, Keeps c H (k0_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v634 v752 v780 v781 v782 v783 v784 v785) := by
  intros
  unfold k0_part58
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part59 : ∀ v0 k0_h3 k0_h4 k0_h5 k0_h6 k0_h7 k0_h8, Keeps c H (k0_part59 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v0 k0_h3 k0_h4 k0_h5 k0_h6 k0_h7 k0_h8) := by
  intros
  unfold k0_part59
  repeat' (with_reducible first
    | exact Keeps.pure _
    | refine Keeps.bind ?_ ?_
    | exact Keeps.load
    | exact Keeps.store
    | exact keeps_k0_part51 ..
    | exact keeps_k0_part52 ..
    | exact keeps_k0_part53 ..
    | exact keeps_k0_part54 ..
    | exact keeps_k0_part55 ..
    | exact keeps_k0_part56 ..
    | exact keeps_k0_part57 ..
    | exact keeps_k0_part58 ..
    | refine Keeps.dite ?_ ?_
    | refine Keeps.ite ?_ ?_
    | refine Keeps.loop ?_
    | refine all_psigma ?_
    | refine all_prod ?_
    | intro _)

theorem keeps_k0_part60 : ∀ v382 v383 v390 v391 v392 v393 v394 v395 v396 v397 v398 v399 v400, Keeps c H (k0_part60 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v382 v383 v390 v391 v392 v393 v394 v395 v396 v397 v398 v399 v400) := by
  intros
  unfold k0_part60
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part61 : ∀ v382 v422 v450 v451 v452 v453 v454 v455, Keeps c H (k0_part61 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v382 v422 v450 v451 v452 v453 v454 v455) := by
  intros
  unfold k0_part61
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part62 : ∀ v382 v500 v504 c0_i16_247 v505, Keeps c H (k0_part62 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v382 v500 v504 c0_i16_247 v505) := by
  intros
  unfold k0_part62
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part63 : ∀ v382 v539 v546 v547 v548 v549 v550 v551 v552 v553 v554 v555 v556 v557 v558 v559 v560, Keeps c H (k0_part63 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v382 v539 v546 v547 v548 v549 v550 v551 v552 v553 v554 v555 v556 v557 v558 v559 v560) := by
  intros
  unfold k0_part63
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part64 : ∀ c0_i32_213 c1_i32_214 k0_t15 arg28, Keeps c H (k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c0_i32_213 c1_i32_214 k0_t15 arg28) := by
  intros
  unfold k0_part64
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part65 : ∀ v592 v632 v634 v635, Keeps c H (k0_part65 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v592 v632 v634 v635) := by
  intros
  unfold k0_part65
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part66 : ∀ v592 v671 v678 v679 v680 v681 v682 v683 v684 v685 v686 v687 v688, Keeps c H (k0_part66 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v592 v671 v678 v679 v680 v681 v682 v683 v684 v685 v686 v687 v688) := by
  intros
  unfold k0_part66
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part67 : ∀ c0_i32_213 c1_i32_214 k0_t15 arg28, Keeps c H (k0_part67 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c0_i32_213 c1_i32_214 k0_t15 arg28) := by
  intros
  unfold k0_part67
  repeat' (with_reducible first
    | exact Keeps.pure _
    | refine Keeps.bind ?_ ?_
    | exact Keeps.load
    | exact Keeps.store
    | exact keeps_k0_part64 ..
    | exact keeps_k0_part65 ..
    | exact keeps_k0_part66 ..
    | refine Keeps.dite ?_ ?_
    | refine Keeps.ite ?_ ?_
    | refine Keeps.loop ?_
    | refine all_psigma ?_
    | refine all_prod ?_
    | intro _)

theorem keeps_k0_part68 : ∀ c0_i32_223 c1_i32_225 k0_t18 arg28, Keeps c H (k0_part68 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c0_i32_223 c1_i32_225 k0_t18 arg28) := by
  intros
  unfold k0_part68
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part69 : ∀ v592 v632 v634 v635, Keeps c H (k0_part69 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v592 v632 v634 v635) := by
  intros
  unfold k0_part69
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

end Cert.Kernel.Hand

end
-- ==== Proof.PartsB.lean ====
/-
  Untrusted. The printed kernel's parts, each shown to keep the held buffers: by the rules of Keeps.lean, statement by statement,
  a part called inside another by its own theorem.
-/
module

public import proofs.«01_k».proof.Proof.PartsA

@[expose] public section

set_option maxRecDepth 16384

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]
variable {c : Dev nD} {H : sProp (MT nD τ sig Unit (Elt F) ℕ (UR sig nD τ) ℕ)}
variable (i : grid0.Coords)
  (arg2 : Memref sig .tc .vmem S1x256x512 .bf16) (harg2 : arg2.IsWhole) [Has c H arg2]
  (arg3 : Memref sig .tc .vmem S1x256x512 .bf16) (harg3 : arg3.IsWhole) [Has c H arg3]
  (arg4 : Memref sig .tc .vmem S1x256x128 .f32) (harg4 : arg4.IsWhole) [Has c H arg4]
  (arg5 : Memref sig .tc .vmem S1x2048x128 .f32) (harg5 : arg5.IsWhole) [Has c H arg5]
  (arg6 : Memref sig .tc .vmem S1x2048x128 .bf16) (harg6 : arg6.IsWhole) [Has c H arg6]
  (arg7 : Memref sig .tc .vmem S1x2048x128 .bf16) (harg7 : arg7.IsWhole) [Has c H arg7]
  (arg8 : Memref sig .tc .vmem S1x128 .f32) (harg8 : arg8.IsWhole) [Has c H arg8]
  (arg9 : Memref sig .tc .vmem S8x128x128 .bf16) (harg9 : arg9.IsWhole) [Has c H arg9]
  (arg10 : Memref sig .tc .vmem S8x64x128 .bf16) (harg10 : arg10.IsWhole) [Has c H arg10]
  (arg11 : Memref sig .tc .vmem S3x256x2048 .f32) (harg11 : arg11.IsWhole) [Has c H arg11]
  (arg12 : Memref sig .tc .vmem S1x512x256 .bf16) (harg12 : arg12.IsWhole) [Has c H arg12]
  (arg13 : Memref sig .tc .vmem S2048x128 .bf16) (harg13 : arg13.IsWhole) [Has c H arg13]
  (arg14 : Memref sig .tc .vmem S8x144x256 .bf16) (harg14 : arg14.IsWhole) [Has c H arg14]
  (arg15 : Memref sig .tc .vmem S8x256x256 .i32) (harg15 : arg15.IsWhole) [Has c H arg15]
  (arg16 : Memref sig .tc .vmem S8x256x256 .i16) (harg16 : arg16.IsWhole) [Has c H arg16]
  (arg17 : Memref sig .tc .vmem S8x256x2048 .f32) (harg17 : arg17.IsWhole) [Has c H arg17]
  (arg18 : Memref sig .tc .vmem S144x2048 .f32) (harg18 : arg18.IsWhole) [Has c H arg18]
  (arg19 : Memref sig .tc .vmem S512x1024 .f32) (harg19 : arg19.IsWhole) [Has c H arg19]
  (arg20 : Memref sig .tc .vmem S512x1024 .f32) (harg20 : arg20.IsWhole) [Has c H arg20]
  (arg21 : Memref sig .tc .vmem S256x256 .f32) (harg21 : arg21.IsWhole) [Has c H arg21]
  (arg22 : Memref sig .tc .vmem S256x256 .f32) (harg22 : arg22.IsWhole) [Has c H arg22]
  (arg23 : Memref sig .tc .vmem S256x2048 .bf16) (harg23 : arg23.IsWhole) [Has c H arg23]
  (arg24 : Memref sig .tc .vmem S256x2048 .bf16) (harg24 : arg24.IsWhole) [Has c H arg24]
  (arg25 : Memref sig .tc .vmem S8x8x2048 .f32) (harg25 : arg25.IsWhole) [Has c H arg25]
  (arg26 : Memref sig .tc .vmem S8x8x256 .f32) (harg26 : arg26.IsWhole) [Has c H arg26]

theorem keeps_k0_part70 : ∀ v592 v671 v678 v679 v680 v681 v682 v683 v684 v685 v686 v687 v688, Keeps c H (k0_part70 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v592 v671 v678 v679 v680 v681 v682 v683 v684 v685 v686 v687 v688) := by
  intros
  unfold k0_part70
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part71 : ∀ v0 k0_h3 k0_h4 k0_h5 k0_h6 k0_h7, Keeps c H (k0_part71 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v0 k0_h3 k0_h4 k0_h5 k0_h6 k0_h7) := by
  intros
  unfold k0_part71
  repeat' (with_reducible first
    | exact Keeps.pure _
    | refine Keeps.bind ?_ ?_
    | exact Keeps.load
    | exact Keeps.store
    | exact keeps_k0_part67 ..
    | exact keeps_k0_part68 ..
    | exact keeps_k0_part69 ..
    | exact keeps_k0_part70 ..
    | refine Keeps.dite ?_ ?_
    | refine Keeps.ite ?_ ?_
    | refine Keeps.loop ?_
    | refine all_psigma ?_
    | refine all_prod ?_
    | intro _)

theorem keeps_k0_part72 : ∀ v379 v380 v387 v388 v389 v390 v391 v392 v393 v394 v395 v396 v397, Keeps c H (k0_part72 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v379 v380 v387 v388 v389 v390 v391 v392 v393 v394 v395 v396 v397) := by
  intros
  unfold k0_part72
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part73 : ∀ v379 v419 v447 v448 v449 v450 v451 v452, Keeps c H (k0_part73 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v379 v419 v447 v448 v449 v450 v451 v452) := by
  intros
  unfold k0_part73
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part74 : ∀ v379 v497 v501 c0_i16_245 v502, Keeps c H (k0_part74 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v379 v497 v501 c0_i16_245 v502) := by
  intros
  unfold k0_part74
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part75 : ∀ c0_i32_211 c1_i32_212 k0_t19 arg28, Keeps c H (k0_part75 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c0_i32_211 c1_i32_212 k0_t19 arg28) := by
  intros
  unfold k0_part75
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part76 : ∀ v550 v590 v592 v593, Keeps c H (k0_part76 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v550 v590 v592 v593) := by
  intros
  unfold k0_part76
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part77 : ∀ v550 v629 v636 v637 v638 v639 v640 v641 v642 v643 v644 v645 v646, Keeps c H (k0_part77 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v550 v629 v636 v637 v638 v639 v640 v641 v642 v643 v644 v645 v646) := by
  intros
  unfold k0_part77
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part78 : ∀ c0_i32_221 c1_i32_223 k0_t22 arg28, Keeps c H (k0_part78 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c0_i32_221 c1_i32_223 k0_t22 arg28) := by
  intros
  unfold k0_part78
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part79 : ∀ v550 v590 v592 v593, Keeps c H (k0_part79 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v550 v590 v592 v593) := by
  intros
  unfold k0_part79
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part80 : ∀ v550 v629 v636 v637 v638 v639 v640 v641 v642 v643 v644 v645 v646, Keeps c H (k0_part80 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v550 v629 v636 v637 v638 v639 v640 v641 v642 v643 v644 v645 v646) := by
  intros
  unfold k0_part80
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part81 : ∀ v0 k0_h3 k0_h4 k0_h5 k0_h6, Keeps c H (k0_part81 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v0 k0_h3 k0_h4 k0_h5 k0_h6) := by
  intros
  unfold k0_part81
  repeat' (with_reducible first
    | exact Keeps.pure _
    | refine Keeps.bind ?_ ?_
    | exact Keeps.load
    | exact Keeps.store
    | exact keeps_k0_part75 ..
    | exact keeps_k0_part76 ..
    | exact keeps_k0_part77 ..
    | exact keeps_k0_part78 ..
    | exact keeps_k0_part79 ..
    | exact keeps_k0_part80 ..
    | refine Keeps.dite ?_ ?_
    | refine Keeps.ite ?_ ?_
    | refine Keeps.loop ?_
    | refine all_psigma ?_
    | refine all_prod ?_
    | intro _)

theorem keeps_k0_part82 : ∀ v376 v377 v384 v385 v386 v387 v388 v389 v390 v391 v392 v393 v394, Keeps c H (k0_part82 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v376 v377 v384 v385 v386 v387 v388 v389 v390 v391 v392 v393 v394) := by
  intros
  unfold k0_part82
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part83 : ∀ v376 v416 v444 v445 v446 v447 v448 v449, Keeps c H (k0_part83 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v376 v416 v444 v445 v446 v447 v448 v449) := by
  intros
  unfold k0_part83
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part84 : ∀ c0_i32_209 c1_i32_210 k0_t23 arg28, Keeps c H (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c0_i32_209 c1_i32_210 k0_t23 arg28) := by
  intros
  unfold k0_part84
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part85 : ∀ v508 v548 v550 v551, Keeps c H (k0_part85 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v508 v548 v550 v551) := by
  intros
  unfold k0_part85
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part86 : ∀ c0_i32_219 c1_i32_221 k0_t26 arg28, Keeps c H (k0_part86 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c0_i32_219 c1_i32_221 k0_t26 arg28) := by
  intros
  unfold k0_part86
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part87 : ∀ v508 v548 v550 v551, Keeps c H (k0_part87 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v508 v548 v550 v551) := by
  intros
  unfold k0_part87
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part88 : ∀ v0 k0_h3 k0_h4 k0_h5, Keeps c H (k0_part88 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v0 k0_h3 k0_h4 k0_h5) := by
  intros
  unfold k0_part88
  repeat' (with_reducible first
    | exact Keeps.pure _
    | refine Keeps.bind ?_ ?_
    | exact Keeps.load
    | exact Keeps.store
    | exact keeps_k0_part84 ..
    | exact keeps_k0_part85 ..
    | exact keeps_k0_part86 ..
    | exact keeps_k0_part87 ..
    | refine Keeps.dite ?_ ?_
    | refine Keeps.ite ?_ ?_
    | refine Keeps.loop ?_
    | refine all_psigma ?_
    | refine all_prod ?_
    | intro _)

theorem keeps_k0_part89 : ∀ v373 v374 v381 v382 v383 v384 v385 v386 v387 v388 v389 v390 v391, Keeps c H (k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v373 v374 v381 v382 v383 v384 v385 v386 v387 v388 v389 v390 v391) := by
  intros
  unfold k0_part89
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part90 : ∀ v357 v367 v373 v413 v441 v442 v443 v444 v445 v446, Keeps c H (k0_part90 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v357 v367 v373 v413 v441 v442 v443 v444 v445 v446) := by
  intros
  unfold k0_part90
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part91 : ∀ c0_i32_207 c1_i32_208 k0_t27 arg28, Keeps c H (k0_part91 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c0_i32_207 c1_i32_208 k0_t27 arg28) := by
  intros
  unfold k0_part91
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part92 : ∀ c0_i32_217 c1_i32_219 k0_t30 arg28, Keeps c H (k0_part92 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c0_i32_217 c1_i32_219 k0_t30 arg28) := by
  intros
  unfold k0_part92
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part93 : ∀ v0 k0_h3 k0_h4, Keeps c H (k0_part93 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v0 k0_h3 k0_h4) := by
  intros
  unfold k0_part93
  repeat' (with_reducible first
    | exact Keeps.pure _
    | refine Keeps.bind ?_ ?_
    | exact Keeps.load
    | exact Keeps.store
    | exact keeps_k0_part91 ..
    | exact keeps_k0_part92 ..
    | refine Keeps.dite ?_ ?_
    | refine Keeps.ite ?_ ?_
    | refine Keeps.loop ?_
    | refine all_psigma ?_
    | refine all_prod ?_
    | intro _)

theorem keeps_k0_part94 : ∀ v370 v371 v378 v379 v380 v381 v382 v383 v384 v385 v386 v387 v388, Keeps c H (k0_part94 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v370 v371 v378 v379 v380 v381 v382 v383 v384 v385 v386 v387 v388) := by
  intros
  unfold k0_part94
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part95 : ∀ arg1 v65 v109_0 v109_1 v116 v134 c0_i32_138 c1_i32_140 k0_t35, Keeps c H (k0_part95 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v65 v109_0 v109_1 v116 v134 c0_i32_138 c1_i32_140 k0_t35) := by
  intros
  unfold k0_part95
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part96 : ∀ v134 k0_t35 v350 v385 v388 v390, Keeps c H (k0_part96 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v134 k0_t35 v350 v385 v388 v390) := by
  intros
  unfold k0_part96
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part97 : ∀ v134 k0_t35 v350 v385 v433, Keeps c H (k0_part97 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v134 k0_t35 v350 v385 v433) := by
  intros
  unfold k0_part97
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part98 : ∀ arg1 v109_0 v109_1 v116 k0_t35 v349 v385 v475, Keeps c H (k0_part98 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v109_0 v109_1 v116 k0_t35 v349 v385 v475) := by
  intros
  unfold k0_part98
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part99 : ∀ arg1 v65 v134 k0_t35 v493 v510 v512 v514, Keeps c H (k0_part99 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v65 v134 k0_t35 v493 v510 v512 v514) := by
  intros
  unfold k0_part99
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part100 : ∀ v134 k0_t35 v493 v528 v555 v556, Keeps c H (k0_part100 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v134 k0_t35 v493 v528 v555 v556) := by
  intros
  unfold k0_part100
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part101 : ∀ arg1 v65 v109_0 v109_1 v116 v134 c0_i32_138 c1_i32_140 k0_t35, Keeps c H (k0_part101 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v65 v109_0 v109_1 v116 v134 c0_i32_138 c1_i32_140 k0_t35) := by
  intros
  unfold k0_part101
  repeat' (with_reducible first
    | exact Keeps.pure _
    | refine Keeps.bind ?_ ?_
    | exact Keeps.load
    | exact Keeps.store
    | exact keeps_k0_part95 ..
    | exact keeps_k0_part96 ..
    | exact keeps_k0_part97 ..
    | exact keeps_k0_part98 ..
    | exact keeps_k0_part99 ..
    | exact keeps_k0_part100 ..
    | refine Keeps.dite ?_ ?_
    | refine Keeps.ite ?_ ?_
    | refine Keeps.loop ?_
    | refine all_psigma ?_
    | refine all_prod ?_
    | intro _)

theorem keeps_k0_part102 : ∀ arg1 v65 v109_0 v109_1 v116 v134 v265 c1_i32_141 k0_t36, Keeps c H (k0_part102 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v65 v109_0 v109_1 v116 v134 v265 c1_i32_141 k0_t36) := by
  intros
  unfold k0_part102
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part103 : ∀ v134 k0_t36 v350 v385 v388 v390, Keeps c H (k0_part103 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v134 k0_t36 v350 v385 v388 v390) := by
  intros
  unfold k0_part103
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part104 : ∀ v134 k0_t36 v350 v385 v433, Keeps c H (k0_part104 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v134 k0_t36 v350 v385 v433) := by
  intros
  unfold k0_part104
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part105 : ∀ arg1 v109_0 v109_1 v116 k0_t36 v349 v385 v475, Keeps c H (k0_part105 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v109_0 v109_1 v116 k0_t36 v349 v385 v475) := by
  intros
  unfold k0_part105
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part106 : ∀ arg1 v65 v134 k0_t36 v493 v510 v512 v514, Keeps c H (k0_part106 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v65 v134 k0_t36 v493 v510 v512 v514) := by
  intros
  unfold k0_part106
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part107 : ∀ v134 k0_t36 v493 v528 v555 v556, Keeps c H (k0_part107 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v134 k0_t36 v493 v528 v555 v556) := by
  intros
  unfold k0_part107
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part108 : ∀ arg1 v65 v109_0 v109_1 v116 v134 v265 c1_i32_141 k0_t36, Keeps c H (k0_part108 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v65 v109_0 v109_1 v116 v134 v265 c1_i32_141 k0_t36) := by
  intros
  unfold k0_part108
  repeat' (with_reducible first
    | exact Keeps.pure _
    | refine Keeps.bind ?_ ?_
    | exact Keeps.load
    | exact Keeps.store
    | exact keeps_k0_part102 ..
    | exact keeps_k0_part103 ..
    | exact keeps_k0_part104 ..
    | exact keeps_k0_part105 ..
    | exact keeps_k0_part106 ..
    | exact keeps_k0_part107 ..
    | refine Keeps.dite ?_ ?_
    | refine Keeps.ite ?_ ?_
    | refine Keeps.loop ?_
    | refine all_psigma ?_
    | refine all_prod ?_
    | intro _)

theorem keeps_k0_part109 : ∀ arg1 v65 v109_0 v109_1 v116 c0_i32_215 c1_i32_217 k0_t37, Keeps c H (k0_part109 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v65 v109_0 v109_1 v116 c0_i32_215 c1_i32_217 k0_t37) := by
  intros
  unfold k0_part109
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part110 : ∀ k0_t37 arg28 v400 v431 v438, Keeps c H (k0_part110 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_t37 arg28 v400 v431 v438) := by
  intros
  unfold k0_part110
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part111 : ∀ k0_t37 arg28 v400 v442, Keeps c H (k0_part111 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_t37 arg28 v400 v442) := by
  intros
  unfold k0_part111
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part112 : ∀ arg1 v109_0 v116 k0_t37 arg28 v400 v442 v454 v466 v478 v490 v502 v514 v518, Keeps c H (k0_part112 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v109_0 v116 k0_t37 arg28 v400 v442 v454 v466 v478 v490 v502 v514 v518) := by
  intros
  unfold k0_part112
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part113 : ∀ arg1 v65 v109_0 v109_1 k0_t37 v539 v555 v556, Keeps c H (k0_part113 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v65 v109_0 v109_1 k0_t37 v539 v555 v556) := by
  intros
  unfold k0_part113
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part114 : ∀ k0_t37 v539 v555 v583 v598, Keeps c H (k0_part114 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_t37 v539 v555 v583 v598) := by
  intros
  unfold k0_part114
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part115 : ∀ k0_t37 v539 v555 v583 v635, Keeps c H (k0_part115 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_t37 v539 v555 v583 v635) := by
  intros
  unfold k0_part115
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part116 : ∀ arg1 v65 v109_0 v109_1 v116 v367 c1_i32_218 k0_t38, Keeps c H (k0_part116 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v65 v109_0 v109_1 v116 v367 c1_i32_218 k0_t38) := by
  intros
  unfold k0_part116
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part117 : ∀ k0_t38 arg28 v400 v431 v438, Keeps c H (k0_part117 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_t38 arg28 v400 v431 v438) := by
  intros
  unfold k0_part117
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part118 : ∀ k0_t38 arg28 v400 v442, Keeps c H (k0_part118 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_t38 arg28 v400 v442) := by
  intros
  unfold k0_part118
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part119 : ∀ arg1 v109_0 v116 k0_t38 arg28 v400 v442 v454 v466 v478 v490 v502 v514 v518, Keeps c H (k0_part119 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v109_0 v116 k0_t38 arg28 v400 v442 v454 v466 v478 v490 v502 v514 v518) := by
  intros
  unfold k0_part119
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part120 : ∀ arg1 v65 v109_0 v109_1 k0_t38 v539 v555 v556, Keeps c H (k0_part120 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v65 v109_0 v109_1 k0_t38 v539 v555 v556) := by
  intros
  unfold k0_part120
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part121 : ∀ k0_t38 v539 v555 v583 v598, Keeps c H (k0_part121 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_t38 v539 v555 v583 v598) := by
  intros
  unfold k0_part121
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part122 : ∀ k0_t38 v539 v555 v583 v635, Keeps c H (k0_part122 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_t38 v539 v555 v583 v635) := by
  intros
  unfold k0_part122
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part123 : ∀ arg1 v65 v109_0 v109_1 v369 k0_h12, Keeps c H (k0_part123 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v65 v109_0 v109_1 v369 k0_h12) := by
  intros
  unfold k0_part123
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part124 : ∀ arg1 v369 k0_h12 v427, Keeps c H (k0_part124 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v369 k0_h12 v427) := by
  intros
  unfold k0_part124
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part125 : ∀ arg1 v369 k0_h12 v427 v479, Keeps c H (k0_part125 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v369 k0_h12 v427 v479) := by
  intros
  unfold k0_part125
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part126 : ∀ arg1 v376 c0_i32_233 c1_i32_235 k0_t39, Keeps c H (k0_part126 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v376 c0_i32_233 c1_i32_235 k0_t39) := by
  intros
  unfold k0_part126
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part127 : ∀ arg1 v376 v395 c1_i32_236 k0_t40, Keeps c H (k0_part127 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v376 v395 c1_i32_236 k0_t40) := by
  intros
  unfold k0_part127
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

set_option maxHeartbeats 4000000 in
theorem keeps_k0_part128 : ∀ arg1 v0 v65 v109_0 v109_1 v116, Keeps c H (k0_part128 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v0 v65 v109_0 v109_1 v116) := by
  intros
  unfold k0_part128
  repeat' (with_reducible first
    | exact Keeps.pure _
    | refine Keeps.bind ?_ ?_
    | exact Keeps.load
    | exact Keeps.store
    | exact keeps_k0_part109 ..
    | exact keeps_k0_part110 ..
    | exact keeps_k0_part111 ..
    | exact keeps_k0_part112 ..
    | exact keeps_k0_part113 ..
    | exact keeps_k0_part114 ..
    | exact keeps_k0_part115 ..
    | exact keeps_k0_part116 ..
    | exact keeps_k0_part117 ..
    | exact keeps_k0_part118 ..
    | exact keeps_k0_part119 ..
    | exact keeps_k0_part120 ..
    | exact keeps_k0_part121 ..
    | exact keeps_k0_part122 ..
    | exact keeps_k0_part123 ..
    | exact keeps_k0_part124 ..
    | exact keeps_k0_part125 ..
    | refine Keeps.dite ?_ ?_
    | refine Keeps.ite ?_ ?_
    | refine Keeps.loop ?_
    | refine all_psigma ?_
    | refine all_prod ?_
    | intro _)

theorem keeps_k0_part129 : Keeps c H (k0_part129 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) := by
  unfold k0_part129
  repeat' (with_reducible first
    | exact Keeps.pure _
    | refine Keeps.bind ?_ ?_
    | exact Keeps.load
    | exact Keeps.store
    | exact keeps_k0_part1 ..
    | exact keeps_k0_part2 ..
    | refine Keeps.dite ?_ ?_
    | refine Keeps.ite ?_ ?_
    | refine Keeps.loop ?_
    | refine all_psigma ?_
    | refine all_prod ?_
    | intro _)

theorem keeps_k0_part130 : ∀ v5 v9 v13 v17 v21 v25 v26 v27, Keeps c H (k0_part130 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v5 v9 v13 v17 v21 v25 v26 v27) := by
  intros
  unfold k0_part130
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part131 : ∀ arg1 v0 v41 v48, Keeps c H (k0_part131 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v0 v41 v48) := by
  intros
  unfold k0_part131
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

end Cert.Kernel.Hand

end
-- ==== Proof.PartsC.lean ====
/-
  Untrusted. The printed kernel's parts, each shown to keep the held buffers: by the rules of Keeps.lean, statement by statement,
  a part called inside another by its own theorem.
-/
module

public import proofs.«01_k».proof.Proof.PartsB

@[expose] public section

set_option maxRecDepth 16384

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]
variable {c : Dev nD} {H : sProp (MT nD τ sig Unit (Elt F) ℕ (UR sig nD τ) ℕ)}
variable (i : grid0.Coords)
  (arg2 : Memref sig .tc .vmem S1x256x512 .bf16) (harg2 : arg2.IsWhole) [Has c H arg2]
  (arg3 : Memref sig .tc .vmem S1x256x512 .bf16) (harg3 : arg3.IsWhole) [Has c H arg3]
  (arg4 : Memref sig .tc .vmem S1x256x128 .f32) (harg4 : arg4.IsWhole) [Has c H arg4]
  (arg5 : Memref sig .tc .vmem S1x2048x128 .f32) (harg5 : arg5.IsWhole) [Has c H arg5]
  (arg6 : Memref sig .tc .vmem S1x2048x128 .bf16) (harg6 : arg6.IsWhole) [Has c H arg6]
  (arg7 : Memref sig .tc .vmem S1x2048x128 .bf16) (harg7 : arg7.IsWhole) [Has c H arg7]
  (arg8 : Memref sig .tc .vmem S1x128 .f32) (harg8 : arg8.IsWhole) [Has c H arg8]
  (arg9 : Memref sig .tc .vmem S8x128x128 .bf16) (harg9 : arg9.IsWhole) [Has c H arg9]
  (arg10 : Memref sig .tc .vmem S8x64x128 .bf16) (harg10 : arg10.IsWhole) [Has c H arg10]
  (arg11 : Memref sig .tc .vmem S3x256x2048 .f32) (harg11 : arg11.IsWhole) [Has c H arg11]
  (arg12 : Memref sig .tc .vmem S1x512x256 .bf16) (harg12 : arg12.IsWhole) [Has c H arg12]
  (arg13 : Memref sig .tc .vmem S2048x128 .bf16) (harg13 : arg13.IsWhole) [Has c H arg13]
  (arg14 : Memref sig .tc .vmem S8x144x256 .bf16) (harg14 : arg14.IsWhole) [Has c H arg14]
  (arg15 : Memref sig .tc .vmem S8x256x256 .i32) (harg15 : arg15.IsWhole) [Has c H arg15]
  (arg16 : Memref sig .tc .vmem S8x256x256 .i16) (harg16 : arg16.IsWhole) [Has c H arg16]
  (arg17 : Memref sig .tc .vmem S8x256x2048 .f32) (harg17 : arg17.IsWhole) [Has c H arg17]
  (arg18 : Memref sig .tc .vmem S144x2048 .f32) (harg18 : arg18.IsWhole) [Has c H arg18]
  (arg19 : Memref sig .tc .vmem S512x1024 .f32) (harg19 : arg19.IsWhole) [Has c H arg19]
  (arg20 : Memref sig .tc .vmem S512x1024 .f32) (harg20 : arg20.IsWhole) [Has c H arg20]
  (arg21 : Memref sig .tc .vmem S256x256 .f32) (harg21 : arg21.IsWhole) [Has c H arg21]
  (arg22 : Memref sig .tc .vmem S256x256 .f32) (harg22 : arg22.IsWhole) [Has c H arg22]
  (arg23 : Memref sig .tc .vmem S256x2048 .bf16) (harg23 : arg23.IsWhole) [Has c H arg23]
  (arg24 : Memref sig .tc .vmem S256x2048 .bf16) (harg24 : arg24.IsWhole) [Has c H arg24]
  (arg25 : Memref sig .tc .vmem S8x8x2048 .f32) (harg25 : arg25.IsWhole) [Has c H arg25]
  (arg26 : Memref sig .tc .vmem S8x8x256 .f32) (harg26 : arg26.IsWhole) [Has c H arg26]

theorem keeps_k0_part132 : ∀ arg1 v0 v41 v48 v55 v65 c0_i32_61 v96 c1_i32_62, Keeps c H (k0_part132 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v0 v41 v48 v55 v65 c0_i32_61 v96 c1_i32_62) := by
  intros
  unfold k0_part132
  with_reducible
    refine Keeps.bind ?_ ?_
    · refine Keeps.loop ?_
      intro _ _
      refine Keeps.bind ?_ ?_
      · exact keeps_k0_part3 (F := F) ..
      refine all_psigma ?_; intro _; intro _
      refine Keeps.bind ?_ ?_
      · exact keeps_k0_part4 (F := F) ..
      intro _
      refine Keeps.bind ?_ ?_
      · exact keeps_k0_part5 (F := F) ..
      intro _
      refine Keeps.bind ?_ ?_
      · exact keeps_k0_part6 (F := F) ..
      intro _
      refine Keeps.bind ?_ ?_
      · exact keeps_k0_part7 (F := F) ..
      refine all_psigma ?_; intro _; refine all_psigma ?_; intro _; intro _
      refine Keeps.bind ?_ ?_
      · exact keeps_k0_part8 (F := F) ..
      intro _
      refine Keeps.bind ?_ ?_
      · exact Keeps.load
      intro _
      refine Keeps.bind ?_ ?_
      · exact Keeps.store
      intro _
      exact Keeps.pure _
    intro _
    refine Keeps.bind ?_ ?_
    · refine Keeps.loop ?_
      intro _ _
      refine Keeps.bind ?_ ?_
      · exact keeps_k0_part9 (F := F) ..
      refine all_psigma ?_; intro _; intro _
      refine Keeps.bind ?_ ?_
      · exact keeps_k0_part10 (F := F) ..
      intro _
      refine Keeps.bind ?_ ?_
      · exact keeps_k0_part11 (F := F) ..
      intro _
      refine Keeps.bind ?_ ?_
      · exact keeps_k0_part12 (F := F) ..
      intro _
      refine Keeps.bind ?_ ?_
      · exact keeps_k0_part13 (F := F) ..
      refine all_psigma ?_; intro _; refine all_psigma ?_; intro _; intro _
      refine Keeps.bind ?_ ?_
      · exact keeps_k0_part14 (F := F) ..
      intro _
      refine Keeps.bind ?_ ?_
      · exact Keeps.load
      intro _
      refine Keeps.bind ?_ ?_
      · exact Keeps.store
      intro _
      exact Keeps.pure _
    intro _
    try dsimp -zeta only
    extract_lets -underBinder
    rename_i jp1
    have hj1 : ∀ x, Keeps c H (jp1 x) := by
      intro x; subst jp1; revert x
      rintro ⟨⟩
      try dsimp -zeta only
      try dsimp -zeta only
      extract_lets -underBinder
      rename_i jp2
      have hj2 : ∀ x, Keeps c H (jp2 x) := by
        intro x; subst jp2; revert x
        refine all_prod ?_; intro _ _
        try dsimp -zeta only
        refine Keeps.bind ?_ ?_
        · refine Keeps.loop ?_
          intro _ _
          refine Keeps.bind ?_ ?_
          · exact Keeps.load
          intro _
          refine Keeps.bind ?_ ?_
          · exact Keeps.store
          intro _
          refine Keeps.bind ?_ ?_
          · exact Keeps.load
          intro _
          exact Keeps.pure _
        intro _
        refine Keeps.bind ?_ ?_
        · refine Keeps.loop ?_
          intro _ _
          refine Keeps.bind ?_ ?_
          · exact Keeps.load
          intro _
          refine Keeps.bind ?_ ?_
          · exact Keeps.store
          intro _
          refine Keeps.bind ?_ ?_
          · exact Keeps.load
          intro _
          exact Keeps.pure _
        intro _
        refine Keeps.bind ?_ ?_
        · refine Keeps.loop ?_
          intro _ _
          refine Keeps.bind ?_ ?_
          · exact Keeps.load
          intro _
          exact Keeps.pure _
        intro _
        refine Keeps.bind ?_ ?_
        · refine Keeps.loop ?_
          intro _ _
          refine Keeps.bind ?_ ?_
          · exact Keeps.load
          intro _
          exact Keeps.pure _
        intro _
        exact Keeps.pure _
      clear_value jp2
      refine Keeps.dite (F := F) ?_ ?_
      · intro _
        try dsimp -zeta only
        extract_lets -underBinder
        rename_i jp3
        have hj3 : ∀ x, Keeps c H (jp3 x) := by
          intro x; subst jp3; revert x
          refine all_prod ?_; intro _ _
          try dsimp -zeta only
          first | exact hj2 _ | exact Keeps.bind (Keeps.pure _) hj2
        clear_value jp3
        refine Keeps.dite (F := F) ?_ ?_
        · intro _
          try dsimp -zeta only
          extract_lets -underBinder
          rename_i jp4
          have hj4 : ∀ x, Keeps c H (jp4 x) := by
            intro x; subst jp4; revert x
            refine all_prod ?_; intro _ _
            try dsimp -zeta only
            first | exact hj3 _ | exact Keeps.bind (Keeps.pure _) hj3
          clear_value jp4
          refine Keeps.dite (F := F) ?_ ?_
          · intro _
            try dsimp -zeta only
            extract_lets -underBinder
            rename_i jp5
            have hj5 : ∀ x, Keeps c H (jp5 x) := by
              intro x; subst jp5; revert x
              refine all_prod ?_; intro _ _
              try dsimp -zeta only
              first | exact hj4 _ | exact Keeps.bind (Keeps.pure _) hj4
            clear_value jp5
            refine Keeps.dite (F := F) ?_ ?_
            · intro _
              try dsimp -zeta only
              extract_lets -underBinder
              rename_i jp6
              have hj6 : ∀ x, Keeps c H (jp6 x) := by
                intro x; subst jp6; revert x
                refine all_prod ?_; intro _ _
                try dsimp -zeta only
                first | exact hj5 _ | exact Keeps.bind (Keeps.pure _) hj5
              clear_value jp6
              refine Keeps.dite (F := F) ?_ ?_
              · intro _
                try dsimp -zeta only
                extract_lets -underBinder
                rename_i jp7
                have hj7 : ∀ x, Keeps c H (jp7 x) := by
                  intro x; subst jp7; revert x
                  refine all_prod ?_; intro _ _
                  try dsimp -zeta only
                  first | exact hj6 _ | exact Keeps.bind (Keeps.pure _) hj6
                clear_value jp7
                refine Keeps.dite (F := F) ?_ ?_
                · intro _
                  try dsimp -zeta only
                  extract_lets -underBinder
                  rename_i jp8
                  have hj8 : ∀ x, Keeps c H (jp8 x) := by
                    intro x; subst jp8; revert x
                    refine all_prod ?_; intro _ _
                    try dsimp -zeta only
                    first | exact hj7 _ | exact Keeps.bind (Keeps.pure _) hj7
                  clear_value jp8
                  refine Keeps.dite (F := F) ?_ ?_
                  · intro _
                    refine Keeps.bind ?_ ?_
                    · exact keeps_k0_part29 (F := F) ..
                    refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; intro _
                    refine Keeps.bind ?_ ?_
                    · exact keeps_k0_part30 (F := F) ..
                    refine all_psigma ?_; intro _; refine all_psigma ?_; intro _; refine all_psigma ?_; intro _; refine all_psigma ?_; intro _; refine all_psigma ?_; intro _; refine all_psigma ?_; intro _; intro _
                    refine Keeps.bind ?_ ?_
                    · exact keeps_k0_part31 (F := F) ..
                    refine all_psigma ?_; intro _; refine all_psigma ?_; intro _; refine all_psigma ?_; intro _; intro _
                    refine Keeps.bind ?_ ?_
                    · exact keeps_k0_part32 (F := F) ..
                    refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; intro _
                    refine Keeps.bind ?_ ?_
                    · exact keeps_k0_part33 (F := F) ..
                    refine all_psigma ?_; intro _; refine all_psigma ?_; intro _; intro _
                    refine Keeps.bind ?_ ?_
                    · exact keeps_k0_part34 (F := F) ..
                    refine all_psigma ?_; intro _; refine all_psigma ?_; intro _; refine all_psigma ?_; intro _; intro _
                    first | exact hj8 _ | exact Keeps.bind (Keeps.pure _) hj8
                  · intro _
                    refine Keeps.bind ?_ ?_
                    · exact keeps_k0_part45 (F := F) ..
                    refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; intro _
                    refine Keeps.bind ?_ ?_
                    · exact keeps_k0_part46 (F := F) ..
                    refine all_psigma ?_; intro _; refine all_psigma ?_; intro _; refine all_psigma ?_; intro _; refine all_psigma ?_; intro _; refine all_psigma ?_; intro _; refine all_psigma ?_; intro _; intro _
                    refine Keeps.bind ?_ ?_
                    · exact keeps_k0_part47 (F := F) ..
                    refine all_psigma ?_; intro _; refine all_psigma ?_; intro _; refine all_psigma ?_; intro _; intro _
                    refine Keeps.bind ?_ ?_
                    · exact keeps_k0_part48 (F := F) ..
                    refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; intro _
                    refine Keeps.bind ?_ ?_
                    · exact keeps_k0_part49 (F := F) ..
                    refine all_psigma ?_; intro _; refine all_psigma ?_; intro _; intro _
                    refine Keeps.bind ?_ ?_
                    · exact keeps_k0_part50 (F := F) ..
                    refine all_psigma ?_; intro _; refine all_psigma ?_; intro _; intro _
                    first | exact hj8 _ | exact Keeps.bind (Keeps.pure _) hj8
                · intro _
                  refine Keeps.bind ?_ ?_
                  · exact keeps_k0_part59 (F := F) ..
                  refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; intro _
                  refine Keeps.bind ?_ ?_
                  · exact keeps_k0_part60 (F := F) ..
                  refine all_psigma ?_; intro _; refine all_psigma ?_; intro _; refine all_psigma ?_; intro _; refine all_psigma ?_; intro _; refine all_psigma ?_; intro _; refine all_psigma ?_; intro _; intro _
                  refine Keeps.bind ?_ ?_
                  · exact keeps_k0_part61 (F := F) ..
                  refine all_psigma ?_; intro _; refine all_psigma ?_; intro _; refine all_psigma ?_; intro _; intro _
                  refine Keeps.bind ?_ ?_
                  · exact keeps_k0_part62 (F := F) ..
                  refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; intro _
                  refine Keeps.bind ?_ ?_
                  · exact keeps_k0_part63 (F := F) ..
                  refine all_psigma ?_; intro _; refine all_psigma ?_; intro _; intro _
                  first | exact hj7 _ | exact Keeps.bind (Keeps.pure _) hj7
              · intro _
                refine Keeps.bind ?_ ?_
                · exact keeps_k0_part71 (F := F) ..
                refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; intro _
                refine Keeps.bind ?_ ?_
                · exact keeps_k0_part72 (F := F) ..
                refine all_psigma ?_; intro _; refine all_psigma ?_; intro _; refine all_psigma ?_; intro _; refine all_psigma ?_; intro _; refine all_psigma ?_; intro _; refine all_psigma ?_; intro _; intro _
                refine Keeps.bind ?_ ?_
                · exact keeps_k0_part73 (F := F) ..
                refine all_psigma ?_; intro _; refine all_psigma ?_; intro _; refine all_psigma ?_; intro _; intro _
                refine Keeps.bind ?_ ?_
                · exact keeps_k0_part74 (F := F) ..
                refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; intro _
                first | exact hj6 _ | exact Keeps.bind (Keeps.pure _) hj6
            · intro _
              refine Keeps.bind ?_ ?_
              · exact keeps_k0_part81 (F := F) ..
              refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; intro _
              refine Keeps.bind ?_ ?_
              · exact keeps_k0_part82 (F := F) ..
              refine all_psigma ?_; intro _; refine all_psigma ?_; intro _; refine all_psigma ?_; intro _; refine all_psigma ?_; intro _; refine all_psigma ?_; intro _; refine all_psigma ?_; intro _; intro _
              refine Keeps.bind ?_ ?_
              · exact keeps_k0_part83 (F := F) ..
              refine all_psigma ?_; intro _; refine all_psigma ?_; intro _; refine all_psigma ?_; intro _; intro _
              first | exact hj5 _ | exact Keeps.bind (Keeps.pure _) hj5
          · intro _
            refine Keeps.bind ?_ ?_
            · exact keeps_k0_part88 (F := F) ..
            refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; intro _
            refine Keeps.bind ?_ ?_
            · exact keeps_k0_part89 (F := F) ..
            refine all_psigma ?_; intro _; refine all_psigma ?_; intro _; refine all_psigma ?_; intro _; refine all_psigma ?_; intro _; refine all_psigma ?_; intro _; refine all_psigma ?_; intro _; intro _
            refine Keeps.bind ?_ ?_
            · exact keeps_k0_part90 (F := F) ..
            refine all_psigma ?_; intro _; refine all_psigma ?_; intro _; intro _
            first | exact hj4 _ | exact Keeps.bind (Keeps.pure _) hj4
        · intro _
          refine Keeps.bind ?_ ?_
          · exact keeps_k0_part93 (F := F) ..
          refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; refine all_psigma ?_; intro _; intro _
          refine Keeps.bind ?_ ?_
          · exact keeps_k0_part94 (F := F) ..
          refine all_psigma ?_; intro _; refine all_psigma ?_; intro _; refine all_psigma ?_; intro _; refine all_psigma ?_; intro _; refine all_psigma ?_; intro _; refine all_psigma ?_; intro _; intro _
          first | exact hj3 _ | exact Keeps.bind (Keeps.pure _) hj3
      · intro _
        first | exact hj2 _ | exact Keeps.bind (Keeps.pure _) hj2
    clear_value jp1
    refine Keeps.dite (F := F) ?_ ?_
    · intro _
      refine Keeps.bind ?_ ?_
      · exact keeps_k0_part15 (F := F) ..
      refine all_psigma ?_; intro _; refine all_psigma ?_; intro _; intro _
      refine Keeps.bind ?_ ?_
      · exact keeps_k0_part16 (F := F) ..
      intro _
      refine Keeps.bind ?_ ?_
      · exact Keeps.load
      intro _
      refine Keeps.bind ?_ ?_
      · exact Keeps.store
      intro _
      first | exact hj1 _ | exact Keeps.bind (Keeps.pure _) hj1
    · intro _
      first | exact hj1 _ | exact Keeps.bind (Keeps.pure _) hj1

theorem keeps_k0_part133 : ∀ arg1 v65 v109_0 v109_1 v116 v132, Keeps c H (k0_part133 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v65 v109_0 v109_1 v116 v132) := by
  intros
  unfold k0_part133
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part134 : ∀ v134 v171, Keeps c H (k0_part134 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v134 v171) := by
  intros
  unfold k0_part134
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part135 : ∀ v134 v171 v211, Keeps c H (k0_part135 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v134 v171 v211) := by
  intros
  unfold k0_part135
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part136 : ∀ arg1 v0 v65 v109_0 v109_1 v116 v134 v171, Keeps c H (k0_part136 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v0 v65 v109_0 v109_1 v116 v134 v171) := by
  intros
  unfold k0_part136
  repeat' (with_reducible first
    | exact Keeps.pure _
    | refine Keeps.bind ?_ ?_
    | exact Keeps.load
    | exact Keeps.store
    | exact keeps_k0_part101 ..
    | exact keeps_k0_part108 ..
    | exact keeps_k0_part128 ..
    | exact keeps_k0_part126 ..
    | exact keeps_k0_part127 ..
    | refine Keeps.dite ?_ ?_
    | refine Keeps.ite ?_ ?_
    | refine Keeps.loop ?_
    | refine all_psigma ?_
    | refine all_prod ?_
    | intro _)

theorem keeps_k0_part137 : ∀ v280 v281, Keeps c H (k0_part137 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v280 v281) := by
  intros
  unfold k0_part137
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_k0_part138 : ∀ v284 v313, Keeps c H (k0_part138 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v284 v313) := by
  intros
  unfold k0_part138
  repeat' (with_reducible first
    | exact Keeps.pure _
    | refine Keeps.bind ?_ ?_
    | exact Keeps.load
    | exact Keeps.store
    | refine Keeps.dite ?_ ?_
    | refine Keeps.ite ?_ ?_
    | refine Keeps.loop ?_
    | refine all_psigma ?_
    | refine all_prod ?_
    | intro _)

theorem keeps_cc0_dsa_attention : Keeps c H (cc0_dsa_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) := by
  unfold cc0_dsa_attention
  repeat' (with_reducible first
    | exact Keeps.pure _
    | refine Keeps.bind ?_ ?_
    | exact Keeps.load
    | exact Keeps.store
    | exact keeps_k0_part129 ..
    | exact keeps_k0_part130 ..
    | exact keeps_k0_part131 ..
    | exact keeps_k0_part132 ..
    | exact keeps_k0_part133 ..
    | exact keeps_k0_part134 ..
    | exact keeps_k0_part135 ..
    | exact keeps_k0_part136 ..
    | exact keeps_k0_part137 ..
    | exact keeps_k0_part138 ..
    | refine Keeps.dite ?_ ?_
    | refine Keeps.ite ?_ ?_
    | refine Keeps.loop ?_
    | refine all_psigma ?_
    | refine all_prod ?_
    | intro _)

end Cert.Kernel.Hand

end
-- ==== Proof.Dsa.lean ====
/-
  Untrusted. The frame of `Kernel`, the sparse-attention kernel: every run of it terminates with no fault, with its argument
  arrays as they were and every semaphore counter back at zero.

  The body is not run value by value. Its effects are loads, unmasked stores, branches and counted loops over its eleven staging
  buffers and fourteen scratch buffers, so it keeps those buffers, each held whole at some contents (`keeps_kernel`, by the rules
  of Keeps.lean applied to the printed text part by part, PartsA.lean, PartsB.lean and PartsC.lean). That is the body obligation of relational
  proof data that ask nothing of what the body leaves in a staging buffer (`rdat`); the launch for windows that share an input
  array does the rest.
-/
module

public import proofs.«01_k».proof.Proof.PartsC
public import proofs.«01_k».proof.Defs

@[expose] public section

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [BitOps F]

local notation "𝕄" => MT nD τ sig Unit (Elt F) ℕ (UR sig nD τ) ℕ

/-! ## The buffers in a chain -/

/-- The last buffer of a chain of held buffers is in it. -/
instance hasLast (c : Dev nD) {s : Shape} {e : EltTy} (m : Memref sig .tc .vmem s e) : Has (F := F) c (Held c m) m where
  acc := by
    iintro H
    isplitl [H]
    · iexact H
    iintro H
    iexact H

/-- The first buffer of a chain of held buffers is in it. -/
instance hasHead (c : Dev nD) {s : Shape} {e : EltTy} (m : Memref sig .tc .vmem s e) (R : sProp 𝕄) : Has (F := F) c iprop(Held c m ∗ R) m where
  acc := by
    iintro ⟨H, HR⟩
    isplitl [H]
    · iexact H
    iintro H
    isplitl [H] <;> iassumption

/-- A buffer of the rest of a chain is in the chain. -/
instance hasTail (c : Dev nD) {s : Shape} {e : EltTy} (m : Memref sig .tc .vmem s e) (A R : sProp 𝕄) [h : Has (F := F) c R m] :
    Has (F := F) c iprop(A ∗ R) m where
  acc := by
    iintro ⟨HA, HR⟩
    ihave HR' := h.acc $$ HR
    icases HR' with ⟨H, Hw⟩
    isplitl [H]
    · iexact H
    iintro H
    isplitl [HA]
    · iexact HA
    iapply Hw
    iexact H

/-! ## The body -/

/-- The kernel's body keeps its twenty-five buffers, whatever they hold. -/
theorem keeps_kernel (c : Dev nD) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x256x128 .f32) (harg4 : arg4.IsWhole) (arg5 : Memref sig .tc .vmem S1x2048x128 .f32) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x128 .f32) (harg8 : arg8.IsWhole) (arg9 : Memref sig .tc .vmem S8x128x128 .bf16) (harg9 : arg9.IsWhole) (arg10 : Memref sig .tc .vmem S8x64x128 .bf16) (harg10 : arg10.IsWhole) (arg11 : Memref sig .tc .vmem S3x256x2048 .f32) (harg11 : arg11.IsWhole) (arg12 : Memref sig .tc .vmem S1x512x256 .bf16) (harg12 : arg12.IsWhole) (arg13 : Memref sig .tc .vmem S2048x128 .bf16) (harg13 : arg13.IsWhole) (arg14 : Memref sig .tc .vmem S8x144x256 .bf16) (harg14 : arg14.IsWhole) (arg15 : Memref sig .tc .vmem S8x256x256 .i32) (harg15 : arg15.IsWhole) (arg16 : Memref sig .tc .vmem S8x256x256 .i16) (harg16 : arg16.IsWhole) (arg17 : Memref sig .tc .vmem S8x256x2048 .f32) (harg17 : arg17.IsWhole) (arg18 : Memref sig .tc .vmem S144x2048 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x2048 .bf16) (harg23 : arg23.IsWhole) (arg24 : Memref sig .tc .vmem S256x2048 .bf16) (harg24 : arg24.IsWhole) (arg25 : Memref sig .tc .vmem S8x8x2048 .f32) (harg25 : arg25.IsWhole) (arg26 : Memref sig .tc .vmem S8x8x256 .f32) (harg26 : arg26.IsWhole) :
    Keeps (F := F) c iprop(Held c arg2 ∗ Held c arg3 ∗ Held c arg4 ∗ Held c arg5 ∗ Held c arg6 ∗ Held c arg7 ∗ Held c arg8 ∗ Held c arg9 ∗ Held c arg10 ∗ Held c arg11 ∗ Held c arg12 ∗ Held c arg13 ∗ Held c arg14 ∗ Held c arg15 ∗ Held c arg16 ∗ Held c arg17 ∗ Held c arg18 ∗ Held c arg19 ∗ Held c arg20 ∗ Held c arg21 ∗ Held c arg22 ∗ Held c arg23 ∗ Held c arg24 ∗ Held c arg25 ∗ Held c arg26) (cc0_dsa_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) :=
  keeps_cc0_dsa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26

/-- The scratch buffers, each at some contents, as the launch states them and as `Held` does. -/
theorem scratch_eq (c : Dev nD) :
    (Pipeline.scopedRest (Ix := Unit) (Name := ℕ) (U := UR sig nD τ) (Lvl := ℕ) (Val := Elt F) spec0 c : sProp 𝕄)
      = iprop(Held c (Memref.whole cc0_scratch0) ∗ Held c (Memref.whole cc0_scratch1) ∗ Held c (Memref.whole cc0_scratch2) ∗ Held c (Memref.whole cc0_scratch3) ∗ Held c (Memref.whole cc0_scratch4) ∗ Held c (Memref.whole cc0_scratch5) ∗ Held c (Memref.whole cc0_scratch6) ∗ Held c (Memref.whole cc0_scratch7) ∗ Held c (Memref.whole cc0_scratch8) ∗ Held c (Memref.whole cc0_scratch9) ∗ Held c (Memref.whole cc0_scratch10) ∗ Held c (Memref.whole cc0_scratch11) ∗ Held c (Memref.whole cc0_scratch12) ∗ Held c (Memref.whole cc0_scratch13)) := by
  unfold Held
  rw [scopedRest0_eq]
  simp only [owns_whole]
  try rfl

/-- The body at grid point `t`: the kernel called with the point and the current staging buffers. -/
abbrev bodyAt (t : Fin cfg0.N) : Prog (TpuEff nD τ sig (Elt F) Λ₀ .tc) PUnit :=
  cc0_dsa_attention (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)

/-- The body table's row at the point is `bodyAt`. -/
theorem row (t : Fin cfg0.N) : defs₀ (F := F) .tc cfg0.body (cfg0.bodyArgs t (cfg0.slots t)) = bodyAt t := by
  unfold defs₀; rw [Defs.onTc_tc]

variable [∀ e, Nonempty (Elt F e)]
variable (m : (ℓ : Loc nD τ sig) → Buf (Elt F) ℓ) (ρ : Dev nD → PrngReg)

/-- The proof data on core `c`: each array as the region finds it, nothing asked of what the body leaves in a staging buffer,
    the scratch buffers and the generator register kept, an input array that several windows read dealt among them. -/
def rdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- A statement that keeps a resource, read as the judgement on its run. -/
theorem keeps_run {c : Dev nD} {H : sProp (MT nD τ sig Unit (Elt F) ℕ (UR sig nD τ) ℕ)} {α : Type}
    {p : Prog (TpuEff nD τ sig (Elt F) Λ₀ .tc) α} (h : Keeps c H p) :
    H ⊢ wp frame (wpE (defs₀ (F := F)) Variants.none (c : Thread nD τ) none) Set.univ p (fun _ => H) := h

/-- A staging buffer after the body, as the obligation states it. -/
theorem held_left (c : Dev nD) {s : Shape} {e : EltTy} (b : Memref sig .tc .vmem s e) (Y : s.Idx → Elt F e) :
    Held (F := F) c b ⊢ iprop(∃ X, ⌜True⌝ ∗ owns (c : Thread nD τ) b fullShare X) := by
  unfold Held
  iintro ⟨%d, H⟩
  iexists d
  isplitr
  · ipureintro; trivial
  iexact H

/-- The body obligation of `rdat`: the staging and scratch buffers gathered, the body run by `keeps_kernel`, the buffers dealt
    back. -/
theorem obligation (c : Dev nD) : (rdat (F := F) m c).BodyObligation defs₀ Variants.none () Set.univ := fun t Y _ => by
  rw [bigSep_W0, bigSep_W0, row]
  rw [show (rdat (F := F) m c).Φ t.succ = (rdat (F := F) m c).Φ t.castSucc from rfl,
    show (rdat (F := F) m c).owesAt () t.succ = (rdat (F := F) m c).owesAt () t.castSucc from rfl,
    show (rdat (F := F) m c).Φ t.castSucc = Pipeline.ΦA spec0 c from rfl]
  unfold Pipeline.ΦA
  rw [scratch_eq]
  iintro ⟨⟨⟨S0, S1, S2, S3, S4, S5, S6, S7, S8, S9, S10, S11, S12, S13⟩, Hg⟩, HO, ⟨W0, W1, W2, W3, W4, W5, W6, W7, W8, W9, W10⟩⟩
  iapply (wp_wand_r frame (wpE (defs₀ (F := F)) Variants.none (c : Thread nD τ) none) Set.univ)
  isplitl [W0 W1 W2 W3 W4 W5 W6 W7 W8 W9 W10 S0 S1 S2 S3 S4 S5 S6 S7 S8 S9 S10 S11 S12 S13]
  · iapply (keeps_run (keeps_kernel (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)))
    isplitl [W0]; · unfold Held; iexists _; iexact W0
    isplitl [W1]; · unfold Held; iexists _; iexact W1
    isplitl [W2]; · unfold Held; iexists _; iexact W2
    isplitl [W3]; · unfold Held; iexists _; iexact W3
    isplitl [W4]; · unfold Held; iexists _; iexact W4
    isplitl [W5]; · unfold Held; iexists _; iexact W5
    isplitl [W6]; · unfold Held; iexists _; iexact W6
    isplitl [W7]; · unfold Held; iexists _; iexact W7
    isplitl [W8]; · unfold Held; iexists _; iexact W8
    isplitl [W9]; · unfold Held; iexists _; iexact W9
    isplitl [W10]; · unfold Held; iexists _; iexact W10
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact S13
  iintro %_ ⟨W0, W1, W2, W3, W4, W5, W6, W7, W8, W9, W10, S0, S1, S2, S3, S4, S5, S6, S7, S8, S9, S10, S11, S12, S13⟩
  isplitl [Hg S0 S1 S2 S3 S4 S5 S6 S7 S8 S9 S10 S11 S12 S13]
  · isplitr [Hg]
    swap
    · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact S13
  isplitl [HO]
  · iexact HO
  isplitl [W0]; · iapply (held_left c _ (Y 0)); iexact W0
  isplitl [W1]; · iapply (held_left c _ (Y 1)); iexact W1
  isplitl [W2]; · iapply (held_left c _ (Y 2)); iexact W2
  isplitl [W3]; · iapply (held_left c _ (Y 3)); iexact W3
  isplitl [W4]; · iapply (held_left c _ (Y 4)); iexact W4
  isplitl [W5]; · iapply (held_left c _ (Y 5)); iexact W5
  isplitl [W6]; · iapply (held_left c _ (Y 6)); iexact W6
  isplitl [W7]; · iapply (held_left c _ (Y 7)); iexact W7
  isplitl [W8]; · iapply (held_left c _ (Y 8)); iexact W8
  isplitl [W9]; · iapply (held_left c _ (Y 9)); iexact W9
  iapply (held_left c _ (Y 10)); iexact W10

omit [∀ e, Nonempty (Elt F e)] in
/-- The argument arrays after the run: those the pipeline reads through a window as the window's input array, the others as
    buffers no window touches. -/
theorem args_kept {r : PUnit × MemSt nD τ sig (Elt F)} (h : RDat.FramePost cfg0 (rdat m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨(RDat.FramePost.arr_in h c 5 rfl).trans (V_main_arg0 m c), (RDat.FramePost.arr_in h c 3 rfl).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    (RDat.FramePost.arr_in h c 9 rfl).trans (V_main_arg5 m c)⟩

/-- Every run of the program ends with no fault, its argument arrays unchanged and every semaphore counter at zero. -/
theorem run_dsa : θ_run (defs (F := F)) (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.RDat.θ_run_frame_track_shared cfgs 0 launch₀0 defs₀ Variants.none (rdat m) m ρ main (fun c => obligation m c)
    (fun _ _ _ => rfl) (fun _ _ => rfl) (V m) (hmain m Variants.none) (fun _ _ => rfl) (fun _ => .rfl) (fun _ => .rfl) _
    (fun _ h => ⟨fun c => args_kept m h.1 c, h.2⟩)

end Cert.Kernel.Hand

end
-- ==== Proof.Frames.lean ====
/-
  Untrusted. The frames of the feed-forward, the spatial gating, the memory cross-attention and the input projection, and of
  their references: each read off a generated run.
-/
module

public import proofs.«01_k».proof.Defs
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Kernel8.Frame
public import proofs.«01_k».proof.Proof.Gen.Kernel8Ideal.Value
public import proofs.«01_k».proof.Proof.Gen.Reference8Ideal.Read

@[expose] public section

noncomputable section

namespace Cert.Proof

open Idealize.ShloMosaic Idealize.ShloMosaic.TcCoe

/-- The frame of the last feed-forward at the machine's floats: no fault, arguments unchanged, counters at zero. -/
theorem frame_kernel2 : Cert.quiescent_Kernel2 (hKernel2 := Cert.Kernel2.Gen.facts) :=
  fun m ρ _ => Cert.Kernel2.Gen.frame (F := Bits) m ρ

/-- The frame of the last feed-forward at the ideal values. -/
theorem frame_kernel2Ideal : Cert.quiescent_Kernel2Ideal (hKernel2Ideal := Cert.Kernel2Ideal.Gen.facts) :=
  fun m ρ _ => Cert.Kernel2Ideal.Gen.frame (F := Ideal) m ρ

/-- The frame of the reference of the last feed-forward: it ends with its arguments unchanged, and it has no counters. -/
theorem frame_reference2 : Cert.quiescent_Reference2Ideal (hReference2Ideal := Cert.Reference2Ideal.Gen.facts) :=
  fun m ρ _ => (θ_run Cert.Reference2Ideal.defs _ _).mono
    (fun r h => ⟨fun c => ⟨(h c).2.1, (h c).2.2.1, (h c).2.2.2.1, (h c).2.2.2.2.1, (h c).2.2.2.2.2⟩, sem_eq_zero_of_no_sems (by decide) r.2⟩)
    (Cert.Reference2Ideal.Value.run (F := Ideal) m ρ)

/-- The frame of the spatial gating at the machine's floats: no fault, arguments unchanged, counters at zero. -/
theorem frame_kernel3 : Cert.quiescent_Kernel3 (hKernel3 := Cert.Kernel3.Gen.facts) :=
  fun m ρ _ => Cert.Kernel3.Gen.frame (F := Bits) m ρ

/-- The frame of the spatial gating at the ideal values. -/
theorem frame_kernel3Ideal : Cert.quiescent_Kernel3Ideal (hKernel3Ideal := Cert.Kernel3Ideal.Gen.facts) :=
  fun m ρ _ => Cert.Kernel3Ideal.Gen.frame (F := Ideal) m ρ

/-- The frame of the reference of the spatial gating: it ends with its arguments unchanged, and it has no counters. -/
theorem frame_reference3 : Cert.quiescent_Reference3Ideal (hReference3Ideal := Cert.Reference3Ideal.Gen.facts) :=
  fun m ρ _ => (θ_run Cert.Reference3Ideal.defs _ _).mono
    (fun r h => ⟨fun c => ⟨(h c).2.1, (h c).2.2.1, (h c).2.2.2.1, (h c).2.2.2.2.1, (h c).2.2.2.2.2.1, (h c).2.2.2.2.2.2.1, (h c).2.2.2.2.2.2.2.1, (h c).2.2.2.2.2.2.2.2⟩, sem_eq_zero_of_no_sems (by decide) r.2⟩)
    (Cert.Reference3Ideal.Value.run (F := Ideal) m ρ)

/-- The frame of the memory cross-attention at the machine's floats: no fault, arguments unchanged, counters at zero. -/
theorem frame_kernel4 : Cert.quiescent_Kernel4 (hKernel4 := Cert.Kernel4.Gen.facts) :=
  fun m ρ _ => Cert.Kernel4.Gen.frame (F := Bits) m ρ

/-- The frame of the memory cross-attention at the ideal values. -/
theorem frame_kernel4Ideal : Cert.quiescent_Kernel4Ideal (hKernel4Ideal := Cert.Kernel4Ideal.Gen.facts) :=
  fun m ρ _ => Cert.Kernel4Ideal.Gen.frame (F := Ideal) m ρ

/-- The frame of the reference of the memory cross-attention: it ends with its arguments unchanged, and it has no counters. -/
theorem frame_reference4 : Cert.quiescent_Reference4Ideal (hReference4Ideal := Cert.Reference4Ideal.Gen.facts) :=
  fun m ρ _ => (θ_run Cert.Reference4Ideal.defs _ _).mono
    (fun r h => ⟨fun c => ⟨(h c).2.1, (h c).2.2.1, (h c).2.2.2.1, (h c).2.2.2.2.1, (h c).2.2.2.2.2⟩, sem_eq_zero_of_no_sems (by decide) r.2⟩)
    (Cert.Reference4Ideal.Value.run (F := Ideal) m ρ)

/-- The frame of the input projection at the machine's floats: no fault, arguments unchanged, counters at zero. -/
theorem frame_kernel5 : Cert.quiescent_Kernel5 (hKernel5 := Cert.Kernel5.Gen.facts) :=
  fun m ρ _ => Cert.Kernel5.Gen.frame (F := Bits) m ρ

/-- The frame of the input projection at the ideal values. -/
theorem frame_kernel5Ideal : Cert.quiescent_Kernel5Ideal (hKernel5Ideal := Cert.Kernel5Ideal.Gen.facts) :=
  fun m ρ _ => Cert.Kernel5Ideal.Gen.frame (F := Ideal) m ρ

/-- The frame of the reference of the input projection: it ends with its arguments unchanged, and it has no counters. -/
theorem frame_reference5 : Cert.quiescent_Reference5Ideal (hReference5Ideal := Cert.Reference5Ideal.Gen.facts) :=
  fun m ρ _ => (θ_run Cert.Reference5Ideal.defs _ _).mono
    (fun r h => ⟨fun c => ⟨(h c).2.2.1, (h c).2.2.2.1, (h c).2.2.2.2⟩, sem_eq_zero_of_no_sems (by decide) r.2⟩)
    (Cert.Reference5Ideal.Value.run (F := Ideal) m ρ)

/-- The frame of layer 0's feed-forward at the machine's floats: no fault, arguments unchanged, counters at zero. -/
theorem frame_kernel6 : Cert.quiescent_Kernel6 (hKernel6 := Cert.Kernel6.Gen.facts) :=
  fun m ρ _ => Cert.Kernel6.Gen.frame (F := Bits) m ρ

/-- The frame of layer 0's feed-forward at the ideal values. -/
theorem frame_kernel6Ideal : Cert.quiescent_Kernel6Ideal (hKernel6Ideal := Cert.Kernel6Ideal.Gen.facts) :=
  fun m ρ _ => Cert.Kernel6Ideal.Gen.frame (F := Ideal) m ρ

/-- The frame of the reference of layer 0's feed-forward: it ends with its arguments unchanged, and it has no counters. -/
theorem frame_reference6 : Cert.quiescent_Reference6Ideal (hReference6Ideal := Cert.Reference6Ideal.Gen.facts) :=
  fun m ρ _ => (θ_run Cert.Reference6Ideal.defs _ _).mono
    (fun r h => ⟨fun c => ⟨(h c).2.1, (h c).2.2.1, (h c).2.2.2.1, (h c).2.2.2.2.1, (h c).2.2.2.2.2⟩, sem_eq_zero_of_no_sems (by decide) r.2⟩)
    (Cert.Reference6Ideal.Value.run (F := Ideal) m ρ)

/-- The frame of the keys and values of the memory at the machine's floats: no fault, arguments unchanged, counters at zero. -/
theorem frame_kernel8 : Cert.quiescent_Kernel8 (hKernel8 := Cert.Kernel8.Gen.facts) :=
  fun m ρ _ => Cert.Kernel8.Gen.frame (F := Bits) m ρ

/-- The frame of the keys and values of the memory at the ideal values. -/
theorem frame_kernel8Ideal : Cert.quiescent_Kernel8Ideal (hKernel8Ideal := Cert.Kernel8Ideal.Gen.facts) :=
  fun m ρ _ => Cert.Kernel8Ideal.Gen.frame (F := Ideal) m ρ

/-- The frame of the reference of the keys and values of the memory: it ends with its arguments unchanged, and it has no counters. -/
theorem frame_reference8 : Cert.quiescent_Reference8Ideal (hReference8Ideal := Cert.Reference8Ideal.Gen.facts) :=
  fun m ρ _ => (θ_run Cert.Reference8Ideal.defs _ _).mono
    (fun r h => ⟨fun c => ⟨(h c).2.1, (h c).2.2.1, (h c).2.2.2⟩, sem_eq_zero_of_no_sems (by decide) r.2⟩)
    (Cert.Reference8Ideal.Value.run (F := Ideal) m ρ)

end Cert.Proof

end
-- ==== Proof.Rows.lean ====
/-
  Untrusted. Functions of one row at the ideal instance: the root-mean-square norm that every layer begins with, and the
  reading of a staged block through a rectangle.
-/
module

public import Idealize.ShloMosaic.Lib.Pipeline.Value
public import Idealize.ShloMosaic.Lib.Pointwise
public import Idealize.ShloMosaic.Lib.VecWindow
public import Idealize.ShloMosaic.Lib.Writes
public import Idealize.ShloMosaic.Lib.Ring

@[expose] public section

noncomputable section

namespace Cert.Rows

open Idealize.ShloMosaic Idealize.ShloMosaic.TcCoe Idealize.SL.Sem

/-- The norm of a row `x` of 1024 numbers: each entry by the reciprocal root of the mean square (plus the model's epsilon),
    by the weight. -/
def rms (x w : Fin 1024 → EReal) (k : Fin 1024) : EReal :=
  x k * Ideal.rsqrt (Ideal.div (∑ l : Fin 1024, x l * x l) (Ideal.ofBits .f32 0x44800000#32) + Ideal.ofBits .f32 0x358637BD#32) * w k

/-- A load through a rectangle of a whole buffer that holds `x` reads `x` through the rectangle. -/
theorem readAt_unread {F : FTy → Type} [FloatOps F] {sig : RefSig} {κ : Kind} {sp : Space} {s : Shape} {e : EltTy} {m : Memref sig κ sp s e} (hm : m.IsWhole)
    (x : Vec F s e) (r : LoadRect s) :
    View.readAt (Elt F) m.view r (hm.unread x) = fun j => x (r.idx j) := by
  funext j
  rw [View.readAt_apply, hm.read_unread]

/-- A load of a whole buffer that reads `x` reads `x`. -/
theorem readAt_unread_full {F : FTy → Type} [FloatOps F] {sig : RefSig} {κ : Kind} {sp : Space} {s : Shape} {e : EltTy} {m : Memref sig κ sp s e} (hm : m.IsWhole)
    (x : Vec F s e) {off : Fin s.rank → ℕ} (inb : ∀ a, off a + s.size a ≤ s.size a) :
    View.readAt (Elt F) m.view (Rect.unit off s.size inb).toLoadRect (hm.unread x) = x := by
  rw [View.readAt_full, hm.read_unread]

/-- Reading `x` at the indices of the whole rectangle is `x`. -/
theorem idx_full {F : FTy → Type} [FloatOps F] {s : Shape} {e : EltTy} (x : Vec F s e) {off : Fin s.rank → ℕ} (inb : ∀ a, off a + s.size a ≤ s.size a) :
    (fun j => x ((Rect.unit off s.size inb).idx j)) = x := by
  funext z
  exact congrArg x (Rect.emb_unit_full inb z)

/-- A load of a whole buffer after stores that tile it, each store's payload the tile of one function: the function. -/
theorem readCov_tiles {F : FTy → Type} [FloatOps F] {sig : RefSig} {κ : Kind} {sp : Space} {s : Shape} {e : EltTy}
    (v : View sig κ sp s e) (L : List (View.Piece (Elt F) s e)) {off : Fin s.rank → ℕ} (inb : ∀ a, off a + s.size a ≤ s.size a)
    (size : Fin s.rank → ℕ) (h : View.Piece.tiledL L size = true) (G : s.Idx → Elt F e)
    (hG : ∀ p ∈ L, ∀ x : p.1.shape.Idx, p.2 x = G (p.1.emb x)) :
    v.readCov L (Rect.unit off s.size inb).toLoadRect = G := by
  funext y
  show View.readAt _ _ _ _ y = _
  rw [View.readAt_full]
  exact View.read_writes_apply_of_pieces v _ G L hG y (View.cover_of_tiledL L size h y)

end Cert.Rows
-- ==== Proof.Swiglu.lean ====
/-
  Untrusted. The feed-forward with the final norm: what one grid point writes, row by row.
-/
module

public import proofs.«01_k».proof.Proof.Gen.Kernel2Ideal.Value
public import proofs.«01_k».proof.Proof.Rows

@[expose] public section

set_option maxRecDepth 16384

noncomputable section
namespace Cert.Swiglu
open Cert.Kernel2Ideal Cert.Kernel2Ideal.Gen Cert.Rows
open Idealize.ShloMosaic Idealize.ShloMosaic.TcCoe

/-- The gated hidden row: gate by its logistic by up, gate and up the two halves of the first product. -/
def gated (n : Fin 1024 → EReal) (w : Fin 1024 → Fin 5632 → EReal) (j : Fin 2816) : EReal :=
  (∑ k : Fin 1024, n k * w k ⟨j.val, by omega⟩) * Ideal.logistic (∑ k : Fin 1024, n k * w k ⟨j.val, by omega⟩)
    * ∑ k : Fin 1024, n k * w k ⟨2816 + j.val, by omega⟩

/-- The row after the layer: the row plus the second product of its gated hidden row. -/
def down (h : Fin 1024 → EReal) (a : Fin 2816 → EReal) (w : Fin 2816 → Fin 1024 → EReal) (k : Fin 1024) : EReal :=
  h k + ∑ j : Fin 2816, a j * w j k

/-- The layer on one row, with the final norm. -/
def row (h fn : Fin 1024 → EReal) (wgu : Fin 1024 → Fin 5632 → EReal) (wd : Fin 2816 → Fin 1024 → EReal) (gn : Fin 1024 → EReal)
    (k : Fin 1024) : EReal :=
  rms (down h (gated (rms h fn) wgu) wd) gn k

theorem pay3_apply (v0 : Vec Ideal S1024x1024 .f32) (v2 : Vec Ideal S1x1024 .f32) (r k : Fin 1024) :
    k0_pay3 (F := Ideal) v0 v2 (ix2 r k) = rms (fun k => v0 (ix2 r k)) (fun k => v2 (ix2 0 k)) k := by
  pointwise [k0_pay3, k0_pay2, rms]

theorem pay1_apply (v0 : FVec Ideal S1024x1024 .f32) (v2 : Vec Ideal S1x1024 .f32) (r k : Fin 1024) :
    k0_pay1 (F := Ideal) v0 v2 (ix2 r k) = rms (fun k => v0 (ix2 r k)) (fun k => v2 (ix2 0 k)) k := by
  pointwise [k0_pay1, rms]

theorem pay17_apply (v1 : FVec Ideal S1024x1024 .f32) (v160 : Vec Ideal S1024x2816 .bf16) (v161 : Vec Ideal S1x2816x1024 .bf16) (r k : Fin 1024) :
    k0_pay17 (F := Ideal) v1 v160 v161 (ix2 r k) = down (fun k => v1 (ix2 r k)) (fun j => v160 (ix2 r j)) (fun j k => v161 (ix3 0 j k)) k := by
  pointwise [k0_pay17, down]

/-- The gated hidden row of a block: at row `r`, column `j`. -/
def hidden (n : FVec Ideal S1024x1024 .bf16) (x2 : Vec Ideal S1x1024x5632 .bf16) (y : S1024x2816.Idx) : EReal :=
  gated (fun k => n (ix2 (y 0) k)) (fun k j => x2 (ix3 0 k j)) (y 1)

/-- A tile of 256 columns that begins at column `o` places its index `(a, b)` at `(a, o + b)`. -/
theorem emb_col (o : ℕ) (inb : ∀ a, (![0, o] : Fin 2 → ℕ) a + S1024x256.size a ≤ S1024x2816.size a) (ho : o ≤ 2560) (a : Fin 1024) (b : Fin 256) :
    (Rect.unit (s := S1024x2816) ![0, o] S1024x256.size inb).emb (ix2 a b) = ix2 a ⟨o + b.val, by omega⟩ := by
  funext d; apply Fin.ext
  match d with
  | ⟨0, _⟩ => show 0 + 1 * a.val = a.val; omega
  | ⟨1, _⟩ => show o + 1 * b.val = o + b.val; omega

/-- Columns 0 to 255 of the hidden block are what the body stores there. -/
theorem chunk0 (x0 : Vec Ideal S1024x1024 .f32) (x1 : Vec Ideal S1x1024 .f32) (x2 : Vec Ideal S1x1024x5632 .bf16) (z : S1024x256.Idx) :
    k0_pay4 x0 x1 (fun z => x2 ((Rect.unit (s := S1x1024x5632) ![0, 0, 0] S1x1024x256.size inb_S1x1024x5632_S1x1024x256_0_0_0).toLoadRect.idx z)) (fun z => x2 ((Rect.unit (s := S1x1024x5632) ![0, 0, 2816] S1x1024x256.size inb_S1x1024x5632_S1x1024x256_0_0_2816).toLoadRect.idx z)) z
      = hidden (k0_pay3 x0 x1) x2 ((Rect.unit (s := S1024x2816) ![0, 0] S1024x256.size inb_S1024x2816_S1024x256_0_0).emb z) := by
  idx_vars z
  rw [emb_col 0 _ (by omega)]
  generalize hn : k0_pay3 (F := Ideal) x0 x1 = n
  pointwise [k0_pay4, hidden, gated, hn]

/-- Columns 256 to 511 of the hidden block are what the body stores there. -/
theorem chunk1 (x0 : Vec Ideal S1024x1024 .f32) (x1 : Vec Ideal S1x1024 .f32) (x2 : Vec Ideal S1x1024x5632 .bf16) (z : S1024x256.Idx) :
    k0_pay6 (k0_pay3 x0 x1) (k0_pay5 x0 x1 (fun z => x2 ((Rect.unit (s := S1x1024x5632) ![0, 0, 256] S1x1024x256.size inb_S1x1024x5632_S1x1024x256_0_0_256).toLoadRect.idx z))) (fun z => x2 ((Rect.unit (s := S1x1024x5632) ![0, 0, 3072] S1x1024x256.size inb_S1x1024x5632_S1x1024x256_0_0_3072).toLoadRect.idx z)) z
      = hidden (k0_pay3 x0 x1) x2 ((Rect.unit (s := S1024x2816) ![0, 256] S1024x256.size inb_S1024x2816_S1024x256_0_256).emb z) := by
  idx_vars z
  rw [emb_col 256 _ (by omega)]
  generalize hn : k0_pay3 (F := Ideal) x0 x1 = n
  pointwise [k0_pay6, k0_pay5, hidden, gated, hn]
  simp only [← Nat.add_assoc, Nat.reduceAdd, Nat.zero_add]

/-- Columns 512 to 767 of the hidden block are what the body stores there. -/
theorem chunk2 (x0 : Vec Ideal S1024x1024 .f32) (x1 : Vec Ideal S1x1024 .f32) (x2 : Vec Ideal S1x1024x5632 .bf16) (z : S1024x256.Idx) :
    k0_pay7 (k0_pay3 x0 x1) (fun z => x2 ((Rect.unit (s := S1x1024x5632) ![0, 0, 512] S1x1024x256.size inb_S1x1024x5632_S1x1024x256_0_0_512).toLoadRect.idx z)) (fun z => x2 ((Rect.unit (s := S1x1024x5632) ![0, 0, 3328] S1x1024x256.size inb_S1x1024x5632_S1x1024x256_0_0_3328).toLoadRect.idx z)) z
      = hidden (k0_pay3 x0 x1) x2 ((Rect.unit (s := S1024x2816) ![0, 512] S1024x256.size inb_S1024x2816_S1024x256_0_512).emb z) := by
  idx_vars z
  rw [emb_col 512 _ (by omega)]
  generalize hn : k0_pay3 (F := Ideal) x0 x1 = n
  pointwise [k0_pay7, hidden, gated, hn]
  simp only [← Nat.add_assoc, Nat.reduceAdd, Nat.zero_add]

/-- Columns 768 to 1023 of the hidden block are what the body stores there. -/
theorem chunk3 (x0 : Vec Ideal S1024x1024 .f32) (x1 : Vec Ideal S1x1024 .f32) (x2 : Vec Ideal S1x1024x5632 .bf16) (z : S1024x256.Idx) :
    k0_pay8 (k0_pay3 x0 x1) (fun z => x2 ((Rect.unit (s := S1x1024x5632) ![0, 0, 768] S1x1024x256.size inb_S1x1024x5632_S1x1024x256_0_0_768).toLoadRect.idx z)) (fun z => x2 ((Rect.unit (s := S1x1024x5632) ![0, 0, 3584] S1x1024x256.size inb_S1x1024x5632_S1x1024x256_0_0_3584).toLoadRect.idx z)) z
      = hidden (k0_pay3 x0 x1) x2 ((Rect.unit (s := S1024x2816) ![0, 768] S1024x256.size inb_S1024x2816_S1024x256_0_768).emb z) := by
  idx_vars z
  rw [emb_col 768 _ (by omega)]
  generalize hn : k0_pay3 (F := Ideal) x0 x1 = n
  pointwise [k0_pay8, hidden, gated, hn]
  simp only [← Nat.add_assoc, Nat.reduceAdd, Nat.zero_add]

/-- Columns 1024 to 1279 of the hidden block are what the body stores there. -/
theorem chunk4 (x0 : Vec Ideal S1024x1024 .f32) (x1 : Vec Ideal S1x1024 .f32) (x2 : Vec Ideal S1x1024x5632 .bf16) (z : S1024x256.Idx) :
    k0_pay9 (k0_pay3 x0 x1) (fun z => x2 ((Rect.unit (s := S1x1024x5632) ![0, 0, 1024] S1x1024x256.size inb_S1x1024x5632_S1x1024x256_0_0_1024).toLoadRect.idx z)) (fun z => x2 ((Rect.unit (s := S1x1024x5632) ![0, 0, 3840] S1x1024x256.size inb_S1x1024x5632_S1x1024x256_0_0_3840).toLoadRect.idx z)) z
      = hidden (k0_pay3 x0 x1) x2 ((Rect.unit (s := S1024x2816) ![0, 1024] S1024x256.size inb_S1024x2816_S1024x256_0_1024).emb z) := by
  idx_vars z
  rw [emb_col 1024 _ (by omega)]
  generalize hn : k0_pay3 (F := Ideal) x0 x1 = n
  pointwise [k0_pay9, hidden, gated, hn]
  simp only [← Nat.add_assoc, Nat.reduceAdd, Nat.zero_add]

/-- Columns 1280 to 1535 of the hidden block are what the body stores there. -/
theorem chunk5 (x0 : Vec Ideal S1024x1024 .f32) (x1 : Vec Ideal S1x1024 .f32) (x2 : Vec Ideal S1x1024x5632 .bf16) (z : S1024x256.Idx) :
    k0_pay10 (k0_pay3 x0 x1) (fun z => x2 ((Rect.unit (s := S1x1024x5632) ![0, 0, 1280] S1x1024x256.size inb_S1x1024x5632_S1x1024x256_0_0_1280).toLoadRect.idx z)) (fun z => x2 ((Rect.unit (s := S1x1024x5632) ![0, 0, 4096] S1x1024x256.size inb_S1x1024x5632_S1x1024x256_0_0_4096).toLoadRect.idx z)) z
      = hidden (k0_pay3 x0 x1) x2 ((Rect.unit (s := S1024x2816) ![0, 1280] S1024x256.size inb_S1024x2816_S1024x256_0_1280).emb z) := by
  idx_vars z
  rw [emb_col 1280 _ (by omega)]
  generalize hn : k0_pay3 (F := Ideal) x0 x1 = n
  pointwise [k0_pay10, hidden, gated, hn]
  simp only [← Nat.add_assoc, Nat.reduceAdd, Nat.zero_add]

/-- Columns 1536 to 1791 of the hidden block are what the body stores there. -/
theorem chunk6 (x0 : Vec Ideal S1024x1024 .f32) (x1 : Vec Ideal S1x1024 .f32) (x2 : Vec Ideal S1x1024x5632 .bf16) (z : S1024x256.Idx) :
    k0_pay12 (k0_pay3 x0 x1) (k0_pay11 (k0_pay3 x0 x1) (fun z => x2 ((Rect.unit (s := S1x1024x5632) ![0, 0, 1536] S1x1024x256.size inb_S1x1024x5632_S1x1024x256_0_0_1536).toLoadRect.idx z))) (fun z => x2 ((Rect.unit (s := S1x1024x5632) ![0, 0, 4352] S1x1024x256.size inb_S1x1024x5632_S1x1024x256_0_0_4352).toLoadRect.idx z)) z
      = hidden (k0_pay3 x0 x1) x2 ((Rect.unit (s := S1024x2816) ![0, 1536] S1024x256.size inb_S1024x2816_S1024x256_0_1536).emb z) := by
  idx_vars z
  rw [emb_col 1536 _ (by omega)]
  generalize hn : k0_pay3 (F := Ideal) x0 x1 = n
  pointwise [k0_pay12, k0_pay11, hidden, gated, hn]
  simp only [← Nat.add_assoc, Nat.reduceAdd, Nat.zero_add]

/-- Columns 1792 to 2047 of the hidden block are what the body stores there. -/
theorem chunk7 (x0 : Vec Ideal S1024x1024 .f32) (x1 : Vec Ideal S1x1024 .f32) (x2 : Vec Ideal S1x1024x5632 .bf16) (z : S1024x256.Idx) :
    k0_pay13 (k0_pay3 x0 x1) (fun z => x2 ((Rect.unit (s := S1x1024x5632) ![0, 0, 1792] S1x1024x256.size inb_S1x1024x5632_S1x1024x256_0_0_1792).toLoadRect.idx z)) (fun z => x2 ((Rect.unit (s := S1x1024x5632) ![0, 0, 4608] S1x1024x256.size inb_S1x1024x5632_S1x1024x256_0_0_4608).toLoadRect.idx z)) z
      = hidden (k0_pay3 x0 x1) x2 ((Rect.unit (s := S1024x2816) ![0, 1792] S1024x256.size inb_S1024x2816_S1024x256_0_1792).emb z) := by
  idx_vars z
  rw [emb_col 1792 _ (by omega)]
  generalize hn : k0_pay3 (F := Ideal) x0 x1 = n
  pointwise [k0_pay13, hidden, gated, hn]
  simp only [← Nat.add_assoc, Nat.reduceAdd, Nat.zero_add]

/-- Columns 2048 to 2303 of the hidden block are what the body stores there. -/
theorem chunk8 (x0 : Vec Ideal S1024x1024 .f32) (x1 : Vec Ideal S1x1024 .f32) (x2 : Vec Ideal S1x1024x5632 .bf16) (z : S1024x256.Idx) :
    k0_pay14 (k0_pay3 x0 x1) (fun z => x2 ((Rect.unit (s := S1x1024x5632) ![0, 0, 2048] S1x1024x256.size inb_S1x1024x5632_S1x1024x256_0_0_2048).toLoadRect.idx z)) (fun z => x2 ((Rect.unit (s := S1x1024x5632) ![0, 0, 4864] S1x1024x256.size inb_S1x1024x5632_S1x1024x256_0_0_4864).toLoadRect.idx z)) z
      = hidden (k0_pay3 x0 x1) x2 ((Rect.unit (s := S1024x2816) ![0, 2048] S1024x256.size inb_S1024x2816_S1024x256_0_2048).emb z) := by
  idx_vars z
  rw [emb_col 2048 _ (by omega)]
  generalize hn : k0_pay3 (F := Ideal) x0 x1 = n
  pointwise [k0_pay14, hidden, gated, hn]
  simp only [← Nat.add_assoc, Nat.reduceAdd, Nat.zero_add]

/-- Columns 2304 to 2559 of the hidden block are what the body stores there. -/
theorem chunk9 (x0 : Vec Ideal S1024x1024 .f32) (x1 : Vec Ideal S1x1024 .f32) (x2 : Vec Ideal S1x1024x5632 .bf16) (z : S1024x256.Idx) :
    k0_pay15 (k0_pay3 x0 x1) (fun z => x2 ((Rect.unit (s := S1x1024x5632) ![0, 0, 2304] S1x1024x256.size inb_S1x1024x5632_S1x1024x256_0_0_2304).toLoadRect.idx z)) (fun z => x2 ((Rect.unit (s := S1x1024x5632) ![0, 0, 5120] S1x1024x256.size inb_S1x1024x5632_S1x1024x256_0_0_5120).toLoadRect.idx z)) z
      = hidden (k0_pay3 x0 x1) x2 ((Rect.unit (s := S1024x2816) ![0, 2304] S1024x256.size inb_S1024x2816_S1024x256_0_2304).emb z) := by
  idx_vars z
  rw [emb_col 2304 _ (by omega)]
  generalize hn : k0_pay3 (F := Ideal) x0 x1 = n
  pointwise [k0_pay15, hidden, gated, hn]
  simp only [← Nat.add_assoc, Nat.reduceAdd, Nat.zero_add]

/-- Columns 2560 to 2815 of the hidden block are what the body stores there. -/
theorem chunk10 (x0 : Vec Ideal S1024x1024 .f32) (x1 : Vec Ideal S1x1024 .f32) (x2 : Vec Ideal S1x1024x5632 .bf16) (z : S1024x256.Idx) :
    k0_pay16 (k0_pay3 x0 x1) (fun z => x2 ((Rect.unit (s := S1x1024x5632) ![0, 0, 2560] S1x1024x256.size inb_S1x1024x5632_S1x1024x256_0_0_2560).toLoadRect.idx z)) (fun z => x2 ((Rect.unit (s := S1x1024x5632) ![0, 0, 5376] S1x1024x256.size inb_S1x1024x5632_S1x1024x256_0_0_5376).toLoadRect.idx z)) z
      = hidden (k0_pay3 x0 x1) x2 ((Rect.unit (s := S1024x2816) ![0, 2560] S1024x256.size inb_S1024x2816_S1024x256_0_2560).emb z) := by
  idx_vars z
  rw [emb_col 2560 _ (by omega)]
  generalize hn : k0_pay3 (F := Ideal) x0 x1 = n
  pointwise [k0_pay16, hidden, gated, hn]
  simp only [← Nat.add_assoc, Nat.reduceAdd, Nat.zero_add]

set_option maxHeartbeats 1000000 in
/-- WHAT ONE POINT WRITES: row `r` of its block is the layer of row `r` of its input block. -/
theorem out_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x2816 .bf16) (harg7 : arg7.IsWhole)
    (x0 : Vec Ideal S1024x1024 .f32) (x1 : Vec Ideal S1x1024 .f32) (x2 : Vec Ideal S1x1024x5632 .bf16) (x3 : Vec Ideal S1x2816x1024 .bf16) (x4 : Vec Ideal S1x1024 .f32) (r k : Fin 1024) :
    out0_A_5 c i arg1 harg1 arg2 harg2 arg3 harg3 arg4 harg4 arg5 harg5 arg6 harg6 arg7 harg7 x0 x1 x2 x3 x4 (ix2 r k)
      = row (fun k => x0 (ix2 r k)) (fun k => x1 (ix2 0 k)) (fun k j => x2 (ix3 0 k j)) (fun j k => x3 (ix3 0 j k)) (fun k => x4 (ix2 0 k)) k := by
  unfold out0_A_5 kernelRun0_A
  sl_unfold_words
  simp only [readAt_unread]
  have e0 : (fun j => x0 ((Rect.unit (s := S1024x1024) ![0, 0] ![1024, 1024] inb_S1024x1024_S1024x1024_0_0).idx j)) = x0 := idx_full x0 _
  have e1 : (fun j => x1 ((Rect.unit (s := S1x1024) ![0, 0] ![1, 1024] inb_S1x1024_S1x1024_0_0).idx j)) = x1 := idx_full x1 _
  have e4 : (fun j => x4 ((Rect.unit (s := S1x1024) ![0, 0] ![1, 1024] inb_S1x1024_S1x1024_0_0).idx j)) = x4 := idx_full x4 _
  have e3 : (fun j => x3 ((Rect.unit (s := S1x2816x1024) ![0, 0, 0] ![1, 2816, 1024] inb_S1x2816x1024_S1x2816x1024_0_0_0).idx j)) = x3 := idx_full x3 _
  simp only [e0, e1, e3, e4]
  rw [View.read_writes_full, readCov_tiles _ _ _ ![1024, 256] (by sl_kernel_rfl) (hidden (k0_pay3 x0 x1) x2)]
  · rw [pay1_apply, row]
    congr 1
    funext k
    rw [pay17_apply]
    congr 1
    · funext k; pointwise [k0_pay2]
    · funext j
      simp only [hidden, pay3_apply, ix2_0, ix2_1]
  · intro p hp
    simp only [List.mem_cons, List.not_mem_nil, or_false] at hp
    rcases hp with rfl | rfl | rfl | rfl | rfl | rfl | rfl | rfl | rfl | rfl | rfl <;> intro z
    · exact chunk10 x0 x1 x2 z
    · exact chunk9 x0 x1 x2 z
    · exact chunk8 x0 x1 x2 z
    · exact chunk7 x0 x1 x2 z
    · exact chunk6 x0 x1 x2 z
    · exact chunk5 x0 x1 x2 z
    · exact chunk4 x0 x1 x2 z
    · exact chunk3 x0 x1 x2 z
    · exact chunk2 x0 x1 x2 z
    · exact chunk1 x0 x1 x2 z
    · exact chunk0 x0 x1 x2 z

end Cert.Swiglu
-- ==== Proof.SwigluRef.lean ====
/- Hand-written: what the reference of the second call computes, read at an index: row `r` of the result is the layer
   (normalise, gate, project down, add, normalise) of row `r` of the activations, in the very terms of the kernel's rows. -/
module

public import proofs.«01_k».proof.Proof.Swiglu
public import proofs.«01_k».proof.Proof.Gen.Reference2Ideal.Read
public import proofs.«01_k».proof.Proof.Gen.Reference2Ideal.Run

@[expose] public section

noncomputable section

namespace Cert.SwigluRef

open Idealize.ShloMosaic Idealize.ShloMosaic.TcCoe Idealize.SL.Sem
open Cert.Rows Cert.Swiglu
open Cert.Reference2Ideal Cert.Reference2Ideal.Read

/-- The first normalisation, at row `r`, column `k`. -/
theorem v15_apply (x0 : (⟨S16x2048x1024, .f32⟩ : BufTy).Contents (Elt Ideal)) (x1 : (⟨S2x1024, .f32⟩ : BufTy).Contents (Elt Ideal)) (r : Fin 32768) (k : Fin 1024) :
    val_main_v15 (F := Ideal) x0 x1 (ix2 r k) = rms (fun k => x0 (ix3 ⟨r.val / 2048, by omega⟩ ⟨r.val % 2048, by omega⟩ k)) (fun k => x1 (ix2 1 k)) k := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms, Ideal.ofBits_zero_f32, zero_add]

/-- The product with the gate and up weights, at row `r`, column `j`. -/
theorem v18_apply (x0 : (⟨S16x2048x1024, .f32⟩ : BufTy).Contents (Elt Ideal)) (x1 : (⟨S2x1024, .f32⟩ : BufTy).Contents (Elt Ideal)) (x2 : (⟨S2x1024x5632, .f32⟩ : BufTy).Contents (Elt Ideal)) (r : Fin 32768) (j : Fin 5632) :
    val_main_v18 (F := Ideal) x0 x1 x2 (ix2 r j)
      = ∑ k, rms (fun k => x0 (ix3 ⟨r.val / 2048, by omega⟩ ⟨r.val % 2048, by omega⟩ k)) (fun k => x1 (ix2 1 k)) k * x2 (ix3 1 k j) := by
  simp only [← v15_apply x0 x1]
  generalize hn : val_main_v15 (F := Ideal) x0 x1 = n
  pointwise [val_main_v18, val_main_v17, val_main_v16, hn]

/-- The gated hidden row, at row `r`, column `j`. -/
theorem v22_apply (x0 : (⟨S16x2048x1024, .f32⟩ : BufTy).Contents (Elt Ideal)) (x1 : (⟨S2x1024, .f32⟩ : BufTy).Contents (Elt Ideal)) (x2 : (⟨S2x1024x5632, .f32⟩ : BufTy).Contents (Elt Ideal)) (r : Fin 32768) (j : Fin 2816) :
    val_main_v22 (F := Ideal) x0 x1 x2 (ix2 r j)
      = gated (rms (fun k => x0 (ix3 ⟨r.val / 2048, by omega⟩ ⟨r.val % 2048, by omega⟩ k)) (fun k => x1 (ix2 1 k))) (fun k j => x2 (ix3 1 k j)) j := by
  simp only [gated, ← v18_apply x0 x1 x2]
  generalize hn : val_main_v18 (F := Ideal) x0 x1 x2 = n
  pointwise [val_main_v22, val_main_v21, val_main_v20, val_main_v19, val_main_call0_v0, val_main_call0_v1, val_main_call0_v2, val_main_call0_v3, val_main_call0_v4, val_main_call0_v5, val_main_call0_cst, val_main_call0_cst_0, hn, Ideal.logistic, Ideal.ofBits_one_f32]

/-- The activations with the layer's output added, at row `r`, column `k`. -/
theorem v26_apply (x0 : (⟨S16x2048x1024, .f32⟩ : BufTy).Contents (Elt Ideal)) (x1 : (⟨S2x1024, .f32⟩ : BufTy).Contents (Elt Ideal)) (x2 : (⟨S2x1024x5632, .f32⟩ : BufTy).Contents (Elt Ideal)) (x3 : (⟨S2x2816x1024, .f32⟩ : BufTy).Contents (Elt Ideal)) (r : Fin 32768) (k : Fin 1024) :
    val_main_v26 (F := Ideal) x0 x1 x2 x3 (ix2 r k)
      = down (fun k => x0 (ix3 ⟨r.val / 2048, by omega⟩ ⟨r.val % 2048, by omega⟩ k)) (gated (rms (fun k => x0 (ix3 ⟨r.val / 2048, by omega⟩ ⟨r.val % 2048, by omega⟩ k)) (fun k => x1 (ix2 1 k))) (fun k j => x2 (ix3 1 k j))) (fun j k => x3 (ix3 1 j k)) k := by
  simp only [down, ← v22_apply x0 x1 x2]
  generalize hn : val_main_v22 (F := Ideal) x0 x1 x2 = n
  pointwise [val_main_v26, val_main_v25, val_main_v24, val_main_v23, val_main_v0, hn]

/-- THE REFERENCE'S RESULT AT AN INDEX: row `r` is the layer of row `r` of the activations. -/
theorem v39_apply (x0 : (⟨S16x2048x1024, .f32⟩ : BufTy).Contents (Elt Ideal)) (x1 : (⟨S2x1024, .f32⟩ : BufTy).Contents (Elt Ideal)) (x2 : (⟨S2x1024x5632, .f32⟩ : BufTy).Contents (Elt Ideal)) (x3 : (⟨S2x2816x1024, .f32⟩ : BufTy).Contents (Elt Ideal)) (x4 : (⟨S1024, .f32⟩ : BufTy).Contents (Elt Ideal)) (r : Fin 32768) (k : Fin 1024) :
    val_main_v39 (F := Ideal) x0 x1 x2 x3 x4 (ix2 r k)
      = row (fun k => x0 (ix3 ⟨r.val / 2048, by omega⟩ ⟨r.val % 2048, by omega⟩ k)) (fun k => x1 (ix2 1 k)) (fun k j => x2 (ix3 1 k j)) (fun j k => x3 (ix3 1 j k)) (fun k => x4 (ix1 k)) k := by
  have e : (fun k => val_main_v26 (F := Ideal) x0 x1 x2 x3 (ix2 r k))
      = down (fun k => x0 (ix3 ⟨r.val / 2048, by omega⟩ ⟨r.val % 2048, by omega⟩ k)) (gated (rms (fun k => x0 (ix3 ⟨r.val / 2048, by omega⟩ ⟨r.val % 2048, by omega⟩ k)) (fun k => x1 (ix2 1 k))) (fun k j => x2 (ix3 1 k j))) (fun j k => x3 (ix3 1 j k)) :=
    funext fun k => v26_apply x0 x1 x2 x3 r k
  rw [row, ← e]
  generalize hn : val_main_v26 (F := Ideal) x0 x1 x2 x3 = n
  pointwise [val_main_v39, val_main_v38, val_main_v37, val_main_v36, val_main_v35, val_main_v34, val_main_v33, val_main_v32, val_main_v31, val_main_v30, val_main_v29, val_main_v28, val_main_v27, val_main_cst_2, val_main_cst_3, val_main_cst_4, hn, rms, Ideal.ofBits_zero_f32, zero_add]

end Cert.SwigluRef
-- ==== Proof.SwigluRun.lean ====
/- Hand-written: the second call from its first argument to its result. The windows are read at an index through the host
   operations before the call; the blocks of 1024 rows fill the result; so row `r` of the result is the layer of row `r` of
   the activations, which is what the reference computes. -/
module

public import proofs.«01_k».proof.Defs
public import proofs.«01_k».proof.Proof.SwigluRef
public import Idealize.ShloMosaic.Lib.Quiescent

@[expose] public section

noncomputable section

open Idealize.ShloMosaic Idealize.ShloMosaic.TcCoe Idealize.SL.Sem
open Cert.Rows

namespace Cert.Swiglu

open Cert.Kernel2Ideal Cert.Kernel2Ideal.Gen
open Idealize.ShloMosaic.Pipeline (Dat)

variable (m : (ℓ : Loc nD τ sig) → Buf (Elt Ideal) ℓ) (ρ : Dev nD → PrngReg)

/-- Where each window's block lies, at each of the 32 points. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = 1 ∧ win0_2.index t (1 : Fin 3) = 0 ∧ win0_2.index t (2 : Fin 3) = 0)
    ∧ (win0_3.index t (0 : Fin 3) = 1 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

theorem lt32 (t : Fin cfg0.N) : t.val < 32 := by
  have h : t.val < grid0.N := t.isLt
  rwa [N_0] at h

/-- Row `r` of point `t`'s block, as a row of the whole array. -/
abbrev rowAt (t : Fin cfg0.N) (r : Fin 1024) : Fin 32768 := ⟨t.val * 1024 + r.val, by have := lt32 t; omega⟩

theorem emb0 (t : Fin cfg0.N) (r k : Fin 1024) : ((cfg0.win 0).blk t).view.emb (ix2 r k) = ix2 (rowAt t r) k := by
  obtain ⟨⟨e0, e1⟩, _⟩ := idx_facts t
  funext a; apply Fin.ext
  match a with
  | ⟨0, _⟩ => show win0_0.index t (0 : Fin 2) * 1024 + 1 * r.val = t.val * 1024 + r.val; omega
  | ⟨1, _⟩ => show win0_0.index t (1 : Fin 2) * 1024 + 1 * k.val = k.val; omega

theorem emb1 (t : Fin cfg0.N) (z : Fin 1) (k : Fin 1024) : ((cfg0.win 1).blk t).view.emb (ix2 z k) = ix2 z k := by
  obtain ⟨_, ⟨e0, e1⟩, _⟩ := idx_facts t
  funext a; apply Fin.ext
  match a with
  | ⟨0, _⟩ => show win0_1.index t (0 : Fin 2) * 1 + 1 * z.val = z.val; omega
  | ⟨1, _⟩ => show win0_1.index t (1 : Fin 2) * 1024 + 1 * k.val = k.val; omega

theorem emb2 (t : Fin cfg0.N) (k : Fin 1024) (j : Fin 5632) : ((cfg0.win 2).blk t).view.emb (ix3 0 k j) = ix3 1 k j := by
  obtain ⟨_, _, ⟨e0, e1, e2⟩, _⟩ := idx_facts t
  funext a; apply Fin.ext
  match a with
  | ⟨0, _⟩ => show win0_2.index t (0 : Fin 3) * 1 + 1 * 0 = 1; omega
  | ⟨1, _⟩ => show win0_2.index t (1 : Fin 3) * 1024 + 1 * k.val = k.val; omega
  | ⟨2, _⟩ => show win0_2.index t (2 : Fin 3) * 5632 + 1 * j.val = j.val; omega

theorem emb3 (t : Fin cfg0.N) (j : Fin 2816) (k : Fin 1024) : ((cfg0.win 3).blk t).view.emb (ix3 0 j k) = ix3 1 j k := by
  obtain ⟨_, _, _, ⟨e0, e1, e2⟩, _⟩ := idx_facts t
  funext a; apply Fin.ext
  match a with
  | ⟨0, _⟩ => show win0_3.index t (0 : Fin 3) * 1 + 1 * 0 = 1; omega
  | ⟨1, _⟩ => show win0_3.index t (1 : Fin 3) * 2816 + 1 * j.val = j.val; omega
  | ⟨2, _⟩ => show win0_3.index t (2 : Fin 3) * 1024 + 1 * k.val = k.val; omega

theorem emb4 (t : Fin cfg0.N) (z : Fin 1) (k : Fin 1024) : ((cfg0.win 4).blk t).view.emb (ix2 z k) = ix2 z k := by
  obtain ⟨_, _, _, _, ⟨e0, e1⟩, _⟩ := idx_facts t
  funext a; apply Fin.ext
  match a with
  | ⟨0, _⟩ => show win0_4.index t (0 : Fin 2) * 1 + 1 * z.val = z.val; omega
  | ⟨1, _⟩ => show win0_4.index t (1 : Fin 2) * 1024 + 1 * k.val = k.val; omega

theorem emb5 (t : Fin cfg0.N) (r k : Fin 1024) : ((cfg0.win 5).blk t).view.emb (ix2 r k) = ix2 (rowAt t r) k := by
  obtain ⟨_, _, _, _, _, ⟨e0, e1⟩⟩ := idx_facts t
  funext a; apply Fin.ext
  match a with
  | ⟨0, _⟩ => show win0_5.index t (0 : Fin 2) * 1024 + 1 * r.val = t.val * 1024 + r.val; omega
  | ⟨1, _⟩ => show win0_5.index t (1 : Fin 2) * 1024 + 1 * k.val = k.val; omega

/-- The activations as the call finds them: the argument with its first two axes joined. -/
theorem V_v0 (c : Dev nD) : V m c main_v0 = shapeCast S32768x1024 (m ((c : Thread nD τ).loc main_arg0)) shapeCasts_S16x2048x1024_S32768x1024 := by
  unfold_abbrev_sides
  after_results
  rfl

/-- The first norm weight as the call finds it: row 1 of the argument. -/
theorem V_v5 (c : Dev nD) : V m c main_v5 = shapeCast S1x1024 (shapeCast S1024 (extractStridedSlice S1x1024 ![1, 0] (m ((c : Thread nD τ).loc main_arg1)) slices_S2x1024_S1x1024_1_0) shapeCasts_S1x1024_S1024) shapeCasts_S1024_S1x1024 := by
  unfold_abbrev_sides
  after_results
  rfl

/-- The gate and up weights as the call finds them: the argument cast. -/
theorem V_v3 (c : Dev nD) : V m c main_v3 = truncf (F := Ideal) .bf16 (m ((c : Thread nD τ).loc main_arg2)) bitsLt_bf16_f32 := by
  unfold_abbrev_sides
  after_results

/-- The down weights as the call finds them: the argument cast. -/
theorem V_v4 (c : Dev nD) : V m c main_v4 = truncf (F := Ideal) .bf16 (m ((c : Thread nD τ).loc main_arg3)) bitsLt_bf16_f32 := by
  unfold_abbrev_sides
  after_results

/-- The last norm weight as the call finds it. -/
theorem V_v6 (c : Dev nD) : V m c main_v6 = shapeCast S1x1024 (m ((c : Thread nD τ).loc main_arg4)) shapeCasts_S1024_S1x1024 := by
  unfold_abbrev_sides
  after_results
  rfl

theorem cast0 (x : FVec Ideal S16x2048x1024 .f32) (r : Fin 32768) (k : Fin 1024) :
    shapeCast S32768x1024 x shapeCasts_S16x2048x1024_S32768x1024 (ix2 r k) = x (ix3 ⟨r.val / 2048, by omega⟩ ⟨r.val % 2048, by omega⟩ k) := by
  pointwise []

theorem cast1 (x : FVec Ideal S2x1024 .f32) (k : Fin 1024) :
    shapeCast S1x1024 (shapeCast S1024 (extractStridedSlice S1x1024 ![1, 0] x slices_S2x1024_S1x1024_1_0) shapeCasts_S1x1024_S1024) shapeCasts_S1024_S1x1024 (ix2 0 k) = x (ix2 1 k) := by
  pointwise []

theorem cast4 (x : FVec Ideal S1024 .f32) (k : Fin 1024) : shapeCast S1x1024 x shapeCasts_S1024_S1x1024 (ix2 0 k) = x (ix1 k) := by
  pointwise []

theorem iblk0_apply (c : Dev nD) (t : Fin cfg0.N) (r k : Fin 1024) :
    (iblk m c 0 t : S1024x1024.Idx → EReal) (ix2 r k)
      = (m ((c : Thread nD τ).loc main_arg0) : S16x2048x1024.Idx → EReal) (ix3 ⟨(rowAt t r).val / 2048, by omega⟩ ⟨(rowAt t r).val % 2048, by omega⟩ k) := by
  show V m c main_v0 (((cfg0.win 0).blk t).view.emb (ix2 r k)) = _
  rw [emb0]
  exact (congrFun (V_v0 m c) _).trans (cast0 _ _ _)

theorem iblk1_apply (c : Dev nD) (t : Fin cfg0.N) (k : Fin 1024) :
    (iblk m c 1 t : S1x1024.Idx → EReal) (ix2 0 k) = (m ((c : Thread nD τ).loc main_arg1) : S2x1024.Idx → EReal) (ix2 1 k) := by
  show V m c main_v5 (((cfg0.win 1).blk t).view.emb (ix2 0 k)) = _
  rw [emb1]
  exact (congrFun (V_v5 m c) _).trans (cast1 _ _)

theorem iblk2_apply (c : Dev nD) (t : Fin cfg0.N) (k : Fin 1024) (j : Fin 5632) :
    (iblk m c 2 t : S1x1024x5632.Idx → EReal) (ix3 0 k j) = (m ((c : Thread nD τ).loc main_arg2) : S2x1024x5632.Idx → EReal) (ix3 1 k j) := by
  show V m c main_v3 (((cfg0.win 2).blk t).view.emb (ix3 0 k j)) = _
  rw [emb2]
  exact congrFun (V_v3 m c) _

theorem iblk3_apply (c : Dev nD) (t : Fin cfg0.N) (j : Fin 2816) (k : Fin 1024) :
    (iblk m c 3 t : S1x2816x1024.Idx → EReal) (ix3 0 j k) = (m ((c : Thread nD τ).loc main_arg3) : S2x2816x1024.Idx → EReal) (ix3 1 j k) := by
  show V m c main_v4 (((cfg0.win 3).blk t).view.emb (ix3 0 j k)) = _
  rw [emb3]
  exact congrFun (V_v4 m c) _

theorem iblk4_apply (c : Dev nD) (t : Fin cfg0.N) (k : Fin 1024) :
    (iblk m c 4 t : S1x1024.Idx → EReal) (ix2 0 k) = (m ((c : Thread nD τ).loc main_arg4) : S1024.Idx → EReal) (ix1 k) := by
  show V m c main_v6 (((cfg0.win 4).blk t).view.emb (ix2 0 k)) = _
  rw [emb4]
  exact (congrFun (V_v6 m c) _).trans (cast4 _ _)

/-- THE ARRAY AFTER THE RUN, AT AN INDEX: row `r` of the result is the layer of row `r` of the activations. -/
theorem final_apply (c : Dev nD) (r : Fin 32768) (k : Fin 1024) :
    ((dats m 0 c).arrAt 5 cfg0.N : S32768x1024.Idx → EReal) (ix2 r k)
      = row (fun k => (m ((c : Thread nD τ).loc main_arg0) : S16x2048x1024.Idx → EReal) (ix3 ⟨r.val / 2048, by omega⟩ ⟨r.val % 2048, by omega⟩ k))
          (fun k => (m ((c : Thread nD τ).loc main_arg1) : S2x1024.Idx → EReal) (ix2 1 k))
          (fun k j => (m ((c : Thread nD τ).loc main_arg2) : S2x1024x5632.Idx → EReal) (ix3 1 k j))
          (fun j k => (m ((c : Thread nD τ).loc main_arg3) : S2x2816x1024.Idx → EReal) (ix3 1 j k))
          (fun k => (m ((c : Thread nD τ).loc main_arg4) : S1024.Idx → EReal) (ix1 k)) k := by
  obtain ⟨t, ht⟩ : ∃ t : Fin cfg0.N, t.val = r.val / 1024 := ⟨⟨r.val / 1024, by show _ < grid0.N; rw [N_0]; omega⟩, rfl⟩
  have hr : r = rowAt t ⟨r.val % 1024, by omega⟩ := Fin.ext (by show r.val = t.val * 1024 + r.val % 1024; omega)
  generalize (⟨r.val % 1024, by omega⟩ : Fin 1024) = q at hr
  subst hr
  have b := congrFun (Cert.Kernel2Ideal.Value.blocks5 m c t (flush0_5 t)) (ix2 q k)
  rw [Cert.Kernel2Ideal.Value.flushed5_A] at b
  have b' : (dats m 0 c).arrAt 5 cfg0.N (((cfg0.win 5).blk t).view.emb (ix2 q k)) = _ := b
  rw [emb5] at b'
  refine b'.trans ((out_apply _ _ _ _ _ _ _ _ _ _ _ _ _ _ _ _ _ _ _ _ _ _ _).trans ?_)
  simp only [iblk0_apply, iblk1_apply, iblk2_apply, iblk3_apply, iblk4_apply]

end Cert.Swiglu

/-- THE VALUE CLAIM of the second call: at the ideal instance, from equal arguments, the call and the reference end with the
    same result array. -/
theorem Cert.Proof.algebraic2 :
    Cert.algebraic_Kernel2Ideal_Reference2Ideal (hKernel2Ideal := Cert.Kernel2Ideal.Gen.facts) (hReference2Ideal := Cert.Reference2Ideal.Gen.facts) := by
  intro m g m' g' _ hargs
  refine ⟨fun c => (Cert.Kernel2Ideal.Gen.dats m 0 c).arrAt 5 Cert.Kernel2Ideal.cfg0.N, Cert.Kernel2Ideal.Value.run_blocks m g, ?_⟩
  refine (θ_run _ _ _).mono (fun _ h c => ⟨(h c).1.trans ?_, (h c).2⟩) (Cert.Reference2Ideal.Value.run m' g')
  rw [Cert.Reference2Ideal.Read.val_main_v39_eq, (hargs c).1, (hargs c).2.1, (hargs c).2.2.1, (hargs c).2.2.2.1, (hargs c).2.2.2.2]
  funext y
  obtain ⟨r, k, rfl⟩ : ∃ (r : Fin 32768) (k : Fin 1024), y = ix2 r k := ⟨y 0, y 1, (ix2_eta y).symm⟩
  exact (Cert.SwigluRef.v39_apply _ _ _ _ _ r k).trans (Cert.Swiglu.final_apply m c r k).symm
-- ==== Proof.Gmlp.lean ====
/-
  Untrusted. The spatial gating of one block of 1024 positions: its rows, its mixing matrices and its hidden block.
-/
module

public import proofs.«01_k».proof.Proof.Rows
public import proofs.«01_k».proof.Proof.Gen.Kernel3Ideal.Value

@[expose] public section

set_option maxRecDepth 16384

noncomputable section
namespace Cert.Gmlp
open Cert.Kernel3Ideal Cert.Kernel3Ideal.Gen Cert.Rows
open Idealize.ShloMosaic Idealize.ShloMosaic.TcCoe

/-- The exact `gelu` of a number, through the error function, with the model's rounded root of one half. -/
def gelu (x : EReal) : EReal :=
  Ideal.ofBits .f32 0x3F000000#32 * x * (1 + FloatOps.erf (F := Ideal) (φ := .f32) (x * Ideal.ofBits .f32 0x3F3504F3#32))

/-- A row less its mean. -/
def center (v : Fin 1024 → EReal) (k : Fin 1024) : EReal :=
  v k - Ideal.div (∑ l : Fin 1024, v l) (Ideal.ofBits .f32 0x44800000#32)

/-- The layer norm of a row, with its weight and its offset. -/
def lnorm (v g b : Fin 1024 → EReal) (k : Fin 1024) : EReal :=
  center v k * Ideal.rsqrt (Ideal.div (∑ l : Fin 1024, center v l * center v l) (Ideal.ofBits .f32 0x44800000#32) + Ideal.ofBits .f32 0x358637BD#32) * g k + b k

/-- The gated tile of 128 positions and 128 channels whose first row is `o` and whose first channel is `q`, from the hidden
    block `U`, the tile's mixing matrix `M` and its offsets `B`. -/
def tile (U : Vec Ideal S256x2048 .f32) (M : Vec Ideal S128x128 .bf16) (lg lb : Vec Ideal S1x1024 .f32) (B : Vec Ideal S128x128 .f32)
    (o q : ℕ) (ho : o ≤ 128) (hq : q ≤ 896) (a b : Fin 128) : EReal :=
  gelu (U (ix2 ⟨o + a.val, by omega⟩ ⟨q + b.val, by omega⟩))
    * ((∑ s : Fin 128, M (ix2 a s) * lnorm (fun l => gelu (U (ix2 ⟨o + s.val, by omega⟩ ⟨1024 + l.val, by omega⟩))) (fun l => lg (ix2 0 l)) (fun l => lb (ix2 0 l)) ⟨q + b.val, by omega⟩)
      + B (ix2 a b))

/-- The hidden row of a position: the normalised position by the first product's weights. -/
def hid (h n : Fin 1024 → EReal) (w : Fin 1024 → Fin 2048 → EReal) (j : Fin 2048) : EReal :=
  ∑ k : Fin 1024, rms h n k * w k j

/-- The gated block at a position `r` and a channel `k`: the position's own half of the hidden row by the mixture, within the
    position's chunk of 128, of the other half's layer norm; a position reads itself and what comes before it. -/
def gated (uv : Fin 1024 → Fin 2048 → EReal) (lg lb : Fin 1024 → EReal) (w : Fin 8 → Fin 128 → Fin 128 → EReal)
    (b : Fin 128 → Fin 1024 → EReal) (r k : Fin 1024) : EReal :=
  gelu (uv r ⟨k.val, by omega⟩)
    * ((∑ s : Fin 128, (if s ≤ ⟨r.val % 128, by omega⟩ then w ⟨k.val / 128, by omega⟩ ⟨r.val % 128, by omega⟩ s else 0)
          * lnorm (fun l => gelu (uv ⟨r.val / 128 * 128 + s.val, by omega⟩ ⟨1024 + l.val, by omega⟩)) lg lb k)
      + b ⟨r.val % 128, by omega⟩ k)

/-- The layer at a position `r` and a channel `k`: the input plus the gated row by the second product's weights. -/
def out (h : Fin 1024 → Fin 1024 → EReal) (n : Fin 1024 → EReal) (w : Fin 1024 → Fin 2048 → EReal) (lg lb : Fin 1024 → EReal)
    (ws : Fin 8 → Fin 128 → Fin 128 → EReal) (b : Fin 128 → Fin 1024 → EReal) (wo : Fin 1024 → Fin 1024 → EReal) (r k : Fin 1024) : EReal :=
  h r k + ∑ j : Fin 1024, gated (fun r => hid (h r) n w) lg lb ws b r j * wo j k

/-- The gated block over the arrays that a grid point reads. -/
def gatedV (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (y : S1024x1024.Idx) : EReal :=
  gated (fun r => hid (fun k => x0 (ix3 0 r k)) (fun k => x1 (ix2 0 k)) (fun k j => x2 (ix2 k j))) (fun k => x3 (ix2 0 k)) (fun k => x4 (ix2 0 k))
    (fun g t s => x5 (ix3 g t s)) (fun t k => x6 (ix2 t k)) (y 0) (y 1)

/-- Comparing two positions below 128 as words compares them as numbers. -/
theorem sle_apply (a b : Fin 128) :
    IntOp.cmpi .sle (BitVec.ofNat 32 b.val) (BitVec.ofNat 32 a.val) = if b ≤ a then 1#1 else 0#1 := by
  revert a b
  decide +kernel

/-- A tile of 128 rows and 128 columns at row `o`, column `q` places its index `(a, b)` at `(o + a, q + b)`. -/
theorem emb_tile (o q : ℕ) (inb : ∀ a, (![o, q] : Fin 2 → ℕ) a + S128x128.size a ≤ S1024x1024.size a) (ho : o ≤ 896) (hq : q ≤ 896) (a b : Fin 128) :
    (Rect.unit (s := S1024x1024) ![o, q] S128x128.size inb).emb (ix2 a b) = ix2 ⟨o + a.val, by omega⟩ ⟨q + b.val, by omega⟩ := by
  funext d; apply Fin.ext
  match d with
  | ⟨0, _⟩ => show o + 1 * a.val = o + a.val; omega
  | ⟨1, _⟩ => show q + 1 * b.val = q + b.val; omega

/-- A tile over the hidden rows, the masked mixing matrix and the offsets of its place is the gated block there. -/
theorem tile_eq (U : Vec Ideal S256x2048 .f32) (M : Vec Ideal S128x128 .bf16) (x3 x4 : Vec Ideal S1x1024 .f32) (B : Vec Ideal S128x128 .f32)
    (uv : Fin 1024 → Fin 2048 → EReal) (w : Fin 8 → Fin 128 → Fin 128 → EReal) (bb : Fin 128 → Fin 1024 → EReal)
    (sp c g : ℕ) (hs : sp < 4) (hc : c < 2) (hg : g < 8)
    (hU : ∀ (a : Fin 256) (j : Fin 2048), U (ix2 a j) = uv ⟨256 * sp + a.val, by omega⟩ j)
    (hM : ∀ a s : Fin 128, M (ix2 a s) = if s ≤ a then w ⟨g, hg⟩ a s else 0)
    (hB : ∀ a b : Fin 128, B (ix2 a b) = bb a ⟨128 * g + b.val, by omega⟩) (a b : Fin 128) :
    tile U M x3 x4 B (128 * c) (128 * g) (by omega) (by omega) a b
      = gated uv (fun k => x3 (ix2 0 k)) (fun k => x4 (ix2 0 k)) w bb ⟨(256 * sp + 128 * c) + a.val, by omega⟩ ⟨128 * g + b.val, by omega⟩ := by
  have h1 : (⟨((256 * sp + 128 * c) + a.val) % 128, by omega⟩ : Fin 128) = a := Fin.ext (by dsimp only; omega)
  have h2 : (⟨(128 * g + b.val) / 128, by omega⟩ : Fin 8) = ⟨g, hg⟩ := Fin.ext (by dsimp only; omega)
  have h3 : ∀ s : Fin 128, (⟨((256 * sp + 128 * c) + a.val) / 128 * 128 + s.val, by omega⟩ : Fin 1024) = ⟨256 * sp + (128 * c + s.val), by omega⟩ :=
    fun s => Fin.ext (by dsimp only; omega)
  have h4 : (⟨256 * sp + (128 * c + a.val), by omega⟩ : Fin 1024) = ⟨(256 * sp + 128 * c) + a.val, by omega⟩ := Fin.ext (by dsimp only; omega)
  unfold tile gated
  simp only [h1, h2, h3, hU, hM, hB, h4]

/-- The mixing matrix of group 0, masked to the positions at or before. -/
theorem mask0 (x5 : Vec Ideal S8x128x128 .f32) (a b : Fin 128) :
    k0_pay3 (fun z => x5 ((Rect.unit (s := S8x128x128) ![0, 0, 0] S1x128x128.size inb_S8x128x128_S1x128x128_0_0_0).toLoadRect.idx z)) (ix2 a b) = if b ≤ a then x5 (ix3 0 a b) else 0 := by
  pointwise [k0_pay3]
  rw [sle_apply]
  by_cases h : b ≤ a
  · simp only [h, if_true]; rfl
  · simp only [h, if_false]; rfl

/-- The offsets of group 0. -/
theorem off0 (x6 : Vec Ideal S128x1024 .f32) (a b : Fin 128) :
    (fun z => x6 ((Rect.unit (s := S128x1024) ![0, 0] S128x128.size inb_S128x1024_S128x128_0_0).toLoadRect.idx z) : Vec Ideal S128x128 .f32) (ix2 a b) = x6 (ix2 a ⟨128 * 0 + b.val, by omega⟩) := by
  pointwise []

/-- The mixing matrix of group 1, masked to the positions at or before. -/
theorem mask1 (x5 : Vec Ideal S8x128x128 .f32) (a b : Fin 128) :
    k0_pay4 (fun z => x5 ((Rect.unit (s := S8x128x128) ![1, 0, 0] S1x128x128.size inb_S8x128x128_S1x128x128_1_0_0).toLoadRect.idx z)) (ix2 a b) = if b ≤ a then x5 (ix3 1 a b) else 0 := by
  pointwise [k0_pay4]
  rw [sle_apply]
  by_cases h : b ≤ a
  · simp only [h, if_true]; rfl
  · simp only [h, if_false]; rfl

/-- The offsets of group 1. -/
theorem off1 (x6 : Vec Ideal S128x1024 .f32) (a b : Fin 128) :
    (fun z => x6 ((Rect.unit (s := S128x1024) ![0, 128] S128x128.size inb_S128x1024_S128x128_0_128).toLoadRect.idx z) : Vec Ideal S128x128 .f32) (ix2 a b) = x6 (ix2 a ⟨128 * 1 + b.val, by omega⟩) := by
  pointwise []

/-- The mixing matrix of group 2, masked to the positions at or before. -/
theorem mask2 (x5 : Vec Ideal S8x128x128 .f32) (a b : Fin 128) :
    k0_pay5 (fun z => x5 ((Rect.unit (s := S8x128x128) ![2, 0, 0] S1x128x128.size inb_S8x128x128_S1x128x128_2_0_0).toLoadRect.idx z)) (ix2 a b) = if b ≤ a then x5 (ix3 2 a b) else 0 := by
  pointwise [k0_pay5]
  rw [sle_apply]
  by_cases h : b ≤ a
  · simp only [h, if_true]; rfl
  · simp only [h, if_false]; rfl

/-- The offsets of group 2. -/
theorem off2 (x6 : Vec Ideal S128x1024 .f32) (a b : Fin 128) :
    (fun z => x6 ((Rect.unit (s := S128x1024) ![0, 256] S128x128.size inb_S128x1024_S128x128_0_256).toLoadRect.idx z) : Vec Ideal S128x128 .f32) (ix2 a b) = x6 (ix2 a ⟨128 * 2 + b.val, by omega⟩) := by
  pointwise []

/-- The mixing matrix of group 3, masked to the positions at or before. -/
theorem mask3 (x5 : Vec Ideal S8x128x128 .f32) (a b : Fin 128) :
    k0_pay6 (fun z => x5 ((Rect.unit (s := S8x128x128) ![3, 0, 0] S1x128x128.size inb_S8x128x128_S1x128x128_3_0_0).toLoadRect.idx z)) (ix2 a b) = if b ≤ a then x5 (ix3 3 a b) else 0 := by
  pointwise [k0_pay6]
  rw [sle_apply]
  by_cases h : b ≤ a
  · simp only [h, if_true]; rfl
  · simp only [h, if_false]; rfl

/-- The offsets of group 3. -/
theorem off3 (x6 : Vec Ideal S128x1024 .f32) (a b : Fin 128) :
    (fun z => x6 ((Rect.unit (s := S128x1024) ![0, 384] S128x128.size inb_S128x1024_S128x128_0_384).toLoadRect.idx z) : Vec Ideal S128x128 .f32) (ix2 a b) = x6 (ix2 a ⟨128 * 3 + b.val, by omega⟩) := by
  pointwise []

/-- The mixing matrix of group 4, masked to the positions at or before. -/
theorem mask4 (x5 : Vec Ideal S8x128x128 .f32) (a b : Fin 128) :
    k0_pay7 (fun z => x5 ((Rect.unit (s := S8x128x128) ![4, 0, 0] S1x128x128.size inb_S8x128x128_S1x128x128_4_0_0).toLoadRect.idx z)) (ix2 a b) = if b ≤ a then x5 (ix3 4 a b) else 0 := by
  pointwise [k0_pay7]
  rw [sle_apply]
  by_cases h : b ≤ a
  · simp only [h, if_true]; rfl
  · simp only [h, if_false]; rfl

/-- The offsets of group 4. -/
theorem off4 (x6 : Vec Ideal S128x1024 .f32) (a b : Fin 128) :
    (fun z => x6 ((Rect.unit (s := S128x1024) ![0, 512] S128x128.size inb_S128x1024_S128x128_0_512).toLoadRect.idx z) : Vec Ideal S128x128 .f32) (ix2 a b) = x6 (ix2 a ⟨128 * 4 + b.val, by omega⟩) := by
  pointwise []

/-- The mixing matrix of group 5, masked to the positions at or before. -/
theorem mask5 (x5 : Vec Ideal S8x128x128 .f32) (a b : Fin 128) :
    k0_pay10 k0_pay8 (k0_pay9 (fun z => x5 ((Rect.unit (s := S8x128x128) ![5, 0, 0] S1x128x128.size inb_S8x128x128_S1x128x128_5_0_0).toLoadRect.idx z))) (ix2 a b) = if b ≤ a then x5 (ix3 5 a b) else 0 := by
  pointwise [k0_pay10, k0_pay9, k0_pay8]
  rw [sle_apply]
  by_cases h : b ≤ a
  · simp only [h, if_true]; rfl
  · simp only [h, if_false]; rfl

/-- The offsets of group 5. -/
theorem off5 (x6 : Vec Ideal S128x1024 .f32) (a b : Fin 128) :
    (fun z => x6 ((Rect.unit (s := S128x1024) ![0, 640] S128x128.size inb_S128x1024_S128x128_0_640).toLoadRect.idx z) : Vec Ideal S128x128 .f32) (ix2 a b) = x6 (ix2 a ⟨128 * 5 + b.val, by omega⟩) := by
  pointwise []

/-- The mixing matrix of group 6, masked to the positions at or before. -/
theorem mask6 (x5 : Vec Ideal S8x128x128 .f32) (a b : Fin 128) :
    k0_pay11 (iota .tc S128x128 32 [0] iota_S128x128_d0_w32) (iota .tc S128x128 32 [1] iota_S128x128_d1_w32) (fun z => x5 ((Rect.unit (s := S8x128x128) ![6, 0, 0] S1x128x128.size inb_S8x128x128_S1x128x128_6_0_0).toLoadRect.idx z)) (ix2 a b) = if b ≤ a then x5 (ix3 6 a b) else 0 := by
  pointwise [k0_pay11]
  rw [sle_apply]
  by_cases h : b ≤ a
  · simp only [h, if_true]; rfl
  · simp only [h, if_false]; rfl

/-- The offsets of group 6. -/
theorem off6 (x6 : Vec Ideal S128x1024 .f32) (a b : Fin 128) :
    (fun z => x6 ((Rect.unit (s := S128x1024) ![0, 768] S128x128.size inb_S128x1024_S128x128_0_768).toLoadRect.idx z) : Vec Ideal S128x128 .f32) (ix2 a b) = x6 (ix2 a ⟨128 * 6 + b.val, by omega⟩) := by
  pointwise []

/-- The mixing matrix of group 7, masked to the positions at or before. -/
theorem mask7 (x5 : Vec Ideal S8x128x128 .f32) (a b : Fin 128) :
    k0_pay12 (iota .tc S128x128 32 [0] iota_S128x128_d0_w32) (iota .tc S128x128 32 [1] iota_S128x128_d1_w32) (fun z => x5 ((Rect.unit (s := S8x128x128) ![7, 0, 0] S1x128x128.size inb_S8x128x128_S1x128x128_7_0_0).toLoadRect.idx z)) (ix2 a b) = if b ≤ a then x5 (ix3 7 a b) else 0 := by
  pointwise [k0_pay12]
  rw [sle_apply]
  by_cases h : b ≤ a
  · simp only [h, if_true]; rfl
  · simp only [h, if_false]; rfl

/-- The offsets of group 7. -/
theorem off7 (x6 : Vec Ideal S128x1024 .f32) (a b : Fin 128) :
    (fun z => x6 ((Rect.unit (s := S128x1024) ![0, 896] S128x128.size inb_S128x1024_S128x128_0_896).toLoadRect.idx z) : Vec Ideal S128x128 .f32) (ix2 a b) = x6 (ix2 a ⟨128 * 7 + b.val, by omega⟩) := by
  pointwise []

/-- The hidden rows 0 to 255. -/
theorem hid0 (x0 : Vec Ideal S1x1024x1024 .f32) (x1 : Vec Ideal S1x1024 .f32) (x2 : Vec Ideal S1024x2048 .bf16) (a : Fin 256) (j : Fin 2048) :
    k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2 (ix2 a j)
      = hid (fun k => x0 (ix3 0 ⟨256 * 0 + a.val, by omega⟩ k)) (fun k => x1 (ix2 0 k)) (fun k j => x2 (ix2 k j)) j := by
  pointwise [k0_pay19, k0_pay18, k0_pay17, k0_pay13, hid, rms]

/-- The hidden rows 256 to 511. -/
theorem hid1 (x0 : Vec Ideal S1x1024x1024 .f32) (x1 : Vec Ideal S1x1024 .f32) (x2 : Vec Ideal S1024x2048 .bf16) (a : Fin 256) (j : Fin 2048) :
    k0_pay20 (k0_pay14 (fun z => x0 ((Rect.unit (s := S1x1024x1024) ![0, 256, 0] S1x256x1024.size inb_S1x1024x1024_S1x256x1024_0_256_0).toLoadRect.idx z))) x1 x2 (ix2 a j)
      = hid (fun k => x0 (ix3 0 ⟨256 * 1 + a.val, by omega⟩ k)) (fun k => x1 (ix2 0 k)) (fun k j => x2 (ix2 k j)) j := by
  pointwise [k0_pay20, k0_pay14, hid, rms]

/-- The hidden rows 512 to 767. -/
theorem hid2 (x0 : Vec Ideal S1x1024x1024 .f32) (x1 : Vec Ideal S1x1024 .f32) (x2 : Vec Ideal S1024x2048 .bf16) (a : Fin 256) (j : Fin 2048) :
    k0_pay23 (k0_pay21 (k0_pay15 (fun z => x0 ((Rect.unit (s := S1x1024x1024) ![0, 512, 0] S1x256x1024.size inb_S1x1024x1024_S1x256x1024_0_512_0).toLoadRect.idx z))) x1) (k0_pay22 x2) (ix2 a j)
      = hid (fun k => x0 (ix3 0 ⟨256 * 2 + a.val, by omega⟩ k)) (fun k => x1 (ix2 0 k)) (fun k j => x2 (ix2 k j)) j := by
  pointwise [k0_pay23, k0_pay22, k0_pay21, k0_pay15, hid, rms]

/-- The hidden rows 768 to 1023. -/
theorem hid3 (x0 : Vec Ideal S1x1024x1024 .f32) (x1 : Vec Ideal S1x1024 .f32) (x2 : Vec Ideal S1024x2048 .bf16) (a : Fin 256) (j : Fin 2048) :
    k0_pay24 (k0_pay16 (fun z => x0 ((Rect.unit (s := S1x1024x1024) ![0, 768, 0] S1x256x1024.size inb_S1x1024x1024_S1x256x1024_0_768_0).toLoadRect.idx z))) x1 x2 (ix2 a j)
      = hid (fun k => x0 (ix3 0 ⟨256 * 3 + a.val, by omega⟩ k)) (fun k => x1 (ix2 0 k)) (fun k j => x2 (ix2 k j)) j := by
  pointwise [k0_pay24, k0_pay16, hid, rms]

end Cert.Gmlp
-- ==== Proof.GmlpTiles0.lean ====
/-
  Untrusted. The spatial gating: the gated tiles of positions 0 to 511 of a block are what the body stores there.
-/
module

public import proofs.«01_k».proof.Proof.Gmlp

@[expose] public section

set_option maxRecDepth 16384

noncomputable section
namespace Cert.Gmlp
open Cert.Kernel3Ideal Cert.Kernel3Ideal.Gen Cert.Rows
open Idealize.ShloMosaic Idealize.ShloMosaic.TcCoe

theorem tile0_0 (U : FVec Ideal S256x2048 .f32) (M : FVec Ideal S128x128 .bf16) (x3 x4 : Vec Ideal S1x1024 .f32) (B : Vec Ideal S128x128 .f32) (a b : Fin 128) :
    k0_pay31 M (k0_pay26 U) (k0_pay27 U) (k0_pay28 U) x3 x4 B (ix2 a b) = tile U M x3 x4 B 0 0 (by omega) (by omega) a b := by
  pointwise [k0_pay31, k0_pay30, k0_pay29, k0_pay28, k0_pay27, k0_pay26, k0_pay25, tile, lnorm, center, gelu]

/-- Positions 0 to 127, channels 0 to 127 of the gated block are what the body stores there. -/
theorem piece0_0 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay31 (k0_pay3 (fun z => x5 ((Rect.unit (s := S8x128x128) ![0, 0, 0] S1x128x128.size inb_S8x128x128_S1x128x128_0_0_0).toLoadRect.idx z))) (k0_pay26 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay27 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay28 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) x3 x4 (fun z => x6 ((Rect.unit (s := S128x1024) ![0, 0] S128x128.size inb_S128x1024_S128x128_0_0).toLoadRect.idx z)) z
      = gatedV x0 x1 x2 x3 x4 x5 x6 ((Rect.unit (s := S1024x1024) ![0, 0] S128x128.size inb_S1024x1024_S128x128_0_0).emb z) := by
  idx_vars z
  rw [emb_tile 0 0 _ (by omega) (by omega)]
  exact (tile0_0 _ _ x3 x4 _ _ _).trans (tile_eq _ _ x3 x4 _ _ _ _ 0 0 0 (by omega) (by omega) (by omega) (hid0 x0 x1 x2) (mask0 x5) (off0 x6) _ _)

theorem tile128_0 (U : FVec Ideal S256x2048 .f32) (M : FVec Ideal S128x128 .bf16) (x3 x4 : Vec Ideal S1x1024 .f32) (B : Vec Ideal S128x128 .f32) (a b : Fin 128) :
    k0_pay32 M (k0_pay26 U) (k0_pay27 U) (k0_pay28 U) x3 x4 B (ix2 a b) = tile U M x3 x4 B 128 0 (by omega) (by omega) a b := by
  pointwise [k0_pay32, k0_pay30, k0_pay29, k0_pay28, k0_pay27, k0_pay26, k0_pay25, tile, lnorm, center, gelu]

/-- Positions 128 to 255, channels 0 to 127 of the gated block are what the body stores there. -/
theorem piece128_0 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay32 (k0_pay3 (fun z => x5 ((Rect.unit (s := S8x128x128) ![0, 0, 0] S1x128x128.size inb_S8x128x128_S1x128x128_0_0_0).toLoadRect.idx z))) (k0_pay26 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay27 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay28 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) x3 x4 (fun z => x6 ((Rect.unit (s := S128x1024) ![0, 0] S128x128.size inb_S128x1024_S128x128_0_0).toLoadRect.idx z)) z
      = gatedV x0 x1 x2 x3 x4 x5 x6 ((Rect.unit (s := S1024x1024) ![128, 0] S128x128.size inb_S1024x1024_S128x128_128_0).emb z) := by
  idx_vars z
  rw [emb_tile 128 0 _ (by omega) (by omega)]
  exact (tile128_0 _ _ x3 x4 _ _ _).trans (tile_eq _ _ x3 x4 _ _ _ _ 0 1 0 (by omega) (by omega) (by omega) (hid0 x0 x1 x2) (mask0 x5) (off0 x6) _ _)

theorem tile0_128 (U : FVec Ideal S256x2048 .f32) (M : FVec Ideal S128x128 .bf16) (x3 x4 : Vec Ideal S1x1024 .f32) (B : Vec Ideal S128x128 .f32) (a b : Fin 128) :
    k0_pay36 (k0_pay26 U) (k0_pay34 M (k0_pay27 U) (k0_pay28 U) x3 x4) (k0_pay35 B) (ix2 a b) = tile U M x3 x4 B 0 128 (by omega) (by omega) a b := by
  pointwise [k0_pay36, k0_pay35, k0_pay34, k0_pay33, k0_pay29, k0_pay28, k0_pay27, k0_pay26, k0_pay25, tile, lnorm, center, gelu]

/-- Positions 0 to 127, channels 128 to 255 of the gated block are what the body stores there. -/
theorem piece0_128 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay36 (k0_pay26 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay34 (k0_pay4 (fun z => x5 ((Rect.unit (s := S8x128x128) ![1, 0, 0] S1x128x128.size inb_S8x128x128_S1x128x128_1_0_0).toLoadRect.idx z))) (k0_pay27 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay28 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) x3 x4) (k0_pay35 (fun z => x6 ((Rect.unit (s := S128x1024) ![0, 128] S128x128.size inb_S128x1024_S128x128_0_128).toLoadRect.idx z))) z
      = gatedV x0 x1 x2 x3 x4 x5 x6 ((Rect.unit (s := S1024x1024) ![0, 128] S128x128.size inb_S1024x1024_S128x128_0_128).emb z) := by
  idx_vars z
  rw [emb_tile 0 128 _ (by omega) (by omega)]
  exact (tile0_128 _ _ x3 x4 _ _ _).trans (tile_eq _ _ x3 x4 _ _ _ _ 0 0 1 (by omega) (by omega) (by omega) (hid0 x0 x1 x2) (mask1 x5) (off1 x6) _ _)

theorem tile128_128 (U : FVec Ideal S256x2048 .f32) (M : FVec Ideal S128x128 .bf16) (x3 x4 : Vec Ideal S1x1024 .f32) (B : Vec Ideal S128x128 .f32) (a b : Fin 128) :
    k0_pay37 (k0_pay26 U) (k0_pay33 M (k0_pay27 U) (k0_pay28 U) x3 x4) B (ix2 a b) = tile U M x3 x4 B 128 128 (by omega) (by omega) a b := by
  pointwise [k0_pay37, k0_pay33, k0_pay29, k0_pay28, k0_pay27, k0_pay26, k0_pay25, tile, lnorm, center, gelu]

/-- Positions 128 to 255, channels 128 to 255 of the gated block are what the body stores there. -/
theorem piece128_128 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay37 (k0_pay26 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay33 (k0_pay4 (fun z => x5 ((Rect.unit (s := S8x128x128) ![1, 0, 0] S1x128x128.size inb_S8x128x128_S1x128x128_1_0_0).toLoadRect.idx z))) (k0_pay27 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay28 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) x3 x4) (fun z => x6 ((Rect.unit (s := S128x1024) ![0, 128] S128x128.size inb_S128x1024_S128x128_0_128).toLoadRect.idx z)) z
      = gatedV x0 x1 x2 x3 x4 x5 x6 ((Rect.unit (s := S1024x1024) ![128, 128] S128x128.size inb_S1024x1024_S128x128_128_128).emb z) := by
  idx_vars z
  rw [emb_tile 128 128 _ (by omega) (by omega)]
  exact (tile128_128 _ _ x3 x4 _ _ _).trans (tile_eq _ _ x3 x4 _ _ _ _ 0 1 1 (by omega) (by omega) (by omega) (hid0 x0 x1 x2) (mask1 x5) (off1 x6) _ _)

theorem tile0_256 (U : FVec Ideal S256x2048 .f32) (M : FVec Ideal S128x128 .bf16) (x3 x4 : Vec Ideal S1x1024 .f32) (B : Vec Ideal S128x128 .f32) (a b : Fin 128) :
    k0_pay39 M (k0_pay26 U) (k0_pay29 (k0_pay27 U) (k0_pay28 U) x3 x4) B (ix2 a b) = tile U M x3 x4 B 0 256 (by omega) (by omega) a b := by
  pointwise [k0_pay39, k0_pay38, k0_pay29, k0_pay28, k0_pay27, k0_pay26, k0_pay25, tile, lnorm, center, gelu]

/-- Positions 0 to 127, channels 256 to 383 of the gated block are what the body stores there. -/
theorem piece0_256 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay39 (k0_pay5 (fun z => x5 ((Rect.unit (s := S8x128x128) ![2, 0, 0] S1x128x128.size inb_S8x128x128_S1x128x128_2_0_0).toLoadRect.idx z))) (k0_pay26 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay29 (k0_pay27 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay28 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) x3 x4) (fun z => x6 ((Rect.unit (s := S128x1024) ![0, 256] S128x128.size inb_S128x1024_S128x128_0_256).toLoadRect.idx z)) z
      = gatedV x0 x1 x2 x3 x4 x5 x6 ((Rect.unit (s := S1024x1024) ![0, 256] S128x128.size inb_S1024x1024_S128x128_0_256).emb z) := by
  idx_vars z
  rw [emb_tile 0 256 _ (by omega) (by omega)]
  exact (tile0_256 _ _ x3 x4 _ _ _).trans (tile_eq _ _ x3 x4 _ _ _ _ 0 0 2 (by omega) (by omega) (by omega) (hid0 x0 x1 x2) (mask2 x5) (off2 x6) _ _)

theorem tile128_256 (U : FVec Ideal S256x2048 .f32) (M : FVec Ideal S128x128 .bf16) (x3 x4 : Vec Ideal S1x1024 .f32) (B : Vec Ideal S128x128 .f32) (a b : Fin 128) :
    k0_pay40 M (k0_pay26 U) (k0_pay29 (k0_pay27 U) (k0_pay28 U) x3 x4) B (ix2 a b) = tile U M x3 x4 B 128 256 (by omega) (by omega) a b := by
  pointwise [k0_pay40, k0_pay38, k0_pay29, k0_pay28, k0_pay27, k0_pay26, k0_pay25, tile, lnorm, center, gelu]

/-- Positions 128 to 255, channels 256 to 383 of the gated block are what the body stores there. -/
theorem piece128_256 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay40 (k0_pay5 (fun z => x5 ((Rect.unit (s := S8x128x128) ![2, 0, 0] S1x128x128.size inb_S8x128x128_S1x128x128_2_0_0).toLoadRect.idx z))) (k0_pay26 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay29 (k0_pay27 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay28 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) x3 x4) (fun z => x6 ((Rect.unit (s := S128x1024) ![0, 256] S128x128.size inb_S128x1024_S128x128_0_256).toLoadRect.idx z)) z
      = gatedV x0 x1 x2 x3 x4 x5 x6 ((Rect.unit (s := S1024x1024) ![128, 256] S128x128.size inb_S1024x1024_S128x128_128_256).emb z) := by
  idx_vars z
  rw [emb_tile 128 256 _ (by omega) (by omega)]
  exact (tile128_256 _ _ x3 x4 _ _ _).trans (tile_eq _ _ x3 x4 _ _ _ _ 0 1 2 (by omega) (by omega) (by omega) (hid0 x0 x1 x2) (mask2 x5) (off2 x6) _ _)

theorem tile0_384 (U : FVec Ideal S256x2048 .f32) (M : FVec Ideal S128x128 .bf16) (x3 x4 : Vec Ideal S1x1024 .f32) (B : Vec Ideal S128x128 .f32) (a b : Fin 128) :
    k0_pay42 M (k0_pay26 U) (k0_pay29 (k0_pay27 U) (k0_pay28 U) x3 x4) B (ix2 a b) = tile U M x3 x4 B 0 384 (by omega) (by omega) a b := by
  pointwise [k0_pay42, k0_pay41, k0_pay29, k0_pay28, k0_pay27, k0_pay26, k0_pay25, tile, lnorm, center, gelu]

/-- Positions 0 to 127, channels 384 to 511 of the gated block are what the body stores there. -/
theorem piece0_384 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay42 (k0_pay6 (fun z => x5 ((Rect.unit (s := S8x128x128) ![3, 0, 0] S1x128x128.size inb_S8x128x128_S1x128x128_3_0_0).toLoadRect.idx z))) (k0_pay26 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay29 (k0_pay27 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay28 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) x3 x4) (fun z => x6 ((Rect.unit (s := S128x1024) ![0, 384] S128x128.size inb_S128x1024_S128x128_0_384).toLoadRect.idx z)) z
      = gatedV x0 x1 x2 x3 x4 x5 x6 ((Rect.unit (s := S1024x1024) ![0, 384] S128x128.size inb_S1024x1024_S128x128_0_384).emb z) := by
  idx_vars z
  rw [emb_tile 0 384 _ (by omega) (by omega)]
  exact (tile0_384 _ _ x3 x4 _ _ _).trans (tile_eq _ _ x3 x4 _ _ _ _ 0 0 3 (by omega) (by omega) (by omega) (hid0 x0 x1 x2) (mask3 x5) (off3 x6) _ _)

theorem tile128_384 (U : FVec Ideal S256x2048 .f32) (M : FVec Ideal S128x128 .bf16) (x3 x4 : Vec Ideal S1x1024 .f32) (B : Vec Ideal S128x128 .f32) (a b : Fin 128) :
    k0_pay43 M (k0_pay26 U) (k0_pay29 (k0_pay27 U) (k0_pay28 U) x3 x4) B (ix2 a b) = tile U M x3 x4 B 128 384 (by omega) (by omega) a b := by
  pointwise [k0_pay43, k0_pay41, k0_pay29, k0_pay28, k0_pay27, k0_pay26, k0_pay25, tile, lnorm, center, gelu]

/-- Positions 128 to 255, channels 384 to 511 of the gated block are what the body stores there. -/
theorem piece128_384 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay43 (k0_pay6 (fun z => x5 ((Rect.unit (s := S8x128x128) ![3, 0, 0] S1x128x128.size inb_S8x128x128_S1x128x128_3_0_0).toLoadRect.idx z))) (k0_pay26 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay29 (k0_pay27 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay28 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) x3 x4) (fun z => x6 ((Rect.unit (s := S128x1024) ![0, 384] S128x128.size inb_S128x1024_S128x128_0_384).toLoadRect.idx z)) z
      = gatedV x0 x1 x2 x3 x4 x5 x6 ((Rect.unit (s := S1024x1024) ![128, 384] S128x128.size inb_S1024x1024_S128x128_128_384).emb z) := by
  idx_vars z
  rw [emb_tile 128 384 _ (by omega) (by omega)]
  exact (tile128_384 _ _ x3 x4 _ _ _).trans (tile_eq _ _ x3 x4 _ _ _ _ 0 1 3 (by omega) (by omega) (by omega) (hid0 x0 x1 x2) (mask3 x5) (off3 x6) _ _)

theorem tile0_512 (U : FVec Ideal S256x2048 .f32) (M : FVec Ideal S128x128 .bf16) (x3 x4 : Vec Ideal S1x1024 .f32) (B : Vec Ideal S128x128 .f32) (a b : Fin 128) :
    k0_pay45 M (k0_pay26 U) (k0_pay29 (k0_pay27 U) (k0_pay28 U) x3 x4) B (ix2 a b) = tile U M x3 x4 B 0 512 (by omega) (by omega) a b := by
  pointwise [k0_pay45, k0_pay44, k0_pay29, k0_pay28, k0_pay27, k0_pay26, k0_pay25, tile, lnorm, center, gelu]

/-- Positions 0 to 127, channels 512 to 639 of the gated block are what the body stores there. -/
theorem piece0_512 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay45 (k0_pay7 (fun z => x5 ((Rect.unit (s := S8x128x128) ![4, 0, 0] S1x128x128.size inb_S8x128x128_S1x128x128_4_0_0).toLoadRect.idx z))) (k0_pay26 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay29 (k0_pay27 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay28 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) x3 x4) (fun z => x6 ((Rect.unit (s := S128x1024) ![0, 512] S128x128.size inb_S128x1024_S128x128_0_512).toLoadRect.idx z)) z
      = gatedV x0 x1 x2 x3 x4 x5 x6 ((Rect.unit (s := S1024x1024) ![0, 512] S128x128.size inb_S1024x1024_S128x128_0_512).emb z) := by
  idx_vars z
  rw [emb_tile 0 512 _ (by omega) (by omega)]
  exact (tile0_512 _ _ x3 x4 _ _ _).trans (tile_eq _ _ x3 x4 _ _ _ _ 0 0 4 (by omega) (by omega) (by omega) (hid0 x0 x1 x2) (mask4 x5) (off4 x6) _ _)

theorem tile128_512 (U : FVec Ideal S256x2048 .f32) (M : FVec Ideal S128x128 .bf16) (x3 x4 : Vec Ideal S1x1024 .f32) (B : Vec Ideal S128x128 .f32) (a b : Fin 128) :
    k0_pay48 (k0_pay26 U) (k0_pay46 M (k0_pay29 (k0_pay27 U) (k0_pay28 U) x3 x4)) (k0_pay47 B) (ix2 a b) = tile U M x3 x4 B 128 512 (by omega) (by omega) a b := by
  pointwise [k0_pay48, k0_pay47, k0_pay46, k0_pay44, k0_pay29, k0_pay28, k0_pay27, k0_pay26, k0_pay25, tile, lnorm, center, gelu]

/-- Positions 128 to 255, channels 512 to 639 of the gated block are what the body stores there. -/
theorem piece128_512 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay48 (k0_pay26 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay46 (k0_pay7 (fun z => x5 ((Rect.unit (s := S8x128x128) ![4, 0, 0] S1x128x128.size inb_S8x128x128_S1x128x128_4_0_0).toLoadRect.idx z))) (k0_pay29 (k0_pay27 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay28 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) x3 x4)) (k0_pay47 (fun z => x6 ((Rect.unit (s := S128x1024) ![0, 512] S128x128.size inb_S128x1024_S128x128_0_512).toLoadRect.idx z))) z
      = gatedV x0 x1 x2 x3 x4 x5 x6 ((Rect.unit (s := S1024x1024) ![128, 512] S128x128.size inb_S1024x1024_S128x128_128_512).emb z) := by
  idx_vars z
  rw [emb_tile 128 512 _ (by omega) (by omega)]
  exact (tile128_512 _ _ x3 x4 _ _ _).trans (tile_eq _ _ x3 x4 _ _ _ _ 0 1 4 (by omega) (by omega) (by omega) (hid0 x0 x1 x2) (mask4 x5) (off4 x6) _ _)

theorem tile0_640 (U : FVec Ideal S256x2048 .f32) (M : FVec Ideal S128x128 .bf16) (x3 x4 : Vec Ideal S1x1024 .f32) (B : Vec Ideal S128x128 .f32) (a b : Fin 128) :
    k0_pay50 M (k0_pay26 U) (k0_pay29 (k0_pay27 U) (k0_pay28 U) x3 x4) B (ix2 a b) = tile U M x3 x4 B 0 640 (by omega) (by omega) a b := by
  pointwise [k0_pay50, k0_pay49, k0_pay29, k0_pay28, k0_pay27, k0_pay26, k0_pay25, tile, lnorm, center, gelu]

/-- Positions 0 to 127, channels 640 to 767 of the gated block are what the body stores there. -/
theorem piece0_640 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay50 (k0_pay10 k0_pay8 (k0_pay9 (fun z => x5 ((Rect.unit (s := S8x128x128) ![5, 0, 0] S1x128x128.size inb_S8x128x128_S1x128x128_5_0_0).toLoadRect.idx z)))) (k0_pay26 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay29 (k0_pay27 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay28 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) x3 x4) (fun z => x6 ((Rect.unit (s := S128x1024) ![0, 640] S128x128.size inb_S128x1024_S128x128_0_640).toLoadRect.idx z)) z
      = gatedV x0 x1 x2 x3 x4 x5 x6 ((Rect.unit (s := S1024x1024) ![0, 640] S128x128.size inb_S1024x1024_S128x128_0_640).emb z) := by
  idx_vars z
  rw [emb_tile 0 640 _ (by omega) (by omega)]
  exact (tile0_640 _ _ x3 x4 _ _ _).trans (tile_eq _ _ x3 x4 _ _ _ _ 0 0 5 (by omega) (by omega) (by omega) (hid0 x0 x1 x2) (mask5 x5) (off5 x6) _ _)

theorem tile128_640 (U : FVec Ideal S256x2048 .f32) (M : FVec Ideal S128x128 .bf16) (x3 x4 : Vec Ideal S1x1024 .f32) (B : Vec Ideal S128x128 .f32) (a b : Fin 128) :
    k0_pay51 M (k0_pay26 U) (k0_pay29 (k0_pay27 U) (k0_pay28 U) x3 x4) B (ix2 a b) = tile U M x3 x4 B 128 640 (by omega) (by omega) a b := by
  pointwise [k0_pay51, k0_pay49, k0_pay29, k0_pay28, k0_pay27, k0_pay26, k0_pay25, tile, lnorm, center, gelu]

/-- Positions 128 to 255, channels 640 to 767 of the gated block are what the body stores there. -/
theorem piece128_640 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay51 (k0_pay10 k0_pay8 (k0_pay9 (fun z => x5 ((Rect.unit (s := S8x128x128) ![5, 0, 0] S1x128x128.size inb_S8x128x128_S1x128x128_5_0_0).toLoadRect.idx z)))) (k0_pay26 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay29 (k0_pay27 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay28 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) x3 x4) (fun z => x6 ((Rect.unit (s := S128x1024) ![0, 640] S128x128.size inb_S128x1024_S128x128_0_640).toLoadRect.idx z)) z
      = gatedV x0 x1 x2 x3 x4 x5 x6 ((Rect.unit (s := S1024x1024) ![128, 640] S128x128.size inb_S1024x1024_S128x128_128_640).emb z) := by
  idx_vars z
  rw [emb_tile 128 640 _ (by omega) (by omega)]
  exact (tile128_640 _ _ x3 x4 _ _ _).trans (tile_eq _ _ x3 x4 _ _ _ _ 0 1 5 (by omega) (by omega) (by omega) (hid0 x0 x1 x2) (mask5 x5) (off5 x6) _ _)

theorem tile0_768 (U : FVec Ideal S256x2048 .f32) (M : FVec Ideal S128x128 .bf16) (x3 x4 : Vec Ideal S1x1024 .f32) (B : Vec Ideal S128x128 .f32) (a b : Fin 128) :
    k0_pay54 (k0_pay53 M (k0_pay26 U) (k0_pay29 (k0_pay27 U) (k0_pay28 U) x3 x4) B) (ix2 a b) = tile U M x3 x4 B 0 768 (by omega) (by omega) a b := by
  pointwise [k0_pay54, k0_pay53, k0_pay52, k0_pay29, k0_pay28, k0_pay27, k0_pay26, k0_pay25, tile, lnorm, center, gelu]

/-- Positions 0 to 127, channels 768 to 895 of the gated block are what the body stores there. -/
theorem piece0_768 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay54 (k0_pay53 (k0_pay11 (iota .tc S128x128 32 [0] iota_S128x128_d0_w32) (iota .tc S128x128 32 [1] iota_S128x128_d1_w32) (fun z => x5 ((Rect.unit (s := S8x128x128) ![6, 0, 0] S1x128x128.size inb_S8x128x128_S1x128x128_6_0_0).toLoadRect.idx z))) (k0_pay26 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay29 (k0_pay27 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay28 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) x3 x4) (fun z => x6 ((Rect.unit (s := S128x1024) ![0, 768] S128x128.size inb_S128x1024_S128x128_0_768).toLoadRect.idx z))) z
      = gatedV x0 x1 x2 x3 x4 x5 x6 ((Rect.unit (s := S1024x1024) ![0, 768] S128x128.size inb_S1024x1024_S128x128_0_768).emb z) := by
  idx_vars z
  rw [emb_tile 0 768 _ (by omega) (by omega)]
  exact (tile0_768 _ _ x3 x4 _ _ _).trans (tile_eq _ _ x3 x4 _ _ _ _ 0 0 6 (by omega) (by omega) (by omega) (hid0 x0 x1 x2) (mask6 x5) (off6 x6) _ _)

theorem tile128_768 (U : FVec Ideal S256x2048 .f32) (M : FVec Ideal S128x128 .bf16) (x3 x4 : Vec Ideal S1x1024 .f32) (B : Vec Ideal S128x128 .f32) (a b : Fin 128) :
    k0_pay55 (k0_pay26 U) (k0_pay52 M (k0_pay29 (k0_pay27 U) (k0_pay28 U) x3 x4)) B (ix2 a b) = tile U M x3 x4 B 128 768 (by omega) (by omega) a b := by
  pointwise [k0_pay55, k0_pay52, k0_pay29, k0_pay28, k0_pay27, k0_pay26, k0_pay25, tile, lnorm, center, gelu]

/-- Positions 128 to 255, channels 768 to 895 of the gated block are what the body stores there. -/
theorem piece128_768 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay55 (k0_pay26 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay52 (k0_pay11 (iota .tc S128x128 32 [0] iota_S128x128_d0_w32) (iota .tc S128x128 32 [1] iota_S128x128_d1_w32) (fun z => x5 ((Rect.unit (s := S8x128x128) ![6, 0, 0] S1x128x128.size inb_S8x128x128_S1x128x128_6_0_0).toLoadRect.idx z))) (k0_pay29 (k0_pay27 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay28 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) x3 x4)) (fun z => x6 ((Rect.unit (s := S128x1024) ![0, 768] S128x128.size inb_S128x1024_S128x128_0_768).toLoadRect.idx z)) z
      = gatedV x0 x1 x2 x3 x4 x5 x6 ((Rect.unit (s := S1024x1024) ![128, 768] S128x128.size inb_S1024x1024_S128x128_128_768).emb z) := by
  idx_vars z
  rw [emb_tile 128 768 _ (by omega) (by omega)]
  exact (tile128_768 _ _ x3 x4 _ _ _).trans (tile_eq _ _ x3 x4 _ _ _ _ 0 1 6 (by omega) (by omega) (by omega) (hid0 x0 x1 x2) (mask6 x5) (off6 x6) _ _)

theorem tile0_896 (U : FVec Ideal S256x2048 .f32) (M : FVec Ideal S128x128 .bf16) (x3 x4 : Vec Ideal S1x1024 .f32) (B : Vec Ideal S128x128 .f32) (a b : Fin 128) :
    k0_pay57 M (k0_pay26 U) (k0_pay29 (k0_pay27 U) (k0_pay28 U) x3 x4) B (ix2 a b) = tile U M x3 x4 B 0 896 (by omega) (by omega) a b := by
  pointwise [k0_pay57, k0_pay56, k0_pay29, k0_pay28, k0_pay27, k0_pay26, k0_pay25, tile, lnorm, center, gelu]

/-- Positions 0 to 127, channels 896 to 1023 of the gated block are what the body stores there. -/
theorem piece0_896 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay57 (k0_pay12 (iota .tc S128x128 32 [0] iota_S128x128_d0_w32) (iota .tc S128x128 32 [1] iota_S128x128_d1_w32) (fun z => x5 ((Rect.unit (s := S8x128x128) ![7, 0, 0] S1x128x128.size inb_S8x128x128_S1x128x128_7_0_0).toLoadRect.idx z))) (k0_pay26 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay29 (k0_pay27 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay28 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) x3 x4) (fun z => x6 ((Rect.unit (s := S128x1024) ![0, 896] S128x128.size inb_S128x1024_S128x128_0_896).toLoadRect.idx z)) z
      = gatedV x0 x1 x2 x3 x4 x5 x6 ((Rect.unit (s := S1024x1024) ![0, 896] S128x128.size inb_S1024x1024_S128x128_0_896).emb z) := by
  idx_vars z
  rw [emb_tile 0 896 _ (by omega) (by omega)]
  exact (tile0_896 _ _ x3 x4 _ _ _).trans (tile_eq _ _ x3 x4 _ _ _ _ 0 0 7 (by omega) (by omega) (by omega) (hid0 x0 x1 x2) (mask7 x5) (off7 x6) _ _)

theorem tile128_896 (U : FVec Ideal S256x2048 .f32) (M : FVec Ideal S128x128 .bf16) (x3 x4 : Vec Ideal S1x1024 .f32) (B : Vec Ideal S128x128 .f32) (a b : Fin 128) :
    k0_pay58 M (k0_pay26 U) (k0_pay29 (k0_pay27 U) (k0_pay28 U) x3 x4) B (ix2 a b) = tile U M x3 x4 B 128 896 (by omega) (by omega) a b := by
  pointwise [k0_pay58, k0_pay56, k0_pay29, k0_pay28, k0_pay27, k0_pay26, k0_pay25, tile, lnorm, center, gelu]

/-- Positions 128 to 255, channels 896 to 1023 of the gated block are what the body stores there. -/
theorem piece128_896 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay58 (k0_pay12 (iota .tc S128x128 32 [0] iota_S128x128_d0_w32) (iota .tc S128x128 32 [1] iota_S128x128_d1_w32) (fun z => x5 ((Rect.unit (s := S8x128x128) ![7, 0, 0] S1x128x128.size inb_S8x128x128_S1x128x128_7_0_0).toLoadRect.idx z))) (k0_pay26 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay29 (k0_pay27 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) (k0_pay28 (k0_pay19 (k0_pay13 (fun z => x0 ((Rect.unit (s := S1x1024x1024) ![0, 0, 0] S1x256x1024.size inb_S1x1024x1024_S1x256x1024_0_0_0).toLoadRect.idx z))) (k0_pay17 x1) (k0_pay18 (fun z => x0 ((Rect.unit (s := S1x1024x1024) ![0, 0, 0] S1x256x1024.size inb_S1x1024x1024_S1x256x1024_0_0_0).toLoadRect.idx z))) x2)) x3 x4) (fun z => x6 ((Rect.unit (s := S128x1024) ![0, 896] S128x128.size inb_S128x1024_S128x128_0_896).toLoadRect.idx z)) z
      = gatedV x0 x1 x2 x3 x4 x5 x6 ((Rect.unit (s := S1024x1024) ![128, 896] S128x128.size inb_S1024x1024_S128x128_128_896).emb z) := by
  idx_vars z
  rw [emb_tile 128 896 _ (by omega) (by omega)]
  exact (tile128_896 _ _ x3 x4 _ _ _).trans (tile_eq _ _ x3 x4 _ _ _ _ 0 1 7 (by omega) (by omega) (by omega) (hid0 x0 x1 x2) (mask7 x5) (off7 x6) _ _)

theorem tile256_0 (U : FVec Ideal S256x2048 .f32) (M : FVec Ideal S128x128 .bf16) (x3 x4 : Vec Ideal S1x1024 .f32) (B : Vec Ideal S128x128 .f32) (a b : Fin 128) :
    k0_pay65 M (k0_pay61 U) (k0_pay62 U x3 x4) (k0_pay63 U x3 x4) B (ix2 a b) = tile U M x3 x4 B 0 0 (by omega) (by omega) a b := by
  pointwise [k0_pay65, k0_pay64, k0_pay63, k0_pay62, k0_pay61, k0_pay60, tile, lnorm, center, gelu]

/-- Positions 256 to 383, channels 0 to 127 of the gated block are what the body stores there. -/
theorem piece256_0 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay65 (k0_pay3 (fun z => x5 ((Rect.unit (s := S8x128x128) ![0, 0, 0] S1x128x128.size inb_S8x128x128_S1x128x128_0_0_0).toLoadRect.idx z))) (k0_pay61 (k0_pay20 (k0_pay14 (fun z => x0 ((Rect.unit (s := S1x1024x1024) ![0, 256, 0] S1x256x1024.size inb_S1x1024x1024_S1x256x1024_0_256_0).toLoadRect.idx z))) x1 x2)) (k0_pay62 (k0_pay20 (k0_pay14 (fun z => x0 ((Rect.unit (s := S1x1024x1024) ![0, 256, 0] S1x256x1024.size inb_S1x1024x1024_S1x256x1024_0_256_0).toLoadRect.idx z))) x1 x2) x3 x4) (k0_pay63 (k0_pay20 (k0_pay14 (fun z => x0 ((Rect.unit (s := S1x1024x1024) ![0, 256, 0] S1x256x1024.size inb_S1x1024x1024_S1x256x1024_0_256_0).toLoadRect.idx z))) x1 x2) x3 x4) (fun z => x6 ((Rect.unit (s := S128x1024) ![0, 0] S128x128.size inb_S128x1024_S128x128_0_0).toLoadRect.idx z)) z
      = gatedV x0 x1 x2 x3 x4 x5 x6 ((Rect.unit (s := S1024x1024) ![256, 0] S128x128.size inb_S1024x1024_S128x128_256_0).emb z) := by
  idx_vars z
  rw [emb_tile 256 0 _ (by omega) (by omega)]
  exact (tile256_0 _ _ x3 x4 _ _ _).trans (tile_eq _ _ x3 x4 _ _ _ _ 1 0 0 (by omega) (by omega) (by omega) (hid1 x0 x1 x2) (mask0 x5) (off0 x6) _ _)

theorem tile384_0 (U : FVec Ideal S256x2048 .f32) (M : FVec Ideal S128x128 .bf16) (x3 x4 : Vec Ideal S1x1024 .f32) (B : Vec Ideal S128x128 .f32) (a b : Fin 128) :
    k0_pay66 M (k0_pay61 U) (k0_pay62 U x3 x4) (k0_pay63 U x3 x4) B (ix2 a b) = tile U M x3 x4 B 128 0 (by omega) (by omega) a b := by
  pointwise [k0_pay66, k0_pay64, k0_pay63, k0_pay62, k0_pay61, k0_pay60, tile, lnorm, center, gelu]

/-- Positions 384 to 511, channels 0 to 127 of the gated block are what the body stores there. -/
theorem piece384_0 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay66 (k0_pay3 (fun z => x5 ((Rect.unit (s := S8x128x128) ![0, 0, 0] S1x128x128.size inb_S8x128x128_S1x128x128_0_0_0).toLoadRect.idx z))) (k0_pay61 (k0_pay20 (k0_pay14 (fun z => x0 ((Rect.unit (s := S1x1024x1024) ![0, 256, 0] S1x256x1024.size inb_S1x1024x1024_S1x256x1024_0_256_0).toLoadRect.idx z))) x1 x2)) (k0_pay62 (k0_pay20 (k0_pay14 (fun z => x0 ((Rect.unit (s := S1x1024x1024) ![0, 256, 0] S1x256x1024.size inb_S1x1024x1024_S1x256x1024_0_256_0).toLoadRect.idx z))) x1 x2) x3 x4) (k0_pay63 (k0_pay20 (k0_pay14 (fun z => x0 ((Rect.unit (s := S1x1024x1024) ![0, 256, 0] S1x256x1024.size inb_S1x1024x1024_S1x256x1024_0_256_0).toLoadRect.idx z))) x1 x2) x3 x4) (fun z => x6 ((Rect.unit (s := S128x1024) ![0, 0] S128x128.size inb_S128x1024_S128x128_0_0).toLoadRect.idx z)) z
      = gatedV x0 x1 x2 x3 x4 x5 x6 ((Rect.unit (s := S1024x1024) ![384, 0] S128x128.size inb_S1024x1024_S128x128_384_0).emb z) := by
  idx_vars z
  rw [emb_tile 384 0 _ (by omega) (by omega)]
  exact (tile384_0 _ _ x3 x4 _ _ _).trans (tile_eq _ _ x3 x4 _ _ _ _ 1 1 0 (by omega) (by omega) (by omega) (hid1 x0 x1 x2) (mask0 x5) (off0 x6) _ _)

theorem tile256_128 (U : FVec Ideal S256x2048 .f32) (M : FVec Ideal S128x128 .bf16) (x3 x4 : Vec Ideal S1x1024 .f32) (B : Vec Ideal S128x128 .f32) (a b : Fin 128) :
    k0_pay68 M (k0_pay61 U) (k0_pay62 U x3 x4) B (ix2 a b) = tile U M x3 x4 B 0 128 (by omega) (by omega) a b := by
  pointwise [k0_pay68, k0_pay67, k0_pay62, k0_pay61, k0_pay60, tile, lnorm, center, gelu]

/-- Positions 256 to 383, channels 128 to 255 of the gated block are what the body stores there. -/
theorem piece256_128 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay68 (k0_pay4 (fun z => x5 ((Rect.unit (s := S8x128x128) ![1, 0, 0] S1x128x128.size inb_S8x128x128_S1x128x128_1_0_0).toLoadRect.idx z))) (k0_pay61 (k0_pay20 (k0_pay14 (fun z => x0 ((Rect.unit (s := S1x1024x1024) ![0, 256, 0] S1x256x1024.size inb_S1x1024x1024_S1x256x1024_0_256_0).toLoadRect.idx z))) x1 x2)) (k0_pay62 (k0_pay20 (k0_pay14 (fun z => x0 ((Rect.unit (s := S1x1024x1024) ![0, 256, 0] S1x256x1024.size inb_S1x1024x1024_S1x256x1024_0_256_0).toLoadRect.idx z))) x1 x2) x3 x4) (fun z => x6 ((Rect.unit (s := S128x1024) ![0, 128] S128x128.size inb_S128x1024_S128x128_0_128).toLoadRect.idx z)) z
      = gatedV x0 x1 x2 x3 x4 x5 x6 ((Rect.unit (s := S1024x1024) ![256, 128] S128x128.size inb_S1024x1024_S128x128_256_128).emb z) := by
  idx_vars z
  rw [emb_tile 256 128 _ (by omega) (by omega)]
  exact (tile256_128 _ _ x3 x4 _ _ _).trans (tile_eq _ _ x3 x4 _ _ _ _ 1 0 1 (by omega) (by omega) (by omega) (hid1 x0 x1 x2) (mask1 x5) (off1 x6) _ _)

theorem tile384_128 (U : FVec Ideal S256x2048 .f32) (M : FVec Ideal S128x128 .bf16) (x3 x4 : Vec Ideal S1x1024 .f32) (B : Vec Ideal S128x128 .f32) (a b : Fin 128) :
    k0_pay70 (k0_pay61 U) (k0_pay69 M (k0_pay62 U x3 x4) B) (ix2 a b) = tile U M x3 x4 B 128 128 (by omega) (by omega) a b := by
  pointwise [k0_pay70, k0_pay69, k0_pay67, k0_pay62, k0_pay61, k0_pay60, tile, lnorm, center, gelu]

/-- Positions 384 to 511, channels 128 to 255 of the gated block are what the body stores there. -/
theorem piece384_128 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay70 (k0_pay61 (k0_pay20 (k0_pay14 (fun z => x0 ((Rect.unit (s := S1x1024x1024) ![0, 256, 0] S1x256x1024.size inb_S1x1024x1024_S1x256x1024_0_256_0).toLoadRect.idx z))) x1 x2)) (k0_pay69 (k0_pay4 (fun z => x5 ((Rect.unit (s := S8x128x128) ![1, 0, 0] S1x128x128.size inb_S8x128x128_S1x128x128_1_0_0).toLoadRect.idx z))) (k0_pay62 (k0_pay20 (k0_pay14 (fun z => x0 ((Rect.unit (s := S1x1024x1024) ![0, 256, 0] S1x256x1024.size inb_S1x1024x1024_S1x256x1024_0_256_0).toLoadRect.idx z))) x1 x2) x3 x4) (fun z => x6 ((Rect.unit (s := S128x1024) ![0, 128] S128x128.size inb_S128x1024_S128x128_0_128).toLoadRect.idx z))) z
      = gatedV x0 x1 x2 x3 x4 x5 x6 ((Rect.unit (s := S1024x1024) ![384, 128] S128x128.size inb_S1024x1024_S128x128_384_128).emb z) := by
  idx_vars z
  rw [emb_tile 384 128 _ (by omega) (by omega)]
  exact (tile384_128 _ _ x3 x4 _ _ _).trans (tile_eq _ _ x3 x4 _ _ _ _ 1 1 1 (by omega) (by omega) (by omega) (hid1 x0 x1 x2) (mask1 x5) (off1 x6) _ _)

theorem tile256_256 (U : FVec Ideal S256x2048 .f32) (M : FVec Ideal S128x128 .bf16) (x3 x4 : Vec Ideal S1x1024 .f32) (B : Vec Ideal S128x128 .f32) (a b : Fin 128) :
    k0_pay72 M (k0_pay61 U) (k0_pay62 U x3 x4) B (ix2 a b) = tile U M x3 x4 B 0 256 (by omega) (by omega) a b := by
  pointwise [k0_pay72, k0_pay71, k0_pay62, k0_pay61, k0_pay60, tile, lnorm, center, gelu]

/-- Positions 256 to 383, channels 256 to 383 of the gated block are what the body stores there. -/
theorem piece256_256 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay72 (k0_pay5 (fun z => x5 ((Rect.unit (s := S8x128x128) ![2, 0, 0] S1x128x128.size inb_S8x128x128_S1x128x128_2_0_0).toLoadRect.idx z))) (k0_pay61 (k0_pay20 (k0_pay14 (fun z => x0 ((Rect.unit (s := S1x1024x1024) ![0, 256, 0] S1x256x1024.size inb_S1x1024x1024_S1x256x1024_0_256_0).toLoadRect.idx z))) x1 x2)) (k0_pay62 (k0_pay20 (k0_pay14 (fun z => x0 ((Rect.unit (s := S1x1024x1024) ![0, 256, 0] S1x256x1024.size inb_S1x1024x1024_S1x256x1024_0_256_0).toLoadRect.idx z))) x1 x2) x3 x4) (fun z => x6 ((Rect.unit (s := S128x1024) ![0, 256] S128x128.size inb_S128x1024_S128x128_0_256).toLoadRect.idx z)) z
      = gatedV x0 x1 x2 x3 x4 x5 x6 ((Rect.unit (s := S1024x1024) ![256, 256] S128x128.size inb_S1024x1024_S128x128_256_256).emb z) := by
  idx_vars z
  rw [emb_tile 256 256 _ (by omega) (by omega)]
  exact (tile256_256 _ _ x3 x4 _ _ _).trans (tile_eq _ _ x3 x4 _ _ _ _ 1 0 2 (by omega) (by omega) (by omega) (hid1 x0 x1 x2) (mask2 x5) (off2 x6) _ _)

theorem tile384_256 (U : FVec Ideal S256x2048 .f32) (M : FVec Ideal S128x128 .bf16) (x3 x4 : Vec Ideal S1x1024 .f32) (B : Vec Ideal S128x128 .f32) (a b : Fin 128) :
    k0_pay73 M (k0_pay61 U) (k0_pay62 U x3 x4) B (ix2 a b) = tile U M x3 x4 B 128 256 (by omega) (by omega) a b := by
  pointwise [k0_pay73, k0_pay71, k0_pay62, k0_pay61, k0_pay60, tile, lnorm, center, gelu]

/-- Positions 384 to 511, channels 256 to 383 of the gated block are what the body stores there. -/
theorem piece384_256 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay73 (k0_pay5 (fun z => x5 ((Rect.unit (s := S8x128x128) ![2, 0, 0] S1x128x128.size inb_S8x128x128_S1x128x128_2_0_0).toLoadRect.idx z))) (k0_pay61 (k0_pay20 (k0_pay14 (fun z => x0 ((Rect.unit (s := S1x1024x1024) ![0, 256, 0] S1x256x1024.size inb_S1x1024x1024_S1x256x1024_0_256_0).toLoadRect.idx z))) x1 x2)) (k0_pay62 (k0_pay20 (k0_pay14 (fun z => x0 ((Rect.unit (s := S1x1024x1024) ![0, 256, 0] S1x256x1024.size inb_S1x1024x1024_S1x256x1024_0_256_0).toLoadRect.idx z))) x1 x2) x3 x4) (fun z => x6 ((Rect.unit (s := S128x1024) ![0, 256] S128x128.size inb_S128x1024_S128x128_0_256).toLoadRect.idx z)) z
      = gatedV x0 x1 x2 x3 x4 x5 x6 ((Rect.unit (s := S1024x1024) ![384, 256] S128x128.size inb_S1024x1024_S128x128_384_256).emb z) := by
  idx_vars z
  rw [emb_tile 384 256 _ (by omega) (by omega)]
  exact (tile384_256 _ _ x3 x4 _ _ _).trans (tile_eq _ _ x3 x4 _ _ _ _ 1 1 2 (by omega) (by omega) (by omega) (hid1 x0 x1 x2) (mask2 x5) (off2 x6) _ _)

theorem tile256_384 (U : FVec Ideal S256x2048 .f32) (M : FVec Ideal S128x128 .bf16) (x3 x4 : Vec Ideal S1x1024 .f32) (B : Vec Ideal S128x128 .f32) (a b : Fin 128) :
    k0_pay76 (k0_pay75 M (k0_pay61 U) (k0_pay62 U x3 x4) B) (ix2 a b) = tile U M x3 x4 B 0 384 (by omega) (by omega) a b := by
  pointwise [k0_pay76, k0_pay75, k0_pay74, k0_pay62, k0_pay61, k0_pay60, tile, lnorm, center, gelu]

/-- Positions 256 to 383, channels 384 to 511 of the gated block are what the body stores there. -/
theorem piece256_384 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay76 (k0_pay75 (k0_pay6 (fun z => x5 ((Rect.unit (s := S8x128x128) ![3, 0, 0] S1x128x128.size inb_S8x128x128_S1x128x128_3_0_0).toLoadRect.idx z))) (k0_pay61 (k0_pay20 (k0_pay14 (fun z => x0 ((Rect.unit (s := S1x1024x1024) ![0, 256, 0] S1x256x1024.size inb_S1x1024x1024_S1x256x1024_0_256_0).toLoadRect.idx z))) x1 x2)) (k0_pay62 (k0_pay20 (k0_pay14 (fun z => x0 ((Rect.unit (s := S1x1024x1024) ![0, 256, 0] S1x256x1024.size inb_S1x1024x1024_S1x256x1024_0_256_0).toLoadRect.idx z))) x1 x2) x3 x4) (fun z => x6 ((Rect.unit (s := S128x1024) ![0, 384] S128x128.size inb_S128x1024_S128x128_0_384).toLoadRect.idx z))) z
      = gatedV x0 x1 x2 x3 x4 x5 x6 ((Rect.unit (s := S1024x1024) ![256, 384] S128x128.size inb_S1024x1024_S128x128_256_384).emb z) := by
  idx_vars z
  rw [emb_tile 256 384 _ (by omega) (by omega)]
  exact (tile256_384 _ _ x3 x4 _ _ _).trans (tile_eq _ _ x3 x4 _ _ _ _ 1 0 3 (by omega) (by omega) (by omega) (hid1 x0 x1 x2) (mask3 x5) (off3 x6) _ _)

theorem tile384_384 (U : FVec Ideal S256x2048 .f32) (M : FVec Ideal S128x128 .bf16) (x3 x4 : Vec Ideal S1x1024 .f32) (B : Vec Ideal S128x128 .f32) (a b : Fin 128) :
    k0_pay77 (k0_pay61 U) (k0_pay74 M (k0_pay62 U x3 x4)) B (ix2 a b) = tile U M x3 x4 B 128 384 (by omega) (by omega) a b := by
  pointwise [k0_pay77, k0_pay74, k0_pay62, k0_pay61, k0_pay60, tile, lnorm, center, gelu]

/-- Positions 384 to 511, channels 384 to 511 of the gated block are what the body stores there. -/
theorem piece384_384 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay77 (k0_pay61 (k0_pay20 (k0_pay14 (fun z => x0 ((Rect.unit (s := S1x1024x1024) ![0, 256, 0] S1x256x1024.size inb_S1x1024x1024_S1x256x1024_0_256_0).toLoadRect.idx z))) x1 x2)) (k0_pay74 (k0_pay6 (fun z => x5 ((Rect.unit (s := S8x128x128) ![3, 0, 0] S1x128x128.size inb_S8x128x128_S1x128x128_3_0_0).toLoadRect.idx z))) (k0_pay62 (k0_pay20 (k0_pay14 (fun z => x0 ((Rect.unit (s := S1x1024x1024) ![0, 256, 0] S1x256x1024.size inb_S1x1024x1024_S1x256x1024_0_256_0).toLoadRect.idx z))) x1 x2) x3 x4)) (fun z => x6 ((Rect.unit (s := S128x1024) ![0, 384] S128x128.size inb_S128x1024_S128x128_0_384).toLoadRect.idx z)) z
      = gatedV x0 x1 x2 x3 x4 x5 x6 ((Rect.unit (s := S1024x1024) ![384, 384] S128x128.size inb_S1024x1024_S128x128_384_384).emb z) := by
  idx_vars z
  rw [emb_tile 384 384 _ (by omega) (by omega)]
  exact (tile384_384 _ _ x3 x4 _ _ _).trans (tile_eq _ _ x3 x4 _ _ _ _ 1 1 3 (by omega) (by omega) (by omega) (hid1 x0 x1 x2) (mask3 x5) (off3 x6) _ _)

theorem tile256_512 (U : FVec Ideal S256x2048 .f32) (M : FVec Ideal S128x128 .bf16) (x3 x4 : Vec Ideal S1x1024 .f32) (B : Vec Ideal S128x128 .f32) (a b : Fin 128) :
    k0_pay79 M (k0_pay61 U) (k0_pay62 U x3 x4) B (ix2 a b) = tile U M x3 x4 B 0 512 (by omega) (by omega) a b := by
  pointwise [k0_pay79, k0_pay78, k0_pay62, k0_pay61, k0_pay60, tile, lnorm, center, gelu]

/-- Positions 256 to 383, channels 512 to 639 of the gated block are what the body stores there. -/
theorem piece256_512 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay79 (k0_pay7 (fun z => x5 ((Rect.unit (s := S8x128x128) ![4, 0, 0] S1x128x128.size inb_S8x128x128_S1x128x128_4_0_0).toLoadRect.idx z))) (k0_pay61 (k0_pay20 (k0_pay14 (fun z => x0 ((Rect.unit (s := S1x1024x1024) ![0, 256, 0] S1x256x1024.size inb_S1x1024x1024_S1x256x1024_0_256_0).toLoadRect.idx z))) x1 x2)) (k0_pay62 (k0_pay20 (k0_pay14 (fun z => x0 ((Rect.unit (s := S1x1024x1024) ![0, 256, 0] S1x256x1024.size inb_S1x1024x1024_S1x256x1024_0_256_0).toLoadRect.idx z))) x1 x2) x3 x4) (fun z => x6 ((Rect.unit (s := S128x1024) ![0, 512] S128x128.size inb_S128x1024_S128x128_0_512).toLoadRect.idx z)) z
      = gatedV x0 x1 x2 x3 x4 x5 x6 ((Rect.unit (s := S1024x1024) ![256, 512] S128x128.size inb_S1024x1024_S128x128_256_512).emb z) := by
  idx_vars z
  rw [emb_tile 256 512 _ (by omega) (by omega)]
  exact (tile256_512 _ _ x3 x4 _ _ _).trans (tile_eq _ _ x3 x4 _ _ _ _ 1 0 4 (by omega) (by omega) (by omega) (hid1 x0 x1 x2) (mask4 x5) (off4 x6) _ _)

theorem tile384_512 (U : FVec Ideal S256x2048 .f32) (M : FVec Ideal S128x128 .bf16) (x3 x4 : Vec Ideal S1x1024 .f32) (B : Vec Ideal S128x128 .f32) (a b : Fin 128) :
    k0_pay80 M (k0_pay61 U) (k0_pay62 U x3 x4) B (ix2 a b) = tile U M x3 x4 B 128 512 (by omega) (by omega) a b := by
  pointwise [k0_pay80, k0_pay78, k0_pay62, k0_pay61, k0_pay60, tile, lnorm, center, gelu]

/-- Positions 384 to 511, channels 512 to 639 of the gated block are what the body stores there. -/
theorem piece384_512 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay80 (k0_pay7 (fun z => x5 ((Rect.unit (s := S8x128x128) ![4, 0, 0] S1x128x128.size inb_S8x128x128_S1x128x128_4_0_0).toLoadRect.idx z))) (k0_pay61 (k0_pay20 (k0_pay14 (fun z => x0 ((Rect.unit (s := S1x1024x1024) ![0, 256, 0] S1x256x1024.size inb_S1x1024x1024_S1x256x1024_0_256_0).toLoadRect.idx z))) x1 x2)) (k0_pay62 (k0_pay20 (k0_pay14 (fun z => x0 ((Rect.unit (s := S1x1024x1024) ![0, 256, 0] S1x256x1024.size inb_S1x1024x1024_S1x256x1024_0_256_0).toLoadRect.idx z))) x1 x2) x3 x4) (fun z => x6 ((Rect.unit (s := S128x1024) ![0, 512] S128x128.size inb_S128x1024_S128x128_0_512).toLoadRect.idx z)) z
      = gatedV x0 x1 x2 x3 x4 x5 x6 ((Rect.unit (s := S1024x1024) ![384, 512] S128x128.size inb_S1024x1024_S128x128_384_512).emb z) := by
  idx_vars z
  rw [emb_tile 384 512 _ (by omega) (by omega)]
  exact (tile384_512 _ _ x3 x4 _ _ _).trans (tile_eq _ _ x3 x4 _ _ _ _ 1 1 4 (by omega) (by omega) (by omega) (hid1 x0 x1 x2) (mask4 x5) (off4 x6) _ _)

theorem tile256_640 (U : FVec Ideal S256x2048 .f32) (M : FVec Ideal S128x128 .bf16) (x3 x4 : Vec Ideal S1x1024 .f32) (B : Vec Ideal S128x128 .f32) (a b : Fin 128) :
    k0_pay83 (k0_pay61 U) (k0_pay82 M (k0_pay62 U x3 x4)) B (ix2 a b) = tile U M x3 x4 B 0 640 (by omega) (by omega) a b := by
  pointwise [k0_pay83, k0_pay82, k0_pay81, k0_pay62, k0_pay61, k0_pay60, tile, lnorm, center, gelu]

/-- Positions 256 to 383, channels 640 to 767 of the gated block are what the body stores there. -/
theorem piece256_640 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay83 (k0_pay61 (k0_pay20 (k0_pay14 (fun z => x0 ((Rect.unit (s := S1x1024x1024) ![0, 256, 0] S1x256x1024.size inb_S1x1024x1024_S1x256x1024_0_256_0).toLoadRect.idx z))) x1 x2)) (k0_pay82 (k0_pay10 k0_pay8 (k0_pay9 (fun z => x5 ((Rect.unit (s := S8x128x128) ![5, 0, 0] S1x128x128.size inb_S8x128x128_S1x128x128_5_0_0).toLoadRect.idx z)))) (k0_pay62 (k0_pay20 (k0_pay14 (fun z => x0 ((Rect.unit (s := S1x1024x1024) ![0, 256, 0] S1x256x1024.size inb_S1x1024x1024_S1x256x1024_0_256_0).toLoadRect.idx z))) x1 x2) x3 x4)) (fun z => x6 ((Rect.unit (s := S128x1024) ![0, 640] S128x128.size inb_S128x1024_S128x128_0_640).toLoadRect.idx z)) z
      = gatedV x0 x1 x2 x3 x4 x5 x6 ((Rect.unit (s := S1024x1024) ![256, 640] S128x128.size inb_S1024x1024_S128x128_256_640).emb z) := by
  idx_vars z
  rw [emb_tile 256 640 _ (by omega) (by omega)]
  exact (tile256_640 _ _ x3 x4 _ _ _).trans (tile_eq _ _ x3 x4 _ _ _ _ 1 0 5 (by omega) (by omega) (by omega) (hid1 x0 x1 x2) (mask5 x5) (off5 x6) _ _)

theorem tile384_640 (U : FVec Ideal S256x2048 .f32) (M : FVec Ideal S128x128 .bf16) (x3 x4 : Vec Ideal S1x1024 .f32) (B : Vec Ideal S128x128 .f32) (a b : Fin 128) :
    k0_pay84 (k0_pay61 U) (k0_pay81 M (k0_pay62 U x3 x4)) B (ix2 a b) = tile U M x3 x4 B 128 640 (by omega) (by omega) a b := by
  pointwise [k0_pay84, k0_pay81, k0_pay62, k0_pay61, k0_pay60, tile, lnorm, center, gelu]

/-- Positions 384 to 511, channels 640 to 767 of the gated block are what the body stores there. -/
theorem piece384_640 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay84 (k0_pay61 (k0_pay20 (k0_pay14 (fun z => x0 ((Rect.unit (s := S1x1024x1024) ![0, 256, 0] S1x256x1024.size inb_S1x1024x1024_S1x256x1024_0_256_0).toLoadRect.idx z))) x1 x2)) (k0_pay81 (k0_pay10 k0_pay8 (k0_pay9 (fun z => x5 ((Rect.unit (s := S8x128x128) ![5, 0, 0] S1x128x128.size inb_S8x128x128_S1x128x128_5_0_0).toLoadRect.idx z)))) (k0_pay62 (k0_pay20 (k0_pay14 (fun z => x0 ((Rect.unit (s := S1x1024x1024) ![0, 256, 0] S1x256x1024.size inb_S1x1024x1024_S1x256x1024_0_256_0).toLoadRect.idx z))) x1 x2) x3 x4)) (fun z => x6 ((Rect.unit (s := S128x1024) ![0, 640] S128x128.size inb_S128x1024_S128x128_0_640).toLoadRect.idx z)) z
      = gatedV x0 x1 x2 x3 x4 x5 x6 ((Rect.unit (s := S1024x1024) ![384, 640] S128x128.size inb_S1024x1024_S128x128_384_640).emb z) := by
  idx_vars z
  rw [emb_tile 384 640 _ (by omega) (by omega)]
  exact (tile384_640 _ _ x3 x4 _ _ _).trans (tile_eq _ _ x3 x4 _ _ _ _ 1 1 5 (by omega) (by omega) (by omega) (hid1 x0 x1 x2) (mask5 x5) (off5 x6) _ _)

theorem tile256_768 (U : FVec Ideal S256x2048 .f32) (M : FVec Ideal S128x128 .bf16) (x3 x4 : Vec Ideal S1x1024 .f32) (B : Vec Ideal S128x128 .f32) (a b : Fin 128) :
    k0_pay86 M (k0_pay61 U) (k0_pay62 U x3 x4) B (ix2 a b) = tile U M x3 x4 B 0 768 (by omega) (by omega) a b := by
  pointwise [k0_pay86, k0_pay85, k0_pay62, k0_pay61, k0_pay60, tile, lnorm, center, gelu]

/-- Positions 256 to 383, channels 768 to 895 of the gated block are what the body stores there. -/
theorem piece256_768 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay86 (k0_pay11 (iota .tc S128x128 32 [0] iota_S128x128_d0_w32) (iota .tc S128x128 32 [1] iota_S128x128_d1_w32) (fun z => x5 ((Rect.unit (s := S8x128x128) ![6, 0, 0] S1x128x128.size inb_S8x128x128_S1x128x128_6_0_0).toLoadRect.idx z))) (k0_pay61 (k0_pay20 (k0_pay14 (fun z => x0 ((Rect.unit (s := S1x1024x1024) ![0, 256, 0] S1x256x1024.size inb_S1x1024x1024_S1x256x1024_0_256_0).toLoadRect.idx z))) x1 x2)) (k0_pay62 (k0_pay20 (k0_pay14 (fun z => x0 ((Rect.unit (s := S1x1024x1024) ![0, 256, 0] S1x256x1024.size inb_S1x1024x1024_S1x256x1024_0_256_0).toLoadRect.idx z))) x1 x2) x3 x4) (fun z => x6 ((Rect.unit (s := S128x1024) ![0, 768] S128x128.size inb_S128x1024_S128x128_0_768).toLoadRect.idx z)) z
      = gatedV x0 x1 x2 x3 x4 x5 x6 ((Rect.unit (s := S1024x1024) ![256, 768] S128x128.size inb_S1024x1024_S128x128_256_768).emb z) := by
  idx_vars z
  rw [emb_tile 256 768 _ (by omega) (by omega)]
  exact (tile256_768 _ _ x3 x4 _ _ _).trans (tile_eq _ _ x3 x4 _ _ _ _ 1 0 6 (by omega) (by omega) (by omega) (hid1 x0 x1 x2) (mask6 x5) (off6 x6) _ _)

theorem tile384_768 (U : FVec Ideal S256x2048 .f32) (M : FVec Ideal S128x128 .bf16) (x3 x4 : Vec Ideal S1x1024 .f32) (B : Vec Ideal S128x128 .f32) (a b : Fin 128) :
    k0_pay88 (k0_pay87 M (k0_pay61 U) (k0_pay62 U x3 x4) B) (ix2 a b) = tile U M x3 x4 B 128 768 (by omega) (by omega) a b := by
  pointwise [k0_pay88, k0_pay87, k0_pay85, k0_pay62, k0_pay61, k0_pay60, tile, lnorm, center, gelu]

/-- Positions 384 to 511, channels 768 to 895 of the gated block are what the body stores there. -/
theorem piece384_768 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay88 (k0_pay87 (k0_pay11 (iota .tc S128x128 32 [0] iota_S128x128_d0_w32) (iota .tc S128x128 32 [1] iota_S128x128_d1_w32) (fun z => x5 ((Rect.unit (s := S8x128x128) ![6, 0, 0] S1x128x128.size inb_S8x128x128_S1x128x128_6_0_0).toLoadRect.idx z))) (k0_pay61 (k0_pay20 (k0_pay14 (fun z => x0 ((Rect.unit (s := S1x1024x1024) ![0, 256, 0] S1x256x1024.size inb_S1x1024x1024_S1x256x1024_0_256_0).toLoadRect.idx z))) x1 x2)) (k0_pay62 (k0_pay20 (k0_pay14 (fun z => x0 ((Rect.unit (s := S1x1024x1024) ![0, 256, 0] S1x256x1024.size inb_S1x1024x1024_S1x256x1024_0_256_0).toLoadRect.idx z))) x1 x2) x3 x4) (fun z => x6 ((Rect.unit (s := S128x1024) ![0, 768] S128x128.size inb_S128x1024_S128x128_0_768).toLoadRect.idx z))) z
      = gatedV x0 x1 x2 x3 x4 x5 x6 ((Rect.unit (s := S1024x1024) ![384, 768] S128x128.size inb_S1024x1024_S128x128_384_768).emb z) := by
  idx_vars z
  rw [emb_tile 384 768 _ (by omega) (by omega)]
  exact (tile384_768 _ _ x3 x4 _ _ _).trans (tile_eq _ _ x3 x4 _ _ _ _ 1 1 6 (by omega) (by omega) (by omega) (hid1 x0 x1 x2) (mask6 x5) (off6 x6) _ _)

theorem tile256_896 (U : FVec Ideal S256x2048 .f32) (M : FVec Ideal S128x128 .bf16) (x3 x4 : Vec Ideal S1x1024 .f32) (B : Vec Ideal S128x128 .f32) (a b : Fin 128) :
    k0_pay90 M (k0_pay61 U) (k0_pay62 U x3 x4) B (ix2 a b) = tile U M x3 x4 B 0 896 (by omega) (by omega) a b := by
  pointwise [k0_pay90, k0_pay89, k0_pay62, k0_pay61, k0_pay60, tile, lnorm, center, gelu]

/-- Positions 256 to 383, channels 896 to 1023 of the gated block are what the body stores there. -/
theorem piece256_896 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay90 (k0_pay12 (iota .tc S128x128 32 [0] iota_S128x128_d0_w32) (iota .tc S128x128 32 [1] iota_S128x128_d1_w32) (fun z => x5 ((Rect.unit (s := S8x128x128) ![7, 0, 0] S1x128x128.size inb_S8x128x128_S1x128x128_7_0_0).toLoadRect.idx z))) (k0_pay61 (k0_pay20 (k0_pay14 (fun z => x0 ((Rect.unit (s := S1x1024x1024) ![0, 256, 0] S1x256x1024.size inb_S1x1024x1024_S1x256x1024_0_256_0).toLoadRect.idx z))) x1 x2)) (k0_pay62 (k0_pay20 (k0_pay14 (fun z => x0 ((Rect.unit (s := S1x1024x1024) ![0, 256, 0] S1x256x1024.size inb_S1x1024x1024_S1x256x1024_0_256_0).toLoadRect.idx z))) x1 x2) x3 x4) (fun z => x6 ((Rect.unit (s := S128x1024) ![0, 896] S128x128.size inb_S128x1024_S128x128_0_896).toLoadRect.idx z)) z
      = gatedV x0 x1 x2 x3 x4 x5 x6 ((Rect.unit (s := S1024x1024) ![256, 896] S128x128.size inb_S1024x1024_S128x128_256_896).emb z) := by
  idx_vars z
  rw [emb_tile 256 896 _ (by omega) (by omega)]
  exact (tile256_896 _ _ x3 x4 _ _ _).trans (tile_eq _ _ x3 x4 _ _ _ _ 1 0 7 (by omega) (by omega) (by omega) (hid1 x0 x1 x2) (mask7 x5) (off7 x6) _ _)

theorem tile384_896 (U : FVec Ideal S256x2048 .f32) (M : FVec Ideal S128x128 .bf16) (x3 x4 : Vec Ideal S1x1024 .f32) (B : Vec Ideal S128x128 .f32) (a b : Fin 128) :
    k0_pay91 M (k0_pay61 U) (k0_pay62 U x3 x4) B (ix2 a b) = tile U M x3 x4 B 128 896 (by omega) (by omega) a b := by
  pointwise [k0_pay91, k0_pay89, k0_pay62, k0_pay61, k0_pay60, tile, lnorm, center, gelu]

/-- Positions 384 to 511, channels 896 to 1023 of the gated block are what the body stores there. -/
theorem piece384_896 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay91 (k0_pay12 (iota .tc S128x128 32 [0] iota_S128x128_d0_w32) (iota .tc S128x128 32 [1] iota_S128x128_d1_w32) (fun z => x5 ((Rect.unit (s := S8x128x128) ![7, 0, 0] S1x128x128.size inb_S8x128x128_S1x128x128_7_0_0).toLoadRect.idx z))) (k0_pay61 (k0_pay20 (k0_pay14 (fun z => x0 ((Rect.unit (s := S1x1024x1024) ![0, 256, 0] S1x256x1024.size inb_S1x1024x1024_S1x256x1024_0_256_0).toLoadRect.idx z))) x1 x2)) (k0_pay62 (k0_pay20 (k0_pay14 (fun z => x0 ((Rect.unit (s := S1x1024x1024) ![0, 256, 0] S1x256x1024.size inb_S1x1024x1024_S1x256x1024_0_256_0).toLoadRect.idx z))) x1 x2) x3 x4) (fun z => x6 ((Rect.unit (s := S128x1024) ![0, 896] S128x128.size inb_S128x1024_S128x128_0_896).toLoadRect.idx z)) z
      = gatedV x0 x1 x2 x3 x4 x5 x6 ((Rect.unit (s := S1024x1024) ![384, 896] S128x128.size inb_S1024x1024_S128x128_384_896).emb z) := by
  idx_vars z
  rw [emb_tile 384 896 _ (by omega) (by omega)]
  exact (tile384_896 _ _ x3 x4 _ _ _).trans (tile_eq _ _ x3 x4 _ _ _ _ 1 1 7 (by omega) (by omega) (by omega) (hid1 x0 x1 x2) (mask7 x5) (off7 x6) _ _)

end Cert.Gmlp
-- ==== Proof.GmlpTiles1.lean ====
/-
  Untrusted. The spatial gating: the gated tiles of positions 512 to 1023 of a block are what the body stores there.
-/
module

public import proofs.«01_k».proof.Proof.Gmlp

@[expose] public section

set_option maxRecDepth 16384

noncomputable section
namespace Cert.Gmlp
open Cert.Kernel3Ideal Cert.Kernel3Ideal.Gen Cert.Rows
open Idealize.ShloMosaic Idealize.ShloMosaic.TcCoe

theorem tile512_0 (U : FVec Ideal S256x2048 .f32) (M : FVec Ideal S128x128 .bf16) (x3 x4 : Vec Ideal S1x1024 .f32) (B : Vec Ideal S128x128 .f32) (a b : Fin 128) :
    k0_pay99 (k0_pay98 M U (k0_pay93 U) (FloatOps.ofBits (F := Ideal) .f32 1060439283#32) x3 x4 B) (ix2 a b) = tile U M x3 x4 B 0 0 (by omega) (by omega) a b := by
  pointwise [k0_pay99, k0_pay98, k0_pay97, k0_pay96, k0_pay95, k0_pay94, k0_pay93, tile, lnorm, center, gelu]

/-- Positions 512 to 639, channels 0 to 127 of the gated block are what the body stores there. -/
theorem piece512_0 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay99 (k0_pay98 (k0_pay3 (fun z => x5 ((Rect.unit (s := S8x128x128) ![0, 0, 0] S1x128x128.size inb_S8x128x128_S1x128x128_0_0_0).toLoadRect.idx z))) (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32) x3 x4 (fun z => x6 ((Rect.unit (s := S128x1024) ![0, 0] S128x128.size inb_S128x1024_S128x128_0_0).toLoadRect.idx z))) z
      = gatedV x0 x1 x2 x3 x4 x5 x6 ((Rect.unit (s := S1024x1024) ![512, 0] S128x128.size inb_S1024x1024_S128x128_512_0).emb z) := by
  idx_vars z
  rw [emb_tile 512 0 _ (by omega) (by omega)]
  exact (tile512_0 _ _ x3 x4 _ _ _).trans (tile_eq _ _ x3 x4 _ _ _ _ 2 0 0 (by omega) (by omega) (by omega) (hid2 x0 x1 x2) (mask0 x5) (off0 x6) _ _)

theorem tile640_0 (U : FVec Ideal S256x2048 .f32) (M : FVec Ideal S128x128 .bf16) (x3 x4 : Vec Ideal S1x1024 .f32) (B : Vec Ideal S128x128 .f32) (a b : Fin 128) :
    k0_pay100 (k0_pay95 U (k0_pay93 U) (FloatOps.ofBits (F := Ideal) .f32 1060439283#32)) (k0_pay97 M U (k0_pay93 U) (FloatOps.ofBits (F := Ideal) .f32 1060439283#32) x3 x4) B (ix2 a b) = tile U M x3 x4 B 128 0 (by omega) (by omega) a b := by
  pointwise [k0_pay100, k0_pay97, k0_pay96, k0_pay95, k0_pay94, k0_pay93, tile, lnorm, center, gelu]

/-- Positions 640 to 767, channels 0 to 127 of the gated block are what the body stores there. -/
theorem piece640_0 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay100 (k0_pay95 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32)) (k0_pay97 (k0_pay3 (fun z => x5 ((Rect.unit (s := S8x128x128) ![0, 0, 0] S1x128x128.size inb_S8x128x128_S1x128x128_0_0_0).toLoadRect.idx z))) (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32) x3 x4) (fun z => x6 ((Rect.unit (s := S128x1024) ![0, 0] S128x128.size inb_S128x1024_S128x128_0_0).toLoadRect.idx z)) z
      = gatedV x0 x1 x2 x3 x4 x5 x6 ((Rect.unit (s := S1024x1024) ![640, 0] S128x128.size inb_S1024x1024_S128x128_640_0).emb z) := by
  idx_vars z
  rw [emb_tile 640 0 _ (by omega) (by omega)]
  exact (tile640_0 _ _ x3 x4 _ _ _).trans (tile_eq _ _ x3 x4 _ _ _ _ 2 1 0 (by omega) (by omega) (by omega) (hid2 x0 x1 x2) (mask0 x5) (off0 x6) _ _)

theorem tile512_128 (U : FVec Ideal S256x2048 .f32) (M : FVec Ideal S128x128 .bf16) (x3 x4 : Vec Ideal S1x1024 .f32) (B : Vec Ideal S128x128 .f32) (a b : Fin 128) :
    k0_pay102 M (k0_pay95 U (k0_pay93 U) (FloatOps.ofBits (F := Ideal) .f32 1060439283#32)) (k0_pay96 U (k0_pay93 U) (FloatOps.ofBits (F := Ideal) .f32 1060439283#32) x3 x4) B (ix2 a b) = tile U M x3 x4 B 0 128 (by omega) (by omega) a b := by
  pointwise [k0_pay102, k0_pay101, k0_pay96, k0_pay95, k0_pay94, k0_pay93, tile, lnorm, center, gelu]

/-- Positions 512 to 639, channels 128 to 255 of the gated block are what the body stores there. -/
theorem piece512_128 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay102 (k0_pay4 (fun z => x5 ((Rect.unit (s := S8x128x128) ![1, 0, 0] S1x128x128.size inb_S8x128x128_S1x128x128_1_0_0).toLoadRect.idx z))) (k0_pay95 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32)) (k0_pay96 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32) x3 x4) (fun z => x6 ((Rect.unit (s := S128x1024) ![0, 128] S128x128.size inb_S128x1024_S128x128_0_128).toLoadRect.idx z)) z
      = gatedV x0 x1 x2 x3 x4 x5 x6 ((Rect.unit (s := S1024x1024) ![512, 128] S128x128.size inb_S1024x1024_S128x128_512_128).emb z) := by
  idx_vars z
  rw [emb_tile 512 128 _ (by omega) (by omega)]
  exact (tile512_128 _ _ x3 x4 _ _ _).trans (tile_eq _ _ x3 x4 _ _ _ _ 2 0 1 (by omega) (by omega) (by omega) (hid2 x0 x1 x2) (mask1 x5) (off1 x6) _ _)

theorem tile640_128 (U : FVec Ideal S256x2048 .f32) (M : FVec Ideal S128x128 .bf16) (x3 x4 : Vec Ideal S1x1024 .f32) (B : Vec Ideal S128x128 .f32) (a b : Fin 128) :
    k0_pay103 M (k0_pay95 U (k0_pay93 U) (FloatOps.ofBits (F := Ideal) .f32 1060439283#32)) (k0_pay96 U (k0_pay93 U) (FloatOps.ofBits (F := Ideal) .f32 1060439283#32) x3 x4) B (ix2 a b) = tile U M x3 x4 B 128 128 (by omega) (by omega) a b := by
  pointwise [k0_pay103, k0_pay101, k0_pay96, k0_pay95, k0_pay94, k0_pay93, tile, lnorm, center, gelu]

/-- Positions 640 to 767, channels 128 to 255 of the gated block are what the body stores there. -/
theorem piece640_128 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay103 (k0_pay4 (fun z => x5 ((Rect.unit (s := S8x128x128) ![1, 0, 0] S1x128x128.size inb_S8x128x128_S1x128x128_1_0_0).toLoadRect.idx z))) (k0_pay95 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32)) (k0_pay96 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32) x3 x4) (fun z => x6 ((Rect.unit (s := S128x1024) ![0, 128] S128x128.size inb_S128x1024_S128x128_0_128).toLoadRect.idx z)) z
      = gatedV x0 x1 x2 x3 x4 x5 x6 ((Rect.unit (s := S1024x1024) ![640, 128] S128x128.size inb_S1024x1024_S128x128_640_128).emb z) := by
  idx_vars z
  rw [emb_tile 640 128 _ (by omega) (by omega)]
  exact (tile640_128 _ _ x3 x4 _ _ _).trans (tile_eq _ _ x3 x4 _ _ _ _ 2 1 1 (by omega) (by omega) (by omega) (hid2 x0 x1 x2) (mask1 x5) (off1 x6) _ _)

theorem tile512_256 (U : FVec Ideal S256x2048 .f32) (M : FVec Ideal S128x128 .bf16) (x3 x4 : Vec Ideal S1x1024 .f32) (B : Vec Ideal S128x128 .f32) (a b : Fin 128) :
    k0_pay106 (k0_pay95 U (k0_pay93 U) (FloatOps.ofBits (F := Ideal) .f32 1060439283#32)) (k0_pay105 M (k0_pay96 U (k0_pay93 U) (FloatOps.ofBits (F := Ideal) .f32 1060439283#32) x3 x4)) B (ix2 a b) = tile U M x3 x4 B 0 256 (by omega) (by omega) a b := by
  pointwise [k0_pay106, k0_pay105, k0_pay104, k0_pay96, k0_pay95, k0_pay94, k0_pay93, tile, lnorm, center, gelu]

/-- Positions 512 to 639, channels 256 to 383 of the gated block are what the body stores there. -/
theorem piece512_256 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay106 (k0_pay95 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32)) (k0_pay105 (k0_pay5 (fun z => x5 ((Rect.unit (s := S8x128x128) ![2, 0, 0] S1x128x128.size inb_S8x128x128_S1x128x128_2_0_0).toLoadRect.idx z))) (k0_pay96 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32) x3 x4)) (fun z => x6 ((Rect.unit (s := S128x1024) ![0, 256] S128x128.size inb_S128x1024_S128x128_0_256).toLoadRect.idx z)) z
      = gatedV x0 x1 x2 x3 x4 x5 x6 ((Rect.unit (s := S1024x1024) ![512, 256] S128x128.size inb_S1024x1024_S128x128_512_256).emb z) := by
  idx_vars z
  rw [emb_tile 512 256 _ (by omega) (by omega)]
  exact (tile512_256 _ _ x3 x4 _ _ _).trans (tile_eq _ _ x3 x4 _ _ _ _ 2 0 2 (by omega) (by omega) (by omega) (hid2 x0 x1 x2) (mask2 x5) (off2 x6) _ _)

theorem tile640_256 (U : FVec Ideal S256x2048 .f32) (M : FVec Ideal S128x128 .bf16) (x3 x4 : Vec Ideal S1x1024 .f32) (B : Vec Ideal S128x128 .f32) (a b : Fin 128) :
    k0_pay107 (k0_pay95 U (k0_pay93 U) (FloatOps.ofBits (F := Ideal) .f32 1060439283#32)) (k0_pay104 M (k0_pay96 U (k0_pay93 U) (FloatOps.ofBits (F := Ideal) .f32 1060439283#32) x3 x4)) B (ix2 a b) = tile U M x3 x4 B 128 256 (by omega) (by omega) a b := by
  pointwise [k0_pay107, k0_pay104, k0_pay96, k0_pay95, k0_pay94, k0_pay93, tile, lnorm, center, gelu]

/-- Positions 640 to 767, channels 256 to 383 of the gated block are what the body stores there. -/
theorem piece640_256 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay107 (k0_pay95 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32)) (k0_pay104 (k0_pay5 (fun z => x5 ((Rect.unit (s := S8x128x128) ![2, 0, 0] S1x128x128.size inb_S8x128x128_S1x128x128_2_0_0).toLoadRect.idx z))) (k0_pay96 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32) x3 x4)) (fun z => x6 ((Rect.unit (s := S128x1024) ![0, 256] S128x128.size inb_S128x1024_S128x128_0_256).toLoadRect.idx z)) z
      = gatedV x0 x1 x2 x3 x4 x5 x6 ((Rect.unit (s := S1024x1024) ![640, 256] S128x128.size inb_S1024x1024_S128x128_640_256).emb z) := by
  idx_vars z
  rw [emb_tile 640 256 _ (by omega) (by omega)]
  exact (tile640_256 _ _ x3 x4 _ _ _).trans (tile_eq _ _ x3 x4 _ _ _ _ 2 1 2 (by omega) (by omega) (by omega) (hid2 x0 x1 x2) (mask2 x5) (off2 x6) _ _)

theorem tile512_384 (U : FVec Ideal S256x2048 .f32) (M : FVec Ideal S128x128 .bf16) (x3 x4 : Vec Ideal S1x1024 .f32) (B : Vec Ideal S128x128 .f32) (a b : Fin 128) :
    k0_pay109 M (k0_pay95 U (k0_pay93 U) (FloatOps.ofBits (F := Ideal) .f32 1060439283#32)) (k0_pay96 U (k0_pay93 U) (FloatOps.ofBits (F := Ideal) .f32 1060439283#32) x3 x4) B (ix2 a b) = tile U M x3 x4 B 0 384 (by omega) (by omega) a b := by
  pointwise [k0_pay109, k0_pay108, k0_pay96, k0_pay95, k0_pay94, k0_pay93, tile, lnorm, center, gelu]

/-- Positions 512 to 639, channels 384 to 511 of the gated block are what the body stores there. -/
theorem piece512_384 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay109 (k0_pay6 (fun z => x5 ((Rect.unit (s := S8x128x128) ![3, 0, 0] S1x128x128.size inb_S8x128x128_S1x128x128_3_0_0).toLoadRect.idx z))) (k0_pay95 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32)) (k0_pay96 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32) x3 x4) (fun z => x6 ((Rect.unit (s := S128x1024) ![0, 384] S128x128.size inb_S128x1024_S128x128_0_384).toLoadRect.idx z)) z
      = gatedV x0 x1 x2 x3 x4 x5 x6 ((Rect.unit (s := S1024x1024) ![512, 384] S128x128.size inb_S1024x1024_S128x128_512_384).emb z) := by
  idx_vars z
  rw [emb_tile 512 384 _ (by omega) (by omega)]
  exact (tile512_384 _ _ x3 x4 _ _ _).trans (tile_eq _ _ x3 x4 _ _ _ _ 2 0 3 (by omega) (by omega) (by omega) (hid2 x0 x1 x2) (mask3 x5) (off3 x6) _ _)

theorem tile640_384 (U : FVec Ideal S256x2048 .f32) (M : FVec Ideal S128x128 .bf16) (x3 x4 : Vec Ideal S1x1024 .f32) (B : Vec Ideal S128x128 .f32) (a b : Fin 128) :
    k0_pay111 (k0_pay110 M (k0_pay95 U (k0_pay93 U) (FloatOps.ofBits (F := Ideal) .f32 1060439283#32)) (k0_pay96 U (k0_pay93 U) (FloatOps.ofBits (F := Ideal) .f32 1060439283#32) x3 x4) B) (ix2 a b) = tile U M x3 x4 B 128 384 (by omega) (by omega) a b := by
  pointwise [k0_pay111, k0_pay110, k0_pay108, k0_pay96, k0_pay95, k0_pay94, k0_pay93, tile, lnorm, center, gelu]

/-- Positions 640 to 767, channels 384 to 511 of the gated block are what the body stores there. -/
theorem piece640_384 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay111 (k0_pay110 (k0_pay6 (fun z => x5 ((Rect.unit (s := S8x128x128) ![3, 0, 0] S1x128x128.size inb_S8x128x128_S1x128x128_3_0_0).toLoadRect.idx z))) (k0_pay95 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32)) (k0_pay96 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32) x3 x4) (fun z => x6 ((Rect.unit (s := S128x1024) ![0, 384] S128x128.size inb_S128x1024_S128x128_0_384).toLoadRect.idx z))) z
      = gatedV x0 x1 x2 x3 x4 x5 x6 ((Rect.unit (s := S1024x1024) ![640, 384] S128x128.size inb_S1024x1024_S128x128_640_384).emb z) := by
  idx_vars z
  rw [emb_tile 640 384 _ (by omega) (by omega)]
  exact (tile640_384 _ _ x3 x4 _ _ _).trans (tile_eq _ _ x3 x4 _ _ _ _ 2 1 3 (by omega) (by omega) (by omega) (hid2 x0 x1 x2) (mask3 x5) (off3 x6) _ _)

theorem tile512_512 (U : FVec Ideal S256x2048 .f32) (M : FVec Ideal S128x128 .bf16) (x3 x4 : Vec Ideal S1x1024 .f32) (B : Vec Ideal S128x128 .f32) (a b : Fin 128) :
    k0_pay113 M (k0_pay95 U (k0_pay93 U) (FloatOps.ofBits (F := Ideal) .f32 1060439283#32)) (k0_pay96 U (k0_pay93 U) (FloatOps.ofBits (F := Ideal) .f32 1060439283#32) x3 x4) B (ix2 a b) = tile U M x3 x4 B 0 512 (by omega) (by omega) a b := by
  pointwise [k0_pay113, k0_pay112, k0_pay96, k0_pay95, k0_pay94, k0_pay93, tile, lnorm, center, gelu]

/-- Positions 512 to 639, channels 512 to 639 of the gated block are what the body stores there. -/
theorem piece512_512 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay113 (k0_pay7 (fun z => x5 ((Rect.unit (s := S8x128x128) ![4, 0, 0] S1x128x128.size inb_S8x128x128_S1x128x128_4_0_0).toLoadRect.idx z))) (k0_pay95 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32)) (k0_pay96 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32) x3 x4) (fun z => x6 ((Rect.unit (s := S128x1024) ![0, 512] S128x128.size inb_S128x1024_S128x128_0_512).toLoadRect.idx z)) z
      = gatedV x0 x1 x2 x3 x4 x5 x6 ((Rect.unit (s := S1024x1024) ![512, 512] S128x128.size inb_S1024x1024_S128x128_512_512).emb z) := by
  idx_vars z
  rw [emb_tile 512 512 _ (by omega) (by omega)]
  exact (tile512_512 _ _ x3 x4 _ _ _).trans (tile_eq _ _ x3 x4 _ _ _ _ 2 0 4 (by omega) (by omega) (by omega) (hid2 x0 x1 x2) (mask4 x5) (off4 x6) _ _)

theorem tile640_512 (U : FVec Ideal S256x2048 .f32) (M : FVec Ideal S128x128 .bf16) (x3 x4 : Vec Ideal S1x1024 .f32) (B : Vec Ideal S128x128 .f32) (a b : Fin 128) :
    k0_pay114 M (k0_pay95 U (k0_pay93 U) (FloatOps.ofBits (F := Ideal) .f32 1060439283#32)) (k0_pay96 U (k0_pay93 U) (FloatOps.ofBits (F := Ideal) .f32 1060439283#32) x3 x4) B (ix2 a b) = tile U M x3 x4 B 128 512 (by omega) (by omega) a b := by
  pointwise [k0_pay114, k0_pay112, k0_pay96, k0_pay95, k0_pay94, k0_pay93, tile, lnorm, center, gelu]

/-- Positions 640 to 767, channels 512 to 639 of the gated block are what the body stores there. -/
theorem piece640_512 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay114 (k0_pay7 (fun z => x5 ((Rect.unit (s := S8x128x128) ![4, 0, 0] S1x128x128.size inb_S8x128x128_S1x128x128_4_0_0).toLoadRect.idx z))) (k0_pay95 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32)) (k0_pay96 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32) x3 x4) (fun z => x6 ((Rect.unit (s := S128x1024) ![0, 512] S128x128.size inb_S128x1024_S128x128_0_512).toLoadRect.idx z)) z
      = gatedV x0 x1 x2 x3 x4 x5 x6 ((Rect.unit (s := S1024x1024) ![640, 512] S128x128.size inb_S1024x1024_S128x128_640_512).emb z) := by
  idx_vars z
  rw [emb_tile 640 512 _ (by omega) (by omega)]
  exact (tile640_512 _ _ x3 x4 _ _ _).trans (tile_eq _ _ x3 x4 _ _ _ _ 2 1 4 (by omega) (by omega) (by omega) (hid2 x0 x1 x2) (mask4 x5) (off4 x6) _ _)

theorem tile512_640 (U : FVec Ideal S256x2048 .f32) (M : FVec Ideal S128x128 .bf16) (x3 x4 : Vec Ideal S1x1024 .f32) (B : Vec Ideal S128x128 .f32) (a b : Fin 128) :
    k0_pay116 M (k0_pay95 U (k0_pay93 U) (FloatOps.ofBits (F := Ideal) .f32 1060439283#32)) (k0_pay96 U (k0_pay93 U) (FloatOps.ofBits (F := Ideal) .f32 1060439283#32) x3 x4) B (ix2 a b) = tile U M x3 x4 B 0 640 (by omega) (by omega) a b := by
  pointwise [k0_pay116, k0_pay115, k0_pay96, k0_pay95, k0_pay94, k0_pay93, tile, lnorm, center, gelu]

/-- Positions 512 to 639, channels 640 to 767 of the gated block are what the body stores there. -/
theorem piece512_640 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay116 (k0_pay10 k0_pay8 (k0_pay9 (fun z => x5 ((Rect.unit (s := S8x128x128) ![5, 0, 0] S1x128x128.size inb_S8x128x128_S1x128x128_5_0_0).toLoadRect.idx z)))) (k0_pay95 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32)) (k0_pay96 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32) x3 x4) (fun z => x6 ((Rect.unit (s := S128x1024) ![0, 640] S128x128.size inb_S128x1024_S128x128_0_640).toLoadRect.idx z)) z
      = gatedV x0 x1 x2 x3 x4 x5 x6 ((Rect.unit (s := S1024x1024) ![512, 640] S128x128.size inb_S1024x1024_S128x128_512_640).emb z) := by
  idx_vars z
  rw [emb_tile 512 640 _ (by omega) (by omega)]
  exact (tile512_640 _ _ x3 x4 _ _ _).trans (tile_eq _ _ x3 x4 _ _ _ _ 2 0 5 (by omega) (by omega) (by omega) (hid2 x0 x1 x2) (mask5 x5) (off5 x6) _ _)

theorem tile640_640 (U : FVec Ideal S256x2048 .f32) (M : FVec Ideal S128x128 .bf16) (x3 x4 : Vec Ideal S1x1024 .f32) (B : Vec Ideal S128x128 .f32) (a b : Fin 128) :
    k0_pay118 (k0_pay95 U (k0_pay93 U) (FloatOps.ofBits (F := Ideal) .f32 1060439283#32)) (k0_pay117 M (k0_pay96 U (k0_pay93 U) (FloatOps.ofBits (F := Ideal) .f32 1060439283#32) x3 x4)) B (ix2 a b) = tile U M x3 x4 B 128 640 (by omega) (by omega) a b := by
  pointwise [k0_pay118, k0_pay117, k0_pay115, k0_pay96, k0_pay95, k0_pay94, k0_pay93, tile, lnorm, center, gelu]

/-- Positions 640 to 767, channels 640 to 767 of the gated block are what the body stores there. -/
theorem piece640_640 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay118 (k0_pay95 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32)) (k0_pay117 (k0_pay10 k0_pay8 (k0_pay9 (fun z => x5 ((Rect.unit (s := S8x128x128) ![5, 0, 0] S1x128x128.size inb_S8x128x128_S1x128x128_5_0_0).toLoadRect.idx z)))) (k0_pay96 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32) x3 x4)) (fun z => x6 ((Rect.unit (s := S128x1024) ![0, 640] S128x128.size inb_S128x1024_S128x128_0_640).toLoadRect.idx z)) z
      = gatedV x0 x1 x2 x3 x4 x5 x6 ((Rect.unit (s := S1024x1024) ![640, 640] S128x128.size inb_S1024x1024_S128x128_640_640).emb z) := by
  idx_vars z
  rw [emb_tile 640 640 _ (by omega) (by omega)]
  exact (tile640_640 _ _ x3 x4 _ _ _).trans (tile_eq _ _ x3 x4 _ _ _ _ 2 1 5 (by omega) (by omega) (by omega) (hid2 x0 x1 x2) (mask5 x5) (off5 x6) _ _)

theorem tile512_768 (U : FVec Ideal S256x2048 .f32) (M : FVec Ideal S128x128 .bf16) (x3 x4 : Vec Ideal S1x1024 .f32) (B : Vec Ideal S128x128 .f32) (a b : Fin 128) :
    k0_pay120 M (k0_pay95 U (k0_pay93 U) (FloatOps.ofBits (F := Ideal) .f32 1060439283#32)) (k0_pay96 U (k0_pay93 U) (FloatOps.ofBits (F := Ideal) .f32 1060439283#32) x3 x4) B (ix2 a b) = tile U M x3 x4 B 0 768 (by omega) (by omega) a b := by
  pointwise [k0_pay120, k0_pay119, k0_pay96, k0_pay95, k0_pay94, k0_pay93, tile, lnorm, center, gelu]

/-- Positions 512 to 639, channels 768 to 895 of the gated block are what the body stores there. -/
theorem piece512_768 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay120 (k0_pay11 (iota .tc S128x128 32 [0] iota_S128x128_d0_w32) (iota .tc S128x128 32 [1] iota_S128x128_d1_w32) (fun z => x5 ((Rect.unit (s := S8x128x128) ![6, 0, 0] S1x128x128.size inb_S8x128x128_S1x128x128_6_0_0).toLoadRect.idx z))) (k0_pay95 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32)) (k0_pay96 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32) x3 x4) (fun z => x6 ((Rect.unit (s := S128x1024) ![0, 768] S128x128.size inb_S128x1024_S128x128_0_768).toLoadRect.idx z)) z
      = gatedV x0 x1 x2 x3 x4 x5 x6 ((Rect.unit (s := S1024x1024) ![512, 768] S128x128.size inb_S1024x1024_S128x128_512_768).emb z) := by
  idx_vars z
  rw [emb_tile 512 768 _ (by omega) (by omega)]
  exact (tile512_768 _ _ x3 x4 _ _ _).trans (tile_eq _ _ x3 x4 _ _ _ _ 2 0 6 (by omega) (by omega) (by omega) (hid2 x0 x1 x2) (mask6 x5) (off6 x6) _ _)

theorem tile640_768 (U : FVec Ideal S256x2048 .f32) (M : FVec Ideal S128x128 .bf16) (x3 x4 : Vec Ideal S1x1024 .f32) (B : Vec Ideal S128x128 .f32) (a b : Fin 128) :
    k0_pay121 M (k0_pay95 U (k0_pay93 U) (FloatOps.ofBits (F := Ideal) .f32 1060439283#32)) (k0_pay96 U (k0_pay93 U) (FloatOps.ofBits (F := Ideal) .f32 1060439283#32) x3 x4) B (ix2 a b) = tile U M x3 x4 B 128 768 (by omega) (by omega) a b := by
  pointwise [k0_pay121, k0_pay119, k0_pay96, k0_pay95, k0_pay94, k0_pay93, tile, lnorm, center, gelu]

/-- Positions 640 to 767, channels 768 to 895 of the gated block are what the body stores there. -/
theorem piece640_768 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay121 (k0_pay11 (iota .tc S128x128 32 [0] iota_S128x128_d0_w32) (iota .tc S128x128 32 [1] iota_S128x128_d1_w32) (fun z => x5 ((Rect.unit (s := S8x128x128) ![6, 0, 0] S1x128x128.size inb_S8x128x128_S1x128x128_6_0_0).toLoadRect.idx z))) (k0_pay95 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32)) (k0_pay96 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32) x3 x4) (fun z => x6 ((Rect.unit (s := S128x1024) ![0, 768] S128x128.size inb_S128x1024_S128x128_0_768).toLoadRect.idx z)) z
      = gatedV x0 x1 x2 x3 x4 x5 x6 ((Rect.unit (s := S1024x1024) ![640, 768] S128x128.size inb_S1024x1024_S128x128_640_768).emb z) := by
  idx_vars z
  rw [emb_tile 640 768 _ (by omega) (by omega)]
  exact (tile640_768 _ _ x3 x4 _ _ _).trans (tile_eq _ _ x3 x4 _ _ _ _ 2 1 6 (by omega) (by omega) (by omega) (hid2 x0 x1 x2) (mask6 x5) (off6 x6) _ _)

theorem tile512_896 (U : FVec Ideal S256x2048 .f32) (M : FVec Ideal S128x128 .bf16) (x3 x4 : Vec Ideal S1x1024 .f32) (B : Vec Ideal S128x128 .f32) (a b : Fin 128) :
    k0_pay125 (k0_pay123 M (k0_pay96 U (k0_pay93 U) (FloatOps.ofBits (F := Ideal) .f32 1060439283#32) x3 x4) B) (k0_pay124 (k0_pay95 U (k0_pay93 U) (FloatOps.ofBits (F := Ideal) .f32 1060439283#32))) (ix2 a b) = tile U M x3 x4 B 0 896 (by omega) (by omega) a b := by
  pointwise [k0_pay125, k0_pay124, k0_pay123, k0_pay122, k0_pay96, k0_pay95, k0_pay94, k0_pay93, tile, lnorm, center, gelu]

/-- Positions 512 to 639, channels 896 to 1023 of the gated block are what the body stores there. -/
theorem piece512_896 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay125 (k0_pay123 (k0_pay12 (iota .tc S128x128 32 [0] iota_S128x128_d0_w32) (iota .tc S128x128 32 [1] iota_S128x128_d1_w32) (fun z => x5 ((Rect.unit (s := S8x128x128) ![7, 0, 0] S1x128x128.size inb_S8x128x128_S1x128x128_7_0_0).toLoadRect.idx z))) (k0_pay96 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32) x3 x4) (fun z => x6 ((Rect.unit (s := S128x1024) ![0, 896] S128x128.size inb_S128x1024_S128x128_0_896).toLoadRect.idx z))) (k0_pay124 (k0_pay95 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32))) z
      = gatedV x0 x1 x2 x3 x4 x5 x6 ((Rect.unit (s := S1024x1024) ![512, 896] S128x128.size inb_S1024x1024_S128x128_512_896).emb z) := by
  idx_vars z
  rw [emb_tile 512 896 _ (by omega) (by omega)]
  exact (tile512_896 _ _ x3 x4 _ _ _).trans (tile_eq _ _ x3 x4 _ _ _ _ 2 0 7 (by omega) (by omega) (by omega) (hid2 x0 x1 x2) (mask7 x5) (off7 x6) _ _)

theorem tile640_896 (U : FVec Ideal S256x2048 .f32) (M : FVec Ideal S128x128 .bf16) (x3 x4 : Vec Ideal S1x1024 .f32) (B : Vec Ideal S128x128 .f32) (a b : Fin 128) :
    k0_pay126 (k0_pay95 U (k0_pay93 U) (FloatOps.ofBits (F := Ideal) .f32 1060439283#32)) (k0_pay122 M (k0_pay96 U (k0_pay93 U) (FloatOps.ofBits (F := Ideal) .f32 1060439283#32) x3 x4)) B (ix2 a b) = tile U M x3 x4 B 128 896 (by omega) (by omega) a b := by
  pointwise [k0_pay126, k0_pay122, k0_pay96, k0_pay95, k0_pay94, k0_pay93, tile, lnorm, center, gelu]

/-- Positions 640 to 767, channels 896 to 1023 of the gated block are what the body stores there. -/
theorem piece640_896 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay126 (k0_pay95 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32)) (k0_pay122 (k0_pay12 (iota .tc S128x128 32 [0] iota_S128x128_d0_w32) (iota .tc S128x128 32 [1] iota_S128x128_d1_w32) (fun z => x5 ((Rect.unit (s := S8x128x128) ![7, 0, 0] S1x128x128.size inb_S8x128x128_S1x128x128_7_0_0).toLoadRect.idx z))) (k0_pay96 (k0_pay23 (k0_pay21 (k0_pay15 (fun z => x0 ((Rect.unit (s := S1x1024x1024) ![0, 512, 0] S1x256x1024.size inb_S1x1024x1024_S1x256x1024_0_512_0).toLoadRect.idx z))) x1) (k0_pay22 x2)) (k0_pay93 (k0_pay23 (k0_pay21 (k0_pay15 (fun z => x0 ((Rect.unit (s := S1x1024x1024) ![0, 512, 0] S1x256x1024.size inb_S1x1024x1024_S1x256x1024_0_512_0).toLoadRect.idx z))) x1) (k0_pay22 x2))) (FloatOps.ofBits (F := Ideal) .f32 1060439283#32) x3 x4)) (fun z => x6 ((Rect.unit (s := S128x1024) ![0, 896] S128x128.size inb_S128x1024_S128x128_0_896).toLoadRect.idx z)) z
      = gatedV x0 x1 x2 x3 x4 x5 x6 ((Rect.unit (s := S1024x1024) ![640, 896] S128x128.size inb_S1024x1024_S128x128_640_896).emb z) := by
  idx_vars z
  rw [emb_tile 640 896 _ (by omega) (by omega)]
  exact (tile640_896 _ _ x3 x4 _ _ _).trans (tile_eq _ _ x3 x4 _ _ _ _ 2 1 7 (by omega) (by omega) (by omega) (hid2 x0 x1 x2) (mask7 x5) (off7 x6) _ _)

theorem tile768_0 (U : FVec Ideal S256x2048 .f32) (M : FVec Ideal S128x128 .bf16) (x3 x4 : Vec Ideal S1x1024 .f32) (B : Vec Ideal S128x128 .f32) (a b : Fin 128) :
    k0_pay134 M (k0_pay129 U) (k0_pay130 U) (k0_pay131 U) x3 x4 B (ix2 a b) = tile U M x3 x4 B 0 0 (by omega) (by omega) a b := by
  pointwise [k0_pay134, k0_pay133, k0_pay132, k0_pay131, k0_pay130, k0_pay129, k0_pay128, tile, lnorm, center, gelu]

/-- Positions 768 to 895, channels 0 to 127 of the gated block are what the body stores there. -/
theorem piece768_0 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay134 (k0_pay3 (fun z => x5 ((Rect.unit (s := S8x128x128) ![0, 0, 0] S1x128x128.size inb_S8x128x128_S1x128x128_0_0_0).toLoadRect.idx z))) (k0_pay129 (k0_pay24 (k0_pay16 (fun z => x0 ((Rect.unit (s := S1x1024x1024) ![0, 768, 0] S1x256x1024.size inb_S1x1024x1024_S1x256x1024_0_768_0).toLoadRect.idx z))) x1 x2)) (k0_pay130 (k0_pay24 (k0_pay16 (fun z => x0 ((Rect.unit (s := S1x1024x1024) ![0, 768, 0] S1x256x1024.size inb_S1x1024x1024_S1x256x1024_0_768_0).toLoadRect.idx z))) x1 x2)) (k0_pay131 (k0_pay24 (k0_pay16 (fun z => x0 ((Rect.unit (s := S1x1024x1024) ![0, 768, 0] S1x256x1024.size inb_S1x1024x1024_S1x256x1024_0_768_0).toLoadRect.idx z))) x1 x2)) x3 x4 (fun z => x6 ((Rect.unit (s := S128x1024) ![0, 0] S128x128.size inb_S128x1024_S128x128_0_0).toLoadRect.idx z)) z
      = gatedV x0 x1 x2 x3 x4 x5 x6 ((Rect.unit (s := S1024x1024) ![768, 0] S128x128.size inb_S1024x1024_S128x128_768_0).emb z) := by
  idx_vars z
  rw [emb_tile 768 0 _ (by omega) (by omega)]
  exact (tile768_0 _ _ x3 x4 _ _ _).trans (tile_eq _ _ x3 x4 _ _ _ _ 3 0 0 (by omega) (by omega) (by omega) (hid3 x0 x1 x2) (mask0 x5) (off0 x6) _ _)

theorem tile896_0 (U : FVec Ideal S256x2048 .f32) (M : FVec Ideal S128x128 .bf16) (x3 x4 : Vec Ideal S1x1024 .f32) (B : Vec Ideal S128x128 .f32) (a b : Fin 128) :
    k0_pay136 (k0_pay135 M (k0_pay129 U) (k0_pay130 U) (k0_pay131 U) x3 x4 B) (ix2 a b) = tile U M x3 x4 B 128 0 (by omega) (by omega) a b := by
  pointwise [k0_pay136, k0_pay135, k0_pay133, k0_pay132, k0_pay131, k0_pay130, k0_pay129, k0_pay128, tile, lnorm, center, gelu]

/-- Positions 896 to 1023, channels 0 to 127 of the gated block are what the body stores there. -/
theorem piece896_0 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay136 (k0_pay135 (k0_pay3 (fun z => x5 ((Rect.unit (s := S8x128x128) ![0, 0, 0] S1x128x128.size inb_S8x128x128_S1x128x128_0_0_0).toLoadRect.idx z))) (k0_pay129 (k0_pay24 (k0_pay16 (fun z => x0 ((Rect.unit (s := S1x1024x1024) ![0, 768, 0] S1x256x1024.size inb_S1x1024x1024_S1x256x1024_0_768_0).toLoadRect.idx z))) x1 x2)) (k0_pay130 (k0_pay24 (k0_pay16 (fun z => x0 ((Rect.unit (s := S1x1024x1024) ![0, 768, 0] S1x256x1024.size inb_S1x1024x1024_S1x256x1024_0_768_0).toLoadRect.idx z))) x1 x2)) (k0_pay131 (k0_pay24 (k0_pay16 (fun z => x0 ((Rect.unit (s := S1x1024x1024) ![0, 768, 0] S1x256x1024.size inb_S1x1024x1024_S1x256x1024_0_768_0).toLoadRect.idx z))) x1 x2)) x3 x4 (fun z => x6 ((Rect.unit (s := S128x1024) ![0, 0] S128x128.size inb_S128x1024_S128x128_0_0).toLoadRect.idx z))) z
      = gatedV x0 x1 x2 x3 x4 x5 x6 ((Rect.unit (s := S1024x1024) ![896, 0] S128x128.size inb_S1024x1024_S128x128_896_0).emb z) := by
  idx_vars z
  rw [emb_tile 896 0 _ (by omega) (by omega)]
  exact (tile896_0 _ _ x3 x4 _ _ _).trans (tile_eq _ _ x3 x4 _ _ _ _ 3 1 0 (by omega) (by omega) (by omega) (hid3 x0 x1 x2) (mask0 x5) (off0 x6) _ _)

theorem tile768_128 (U : FVec Ideal S256x2048 .f32) (M : FVec Ideal S128x128 .bf16) (x3 x4 : Vec Ideal S1x1024 .f32) (B : Vec Ideal S128x128 .f32) (a b : Fin 128) :
    k0_pay138 M (k0_pay129 U) (k0_pay132 (k0_pay130 U) (k0_pay131 U) x3 x4) B (ix2 a b) = tile U M x3 x4 B 0 128 (by omega) (by omega) a b := by
  pointwise [k0_pay138, k0_pay137, k0_pay132, k0_pay131, k0_pay130, k0_pay129, k0_pay128, tile, lnorm, center, gelu]

/-- Positions 768 to 895, channels 128 to 255 of the gated block are what the body stores there. -/
theorem piece768_128 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay138 (k0_pay4 (fun z => x5 ((Rect.unit (s := S8x128x128) ![1, 0, 0] S1x128x128.size inb_S8x128x128_S1x128x128_1_0_0).toLoadRect.idx z))) (k0_pay129 (k0_pay24 (k0_pay16 (fun z => x0 ((Rect.unit (s := S1x1024x1024) ![0, 768, 0] S1x256x1024.size inb_S1x1024x1024_S1x256x1024_0_768_0).toLoadRect.idx z))) x1 x2)) (k0_pay132 (k0_pay130 (k0_pay24 (k0_pay16 (fun z => x0 ((Rect.unit (s := S1x1024x1024) ![0, 768, 0] S1x256x1024.size inb_S1x1024x1024_S1x256x1024_0_768_0).toLoadRect.idx z))) x1 x2)) (k0_pay131 (k0_pay24 (k0_pay16 (fun z => x0 ((Rect.unit (s := S1x1024x1024) ![0, 768, 0] S1x256x1024.size inb_S1x1024x1024_S1x256x1024_0_768_0).toLoadRect.idx z))) x1 x2)) x3 x4) (fun z => x6 ((Rect.unit (s := S128x1024) ![0, 128] S128x128.size inb_S128x1024_S128x128_0_128).toLoadRect.idx z)) z
      = gatedV x0 x1 x2 x3 x4 x5 x6 ((Rect.unit (s := S1024x1024) ![768, 128] S128x128.size inb_S1024x1024_S128x128_768_128).emb z) := by
  idx_vars z
  rw [emb_tile 768 128 _ (by omega) (by omega)]
  exact (tile768_128 _ _ x3 x4 _ _ _).trans (tile_eq _ _ x3 x4 _ _ _ _ 3 0 1 (by omega) (by omega) (by omega) (hid3 x0 x1 x2) (mask1 x5) (off1 x6) _ _)

theorem tile896_128 (U : FVec Ideal S256x2048 .f32) (M : FVec Ideal S128x128 .bf16) (x3 x4 : Vec Ideal S1x1024 .f32) (B : Vec Ideal S128x128 .f32) (a b : Fin 128) :
    k0_pay139 M (k0_pay129 U) (k0_pay132 (k0_pay130 U) (k0_pay131 U) x3 x4) B (ix2 a b) = tile U M x3 x4 B 128 128 (by omega) (by omega) a b := by
  pointwise [k0_pay139, k0_pay137, k0_pay132, k0_pay131, k0_pay130, k0_pay129, k0_pay128, tile, lnorm, center, gelu]

/-- Positions 896 to 1023, channels 128 to 255 of the gated block are what the body stores there. -/
theorem piece896_128 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay139 (k0_pay4 (fun z => x5 ((Rect.unit (s := S8x128x128) ![1, 0, 0] S1x128x128.size inb_S8x128x128_S1x128x128_1_0_0).toLoadRect.idx z))) (k0_pay129 (k0_pay24 (k0_pay16 (fun z => x0 ((Rect.unit (s := S1x1024x1024) ![0, 768, 0] S1x256x1024.size inb_S1x1024x1024_S1x256x1024_0_768_0).toLoadRect.idx z))) x1 x2)) (k0_pay132 (k0_pay130 (k0_pay24 (k0_pay16 (fun z => x0 ((Rect.unit (s := S1x1024x1024) ![0, 768, 0] S1x256x1024.size inb_S1x1024x1024_S1x256x1024_0_768_0).toLoadRect.idx z))) x1 x2)) (k0_pay131 (k0_pay24 (k0_pay16 (fun z => x0 ((Rect.unit (s := S1x1024x1024) ![0, 768, 0] S1x256x1024.size inb_S1x1024x1024_S1x256x1024_0_768_0).toLoadRect.idx z))) x1 x2)) x3 x4) (fun z => x6 ((Rect.unit (s := S128x1024) ![0, 128] S128x128.size inb_S128x1024_S128x128_0_128).toLoadRect.idx z)) z
      = gatedV x0 x1 x2 x3 x4 x5 x6 ((Rect.unit (s := S1024x1024) ![896, 128] S128x128.size inb_S1024x1024_S128x128_896_128).emb z) := by
  idx_vars z
  rw [emb_tile 896 128 _ (by omega) (by omega)]
  exact (tile896_128 _ _ x3 x4 _ _ _).trans (tile_eq _ _ x3 x4 _ _ _ _ 3 1 1 (by omega) (by omega) (by omega) (hid3 x0 x1 x2) (mask1 x5) (off1 x6) _ _)

theorem tile768_256 (U : FVec Ideal S256x2048 .f32) (M : FVec Ideal S128x128 .bf16) (x3 x4 : Vec Ideal S1x1024 .f32) (B : Vec Ideal S128x128 .f32) (a b : Fin 128) :
    k0_pay141 M (k0_pay129 U) (k0_pay132 (k0_pay130 U) (k0_pay131 U) x3 x4) B (ix2 a b) = tile U M x3 x4 B 0 256 (by omega) (by omega) a b := by
  pointwise [k0_pay141, k0_pay140, k0_pay132, k0_pay131, k0_pay130, k0_pay129, k0_pay128, tile, lnorm, center, gelu]

/-- Positions 768 to 895, channels 256 to 383 of the gated block are what the body stores there. -/
theorem piece768_256 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay141 (k0_pay5 (fun z => x5 ((Rect.unit (s := S8x128x128) ![2, 0, 0] S1x128x128.size inb_S8x128x128_S1x128x128_2_0_0).toLoadRect.idx z))) (k0_pay129 (k0_pay24 (k0_pay16 (fun z => x0 ((Rect.unit (s := S1x1024x1024) ![0, 768, 0] S1x256x1024.size inb_S1x1024x1024_S1x256x1024_0_768_0).toLoadRect.idx z))) x1 x2)) (k0_pay132 (k0_pay130 (k0_pay24 (k0_pay16 (fun z => x0 ((Rect.unit (s := S1x1024x1024) ![0, 768, 0] S1x256x1024.size inb_S1x1024x1024_S1x256x1024_0_768_0).toLoadRect.idx z))) x1 x2)) (k0_pay131 (k0_pay24 (k0_pay16 (fun z => x0 ((Rect.unit (s := S1x1024x1024) ![0, 768, 0] S1x256x1024.size inb_S1x1024x1024_S1x256x1024_0_768_0).toLoadRect.idx z))) x1 x2)) x3 x4) (fun z => x6 ((Rect.unit (s := S128x1024) ![0, 256] S128x128.size inb_S128x1024_S128x128_0_256).toLoadRect.idx z)) z
      = gatedV x0 x1 x2 x3 x4 x5 x6 ((Rect.unit (s := S1024x1024) ![768, 256] S128x128.size inb_S1024x1024_S128x128_768_256).emb z) := by
  idx_vars z
  rw [emb_tile 768 256 _ (by omega) (by omega)]
  exact (tile768_256 _ _ x3 x4 _ _ _).trans (tile_eq _ _ x3 x4 _ _ _ _ 3 0 2 (by omega) (by omega) (by omega) (hid3 x0 x1 x2) (mask2 x5) (off2 x6) _ _)

theorem tile896_256 (U : FVec Ideal S256x2048 .f32) (M : FVec Ideal S128x128 .bf16) (x3 x4 : Vec Ideal S1x1024 .f32) (B : Vec Ideal S128x128 .f32) (a b : Fin 128) :
    k0_pay143 (k0_pay129 U) (k0_pay142 M (k0_pay132 (k0_pay130 U) (k0_pay131 U) x3 x4)) B (ix2 a b) = tile U M x3 x4 B 128 256 (by omega) (by omega) a b := by
  pointwise [k0_pay143, k0_pay142, k0_pay140, k0_pay132, k0_pay131, k0_pay130, k0_pay129, k0_pay128, tile, lnorm, center, gelu]

/-- Positions 896 to 1023, channels 256 to 383 of the gated block are what the body stores there. -/
theorem piece896_256 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay143 (k0_pay129 (k0_pay24 (k0_pay16 (fun z => x0 ((Rect.unit (s := S1x1024x1024) ![0, 768, 0] S1x256x1024.size inb_S1x1024x1024_S1x256x1024_0_768_0).toLoadRect.idx z))) x1 x2)) (k0_pay142 (k0_pay5 (fun z => x5 ((Rect.unit (s := S8x128x128) ![2, 0, 0] S1x128x128.size inb_S8x128x128_S1x128x128_2_0_0).toLoadRect.idx z))) (k0_pay132 (k0_pay130 (k0_pay24 (k0_pay16 (fun z => x0 ((Rect.unit (s := S1x1024x1024) ![0, 768, 0] S1x256x1024.size inb_S1x1024x1024_S1x256x1024_0_768_0).toLoadRect.idx z))) x1 x2)) (k0_pay131 (k0_pay24 (k0_pay16 (fun z => x0 ((Rect.unit (s := S1x1024x1024) ![0, 768, 0] S1x256x1024.size inb_S1x1024x1024_S1x256x1024_0_768_0).toLoadRect.idx z))) x1 x2)) x3 x4)) (fun z => x6 ((Rect.unit (s := S128x1024) ![0, 256] S128x128.size inb_S128x1024_S128x128_0_256).toLoadRect.idx z)) z
      = gatedV x0 x1 x2 x3 x4 x5 x6 ((Rect.unit (s := S1024x1024) ![896, 256] S128x128.size inb_S1024x1024_S128x128_896_256).emb z) := by
  idx_vars z
  rw [emb_tile 896 256 _ (by omega) (by omega)]
  exact (tile896_256 _ _ x3 x4 _ _ _).trans (tile_eq _ _ x3 x4 _ _ _ _ 3 1 2 (by omega) (by omega) (by omega) (hid3 x0 x1 x2) (mask2 x5) (off2 x6) _ _)

theorem tile768_384 (U : FVec Ideal S256x2048 .f32) (M : FVec Ideal S128x128 .bf16) (x3 x4 : Vec Ideal S1x1024 .f32) (B : Vec Ideal S128x128 .f32) (a b : Fin 128) :
    k0_pay145 M (k0_pay129 U) (k0_pay132 (k0_pay130 U) (k0_pay131 U) x3 x4) B (ix2 a b) = tile U M x3 x4 B 0 384 (by omega) (by omega) a b := by
  pointwise [k0_pay145, k0_pay144, k0_pay132, k0_pay131, k0_pay130, k0_pay129, k0_pay128, tile, lnorm, center, gelu]

/-- Positions 768 to 895, channels 384 to 511 of the gated block are what the body stores there. -/
theorem piece768_384 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay145 (k0_pay6 (fun z => x5 ((Rect.unit (s := S8x128x128) ![3, 0, 0] S1x128x128.size inb_S8x128x128_S1x128x128_3_0_0).toLoadRect.idx z))) (k0_pay129 (k0_pay24 (k0_pay16 (fun z => x0 ((Rect.unit (s := S1x1024x1024) ![0, 768, 0] S1x256x1024.size inb_S1x1024x1024_S1x256x1024_0_768_0).toLoadRect.idx z))) x1 x2)) (k0_pay132 (k0_pay130 (k0_pay24 (k0_pay16 (fun z => x0 ((Rect.unit (s := S1x1024x1024) ![0, 768, 0] S1x256x1024.size inb_S1x1024x1024_S1x256x1024_0_768_0).toLoadRect.idx z))) x1 x2)) (k0_pay131 (k0_pay24 (k0_pay16 (fun z => x0 ((Rect.unit (s := S1x1024x1024) ![0, 768, 0] S1x256x1024.size inb_S1x1024x1024_S1x256x1024_0_768_0).toLoadRect.idx z))) x1 x2)) x3 x4) (fun z => x6 ((Rect.unit (s := S128x1024) ![0, 384] S128x128.size inb_S128x1024_S128x128_0_384).toLoadRect.idx z)) z
      = gatedV x0 x1 x2 x3 x4 x5 x6 ((Rect.unit (s := S1024x1024) ![768, 384] S128x128.size inb_S1024x1024_S128x128_768_384).emb z) := by
  idx_vars z
  rw [emb_tile 768 384 _ (by omega) (by omega)]
  exact (tile768_384 _ _ x3 x4 _ _ _).trans (tile_eq _ _ x3 x4 _ _ _ _ 3 0 3 (by omega) (by omega) (by omega) (hid3 x0 x1 x2) (mask3 x5) (off3 x6) _ _)

theorem tile896_384 (U : FVec Ideal S256x2048 .f32) (M : FVec Ideal S128x128 .bf16) (x3 x4 : Vec Ideal S1x1024 .f32) (B : Vec Ideal S128x128 .f32) (a b : Fin 128) :
    k0_pay146 M (k0_pay129 U) (k0_pay132 (k0_pay130 U) (k0_pay131 U) x3 x4) B (ix2 a b) = tile U M x3 x4 B 128 384 (by omega) (by omega) a b := by
  pointwise [k0_pay146, k0_pay144, k0_pay132, k0_pay131, k0_pay130, k0_pay129, k0_pay128, tile, lnorm, center, gelu]

/-- Positions 896 to 1023, channels 384 to 511 of the gated block are what the body stores there. -/
theorem piece896_384 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay146 (k0_pay6 (fun z => x5 ((Rect.unit (s := S8x128x128) ![3, 0, 0] S1x128x128.size inb_S8x128x128_S1x128x128_3_0_0).toLoadRect.idx z))) (k0_pay129 (k0_pay24 (k0_pay16 (fun z => x0 ((Rect.unit (s := S1x1024x1024) ![0, 768, 0] S1x256x1024.size inb_S1x1024x1024_S1x256x1024_0_768_0).toLoadRect.idx z))) x1 x2)) (k0_pay132 (k0_pay130 (k0_pay24 (k0_pay16 (fun z => x0 ((Rect.unit (s := S1x1024x1024) ![0, 768, 0] S1x256x1024.size inb_S1x1024x1024_S1x256x1024_0_768_0).toLoadRect.idx z))) x1 x2)) (k0_pay131 (k0_pay24 (k0_pay16 (fun z => x0 ((Rect.unit (s := S1x1024x1024) ![0, 768, 0] S1x256x1024.size inb_S1x1024x1024_S1x256x1024_0_768_0).toLoadRect.idx z))) x1 x2)) x3 x4) (fun z => x6 ((Rect.unit (s := S128x1024) ![0, 384] S128x128.size inb_S128x1024_S128x128_0_384).toLoadRect.idx z)) z
      = gatedV x0 x1 x2 x3 x4 x5 x6 ((Rect.unit (s := S1024x1024) ![896, 384] S128x128.size inb_S1024x1024_S128x128_896_384).emb z) := by
  idx_vars z
  rw [emb_tile 896 384 _ (by omega) (by omega)]
  exact (tile896_384 _ _ x3 x4 _ _ _).trans (tile_eq _ _ x3 x4 _ _ _ _ 3 1 3 (by omega) (by omega) (by omega) (hid3 x0 x1 x2) (mask3 x5) (off3 x6) _ _)

theorem tile768_512 (U : FVec Ideal S256x2048 .f32) (M : FVec Ideal S128x128 .bf16) (x3 x4 : Vec Ideal S1x1024 .f32) (B : Vec Ideal S128x128 .f32) (a b : Fin 128) :
    k0_pay149 (k0_pay148 M (k0_pay129 U) (k0_pay132 (k0_pay130 U) (k0_pay131 U) x3 x4) B) (ix2 a b) = tile U M x3 x4 B 0 512 (by omega) (by omega) a b := by
  pointwise [k0_pay149, k0_pay148, k0_pay147, k0_pay132, k0_pay131, k0_pay130, k0_pay129, k0_pay128, tile, lnorm, center, gelu]

/-- Positions 768 to 895, channels 512 to 639 of the gated block are what the body stores there. -/
theorem piece768_512 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay149 (k0_pay148 (k0_pay7 (fun z => x5 ((Rect.unit (s := S8x128x128) ![4, 0, 0] S1x128x128.size inb_S8x128x128_S1x128x128_4_0_0).toLoadRect.idx z))) (k0_pay129 (k0_pay24 (k0_pay16 (fun z => x0 ((Rect.unit (s := S1x1024x1024) ![0, 768, 0] S1x256x1024.size inb_S1x1024x1024_S1x256x1024_0_768_0).toLoadRect.idx z))) x1 x2)) (k0_pay132 (k0_pay130 (k0_pay24 (k0_pay16 (fun z => x0 ((Rect.unit (s := S1x1024x1024) ![0, 768, 0] S1x256x1024.size inb_S1x1024x1024_S1x256x1024_0_768_0).toLoadRect.idx z))) x1 x2)) (k0_pay131 (k0_pay24 (k0_pay16 (fun z => x0 ((Rect.unit (s := S1x1024x1024) ![0, 768, 0] S1x256x1024.size inb_S1x1024x1024_S1x256x1024_0_768_0).toLoadRect.idx z))) x1 x2)) x3 x4) (fun z => x6 ((Rect.unit (s := S128x1024) ![0, 512] S128x128.size inb_S128x1024_S128x128_0_512).toLoadRect.idx z))) z
      = gatedV x0 x1 x2 x3 x4 x5 x6 ((Rect.unit (s := S1024x1024) ![768, 512] S128x128.size inb_S1024x1024_S128x128_768_512).emb z) := by
  idx_vars z
  rw [emb_tile 768 512 _ (by omega) (by omega)]
  exact (tile768_512 _ _ x3 x4 _ _ _).trans (tile_eq _ _ x3 x4 _ _ _ _ 3 0 4 (by omega) (by omega) (by omega) (hid3 x0 x1 x2) (mask4 x5) (off4 x6) _ _)

theorem tile896_512 (U : FVec Ideal S256x2048 .f32) (M : FVec Ideal S128x128 .bf16) (x3 x4 : Vec Ideal S1x1024 .f32) (B : Vec Ideal S128x128 .f32) (a b : Fin 128) :
    k0_pay150 (k0_pay129 U) (k0_pay147 M (k0_pay132 (k0_pay130 U) (k0_pay131 U) x3 x4)) B (ix2 a b) = tile U M x3 x4 B 128 512 (by omega) (by omega) a b := by
  pointwise [k0_pay150, k0_pay147, k0_pay132, k0_pay131, k0_pay130, k0_pay129, k0_pay128, tile, lnorm, center, gelu]

/-- Positions 896 to 1023, channels 512 to 639 of the gated block are what the body stores there. -/
theorem piece896_512 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay150 (k0_pay129 (k0_pay24 (k0_pay16 (fun z => x0 ((Rect.unit (s := S1x1024x1024) ![0, 768, 0] S1x256x1024.size inb_S1x1024x1024_S1x256x1024_0_768_0).toLoadRect.idx z))) x1 x2)) (k0_pay147 (k0_pay7 (fun z => x5 ((Rect.unit (s := S8x128x128) ![4, 0, 0] S1x128x128.size inb_S8x128x128_S1x128x128_4_0_0).toLoadRect.idx z))) (k0_pay132 (k0_pay130 (k0_pay24 (k0_pay16 (fun z => x0 ((Rect.unit (s := S1x1024x1024) ![0, 768, 0] S1x256x1024.size inb_S1x1024x1024_S1x256x1024_0_768_0).toLoadRect.idx z))) x1 x2)) (k0_pay131 (k0_pay24 (k0_pay16 (fun z => x0 ((Rect.unit (s := S1x1024x1024) ![0, 768, 0] S1x256x1024.size inb_S1x1024x1024_S1x256x1024_0_768_0).toLoadRect.idx z))) x1 x2)) x3 x4)) (fun z => x6 ((Rect.unit (s := S128x1024) ![0, 512] S128x128.size inb_S128x1024_S128x128_0_512).toLoadRect.idx z)) z
      = gatedV x0 x1 x2 x3 x4 x5 x6 ((Rect.unit (s := S1024x1024) ![896, 512] S128x128.size inb_S1024x1024_S128x128_896_512).emb z) := by
  idx_vars z
  rw [emb_tile 896 512 _ (by omega) (by omega)]
  exact (tile896_512 _ _ x3 x4 _ _ _).trans (tile_eq _ _ x3 x4 _ _ _ _ 3 1 4 (by omega) (by omega) (by omega) (hid3 x0 x1 x2) (mask4 x5) (off4 x6) _ _)

theorem tile768_640 (U : FVec Ideal S256x2048 .f32) (M : FVec Ideal S128x128 .bf16) (x3 x4 : Vec Ideal S1x1024 .f32) (B : Vec Ideal S128x128 .f32) (a b : Fin 128) :
    k0_pay152 M (k0_pay129 U) (k0_pay132 (k0_pay130 U) (k0_pay131 U) x3 x4) B (ix2 a b) = tile U M x3 x4 B 0 640 (by omega) (by omega) a b := by
  pointwise [k0_pay152, k0_pay151, k0_pay132, k0_pay131, k0_pay130, k0_pay129, k0_pay128, tile, lnorm, center, gelu]

/-- Positions 768 to 895, channels 640 to 767 of the gated block are what the body stores there. -/
theorem piece768_640 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay152 (k0_pay10 k0_pay8 (k0_pay9 (fun z => x5 ((Rect.unit (s := S8x128x128) ![5, 0, 0] S1x128x128.size inb_S8x128x128_S1x128x128_5_0_0).toLoadRect.idx z)))) (k0_pay129 (k0_pay24 (k0_pay16 (fun z => x0 ((Rect.unit (s := S1x1024x1024) ![0, 768, 0] S1x256x1024.size inb_S1x1024x1024_S1x256x1024_0_768_0).toLoadRect.idx z))) x1 x2)) (k0_pay132 (k0_pay130 (k0_pay24 (k0_pay16 (fun z => x0 ((Rect.unit (s := S1x1024x1024) ![0, 768, 0] S1x256x1024.size inb_S1x1024x1024_S1x256x1024_0_768_0).toLoadRect.idx z))) x1 x2)) (k0_pay131 (k0_pay24 (k0_pay16 (fun z => x0 ((Rect.unit (s := S1x1024x1024) ![0, 768, 0] S1x256x1024.size inb_S1x1024x1024_S1x256x1024_0_768_0).toLoadRect.idx z))) x1 x2)) x3 x4) (fun z => x6 ((Rect.unit (s := S128x1024) ![0, 640] S128x128.size inb_S128x1024_S128x128_0_640).toLoadRect.idx z)) z
      = gatedV x0 x1 x2 x3 x4 x5 x6 ((Rect.unit (s := S1024x1024) ![768, 640] S128x128.size inb_S1024x1024_S128x128_768_640).emb z) := by
  idx_vars z
  rw [emb_tile 768 640 _ (by omega) (by omega)]
  exact (tile768_640 _ _ x3 x4 _ _ _).trans (tile_eq _ _ x3 x4 _ _ _ _ 3 0 5 (by omega) (by omega) (by omega) (hid3 x0 x1 x2) (mask5 x5) (off5 x6) _ _)

theorem tile896_640 (U : FVec Ideal S256x2048 .f32) (M : FVec Ideal S128x128 .bf16) (x3 x4 : Vec Ideal S1x1024 .f32) (B : Vec Ideal S128x128 .f32) (a b : Fin 128) :
    k0_pay153 M (k0_pay129 U) (k0_pay132 (k0_pay130 U) (k0_pay131 U) x3 x4) B (ix2 a b) = tile U M x3 x4 B 128 640 (by omega) (by omega) a b := by
  pointwise [k0_pay153, k0_pay151, k0_pay132, k0_pay131, k0_pay130, k0_pay129, k0_pay128, tile, lnorm, center, gelu]

/-- Positions 896 to 1023, channels 640 to 767 of the gated block are what the body stores there. -/
theorem piece896_640 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay153 (k0_pay10 k0_pay8 (k0_pay9 (fun z => x5 ((Rect.unit (s := S8x128x128) ![5, 0, 0] S1x128x128.size inb_S8x128x128_S1x128x128_5_0_0).toLoadRect.idx z)))) (k0_pay129 (k0_pay24 (k0_pay16 (fun z => x0 ((Rect.unit (s := S1x1024x1024) ![0, 768, 0] S1x256x1024.size inb_S1x1024x1024_S1x256x1024_0_768_0).toLoadRect.idx z))) x1 x2)) (k0_pay132 (k0_pay130 (k0_pay24 (k0_pay16 (fun z => x0 ((Rect.unit (s := S1x1024x1024) ![0, 768, 0] S1x256x1024.size inb_S1x1024x1024_S1x256x1024_0_768_0).toLoadRect.idx z))) x1 x2)) (k0_pay131 (k0_pay24 (k0_pay16 (fun z => x0 ((Rect.unit (s := S1x1024x1024) ![0, 768, 0] S1x256x1024.size inb_S1x1024x1024_S1x256x1024_0_768_0).toLoadRect.idx z))) x1 x2)) x3 x4) (fun z => x6 ((Rect.unit (s := S128x1024) ![0, 640] S128x128.size inb_S128x1024_S128x128_0_640).toLoadRect.idx z)) z
      = gatedV x0 x1 x2 x3 x4 x5 x6 ((Rect.unit (s := S1024x1024) ![896, 640] S128x128.size inb_S1024x1024_S128x128_896_640).emb z) := by
  idx_vars z
  rw [emb_tile 896 640 _ (by omega) (by omega)]
  exact (tile896_640 _ _ x3 x4 _ _ _).trans (tile_eq _ _ x3 x4 _ _ _ _ 3 1 5 (by omega) (by omega) (by omega) (hid3 x0 x1 x2) (mask5 x5) (off5 x6) _ _)

theorem tile768_768 (U : FVec Ideal S256x2048 .f32) (M : FVec Ideal S128x128 .bf16) (x3 x4 : Vec Ideal S1x1024 .f32) (B : Vec Ideal S128x128 .f32) (a b : Fin 128) :
    k0_pay156 M (k0_pay129 U) (k0_pay154 (k0_pay132 (k0_pay130 U) (k0_pay131 U) x3 x4)) B (ix2 a b) = tile U M x3 x4 B 0 768 (by omega) (by omega) a b := by
  pointwise [k0_pay156, k0_pay155, k0_pay154, k0_pay132, k0_pay131, k0_pay130, k0_pay129, k0_pay128, tile, lnorm, center, gelu]

/-- Positions 768 to 895, channels 768 to 895 of the gated block are what the body stores there. -/
theorem piece768_768 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay156 (k0_pay11 (iota .tc S128x128 32 [0] iota_S128x128_d0_w32) (iota .tc S128x128 32 [1] iota_S128x128_d1_w32) (fun z => x5 ((Rect.unit (s := S8x128x128) ![6, 0, 0] S1x128x128.size inb_S8x128x128_S1x128x128_6_0_0).toLoadRect.idx z))) (k0_pay129 (k0_pay24 (k0_pay16 (fun z => x0 ((Rect.unit (s := S1x1024x1024) ![0, 768, 0] S1x256x1024.size inb_S1x1024x1024_S1x256x1024_0_768_0).toLoadRect.idx z))) x1 x2)) (k0_pay154 (k0_pay132 (k0_pay130 (k0_pay24 (k0_pay16 (fun z => x0 ((Rect.unit (s := S1x1024x1024) ![0, 768, 0] S1x256x1024.size inb_S1x1024x1024_S1x256x1024_0_768_0).toLoadRect.idx z))) x1 x2)) (k0_pay131 (k0_pay24 (k0_pay16 (fun z => x0 ((Rect.unit (s := S1x1024x1024) ![0, 768, 0] S1x256x1024.size inb_S1x1024x1024_S1x256x1024_0_768_0).toLoadRect.idx z))) x1 x2)) x3 x4)) (fun z => x6 ((Rect.unit (s := S128x1024) ![0, 768] S128x128.size inb_S128x1024_S128x128_0_768).toLoadRect.idx z)) z
      = gatedV x0 x1 x2 x3 x4 x5 x6 ((Rect.unit (s := S1024x1024) ![768, 768] S128x128.size inb_S1024x1024_S128x128_768_768).emb z) := by
  idx_vars z
  rw [emb_tile 768 768 _ (by omega) (by omega)]
  exact (tile768_768 _ _ x3 x4 _ _ _).trans (tile_eq _ _ x3 x4 _ _ _ _ 3 0 6 (by omega) (by omega) (by omega) (hid3 x0 x1 x2) (mask6 x5) (off6 x6) _ _)

theorem tile896_768 (U : FVec Ideal S256x2048 .f32) (M : FVec Ideal S128x128 .bf16) (x3 x4 : Vec Ideal S1x1024 .f32) (B : Vec Ideal S128x128 .f32) (a b : Fin 128) :
    k0_pay157 M (k0_pay129 U) (k0_pay154 (k0_pay132 (k0_pay130 U) (k0_pay131 U) x3 x4)) B (ix2 a b) = tile U M x3 x4 B 128 768 (by omega) (by omega) a b := by
  pointwise [k0_pay157, k0_pay155, k0_pay154, k0_pay132, k0_pay131, k0_pay130, k0_pay129, k0_pay128, tile, lnorm, center, gelu]

/-- Positions 896 to 1023, channels 768 to 895 of the gated block are what the body stores there. -/
theorem piece896_768 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay157 (k0_pay11 (iota .tc S128x128 32 [0] iota_S128x128_d0_w32) (iota .tc S128x128 32 [1] iota_S128x128_d1_w32) (fun z => x5 ((Rect.unit (s := S8x128x128) ![6, 0, 0] S1x128x128.size inb_S8x128x128_S1x128x128_6_0_0).toLoadRect.idx z))) (k0_pay129 (k0_pay24 (k0_pay16 (fun z => x0 ((Rect.unit (s := S1x1024x1024) ![0, 768, 0] S1x256x1024.size inb_S1x1024x1024_S1x256x1024_0_768_0).toLoadRect.idx z))) x1 x2)) (k0_pay154 (k0_pay132 (k0_pay130 (k0_pay24 (k0_pay16 (fun z => x0 ((Rect.unit (s := S1x1024x1024) ![0, 768, 0] S1x256x1024.size inb_S1x1024x1024_S1x256x1024_0_768_0).toLoadRect.idx z))) x1 x2)) (k0_pay131 (k0_pay24 (k0_pay16 (fun z => x0 ((Rect.unit (s := S1x1024x1024) ![0, 768, 0] S1x256x1024.size inb_S1x1024x1024_S1x256x1024_0_768_0).toLoadRect.idx z))) x1 x2)) x3 x4)) (fun z => x6 ((Rect.unit (s := S128x1024) ![0, 768] S128x128.size inb_S128x1024_S128x128_0_768).toLoadRect.idx z)) z
      = gatedV x0 x1 x2 x3 x4 x5 x6 ((Rect.unit (s := S1024x1024) ![896, 768] S128x128.size inb_S1024x1024_S128x128_896_768).emb z) := by
  idx_vars z
  rw [emb_tile 896 768 _ (by omega) (by omega)]
  exact (tile896_768 _ _ x3 x4 _ _ _).trans (tile_eq _ _ x3 x4 _ _ _ _ 3 1 6 (by omega) (by omega) (by omega) (hid3 x0 x1 x2) (mask6 x5) (off6 x6) _ _)

theorem tile768_896 (U : FVec Ideal S256x2048 .f32) (M : FVec Ideal S128x128 .bf16) (x3 x4 : Vec Ideal S1x1024 .f32) (B : Vec Ideal S128x128 .f32) (a b : Fin 128) :
    k0_pay159 M (k0_pay129 U) (k0_pay132 (k0_pay130 U) (k0_pay131 U) x3 x4) B (ix2 a b) = tile U M x3 x4 B 0 896 (by omega) (by omega) a b := by
  pointwise [k0_pay159, k0_pay158, k0_pay132, k0_pay131, k0_pay130, k0_pay129, k0_pay128, tile, lnorm, center, gelu]

/-- Positions 768 to 895, channels 896 to 1023 of the gated block are what the body stores there. -/
theorem piece768_896 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay159 (k0_pay12 (iota .tc S128x128 32 [0] iota_S128x128_d0_w32) (iota .tc S128x128 32 [1] iota_S128x128_d1_w32) (fun z => x5 ((Rect.unit (s := S8x128x128) ![7, 0, 0] S1x128x128.size inb_S8x128x128_S1x128x128_7_0_0).toLoadRect.idx z))) (k0_pay129 (k0_pay24 (k0_pay16 (fun z => x0 ((Rect.unit (s := S1x1024x1024) ![0, 768, 0] S1x256x1024.size inb_S1x1024x1024_S1x256x1024_0_768_0).toLoadRect.idx z))) x1 x2)) (k0_pay132 (k0_pay130 (k0_pay24 (k0_pay16 (fun z => x0 ((Rect.unit (s := S1x1024x1024) ![0, 768, 0] S1x256x1024.size inb_S1x1024x1024_S1x256x1024_0_768_0).toLoadRect.idx z))) x1 x2)) (k0_pay131 (k0_pay24 (k0_pay16 (fun z => x0 ((Rect.unit (s := S1x1024x1024) ![0, 768, 0] S1x256x1024.size inb_S1x1024x1024_S1x256x1024_0_768_0).toLoadRect.idx z))) x1 x2)) x3 x4) (fun z => x6 ((Rect.unit (s := S128x1024) ![0, 896] S128x128.size inb_S128x1024_S128x128_0_896).toLoadRect.idx z)) z
      = gatedV x0 x1 x2 x3 x4 x5 x6 ((Rect.unit (s := S1024x1024) ![768, 896] S128x128.size inb_S1024x1024_S128x128_768_896).emb z) := by
  idx_vars z
  rw [emb_tile 768 896 _ (by omega) (by omega)]
  exact (tile768_896 _ _ x3 x4 _ _ _).trans (tile_eq _ _ x3 x4 _ _ _ _ 3 0 7 (by omega) (by omega) (by omega) (hid3 x0 x1 x2) (mask7 x5) (off7 x6) _ _)

theorem tile896_896 (U : FVec Ideal S256x2048 .f32) (M : FVec Ideal S128x128 .bf16) (x3 x4 : Vec Ideal S1x1024 .f32) (B : Vec Ideal S128x128 .f32) (a b : Fin 128) :
    k0_pay1 (k0_pay160 M (k0_pay129 U) (k0_pay132 (k0_pay130 U) (k0_pay131 U) x3 x4) B) (ix2 a b) = tile U M x3 x4 B 128 896 (by omega) (by omega) a b := by
  pointwise [k0_pay160, k0_pay158, k0_pay132, k0_pay131, k0_pay130, k0_pay129, k0_pay128, k0_pay1, tile, lnorm, center, gelu]

/-- Positions 896 to 1023, channels 896 to 1023 of the gated block are what the body stores there. -/
theorem piece896_896 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (z : S128x128.Idx) :
    k0_pay1 (k0_pay160 (k0_pay12 (iota .tc S128x128 32 [0] iota_S128x128_d0_w32) (iota .tc S128x128 32 [1] iota_S128x128_d1_w32) (fun z => x5 ((Rect.unit (s := S8x128x128) ![7, 0, 0] S1x128x128.size inb_S8x128x128_S1x128x128_7_0_0).toLoadRect.idx z))) (k0_pay129 (k0_pay24 (k0_pay16 (fun z => x0 ((Rect.unit (s := S1x1024x1024) ![0, 768, 0] S1x256x1024.size inb_S1x1024x1024_S1x256x1024_0_768_0).toLoadRect.idx z))) x1 x2)) (k0_pay132 (k0_pay130 (k0_pay24 (k0_pay16 (fun z => x0 ((Rect.unit (s := S1x1024x1024) ![0, 768, 0] S1x256x1024.size inb_S1x1024x1024_S1x256x1024_0_768_0).toLoadRect.idx z))) x1 x2)) (k0_pay131 (k0_pay24 (k0_pay16 (fun z => x0 ((Rect.unit (s := S1x1024x1024) ![0, 768, 0] S1x256x1024.size inb_S1x1024x1024_S1x256x1024_0_768_0).toLoadRect.idx z))) x1 x2)) x3 x4) (fun z => x6 ((Rect.unit (s := S128x1024) ![0, 896] S128x128.size inb_S128x1024_S128x128_0_896).toLoadRect.idx z))) z
      = gatedV x0 x1 x2 x3 x4 x5 x6 ((Rect.unit (s := S1024x1024) ![896, 896] S128x128.size inb_S1024x1024_S128x128_896_896).emb z) := by
  idx_vars z
  rw [emb_tile 896 896 _ (by omega) (by omega)]
  exact (tile896_896 _ _ x3 x4 _ _ _).trans (tile_eq _ _ x3 x4 _ _ _ _ 3 1 7 (by omega) (by omega) (by omega) (hid3 x0 x1 x2) (mask7 x5) (off7 x6) _ _)

end Cert.Gmlp
-- ==== Proof.GmlpOut.lean ====
/-
  Untrusted. The spatial gating: what one point of the grid writes.
-/
module

public import proofs.«01_k».proof.Proof.GmlpTiles0
public import proofs.«01_k».proof.Proof.GmlpTiles1

@[expose] public section

set_option maxRecDepth 16384

noncomputable section
namespace Cert.Gmlp
open Cert.Kernel3Ideal Cert.Kernel3Ideal.Gen Cert.Rows
open Idealize.ShloMosaic Idealize.ShloMosaic.TcCoe

/-- A tile over which a load is not made: only its place is of use. -/
def place (o q : ℕ) (h : (decide (o ≤ 896) && decide (q ≤ 896)) = true) : View.Piece (Elt Ideal) S1024x1024 .bf16 :=
  ⟨Rect.unit ![o, q] S128x128.size (fun a => by
    simp only [Bool.and_eq_true, decide_eq_true_eq] at h
    match a with
    | ⟨0, _⟩ => exact (show o + 128 ≤ 1024 by omega)
    | ⟨1, _⟩ => exact (show q + 128 ≤ 1024 by omega)), fun _ => (0 : EReal)⟩

theorem place_row (o q : ℕ) (h : (decide (o ≤ 896) && decide (q ≤ 896)) = true) (y : S1024x1024.Idx) (hy : y ∈ (place o q h).1.set) :
    o ≤ (y 0).val := by
  obtain ⟨z, rfl⟩ := (place o q h).1.exists_idx_of_mem hy
  show o ≤ o + 1 * _
  omega

/-- The tiles from position 256 to 511. -/
def places1 : List (View.Piece (Elt Ideal) S1024x1024 .bf16) :=
  [place 256 0 rfl, place 256 128 rfl, place 256 256 rfl, place 256 384 rfl, place 256 512 rfl, place 256 640 rfl, place 256 768 rfl, place 256 896 rfl, place 384 0 rfl, place 384 128 rfl, place 384 256 rfl, place 384 384 rfl, place 384 512 rfl, place 384 640 rfl, place 384 768 rfl, place 384 896 rfl]

theorem places1_row (p : View.Piece (Elt Ideal) S1024x1024 .bf16) (hp : p ∈ places1) (y : S1024x1024.Idx) (hy : y ∈ p.1.set) : 256 ≤ (y 0).val := by
  unfold places1 at hp
  simp only [List.mem_cons, List.not_mem_nil, or_false] at hp
  rcases hp with rfl | rfl | rfl | rfl | rfl | rfl | rfl | rfl | rfl | rfl | rfl | rfl | rfl | rfl | rfl | rfl <;> exact le_trans (by omega) (place_row _ _ _ y hy)

/-- The tiles from position 512 to 767. -/
def places2 : List (View.Piece (Elt Ideal) S1024x1024 .bf16) :=
  [place 512 0 rfl, place 512 128 rfl, place 512 256 rfl, place 512 384 rfl, place 512 512 rfl, place 512 640 rfl, place 512 768 rfl, place 512 896 rfl, place 640 0 rfl, place 640 128 rfl, place 640 256 rfl, place 640 384 rfl, place 640 512 rfl, place 640 640 rfl, place 640 768 rfl, place 640 896 rfl]

theorem places2_row (p : View.Piece (Elt Ideal) S1024x1024 .bf16) (hp : p ∈ places2) (y : S1024x1024.Idx) (hy : y ∈ p.1.set) : 512 ≤ (y 0).val := by
  unfold places2 at hp
  simp only [List.mem_cons, List.not_mem_nil, or_false] at hp
  rcases hp with rfl | rfl | rfl | rfl | rfl | rfl | rfl | rfl | rfl | rfl | rfl | rfl | rfl | rfl | rfl | rfl <;> exact le_trans (by omega) (place_row _ _ _ y hy)

/-- The tiles from position 768 to 1023. -/
def places3 : List (View.Piece (Elt Ideal) S1024x1024 .bf16) :=
  [place 768 0 rfl, place 768 128 rfl, place 768 256 rfl, place 768 384 rfl, place 768 512 rfl, place 768 640 rfl, place 768 768 rfl, place 768 896 rfl, place 896 0 rfl, place 896 128 rfl, place 896 256 rfl, place 896 384 rfl, place 896 512 rfl, place 896 640 rfl, place 896 768 rfl, place 896 896 rfl]

theorem places3_row (p : View.Piece (Elt Ideal) S1024x1024 .bf16) (hp : p ∈ places3) (y : S1024x1024.Idx) (hy : y ∈ p.1.set) : 768 ≤ (y 0).val := by
  unfold places3 at hp
  simp only [List.mem_cons, List.not_mem_nil, or_false] at hp
  rcases hp with rfl | rfl | rfl | rfl | rfl | rfl | rfl | rfl | rfl | rfl | rfl | rfl | rfl | rfl | rfl | rfl <;> exact le_trans (by omega) (place_row _ _ _ y hy)

/-- A load of 256 positions from a block that the body has stored, tile by tile, from its beginning to the last of them. -/
theorem readCov_rows {sig : RefSig} {κ : Kind} {sp : Space} (v : View sig κ sp S1024x1024 .bf16) (L D : List (View.Piece (Elt Ideal) S1024x1024 .bf16))
    (o : ℕ) (inb : ∀ a, (![o, 0] : Fin 2 → ℕ) a + S256x1024.size a ≤ S1024x1024.size a)
    (h : View.Piece.tiledL (D ++ L) ![128, 128] = true) (hD : ∀ p ∈ D, ∀ y : S1024x1024.Idx, y ∈ p.1.set → o + 256 ≤ (y 0).val)
    (G : S1024x1024.Idx → EReal) (hG : ∀ p ∈ L, ∀ x : p.1.shape.Idx, p.2 x = G (p.1.emb x)) (ho : o ≤ 768) :
    v.readCov L (Rect.unit (s := S1024x1024) ![o, 0] ![256, 1024] inb).toLoadRect
      = ((fun z => G (ix2 ⟨o + (z 0).val, by have := (z 0).isLt; change _ < 256 at this; omega⟩ (z 1))) : Vec Ideal S256x1024 .bf16) := by
  funext z
  show View.readAt _ _ _ _ z = _
  rw [View.readAt_apply]
  have hz : (z 0).val < 256 := (z 0).isLt
  have he : (Rect.unit (s := S1024x1024) ![o, 0] ![256, 1024] inb).toLoadRect.idx z = ix2 ⟨o + (z 0).val, by omega⟩ (z 1) := by
    funext d; apply Fin.ext
    match d with
    | ⟨0, _⟩ => show o + 1 * (z 0).val = o + (z 0).val; omega
    | ⟨1, _⟩ => show 0 + 1 * (z 1).val = (z 1).val; omega
  rw [he]
  refine View.read_writes_apply_of_pieces (Val := Elt Ideal) v _ G L hG _ ?_
  obtain ⟨p, hp, hy⟩ := View.cover_of_tiledL (D ++ L) ![128, 128] h (ix2 ⟨o + (z 0).val, by omega⟩ (z 1))
  rcases List.mem_append.mp hp with hd | hl
  · have := hD p hd _ hy
    change o + 256 ≤ o + (z 0).val at this
    omega
  · exact ⟨p, hl, hy⟩

/-- What a grid point writes, over the arrays it reads. -/
def outV (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (x7 : Vec Ideal S1024x1024 .bf16) (y : S1x1024x1024.Idx) : EReal :=
  x0 (ix3 0 (y 1) (y 2)) + ∑ j : Fin 1024, gatedV x0 x1 x2 x3 x4 x5 x6 (ix2 (y 1) j) * x7 (ix2 j (y 2))

/-- A slab of 256 rows at row `o` places its index `(0, a, b)` at `(0, o + a, b)`. -/
theorem emb_slab (o : ℕ) (inb : ∀ a, (![0, o, 0] : Fin 3 → ℕ) a + S1x256x1024.size a ≤ S1x1024x1024.size a) (ho : o ≤ 768) (e : Fin 1) (a : Fin 256) (b : Fin 1024) :
    (Rect.unit (s := S1x1024x1024) ![0, o, 0] S1x256x1024.size inb).emb (ix3 e a b) = ix3 0 ⟨o + a.val, by omega⟩ b := by
  funext d; apply Fin.ext
  match d with
  | ⟨0, _⟩ => show 0 + 1 * e.val = 0; omega
  | ⟨1, _⟩ => show o + 1 * a.val = o + a.val; omega
  | ⟨2, _⟩ => show 0 + 1 * b.val = b.val; omega

/-- Positions 0 to 255 of the written block, from the gated rows of theirs. -/
theorem slab0 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (x7 : Vec Ideal S1024x1024 .bf16) (z : S1x256x1024.Idx) :
    k0_pay59 (k0_pay13 (fun z => x0 ((Rect.unit (s := S1x1024x1024) ![0, 0, 0] S1x256x1024.size inb_S1x1024x1024_S1x256x1024_0_0_0).toLoadRect.idx z))) ((fun z => gatedV x0 x1 x2 x3 x4 x5 x6 (ix2 ⟨0 + (z 0).val, by have := (z 0).isLt; change _ < 256 at this; omega⟩ (z 1))) : Vec Ideal S256x1024 .bf16) x7 z
      = outV x0 x1 x2 x3 x4 x5 x6 x7 ((Rect.unit (s := S1x1024x1024) ![0, 0, 0] S1x256x1024.size inb_S1x1024x1024_S1x256x1024_0_0_0).emb z) := by
  idx_vars z
  rw [emb_slab 0 _ (by omega)]
  generalize hg : gatedV x0 x1 x2 x3 x4 x5 x6 = g
  pointwise [k0_pay59, k0_pay13, outV, hg]

/-- Positions 256 to 511 of the written block, from the gated rows of theirs. -/
theorem slab1 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (x7 : Vec Ideal S1024x1024 .bf16) (z : S1x256x1024.Idx) :
    k0_pay92 (k0_pay14 (fun z => x0 ((Rect.unit (s := S1x1024x1024) ![0, 256, 0] S1x256x1024.size inb_S1x1024x1024_S1x256x1024_0_256_0).toLoadRect.idx z))) ((fun z => gatedV x0 x1 x2 x3 x4 x5 x6 (ix2 ⟨256 + (z 0).val, by have := (z 0).isLt; change _ < 256 at this; omega⟩ (z 1))) : Vec Ideal S256x1024 .bf16) x7 z
      = outV x0 x1 x2 x3 x4 x5 x6 x7 ((Rect.unit (s := S1x1024x1024) ![0, 256, 0] S1x256x1024.size inb_S1x1024x1024_S1x256x1024_0_256_0).emb z) := by
  idx_vars z
  rw [emb_slab 256 _ (by omega)]
  generalize hg : gatedV x0 x1 x2 x3 x4 x5 x6 = g
  pointwise [k0_pay92, k0_pay14, outV, hg]

/-- Positions 512 to 767 of the written block, from the gated rows of theirs. -/
theorem slab2 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (x7 : Vec Ideal S1024x1024 .bf16) (z : S1x256x1024.Idx) :
    k0_pay127 (k0_pay15 (fun z => x0 ((Rect.unit (s := S1x1024x1024) ![0, 512, 0] S1x256x1024.size inb_S1x1024x1024_S1x256x1024_0_512_0).toLoadRect.idx z))) ((fun z => gatedV x0 x1 x2 x3 x4 x5 x6 (ix2 ⟨512 + (z 0).val, by have := (z 0).isLt; change _ < 256 at this; omega⟩ (z 1))) : Vec Ideal S256x1024 .bf16) x7 z
      = outV x0 x1 x2 x3 x4 x5 x6 x7 ((Rect.unit (s := S1x1024x1024) ![0, 512, 0] S1x256x1024.size inb_S1x1024x1024_S1x256x1024_0_512_0).emb z) := by
  idx_vars z
  rw [emb_slab 512 _ (by omega)]
  generalize hg : gatedV x0 x1 x2 x3 x4 x5 x6 = g
  pointwise [k0_pay127, k0_pay15, outV, hg]

/-- Positions 768 to 1023 of the written block, from the gated rows of theirs. -/
theorem slab3 (x0 : Vec Ideal S1x1024x1024 .f32) (x1 : Vec Ideal S1x1024 .f32) (x2 : Vec Ideal S1024x2048 .bf16) (x3 x4 : Vec Ideal S1x1024 .f32) (x5 : Vec Ideal S8x128x128 .f32) (x6 : Vec Ideal S128x1024 .f32) (x7 : Vec Ideal S1024x1024 .bf16) (z : S1x256x1024.Idx) :
    k0_pay2 (k0_pay16 (fun z => x0 ((Rect.unit (s := S1x1024x1024) ![0, 768, 0] S1x256x1024.size inb_S1x1024x1024_S1x256x1024_0_768_0).toLoadRect.idx z))) ((fun z => gatedV x0 x1 x2 x3 x4 x5 x6 (ix2 ⟨768 + (z 0).val, by have := (z 0).isLt; change _ < 256 at this; omega⟩ (z 1))) : Vec Ideal S256x1024 .bf16) x7 z
      = outV x0 x1 x2 x3 x4 x5 x6 x7 ((Rect.unit (s := S1x1024x1024) ![0, 768, 0] S1x256x1024.size inb_S1x1024x1024_S1x256x1024_0_768_0).emb z) := by
  idx_vars z
  rw [emb_slab 768 _ (by omega)]
  generalize hg : gatedV x0 x1 x2 x3 x4 x5 x6 = g
  pointwise [k0_pay16, k0_pay2, outV, hg]

theorem out_apply (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x128x128 .f32) (harg7 : arg7.IsWhole) (arg8 : Memref sig .tc .vmem S128x1024 .f32) (harg8 : arg8.IsWhole) (arg9 : Memref sig .tc .vmem S1024x1024 .bf16) (harg9 : arg9.IsWhole) (arg10 : Memref sig .tc .vmem S1x1024x1024 .f32) (harg10 : arg10.IsWhole) (arg11 : Memref sig .tc .vmem S1024x1024 .bf16) (harg11 : arg11.IsWhole)
    (x0 : Vec Ideal S1x1024x1024 .f32) (x1 : Vec Ideal S1x1024 .f32) (x2 : Vec Ideal S1024x2048 .bf16) (x3 : Vec Ideal S1x1024 .f32) (x4 : Vec Ideal S1x1024 .f32) (x5 : Vec Ideal S8x128x128 .f32) (x6 : Vec Ideal S128x1024 .f32) (x7 : Vec Ideal S1024x1024 .bf16) (y : S1x1024x1024.Idx) :
    out0_A_8 c i arg2 harg2 arg3 harg3 arg4 harg4 arg5 harg5 arg6 harg6 arg7 harg7 arg8 harg8 arg9 harg9 arg10 harg10 arg11 harg11 x0 x1 x2 x3 x4 x5 x6 x7 y = outV x0 x1 x2 x3 x4 x5 x6 x7 y := by
  unfold out0_A_8 kernelRun0_A
  sl_unfold_words
  simp only [readAt_unread]
  have e1 : (fun j => x1 ((Rect.unit (s := S1x1024) ![0, 0] ![1, 1024] inb_S1x1024_S1x1024_0_0).idx j)) = x1 := idx_full x1 _
  have e2 : (fun j => x2 ((Rect.unit (s := S1024x2048) ![0, 0] ![1024, 2048] inb_S1024x2048_S1024x2048_0_0).idx j)) = x2 := idx_full x2 _
  have e3 : (fun j => x3 ((Rect.unit (s := S1x1024) ![0, 0] ![1, 1024] inb_S1x1024_S1x1024_0_0).idx j)) = x3 := idx_full x3 _
  have e4 : (fun j => x4 ((Rect.unit (s := S1x1024) ![0, 0] ![1, 1024] inb_S1x1024_S1x1024_0_0).idx j)) = x4 := idx_full x4 _
  have e7 : (fun j => x7 ((Rect.unit (s := S1024x1024) ![0, 0] ![1024, 1024] inb_S1024x1024_S1024x1024_0_0).idx j)) = x7 := idx_full x7 _
  simp only [e1, e2, e3, e4, e7]
  refine View.read_writes_apply_of_pieces (Val := Elt Ideal) VO0_8 _ (outV x0 x1 x2 x3 x4 x5 x6 x7) _ ?_ y (View.cover_of_tiledL _ ![1, 256, 1024] (by sl_kernel_rfl) y)
  intro p hp
  simp only [List.mem_cons, List.not_mem_nil, or_false] at hp
  rcases hp with rfl | rfl | rfl | rfl <;> intro z
  · refine Eq.trans (congrArg (fun g => k0_pay2 (k0_pay16 (fun z => x0 ((Rect.unit (s := S1x1024x1024) ![0, 768, 0] S1x256x1024.size inb_S1x1024x1024_S1x256x1024_0_768_0).toLoadRect.idx z))) g x7 z) (readCov_rows _ _ ([] : List (View.Piece (Elt Ideal) S1024x1024 .bf16)) 768 _ (by sl_kernel_rfl) ?_ (gatedV x0 x1 x2 x3 x4 x5 x6) ?_ (by omega))) (slab3 x0 x1 x2 x3 x4 x5 x6 x7 z)
    · intro p hp; exact absurd hp List.not_mem_nil
    · intro p hp
      simp only [List.mem_cons, List.not_mem_nil, or_false] at hp
      rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> intro z
      · exact piece896_896 x0 x1 x2 x3 x4 x5 x6 z
      · exact piece768_896 x0 x1 x2 x3 x4 x5 x6 z
      · exact piece896_768 x0 x1 x2 x3 x4 x5 x6 z
      · exact piece768_768 x0 x1 x2 x3 x4 x5 x6 z
      · exact piece896_640 x0 x1 x2 x3 x4 x5 x6 z
      · exact piece768_640 x0 x1 x2 x3 x4 x5 x6 z
      · exact piece896_512 x0 x1 x2 x3 x4 x5 x6 z
      · exact piece768_512 x0 x1 x2 x3 x4 x5 x6 z
      · exact piece896_384 x0 x1 x2 x3 x4 x5 x6 z
      · exact piece768_384 x0 x1 x2 x3 x4 x5 x6 z
      · exact piece896_256 x0 x1 x2 x3 x4 x5 x6 z
      · exact piece768_256 x0 x1 x2 x3 x4 x5 x6 z
      · exact piece896_128 x0 x1 x2 x3 x4 x5 x6 z
      · exact piece768_128 x0 x1 x2 x3 x4 x5 x6 z
      · exact piece896_0 x0 x1 x2 x3 x4 x5 x6 z
      · exact piece768_0 x0 x1 x2 x3 x4 x5 x6 z
      · exact piece640_896 x0 x1 x2 x3 x4 x5 x6 z
      · exact piece512_896 x0 x1 x2 x3 x4 x5 x6 z
      · exact piece640_768 x0 x1 x2 x3 x4 x5 x6 z
      · exact piece512_768 x0 x1 x2 x3 x4 x5 x6 z
      · exact piece640_640 x0 x1 x2 x3 x4 x5 x6 z
      · exact piece512_640 x0 x1 x2 x3 x4 x5 x6 z
      · exact piece640_512 x0 x1 x2 x3 x4 x5 x6 z
      · exact piece512_512 x0 x1 x2 x3 x4 x5 x6 z
      · exact piece640_384 x0 x1 x2 x3 x4 x5 x6 z
      · exact piece512_384 x0 x1 x2 x3 x4 x5 x6 z
      · exact piece640_256 x0 x1 x2 x3 x4 x5 x6 z
      · exact piece512_256 x0 x1 x2 x3 x4 x5 x6 z
      · exact piece640_128 x0 x1 x2 x3 x4 x5 x6 z
      · exact piece512_128 x0 x1 x2 x3 x4 x5 x6 z
      · exact piece640_0 x0 x1 x2 x3 x4 x5 x6 z
      · exact piece512_0 x0 x1 x2 x3 x4 x5 x6 z
      · exact piece384_896 x0 x1 x2 x3 x4 x5 x6 z
      · exact piece256_896 x0 x1 x2 x3 x4 x5 x6 z
      · exact piece384_768 x0 x1 x2 x3 x4 x5 x6 z
      · exact piece256_768 x0 x1 x2 x3 x4 x5 x6 z
      · exact piece384_640 x0 x1 x2 x3 x4 x5 x6 z
      · exact piece256_640 x0 x1 x2 x3 x4 x5 x6 z
      · exact piece384_512 x0 x1 x2 x3 x4 x5 x6 z
      · exact piece256_512 x0 x1 x2 x3 x4 x5 x6 z
      · exact piece384_384 x0 x1 x2 x3 x4 x5 x6 z
      · exact piece256_384 x0 x1 x2 x3 x4 x5 x6 z
      · exact piece384_256 x0 x1 x2 x3 x4 x5 x6 z
      · exact piece256_256 x0 x1 x2 x3 x4 x5 x6 z
      · exact piece384_128 x0 x1 x2 x3 x4 x5 x6 z
      · exact piece256_128 x0 x1 x2 x3 x4 x5 x6 z
      · exact piece384_0 x0 x1 x2 x3 x4 x5 x6 z
      · exact piece256_0 x0 x1 x2 x3 x4 x5 x6 z
      · exact piece128_896 x0 x1 x2 x3 x4 x5 x6 z
      · exact piece0_896 x0 x1 x2 x3 x4 x5 x6 z
      · exact piece128_768 x0 x1 x2 x3 x4 x5 x6 z
      · exact piece0_768 x0 x1 x2 x3 x4 x5 x6 z
      · exact piece128_640 x0 x1 x2 x3 x4 x5 x6 z
      · exact piece0_640 x0 x1 x2 x3 x4 x5 x6 z
      · exact piece128_512 x0 x1 x2 x3 x4 x5 x6 z
      · exact piece0_512 x0 x1 x2 x3 x4 x5 x6 z
      · exact piece128_384 x0 x1 x2 x3 x4 x5 x6 z
      · exact piece0_384 x0 x1 x2 x3 x4 x5 x6 z
      · exact piece128_256 x0 x1 x2 x3 x4 x5 x6 z
      · exact piece0_256 x0 x1 x2 x3 x4 x5 x6 z
      · exact piece128_128 x0 x1 x2 x3 x4 x5 x6 z
      · exact piece0_128 x0 x1 x2 x3 x4 x5 x6 z
      · exact piece128_0 x0 x1 x2 x3 x4 x5 x6 z
      · exact piece0_0 x0 x1 x2 x3 x4 x5 x6 z
  · refine Eq.trans (congrArg (fun g => k0_pay127 (k0_pay15 (fun z => x0 ((Rect.unit (s := S1x1024x1024) ![0, 512, 0] S1x256x1024.size inb_S1x1024x1024_S1x256x1024_0_512_0).toLoadRect.idx z))) g x7 z) (readCov_rows _ _ (places3) 512 _ (by sl_kernel_rfl) ?_ (gatedV x0 x1 x2 x3 x4 x5 x6) ?_ (by omega))) (slab2 x0 x1 x2 x3 x4 x5 x6 x7 z)
    · intro p hp y hy
      exact places3_row p hp y hy
    · intro p hp
      simp only [List.mem_cons, List.not_mem_nil, or_false] at hp
      rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> intro z
      · exact piece640_896 x0 x1 x2 x3 x4 x5 x6 z
      · exact piece512_896 x0 x1 x2 x3 x4 x5 x6 z
      · exact piece640_768 x0 x1 x2 x3 x4 x5 x6 z
      · exact piece512_768 x0 x1 x2 x3 x4 x5 x6 z
      · exact piece640_640 x0 x1 x2 x3 x4 x5 x6 z
      · exact piece512_640 x0 x1 x2 x3 x4 x5 x6 z
      · exact piece640_512 x0 x1 x2 x3 x4 x5 x6 z
      · exact piece512_512 x0 x1 x2 x3 x4 x5 x6 z
      · exact piece640_384 x0 x1 x2 x3 x4 x5 x6 z
      · exact piece512_384 x0 x1 x2 x3 x4 x5 x6 z
      · exact piece640_256 x0 x1 x2 x3 x4 x5 x6 z
      · exact piece512_256 x0 x1 x2 x3 x4 x5 x6 z
      · exact piece640_128 x0 x1 x2 x3 x4 x5 x6 z
      · exact piece512_128 x0 x1 x2 x3 x4 x5 x6 z
      · exact piece640_0 x0 x1 x2 x3 x4 x5 x6 z
      · exact piece512_0 x0 x1 x2 x3 x4 x5 x6 z
      · exact piece384_896 x0 x1 x2 x3 x4 x5 x6 z
      · exact piece256_896 x0 x1 x2 x3 x4 x5 x6 z
      · exact piece384_768 x0 x1 x2 x3 x4 x5 x6 z
      · exact piece256_768 x0 x1 x2 x3 x4 x5 x6 z
      · exact piece384_640 x0 x1 x2 x3 x4 x5 x6 z
      · exact piece256_640 x0 x1 x2 x3 x4 x5 x6 z
      · exact piece384_512 x0 x1 x2 x3 x4 x5 x6 z
      · exact piece256_512 x0 x1 x2 x3 x4 x5 x6 z
      · exact piece384_384 x0 x1 x2 x3 x4 x5 x6 z
      · exact piece256_384 x0 x1 x2 x3 x4 x5 x6 z
      · exact piece384_256 x0 x1 x2 x3 x4 x5 x6 z
      · exact piece256_256 x0 x1 x2 x3 x4 x5 x6 z
      · exact piece384_128 x0 x1 x2 x3 x4 x5 x6 z
      · exact piece256_128 x0 x1 x2 x3 x4 x5 x6 z
      · exact piece384_0 x0 x1 x2 x3 x4 x5 x6 z
      · exact piece256_0 x0 x1 x2 x3 x4 x5 x6 z
      · exact piece128_896 x0 x1 x2 x3 x4 x5 x6 z
      · exact piece0_896 x0 x1 x2 x3 x4 x5 x6 z
      · exact piece128_768 x0 x1 x2 x3 x4 x5 x6 z
      · exact piece0_768 x0 x1 x2 x3 x4 x5 x6 z
      · exact piece128_640 x0 x1 x2 x3 x4 x5 x6 z
      · exact piece0_640 x0 x1 x2 x3 x4 x5 x6 z
      · exact piece128_512 x0 x1 x2 x3 x4 x5 x6 z
      · exact piece0_512 x0 x1 x2 x3 x4 x5 x6 z
      · exact piece128_384 x0 x1 x2 x3 x4 x5 x6 z
      · exact piece0_384 x0 x1 x2 x3 x4 x5 x6 z
      · exact piece128_256 x0 x1 x2 x3 x4 x5 x6 z
      · exact piece0_256 x0 x1 x2 x3 x4 x5 x6 z
      · exact piece128_128 x0 x1 x2 x3 x4 x5 x6 z
      · exact piece0_128 x0 x1 x2 x3 x4 x5 x6 z
      · exact piece128_0 x0 x1 x2 x3 x4 x5 x6 z
      · exact piece0_0 x0 x1 x2 x3 x4 x5 x6 z
  · refine Eq.trans (congrArg (fun g => k0_pay92 (k0_pay14 (fun z => x0 ((Rect.unit (s := S1x1024x1024) ![0, 256, 0] S1x256x1024.size inb_S1x1024x1024_S1x256x1024_0_256_0).toLoadRect.idx z))) g x7 z) (readCov_rows _ _ (places3 ++ places2) 256 _ (by sl_kernel_rfl) ?_ (gatedV x0 x1 x2 x3 x4 x5 x6) ?_ (by omega))) (slab1 x0 x1 x2 x3 x4 x5 x6 x7 z)
    · intro p hp y hy
      simp only [List.mem_append] at hp
      rcases hp with h | h
      · exact le_trans (by omega) (places3_row p h y hy)
      · exact places2_row p h y hy
    · intro p hp
      simp only [List.mem_cons, List.not_mem_nil, or_false] at hp
      rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> intro z
      · exact piece384_896 x0 x1 x2 x3 x4 x5 x6 z
      · exact piece256_896 x0 x1 x2 x3 x4 x5 x6 z
      · exact piece384_768 x0 x1 x2 x3 x4 x5 x6 z
      · exact piece256_768 x0 x1 x2 x3 x4 x5 x6 z
      · exact piece384_640 x0 x1 x2 x3 x4 x5 x6 z
      · exact piece256_640 x0 x1 x2 x3 x4 x5 x6 z
      · exact piece384_512 x0 x1 x2 x3 x4 x5 x6 z
      · exact piece256_512 x0 x1 x2 x3 x4 x5 x6 z
      · exact piece384_384 x0 x1 x2 x3 x4 x5 x6 z
      · exact piece256_384 x0 x1 x2 x3 x4 x5 x6 z
      · exact piece384_256 x0 x1 x2 x3 x4 x5 x6 z
      · exact piece256_256 x0 x1 x2 x3 x4 x5 x6 z
      · exact piece384_128 x0 x1 x2 x3 x4 x5 x6 z
      · exact piece256_128 x0 x1 x2 x3 x4 x5 x6 z
      · exact piece384_0 x0 x1 x2 x3 x4 x5 x6 z
      · exact piece256_0 x0 x1 x2 x3 x4 x5 x6 z
      · exact piece128_896 x0 x1 x2 x3 x4 x5 x6 z
      · exact piece0_896 x0 x1 x2 x3 x4 x5 x6 z
      · exact piece128_768 x0 x1 x2 x3 x4 x5 x6 z
      · exact piece0_768 x0 x1 x2 x3 x4 x5 x6 z
      · exact piece128_640 x0 x1 x2 x3 x4 x5 x6 z
      · exact piece0_640 x0 x1 x2 x3 x4 x5 x6 z
      · exact piece128_512 x0 x1 x2 x3 x4 x5 x6 z
      · exact piece0_512 x0 x1 x2 x3 x4 x5 x6 z
      · exact piece128_384 x0 x1 x2 x3 x4 x5 x6 z
      · exact piece0_384 x0 x1 x2 x3 x4 x5 x6 z
      · exact piece128_256 x0 x1 x2 x3 x4 x5 x6 z
      · exact piece0_256 x0 x1 x2 x3 x4 x5 x6 z
      · exact piece128_128 x0 x1 x2 x3 x4 x5 x6 z
      · exact piece0_128 x0 x1 x2 x3 x4 x5 x6 z
      · exact piece128_0 x0 x1 x2 x3 x4 x5 x6 z
      · exact piece0_0 x0 x1 x2 x3 x4 x5 x6 z
  · refine Eq.trans (congrArg (fun g => k0_pay59 (k0_pay13 (fun z => x0 ((Rect.unit (s := S1x1024x1024) ![0, 0, 0] S1x256x1024.size inb_S1x1024x1024_S1x256x1024_0_0_0).toLoadRect.idx z))) g x7 z) (readCov_rows _ _ (places3 ++ places2 ++ places1) 0 _ (by sl_kernel_rfl) ?_ (gatedV x0 x1 x2 x3 x4 x5 x6) ?_ (by omega))) (slab0 x0 x1 x2 x3 x4 x5 x6 x7 z)
    · intro p hp y hy
      simp only [List.mem_append] at hp
      rcases hp with (h | h) | h
      · exact le_trans (by omega) (places3_row p h y hy)
      · exact le_trans (by omega) (places2_row p h y hy)
      · exact places1_row p h y hy
    · intro p hp
      simp only [List.mem_cons, List.not_mem_nil, or_false] at hp
      rcases hp with rfl | rfl | rfl | rfl | rfl | rfl | rfl | rfl | rfl | rfl | rfl | rfl | rfl | rfl | rfl | rfl <;> intro z
      · exact piece128_896 x0 x1 x2 x3 x4 x5 x6 z
      · exact piece0_896 x0 x1 x2 x3 x4 x5 x6 z
      · exact piece128_768 x0 x1 x2 x3 x4 x5 x6 z
      · exact piece0_768 x0 x1 x2 x3 x4 x5 x6 z
      · exact piece128_640 x0 x1 x2 x3 x4 x5 x6 z
      · exact piece0_640 x0 x1 x2 x3 x4 x5 x6 z
      · exact piece128_512 x0 x1 x2 x3 x4 x5 x6 z
      · exact piece0_512 x0 x1 x2 x3 x4 x5 x6 z
      · exact piece128_384 x0 x1 x2 x3 x4 x5 x6 z
      · exact piece0_384 x0 x1 x2 x3 x4 x5 x6 z
      · exact piece128_256 x0 x1 x2 x3 x4 x5 x6 z
      · exact piece0_256 x0 x1 x2 x3 x4 x5 x6 z
      · exact piece128_128 x0 x1 x2 x3 x4 x5 x6 z
      · exact piece0_128 x0 x1 x2 x3 x4 x5 x6 z
      · exact piece128_0 x0 x1 x2 x3 x4 x5 x6 z
      · exact piece0_0 x0 x1 x2 x3 x4 x5 x6 z

end Cert.Gmlp
-- ==== Proof.GmlpRef.lean ====
/-
  Untrusted. The spatial gating: what its reference computes, read at an index.
-/
module

public import proofs.«01_k».proof.Proof.Gmlp
public import proofs.«01_k».proof.Proof.Gen.Reference3Ideal.Read
public import proofs.«01_k».proof.Proof.Gen.Reference3Ideal.Run

@[expose] public section

set_option maxRecDepth 16384

noncomputable section

namespace Cert.GmlpRef
open Idealize.ShloMosaic Idealize.ShloMosaic.TcCoe Idealize.SL.Sem
open Cert.Rows Cert.Gmlp
open Cert.Reference3Ideal Cert.Reference3Ideal.Read

/-- The hidden row, through `gelu`. -/
theorem v24_apply (x0 : (⟨S16x2048x1024, .f32⟩ : BufTy).Contents (Elt Ideal)) (x1 : (⟨S2x1024, .f32⟩ : BufTy).Contents (Elt Ideal)) (x2 : (⟨S1x1024x2048, .f32⟩ : BufTy).Contents (Elt Ideal)) (b : Fin 16) (p j : Fin 2048) :
    val_main_v24 (F := Ideal) x0 x1 x2 (ix3 b p j) = gelu (hid (fun k => x0 (ix3 b p k)) (fun k => x1 (ix2 1 k)) (fun k j => x2 (ix3 0 k j)) j) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, gelu, hid, rms, Ideal.ofBits_zero_f32, zero_add, Ideal.ofBits_one_f32]
  rfl

/-- The layer norm of the second half of the hidden row. -/
theorem v52_apply (x0 : (⟨S16x2048x1024, .f32⟩ : BufTy).Contents (Elt Ideal)) (x1 : (⟨S2x1024, .f32⟩ : BufTy).Contents (Elt Ideal)) (x2 : (⟨S1x1024x2048, .f32⟩ : BufTy).Contents (Elt Ideal)) (x3 : (⟨S1x1024, .f32⟩ : BufTy).Contents (Elt Ideal)) (x4 : (⟨S1x1024, .f32⟩ : BufTy).Contents (Elt Ideal)) (b : Fin 16) (p : Fin 2048) (k : Fin 1024) :
    val_main_v52 (F := Ideal) x0 x1 x2 x3 x4 (ix3 b p k)
      = lnorm (fun l => gelu (hid (fun k => x0 (ix3 b p k)) (fun k => x1 (ix2 1 k)) (fun k j => x2 (ix3 0 k j)) ⟨1024 + l.val, by omega⟩)) (fun l => x3 (ix2 0 l)) (fun l => x4 (ix2 0 l)) k := by
  simp only [← v24_apply x0 x1 x2]
  generalize hn : val_main_v24 (F := Ideal) x0 x1 x2 = n
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_cst_5, val_main_cst_6, val_main_cst_7, val_main_cst_8, val_main_cst_9, hn, lnorm, center, Ideal.ofBits_zero_f32, zero_add]

/-- Comparing two positions below 128 as words compares them as numbers. -/
theorem sge_apply (a b : Fin 128) :
    IntOp.cmpi .sge (IntOp.addi (BitVec.ofNat 32 a.val) 0#32) (BitVec.ofNat 32 b.val) = if b ≤ a then 1#1 else 0#1 := by
  revert a b
  decide +kernel

/-- The mixing matrices, masked to the positions at or before. -/
theorem v57_apply (x5 : (⟨S1x8x128x128, .f32⟩ : BufTy).Contents (Elt Ideal)) (g : Fin 8) (a b : Fin 128) :
    val_main_v57 (F := Ideal) x5 (ix3 g a b) = if b ≤ a then x5 (ix4 0 g a b) else 0 := by
  pointwise [val_main_v57, val_main_call1_v2, val_main_call1_v1, val_main_call1_v0, val_main_cst_10, val_main_v56, val_main_v55, val_main_v54, val_main_c, val_main_call0_v5, val_main_call0_c_0, val_main_call0_v4, val_main_call0_v3, val_main_call0_v2, val_main_call0_v1, val_main_call0_c, val_main_call0_v0, Ideal.ofBits_zero_f32]
  rw [sge_apply]
  by_cases h : b ≤ a
  · simp only [h, if_true]; rfl
  · simp only [h, if_false]; exact Ideal.ofBits_zero_f32

/-- The gated row. -/
theorem v66_apply (x0 : (⟨S16x2048x1024, .f32⟩ : BufTy).Contents (Elt Ideal)) (x1 : (⟨S2x1024, .f32⟩ : BufTy).Contents (Elt Ideal)) (x2 : (⟨S1x1024x2048, .f32⟩ : BufTy).Contents (Elt Ideal)) (x3 : (⟨S1x1024, .f32⟩ : BufTy).Contents (Elt Ideal)) (x4 : (⟨S1x1024, .f32⟩ : BufTy).Contents (Elt Ideal)) (x5 : (⟨S1x8x128x128, .f32⟩ : BufTy).Contents (Elt Ideal)) (x6 : (⟨S1x8x128, .f32⟩ : BufTy).Contents (Elt Ideal)) (b : Fin 16) (p : Fin 2048) (k : Fin 1024) :
    val_main_v66 (F := Ideal) x0 x1 x2 x3 x4 x5 x6 (ix3 b p k)
      = gelu (hid (fun k => x0 (ix3 b p k)) (fun k => x1 (ix2 1 k)) (fun k j => x2 (ix3 0 k j)) ⟨k.val, by omega⟩)
        * ((∑ s : Fin 128, (if s ≤ ⟨p.val % 128, by omega⟩ then x5 (ix4 0 ⟨k.val / 128, by omega⟩ ⟨p.val % 128, by omega⟩ s) else 0)
            * lnorm (fun l => gelu (hid (fun k => x0 (ix3 b ⟨p.val / 128 * 128 + s.val, by omega⟩ k)) (fun k => x1 (ix2 1 k)) (fun k j => x2 (ix3 0 k j)) ⟨1024 + l.val, by omega⟩)) (fun l => x3 (ix2 0 l)) (fun l => x4 (ix2 0 l)) k)
          + x6 (ix3 0 ⟨k.val / 128, by omega⟩ ⟨p.val % 128, by omega⟩)) := by
  simp only [← v57_apply x5, ← v52_apply x0 x1 x2 x3 x4]
  rw [← v24_apply x0 x1 x2]
  generalize hn : val_main_v24 (F := Ideal) x0 x1 x2 = n
  generalize hv : val_main_v52 (F := Ideal) x0 x1 x2 x3 x4 = v
  generalize hw : val_main_v57 (F := Ideal) x5 = w
  pointwise [val_main_v66, val_main_v65, val_main_v64, val_main_v63, val_main_v62, val_main_v61, val_main_v60, val_main_v59, val_main_v58, val_main_v53, val_main_v25, hn, hv, hw]
  congr 2
  exact Finset.sum_congr rfl fun s _ => mul_comm _ _

/-- The reference's result at an index. -/
theorem v69_apply (x0 : (⟨S16x2048x1024, .f32⟩ : BufTy).Contents (Elt Ideal)) (x1 : (⟨S2x1024, .f32⟩ : BufTy).Contents (Elt Ideal)) (x2 : (⟨S1x1024x2048, .f32⟩ : BufTy).Contents (Elt Ideal)) (x3 : (⟨S1x1024, .f32⟩ : BufTy).Contents (Elt Ideal)) (x4 : (⟨S1x1024, .f32⟩ : BufTy).Contents (Elt Ideal)) (x5 : (⟨S1x8x128x128, .f32⟩ : BufTy).Contents (Elt Ideal)) (x6 : (⟨S1x8x128, .f32⟩ : BufTy).Contents (Elt Ideal)) (x7 : (⟨S1x1024x1024, .f32⟩ : BufTy).Contents (Elt Ideal)) (b : Fin 16) (p : Fin 2048) (k : Fin 1024) :
    val_main_v69 (F := Ideal) x0 x1 x2 x3 x4 x5 x6 x7 (ix3 b p k)
      = x0 (ix3 b p k) + ∑ j : Fin 1024, val_main_v66 (F := Ideal) x0 x1 x2 x3 x4 x5 x6 (ix3 b p j) * x7 (ix3 0 j k) := by
  generalize hn : val_main_v66 (F := Ideal) x0 x1 x2 x3 x4 x5 x6 = n
  pointwise [val_main_v69, val_main_v68, val_main_v67, hn]

/-- THE REFERENCE'S RESULT AT POSITION `r` OF BLOCK `q`: the layer over that block. -/
theorem ref_apply (x0 : (⟨S16x2048x1024, .f32⟩ : BufTy).Contents (Elt Ideal)) (x1 : (⟨S2x1024, .f32⟩ : BufTy).Contents (Elt Ideal)) (x2 : (⟨S1x1024x2048, .f32⟩ : BufTy).Contents (Elt Ideal)) (x3 : (⟨S1x1024, .f32⟩ : BufTy).Contents (Elt Ideal)) (x4 : (⟨S1x1024, .f32⟩ : BufTy).Contents (Elt Ideal)) (x5 : (⟨S1x8x128x128, .f32⟩ : BufTy).Contents (Elt Ideal)) (x6 : (⟨S1x8x128, .f32⟩ : BufTy).Contents (Elt Ideal)) (x7 : (⟨S1x1024x1024, .f32⟩ : BufTy).Contents (Elt Ideal)) (b : Fin 16) (q : Fin 2) (r k : Fin 1024) :
    val_main_v69 (F := Ideal) x0 x1 x2 x3 x4 x5 x6 x7 (ix3 b ⟨q.val * 1024 + r.val, by omega⟩ k)
      = out (fun r k => x0 (ix3 b ⟨q.val * 1024 + r.val, by omega⟩ k)) (fun k => x1 (ix2 1 k)) (fun k j => x2 (ix3 0 k j)) (fun l => x3 (ix2 0 l)) (fun l => x4 (ix2 0 l))
          (fun g t s => x5 (ix4 0 g t s)) (fun t k => x6 (ix3 0 ⟨k.val / 128, by omega⟩ t)) (fun j k => x7 (ix3 0 j k)) r k := by
  have h1 : (⟨(q.val * 1024 + r.val) % 128, by omega⟩ : Fin 128) = ⟨r.val % 128, by omega⟩ := Fin.ext (by dsimp only; omega)
  have h2 : ∀ s : Fin 128, (⟨(q.val * 1024 + r.val) / 128 * 128 + s.val, by omega⟩ : Fin 2048) = ⟨q.val * 1024 + (r.val / 128 * 128 + s.val), by omega⟩ :=
    fun s => Fin.ext (by dsimp only; omega)
  rw [v69_apply]
  unfold out gated
  simp only [v66_apply, h1, h2]

end Cert.GmlpRef
-- ==== Proof.GmlpRun.lean ====
/-
  Untrusted. The spatial gating from its first argument to its result.
-/
module

public import proofs.«01_k».proof.Defs
public import proofs.«01_k».proof.Proof.GmlpOut
public import proofs.«01_k».proof.Proof.GmlpRef
public import Idealize.ShloMosaic.Lib.Quiescent

@[expose] public section

set_option maxRecDepth 16384

noncomputable section

open Idealize.ShloMosaic Idealize.ShloMosaic.TcCoe Idealize.SL.Sem
open Cert.Rows

namespace Cert.Gmlp

open Cert.Kernel3Ideal Cert.Kernel3Ideal.Gen
open Idealize.ShloMosaic.Pipeline (Dat)

variable (m : (ℓ : Loc nD τ sig) → Buf (Elt Ideal) ℓ) (ρ : Dev nD → PrngReg)

/-- Where each window's block lies, at each of the 32 points. -/
theorem idx_facts : ∀ t : Fin cfg0.N,
    (win0_0.index t (0 : Fin 3) = t.val / 2 ∧ win0_0.index t (1 : Fin 3) = t.val % 2 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 3) = t.val / 2 ∧ win0_8.index t (1 : Fin 3) = t.val % 2 ∧ win0_8.index t (2 : Fin 3) = 0) :=
  (by decide +kernel : ∀ t : Fin grid0.N, _)

theorem lt32 (t : Fin cfg0.N) : t.val < 32 := by
  have h : t.val < grid0.N := t.isLt
  rwa [N_0] at h

/-- The sequence of point `t`'s block. -/
abbrev bAt (t : Fin cfg0.N) : Fin 16 := ⟨t.val / 2, by have := lt32 t; omega⟩

/-- Position `r` of point `t`'s block, as a position of its sequence. -/
abbrev rowAt (t : Fin cfg0.N) (r : Fin 1024) : Fin 2048 := ⟨t.val % 2 * 1024 + r.val, by omega⟩

theorem emb0 (t : Fin cfg0.N) (r k : Fin 1024) : ((cfg0.win 0).blk t).view.emb (ix3 0 r k) = ix3 (bAt t) (rowAt t r) k := by
  obtain ⟨⟨e0, e1, e2⟩, _⟩ := idx_facts t
  funext a; apply Fin.ext
  match a with
  | ⟨0, _⟩ => show win0_0.index t (0 : Fin 3) * 1 + 1 * 0 = t.val / 2; omega
  | ⟨1, _⟩ => show win0_0.index t (1 : Fin 3) * 1024 + 1 * r.val = t.val % 2 * 1024 + r.val; omega
  | ⟨2, _⟩ => show win0_0.index t (2 : Fin 3) * 1024 + 1 * k.val = k.val; omega

theorem emb1 (t : Fin cfg0.N) (a : Fin 1) (b : Fin 1024) : ((cfg0.win 1).blk t).view.emb (ix2 a b) = ix2 a b := by
  obtain ⟨_, ⟨e0, e1⟩, _⟩ := idx_facts t
  funext d; apply Fin.ext
  match d with
  | ⟨0, _⟩ => show win0_1.index t (0 : Fin 2) * 1 + 1 * a.val = a.val; omega
  | ⟨1, _⟩ => show win0_1.index t (1 : Fin 2) * 1024 + 1 * b.val = b.val; omega

theorem emb2 (t : Fin cfg0.N) (a : Fin 1024) (b : Fin 2048) : ((cfg0.win 2).blk t).view.emb (ix2 a b) = ix2 a b := by
  obtain ⟨_, _, ⟨e0, e1⟩, _⟩ := idx_facts t
  funext d; apply Fin.ext
  match d with
  | ⟨0, _⟩ => show win0_2.index t (0 : Fin 2) * 1024 + 1 * a.val = a.val; omega
  | ⟨1, _⟩ => show win0_2.index t (1 : Fin 2) * 2048 + 1 * b.val = b.val; omega

theorem emb3 (t : Fin cfg0.N) (a : Fin 1) (b : Fin 1024) : ((cfg0.win 3).blk t).view.emb (ix2 a b) = ix2 a b := by
  obtain ⟨_, _, _, ⟨e0, e1⟩, _⟩ := idx_facts t
  funext d; apply Fin.ext
  match d with
  | ⟨0, _⟩ => show win0_3.index t (0 : Fin 2) * 1 + 1 * a.val = a.val; omega
  | ⟨1, _⟩ => show win0_3.index t (1 : Fin 2) * 1024 + 1 * b.val = b.val; omega

theorem emb4 (t : Fin cfg0.N) (a : Fin 1) (b : Fin 1024) : ((cfg0.win 4).blk t).view.emb (ix2 a b) = ix2 a b := by
  obtain ⟨_, _, _, _, ⟨e0, e1⟩, _⟩ := idx_facts t
  funext d; apply Fin.ext
  match d with
  | ⟨0, _⟩ => show win0_4.index t (0 : Fin 2) * 1 + 1 * a.val = a.val; omega
  | ⟨1, _⟩ => show win0_4.index t (1 : Fin 2) * 1024 + 1 * b.val = b.val; omega

theorem emb5 (t : Fin cfg0.N) (a : Fin 8) (b : Fin 128) (c : Fin 128) : ((cfg0.win 5).blk t).view.emb (ix3 a b c) = ix3 a b c := by
  obtain ⟨_, _, _, _, _, ⟨e0, e1, e2⟩, _⟩ := idx_facts t
  funext d; apply Fin.ext
  match d with
  | ⟨0, _⟩ => show win0_5.index t (0 : Fin 3) * 8 + 1 * a.val = a.val; omega
  | ⟨1, _⟩ => show win0_5.index t (1 : Fin 3) * 128 + 1 * b.val = b.val; omega
  | ⟨2, _⟩ => show win0_5.index t (2 : Fin 3) * 128 + 1 * c.val = c.val; omega

theorem emb6 (t : Fin cfg0.N) (a : Fin 128) (b : Fin 1024) : ((cfg0.win 6).blk t).view.emb (ix2 a b) = ix2 a b := by
  obtain ⟨_, _, _, _, _, _, ⟨e0, e1⟩, _⟩ := idx_facts t
  funext d; apply Fin.ext
  match d with
  | ⟨0, _⟩ => show win0_6.index t (0 : Fin 2) * 128 + 1 * a.val = a.val; omega
  | ⟨1, _⟩ => show win0_6.index t (1 : Fin 2) * 1024 + 1 * b.val = b.val; omega

theorem emb7 (t : Fin cfg0.N) (a : Fin 1024) (b : Fin 1024) : ((cfg0.win 7).blk t).view.emb (ix2 a b) = ix2 a b := by
  obtain ⟨_, _, _, _, _, _, _, ⟨e0, e1⟩, _⟩ := idx_facts t
  funext d; apply Fin.ext
  match d with
  | ⟨0, _⟩ => show win0_7.index t (0 : Fin 2) * 1024 + 1 * a.val = a.val; omega
  | ⟨1, _⟩ => show win0_7.index t (1 : Fin 2) * 1024 + 1 * b.val = b.val; omega

theorem emb8 (t : Fin cfg0.N) (r k : Fin 1024) : ((cfg0.win 8).blk t).view.emb (ix3 0 r k) = ix3 (bAt t) (rowAt t r) k := by
  obtain ⟨_, _, _, _, _, _, _, _, ⟨e0, e1, e2⟩⟩ := idx_facts t
  funext a; apply Fin.ext
  match a with
  | ⟨0, _⟩ => show win0_8.index t (0 : Fin 3) * 1 + 1 * 0 = t.val / 2; omega
  | ⟨1, _⟩ => show win0_8.index t (1 : Fin 3) * 1024 + 1 * r.val = t.val % 2 * 1024 + r.val; omega
  | ⟨2, _⟩ => show win0_8.index t (2 : Fin 3) * 1024 + 1 * k.val = k.val; omega

theorem V_v11 (c : Dev nD) : V m c main_v11 = shapeCast S1x1024 (shapeCast S1024 (extractStridedSlice S1x1024 ![1, 0] (m ((c : Thread nD τ).loc main_arg1)) slices_S2x1024_S1x1024_1_0) shapeCasts_S1x1024_S1024) shapeCasts_S1024_S1x1024 := by
  unfold_abbrev_sides
  after_results
  rfl

theorem cast1 (x : FVec Ideal S2x1024 .f32) (b : Fin 1024) :
    (shapeCast S1x1024 (shapeCast S1024 (extractStridedSlice S1x1024 ![1, 0] x slices_S2x1024_S1x1024_1_0) shapeCasts_S1x1024_S1024) shapeCasts_S1024_S1x1024 : S1x1024.Idx → EReal) (ix2 0 b) = x (ix2 1 b) := by
  pointwise []

theorem iblk1_apply (c : Dev nD) (t : Fin cfg0.N) (b : Fin 1024) :
    (iblk m c 1 t : S1x1024.Idx → EReal) (ix2 0 b) = ((m ((c : Thread nD τ).loc main_arg1)) : S2x1024.Idx → EReal) (ix2 1 b) := by
  show V m c main_v11 (((cfg0.win 1).blk t).view.emb (ix2 0 b)) = _
  rw [emb1]
  exact (congrFun (V_v11 m c) _).trans (cast1 _ _ )

theorem V_v12 (c : Dev nD) : V m c main_v12 = truncf (F := Ideal) .bf16 (shapeCast S1024x2048 (m ((c : Thread nD τ).loc main_arg2)) shapeCasts_S1x1024x2048_S1024x2048 : FVec Ideal S1024x2048 .f32) bitsLt_bf16_f32 := by
  unfold_abbrev_sides
  after_results
  rfl

theorem cast2 (x : FVec Ideal S1x1024x2048 .f32) (a : Fin 1024) (b : Fin 2048) :
    (truncf (F := Ideal) .bf16 (shapeCast S1024x2048 x shapeCasts_S1x1024x2048_S1024x2048 : FVec Ideal S1024x2048 .f32) bitsLt_bf16_f32 : S1024x2048.Idx → EReal) (ix2 a b) = x (ix3 0 a b) := by
  pointwise []

theorem iblk2_apply (c : Dev nD) (t : Fin cfg0.N) (a : Fin 1024) (b : Fin 2048) :
    (iblk m c 2 t : S1024x2048.Idx → EReal) (ix2 a b) = ((m ((c : Thread nD τ).loc main_arg2)) : S1x1024x2048.Idx → EReal) (ix3 0 a b) := by
  show V m c main_v12 (((cfg0.win 2).blk t).view.emb (ix2 a b)) = _
  rw [emb2]
  exact (congrFun (V_v12 m c) _).trans (cast2 _ _ _ )

theorem V_v13 (c : Dev nD) : V m c main_v13 = shapeCast S1x1024 (shapeCast S1024 (m ((c : Thread nD τ).loc main_arg3)) shapeCasts_S1x1024_S1024) shapeCasts_S1024_S1x1024 := by
  unfold_abbrev_sides
  after_results
  rfl

theorem cast3 (x : FVec Ideal S1x1024 .f32) (b : Fin 1024) :
    (shapeCast S1x1024 (shapeCast S1024 x shapeCasts_S1x1024_S1024) shapeCasts_S1024_S1x1024 : S1x1024.Idx → EReal) (ix2 0 b) = x (ix2 0 b) := by
  pointwise []

theorem iblk3_apply (c : Dev nD) (t : Fin cfg0.N) (b : Fin 1024) :
    (iblk m c 3 t : S1x1024.Idx → EReal) (ix2 0 b) = ((m ((c : Thread nD τ).loc main_arg3)) : S1x1024.Idx → EReal) (ix2 0 b) := by
  show V m c main_v13 (((cfg0.win 3).blk t).view.emb (ix2 0 b)) = _
  rw [emb3]
  exact (congrFun (V_v13 m c) _).trans (cast3 _ _ )

theorem V_v14 (c : Dev nD) : V m c main_v14 = shapeCast S1x1024 (shapeCast S1024 (m ((c : Thread nD τ).loc main_arg4)) shapeCasts_S1x1024_S1024) shapeCasts_S1024_S1x1024 := by
  unfold_abbrev_sides
  after_results
  rfl

theorem cast4 (x : FVec Ideal S1x1024 .f32) (b : Fin 1024) :
    (shapeCast S1x1024 (shapeCast S1024 x shapeCasts_S1x1024_S1024) shapeCasts_S1024_S1x1024 : S1x1024.Idx → EReal) (ix2 0 b) = x (ix2 0 b) := by
  pointwise []

theorem iblk4_apply (c : Dev nD) (t : Fin cfg0.N) (b : Fin 1024) :
    (iblk m c 4 t : S1x1024.Idx → EReal) (ix2 0 b) = ((m ((c : Thread nD τ).loc main_arg4)) : S1x1024.Idx → EReal) (ix2 0 b) := by
  show V m c main_v14 (((cfg0.win 4).blk t).view.emb (ix2 0 b)) = _
  rw [emb4]
  exact (congrFun (V_v14 m c) _).trans (cast4 _ _ )

theorem V_v5 (c : Dev nD) : V m c main_v5 = shapeCast S8x128x128 (m ((c : Thread nD τ).loc main_arg5)) shapeCasts_S1x8x128x128_S8x128x128 := by
  unfold_abbrev_sides
  after_results
  rfl

theorem cast5 (x : FVec Ideal S1x8x128x128 .f32) (a : Fin 8) (b d : Fin 128) :
    (shapeCast S8x128x128 x shapeCasts_S1x8x128x128_S8x128x128 : S8x128x128.Idx → EReal) (ix3 a b d) = x (ix4 0 a b d) := by
  pointwise []

theorem iblk5_apply (c : Dev nD) (t : Fin cfg0.N) (a : Fin 8) (b d : Fin 128) :
    (iblk m c 5 t : S8x128x128.Idx → EReal) (ix3 a b d) = ((m ((c : Thread nD τ).loc main_arg5)) : S1x8x128x128.Idx → EReal) (ix4 0 a b d) := by
  show V m c main_v5 (((cfg0.win 5).blk t).view.emb (ix3 a b d)) = _
  rw [emb5]
  exact (congrFun (V_v5 m c) _).trans (cast5 _ _ _ _ )

theorem V_v10 (c : Dev nD) : V m c main_v10 = shapeCast S128x1024 (broadcastInDim S128x8x128 ![0, 1] bcast_S128x8_S128x8x128_0_1 (transpose S128x8 [1, 0] (shapeCast S8x128 (m ((c : Thread nD τ).loc main_arg6)) shapeCasts_S1x8x128_S8x128) transposes_S8x128_S128x8_1_0)) shapeCasts_S128x8x128_S128x1024 := by
  unfold_abbrev_sides
  after_results
  rfl

theorem cast6 (x : FVec Ideal S1x8x128 .f32) (a : Fin 128) (b : Fin 1024) :
    (shapeCast S128x1024 (broadcastInDim S128x8x128 ![0, 1] bcast_S128x8_S128x8x128_0_1 (transpose S128x8 [1, 0] (shapeCast S8x128 x shapeCasts_S1x8x128_S8x128) transposes_S8x128_S128x8_1_0)) shapeCasts_S128x8x128_S128x1024 : S128x1024.Idx → EReal) (ix2 a b) = x (ix3 0 ⟨b.val / 128, by omega⟩ a) := by
  pointwise []

theorem iblk6_apply (c : Dev nD) (t : Fin cfg0.N) (a : Fin 128) (b : Fin 1024) :
    (iblk m c 6 t : S128x1024.Idx → EReal) (ix2 a b) = ((m ((c : Thread nD τ).loc main_arg6)) : S1x8x128.Idx → EReal) (ix3 0 ⟨b.val / 128, by omega⟩ a) := by
  show V m c main_v10 (((cfg0.win 6).blk t).view.emb (ix2 a b)) = _
  rw [emb6]
  exact (congrFun (V_v10 m c) _).trans (cast6 _ _ _ )

theorem V_v15 (c : Dev nD) : V m c main_v15 = truncf (F := Ideal) .bf16 (shapeCast S1024x1024 (m ((c : Thread nD τ).loc main_arg7)) shapeCasts_S1x1024x1024_S1024x1024 : FVec Ideal S1024x1024 .f32) bitsLt_bf16_f32 := by
  unfold_abbrev_sides
  after_results
  rfl

theorem cast7 (x : FVec Ideal S1x1024x1024 .f32) (a b : Fin 1024) :
    (truncf (F := Ideal) .bf16 (shapeCast S1024x1024 x shapeCasts_S1x1024x1024_S1024x1024 : FVec Ideal S1024x1024 .f32) bitsLt_bf16_f32 : S1024x1024.Idx → EReal) (ix2 a b) = x (ix3 0 a b) := by
  pointwise []

theorem iblk7_apply (c : Dev nD) (t : Fin cfg0.N) (a b : Fin 1024) :
    (iblk m c 7 t : S1024x1024.Idx → EReal) (ix2 a b) = ((m ((c : Thread nD τ).loc main_arg7)) : S1x1024x1024.Idx → EReal) (ix3 0 a b) := by
  show V m c main_v15 (((cfg0.win 7).blk t).view.emb (ix2 a b)) = _
  rw [emb7]
  exact (congrFun (V_v15 m c) _).trans (cast7 _ _ _ )

theorem V_arg0 (c : Dev nD) : V m c main_arg0 = (m ((c : Thread nD τ).loc main_arg0)) := by
  unfold_abbrev_sides
  after_results

theorem iblk0_apply (c : Dev nD) (t : Fin cfg0.N) (r k : Fin 1024) :
    (iblk m c 0 t : S1x1024x1024.Idx → EReal) (ix3 0 r k) = ((m ((c : Thread nD τ).loc main_arg0)) : S16x2048x1024.Idx → EReal) (ix3 (bAt t) (rowAt t r) k) := by
  show V m c main_arg0 (((cfg0.win 0).blk t).view.emb (ix3 0 r k)) = _
  rw [emb0]
  exact congrFun (V_arg0 m c) _

/-- The block's result at an index, its arguments read. -/
theorem outV_at (x0 : FVec Ideal S1x1024x1024 .f32) (x1 : FVec Ideal S1x1024 .f32) (x2 : FVec Ideal S1024x2048 .bf16) (x3 x4 : FVec Ideal S1x1024 .f32)
    (x5 : FVec Ideal S8x128x128 .f32) (x6 : FVec Ideal S128x1024 .f32) (x7 : FVec Ideal S1024x1024 .bf16) (r k : Fin 1024) :
    outV x0 x1 x2 x3 x4 x5 x6 x7 (ix3 0 r k) = (x0 (ix3 0 r k) : EReal) + ∑ j : Fin 1024,
      gated (fun r => hid (fun k => x0 (ix3 0 r k)) (fun k => x1 (ix2 0 k)) (fun k j => x2 (ix2 k j)))
        (fun k => x3 (ix2 0 k)) (fun k => x4 (ix2 0 k)) (fun g t s => x5 (ix3 g t s)) (fun t k => x6 (ix2 t k)) r j * x7 (ix2 j k) := rfl

/-- THE ARRAY AFTER THE RUN, AT POSITION `r` OF BLOCK `q` OF SEQUENCE `b`: the layer over that block. -/
theorem final_apply (c : Dev nD) (b : Fin 16) (q : Fin 2) (r k : Fin 1024) :
    ((dats m 0 c).arrAt 8 cfg0.N : S16x2048x1024.Idx → EReal) (ix3 b ⟨q.val * 1024 + r.val, by omega⟩ k)
      = out (fun r k => ((m ((c : Thread nD τ).loc main_arg0)) : S16x2048x1024.Idx → EReal) (ix3 b ⟨q.val * 1024 + r.val, by omega⟩ k))
          (fun k => ((m ((c : Thread nD τ).loc main_arg1)) : S2x1024.Idx → EReal) (ix2 1 k)) (fun k j => ((m ((c : Thread nD τ).loc main_arg2)) : S1x1024x2048.Idx → EReal) (ix3 0 k j))
          (fun l => ((m ((c : Thread nD τ).loc main_arg3)) : S1x1024.Idx → EReal) (ix2 0 l)) (fun l => ((m ((c : Thread nD τ).loc main_arg4)) : S1x1024.Idx → EReal) (ix2 0 l))
          (fun g t s => ((m ((c : Thread nD τ).loc main_arg5)) : S1x8x128x128.Idx → EReal) (ix4 0 g t s)) (fun t k => ((m ((c : Thread nD τ).loc main_arg6)) : S1x8x128.Idx → EReal) (ix3 0 ⟨k.val / 128, by omega⟩ t))
          (fun j k => ((m ((c : Thread nD τ).loc main_arg7)) : S1x1024x1024.Idx → EReal) (ix3 0 j k)) r k := by
  obtain ⟨t, ht⟩ : ∃ t : Fin cfg0.N, t.val = b.val * 2 + q.val := ⟨⟨b.val * 2 + q.val, by show _ < grid0.N; rw [N_0]; omega⟩, rfl⟩
  have hb : b = bAt t := Fin.ext (by show b.val = t.val / 2; omega)
  have hq : q = ⟨t.val % 2, Nat.mod_lt _ Nat.two_pos⟩ := Fin.ext (by show q.val = t.val % 2; omega)
  subst hb hq
  have h := congrFun (Cert.Kernel3Ideal.Value.blocks8 m c t (flush0_8 t)) (ix3 0 r k)
  rw [Cert.Kernel3Ideal.Value.flushed8_A] at h
  have h' : (dats m 0 c).arrAt 8 cfg0.N (((cfg0.win 8).blk t).view.emb (ix3 0 r k)) = _ := h
  rw [emb8] at h'
  refine h'.trans ((out_apply _ _ _ _ _ _ _ _ _ _ _ _ _ _ _ _ _ _ _ _ _ _ _ _ _ _ _ _ _ _ _).trans ?_)
  show outV (iblk m c 0 t) (iblk m c 1 t) (iblk m c 2 t) (iblk m c 3 t) (iblk m c 4 t) (iblk m c 5 t) (iblk m c 6 t) (iblk m c 7 t) (ix3 0 r k) = _
  rw [outV_at]
  unfold out
  simp only [ix3_0, ix3_1, ix3_2, ix2_0, ix2_1, iblk0_apply, iblk1_apply, iblk2_apply, iblk3_apply, iblk4_apply, iblk5_apply, iblk6_apply, iblk7_apply]

end Cert.Gmlp

/-- THE VALUE CLAIM of the third call: at the ideal instance, from equal arguments, the call and the reference end with the
    same result array. -/
theorem Cert.Proof.algebraic3 :
    Cert.algebraic_Kernel3Ideal_Reference3Ideal (hKernel3Ideal := Cert.Kernel3Ideal.Gen.facts) (hReference3Ideal := Cert.Reference3Ideal.Gen.facts) := by
  intro m g m' g' _ hargs
  refine ⟨fun c => (Cert.Kernel3Ideal.Gen.dats m 0 c).arrAt 8 Cert.Kernel3Ideal.cfg0.N, Cert.Kernel3Ideal.Value.run_blocks m g, ?_⟩
  refine (θ_run _ _ _).mono (fun _ h c => ⟨(h c).1.trans ?_, (h c).2⟩) (Cert.Reference3Ideal.Value.run m' g')
  rw [Cert.Reference3Ideal.Read.val_main_v69_eq, (hargs c).1, (hargs c).2.1, (hargs c).2.2.1, (hargs c).2.2.2.1, (hargs c).2.2.2.2.1, (hargs c).2.2.2.2.2.1, (hargs c).2.2.2.2.2.2.1, (hargs c).2.2.2.2.2.2.2]
  funext y
  obtain ⟨b, q, r, k, rfl⟩ : ∃ (b : Fin 16) (q : Fin 2) (r k : Fin 1024), y = ix3 b ⟨q.val * 1024 + r.val, by omega⟩ k := by
    have h1 : (y 1).val < 2048 := (y 1).isLt
    refine ⟨y 0, ⟨(y 1).val / 1024, by omega⟩, ⟨(y 1).val % 1024, by omega⟩, y 2, ?_⟩
    funext d; apply Fin.ext
    match d with
    | ⟨0, _⟩ => rfl
    | ⟨1, _⟩ => show (y 1).val = (y 1).val / 1024 * 1024 + (y 1).val % 1024; omega
    | ⟨2, _⟩ => rfl
  exact (Cert.GmlpRef.ref_apply _ _ _ _ _ _ _ _ b q r k).trans (Cert.Gmlp.final_apply m c b q r k).symm
-- ==== Proof.NormMatmul.lean ====
/- Hand-written: what one point of the input projection's call writes. Row `r` of its two blocks is the packed columns of the
   product of the normalised row `r` with the weights. -/
module

public import proofs.«01_k».proof.Proof.Rows
public import proofs.«01_k».proof.Proof.Gen.Kernel5Ideal.Value

@[expose] public section

noncomputable section

namespace Cert.NormMatmul

open Idealize.ShloMosaic Idealize.ShloMosaic.TcCoe Idealize.SL.Sem
open Cert.Rows
open Cert.Kernel5Ideal Cert.Kernel5Ideal.Gen

/-- The order in which the projection's 3272 columns are laid out in 3584: the nine parts, one of them twice, with zeros
    between, so that a part begins where the kernels that read it expect it. -/
def source (j : Fin 3584) : Option (Fin 3272) :=
  if h0 : j.val < 512 then some ⟨0 + (j.val - 0), by omega⟩ else
  if h1 : j.val < 1024 then some ⟨640 + (j.val - 512), by omega⟩ else
  if h2 : j.val < 1536 then some ⟨1736 + (j.val - 1024), by omega⟩ else
  if h3 : j.val < 1600 then some ⟨1152 + (j.val - 1536), by omega⟩ else
  if h4 : j.val < 1664 then none else
  if h5 : j.val < 1728 then none else
  if h6 : j.val < 1792 then some ⟨1152 + (j.val - 1728), by omega⟩ else
  if h7 : j.val < 2304 then some ⟨1224 + (j.val - 1792), by omega⟩ else
  if h8 : j.val < 2816 then some ⟨2248 + (j.val - 2304), by omega⟩ else
  if h9 : j.val < 3328 then some ⟨2760 + (j.val - 2816), by omega⟩ else
  if h10 : j.val < 3456 then some ⟨512 + (j.val - 3328), by omega⟩ else
  if h11 : j.val < 3464 then some ⟨1216 + (j.val - 3456), by omega⟩ else
  none

/-- A row of the projection laid out in that order. -/
def packed (f : Fin 3272 → EReal) (j : Fin 3584) : EReal :=
  (source j).elim 0 f

/-- Columns 0 to 511. -/
theorem packed0 (f : Fin 3272 → EReal) (j : Fin 3584) (h : 0 ≤ j.val) (h' : j.val < 512) : packed f j = f ⟨0 + (j.val - 0), by omega⟩ := by
  unfold packed source
  rw [dif_pos h']
  rfl

/-- Columns 512 to 1023. -/
theorem packed1 (f : Fin 3272 → EReal) (j : Fin 3584) (h : 512 ≤ j.val) (h' : j.val < 1024) : packed f j = f ⟨640 + (j.val - 512), by omega⟩ := by
  unfold packed source
  rw [dif_neg (by omega : ¬ j.val < 512), dif_pos h']
  rfl

/-- Columns 1024 to 1535. -/
theorem packed2 (f : Fin 3272 → EReal) (j : Fin 3584) (h : 1024 ≤ j.val) (h' : j.val < 1536) : packed f j = f ⟨1736 + (j.val - 1024), by omega⟩ := by
  unfold packed source
  rw [dif_neg (by omega : ¬ j.val < 512), dif_neg (by omega : ¬ j.val < 1024), dif_pos h']
  rfl

/-- Columns 1536 to 1599. -/
theorem packed3 (f : Fin 3272 → EReal) (j : Fin 3584) (h : 1536 ≤ j.val) (h' : j.val < 1600) : packed f j = f ⟨1152 + (j.val - 1536), by omega⟩ := by
  unfold packed source
  rw [dif_neg (by omega : ¬ j.val < 512), dif_neg (by omega : ¬ j.val < 1024), dif_neg (by omega : ¬ j.val < 1536), dif_pos h']
  rfl

/-- Columns 1600 to 1663. -/
theorem packed4 (f : Fin 3272 → EReal) (j : Fin 3584) (h : 1600 ≤ j.val) (h' : j.val < 1664) : packed f j = 0 := by
  unfold packed source
  rw [dif_neg (by omega : ¬ j.val < 512), dif_neg (by omega : ¬ j.val < 1024), dif_neg (by omega : ¬ j.val < 1536), dif_neg (by omega : ¬ j.val < 1600), dif_pos h']
  rfl

/-- Columns 1664 to 1727. -/
theorem packed5 (f : Fin 3272 → EReal) (j : Fin 3584) (h : 1664 ≤ j.val) (h' : j.val < 1728) : packed f j = 0 := by
  unfold packed source
  rw [dif_neg (by omega : ¬ j.val < 512), dif_neg (by omega : ¬ j.val < 1024), dif_neg (by omega : ¬ j.val < 1536), dif_neg (by omega : ¬ j.val < 1600), dif_neg (by omega : ¬ j.val < 1664), dif_pos h']
  rfl

/-- Columns 1728 to 1791. -/
theorem packed6 (f : Fin 3272 → EReal) (j : Fin 3584) (h : 1728 ≤ j.val) (h' : j.val < 1792) : packed f j = f ⟨1152 + (j.val - 1728), by omega⟩ := by
  unfold packed source
  rw [dif_neg (by omega : ¬ j.val < 512), dif_neg (by omega : ¬ j.val < 1024), dif_neg (by omega : ¬ j.val < 1536), dif_neg (by omega : ¬ j.val < 1600), dif_neg (by omega : ¬ j.val < 1664), dif_neg (by omega : ¬ j.val < 1728), dif_pos h']
  rfl

/-- Columns 1792 to 2303. -/
theorem packed7 (f : Fin 3272 → EReal) (j : Fin 3584) (h : 1792 ≤ j.val) (h' : j.val < 2304) : packed f j = f ⟨1224 + (j.val - 1792), by omega⟩ := by
  unfold packed source
  rw [dif_neg (by omega : ¬ j.val < 512), dif_neg (by omega : ¬ j.val < 1024), dif_neg (by omega : ¬ j.val < 1536), dif_neg (by omega : ¬ j.val < 1600), dif_neg (by omega : ¬ j.val < 1664), dif_neg (by omega : ¬ j.val < 1728), dif_neg (by omega : ¬ j.val < 1792), dif_pos h']
  rfl

/-- Columns 2304 to 2815. -/
theorem packed8 (f : Fin 3272 → EReal) (j : Fin 3584) (h : 2304 ≤ j.val) (h' : j.val < 2816) : packed f j = f ⟨2248 + (j.val - 2304), by omega⟩ := by
  unfold packed source
  rw [dif_neg (by omega : ¬ j.val < 512), dif_neg (by omega : ¬ j.val < 1024), dif_neg (by omega : ¬ j.val < 1536), dif_neg (by omega : ¬ j.val < 1600), dif_neg (by omega : ¬ j.val < 1664), dif_neg (by omega : ¬ j.val < 1728), dif_neg (by omega : ¬ j.val < 1792), dif_neg (by omega : ¬ j.val < 2304), dif_pos h']
  rfl

/-- Columns 2816 to 3327. -/
theorem packed9 (f : Fin 3272 → EReal) (j : Fin 3584) (h : 2816 ≤ j.val) (h' : j.val < 3328) : packed f j = f ⟨2760 + (j.val - 2816), by omega⟩ := by
  unfold packed source
  rw [dif_neg (by omega : ¬ j.val < 512), dif_neg (by omega : ¬ j.val < 1024), dif_neg (by omega : ¬ j.val < 1536), dif_neg (by omega : ¬ j.val < 1600), dif_neg (by omega : ¬ j.val < 1664), dif_neg (by omega : ¬ j.val < 1728), dif_neg (by omega : ¬ j.val < 1792), dif_neg (by omega : ¬ j.val < 2304), dif_neg (by omega : ¬ j.val < 2816), dif_pos h']
  rfl

/-- Columns 3328 to 3455. -/
theorem packed10 (f : Fin 3272 → EReal) (j : Fin 3584) (h : 3328 ≤ j.val) (h' : j.val < 3456) : packed f j = f ⟨512 + (j.val - 3328), by omega⟩ := by
  unfold packed source
  rw [dif_neg (by omega : ¬ j.val < 512), dif_neg (by omega : ¬ j.val < 1024), dif_neg (by omega : ¬ j.val < 1536), dif_neg (by omega : ¬ j.val < 1600), dif_neg (by omega : ¬ j.val < 1664), dif_neg (by omega : ¬ j.val < 1728), dif_neg (by omega : ¬ j.val < 1792), dif_neg (by omega : ¬ j.val < 2304), dif_neg (by omega : ¬ j.val < 2816), dif_neg (by omega : ¬ j.val < 3328), dif_pos h']
  rfl

/-- Columns 3456 to 3463. -/
theorem packed11 (f : Fin 3272 → EReal) (j : Fin 3584) (h : 3456 ≤ j.val) (h' : j.val < 3464) : packed f j = f ⟨1216 + (j.val - 3456), by omega⟩ := by
  unfold packed source
  rw [dif_neg (by omega : ¬ j.val < 512), dif_neg (by omega : ¬ j.val < 1024), dif_neg (by omega : ¬ j.val < 1536), dif_neg (by omega : ¬ j.val < 1600), dif_neg (by omega : ¬ j.val < 1664), dif_neg (by omega : ¬ j.val < 1728), dif_neg (by omega : ¬ j.val < 1792), dif_neg (by omega : ¬ j.val < 2304), dif_neg (by omega : ¬ j.val < 2816), dif_neg (by omega : ¬ j.val < 3328), dif_neg (by omega : ¬ j.val < 3456), dif_pos h']
  rfl

/-- Columns 3464 to 3583. -/
theorem packed12 (f : Fin 3272 → EReal) (j : Fin 3584) (h : 3464 ≤ j.val) (h' : j.val < 3584) : packed f j = 0 := by
  unfold packed source
  rw [dif_neg (by omega : ¬ j.val < 512), dif_neg (by omega : ¬ j.val < 1024), dif_neg (by omega : ¬ j.val < 1536), dif_neg (by omega : ¬ j.val < 1600), dif_neg (by omega : ¬ j.val < 1664), dif_neg (by omega : ¬ j.val < 1728), dif_neg (by omega : ¬ j.val < 1792), dif_neg (by omega : ¬ j.val < 2304), dif_neg (by omega : ¬ j.val < 2816), dif_neg (by omega : ¬ j.val < 3328), dif_neg (by omega : ¬ j.val < 3456), dif_neg (by omega : ¬ j.val < 3464)]
  rfl

/-- A sum of products with packed columns is the packed column of the sums. -/
theorem sum_packed (n : Fin 1024 → EReal) (w : Fin 1024 → Fin 3272 → EReal) (j : Fin 3584) :
    (∑ k, n k * packed (w k) j) = packed (fun j => ∑ k, n k * w k j) j := by
  unfold packed
  cases source j with
  | none => simp only [Option.elim, mul_zero, Finset.sum_const_zero]
  | some i => rfl

/-- The product of a normalised row with the packed weights. -/
def proj (h fn : Fin 1024 → EReal) (w : Fin 1024 → Fin 3584 → EReal) (j : Fin 3584) : EReal :=
  ∑ k, rms h fn k * w k j

/-- The first block, as a function of its index. -/
def blockH (x0 : Vec Ideal S1024x1024 .f32) (x1 : Vec Ideal S1x1024 .f32) (x2 : Vec Ideal S1024x3584 .bf16) (y : S1024x1792.Idx) : EReal :=
  proj (fun k => x0 (ix2 (y 0) k)) (fun k => x1 (ix2 0 k)) (fun k j => x2 (ix2 k j)) ⟨(y 1).val, Nat.lt_trans (y 1).isLt (by decide)⟩

/-- The second block, as a function of its index. -/
def blockF (x0 : Vec Ideal S1024x1024 .f32) (x1 : Vec Ideal S1x1024 .f32) (x2 : Vec Ideal S1024x3584 .bf16) (y : S1024x1792.Idx) : EReal :=
  proj (fun k => x0 (ix2 (y 0) k)) (fun k => x1 (ix2 0 k)) (fun k j => x2 (ix2 k j)) ⟨1792 + (y 1).val, Nat.add_lt_add_left (y 1).isLt 1792⟩

/-- A tile of 256 columns that begins at column `o` places its index `(a, b)` at `(a, o + b)`. -/
theorem emb_col (o : ℕ) (inb : ∀ a, (![0, o] : Fin 2 → ℕ) a + S1024x256.size a ≤ S1024x1792.size a) (ho : o ≤ 1536) (a : Fin 1024) (b : Fin 256) :
    (Rect.unit (s := S1024x1792) ![0, o] S1024x256.size inb).emb (ix2 a b) = ix2 a ⟨o + b.val, by omega⟩ := by
  funext d; apply Fin.ext
  match d with
  | ⟨0, _⟩ => show 0 + 1 * a.val = a.val; omega
  | ⟨1, _⟩ => show o + 1 * b.val = o + b.val; omega

/-- Columns 0 to 255 of the first block are what the body stores there. -/
theorem chunkH0 (x0 : Vec Ideal S1024x1024 .f32) (x1 : Vec Ideal S1x1024 .f32) (x2 : Vec Ideal S1024x3584 .bf16) (z : S1024x256.Idx) :
    k0_pay7 (View.ld x0 r0_0) (View.ld x1 r0_1) (View.ld x2 r0_2) z = blockH x0 x1 x2 (r0_3.emb z) := by
  idx_vars z
  rw [emb_col 0 _ (by omega)]
  pointwise [k0_pay7, k0_pay16, k0_pay6, blockH, proj, rms]
  try simp only [← Nat.add_assoc, Nat.reduceAdd, Nat.zero_add]

/-- Columns 256 to 511 of the first block are what the body stores there. -/
theorem chunkH1 (x0 : Vec Ideal S1024x1024 .f32) (x1 : Vec Ideal S1x1024 .f32) (x2 : Vec Ideal S1024x3584 .bf16) (z : S1024x256.Idx) :
    k0_pay8 (View.ld x0 r0_0) (View.ld x1 r0_1) (View.ld x2 r0_4) z = blockH x0 x1 x2 (r0_5.emb z) := by
  idx_vars z
  rw [emb_col 256 _ (by omega)]
  pointwise [k0_pay8, k0_pay16, k0_pay6, blockH, proj, rms]
  try simp only [← Nat.add_assoc, Nat.reduceAdd, Nat.zero_add]

/-- Columns 512 to 767 of the first block are what the body stores there. -/
theorem chunkH2 (x0 : Vec Ideal S1024x1024 .f32) (x1 : Vec Ideal S1x1024 .f32) (x2 : Vec Ideal S1024x3584 .bf16) (z : S1024x256.Idx) :
    k0_pay9 (View.ld x0 r0_0) (View.ld x1 r0_1) (View.ld x2 r0_6) z = blockH x0 x1 x2 (r0_7.emb z) := by
  idx_vars z
  rw [emb_col 512 _ (by omega)]
  pointwise [k0_pay9, k0_pay16, k0_pay6, blockH, proj, rms]
  try simp only [← Nat.add_assoc, Nat.reduceAdd, Nat.zero_add]

/-- Columns 768 to 1023 of the first block are what the body stores there. -/
theorem chunkH3 (x0 : Vec Ideal S1024x1024 .f32) (x1 : Vec Ideal S1x1024 .f32) (x2 : Vec Ideal S1024x3584 .bf16) (z : S1024x256.Idx) :
    k0_pay10 (k0_pay16 x0 x1 x2) (View.ld x2 r0_8) z = blockH x0 x1 x2 (r0_9.emb z) := by
  idx_vars z
  rw [emb_col 768 _ (by omega)]
  pointwise [k0_pay10, k0_pay16, k0_pay6, blockH, proj, rms]
  try simp only [← Nat.add_assoc, Nat.reduceAdd, Nat.zero_add]

/-- Columns 1024 to 1279 of the first block are what the body stores there. -/
theorem chunkH4 (x0 : Vec Ideal S1024x1024 .f32) (x1 : Vec Ideal S1x1024 .f32) (x2 : Vec Ideal S1024x3584 .bf16) (z : S1024x256.Idx) :
    k0_pay11 (k0_pay16 x0 x1 x2) (View.ld x2 r0_10) z = blockH x0 x1 x2 (r0_11.emb z) := by
  idx_vars z
  rw [emb_col 1024 _ (by omega)]
  pointwise [k0_pay11, k0_pay16, k0_pay6, blockH, proj, rms]
  try simp only [← Nat.add_assoc, Nat.reduceAdd, Nat.zero_add]

/-- Columns 1280 to 1535 of the first block are what the body stores there. -/
theorem chunkH5 (x0 : Vec Ideal S1024x1024 .f32) (x1 : Vec Ideal S1x1024 .f32) (x2 : Vec Ideal S1024x3584 .bf16) (z : S1024x256.Idx) :
    k0_pay12 (k0_pay16 x0 x1 x2) (View.ld x2 r0_12) z = blockH x0 x1 x2 (r0_13.emb z) := by
  idx_vars z
  rw [emb_col 1280 _ (by omega)]
  pointwise [k0_pay12, k0_pay16, k0_pay6, blockH, proj, rms]
  try simp only [← Nat.add_assoc, Nat.reduceAdd, Nat.zero_add]

/-- Columns 1536 to 1791 of the first block are what the body stores there. -/
theorem chunkH6 (x0 : Vec Ideal S1024x1024 .f32) (x1 : Vec Ideal S1x1024 .f32) (x2 : Vec Ideal S1024x3584 .bf16) (z : S1024x256.Idx) :
    k0_pay13 (k0_pay16 x0 x1 x2) (View.ld x2 r0_14) z = blockH x0 x1 x2 (r0_15.emb z) := by
  idx_vars z
  rw [emb_col 1536 _ (by omega)]
  pointwise [k0_pay13, k0_pay16, k0_pay6, blockH, proj, rms]
  try simp only [← Nat.add_assoc, Nat.reduceAdd, Nat.zero_add]

/-- Columns 0 to 255 of the second block are what the body stores there. -/
theorem chunkF0 (x0 : Vec Ideal S1024x1024 .f32) (x1 : Vec Ideal S1x1024 .f32) (x2 : Vec Ideal S1024x3584 .bf16) (z : S1024x256.Idx) :
    k0_pay14 (k0_pay16 x0 x1 x2) (View.ld x2 r0_16) z = blockF x0 x1 x2 (r0_3.emb z) := by
  idx_vars z
  rw [emb_col 0 _ (by omega)]
  pointwise [k0_pay14, k0_pay16, k0_pay6, blockF, proj, rms]
  try simp only [← Nat.add_assoc, Nat.reduceAdd, Nat.zero_add]

/-- Columns 256 to 511 of the second block are what the body stores there. -/
theorem chunkF1 (x0 : Vec Ideal S1024x1024 .f32) (x1 : Vec Ideal S1x1024 .f32) (x2 : Vec Ideal S1024x3584 .bf16) (z : S1024x256.Idx) :
    k0_pay15 (k0_pay16 x0 x1 x2) (View.ld x2 r0_17) z = blockF x0 x1 x2 (r0_5.emb z) := by
  idx_vars z
  rw [emb_col 256 _ (by omega)]
  pointwise [k0_pay15, k0_pay16, k0_pay6, blockF, proj, rms]
  try simp only [← Nat.add_assoc, Nat.reduceAdd, Nat.zero_add]

/-- Columns 512 to 767 of the second block are what the body stores there. -/
theorem chunkF2 (x0 : Vec Ideal S1024x1024 .f32) (x1 : Vec Ideal S1x1024 .f32) (x2 : Vec Ideal S1024x3584 .bf16) (z : S1024x256.Idx) :
    k0_pay1 (k0_pay16 x0 x1 x2) (View.ld x2 r0_18) z = blockF x0 x1 x2 (r0_7.emb z) := by
  idx_vars z
  rw [emb_col 512 _ (by omega)]
  pointwise [k0_pay1, k0_pay16, k0_pay6, blockF, proj, rms]
  try simp only [← Nat.add_assoc, Nat.reduceAdd, Nat.zero_add]

/-- Columns 768 to 1023 of the second block are what the body stores there. -/
theorem chunkF3 (x0 : Vec Ideal S1024x1024 .f32) (x1 : Vec Ideal S1x1024 .f32) (x2 : Vec Ideal S1024x3584 .bf16) (z : S1024x256.Idx) :
    k0_pay2 (k0_pay16 x0 x1 x2) (View.ld x2 r0_19) z = blockF x0 x1 x2 (r0_9.emb z) := by
  idx_vars z
  rw [emb_col 768 _ (by omega)]
  pointwise [k0_pay2, k0_pay16, k0_pay6, blockF, proj, rms]
  try simp only [← Nat.add_assoc, Nat.reduceAdd, Nat.zero_add]

/-- Columns 1024 to 1279 of the second block are what the body stores there. -/
theorem chunkF4 (x0 : Vec Ideal S1024x1024 .f32) (x1 : Vec Ideal S1x1024 .f32) (x2 : Vec Ideal S1024x3584 .bf16) (z : S1024x256.Idx) :
    k0_pay3 (k0_pay16 x0 x1 x2) (View.ld x2 r0_20) z = blockF x0 x1 x2 (r0_11.emb z) := by
  idx_vars z
  rw [emb_col 1024 _ (by omega)]
  pointwise [k0_pay3, k0_pay16, k0_pay6, blockF, proj, rms]
  try simp only [← Nat.add_assoc, Nat.reduceAdd, Nat.zero_add]

/-- Columns 1280 to 1535 of the second block are what the body stores there. -/
theorem chunkF5 (x0 : Vec Ideal S1024x1024 .f32) (x1 : Vec Ideal S1x1024 .f32) (x2 : Vec Ideal S1024x3584 .bf16) (z : S1024x256.Idx) :
    k0_pay4 (k0_pay16 x0 x1 x2) (View.ld x2 r0_21) z = blockF x0 x1 x2 (r0_13.emb z) := by
  idx_vars z
  rw [emb_col 1280 _ (by omega)]
  pointwise [k0_pay4, k0_pay16, k0_pay6, blockF, proj, rms]
  try simp only [← Nat.add_assoc, Nat.reduceAdd, Nat.zero_add]

/-- Columns 1536 to 1791 of the second block are what the body stores there. -/
theorem chunkF6 (x0 : Vec Ideal S1024x1024 .f32) (x1 : Vec Ideal S1x1024 .f32) (x2 : Vec Ideal S1024x3584 .bf16) (z : S1024x256.Idx) :
    k0_pay5 (k0_pay16 x0 x1 x2) (View.ld x2 r0_22) z = blockF x0 x1 x2 (r0_15.emb z) := by
  idx_vars z
  rw [emb_col 1536 _ (by omega)]
  pointwise [k0_pay5, k0_pay16, k0_pay6, blockF, proj, rms]
  try simp only [← Nat.add_assoc, Nat.reduceAdd, Nat.zero_add]

/-- WHAT ONE POINT WRITES to its first block. -/
theorem out3_apply (x0 : Vec Ideal S1024x1024 .f32) (x1 : Vec Ideal S1x1024 .f32) (x2 : Vec Ideal S1024x3584 .bf16) (y : S1024x1792.Idx) :
    out0_3 x0 x1 x2 y = blockH x0 x1 x2 y := by
  unfold out0_3
  refine View.canon_apply_of_pieces (Val := Elt Ideal) (S := S1024x1792) (e := .bf16) (blockH x0 x1 x2) _ ?_ y (View.cover_of_tiledL _ ![1024, 256] (by sl_kernel_rfl) y)
  intro p hp
  simp only [List.mem_cons, List.not_mem_nil, or_false] at hp
  rcases hp with rfl | rfl | rfl | rfl | rfl | rfl | rfl <;> intro z
  · exact chunkH6 x0 x1 x2 z
  · exact chunkH5 x0 x1 x2 z
  · exact chunkH4 x0 x1 x2 z
  · exact chunkH3 x0 x1 x2 z
  · exact chunkH2 x0 x1 x2 z
  · exact chunkH1 x0 x1 x2 z
  · exact chunkH0 x0 x1 x2 z

/-- WHAT ONE POINT WRITES to its second block. -/
theorem out4_apply (x0 : Vec Ideal S1024x1024 .f32) (x1 : Vec Ideal S1x1024 .f32) (x2 : Vec Ideal S1024x3584 .bf16) (y : S1024x1792.Idx) :
    out0_4 x0 x1 x2 y = blockF x0 x1 x2 y := by
  unfold out0_4
  refine View.canon_apply_of_pieces (Val := Elt Ideal) (S := S1024x1792) (e := .f32) (blockF x0 x1 x2) _ ?_ y (View.cover_of_tiledL _ ![1024, 256] (by sl_kernel_rfl) y)
  intro p hp
  simp only [List.mem_cons, List.not_mem_nil, or_false] at hp
  rcases hp with rfl | rfl | rfl | rfl | rfl | rfl | rfl <;> intro z
  · exact chunkF6 x0 x1 x2 z
  · exact chunkF5 x0 x1 x2 z
  · exact chunkF4 x0 x1 x2 z
  · exact chunkF3 x0 x1 x2 z
  · exact chunkF2 x0 x1 x2 z
  · exact chunkF1 x0 x1 x2 z
  · exact chunkF0 x0 x1 x2 z

end Cert.NormMatmul
-- ==== Proof.NormMatmulRef.lean ====
/- Hand-written: what the reference of the fifth program computes, read at an index: row `r` of its two results is the packed
   columns of the product of the normalised row `r` with the weights. -/
module

public import proofs.«01_k».proof.Proof.NormMatmul
public import proofs.«01_k».proof.Proof.Gen.Reference5Ideal.Read
public import proofs.«01_k».proof.Proof.Gen.Reference5Ideal.Run

@[expose] public section

noncomputable section

namespace Cert.NormMatmulRef

open Idealize.ShloMosaic Idealize.ShloMosaic.TcCoe Idealize.SL.Sem
open Cert.Rows Cert.NormMatmul
open Cert.Reference5Ideal Cert.Reference5Ideal.Read

/-- The normalisation, at row `r`, column `k`. -/
theorem v15_apply (x0 : (⟨S16x2048x1024, .f32⟩ : BufTy).Contents (Elt Ideal)) (x1 : (⟨S2x1024, .f32⟩ : BufTy).Contents (Elt Ideal)) (r : Fin 32768) (k : Fin 1024) :
    val_main_v15 (F := Ideal) x0 x1 (ix2 r k) = rms (fun k => x0 (ix3 ⟨r.val / 2048, by omega⟩ ⟨r.val % 2048, by omega⟩ k)) (fun k => x1 (ix2 0 k)) k := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms, Ideal.ofBits_zero_f32, zero_add]

/-- The product with the weights, at row `r`, column `j`. -/
theorem v17_apply (x0 : (⟨S16x2048x1024, .f32⟩ : BufTy).Contents (Elt Ideal)) (x1 : (⟨S2x1024, .f32⟩ : BufTy).Contents (Elt Ideal)) (x2 : (⟨S1x1024x3272, .f32⟩ : BufTy).Contents (Elt Ideal)) (r : Fin 32768) (j : Fin 3272) :
    val_main_v17 (F := Ideal) x0 x1 x2 (ix2 r j)
      = ∑ k, rms (fun k => x0 (ix3 ⟨r.val / 2048, by omega⟩ ⟨r.val % 2048, by omega⟩ k)) (fun k => x1 (ix2 0 k)) k * x2 (ix3 0 k j) := by
  simp only [← v15_apply x0 x1]
  generalize hn : val_main_v15 (F := Ideal) x0 x1 = n
  pointwise [val_main_v17, val_main_v16, hn]

/-- The first result, at row `r`, column `j`. -/
theorem v30_apply (x0 : (⟨S16x2048x1024, .f32⟩ : BufTy).Contents (Elt Ideal)) (x1 : (⟨S2x1024, .f32⟩ : BufTy).Contents (Elt Ideal)) (x2 : (⟨S1x1024x3272, .f32⟩ : BufTy).Contents (Elt Ideal)) (r : Fin 32768) (j : Fin 1792) :
    val_main_v30 (F := Ideal) x0 x1 x2 (ix2 r j)
      = packed (fun j => ∑ k, rms (fun k => x0 (ix3 ⟨r.val / 2048, by omega⟩ ⟨r.val % 2048, by omega⟩ k)) (fun k => x1 (ix2 0 k)) k * x2 (ix3 0 k j)) ⟨j.val, by omega⟩ := by
  simp only [← v17_apply x0 x1 x2]
  generalize hn : val_main_v17 (F := Ideal) x0 x1 x2 = n
  pointwise [val_main_v30, val_main_v29, val_main_v18, val_main_v20, val_main_v24, val_main_v21, val_main_v27, val_main_v28, val_main_cst_2, val_main_cst_3, hn, Ideal.ofBits_zero_f32]
  split_ifs <;> first
    | (exfalso; omega)
    | exact absurd rfl ‹_›
    | exact (congrArg (fun i : Fin 3272 => n (ix2 r i)) (Fin.ext (by first | omega | (dsimp only; done) | (dsimp only; omega)))).trans (packed0 (fun i : Fin 3272 => n (ix2 r i)) _ (by first | omega | (dsimp only; done) | (dsimp only; omega)) (by first | omega | (dsimp only; done) | (dsimp only; omega))).symm
    | exact (congrArg (fun i : Fin 3272 => n (ix2 r i)) (Fin.ext (by first | omega | (dsimp only; done) | (dsimp only; omega)))).trans (packed1 (fun i : Fin 3272 => n (ix2 r i)) _ (by first | omega | (dsimp only; done) | (dsimp only; omega)) (by first | omega | (dsimp only; done) | (dsimp only; omega))).symm
    | exact (congrArg (fun i : Fin 3272 => n (ix2 r i)) (Fin.ext (by first | omega | (dsimp only; done) | (dsimp only; omega)))).trans (packed2 (fun i : Fin 3272 => n (ix2 r i)) _ (by first | omega | (dsimp only; done) | (dsimp only; omega)) (by first | omega | (dsimp only; done) | (dsimp only; omega))).symm
    | exact (congrArg (fun i : Fin 3272 => n (ix2 r i)) (Fin.ext (by first | omega | (dsimp only; done) | (dsimp only; omega)))).trans (packed3 (fun i : Fin 3272 => n (ix2 r i)) _ (by first | omega | (dsimp only; done) | (dsimp only; omega)) (by first | omega | (dsimp only; done) | (dsimp only; omega))).symm
    | exact (packed4 _ _ (by first | omega | (dsimp only; done) | (dsimp only; omega)) (by first | omega | (dsimp only; done) | (dsimp only; omega))).symm
    | exact (packed5 _ _ (by first | omega | (dsimp only; done) | (dsimp only; omega)) (by first | omega | (dsimp only; done) | (dsimp only; omega))).symm
    | exact (congrArg (fun i : Fin 3272 => n (ix2 r i)) (Fin.ext (by first | omega | (dsimp only; done) | (dsimp only; omega)))).trans (packed6 (fun i : Fin 3272 => n (ix2 r i)) _ (by first | omega | (dsimp only; done) | (dsimp only; omega)) (by first | omega | (dsimp only; done) | (dsimp only; omega))).symm

/-- The second result, at row `r`, column `j`. -/
theorem v32_apply (x0 : (⟨S16x2048x1024, .f32⟩ : BufTy).Contents (Elt Ideal)) (x1 : (⟨S2x1024, .f32⟩ : BufTy).Contents (Elt Ideal)) (x2 : (⟨S1x1024x3272, .f32⟩ : BufTy).Contents (Elt Ideal)) (r : Fin 32768) (j : Fin 1792) :
    val_main_v32 (F := Ideal) x0 x1 x2 (ix2 r j)
      = packed (fun j => ∑ k, rms (fun k => x0 (ix3 ⟨r.val / 2048, by omega⟩ ⟨r.val % 2048, by omega⟩ k)) (fun k => x1 (ix2 0 k)) k * x2 (ix3 0 k j)) ⟨1792 + j.val, by omega⟩ := by
  simp only [← v17_apply x0 x1 x2]
  generalize hn : val_main_v17 (F := Ideal) x0 x1 x2 = n
  pointwise [val_main_v32, val_main_v31, val_main_v23, val_main_v25, val_main_v26, val_main_v19, val_main_v22, val_main_cst_4, hn, Ideal.ofBits_zero_f32]
  split_ifs <;> first
    | (exfalso; omega)
    | exact absurd rfl ‹_›
    | exact (congrArg (fun i : Fin 3272 => n (ix2 r i)) (Fin.ext (by first | omega | (dsimp only; done) | (dsimp only; omega)))).trans (packed7 (fun i : Fin 3272 => n (ix2 r i)) _ (by first | omega | (dsimp only; done) | (dsimp only; omega)) (by first | omega | (dsimp only; done) | (dsimp only; omega))).symm
    | exact (congrArg (fun i : Fin 3272 => n (ix2 r i)) (Fin.ext (by first | omega | (dsimp only; done) | (dsimp only; omega)))).trans (packed8 (fun i : Fin 3272 => n (ix2 r i)) _ (by first | omega | (dsimp only; done) | (dsimp only; omega)) (by first | omega | (dsimp only; done) | (dsimp only; omega))).symm
    | exact (congrArg (fun i : Fin 3272 => n (ix2 r i)) (Fin.ext (by first | omega | (dsimp only; done) | (dsimp only; omega)))).trans (packed9 (fun i : Fin 3272 => n (ix2 r i)) _ (by first | omega | (dsimp only; done) | (dsimp only; omega)) (by first | omega | (dsimp only; done) | (dsimp only; omega))).symm
    | exact (congrArg (fun i : Fin 3272 => n (ix2 r i)) (Fin.ext (by first | omega | (dsimp only; done) | (dsimp only; omega)))).trans (packed10 (fun i : Fin 3272 => n (ix2 r i)) _ (by first | omega | (dsimp only; done) | (dsimp only; omega)) (by first | omega | (dsimp only; done) | (dsimp only; omega))).symm
    | exact (congrArg (fun i : Fin 3272 => n (ix2 r i)) (Fin.ext (by first | omega | (dsimp only; done) | (dsimp only; omega)))).trans (packed11 (fun i : Fin 3272 => n (ix2 r i)) _ (by first | omega | (dsimp only; done) | (dsimp only; omega)) (by first | omega | (dsimp only; done) | (dsimp only; omega))).symm
    | exact (packed12 _ _ (by first | omega | (dsimp only; done) | (dsimp only; omega)) (by first | omega | (dsimp only; done) | (dsimp only; omega))).symm

end Cert.NormMatmulRef
-- ==== Proof.NormMatmulRun.lean ====
/- Hand-written: the input projection's call from its first argument to its results. The windows are read at an index through
   the host operations before the call; the blocks of 1024 rows fill both results; so row `r` of them is what the reference
   computes. -/
module

public import proofs.«01_k».proof.Defs
public import proofs.«01_k».proof.Proof.NormMatmulRef
public import Idealize.ShloMosaic.Lib.Quiescent

@[expose] public section

noncomputable section

open Idealize.ShloMosaic Idealize.ShloMosaic.TcCoe Idealize.SL.Sem
open Cert.Rows

namespace Cert.NormMatmul

open Cert.Kernel5Ideal Cert.Kernel5Ideal.Gen
open Idealize.ShloMosaic.Pipeline (Dat)

/-- The weights as the host lays them out for the call: nine slices, one of them twice, and zeros between. -/
def packW (w : Vec Ideal S1024x3272 .bf16) : Vec Ideal S1024x3584 .bf16 :=
  concatenate S1024x3584 1 [⟨S1024x512, extractStridedSlice S1024x512 ![0, 0] w slices_S1024x3272_S1024x512_0_0⟩,
    ⟨S1024x512, extractStridedSlice S1024x512 ![0, 640] w slices_S1024x3272_S1024x512_0_640⟩,
    ⟨S1024x512, extractStridedSlice S1024x512 ![0, 1736] w slices_S1024x3272_S1024x512_0_1736⟩,
    ⟨S1024x64, extractStridedSlice S1024x64 ![0, 1152] w slices_S1024x3272_S1024x64_0_1152⟩,
    ⟨S1024x64, broadcastInDim S1024x64 ![] bcast_S_S1024x64 (constant (F := Ideal) S_ .bf16 0x0000#16)⟩,
    ⟨S1024x64, broadcastInDim S1024x64 ![] bcast_S_S1024x64 (constant (F := Ideal) S_ .bf16 0x0000#16)⟩,
    ⟨S1024x64, extractStridedSlice S1024x64 ![0, 1152] w slices_S1024x3272_S1024x64_0_1152⟩,
    ⟨S1024x512, extractStridedSlice S1024x512 ![0, 1224] w slices_S1024x3272_S1024x512_0_1224⟩,
    ⟨S1024x512, extractStridedSlice S1024x512 ![0, 2248] w slices_S1024x3272_S1024x512_0_2248⟩,
    ⟨S1024x512, extractStridedSlice S1024x512 ![0, 2760] w slices_S1024x3272_S1024x512_0_2760⟩,
    ⟨S1024x128, extractStridedSlice S1024x128 ![0, 512] w slices_S1024x3272_S1024x128_0_512⟩,
    ⟨S1024x8, extractStridedSlice S1024x8 ![0, 1216] w slices_S1024x3272_S1024x8_0_1216⟩,
    ⟨S1024x120, broadcastInDim S1024x120 ![] bcast_S_S1024x120 (constant (F := Ideal) S_ .bf16 0x0000#16)⟩] concatenates_S1024x512_S1024x512_S1024x512_S1024x64_S1024x64_S1024x64_S1024x64_S1024x512_S1024x512_S1024x512_S1024x128_S1024x8_S1024x120_S1024x3584_d1

/-- Row `k` of the laid-out weights is the packed row `k` of the weights. -/
theorem packW_apply (w : Vec Ideal S1024x3272 .bf16) (k : Fin 1024) (j : Fin 3584) :
    packW w (ix2 k j) = packed (fun j => w (ix2 k j)) j := by
  pointwise [packW, Ideal.ofBits_zero_bf16]
  by_cases h0 : j.val < 512
  · rw [dif_pos h0]
    exact (congrArg (fun i : Fin 3272 => w (ix2 k i)) (Fin.ext (by first | omega | (dsimp only; done) | (dsimp only; omega)))).trans (packed0 (fun i : Fin 3272 => w (ix2 k i)) _ (by omega) (by omega)).symm
  rw [dif_neg h0]
  by_cases h1 : j.val - 512 < 512
  · rw [dif_pos h1]
    exact (congrArg (fun i : Fin 3272 => w (ix2 k i)) (Fin.ext (by first | omega | (dsimp only; done) | (dsimp only; omega)))).trans (packed1 (fun i : Fin 3272 => w (ix2 k i)) _ (by omega) (by omega)).symm
  rw [dif_neg h1]
  by_cases h2 : j.val - 512 - 512 < 512
  · rw [dif_pos h2]
    exact (congrArg (fun i : Fin 3272 => w (ix2 k i)) (Fin.ext (by first | omega | (dsimp only; done) | (dsimp only; omega)))).trans (packed2 (fun i : Fin 3272 => w (ix2 k i)) _ (by omega) (by omega)).symm
  rw [dif_neg h2]
  by_cases h3 : j.val - 512 - 512 - 512 < 64
  · rw [dif_pos h3]
    exact (congrArg (fun i : Fin 3272 => w (ix2 k i)) (Fin.ext (by first | omega | (dsimp only; done) | (dsimp only; omega)))).trans (packed3 (fun i : Fin 3272 => w (ix2 k i)) _ (by omega) (by omega)).symm
  rw [dif_neg h3]
  by_cases h4 : j.val - 512 - 512 - 512 - 64 < 64
  · rw [dif_pos h4]
    exact (packed4 _ _ (by omega) (by omega)).symm
  rw [dif_neg h4]
  by_cases h5 : j.val - 512 - 512 - 512 - 64 - 64 < 64
  · rw [dif_pos h5]
    exact (packed5 _ _ (by omega) (by omega)).symm
  rw [dif_neg h5]
  by_cases h6 : j.val - 512 - 512 - 512 - 64 - 64 - 64 < 64
  · rw [dif_pos h6]
    exact (congrArg (fun i : Fin 3272 => w (ix2 k i)) (Fin.ext (by first | omega | (dsimp only; done) | (dsimp only; omega)))).trans (packed6 (fun i : Fin 3272 => w (ix2 k i)) _ (by omega) (by omega)).symm
  rw [dif_neg h6]
  by_cases h7 : j.val - 512 - 512 - 512 - 64 - 64 - 64 - 64 < 512
  · rw [dif_pos h7]
    exact (congrArg (fun i : Fin 3272 => w (ix2 k i)) (Fin.ext (by first | omega | (dsimp only; done) | (dsimp only; omega)))).trans (packed7 (fun i : Fin 3272 => w (ix2 k i)) _ (by omega) (by omega)).symm
  rw [dif_neg h7]
  by_cases h8 : j.val - 512 - 512 - 512 - 64 - 64 - 64 - 64 - 512 < 512
  · rw [dif_pos h8]
    exact (congrArg (fun i : Fin 3272 => w (ix2 k i)) (Fin.ext (by first | omega | (dsimp only; done) | (dsimp only; omega)))).trans (packed8 (fun i : Fin 3272 => w (ix2 k i)) _ (by omega) (by omega)).symm
  rw [dif_neg h8]
  by_cases h9 : j.val - 512 - 512 - 512 - 64 - 64 - 64 - 64 - 512 - 512 < 512
  · rw [dif_pos h9]
    exact (congrArg (fun i : Fin 3272 => w (ix2 k i)) (Fin.ext (by first | omega | (dsimp only; done) | (dsimp only; omega)))).trans (packed9 (fun i : Fin 3272 => w (ix2 k i)) _ (by omega) (by omega)).symm
  rw [dif_neg h9]
  by_cases h10 : j.val - 512 - 512 - 512 - 64 - 64 - 64 - 64 - 512 - 512 - 512 < 128
  · rw [dif_pos h10]
    exact (congrArg (fun i : Fin 3272 => w (ix2 k i)) (Fin.ext (by first | omega | (dsimp only; done) | (dsimp only; omega)))).trans (packed10 (fun i : Fin 3272 => w (ix2 k i)) _ (by omega) (by omega)).symm
  rw [dif_neg h10]
  by_cases h11 : j.val - 512 - 512 - 512 - 64 - 64 - 64 - 64 - 512 - 512 - 512 - 128 < 8
  · rw [dif_pos h11]
    exact (congrArg (fun i : Fin 3272 => w (ix2 k i)) (Fin.ext (by first | omega | (dsimp only; done) | (dsimp only; omega)))).trans (packed11 (fun i : Fin 3272 => w (ix2 k i)) _ (by omega) (by omega)).symm
  rw [dif_neg h11]
  exact (packed12 _ _ (by omega) (by omega)).symm

theorem castW (x : FVec Ideal S1x1024x3272 .f32) (k : Fin 1024) (j : Fin 3272) :
    truncf (F := Ideal) .bf16 (shapeCast S1024x3272 x shapeCasts_S1x1024x3272_S1024x3272) bitsLt_bf16_f32 (ix2 k j) = x (ix3 0 k j) := by
  pointwise []

theorem cast0 (x : FVec Ideal S16x2048x1024 .f32) (r : Fin 32768) (k : Fin 1024) :
    shapeCast S32768x1024 x shapeCasts_S16x2048x1024_S32768x1024 (ix2 r k) = x (ix3 ⟨r.val / 2048, by omega⟩ ⟨r.val % 2048, by omega⟩ k) := by
  pointwise []

theorem cast1 (x : FVec Ideal S2x1024 .f32) (k : Fin 1024) :
    shapeCast S1x1024 (shapeCast S1024 (extractStridedSlice S1x1024 ![0, 0] x slices_S2x1024_S1x1024_0_0) shapeCasts_S1x1024_S1024) shapeCasts_S1024_S1x1024 (ix2 0 k) = x (ix2 0 k) := by
  pointwise []

variable (m : (ℓ : Loc nD τ sig) → Buf (Elt Ideal) ℓ) (ρ : Dev nD → PrngReg)

/-- The activations as the call finds them: the argument with its first two axes joined. -/
theorem V_v0 (c : Dev nD) : V m c main_v0 = shapeCast S32768x1024 (m ((c : Thread nD τ).loc main_arg0)) shapeCasts_S16x2048x1024_S32768x1024 := by
  unfold_abbrev_sides
  after_results
  rfl

/-- The norm weight as the call finds it: row 0 of the argument. -/
theorem V_v18 (c : Dev nD) : V m c main_v18 = shapeCast S1x1024 (shapeCast S1024 (extractStridedSlice S1x1024 ![0, 0] (m ((c : Thread nD τ).loc main_arg1)) slices_S2x1024_S1x1024_0_0) shapeCasts_S1x1024_S1024) shapeCasts_S1024_S1x1024 := by
  unfold_abbrev_sides
  after_results
  rfl

/-- The weights as the call finds them: the argument cast and laid out. -/
theorem V_v17 (c : Dev nD) : V m c main_v17 = packW (truncf (F := Ideal) .bf16 (shapeCast S1024x3272 (m ((c : Thread nD τ).loc main_arg2)) shapeCasts_S1x1024x3272_S1024x3272) bitsLt_bf16_f32) := by
  unfold_abbrev_sides
  after_results
  rfl

/-- Where each window's block lies, at each of the 32 points. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

theorem lt32 (t : Fin cfg0.N) : t.val < 32 := by
  have h : t.val < grid0.N := t.isLt
  rwa [N_0] at h

/-- Row `r` of point `t`'s block, as a row of the whole array. -/
abbrev rowAt (t : Fin cfg0.N) (r : Fin 1024) : Fin 32768 := ⟨t.val * 1024 + r.val, by have := lt32 t; omega⟩

theorem emb0 (t : Fin cfg0.N) (r k : Fin 1024) : ((cfg0.win 0).blk t).view.emb (ix2 r k) = ix2 (rowAt t r) k := by
  obtain ⟨⟨e0, e1⟩, _⟩ := idx_facts t
  funext a; apply Fin.ext
  match a with
  | ⟨0, _⟩ => show win0_0.index t (0 : Fin 2) * 1024 + 1 * r.val = t.val * 1024 + r.val; omega
  | ⟨1, _⟩ => show win0_0.index t (1 : Fin 2) * 1024 + 1 * k.val = k.val; omega

theorem emb1 (t : Fin cfg0.N) (z : Fin 1) (k : Fin 1024) : ((cfg0.win 1).blk t).view.emb (ix2 z k) = ix2 z k := by
  obtain ⟨_, ⟨e0, e1⟩, _⟩ := idx_facts t
  funext a; apply Fin.ext
  match a with
  | ⟨0, _⟩ => show win0_1.index t (0 : Fin 2) * 1 + 1 * z.val = z.val; omega
  | ⟨1, _⟩ => show win0_1.index t (1 : Fin 2) * 1024 + 1 * k.val = k.val; omega

theorem emb2 (t : Fin cfg0.N) (k : Fin 1024) (j : Fin 3584) : ((cfg0.win 2).blk t).view.emb (ix2 k j) = ix2 k j := by
  obtain ⟨_, _, ⟨e0, e1⟩, _⟩ := idx_facts t
  funext a; apply Fin.ext
  match a with
  | ⟨0, _⟩ => show win0_2.index t (0 : Fin 2) * 1024 + 1 * k.val = k.val; omega
  | ⟨1, _⟩ => show win0_2.index t (1 : Fin 2) * 3584 + 1 * j.val = j.val; omega

theorem emb3 (t : Fin cfg0.N) (r : Fin 1024) (j : Fin 1792) : ((cfg0.win 3).blk t).view.emb (ix2 r j) = ix2 (rowAt t r) j := by
  obtain ⟨_, _, _, ⟨e0, e1⟩, _⟩ := idx_facts t
  funext a; apply Fin.ext
  match a with
  | ⟨0, _⟩ => show win0_3.index t (0 : Fin 2) * 1024 + 1 * r.val = t.val * 1024 + r.val; omega
  | ⟨1, _⟩ => show win0_3.index t (1 : Fin 2) * 1792 + 1 * j.val = j.val; omega

theorem emb4 (t : Fin cfg0.N) (r : Fin 1024) (j : Fin 1792) : ((cfg0.win 4).blk t).view.emb (ix2 r j) = ix2 (rowAt t r) j := by
  obtain ⟨_, _, _, _, ⟨e0, e1⟩⟩ := idx_facts t
  funext a; apply Fin.ext
  match a with
  | ⟨0, _⟩ => show win0_4.index t (0 : Fin 2) * 1024 + 1 * r.val = t.val * 1024 + r.val; omega
  | ⟨1, _⟩ => show win0_4.index t (1 : Fin 2) * 1792 + 1 * j.val = j.val; omega

theorem iblk0_apply (c : Dev nD) (t : Fin cfg0.N) (r k : Fin 1024) :
    (iblk m c 0 t : S1024x1024.Idx → EReal) (ix2 r k)
      = (m ((c : Thread nD τ).loc main_arg0) : S16x2048x1024.Idx → EReal) (ix3 ⟨(rowAt t r).val / 2048, by omega⟩ ⟨(rowAt t r).val % 2048, by omega⟩ k) := by
  show V m c main_v0 (((cfg0.win 0).blk t).view.emb (ix2 r k)) = _
  rw [emb0]
  exact (congrFun (V_v0 m c) _).trans (cast0 _ _ _)

theorem iblk1_apply (c : Dev nD) (t : Fin cfg0.N) (k : Fin 1024) :
    (iblk m c 1 t : S1x1024.Idx → EReal) (ix2 0 k) = (m ((c : Thread nD τ).loc main_arg1) : S2x1024.Idx → EReal) (ix2 0 k) := by
  show V m c main_v18 (((cfg0.win 1).blk t).view.emb (ix2 0 k)) = _
  rw [emb1]
  exact (congrFun (V_v18 m c) _).trans (cast1 _ _)

theorem iblk2_apply (c : Dev nD) (t : Fin cfg0.N) (k : Fin 1024) (j : Fin 3584) :
    (iblk m c 2 t : S1024x3584.Idx → EReal) (ix2 k j)
      = packed (fun j => (m ((c : Thread nD τ).loc main_arg2) : S1x1024x3272.Idx → EReal) (ix3 0 k j)) j := by
  show V m c main_v17 (((cfg0.win 2).blk t).view.emb (ix2 k j)) = _
  rw [emb2]
  exact (congrFun (V_v17 m c) _).trans ((packW_apply _ _ _).trans (congrArg (packed · j) (funext fun _ => castW _ _ _)))

/-- THE FIRST ARRAY AFTER THE RUN, AT AN INDEX. -/
theorem final3_apply (c : Dev nD) (r : Fin 32768) (j : Fin 1792) :
    ((dats m 0 c).arrAt 3 cfg0.N : S32768x1792.Idx → EReal) (ix2 r j)
      = packed (fun j => ∑ k, rms (fun k => (m ((c : Thread nD τ).loc main_arg0) : S16x2048x1024.Idx → EReal) (ix3 ⟨r.val / 2048, by omega⟩ ⟨r.val % 2048, by omega⟩ k))
          (fun k => (m ((c : Thread nD τ).loc main_arg1) : S2x1024.Idx → EReal) (ix2 0 k)) k
          * (m ((c : Thread nD τ).loc main_arg2) : S1x1024x3272.Idx → EReal) (ix3 0 k j)) ⟨j.val, by omega⟩ := by
  obtain ⟨t, ht⟩ : ∃ t : Fin cfg0.N, t.val = r.val / 1024 := ⟨⟨r.val / 1024, by show _ < grid0.N; rw [N_0]; omega⟩, rfl⟩
  have hr : r = rowAt t ⟨r.val % 1024, by omega⟩ := Fin.ext (by show r.val = t.val * 1024 + r.val % 1024; omega)
  generalize (⟨r.val % 1024, by omega⟩ : Fin 1024) = q at hr
  subst hr
  have b := congrFun (Cert.Kernel5Ideal.Value.blocks3 m c t (flush0_3 t)) (ix2 q j)
  rw [Cert.Kernel5Ideal.Value.flushed3] at b
  have b' : (dats m 0 c).arrAt 3 cfg0.N (((cfg0.win 3).blk t).view.emb (ix2 q j)) = _ := b
  rw [emb3] at b'
  refine b'.trans ((out3_apply _ _ _ (ix2 q j)).trans ?_)
  show proj _ _ _ _ = _
  unfold proj
  simp only [ix2_0, ix2_1, iblk0_apply, iblk1_apply, iblk2_apply]
  exact sum_packed _ (fun k j => (m ((c : Thread nD τ).loc main_arg2) : S1x1024x3272.Idx → EReal) (ix3 0 k j)) _

/-- THE SECOND ARRAY AFTER THE RUN, AT AN INDEX. -/
theorem final4_apply (c : Dev nD) (r : Fin 32768) (j : Fin 1792) :
    ((dats m 0 c).arrAt 4 cfg0.N : S32768x1792.Idx → EReal) (ix2 r j)
      = packed (fun j => ∑ k, rms (fun k => (m ((c : Thread nD τ).loc main_arg0) : S16x2048x1024.Idx → EReal) (ix3 ⟨r.val / 2048, by omega⟩ ⟨r.val % 2048, by omega⟩ k))
          (fun k => (m ((c : Thread nD τ).loc main_arg1) : S2x1024.Idx → EReal) (ix2 0 k)) k
          * (m ((c : Thread nD τ).loc main_arg2) : S1x1024x3272.Idx → EReal) (ix3 0 k j)) ⟨1792 + j.val, by omega⟩ := by
  obtain ⟨t, ht⟩ : ∃ t : Fin cfg0.N, t.val = r.val / 1024 := ⟨⟨r.val / 1024, by show _ < grid0.N; rw [N_0]; omega⟩, rfl⟩
  have hr : r = rowAt t ⟨r.val % 1024, by omega⟩ := Fin.ext (by show r.val = t.val * 1024 + r.val % 1024; omega)
  generalize (⟨r.val % 1024, by omega⟩ : Fin 1024) = q at hr
  subst hr
  have b := congrFun (Cert.Kernel5Ideal.Value.blocks4 m c t (flush0_4 t)) (ix2 q j)
  rw [Cert.Kernel5Ideal.Value.flushed4] at b
  have b' : (dats m 0 c).arrAt 4 cfg0.N (((cfg0.win 4).blk t).view.emb (ix2 q j)) = _ := b
  rw [emb4] at b'
  refine b'.trans ((out4_apply _ _ _ (ix2 q j)).trans ?_)
  show proj _ _ _ _ = _
  unfold proj
  simp only [ix2_0, ix2_1, iblk0_apply, iblk1_apply, iblk2_apply]
  exact sum_packed _ (fun k j => (m ((c : Thread nD τ).loc main_arg2) : S1x1024x3272.Idx → EReal) (ix3 0 k j)) _

end Cert.NormMatmul

/-- THE VALUE CLAIM of the input projection's call: at the ideal instance, from equal arguments, the call and the reference
    end with the same two result arrays. -/
theorem Cert.Proof.algebraic5 :
    Cert.algebraic_Kernel5Ideal_Reference5Ideal (hKernel5Ideal := Cert.Kernel5Ideal.Gen.facts) (hReference5Ideal := Cert.Reference5Ideal.Gen.facts) := by
  intro m g m' g' _ hargs
  refine ⟨fun c => (Cert.Kernel5Ideal.Gen.dats m 0 c).arrAt 3 Cert.Kernel5Ideal.cfg0.N, fun c => (Cert.Kernel5Ideal.Gen.dats m 0 c).arrAt 4 Cert.Kernel5Ideal.cfg0.N, Cert.Kernel5Ideal.Value.run_blocks m g, ?_⟩
  refine (θ_run _ _ _).mono (fun _ h c => ⟨(h c).1.trans ?_, (h c).2.1.trans ?_, (h c).2.2⟩) (Cert.Reference5Ideal.Value.run m' g')
  · rw [Cert.Reference5Ideal.Read.val_main_v30_eq, (hargs c).1, (hargs c).2.1, (hargs c).2.2]
    funext y
    obtain ⟨r, k, rfl⟩ : ∃ (r : Fin 32768) (k : Fin 1792), y = ix2 r k := ⟨y 0, y 1, (ix2_eta y).symm⟩
    exact (Cert.NormMatmulRef.v30_apply _ _ _ r k).trans (Cert.NormMatmul.final3_apply m c r k).symm
  · rw [Cert.Reference5Ideal.Read.val_main_v32_eq, (hargs c).1, (hargs c).2.1, (hargs c).2.2]
    funext y
    obtain ⟨r, k, rfl⟩ : ∃ (r : Fin 32768) (k : Fin 1792), y = ix2 r k := ⟨y 0, y 1, (ix2_eta y).symm⟩
    exact (Cert.NormMatmulRef.v32_apply _ _ _ r k).trans (Cert.NormMatmul.final4_apply m c r k).symm
-- ==== Proof.SwigluA.lean ====
/-
  Untrusted. The feed-forward of layer 0: what one grid point writes, row by row.
-/
module

public import proofs.«01_k».proof.Proof.Gen.Kernel6Ideal.Value
public import proofs.«01_k».proof.Proof.Swiglu

@[expose] public section

set_option maxRecDepth 16384

noncomputable section
namespace Cert.SwigluA
open Cert.Kernel6Ideal Cert.Kernel6Ideal.Gen Cert.Rows
open Cert.Swiglu (gated down)
open Idealize.ShloMosaic Idealize.ShloMosaic.TcCoe

/-- The layer on one row. -/
def row (h fn : Fin 1024 → EReal) (wgu : Fin 1024 → Fin 5632 → EReal) (wd : Fin 2816 → Fin 1024 → EReal) (k : Fin 1024) : EReal :=
  down h (gated (rms h fn) wgu) wd k

theorem pay2_apply (v0 : Vec Ideal S1024x1024 .f32) (v2 : Vec Ideal S1x1024 .f32) (r k : Fin 1024) :
    k0_pay2 (F := Ideal) v0 v2 (ix2 r k) = rms (fun k => v0 (ix2 r k)) (fun k => v2 (ix2 0 k)) k := by
  pointwise [k0_pay2, k0_pay1, rms]

theorem pay16_apply (v1 : FVec Ideal S1024x1024 .f32) (v160 : Vec Ideal S1024x2816 .bf16) (v161 : Vec Ideal S1x2816x1024 .bf16) (r k : Fin 1024) :
    k0_pay16 (F := Ideal) v1 v160 v161 (ix2 r k) = down (fun k => v1 (ix2 r k)) (fun j => v160 (ix2 r j)) (fun j k => v161 (ix3 0 j k)) k := by
  pointwise [k0_pay16, down]

/-- The gated hidden row of a block: at row `r`, column `j`. -/
def hidden (n : FVec Ideal S1024x1024 .bf16) (x2 : Vec Ideal S1x1024x5632 .bf16) (y : S1024x2816.Idx) : EReal :=
  gated (fun k => n (ix2 (y 0) k)) (fun k j => x2 (ix3 0 k j)) (y 1)

/-- A tile of 256 columns that begins at column `o` places its index `(a, b)` at `(a, o + b)`. -/
theorem emb_col (o : ℕ) (inb : ∀ a, (![0, o] : Fin 2 → ℕ) a + S1024x256.size a ≤ S1024x2816.size a) (ho : o ≤ 2560) (a : Fin 1024) (b : Fin 256) :
    (Rect.unit (s := S1024x2816) ![0, o] S1024x256.size inb).emb (ix2 a b) = ix2 a ⟨o + b.val, by omega⟩ := by
  funext d; apply Fin.ext
  match d with
  | ⟨0, _⟩ => show 0 + 1 * a.val = a.val; omega
  | ⟨1, _⟩ => show o + 1 * b.val = o + b.val; omega

/-- Columns 0 to 255 of the hidden block are what the body stores there. -/
theorem chunk0 (x0 : Vec Ideal S1024x1024 .f32) (x1 : Vec Ideal S1x1024 .f32) (x2 : Vec Ideal S1x1024x5632 .bf16) (z : S1024x256.Idx) :
    k0_pay3 x0 x1 (fun z => x2 ((Rect.unit (s := S1x1024x5632) ![0, 0, 0] S1x1024x256.size inb_S1x1024x5632_S1x1024x256_0_0_0).toLoadRect.idx z)) (fun z => x2 ((Rect.unit (s := S1x1024x5632) ![0, 0, 2816] S1x1024x256.size inb_S1x1024x5632_S1x1024x256_0_0_2816).toLoadRect.idx z)) z
      = hidden (k0_pay2 x0 x1) x2 ((Rect.unit (s := S1024x2816) ![0, 0] S1024x256.size inb_S1024x2816_S1024x256_0_0).emb z) := by
  idx_vars z
  rw [emb_col 0 _ (by omega)]
  generalize hn : k0_pay2 (F := Ideal) x0 x1 = n
  pointwise [k0_pay3, hidden, gated, hn]

/-- Columns 256 to 511 of the hidden block are what the body stores there. -/
theorem chunk1 (x0 : Vec Ideal S1024x1024 .f32) (x1 : Vec Ideal S1x1024 .f32) (x2 : Vec Ideal S1x1024x5632 .bf16) (z : S1024x256.Idx) :
    k0_pay5 (k0_pay2 x0 x1) (k0_pay4 x0 x1 (fun z => x2 ((Rect.unit (s := S1x1024x5632) ![0, 0, 256] S1x1024x256.size inb_S1x1024x5632_S1x1024x256_0_0_256).toLoadRect.idx z))) (fun z => x2 ((Rect.unit (s := S1x1024x5632) ![0, 0, 3072] S1x1024x256.size inb_S1x1024x5632_S1x1024x256_0_0_3072).toLoadRect.idx z)) z
      = hidden (k0_pay2 x0 x1) x2 ((Rect.unit (s := S1024x2816) ![0, 256] S1024x256.size inb_S1024x2816_S1024x256_0_256).emb z) := by
  idx_vars z
  rw [emb_col 256 _ (by omega)]
  generalize hn : k0_pay2 (F := Ideal) x0 x1 = n
  pointwise [k0_pay5, k0_pay4, hidden, gated, hn]
  simp only [← Nat.add_assoc, Nat.reduceAdd, Nat.zero_add]

/-- Columns 512 to 767 of the hidden block are what the body stores there. -/
theorem chunk2 (x0 : Vec Ideal S1024x1024 .f32) (x1 : Vec Ideal S1x1024 .f32) (x2 : Vec Ideal S1x1024x5632 .bf16) (z : S1024x256.Idx) :
    k0_pay6 (k0_pay2 x0 x1) (fun z => x2 ((Rect.unit (s := S1x1024x5632) ![0, 0, 512] S1x1024x256.size inb_S1x1024x5632_S1x1024x256_0_0_512).toLoadRect.idx z)) (fun z => x2 ((Rect.unit (s := S1x1024x5632) ![0, 0, 3328] S1x1024x256.size inb_S1x1024x5632_S1x1024x256_0_0_3328).toLoadRect.idx z)) z
      = hidden (k0_pay2 x0 x1) x2 ((Rect.unit (s := S1024x2816) ![0, 512] S1024x256.size inb_S1024x2816_S1024x256_0_512).emb z) := by
  idx_vars z
  rw [emb_col 512 _ (by omega)]
  generalize hn : k0_pay2 (F := Ideal) x0 x1 = n
  pointwise [k0_pay6, hidden, gated, hn]
  simp only [← Nat.add_assoc, Nat.reduceAdd, Nat.zero_add]

/-- Columns 768 to 1023 of the hidden block are what the body stores there. -/
theorem chunk3 (x0 : Vec Ideal S1024x1024 .f32) (x1 : Vec Ideal S1x1024 .f32) (x2 : Vec Ideal S1x1024x5632 .bf16) (z : S1024x256.Idx) :
    k0_pay7 (k0_pay2 x0 x1) (fun z => x2 ((Rect.unit (s := S1x1024x5632) ![0, 0, 768] S1x1024x256.size inb_S1x1024x5632_S1x1024x256_0_0_768).toLoadRect.idx z)) (fun z => x2 ((Rect.unit (s := S1x1024x5632) ![0, 0, 3584] S1x1024x256.size inb_S1x1024x5632_S1x1024x256_0_0_3584).toLoadRect.idx z)) z
      = hidden (k0_pay2 x0 x1) x2 ((Rect.unit (s := S1024x2816) ![0, 768] S1024x256.size inb_S1024x2816_S1024x256_0_768).emb z) := by
  idx_vars z
  rw [emb_col 768 _ (by omega)]
  generalize hn : k0_pay2 (F := Ideal) x0 x1 = n
  pointwise [k0_pay7, hidden, gated, hn]
  simp only [← Nat.add_assoc, Nat.reduceAdd, Nat.zero_add]

/-- Columns 1024 to 1279 of the hidden block are what the body stores there. -/
theorem chunk4 (x0 : Vec Ideal S1024x1024 .f32) (x1 : Vec Ideal S1x1024 .f32) (x2 : Vec Ideal S1x1024x5632 .bf16) (z : S1024x256.Idx) :
    k0_pay8 (k0_pay2 x0 x1) (fun z => x2 ((Rect.unit (s := S1x1024x5632) ![0, 0, 1024] S1x1024x256.size inb_S1x1024x5632_S1x1024x256_0_0_1024).toLoadRect.idx z)) (fun z => x2 ((Rect.unit (s := S1x1024x5632) ![0, 0, 3840] S1x1024x256.size inb_S1x1024x5632_S1x1024x256_0_0_3840).toLoadRect.idx z)) z
      = hidden (k0_pay2 x0 x1) x2 ((Rect.unit (s := S1024x2816) ![0, 1024] S1024x256.size inb_S1024x2816_S1024x256_0_1024).emb z) := by
  idx_vars z
  rw [emb_col 1024 _ (by omega)]
  generalize hn : k0_pay2 (F := Ideal) x0 x1 = n
  pointwise [k0_pay8, hidden, gated, hn]
  simp only [← Nat.add_assoc, Nat.reduceAdd, Nat.zero_add]

/-- Columns 1280 to 1535 of the hidden block are what the body stores there. -/
theorem chunk5 (x0 : Vec Ideal S1024x1024 .f32) (x1 : Vec Ideal S1x1024 .f32) (x2 : Vec Ideal S1x1024x5632 .bf16) (z : S1024x256.Idx) :
    k0_pay9 (k0_pay2 x0 x1) (fun z => x2 ((Rect.unit (s := S1x1024x5632) ![0, 0, 1280] S1x1024x256.size inb_S1x1024x5632_S1x1024x256_0_0_1280).toLoadRect.idx z)) (fun z => x2 ((Rect.unit (s := S1x1024x5632) ![0, 0, 4096] S1x1024x256.size inb_S1x1024x5632_S1x1024x256_0_0_4096).toLoadRect.idx z)) z
      = hidden (k0_pay2 x0 x1) x2 ((Rect.unit (s := S1024x2816) ![0, 1280] S1024x256.size inb_S1024x2816_S1024x256_0_1280).emb z) := by
  idx_vars z
  rw [emb_col 1280 _ (by omega)]
  generalize hn : k0_pay2 (F := Ideal) x0 x1 = n
  pointwise [k0_pay9, hidden, gated, hn]
  simp only [← Nat.add_assoc, Nat.reduceAdd, Nat.zero_add]

/-- Columns 1536 to 1791 of the hidden block are what the body stores there. -/
theorem chunk6 (x0 : Vec Ideal S1024x1024 .f32) (x1 : Vec Ideal S1x1024 .f32) (x2 : Vec Ideal S1x1024x5632 .bf16) (z : S1024x256.Idx) :
    k0_pay11 (k0_pay2 x0 x1) (k0_pay10 (k0_pay2 x0 x1) (fun z => x2 ((Rect.unit (s := S1x1024x5632) ![0, 0, 1536] S1x1024x256.size inb_S1x1024x5632_S1x1024x256_0_0_1536).toLoadRect.idx z))) (fun z => x2 ((Rect.unit (s := S1x1024x5632) ![0, 0, 4352] S1x1024x256.size inb_S1x1024x5632_S1x1024x256_0_0_4352).toLoadRect.idx z)) z
      = hidden (k0_pay2 x0 x1) x2 ((Rect.unit (s := S1024x2816) ![0, 1536] S1024x256.size inb_S1024x2816_S1024x256_0_1536).emb z) := by
  idx_vars z
  rw [emb_col 1536 _ (by omega)]
  generalize hn : k0_pay2 (F := Ideal) x0 x1 = n
  pointwise [k0_pay11, k0_pay10, hidden, gated, hn]
  simp only [← Nat.add_assoc, Nat.reduceAdd, Nat.zero_add]

/-- Columns 1792 to 2047 of the hidden block are what the body stores there. -/
theorem chunk7 (x0 : Vec Ideal S1024x1024 .f32) (x1 : Vec Ideal S1x1024 .f32) (x2 : Vec Ideal S1x1024x5632 .bf16) (z : S1024x256.Idx) :
    k0_pay12 (k0_pay2 x0 x1) (fun z => x2 ((Rect.unit (s := S1x1024x5632) ![0, 0, 1792] S1x1024x256.size inb_S1x1024x5632_S1x1024x256_0_0_1792).toLoadRect.idx z)) (fun z => x2 ((Rect.unit (s := S1x1024x5632) ![0, 0, 4608] S1x1024x256.size inb_S1x1024x5632_S1x1024x256_0_0_4608).toLoadRect.idx z)) z
      = hidden (k0_pay2 x0 x1) x2 ((Rect.unit (s := S1024x2816) ![0, 1792] S1024x256.size inb_S1024x2816_S1024x256_0_1792).emb z) := by
  idx_vars z
  rw [emb_col 1792 _ (by omega)]
  generalize hn : k0_pay2 (F := Ideal) x0 x1 = n
  pointwise [k0_pay12, hidden, gated, hn]
  simp only [← Nat.add_assoc, Nat.reduceAdd, Nat.zero_add]

/-- Columns 2048 to 2303 of the hidden block are what the body stores there. -/
theorem chunk8 (x0 : Vec Ideal S1024x1024 .f32) (x1 : Vec Ideal S1x1024 .f32) (x2 : Vec Ideal S1x1024x5632 .bf16) (z : S1024x256.Idx) :
    k0_pay13 (k0_pay2 x0 x1) (fun z => x2 ((Rect.unit (s := S1x1024x5632) ![0, 0, 2048] S1x1024x256.size inb_S1x1024x5632_S1x1024x256_0_0_2048).toLoadRect.idx z)) (fun z => x2 ((Rect.unit (s := S1x1024x5632) ![0, 0, 4864] S1x1024x256.size inb_S1x1024x5632_S1x1024x256_0_0_4864).toLoadRect.idx z)) z
      = hidden (k0_pay2 x0 x1) x2 ((Rect.unit (s := S1024x2816) ![0, 2048] S1024x256.size inb_S1024x2816_S1024x256_0_2048).emb z) := by
  idx_vars z
  rw [emb_col 2048 _ (by omega)]
  generalize hn : k0_pay2 (F := Ideal) x0 x1 = n
  pointwise [k0_pay13, hidden, gated, hn]
  simp only [← Nat.add_assoc, Nat.reduceAdd, Nat.zero_add]

/-- Columns 2304 to 2559 of the hidden block are what the body stores there. -/
theorem chunk9 (x0 : Vec Ideal S1024x1024 .f32) (x1 : Vec Ideal S1x1024 .f32) (x2 : Vec Ideal S1x1024x5632 .bf16) (z : S1024x256.Idx) :
    k0_pay14 (k0_pay2 x0 x1) (fun z => x2 ((Rect.unit (s := S1x1024x5632) ![0, 0, 2304] S1x1024x256.size inb_S1x1024x5632_S1x1024x256_0_0_2304).toLoadRect.idx z)) (fun z => x2 ((Rect.unit (s := S1x1024x5632) ![0, 0, 5120] S1x1024x256.size inb_S1x1024x5632_S1x1024x256_0_0_5120).toLoadRect.idx z)) z
      = hidden (k0_pay2 x0 x1) x2 ((Rect.unit (s := S1024x2816) ![0, 2304] S1024x256.size inb_S1024x2816_S1024x256_0_2304).emb z) := by
  idx_vars z
  rw [emb_col 2304 _ (by omega)]
  generalize hn : k0_pay2 (F := Ideal) x0 x1 = n
  pointwise [k0_pay14, hidden, gated, hn]
  simp only [← Nat.add_assoc, Nat.reduceAdd, Nat.zero_add]

/-- Columns 2560 to 2815 of the hidden block are what the body stores there. -/
theorem chunk10 (x0 : Vec Ideal S1024x1024 .f32) (x1 : Vec Ideal S1x1024 .f32) (x2 : Vec Ideal S1x1024x5632 .bf16) (z : S1024x256.Idx) :
    k0_pay15 (k0_pay2 x0 x1) (fun z => x2 ((Rect.unit (s := S1x1024x5632) ![0, 0, 2560] S1x1024x256.size inb_S1x1024x5632_S1x1024x256_0_0_2560).toLoadRect.idx z)) (fun z => x2 ((Rect.unit (s := S1x1024x5632) ![0, 0, 5376] S1x1024x256.size inb_S1x1024x5632_S1x1024x256_0_0_5376).toLoadRect.idx z)) z
      = hidden (k0_pay2 x0 x1) x2 ((Rect.unit (s := S1024x2816) ![0, 2560] S1024x256.size inb_S1024x2816_S1024x256_0_2560).emb z) := by
  idx_vars z
  rw [emb_col 2560 _ (by omega)]
  generalize hn : k0_pay2 (F := Ideal) x0 x1 = n
  pointwise [k0_pay15, hidden, gated, hn]
  simp only [← Nat.add_assoc, Nat.reduceAdd, Nat.zero_add]

set_option maxHeartbeats 1000000 in
/-- WHAT ONE POINT WRITES: row `r` of its block is the layer of row `r` of its input block. -/
theorem out_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x2816 .bf16) (harg7 : arg7.IsWhole)
    (x0 : Vec Ideal S1024x1024 .f32) (x1 : Vec Ideal S1x1024 .f32) (x2 : Vec Ideal S1x1024x5632 .bf16) (x3 : Vec Ideal S1x2816x1024 .bf16) (x4 : Vec Ideal S1x1024 .f32) (r k : Fin 1024) :
    out0_A_5 c i arg1 harg1 arg2 harg2 arg3 harg3 arg4 harg4 arg5 harg5 arg6 harg6 arg7 harg7 x0 x1 x2 x3 x4 (ix2 r k)
      = row (fun k => x0 (ix2 r k)) (fun k => x1 (ix2 0 k)) (fun k j => x2 (ix3 0 k j)) (fun j k => x3 (ix3 0 j k)) k := by
  unfold out0_A_5 kernelRun0_A
  sl_unfold_words
  simp only [readAt_unread]
  have e0 : (fun j => x0 ((Rect.unit (s := S1024x1024) ![0, 0] ![1024, 1024] inb_S1024x1024_S1024x1024_0_0).idx j)) = x0 := idx_full x0 _
  have e1 : (fun j => x1 ((Rect.unit (s := S1x1024) ![0, 0] ![1, 1024] inb_S1x1024_S1x1024_0_0).idx j)) = x1 := idx_full x1 _
  have e3 : (fun j => x3 ((Rect.unit (s := S1x2816x1024) ![0, 0, 0] ![1, 2816, 1024] inb_S1x2816x1024_S1x2816x1024_0_0_0).idx j)) = x3 := idx_full x3 _
  simp only [e0, e1, e3]
  rw [View.read_writes_full, readCov_tiles _ _ _ ![1024, 256] (by sl_kernel_rfl) (hidden (k0_pay2 x0 x1) x2)]
  · rw [pay16_apply, row]
    congr 1
    · funext k; pointwise [k0_pay1]
    · funext j
      simp only [hidden, pay2_apply, ix2_0, ix2_1]
  · intro p hp
    simp only [List.mem_cons, List.not_mem_nil, or_false] at hp
    rcases hp with rfl | rfl | rfl | rfl | rfl | rfl | rfl | rfl | rfl | rfl | rfl <;> intro z
    · exact chunk10 x0 x1 x2 z
    · exact chunk9 x0 x1 x2 z
    · exact chunk8 x0 x1 x2 z
    · exact chunk7 x0 x1 x2 z
    · exact chunk6 x0 x1 x2 z
    · exact chunk5 x0 x1 x2 z
    · exact chunk4 x0 x1 x2 z
    · exact chunk3 x0 x1 x2 z
    · exact chunk2 x0 x1 x2 z
    · exact chunk1 x0 x1 x2 z
    · exact chunk0 x0 x1 x2 z

end Cert.SwigluA
-- ==== Proof.SwigluARef.lean ====
/- Hand-written: what the reference of layer 0's feed-forward computes, read at an index: row `r` of the result is the layer
   (normalise, gate, project down, add) of row `r` of the activations, in the very terms of the kernel's rows. -/
module

public import proofs.«01_k».proof.Proof.SwigluA
public import proofs.«01_k».proof.Proof.Gen.Reference6Ideal.Read
public import proofs.«01_k».proof.Proof.Gen.Reference6Ideal.Run

@[expose] public section

noncomputable section

namespace Cert.SwigluARef

open Idealize.ShloMosaic Idealize.ShloMosaic.TcCoe Idealize.SL.Sem
open Cert.Rows
open Cert.Swiglu (gated down)
open Cert.SwigluA (row)
open Cert.Reference6Ideal Cert.Reference6Ideal.Read

/-- The first normalisation, at row `r`, column `k`. -/
theorem v15_apply (x0 : (⟨S16x2048x1024, .f32⟩ : BufTy).Contents (Elt Ideal)) (x1 : (⟨S2x1024, .f32⟩ : BufTy).Contents (Elt Ideal)) (r : Fin 32768) (k : Fin 1024) :
    val_main_v15 (F := Ideal) x0 x1 (ix2 r k) = rms (fun k => x0 (ix3 ⟨r.val / 2048, by omega⟩ ⟨r.val % 2048, by omega⟩ k)) (fun k => x1 (ix2 0 k)) k := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms, Ideal.ofBits_zero_f32, zero_add]

/-- The product with the gate and up weights, at row `r`, column `j`. -/
theorem v18_apply (x0 : (⟨S16x2048x1024, .f32⟩ : BufTy).Contents (Elt Ideal)) (x1 : (⟨S2x1024, .f32⟩ : BufTy).Contents (Elt Ideal)) (x2 : (⟨S2x1024x5632, .f32⟩ : BufTy).Contents (Elt Ideal)) (r : Fin 32768) (j : Fin 5632) :
    val_main_v18 (F := Ideal) x0 x1 x2 (ix2 r j)
      = ∑ k, rms (fun k => x0 (ix3 ⟨r.val / 2048, by omega⟩ ⟨r.val % 2048, by omega⟩ k)) (fun k => x1 (ix2 0 k)) k * x2 (ix3 0 k j) := by
  simp only [← v15_apply x0 x1]
  generalize hn : val_main_v15 (F := Ideal) x0 x1 = n
  pointwise [val_main_v18, val_main_v17, val_main_v16, hn]

/-- The gated hidden row, at row `r`, column `j`. -/
theorem v22_apply (x0 : (⟨S16x2048x1024, .f32⟩ : BufTy).Contents (Elt Ideal)) (x1 : (⟨S2x1024, .f32⟩ : BufTy).Contents (Elt Ideal)) (x2 : (⟨S2x1024x5632, .f32⟩ : BufTy).Contents (Elt Ideal)) (r : Fin 32768) (j : Fin 2816) :
    val_main_v22 (F := Ideal) x0 x1 x2 (ix2 r j)
      = gated (rms (fun k => x0 (ix3 ⟨r.val / 2048, by omega⟩ ⟨r.val % 2048, by omega⟩ k)) (fun k => x1 (ix2 0 k))) (fun k j => x2 (ix3 0 k j)) j := by
  simp only [gated, ← v18_apply x0 x1 x2]
  generalize hn : val_main_v18 (F := Ideal) x0 x1 x2 = n
  pointwise [val_main_v22, val_main_v21, val_main_v20, val_main_v19, val_main_call0_v0, val_main_call0_v1, val_main_call0_v2, val_main_call0_v3, val_main_call0_v4, val_main_call0_v5, val_main_call0_cst, val_main_call0_cst_0, hn, Ideal.logistic, Ideal.ofBits_one_f32]

/-- THE REFERENCE'S RESULT AT AN INDEX: row `r` is the layer of row `r` of the activations. -/
theorem v26_apply (x0 : (⟨S16x2048x1024, .f32⟩ : BufTy).Contents (Elt Ideal)) (x1 : (⟨S2x1024, .f32⟩ : BufTy).Contents (Elt Ideal)) (x2 : (⟨S2x1024x5632, .f32⟩ : BufTy).Contents (Elt Ideal)) (x3 : (⟨S2x2816x1024, .f32⟩ : BufTy).Contents (Elt Ideal)) (r : Fin 32768) (k : Fin 1024) :
    val_main_v26 (F := Ideal) x0 x1 x2 x3 (ix2 r k)
      = row (fun k => x0 (ix3 ⟨r.val / 2048, by omega⟩ ⟨r.val % 2048, by omega⟩ k)) (fun k => x1 (ix2 0 k)) (fun k j => x2 (ix3 0 k j)) (fun j k => x3 (ix3 0 j k)) k := by
  simp only [row, down, ← v22_apply x0 x1 x2]
  generalize hn : val_main_v22 (F := Ideal) x0 x1 x2 = n
  pointwise [val_main_v26, val_main_v25, val_main_v24, val_main_v23, val_main_v0, hn]

end Cert.SwigluARef
-- ==== Proof.SwigluARun.lean ====
/- Hand-written: layer 0's feed-forward from its first argument to its result. The windows are read at an index through the host
   operations before the call; the blocks of 1024 rows fill the result; so row `r` of the result is the layer of row `r` of
   the activations, which is what the reference computes. -/
module

public import proofs.«01_k».proof.Defs
public import proofs.«01_k».proof.Proof.SwigluARef
public import Idealize.ShloMosaic.Lib.Quiescent

@[expose] public section

noncomputable section

open Idealize.ShloMosaic Idealize.ShloMosaic.TcCoe Idealize.SL.Sem
open Cert.Rows

namespace Cert.SwigluA

open Cert.Kernel6Ideal Cert.Kernel6Ideal.Gen
open Idealize.ShloMosaic.Pipeline (Dat)

variable (m : (ℓ : Loc nD τ sig) → Buf (Elt Ideal) ℓ) (ρ : Dev nD → PrngReg)

/-- Where each window's block lies, at each of the 32 points. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

theorem lt32 (t : Fin cfg0.N) : t.val < 32 := by
  have h : t.val < grid0.N := t.isLt
  rwa [N_0] at h

/-- Row `r` of point `t`'s block, as a row of the whole array. -/
abbrev rowAt (t : Fin cfg0.N) (r : Fin 1024) : Fin 32768 := ⟨t.val * 1024 + r.val, by have := lt32 t; omega⟩

theorem emb0 (t : Fin cfg0.N) (r k : Fin 1024) : ((cfg0.win 0).blk t).view.emb (ix2 r k) = ix2 (rowAt t r) k := by
  obtain ⟨⟨e0, e1⟩, _⟩ := idx_facts t
  funext a; apply Fin.ext
  match a with
  | ⟨0, _⟩ => show win0_0.index t (0 : Fin 2) * 1024 + 1 * r.val = t.val * 1024 + r.val; omega
  | ⟨1, _⟩ => show win0_0.index t (1 : Fin 2) * 1024 + 1 * k.val = k.val; omega

theorem emb1 (t : Fin cfg0.N) (z : Fin 1) (k : Fin 1024) : ((cfg0.win 1).blk t).view.emb (ix2 z k) = ix2 z k := by
  obtain ⟨_, ⟨e0, e1⟩, _⟩ := idx_facts t
  funext a; apply Fin.ext
  match a with
  | ⟨0, _⟩ => show win0_1.index t (0 : Fin 2) * 1 + 1 * z.val = z.val; omega
  | ⟨1, _⟩ => show win0_1.index t (1 : Fin 2) * 1024 + 1 * k.val = k.val; omega

theorem emb2 (t : Fin cfg0.N) (k : Fin 1024) (j : Fin 5632) : ((cfg0.win 2).blk t).view.emb (ix3 0 k j) = ix3 0 k j := by
  obtain ⟨_, _, ⟨e0, e1, e2⟩, _⟩ := idx_facts t
  funext a; apply Fin.ext
  match a with
  | ⟨0, _⟩ => show win0_2.index t (0 : Fin 3) * 1 + 1 * 0 = 0; omega
  | ⟨1, _⟩ => show win0_2.index t (1 : Fin 3) * 1024 + 1 * k.val = k.val; omega
  | ⟨2, _⟩ => show win0_2.index t (2 : Fin 3) * 5632 + 1 * j.val = j.val; omega

theorem emb3 (t : Fin cfg0.N) (j : Fin 2816) (k : Fin 1024) : ((cfg0.win 3).blk t).view.emb (ix3 0 j k) = ix3 0 j k := by
  obtain ⟨_, _, _, ⟨e0, e1, e2⟩, _⟩ := idx_facts t
  funext a; apply Fin.ext
  match a with
  | ⟨0, _⟩ => show win0_3.index t (0 : Fin 3) * 1 + 1 * 0 = 0; omega
  | ⟨1, _⟩ => show win0_3.index t (1 : Fin 3) * 2816 + 1 * j.val = j.val; omega
  | ⟨2, _⟩ => show win0_3.index t (2 : Fin 3) * 1024 + 1 * k.val = k.val; omega

theorem emb5 (t : Fin cfg0.N) (r k : Fin 1024) : ((cfg0.win 5).blk t).view.emb (ix2 r k) = ix2 (rowAt t r) k := by
  obtain ⟨_, _, _, _, _, ⟨e0, e1⟩⟩ := idx_facts t
  funext a; apply Fin.ext
  match a with
  | ⟨0, _⟩ => show win0_5.index t (0 : Fin 2) * 1024 + 1 * r.val = t.val * 1024 + r.val; omega
  | ⟨1, _⟩ => show win0_5.index t (1 : Fin 2) * 1024 + 1 * k.val = k.val; omega

/-- The activations as the call finds them: the argument with its first two axes joined. -/
theorem V_v0 (c : Dev nD) : V m c main_v0 = shapeCast S32768x1024 (m ((c : Thread nD τ).loc main_arg0)) shapeCasts_S16x2048x1024_S32768x1024 := by
  unfold_abbrev_sides
  after_results
  rfl

/-- The first norm weight as the call finds it: row 0 of the argument. -/
theorem V_v5 (c : Dev nD) : V m c main_v5 = shapeCast S1x1024 (shapeCast S1024 (extractStridedSlice S1x1024 ![0, 0] (m ((c : Thread nD τ).loc main_arg1)) slices_S2x1024_S1x1024_0_0) shapeCasts_S1x1024_S1024) shapeCasts_S1024_S1x1024 := by
  unfold_abbrev_sides
  after_results
  rfl

/-- The gate and up weights as the call finds them: the argument cast. -/
theorem V_v3 (c : Dev nD) : V m c main_v3 = truncf (F := Ideal) .bf16 (m ((c : Thread nD τ).loc main_arg2)) bitsLt_bf16_f32 := by
  unfold_abbrev_sides
  after_results

/-- The down weights as the call finds them: the argument cast. -/
theorem V_v4 (c : Dev nD) : V m c main_v4 = truncf (F := Ideal) .bf16 (m ((c : Thread nD τ).loc main_arg3)) bitsLt_bf16_f32 := by
  unfold_abbrev_sides
  after_results

theorem cast0 (x : FVec Ideal S16x2048x1024 .f32) (r : Fin 32768) (k : Fin 1024) :
    shapeCast S32768x1024 x shapeCasts_S16x2048x1024_S32768x1024 (ix2 r k) = x (ix3 ⟨r.val / 2048, by omega⟩ ⟨r.val % 2048, by omega⟩ k) := by
  pointwise []

theorem cast1 (x : FVec Ideal S2x1024 .f32) (k : Fin 1024) :
    shapeCast S1x1024 (shapeCast S1024 (extractStridedSlice S1x1024 ![0, 0] x slices_S2x1024_S1x1024_0_0) shapeCasts_S1x1024_S1024) shapeCasts_S1024_S1x1024 (ix2 0 k) = x (ix2 0 k) := by
  pointwise []

theorem iblk0_apply (c : Dev nD) (t : Fin cfg0.N) (r k : Fin 1024) :
    (iblk m c 0 t : S1024x1024.Idx → EReal) (ix2 r k)
      = (m ((c : Thread nD τ).loc main_arg0) : S16x2048x1024.Idx → EReal) (ix3 ⟨(rowAt t r).val / 2048, by omega⟩ ⟨(rowAt t r).val % 2048, by omega⟩ k) := by
  show V m c main_v0 (((cfg0.win 0).blk t).view.emb (ix2 r k)) = _
  rw [emb0]
  exact (congrFun (V_v0 m c) _).trans (cast0 _ _ _)

theorem iblk1_apply (c : Dev nD) (t : Fin cfg0.N) (k : Fin 1024) :
    (iblk m c 1 t : S1x1024.Idx → EReal) (ix2 0 k) = (m ((c : Thread nD τ).loc main_arg1) : S2x1024.Idx → EReal) (ix2 0 k) := by
  show V m c main_v5 (((cfg0.win 1).blk t).view.emb (ix2 0 k)) = _
  rw [emb1]
  exact (congrFun (V_v5 m c) _).trans (cast1 _ _)

theorem iblk2_apply (c : Dev nD) (t : Fin cfg0.N) (k : Fin 1024) (j : Fin 5632) :
    (iblk m c 2 t : S1x1024x5632.Idx → EReal) (ix3 0 k j) = (m ((c : Thread nD τ).loc main_arg2) : S2x1024x5632.Idx → EReal) (ix3 0 k j) := by
  show V m c main_v3 (((cfg0.win 2).blk t).view.emb (ix3 0 k j)) = _
  rw [emb2]
  exact congrFun (V_v3 m c) _

theorem iblk3_apply (c : Dev nD) (t : Fin cfg0.N) (j : Fin 2816) (k : Fin 1024) :
    (iblk m c 3 t : S1x2816x1024.Idx → EReal) (ix3 0 j k) = (m ((c : Thread nD τ).loc main_arg3) : S2x2816x1024.Idx → EReal) (ix3 0 j k) := by
  show V m c main_v4 (((cfg0.win 3).blk t).view.emb (ix3 0 j k)) = _
  rw [emb3]
  exact congrFun (V_v4 m c) _

/-- THE ARRAY AFTER THE RUN, AT AN INDEX: row `r` of the result is the layer of row `r` of the activations. -/
theorem final_apply (c : Dev nD) (r : Fin 32768) (k : Fin 1024) :
    ((dats m 0 c).arrAt 5 cfg0.N : S32768x1024.Idx → EReal) (ix2 r k)
      = row (fun k => (m ((c : Thread nD τ).loc main_arg0) : S16x2048x1024.Idx → EReal) (ix3 ⟨r.val / 2048, by omega⟩ ⟨r.val % 2048, by omega⟩ k))
          (fun k => (m ((c : Thread nD τ).loc main_arg1) : S2x1024.Idx → EReal) (ix2 0 k))
          (fun k j => (m ((c : Thread nD τ).loc main_arg2) : S2x1024x5632.Idx → EReal) (ix3 0 k j))
          (fun j k => (m ((c : Thread nD τ).loc main_arg3) : S2x2816x1024.Idx → EReal) (ix3 0 j k)) k := by
  obtain ⟨t, ht⟩ : ∃ t : Fin cfg0.N, t.val = r.val / 1024 := ⟨⟨r.val / 1024, by show _ < grid0.N; rw [N_0]; omega⟩, rfl⟩
  have hr : r = rowAt t ⟨r.val % 1024, by omega⟩ := Fin.ext (by show r.val = t.val * 1024 + r.val % 1024; omega)
  generalize (⟨r.val % 1024, by omega⟩ : Fin 1024) = q at hr
  subst hr
  have b := congrFun (Cert.Kernel6Ideal.Value.blocks5 m c t (flush0_5 t)) (ix2 q k)
  rw [Cert.Kernel6Ideal.Value.flushed5_A] at b
  have b' : (dats m 0 c).arrAt 5 cfg0.N (((cfg0.win 5).blk t).view.emb (ix2 q k)) = _ := b
  rw [emb5] at b'
  refine b'.trans ((out_apply _ _ _ _ _ _ _ _ _ _ _ _ _ _ _ _ _ _ _ _ _ _ _).trans ?_)
  simp only [iblk0_apply, iblk1_apply, iblk2_apply, iblk3_apply]

end Cert.SwigluA

/-- THE VALUE CLAIM of layer 0's feed-forward: at the ideal instance, from equal arguments, the call and the reference end with the
    same result array. -/
theorem Cert.Proof.algebraic6 :
    Cert.algebraic_Kernel6Ideal_Reference6Ideal (hKernel6Ideal := Cert.Kernel6Ideal.Gen.facts) (hReference6Ideal := Cert.Reference6Ideal.Gen.facts) := by
  intro m g m' g' _ hargs
  refine ⟨fun c => (Cert.Kernel6Ideal.Gen.dats m 0 c).arrAt 5 Cert.Kernel6Ideal.cfg0.N, Cert.Kernel6Ideal.Value.run_blocks m g, ?_⟩
  refine (θ_run _ _ _).mono (fun _ h c => ⟨(h c).1.trans ?_, (h c).2⟩) (Cert.Reference6Ideal.Value.run m' g')
  rw [Cert.Reference6Ideal.Read.val_main_v26_eq, (hargs c).1, (hargs c).2.1, (hargs c).2.2.1, (hargs c).2.2.2.1]
  funext y
  obtain ⟨r, k, rfl⟩ : ∃ (r : Fin 32768) (k : Fin 1024), y = ix2 r k := ⟨y 0, y 1, (ix2_eta y).symm⟩
  exact (Cert.SwigluARef.v26_apply _ _ _ _ r k).trans (Cert.SwigluA.final_apply m c r k).symm
-- ==== Proof.KvProj.lean ====
/- Hand-written: the keys and values of the memory. The kernel's two stores of 512 columns are the product of the normalised
   rows with the weights; the blocks of 512 rows fill the result; the reference's row is the same product. -/
module

public import proofs.«01_k».proof.Defs
public import proofs.«01_k».proof.Proof.Rows
public import proofs.«01_k».proof.Proof.Gen.Kernel8Ideal.Value
public import proofs.«01_k».proof.Proof.Gen.Reference8Ideal.Read
public import proofs.«01_k».proof.Proof.Gen.Reference8Ideal.Run
public import Idealize.ShloMosaic.Lib.Quiescent

@[expose] public section

noncomputable section

open Idealize.ShloMosaic Idealize.ShloMosaic.TcCoe Idealize.SL.Sem
open Cert.Rows

namespace Cert.KvProj

/-- The product of a normalised row with the weights. -/
def proj (h fn : Fin 1024 → EReal) (w : Fin 1024 → Fin 1024 → EReal) (j : Fin 1024) : EReal :=
  ∑ k, rms h fn k * w k j

section Reference
open Cert.Reference8Ideal Cert.Reference8Ideal.Read

/-- The reference's norm, at row `r`, column `k`. -/
theorem v15_apply (x0 : (⟨S16x256x1024, .f32⟩ : BufTy).Contents (Elt Ideal)) (x1 : (⟨S2x1024, .f32⟩ : BufTy).Contents (Elt Ideal)) (r : Fin 4096) (k : Fin 1024) :
    val_main_v15 (F := Ideal) x0 x1 (ix2 r k) = rms (fun k => x0 (ix3 ⟨r.val / 256, by omega⟩ ⟨r.val % 256, by omega⟩ k)) (fun k => x1 (ix2 1 k)) k := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms, Ideal.ofBits_zero_f32, zero_add]

/-- THE REFERENCE'S RESULT AT AN INDEX. -/
theorem v19_apply (x0 : (⟨S16x256x1024, .f32⟩ : BufTy).Contents (Elt Ideal)) (x1 : (⟨S2x1024, .f32⟩ : BufTy).Contents (Elt Ideal)) (x2 : (⟨S2x1024x1024, .f32⟩ : BufTy).Contents (Elt Ideal)) (r : Fin 4096) (j : Fin 1024) :
    val_main_v19 (F := Ideal) x0 x1 x2 (ix2 r j)
      = proj (fun k => x0 (ix3 ⟨r.val / 256, by omega⟩ ⟨r.val % 256, by omega⟩ k)) (fun k => x1 (ix2 1 k)) (fun k j => x2 (ix3 1 k j)) j := by
  simp only [proj, ← v15_apply x0 x1]
  generalize hn : val_main_v15 (F := Ideal) x0 x1 = n
  pointwise [val_main_v19, val_main_v18, val_main_v17, val_main_v16, hn]

end Reference

section Kernel
open Cert.Kernel8Ideal Cert.Kernel8Ideal.Gen
open Idealize.ShloMosaic.Pipeline (Dat)

/-- What one point writes, as a function of its index. -/
def block (x0 : Vec Ideal S512x1024 .f32) (x1 : Vec Ideal S1x1024 .f32) (x2 : Vec Ideal S1024x1024 .bf16) (y : S512x1024.Idx) : EReal :=
  proj (fun k => x0 (ix2 (y 0) k)) (fun k => x1 (ix2 0 k)) (fun k j => x2 (ix2 k j)) (y 1)

/-- A tile of 512 columns that begins at column `o` places its index `(a, b)` at `(a, o + b)`. -/
theorem emb_col (o : ℕ) (inb : ∀ a, (![0, o] : Fin 2 → ℕ) a + S512x512.size a ≤ S512x1024.size a) (ho : o ≤ 512) (a : Fin 512) (b : Fin 512) :
    (Rect.unit (s := S512x1024) ![0, o] S512x512.size inb).emb (ix2 a b) = ix2 a ⟨o + b.val, by omega⟩ := by
  funext d; apply Fin.ext
  match d with
  | ⟨0, _⟩ => show 0 + 1 * a.val = a.val; omega
  | ⟨1, _⟩ => show o + 1 * b.val = o + b.val; omega

/-- Columns 0 to 511 of the block are what the body stores there. -/
theorem chunk0 (x0 : Vec Ideal S512x1024 .f32) (x1 : Vec Ideal S1x1024 .f32) (x2 : Vec Ideal S1024x1024 .bf16) (z : S512x512.Idx) :
    k0_pay2 (View.ld x0 r0_0) (View.ld x1 r0_1) (View.ld x2 r0_2) z = block x0 x1 x2 (r0_3.emb z) := by
  idx_vars z
  rw [emb_col 0 _ (by omega)]
  pointwise [k0_pay2, k0_pay1, block, proj, rms]

/-- Columns 512 to 1023 of the block are what the body stores there. -/
theorem chunk1 (x0 : Vec Ideal S512x1024 .f32) (x1 : Vec Ideal S1x1024 .f32) (x2 : Vec Ideal S1024x1024 .bf16) (z : S512x512.Idx) :
    k0_pay3 (View.ld x0 r0_0) (View.ld x1 r0_1) (View.ld x2 r0_4) z = block x0 x1 x2 (r0_5.emb z) := by
  idx_vars z
  rw [emb_col 512 _ (by omega)]
  pointwise [k0_pay3, k0_pay1, block, proj, rms]

/-- WHAT ONE POINT WRITES. -/
theorem out_apply (x0 : Vec Ideal S512x1024 .f32) (x1 : Vec Ideal S1x1024 .f32) (x2 : Vec Ideal S1024x1024 .bf16) (y : S512x1024.Idx) :
    out0_3 x0 x1 x2 y = block x0 x1 x2 y := by
  unfold out0_3
  refine View.canon_apply_of_pieces (Val := Elt Ideal) (S := S512x1024) (e := .bf16) (block x0 x1 x2) _ ?_ y (View.cover_of_tiledL _ ![512, 512] (by sl_kernel_rfl) y)
  intro p hp
  simp only [List.mem_cons, List.not_mem_nil, or_false] at hp
  rcases hp with rfl | rfl <;> intro z
  · exact chunk1 x0 x1 x2 z
  · exact chunk0 x0 x1 x2 z

theorem castW (x : FVec Ideal S2x1024x1024 .f32) (k j : Fin 1024) :
    truncf (F := Ideal) .bf16 (shapeCast S1024x1024 (extractStridedSlice S1x1024x1024 ![1, 0, 0] x slices_S2x1024x1024_S1x1024x1024_1_0_0) shapeCasts_S1x1024x1024_S1024x1024) bitsLt_bf16_f32 (ix2 k j) = x (ix3 1 k j) := by
  pointwise []

theorem cast0 (x : FVec Ideal S16x256x1024 .f32) (r : Fin 4096) (k : Fin 1024) :
    shapeCast S4096x1024 x shapeCasts_S16x256x1024_S4096x1024 (ix2 r k) = x (ix3 ⟨r.val / 256, by omega⟩ ⟨r.val % 256, by omega⟩ k) := by
  pointwise []

theorem cast1 (x : FVec Ideal S2x1024 .f32) (k : Fin 1024) :
    shapeCast S1x1024 (shapeCast S1024 (extractStridedSlice S1x1024 ![1, 0] x slices_S2x1024_S1x1024_1_0) shapeCasts_S1x1024_S1024) shapeCasts_S1024_S1x1024 (ix2 0 k) = x (ix2 1 k) := by
  pointwise []

variable (m : (ℓ : Loc nD τ sig) → Buf (Elt Ideal) ℓ) (ρ : Dev nD → PrngReg)

/-- The memory as the call finds it: the argument with its first two axes joined. -/
theorem V_v0 (c : Dev nD) : V m c main_v0 = shapeCast S4096x1024 (m ((c : Thread nD τ).loc main_arg0)) shapeCasts_S16x256x1024_S4096x1024 := by
  unfold_abbrev_sides
  after_results
  rfl

/-- The norm weight as the call finds it: row 1 of the argument. -/
theorem V_v6 (c : Dev nD) : V m c main_v6 = shapeCast S1x1024 (shapeCast S1024 (extractStridedSlice S1x1024 ![1, 0] (m ((c : Thread nD τ).loc main_arg1)) slices_S2x1024_S1x1024_1_0) shapeCasts_S1x1024_S1024) shapeCasts_S1024_S1x1024 := by
  unfold_abbrev_sides
  after_results
  rfl

/-- The weights as the call finds them: the second layer's, cast. -/
theorem V_v5 (c : Dev nD) : V m c main_v5 = truncf (F := Ideal) .bf16 (shapeCast S1024x1024 (extractStridedSlice S1x1024x1024 ![1, 0, 0] (m ((c : Thread nD τ).loc main_arg2)) slices_S2x1024x1024_S1x1024x1024_1_0_0) shapeCasts_S1x1024x1024_S1024x1024) bitsLt_bf16_f32 := by
  unfold_abbrev_sides
  after_results
  rfl

/-- Where each window's block lies, at each of the 8 points. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

theorem lt8 (t : Fin cfg0.N) : t.val < 8 := by
  have h : t.val < grid0.N := t.isLt
  rwa [N_0] at h

/-- Row `r` of point `t`'s block, as a row of the whole array. -/
abbrev rowAt (t : Fin cfg0.N) (r : Fin 512) : Fin 4096 := ⟨t.val * 512 + r.val, by have := lt8 t; omega⟩

theorem emb0 (t : Fin cfg0.N) (r : Fin 512) (k : Fin 1024) : ((cfg0.win 0).blk t).view.emb (ix2 r k) = ix2 (rowAt t r) k := by
  obtain ⟨⟨e0, e1⟩, _⟩ := idx_facts t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem emb1 (t : Fin cfg0.N) (z : Fin 1) (k : Fin 1024) : ((cfg0.win 1).blk t).view.emb (ix2 z k) = ix2 z k := by
  obtain ⟨_, ⟨e0, e1⟩, _⟩ := idx_facts t
  funext a; apply Fin.ext
  match a with
  | ⟨0, _⟩ => show win0_1.index t (0 : Fin 2) * 1 + 1 * z.val = z.val; omega
  | ⟨1, _⟩ => show win0_1.index t (1 : Fin 2) * 1024 + 1 * k.val = k.val; omega

theorem emb2 (t : Fin cfg0.N) (k j : Fin 1024) : ((cfg0.win 2).blk t).view.emb (ix2 k j) = ix2 k j := by
  obtain ⟨_, _, ⟨e0, e1⟩, _⟩ := idx_facts t
  funext a; apply Fin.ext
  match a with
  | ⟨0, _⟩ => show win0_2.index t (0 : Fin 2) * 1024 + 1 * k.val = k.val; omega
  | ⟨1, _⟩ => show win0_2.index t (1 : Fin 2) * 1024 + 1 * j.val = j.val; omega

theorem emb3 (t : Fin cfg0.N) (r : Fin 512) (j : Fin 1024) : ((cfg0.win 3).blk t).view.emb (ix2 r j) = ix2 (rowAt t r) j := by
  obtain ⟨_, _, _, ⟨e0, e1⟩⟩ := idx_facts t
  funext a; apply Fin.ext
  match a with
  | ⟨0, _⟩ => show win0_3.index t (0 : Fin 2) * 512 + 1 * r.val = t.val * 512 + r.val; omega
  | ⟨1, _⟩ => show win0_3.index t (1 : Fin 2) * 1024 + 1 * j.val = j.val; omega

theorem iblk0_apply (c : Dev nD) (t : Fin cfg0.N) (r : Fin 512) (k : Fin 1024) :
    (iblk m c 0 t : S512x1024.Idx → EReal) (ix2 r k)
      = (m ((c : Thread nD τ).loc main_arg0) : S16x256x1024.Idx → EReal) (ix3 ⟨(rowAt t r).val / 256, by omega⟩ ⟨(rowAt t r).val % 256, by omega⟩ k) := by
  show V m c main_v0 (((cfg0.win 0).blk t).view.emb (ix2 r k)) = _
  rw [emb0]
  exact (congrFun (V_v0 m c) _).trans (cast0 _ _ _)

theorem iblk1_apply (c : Dev nD) (t : Fin cfg0.N) (k : Fin 1024) :
    (iblk m c 1 t : S1x1024.Idx → EReal) (ix2 0 k) = (m ((c : Thread nD τ).loc main_arg1) : S2x1024.Idx → EReal) (ix2 1 k) := by
  show V m c main_v6 (((cfg0.win 1).blk t).view.emb (ix2 0 k)) = _
  rw [emb1]
  exact (congrFun (V_v6 m c) _).trans (cast1 _ _)

theorem iblk2_apply (c : Dev nD) (t : Fin cfg0.N) (k j : Fin 1024) :
    (iblk m c 2 t : S1024x1024.Idx → EReal) (ix2 k j) = (m ((c : Thread nD τ).loc main_arg2) : S2x1024x1024.Idx → EReal) (ix3 1 k j) := by
  show V m c main_v5 (((cfg0.win 2).blk t).view.emb (ix2 k j)) = _
  rw [emb2]
  exact (congrFun (V_v5 m c) _).trans (castW _ _ _)

/-- THE ARRAY AFTER THE RUN, AT AN INDEX. -/
theorem final_apply (c : Dev nD) (r : Fin 4096) (j : Fin 1024) :
    ((dats m 0 c).arrAt 3 cfg0.N : S4096x1024.Idx → EReal) (ix2 r j)
      = proj (fun k => (m ((c : Thread nD τ).loc main_arg0) : S16x256x1024.Idx → EReal) (ix3 ⟨r.val / 256, by omega⟩ ⟨r.val % 256, by omega⟩ k))
          (fun k => (m ((c : Thread nD τ).loc main_arg1) : S2x1024.Idx → EReal) (ix2 1 k))
          (fun k j => (m ((c : Thread nD τ).loc main_arg2) : S2x1024x1024.Idx → EReal) (ix3 1 k j)) j := by
  obtain ⟨t, ht⟩ : ∃ t : Fin cfg0.N, t.val = r.val / 512 := ⟨⟨r.val / 512, by show _ < grid0.N; rw [N_0]; omega⟩, rfl⟩
  have hr : r = rowAt t ⟨r.val % 512, by omega⟩ := Fin.ext (by show r.val = t.val * 512 + r.val % 512; omega)
  generalize (⟨r.val % 512, by omega⟩ : Fin 512) = q at hr
  subst hr
  have b := congrFun (Cert.Kernel8Ideal.Value.blocks3 m c t (flush0_3 t)) (ix2 q j)
  rw [Cert.Kernel8Ideal.Value.flushed3] at b
  have b' : (dats m 0 c).arrAt 3 cfg0.N (((cfg0.win 3).blk t).view.emb (ix2 q j)) = _ := b
  rw [emb3] at b'
  refine b'.trans ((out_apply _ _ _ (ix2 q j)).trans ?_)
  show proj _ _ _ _ = _
  simp only [ix2_0, ix2_1, iblk0_apply, iblk1_apply, iblk2_apply]

end Kernel

end Cert.KvProj

/-- THE VALUE CLAIM of the call that makes the memory's keys and values: at the ideal instance, from equal arguments, the call
    and the reference end with the same result array. -/
theorem Cert.Proof.algebraic8 :
    Cert.algebraic_Kernel8Ideal_Reference8Ideal (hKernel8Ideal := Cert.Kernel8Ideal.Gen.facts) (hReference8Ideal := Cert.Reference8Ideal.Gen.facts) := by
  intro m g m' g' _ hargs
  refine ⟨fun c => (Cert.Kernel8Ideal.Gen.dats m 0 c).arrAt 3 Cert.Kernel8Ideal.cfg0.N, Cert.Kernel8Ideal.Value.run_blocks m g, ?_⟩
  refine (θ_run _ _ _).mono (fun _ h c => ⟨(h c).1.trans ?_, (h c).2⟩) (Cert.Reference8Ideal.Value.run m' g')
  rw [Cert.Reference8Ideal.Read.val_main_v19_eq, (hargs c).1, (hargs c).2.1, (hargs c).2.2]
  funext y
  obtain ⟨r, k, rfl⟩ : ∃ (r : Fin 4096) (k : Fin 1024), y = ix2 r k := ⟨y 0, y 1, (ix2_eta y).symm⟩
  exact (Cert.KvProj.v19_apply _ _ _ r k).trans (Cert.KvProj.final_apply m c r k).symm
-- ==== Proof.FramesX.lean ====
/- Hand-written: the frames of the two cross-attention calls whose value claims assume finite arguments. -/
module

public import proofs.«01_k».proof.Defs
public import proofs.«01_k».proof.Proof.Frames
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Pre_finite4
public import proofs.«01_k».proof.Proof.Gen.Pre_finite7

@[expose] public section

noncomputable section

namespace Cert.Proof

open Idealize.ShloMosaic Idealize.ShloMosaic.TcCoe

/-- The frame of layer 0's output projection and cross-attention at the machine's floats: no fault, arguments unchanged, counters at zero. -/
theorem frame_kernel7 : Cert.quiescent_Kernel7 (hKernel7 := Cert.Kernel7.Gen.facts) :=
  fun m ρ _ => Cert.Kernel7.Gen.frame (F := Bits) m ρ

/-- The frame of layer 0's output projection and cross-attention at the ideal values. -/
theorem frame_kernel7Ideal : Cert.quiescent_Kernel7Ideal (hKernel7Ideal := Cert.Kernel7Ideal.Gen.facts) :=
  fun m ρ _ => Cert.Kernel7Ideal.Gen.frame (F := Ideal) m ρ

/-- The frame of the reference of layer 0's output projection and cross-attention: it ends with its arguments unchanged, and it has no counters. -/
theorem frame_reference7 : Cert.quiescent_Reference7Ideal (hReference7Ideal := Cert.Reference7Ideal.Gen.facts) :=
  fun m ρ _ => (θ_run Cert.Reference7Ideal.defs _ _).mono
    (fun r h => ⟨fun c => ⟨(h c).2.1, (h c).2.2.1, (h c).2.2.2.1, (h c).2.2.2.2.1, (h c).2.2.2.2.2.1, (h c).2.2.2.2.2.2.1, (h c).2.2.2.2.2.2.2.1, (h c).2.2.2.2.2.2.2.2⟩, sem_eq_zero_of_no_sems (by decide) r.2⟩)
    (Cert.Reference7Ideal.Value.run (F := Ideal) m ρ)

/-- The frame of the memory cross-attention at the ideal values, from finite arguments. -/
theorem frame_kernel4Ideal_pre : Cert.quiescent_Kernel4Ideal_pre_finite4 (hKernel4Ideal := Cert.Kernel4Ideal.Gen.facts) (hPre_finite4 := Cert.Pre_finite4.Gen.facts) :=
  fun m ρ _ => frame_kernel4Ideal m ρ trivial

/-- The frame of the reference of the memory cross-attention, from finite arguments. -/
theorem frame_reference4_pre : Cert.quiescent_Reference4Ideal_pre_finite4 (hReference4Ideal := Cert.Reference4Ideal.Gen.facts) (hPre_finite4 := Cert.Pre_finite4.Gen.facts) :=
  fun m ρ _ => frame_reference4 m ρ trivial

/-- The frame of layer 0's output projection and cross-attention at the ideal values, from finite arguments. -/
theorem frame_kernel7Ideal_pre : Cert.quiescent_Kernel7Ideal_pre_finite7 (hKernel7Ideal := Cert.Kernel7Ideal.Gen.facts) (hPre_finite7 := Cert.Pre_finite7.Gen.facts) :=
  fun m ρ _ => frame_kernel7Ideal m ρ trivial

/-- The frame of the reference of layer 0's output projection and cross-attention, from finite arguments. -/
theorem frame_reference7_pre : Cert.quiescent_Reference7Ideal_pre_finite7 (hReference7Ideal := Cert.Reference7Ideal.Gen.facts) (hPre_finite7 := Cert.Pre_finite7.Gen.facts) :=
  fun m ρ _ => frame_reference7 m ρ trivial

end Cert.Proof

end
-- ==== Proof.Attend.lean ====
/-
  Untrusted. The softmax of one attention head on one row, as the kernel takes it (powers of two, one reciprocal of the sum
  after the product with the values) and as the reference takes it (exponentials, each divided by the sum before the
  product), and their equality over the reals.
-/
module

public import proofs.«01_k».proof.Proof.Rows
public import Mathlib.Analysis.SpecialFunctions.Pow.Real

@[expose] public section

noncomputable section

namespace Cert.Attend

open Idealize.ShloMosaic Idealize.ShloMosaic.TcCoe Idealize.SL.Sem
open Cert.Rows

/-- The largest of a row of 256 numbers, from −∞. -/
def top (s : Fin 256 → EReal) : EReal := Finset.fold max (Ideal.ofBits .f32 0xFF800000#32) s Finset.univ

/-- The kernel's weights, before they are divided by their sum: powers of two of the scores `s` less their largest. -/
def pexp (s : Fin 256 → EReal) (m : Fin 256) : EReal := Ideal.exp2 (s m - top s)

/-- The kernel's head: scores `s` to base 2, one column `v` of the values. -/
def khead (s v : Fin 256 → EReal) : EReal := (∑ m, pexp s m * v m) * Ideal.div 1 (∑ m, pexp s m * 1)

/-- The query row: the normalised row by the query weights. -/
def qrow (x g : Fin 1024 → EReal) (w : Fin 1024 → Fin 512 → EReal) (j : Fin 512) : EReal := ∑ k, rms x g k * w k j

/-- The kernel's attention on one row: entry `c` of the four heads of 128 side by side, from the scaled query row. -/
def khd (q : Fin 512 → EReal) (K V : Fin 256 → Fin 512 → EReal) (c : Fin 512) : EReal :=
  khead (fun m => ∑ e : Fin 128, q ⟨c.val / 128 * 128 + e.val, by omega⟩ * K m ⟨c.val / 128 * 128 + e.val, by omega⟩) (fun m => V m c)

/-- The reference's head: scores `l`, one column `v` of the values. -/
def rhead (l v : Fin 256 → EReal) : EReal :=
  ∑ m, v m * Ideal.div (Ideal.exp (l m - max (Ideal.ofBits .f32 0xFF800000#32) (top l)))
    (∑ m, Ideal.exp (l m - max (Ideal.ofBits .f32 0xFF800000#32) (top l)))

/-- The reference's attention on one row: entry `c` of the four heads of 128 side by side, its scores scaled after the product. -/
def rhd (q : Fin 512 → EReal) (K V : Fin 256 → Fin 512 → EReal) (c : Fin 512) : EReal :=
  rhead (fun m => (∑ e : Fin 128, q ⟨c.val / 128 * 128 + e.val, by omega⟩ * K m ⟨c.val / 128 * 128 + e.val, by omega⟩)
    * Ideal.ofBits .f32 0x3DB504F3#32) (fun m => V m c)

theorem ninf : Ideal.ofBits .f32 0xFF800000#32 = (⊥ : EReal) := by
  simp [Ideal.ofBits, Ideal.ieee]

/-- A sum of reals, as an extended real. -/
theorem sum_coe {n : ℕ} (f : Fin n → ℝ) : (∑ i, ((f i : ℝ) : EReal)) = ((∑ i, f i : ℝ) : EReal) := by
  classical
  induction (Finset.univ : Finset (Fin n)) using Finset.induction_on with
  | empty => simp
  | insert a s ha ih => rw [Finset.sum_insert ha, Finset.sum_insert ha, ih, EReal.coe_add]

/-- The largest of a row of reals is a real. -/
theorem top_real (f : Fin 256 → ℝ) : ∃ M : ℝ, top (fun m => ((f m : ℝ) : EReal)) = (M : EReal) := by
  classical
  have h : ∀ s : Finset (Fin 256), Finset.fold max (⊥ : EReal) (fun m => ((f m : ℝ) : EReal)) s = ⊥ ∧ s = ∅
      ∨ ∃ M : ℝ, Finset.fold max (⊥ : EReal) (fun m => ((f m : ℝ) : EReal)) s = (M : EReal) := by
    intro s
    induction s using Finset.induction_on with
    | empty => exact .inl ⟨by simp, rfl⟩
    | insert a s ha ih =>
      right
      rw [Finset.fold_insert ha]
      rcases ih with ⟨h, _⟩ | ⟨M, h⟩
      · exact ⟨f a, by rw [h]; simp⟩
      · exact ⟨max (f a) M, by rw [h]; exact (EReal.coe_strictMono.monotone.map_max (a := f a) (b := M)).symm⟩
  unfold top
  rw [ninf]
  rcases h Finset.univ with ⟨_, h⟩ | h
  · exact absurd (h ▸ Finset.mem_univ (0 : Fin 256)) (by simp)
  · exact h

theorem exp_real (x : ℝ) : Ideal.exp ((x : ℝ) : EReal) = ((Real.exp x : ℝ) : EReal) := rfl

theorem exp2_real (x : ℝ) : Ideal.exp2 ((x : ℝ) : EReal) = (((2 : ℝ) ^ x : ℝ) : EReal) := rfl

/-- A sum of any extended reals by a real that is not negative. -/
theorem sum_mul_real {n : ℕ} (f : Fin n → EReal) {c : ℝ} (hc : 0 ≤ c) : (∑ i, f i) * (c : EReal) = ∑ i, f i * (c : EReal) := by
  classical
  induction (Finset.univ : Finset (Fin n)) using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- On real scores the two heads agree, whatever the values: the kernel's scores are the reference's over log 2. -/
theorem head_eq (l : Fin 256 → ℝ) (v : Fin 256 → EReal) :
    khead (fun m => ((l m * (Real.log 2)⁻¹ : ℝ) : EReal)) v = rhead (fun m => ((l m : ℝ) : EReal)) v := by
  obtain ⟨A, hA⟩ := top_real (fun m => l m * (Real.log 2)⁻¹)
  obtain ⟨B, hB⟩ := top_real l
  unfold khead rhead pexp
  rw [hA, hB, ninf, max_eq_right bot_le]
  have hlog : Real.log 2 ≠ 0 := ne_of_gt (Real.log_pos one_lt_two)
  have e2 : ∀ m, (2 : ℝ) ^ (l m * (Real.log 2)⁻¹ - A) = Real.exp (l m) * Real.exp (-(A * Real.log 2)) := by
    intro m
    rw [Real.rpow_def_of_pos two_pos, ← Real.exp_add]
    congr 1
    field_simp
    ring
  have e1 : ∀ m, Real.exp (l m - B) = Real.exp (l m) * Real.exp (-B) := by
    intro m
    rw [← Real.exp_add, sub_eq_add_neg]
  have S0 : 0 < ∑ m, Real.exp (l m) := Finset.sum_pos (fun m _ => Real.exp_pos _) Finset.univ_nonempty
  have p2 : 0 < ∑ m, Real.exp (l m) * Real.exp (-(A * Real.log 2)) := by
    rw [← Finset.sum_mul]; exact mul_pos S0 (Real.exp_pos _)
  have p1 : 0 < ∑ m, Real.exp (l m) * Real.exp (-B) := by
    rw [← Finset.sum_mul]; exact mul_pos S0 (Real.exp_pos _)
  simp only [mul_one, ← EReal.coe_sub, exp_real, exp2_real, e1, e2, sum_coe]
  rw [show (1 : EReal) = ((1 : ℝ) : EReal) from rfl, Ideal.div_coe (ne_of_gt p2), ← EReal.coe_mul]
  simp only [Ideal.div_coe (ne_of_gt p1), ← EReal.coe_mul]
  rw [sum_mul_real _ (by positivity)]
  refine Finset.sum_congr rfl fun m _ => ?_
  rw [mul_comm _ (v m), mul_assoc, ← EReal.coe_mul]
  congr 2
  simp only [← Finset.sum_mul, div_eq_mul_inv, one_mul]
  have a0 := ne_of_gt (Real.exp_pos (-(A * Real.log 2)))
  have b0 := ne_of_gt (Real.exp_pos (-B))
  have s0 := ne_of_gt S0
  field_simp

/-- The kernel's scale to base 2: the reference's over log 2. -/
abbrev scale2 : EReal := ((11863283 / 134217728 * (Real.log 2)⁻¹ : ℝ) : EReal)

theorem scale_real : Ideal.ofBits .f32 0x3DB504F3#32 = ((11863283 / 134217728 : ℝ) : EReal) := by
  simp [Ideal.ofBits, Ideal.ieee, -EReal.coe_mul]
  norm_num

/-- On real queries and keys the two attentions agree. -/
theorem hd_eq {q : Fin 512 → EReal} {K V : Fin 256 → Fin 512 → EReal} (hq : ∀ c, ∃ x : ℝ, q c = (x : EReal))
    (hK : ∀ m c, ∃ x : ℝ, K m c = (x : EReal)) (c : Fin 512) :
    khd (fun j => q j * scale2) K V c = rhd q K V c := by
  choose q' hq using hq
  choose K' hK using hK
  unfold khd rhd
  rw [scale_real]
  simp only [hq, hK, ← EReal.coe_mul, sum_coe]
  rw [← head_eq]
  congr 1
  funext m
  congr 1
  rw [Finset.sum_mul, Finset.sum_mul]
  exact Finset.sum_congr rfl fun e _ => by ring

/-- The whole layer on one row, in the kernel's way and in the reference's. -/
def kattn (x g : Fin 1024 → EReal) (wq : Fin 1024 → Fin 512 → EReal) (K V : Fin 256 → Fin 512 → EReal) (wo : Fin 512 → Fin 1024 → EReal)
    (k : Fin 1024) : EReal := x k + ∑ c, khd (fun j => qrow x g wq j * scale2) K V c * wo c k

def rattn (x g : Fin 1024 → EReal) (wq : Fin 1024 → Fin 512 → EReal) (K V : Fin 256 → Fin 512 → EReal) (wo : Fin 512 → Fin 1024 → EReal)
    (k : Fin 1024) : EReal := x k + ∑ c, rhd (qrow x g wq) K V c * wo c k

/-- What is real. -/
abbrev IsReal (x : EReal) : Prop := ∃ r : ℝ, x = (r : EReal)

theorem isReal_sum {n : ℕ} {f : Fin n → EReal} (h : ∀ i, IsReal (f i)) : IsReal (∑ i, f i) := by
  choose f' h using h
  exact ⟨∑ i, f' i, by simp only [h, sum_coe]⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem size_real : Ideal.ofBits .f32 0x44800000#32 = ((1024 : ℝ) : EReal) := by
  simp [Ideal.ofBits, Ideal.ieee, -EReal.coe_mul]
  norm_num

theorem eps_real : ∃ e : ℝ, 0 < e ∧ Ideal.ofBits .f32 0x358637BD#32 = (e : EReal) := by
  refine ⟨8796093 / 8796093022208, by norm_num, ?_⟩
  simp [Ideal.ofBits, Ideal.ieee, -EReal.coe_mul]
  norm_num

/-- A square is not negative. -/
theorem sq_nonneg' (x : EReal) : 0 ≤ x * x := by
  induction x using EReal.rec with
  | bot => simp
  | coe r => rw [← EReal.coe_mul]; exact_mod_cast mul_self_nonneg r
  | top => simp

/-- Of a row with an entry that is not real the sum of the squares is infinite. -/
theorem sum_sq_top {x : Fin 1024 → EReal} {i : Fin 1024} (h : ¬ IsReal (x i)) : ∑ l, x l * x l = ⊤ := by
  have hi : x i * x i = ⊤ := by
    generalize x i = y at h
    induction y using EReal.rec with
    | bot => simp
    | coe r => exact absurd ⟨r, rfl⟩ h
    | top => simp
  refine top_le_iff.mp ?_
  calc (⊤ : EReal) = x i * x i := hi.symm
    _ ≤ ∑ l, x l * x l := Finset.single_le_sum (f := fun l => x l * x l) (fun l _ => sq_nonneg' _) (Finset.mem_univ i)

/-- The norm of any row by real weights is real. Of a real row the mean square is not negative and the epsilon is positive; of
    any other row the sum of the squares is infinite, so its inverse root is zero. -/
theorem isReal_rms (x : Fin 1024 → EReal) {g : Fin 1024 → EReal} (hg : ∀ k, IsReal (g k)) (k : Fin 1024) : IsReal (rms x g k) := by
  obtain ⟨e, he, h⟩ := eps_real
  unfold rms
  rw [size_real, h, Ideal.div_coe (by norm_num)]
  by_cases hx : ∀ k, IsReal (x k)
  · choose x' hx using hx
    refine isReal_mul (isReal_mul ⟨_, hx k⟩ ?_) (hg k)
    simp only [hx, ← EReal.coe_mul, sum_coe, ← EReal.coe_add]
    have hs : 0 ≤ ∑ i, x' i * x' i := Finset.sum_nonneg fun i _ => mul_self_nonneg _
    have hp : 0 < (∑ i, x' i * x' i) * (1 / 1024) + e := by positivity
    exact ⟨(Real.sqrt ((∑ i, x' i * x' i) * (1 / 1024) + e))⁻¹, by rw [Ideal.rsqrt_coe, if_neg (not_lt.mpr hp.le), if_neg hp.ne']⟩
  · obtain ⟨i, hi⟩ := not_forall.mp hx
    rw [sum_sq_top hi, EReal.top_mul_coe_of_pos (by norm_num), EReal.top_add_of_ne_bot (EReal.coe_ne_bot e), Ideal.rsqrt_top, mul_zero, zero_mul]
    exact ⟨0, rfl⟩

/-- When the norm weights, the query weights and the keys are real the two layers agree, whatever the row, the values and the
    output weights. -/
theorem attn_eq (x : Fin 1024 → EReal) {g : Fin 1024 → EReal} {wq : Fin 1024 → Fin 512 → EReal} {K : Fin 256 → Fin 512 → EReal}
    (V : Fin 256 → Fin 512 → EReal) (wo : Fin 512 → Fin 1024 → EReal)
    (hg : ∀ k, IsReal (g k)) (hw : ∀ k j, IsReal (wq k j)) (hK : ∀ m c, IsReal (K m c))
    (k : Fin 1024) : kattn x g wq K V wo k = rattn x g wq K V wo k := by
  unfold kattn rattn
  congr 1
  refine Finset.sum_congr rfl fun c _ => ?_
  rw [hd_eq (q := qrow x g wq) (fun c => isReal_sum fun k => isReal_mul (isReal_rms x hg k) (hw k c)) hK c]

end Cert.Attend
-- ==== Proof.AttendK.lean ====
/-
  Untrusted. What the attention kernel of layer 1 leaves in a block of its result: on every row, the layer of that row.
-/
module

public import proofs.«01_k».proof.Proof.Attend
public import proofs.«01_k».proof.Proof.Gen.Kernel4Ideal.Value

@[expose] public section

set_option maxRecDepth 16384

noncomputable section

namespace Cert.AttendK

open Idealize.ShloMosaic Idealize.ShloMosaic.TcCoe Idealize.SL.Sem
open Cert.Rows Cert.Attend
open Cert.Kernel4Ideal Cert.Kernel4Ideal.Gen

theorem scale2_eq : Named.named (F := Ideal) κ "scale2" (φ := .f32) 0x3E0293EE#32 = scale2 :=
  IdealRules.named_const.ideal_named_scalar _ _ _ _ rfl

theorem pay1_apply (v0 : FVec Ideal S1x1024x1024 .f32) (r k : Fin 1024) : (k0_pay1 (F := Ideal) v0 : S1024x1024.Idx → EReal) (ix2 r k) = v0 (ix3 0 r k) := by
  pointwise [k0_pay1]

theorem pay2_apply (v0 : FVec Ideal S1x1024x1024 .f32) (v2 : FVec Ideal S1x1024 .f32) (v17 : FVec Ideal S1x1024x512 .bf16) (r : Fin 1024) (j : Fin 512) :
    (k0_pay2 (F := Ideal) v0 v2 v17 : S1024x512.Idx → EReal) (ix2 r j)
      = qrow (fun k => v0 (ix3 0 r k)) (fun k => v2 (ix2 0 k)) (fun k j => v17 (ix3 0 k j)) j * scale2 := by
  rw [← scale2_eq]
  unfold qrow
  pointwise [k0_pay2, k0_pay1, rms]

theorem pay3_apply (m : Fin 256) (d : Fin 128) : (k0_pay3 (F := Ideal) : S256x128.Idx → EReal) (ix2 m d) = 1 := by
  pointwise [k0_pay3]

theorem pay4_apply (v0 : FVec Ideal S1x1024x1024 .f32) (v2 : FVec Ideal S1x1024 .f32) (v17 : FVec Ideal S1x1024x512 .bf16) (k : FVec Ideal S1x256x128 .bf16)
    (r : Fin 1024) (m : Fin 256) :
    (k0_pay4 (F := Ideal) v0 v2 v17 k : S1024x256.Idx → EReal) (ix2 r m)
      = pexp (fun m => ∑ e : Fin 128, (k0_pay2 (F := Ideal) v0 v2 v17 : S1024x512.Idx → EReal) (ix2 r ⟨e.val, by omega⟩) * k (ix3 0 m e)) m := by
  generalize hn : k0_pay2 (F := Ideal) v0 v2 v17 = n
  unfold pexp top
  pointwise [k0_pay4, hn]
  rfl

theorem pay5_apply (v : FVec Ideal S1x256x128 .bf16) (m : Fin 256) (d : Fin 128) : (k0_pay5 (F := Ideal) v : S256x128.Idx → EReal) (ix2 m d) = v (ix3 0 m d) := by
  pointwise [k0_pay5]

theorem pay6_apply (o : FVec Ideal S256x128 .bf16) (p : FVec Ideal S1024x256 .bf16) (v : FVec Ideal S256x128 .bf16) (r : Fin 1024) (d : Fin 128) :
    (k0_pay6 (F := Ideal) o p v : S1024x128.Idx → EReal) (ix2 r d)
      = (∑ m, p (ix2 r m) * v (ix2 m d)) * Ideal.div 1 (∑ m, p (ix2 r m) * o (ix2 m 0)) := by
  pointwise [k0_pay6]

theorem pay7_apply (q : FVec Ideal S1024x512 .bf16) (o : FVec Ideal S256x128 .bf16) (k v : FVec Ideal S1x256x128 .bf16) (r : Fin 1024) (d : Fin 128) :
    (k0_pay7 (F := Ideal) q o k v : S1024x128.Idx → EReal) (ix2 r d)
      = (∑ m, pexp (fun m => ∑ e : Fin 128, q (ix2 r ⟨128 + e.val, by omega⟩) * k (ix3 0 m e)) m * v (ix3 0 m d))
        * Ideal.div 1 (∑ m, pexp (fun m => ∑ e : Fin 128, q (ix2 r ⟨128 + e.val, by omega⟩) * k (ix3 0 m e)) m * o (ix2 m 0)) := by
  unfold pexp top
  pointwise [k0_pay7]
  rfl

theorem pay8_apply (q : FVec Ideal S1024x512 .bf16) (k : FVec Ideal S1x256x128 .bf16) (r : Fin 1024) (m : Fin 256) :
    (k0_pay8 (F := Ideal) q k : S1024x256.Idx → EReal) (ix2 r m)
      = pexp (fun m => ∑ e : Fin 128, q (ix2 r ⟨256 + e.val, by omega⟩) * k (ix3 0 m e)) m := by
  unfold pexp top
  pointwise [k0_pay8]
  rfl

/-- The last step: the four heads side by side, by the output weights, onto the row. -/
theorem pay9_apply (x : FVec Ideal S1024x1024 .f32) (q : FVec Ideal S1024x512 .bf16) (o : FVec Ideal S256x128 .bf16) (h0 h1 : FVec Ideal S1024x128 .bf16)
    (p : FVec Ideal S1024x256 .bf16) (v2 k3 v3 : FVec Ideal S1x256x128 .bf16) (w : FVec Ideal S1x512x1024 .bf16) (r k : Fin 1024) (G : Fin 512 → EReal)
    (H0 : ∀ d : Fin 128, h0 (ix2 r d) = G ⟨d.val, by omega⟩) (H1 : ∀ d : Fin 128, h1 (ix2 r d) = G ⟨128 + d.val, by omega⟩)
    (H2 : ∀ d : Fin 128, (∑ m, p (ix2 r m) * v2 (ix3 0 m d) : EReal) * Ideal.div 1 (∑ m, p (ix2 r m) * o (ix2 m 0)) = G ⟨256 + d.val, by omega⟩)
    (H3 : ∀ d : Fin 128, (∑ m, pexp (fun m => ∑ e : Fin 128, q (ix2 r ⟨384 + e.val, by omega⟩) * k3 (ix3 0 m e)) m * v3 (ix3 0 m d))
        * Ideal.div 1 (∑ m, pexp (fun m => ∑ e : Fin 128, q (ix2 r ⟨384 + e.val, by omega⟩) * k3 (ix3 0 m e)) m * o (ix2 m 0)) = G ⟨384 + d.val, by omega⟩) :
    (k0_pay9 (F := Ideal) x q o h0 h1 p v2 k3 v3 w : S1x1024x1024.Idx → EReal) (ix3 0 r k) = x (ix2 r k) + ∑ c : Fin 512, G c * w (ix3 0 c k) := by
  unfold pexp top at H3
  pointwise [k0_pay9]
  refine congrArg₂ (· + ·) rfl (Finset.sum_congr rfl fun c _ => congrArg₂ (· * ·) ?_ rfl)
  by_cases c0 : c.val < 128
  · rw [dif_pos c0]
    exact H0 ⟨c.val, c0⟩
  rw [dif_neg c0]
  by_cases c1 : c.val - 128 < 128
  · rw [dif_pos c1]
    exact (H1 ⟨c.val - 128, c1⟩).trans (congrArg G (Fin.ext (by show 128 + (c.val - 128) = c.val; omega)))
  rw [dif_neg c1]
  by_cases c2 : c.val - 128 - 128 < 128
  · rw [dif_pos c2]
    simp only [dif_pos c2]
    exact (H2 ⟨c.val - 128 - 128, c2⟩).trans (congrArg G (Fin.ext (by show 256 + (c.val - 128 - 128) = c.val; omega)))
  have c3 : c.val - 128 - 128 - 128 < 128 := by have := c.isLt; omega
  rw [dif_neg c2]
  simp only [dif_pos c3]
  exact (H3 ⟨c.val - 128 - 128 - 128, c3⟩).trans (congrArg G (Fin.ext (by show 384 + (c.val - 128 - 128 - 128) = c.val; omega)))

theorem ld_full0 (x : Vec Ideal S1x1024x1024 .f32) : View.ld x r0_0 = x := idx_full x _
theorem ld_full1 (x : Vec Ideal S1x1024 .f32) : View.ld x r0_1 = x := idx_full x _
theorem ld_full2 (x : Vec Ideal S1x1024x512 .bf16) : View.ld x r0_2 = x := idx_full x _
theorem ld_full7 (x : Vec Ideal S1x512x1024 .bf16) : View.ld x r0_7 = x := idx_full x _

/-- The 128 columns of the keys (or of the values) from column `o`. -/
def cols (x : Vec Ideal S1x256x512 .bf16) (o : ℕ) (ho : o + 128 ≤ 512) : Vec Ideal S1x256x128 .bf16 :=
  fun y => x (ix3 0 (y 1) ⟨o + (y 2).val, by have : (y 2).val < 128 := (y 2).isLt; omega⟩)

theorem cols_apply (x : Vec Ideal S1x256x512 .bf16) (o : ℕ) (ho : o + 128 ≤ 512) (m : Fin 256) (e : Fin 128) :
    cols x o ho (ix3 0 m e) = x (ix3 0 m ⟨o + e.val, by omega⟩) := rfl

theorem ld_3 (x : Vec Ideal S1x256x512 .bf16) : View.ld x r0_3 = cols x 0 (by omega) := by
  funext y
  refine congrArg x (funext fun a => Fin.ext ?_)
  match a with
  | ⟨0, _⟩ => show 0 + 1 * (y 0).val = 0; have : (y 0).val < 1 := (y 0).isLt; omega
  | ⟨1, _⟩ => show 0 + 1 * (y 1).val = (y 1).val; omega
  | ⟨2, _⟩ => show 0 + 1 * (y 2).val = 0 + (y 2).val; omega

theorem ld_4 (x : Vec Ideal S1x256x512 .bf16) : View.ld x r0_4 = cols x 128 (by omega) := by
  funext y
  refine congrArg x (funext fun a => Fin.ext ?_)
  match a with
  | ⟨0, _⟩ => show 0 + 1 * (y 0).val = 0; have : (y 0).val < 1 := (y 0).isLt; omega
  | ⟨1, _⟩ => show 0 + 1 * (y 1).val = (y 1).val; omega
  | ⟨2, _⟩ => show 128 + 1 * (y 2).val = 128 + (y 2).val; omega

theorem ld_5 (x : Vec Ideal S1x256x512 .bf16) : View.ld x r0_5 = cols x 256 (by omega) := by
  funext y
  refine congrArg x (funext fun a => Fin.ext ?_)
  match a with
  | ⟨0, _⟩ => show 0 + 1 * (y 0).val = 0; have : (y 0).val < 1 := (y 0).isLt; omega
  | ⟨1, _⟩ => show 0 + 1 * (y 1).val = (y 1).val; omega
  | ⟨2, _⟩ => show 256 + 1 * (y 2).val = 256 + (y 2).val; omega

theorem ld_6 (x : Vec Ideal S1x256x512 .bf16) : View.ld x r0_6 = cols x 384 (by omega) := by
  funext y
  refine congrArg x (funext fun a => Fin.ext ?_)
  match a with
  | ⟨0, _⟩ => show 0 + 1 * (y 0).val = 0; have : (y 0).val < 1 := (y 0).isLt; omega
  | ⟨1, _⟩ => show 0 + 1 * (y 1).val = (y 1).val; omega
  | ⟨2, _⟩ => show 384 + 1 * (y 2).val = 384 + (y 2).val; omega

/-- Entry `c` of the heads when `c` lies in the head that begins at `o`. -/
theorem khd_at (q : Fin 512 → EReal) (K V : Fin 256 → Fin 512 → EReal) (o : ℕ) (ho : o + 128 ≤ 512) (h : o / 128 * 128 = o) (d : Fin 128) :
    khd q K V ⟨o + d.val, by omega⟩
      = (∑ m, pexp (fun m => ∑ e : Fin 128, q ⟨o + e.val, by omega⟩ * K m ⟨o + e.val, by omega⟩) m * V m ⟨o + d.val, by omega⟩)
        * Ideal.div 1 (∑ m, pexp (fun m => ∑ e : Fin 128, q ⟨o + e.val, by omega⟩ * K m ⟨o + e.val, by omega⟩) m * 1) := by
  have e : (o + d.val) / 128 * 128 = o := by omega
  unfold khd khead
  simp only [e]

/-- The result block, its rows by their own functions. -/
def outV (x0 : Vec Ideal S1x1024x1024 .f32) (x1 : Vec Ideal S1x1024 .f32) (x2 : Vec Ideal S1x1024x512 .bf16) (x3 x4 : Vec Ideal S1x256x512 .bf16)
    (x5 : Vec Ideal S1x512x1024 .bf16) (y : S1x1024x1024.Idx) : EReal :=
  kattn (fun k => x0 (ix3 0 (y 1) k)) (fun k => x1 (ix2 0 k)) (fun k j => x2 (ix3 0 k j)) (fun m c => x3 (ix3 0 m c)) (fun m c => x4 (ix3 0 m c))
    (fun c k => x5 (ix3 0 c k)) (y 2)

/-- The result block at an index. -/
theorem out_apply (x0 : Vec Ideal S1x1024x1024 .f32) (x1 : Vec Ideal S1x1024 .f32) (x2 : Vec Ideal S1x1024x512 .bf16) (x3 x4 : Vec Ideal S1x256x512 .bf16)
    (x5 : Vec Ideal S1x512x1024 .bf16) (r k : Fin 1024) :
    (out0_6 (F := Ideal) x0 x1 x2 x3 x4 x5 : S1x1024x1024.Idx → EReal) (ix3 0 r k)
      = kattn (fun k => x0 (ix3 0 r k)) (fun k => x1 (ix2 0 k)) (fun k j => x2 (ix3 0 k j)) (fun m c => x3 (ix3 0 m c)) (fun m c => x4 (ix3 0 m c))
          (fun c k => x5 (ix3 0 c k)) k := by
  unfold out0_6
  rw [ld_full0, ld_full1, ld_full2, ld_full7, ld_3, ld_3, ld_4, ld_4, ld_5, ld_5, ld_6, ld_6]
  refine View.canon_apply_of_pieces (Val := Elt Ideal) (S := S1x1024x1024) (e := .f32) (outV x0 x1 x2 x3 x4 x5) _ ?_ (ix3 0 r k) (View.cover_of_tiledL _ ![1, 1024, 1024] (by sl_kernel_rfl) _)
  intro p hp z
  obtain rfl := List.mem_singleton.mp hp
  obtain ⟨r, k, rfl⟩ : ∃ r k : Fin 1024, z = ix3 0 r k := ⟨z 1, z 2, by
    funext a
    match a with
    | ⟨0, _⟩ => exact Subsingleton.elim (α := Fin 1) _ _
    | ⟨1, _⟩ => rfl
    | ⟨2, _⟩ => rfl⟩
  have hz : r0_0.emb (ix3 0 r k) = ix3 0 r k := Rect.emb_unit_full _ _
  show _ = outV x0 x1 x2 x3 x4 x5 (r0_0.emb (ix3 0 r k))
  rw [hz]
  unfold outV kattn
  simp only [ix3_0, ix3_1, ix3_2]
  refine (pay9_apply _ _ _ _ _ _ _ _ _ _ r k (khd (fun j => qrow (fun k => x0 (ix3 0 r k)) (fun k => x1 (ix2 0 k)) (fun k j => x2 (ix3 0 k j)) j * scale2)
    (fun m c => x3 (ix3 0 m c)) (fun m c => x4 (ix3 0 m c))) ?_ ?_ ?_ ?_).trans ?_
  · intro d
    rw [pay6_apply]
    have := khd_at (fun j => qrow (fun k => x0 (ix3 0 r k)) (fun k => x1 (ix2 0 k)) (fun k j => x2 (ix3 0 k j)) j * scale2)
      (fun m c => x3 (ix3 0 m c)) (fun m c => x4 (ix3 0 m c)) 0 (by omega) rfl d
    simp only [Nat.zero_add] at this
    rw [this]
    simp only [Nat.zero_add, pay4_apply, pay2_apply, pay5_apply, k0_pay11, pay3_apply, ld_full0, ld_full1, ld_full2, cols_apply]
  · intro d
    rw [pay7_apply, khd_at _ _ _ 128 (by omega) rfl d]
    simp only [k0_pay10, pay2_apply, k0_pay11, pay3_apply, ld_full0, ld_full1, ld_full2, cols_apply]
  · intro d
    rw [khd_at _ _ _ 256 (by omega) rfl d]
    simp only [pay8_apply, k0_pay10, pay2_apply, k0_pay11, pay3_apply, ld_full0, ld_full1, ld_full2, cols_apply]
  · intro d
    rw [khd_at _ _ _ 384 (by omega) rfl d]
    simp only [k0_pay10, pay2_apply, k0_pay11, pay3_apply, ld_full0, ld_full1, ld_full2, cols_apply]
  · simp only [pay1_apply, ld_full0, ld_full7]

end Cert.AttendK
-- ==== Proof.AttendRef.lean ====
/-
  Untrusted. What the reference of layer 1's cross-attention computes, read at an index: row `r` of sequence `b` is the layer of
  that row, in the terms of the row functions.
-/
module

public import proofs.«01_k».proof.Proof.Attend
public import proofs.«01_k».proof.Proof.Gen.Reference4Ideal.Read

@[expose] public section

set_option maxRecDepth 16384

noncomputable section

namespace Cert.AttendRef

open Idealize.ShloMosaic Idealize.ShloMosaic.TcCoe Idealize.SL.Sem
open Cert.Rows Cert.Attend
open Cert.Reference4Ideal Cert.Reference4Ideal.Read

variable (x0 : (⟨S16x2048x1024, .f32⟩ : BufTy).Contents (Elt Ideal)) (x1 : (⟨S2x1024, .f32⟩ : BufTy).Contents (Elt Ideal))
  (x2 : (⟨S2x1024x512, .f32⟩ : BufTy).Contents (Elt Ideal)) (x3 : (⟨S16x256x1024, .bf16⟩ : BufTy).Contents (Elt Ideal))
  (x4 : (⟨S2x512x1024, .f32⟩ : BufTy).Contents (Elt Ideal))

/-- The normalised row. -/
theorem v18_apply (b : Fin 16) (r : Fin 2048) (k : Fin 1024) :
    val_main_v18 (F := Ideal) x0 x1 (ix3 b r k) = rms (fun k => x0 (ix3 b r k)) (fun k => x1 (ix2 1 k)) k := by
  pointwise [val_main_v18, val_main_v17, val_main_v16, val_main_v15, val_main_v14, val_main_v13, val_main_v12, val_main_v11, val_main_v10, val_main_v9, val_main_v8, val_main_v7, val_main_v6, val_main_v1, val_main_v0, val_main_cst, val_main_cst_0, val_main_cst_1, rms, Ideal.ofBits_zero_f32, zero_add]

/-- The query row. -/
theorem v19_apply (b : Fin 16) (r : Fin 2048) (j : Fin 512) :
    val_main_v19 (F := Ideal) x0 x1 x2 (ix3 b r j) = qrow (fun k => x0 (ix3 b r k)) (fun k => x1 (ix2 1 k)) (fun k j => x2 (ix3 1 k j)) j := by
  simp only [qrow, ← v18_apply x0 x1]
  generalize hn : val_main_v18 (F := Ideal) x0 x1 = n
  pointwise [val_main_v19, val_main_v3, val_main_v2, hn]

/-- The scores of head `h`. -/
theorem v28_apply (b : Fin 16) (h : Fin 4) (r : Fin 2048) (m : Fin 256) :
    val_main_v28 (F := Ideal) x0 x1 x2 x3 (ix4 b h r m)
      = (∑ e : Fin 128, val_main_v19 (F := Ideal) x0 x1 x2 (ix3 b r ⟨h.val * 128 + e.val, by omega⟩) * x3 (ix3 b m ⟨h.val * 128 + e.val, by omega⟩))
        * Ideal.ofBits .f32 0x3DB504F3#32 := by
  generalize hn : val_main_v19 (F := Ideal) x0 x1 x2 = n
  pointwise [val_main_v28, val_main_v27, val_main_v26, val_main_v24, val_main_v22, val_main_v21, val_main_v20, val_main_cst_2, hn]

theorem rmax (x : FVec Ideal S16x4x2048x256 .f32) (h0 : S16x4x2048x256.ReducesTo [3] S16x4x2048) (h1 : 0 < S_.numel) (b : Fin 16) (h : Fin 4) (r : Fin 2048) :
    Host.reduce (FloatOps.maximumf (F := Ideal) (φ := .f32)) x (constant (F := Ideal) S_ .f32 0xFF800000#32) h0 h1 (ix3 b h r)
      = top (fun m => x (ix4 b h r m)) := by
  unfold top
  pointwise []

/-- The largest score of head `h`. -/
theorem v31_apply (b : Fin 16) (h : Fin 4) (r : Fin 2048) :
    val_main_v31 (F := Ideal) x0 x1 x2 x3 (ix3 b h r)
      = max (Ideal.ofBits .f32 0xFF800000#32) (top (fun m => val_main_v28 (F := Ideal) x0 x1 x2 x3 (ix4 b h r m))) := by
  rw [val_main_v31_apply, val_main_v30_apply, val_main_cst_4_apply]
  unfold val_main_v29
  generalize val_main_v28 (F := Ideal) x0 x1 x2 x3 = n
  exact congrArg (max (Ideal.ofBits .f32 0xFF800000#32)) (rmax n _ _ b h r)

/-- The weights of head `h`. -/
theorem v39_apply (b : Fin 16) (h : Fin 4) (r : Fin 2048) (m : Fin 256) :
    val_main_v39 (F := Ideal) x0 x1 x2 x3 (ix4 b h r m)
      = Ideal.div (Ideal.exp (val_main_v28 (F := Ideal) x0 x1 x2 x3 (ix4 b h r m) - val_main_v31 (F := Ideal) x0 x1 x2 x3 (ix3 b h r)))
          (∑ m, Ideal.exp (val_main_v28 (F := Ideal) x0 x1 x2 x3 (ix4 b h r m) - val_main_v31 (F := Ideal) x0 x1 x2 x3 (ix3 b h r))) := by
  generalize hM : val_main_v31 (F := Ideal) x0 x1 x2 x3 = M
  generalize hl : val_main_v28 (F := Ideal) x0 x1 x2 x3 = l
  pointwise [val_main_v39, val_main_v38, val_main_v37, val_main_v36, val_main_v35, val_main_v34, val_main_v33, val_main_v32, val_main_cst_5, hM, hl, Ideal.ofBits_zero_f32, zero_add]

/-- The heads side by side. -/
theorem v42_apply (b : Fin 16) (r : Fin 2048) (c : Fin 512) :
    val_main_v42 (F := Ideal) x0 x1 x2 x3 (ix3 b r c)
      = rhd (qrow (fun k => x0 (ix3 b r k)) (fun k => x1 (ix2 1 k)) (fun k j => x2 (ix3 1 k j))) (fun m c => x3 (ix3 b m ⟨c.val, by omega⟩))
          (fun m c => x3 (ix3 b m ⟨512 + c.val, by omega⟩)) c := by
  have e : val_main_v42 (F := Ideal) x0 x1 x2 x3 (ix3 b r c)
      = ∑ m, x3 (ix3 b m ⟨512 + c.val, by omega⟩) * val_main_v39 (F := Ideal) x0 x1 x2 x3 (ix4 b ⟨c.val / 128, by omega⟩ r m) := by
    generalize hn : val_main_v39 (F := Ideal) x0 x1 x2 x3 = n
    pointwise [val_main_v42, val_main_v41, val_main_v40, val_main_v25, val_main_v23, val_main_v21, hn]
  rw [e]
  unfold rhd rhead
  simp only [v39_apply, v31_apply, v28_apply, v19_apply]

/-- THE REFERENCE'S RESULT AT AN INDEX. -/
theorem ref_apply (b : Fin 16) (r : Fin 2048) (k : Fin 1024) :
    val_main_v44 (F := Ideal) x0 x1 x2 x3 x4 (ix3 b r k)
      = rattn (fun k => x0 (ix3 b r k)) (fun k => x1 (ix2 1 k)) (fun k j => x2 (ix3 1 k j)) (fun m c => x3 (ix3 b m ⟨c.val, by omega⟩))
          (fun m c => x3 (ix3 b m ⟨512 + c.val, by omega⟩)) (fun c k => x4 (ix3 1 c k)) k := by
  unfold rattn
  simp only [← v42_apply x0 x1 x2 x3]
  generalize hn : val_main_v42 (F := Ideal) x0 x1 x2 x3 = n
  pointwise [val_main_v44, val_main_v43, val_main_v5, val_main_v4, hn]

end Cert.AttendRef
-- ==== Proof.Finite.lean ====
/-
  Untrusted. A precondition that every entry of an array is finite, read back: at the ideal instance every entry is a real.
-/
module

public import proofs.«01_k».proof.Proof.Attend
public import Idealize.ShloMosaic.Lib.ReduceAll

@[expose] public section

noncomputable section

namespace Cert.Finite

open Idealize.ShloMosaic Idealize.ShloMosaic.TcCoe Idealize.SL.Sem
open Cert.Attend

theorem inf_top : Ideal.ofBits .f32 0x7F800000#32 = (⊤ : EReal) := by
  simp [Ideal.ofBits, Ideal.ieee]

/-- An extended real whose absolute value is below infinity is a real. -/
theorem isReal_of_lt {x : EReal} (h : Ideal.cmp .olt (max x (-x)) (Ideal.ofBits .f32 0x7F800000#32) = 1#1) : IsReal x := by
  rw [inf_top] at h
  have h' : max x (-x) < ⊤ := by
    by_contra hn
    simp [Ideal.cmp, hn] at h
  induction x using EReal.rec with
  | bot => simp at h'
  | coe r => exact ⟨r, rfl⟩
  | top => simp at h'

/-- Of an array all of whose entries pass the test, each entry is a real. -/
theorem isReal_of_all {s t u : Shape} {axes : List (Fin s.rank)} [Subsingleton t.Idx] (x y : FVec Ideal s .f32) (hy : ∀ i, y i = Ideal.ofBits .f32 0x7F800000#32)
    (init : u.Idx → BitVec 1) (h : s.ReducesTo axes t) (hu : 0 < u.numel) (j : t.Idx)
    (e : Host.reduce IntOp.andi (cmpf .olt (Host.absf x) y) init h hu j = 1#1) (i : s.Idx) : IsReal (x i) := by
  have h1 := Host.reduce_andi_all _ init h hu j e i
  have h2 : Ideal.cmp .olt (max (x i) (-(x i))) (y i) = 1#1 := h1
  rw [hy] at h2
  exact isReal_of_lt h2

end Cert.Finite
-- ==== Proof.AttendRun.lean ====
/-
  Untrusted. The cross-attention of layer 1 from its arguments to its result.
-/
module

public import proofs.«01_k».proof.Defs
public import proofs.«01_k».proof.Proof.AttendK
public import proofs.«01_k».proof.Proof.AttendRef
public import proofs.«01_k».proof.Proof.Finite
public import proofs.«01_k».proof.Proof.FramesX
public import Idealize.ShloMosaic.Lib.Quiescent

@[expose] public section

set_option maxRecDepth 16384

noncomputable section

open Idealize.ShloMosaic Idealize.ShloMosaic.TcCoe Idealize.SL.Sem
open Cert.Rows Cert.Attend

namespace Cert.AttendRun

open Cert.Kernel4Ideal Cert.Kernel4Ideal.Gen
open Idealize.ShloMosaic.Pipeline (Dat)

variable (m : (ℓ : Loc nD τ sig) → Buf (Elt Ideal) ℓ) (ρ : Dev nD → PrngReg)

/-- Where each window's block lies, at each of the 32 points. -/
theorem idx_facts : ∀ t : Fin cfg0.N,
    (win0_0.index t (0 : Fin 3) = t.val / 2 ∧ win0_0.index t (1 : Fin 3) = t.val % 2 ∧ win0_0.index t (2 : Fin 3) = 0)
    ∧ (win0_1.index t (0 : Fin 2) = 0 ∧ win0_1.index t (1 : Fin 2) = 0)
    ∧ (win0_2.index t (0 : Fin 3) = 1 ∧ win0_2.index t (1 : Fin 3) = 0 ∧ win0_2.index t (2 : Fin 3) = 0)
    ∧ (win0_3.index t (0 : Fin 3) = t.val / 2 ∧ win0_3.index t (1 : Fin 3) = 0 ∧ win0_3.index t (2 : Fin 3) = 0)
    ∧ (win0_4.index t (0 : Fin 3) = t.val / 2 ∧ win0_4.index t (1 : Fin 3) = 0 ∧ win0_4.index t (2 : Fin 3) = 1)
    ∧ (win0_5.index t (0 : Fin 3) = 1 ∧ win0_5.index t (1 : Fin 3) = 0 ∧ win0_5.index t (2 : Fin 3) = 0)
    ∧ (win0_6.index t (0 : Fin 3) = t.val / 2 ∧ win0_6.index t (1 : Fin 3) = t.val % 2 ∧ win0_6.index t (2 : Fin 3) = 0) :=
  (by decide +kernel : ∀ t : Fin grid0.N, _)

theorem lt32 (t : Fin cfg0.N) : t.val < 32 := by
  have h : t.val < grid0.N := t.isLt
  rwa [N_0] at h

/-- The sequence of point `t`'s block. -/
abbrev bAt (t : Fin cfg0.N) : Fin 16 := ⟨t.val / 2, by have := lt32 t; omega⟩

/-- Position `r` of point `t`'s block, as a position of its sequence. -/
abbrev rowAt (t : Fin cfg0.N) (r : Fin 1024) : Fin 2048 := ⟨t.val % 2 * 1024 + r.val, by omega⟩

theorem emb0 (t : Fin cfg0.N) (r k : Fin 1024) : ((cfg0.win 0).blk t).view.emb (ix3 0 r k) = ix3 (bAt t) (rowAt t r) k := by
  obtain ⟨⟨e0, e1, e2⟩, _⟩ := idx_facts t
  funext a; apply Fin.ext
  match a with
  | ⟨0, _⟩ => show win0_0.index t (0 : Fin 3) * 1 + 1 * 0 = t.val / 2; omega
  | ⟨1, _⟩ => show win0_0.index t (1 : Fin 3) * 1024 + 1 * r.val = t.val % 2 * 1024 + r.val; omega
  | ⟨2, _⟩ => show win0_0.index t (2 : Fin 3) * 1024 + 1 * k.val = k.val; omega

theorem emb1 (t : Fin cfg0.N) (b : Fin 1024) : ((cfg0.win 1).blk t).view.emb (ix2 0 b) = ix2 0 b := by
  obtain ⟨_, ⟨e0, e1⟩, _⟩ := idx_facts t
  funext d; apply Fin.ext
  match d with
  | ⟨0, _⟩ => show win0_1.index t (0 : Fin 2) * 1 + 1 * 0 = 0; omega
  | ⟨1, _⟩ => show win0_1.index t (1 : Fin 2) * 1024 + 1 * b.val = b.val; omega

theorem emb2 (t : Fin cfg0.N) (a : Fin 1024) (b : Fin 512) : ((cfg0.win 2).blk t).view.emb (ix3 0 a b) = ix3 1 a b := by
  obtain ⟨_, _, ⟨e0, e1, e2⟩, _⟩ := idx_facts t
  funext d; apply Fin.ext
  match d with
  | ⟨0, _⟩ => show win0_2.index t (0 : Fin 3) * 1 + 1 * 0 = 1; omega
  | ⟨1, _⟩ => show win0_2.index t (1 : Fin 3) * 1024 + 1 * a.val = a.val; omega
  | ⟨2, _⟩ => show win0_2.index t (2 : Fin 3) * 512 + 1 * b.val = b.val; omega

theorem emb3 (t : Fin cfg0.N) (a : Fin 256) (b : Fin 512) : ((cfg0.win 3).blk t).view.emb (ix3 0 a b) = ix3 (bAt t) a ⟨b.val, by omega⟩ := by
  obtain ⟨_, _, _, ⟨e0, e1, e2⟩, _⟩ := idx_facts t
  funext d; apply Fin.ext
  match d with
  | ⟨0, _⟩ => show win0_3.index t (0 : Fin 3) * 1 + 1 * 0 = t.val / 2; omega
  | ⟨1, _⟩ => show win0_3.index t (1 : Fin 3) * 256 + 1 * a.val = a.val; omega
  | ⟨2, _⟩ => show win0_3.index t (2 : Fin 3) * 512 + 1 * b.val = b.val; omega

theorem emb4 (t : Fin cfg0.N) (a : Fin 256) (b : Fin 512) : ((cfg0.win 4).blk t).view.emb (ix3 0 a b) = ix3 (bAt t) a ⟨512 + b.val, by omega⟩ := by
  obtain ⟨_, _, _, _, ⟨e0, e1, e2⟩, _⟩ := idx_facts t
  funext d; apply Fin.ext
  match d with
  | ⟨0, _⟩ => show win0_4.index t (0 : Fin 3) * 1 + 1 * 0 = t.val / 2; omega
  | ⟨1, _⟩ => show win0_4.index t (1 : Fin 3) * 256 + 1 * a.val = a.val; omega
  | ⟨2, _⟩ => show win0_4.index t (2 : Fin 3) * 512 + 1 * b.val = 512 + b.val; omega

theorem emb5 (t : Fin cfg0.N) (a : Fin 512) (b : Fin 1024) : ((cfg0.win 5).blk t).view.emb (ix3 0 a b) = ix3 1 a b := by
  obtain ⟨_, _, _, _, _, ⟨e0, e1, e2⟩, _⟩ := idx_facts t
  funext d; apply Fin.ext
  match d with
  | ⟨0, _⟩ => show win0_5.index t (0 : Fin 3) * 1 + 1 * 0 = 1; omega
  | ⟨1, _⟩ => show win0_5.index t (1 : Fin 3) * 512 + 1 * a.val = a.val; omega
  | ⟨2, _⟩ => show win0_5.index t (2 : Fin 3) * 1024 + 1 * b.val = b.val; omega

theorem emb6 (t : Fin cfg0.N) (r k : Fin 1024) : ((cfg0.win 6).blk t).view.emb (ix3 0 r k) = ix3 (bAt t) (rowAt t r) k := by
  obtain ⟨_, _, _, _, _, _, ⟨e0, e1, e2⟩⟩ := idx_facts t
  funext a; apply Fin.ext
  match a with
  | ⟨0, _⟩ => show win0_6.index t (0 : Fin 3) * 1 + 1 * 0 = t.val / 2; omega
  | ⟨1, _⟩ => show win0_6.index t (1 : Fin 3) * 1024 + 1 * r.val = t.val % 2 * 1024 + r.val; omega
  | ⟨2, _⟩ => show win0_6.index t (2 : Fin 3) * 1024 + 1 * k.val = k.val; omega

theorem V_arg0 (c : Dev nD) : V m c main_arg0 = (m ((c : Thread nD τ).loc main_arg0)) := by
  unfold_abbrev_sides
  after_results

theorem V_arg3 (c : Dev nD) : V m c main_arg3 = (m ((c : Thread nD τ).loc main_arg3)) := by
  unfold_abbrev_sides
  after_results

theorem V_v4 (c : Dev nD) : V m c main_v4 = shapeCast S1x1024 (shapeCast S1024 (extractStridedSlice S1x1024 ![1, 0] (m ((c : Thread nD τ).loc main_arg1)) slices_S2x1024_S1x1024_1_0) shapeCasts_S1x1024_S1024) shapeCasts_S1024_S1x1024 := by
  unfold_abbrev_sides
  after_results
  rfl

theorem V_v2 (c : Dev nD) : V m c main_v2 = truncf (F := Ideal) .bf16 (m ((c : Thread nD τ).loc main_arg2) : FVec Ideal S2x1024x512 .f32) bitsLt_bf16_f32 := by
  unfold_abbrev_sides
  after_results

theorem V_v3 (c : Dev nD) : V m c main_v3 = truncf (F := Ideal) .bf16 (m ((c : Thread nD τ).loc main_arg4) : FVec Ideal S2x512x1024 .f32) bitsLt_bf16_f32 := by
  unfold_abbrev_sides
  after_results

theorem cast1 (x : FVec Ideal S2x1024 .f32) (b : Fin 1024) :
    (shapeCast S1x1024 (shapeCast S1024 (extractStridedSlice S1x1024 ![1, 0] x slices_S2x1024_S1x1024_1_0) shapeCasts_S1x1024_S1024) shapeCasts_S1024_S1x1024 : S1x1024.Idx → EReal) (ix2 0 b) = x (ix2 1 b) := by
  pointwise []

theorem iblk0_apply (c : Dev nD) (t : Fin cfg0.N) (r k : Fin 1024) :
    (iblk m c 0 t : S1x1024x1024.Idx → EReal) (ix3 0 r k) = ((m ((c : Thread nD τ).loc main_arg0)) : S16x2048x1024.Idx → EReal) (ix3 (bAt t) (rowAt t r) k) := by
  show V m c main_arg0 (((cfg0.win 0).blk t).view.emb (ix3 0 r k)) = _
  rw [emb0]
  exact congrFun (V_arg0 m c) _

theorem iblk1_apply (c : Dev nD) (t : Fin cfg0.N) (b : Fin 1024) :
    (iblk m c 1 t : S1x1024.Idx → EReal) (ix2 0 b) = ((m ((c : Thread nD τ).loc main_arg1)) : S2x1024.Idx → EReal) (ix2 1 b) := by
  show V m c main_v4 (((cfg0.win 1).blk t).view.emb (ix2 0 b)) = _
  rw [emb1]
  exact (congrFun (V_v4 m c) _).trans (cast1 _ _ )

theorem iblk2_apply (c : Dev nD) (t : Fin cfg0.N) (a : Fin 1024) (b : Fin 512) :
    (iblk m c 2 t : S1x1024x512.Idx → EReal) (ix3 0 a b) = ((m ((c : Thread nD τ).loc main_arg2)) : S2x1024x512.Idx → EReal) (ix3 1 a b) := by
  show V m c main_v2 (((cfg0.win 2).blk t).view.emb (ix3 0 a b)) = _
  rw [emb2]
  exact congrFun (V_v2 m c) _

theorem iblk3_apply (c : Dev nD) (t : Fin cfg0.N) (a : Fin 256) (b : Fin 512) :
    (iblk m c 3 t : S1x256x512.Idx → EReal) (ix3 0 a b) = ((m ((c : Thread nD τ).loc main_arg3)) : S16x256x1024.Idx → EReal) (ix3 (bAt t) a ⟨b.val, by omega⟩) := by
  show V m c main_arg3 (((cfg0.win 3).blk t).view.emb (ix3 0 a b)) = _
  rw [emb3]
  exact congrFun (V_arg3 m c) _

theorem iblk4_apply (c : Dev nD) (t : Fin cfg0.N) (a : Fin 256) (b : Fin 512) :
    (iblk m c 4 t : S1x256x512.Idx → EReal) (ix3 0 a b) = ((m ((c : Thread nD τ).loc main_arg3)) : S16x256x1024.Idx → EReal) (ix3 (bAt t) a ⟨512 + b.val, by omega⟩) := by
  show V m c main_arg3 (((cfg0.win 4).blk t).view.emb (ix3 0 a b)) = _
  rw [emb4]
  exact congrFun (V_arg3 m c) _

theorem iblk5_apply (c : Dev nD) (t : Fin cfg0.N) (a : Fin 512) (b : Fin 1024) :
    (iblk m c 5 t : S1x512x1024.Idx → EReal) (ix3 0 a b) = ((m ((c : Thread nD τ).loc main_arg4)) : S2x512x1024.Idx → EReal) (ix3 1 a b) := by
  show V m c main_v3 (((cfg0.win 5).blk t).view.emb (ix3 0 a b)) = _
  rw [emb5]
  exact congrFun (V_v3 m c) _

/-- THE ARRAY AFTER THE RUN, AT POSITION `r` OF BLOCK `q` OF SEQUENCE `b`: the layer of that row. -/
theorem final_apply (c : Dev nD) (b : Fin 16) (q : Fin 2) (r k : Fin 1024) :
    ((dats m 0 c).arrAt 6 cfg0.N : S16x2048x1024.Idx → EReal) (ix3 b ⟨q.val * 1024 + r.val, by omega⟩ k)
      = kattn (fun k => ((m ((c : Thread nD τ).loc main_arg0)) : S16x2048x1024.Idx → EReal) (ix3 b ⟨q.val * 1024 + r.val, by omega⟩ k))
          (fun k => ((m ((c : Thread nD τ).loc main_arg1)) : S2x1024.Idx → EReal) (ix2 1 k)) (fun k j => ((m ((c : Thread nD τ).loc main_arg2)) : S2x1024x512.Idx → EReal) (ix3 1 k j))
          (fun a j => ((m ((c : Thread nD τ).loc main_arg3)) : S16x256x1024.Idx → EReal) (ix3 b a ⟨j.val, by omega⟩))
          (fun a j => ((m ((c : Thread nD τ).loc main_arg3)) : S16x256x1024.Idx → EReal) (ix3 b a ⟨512 + j.val, by omega⟩))
          (fun j k => ((m ((c : Thread nD τ).loc main_arg4)) : S2x512x1024.Idx → EReal) (ix3 1 j k)) k := by
  obtain ⟨t, ht⟩ : ∃ t : Fin cfg0.N, t.val = b.val * 2 + q.val := ⟨⟨b.val * 2 + q.val, by show _ < grid0.N; rw [N_0]; omega⟩, rfl⟩
  have hb : b = bAt t := Fin.ext (by show b.val = t.val / 2; omega)
  have hq : q = ⟨t.val % 2, Nat.mod_lt _ Nat.two_pos⟩ := Fin.ext (by show q.val = t.val % 2; omega)
  subst hb hq
  have h := congrFun (Cert.Kernel4Ideal.Value.blocks6 m c t (flush0_6 t)) (ix3 0 r k)
  rw [Cert.Kernel4Ideal.Value.flushed6] at h
  have h' : (dats m 0 c).arrAt 6 cfg0.N (((cfg0.win 6).blk t).view.emb (ix3 0 r k)) = _ := h
  rw [emb6] at h'
  refine h'.trans ((Cert.AttendK.out_apply _ _ _ _ _ _ _ _).trans ?_)
  simp only [iblk0_apply, iblk1_apply, iblk2_apply, iblk3_apply, iblk4_apply, iblk5_apply]

theorem pre_norm (x : FVec Ideal Cert.Pre_finite4.S2x1024 .f32) (h1 : Cert.Pre_finite4.S2x1024.Slices ![1, 0] Cert.Pre_finite4.S1x1024) (h2 : Cert.Pre_finite4.S1x1024.ShapeCasts Cert.Pre_finite4.S1024) (k : Fin 1024) :
    (shapeCast Cert.Pre_finite4.S1024 (extractStridedSlice Cert.Pre_finite4.S1x1024 ![1, 0] x h1) h2 : Cert.Pre_finite4.S1024.Idx → EReal) (ix1 k) = x (ix2 1 k) := by
  pointwise []

theorem pre_wq (x : FVec Ideal Cert.Pre_finite4.S2x1024x512 .f32) (h1 : Cert.Pre_finite4.S2x1024x512.Slices ![1, 0, 0] Cert.Pre_finite4.S1x1024x512) (h2 : Cert.Pre_finite4.S1x1024x512.ShapeCasts Cert.Pre_finite4.S1024x512) (k : Fin 1024) (j : Fin 512) :
    (shapeCast Cert.Pre_finite4.S1024x512 (extractStridedSlice Cert.Pre_finite4.S1x1024x512 ![1, 0, 0] x h1) h2 : Cert.Pre_finite4.S1024x512.Idx → EReal) (ix2 k j) = x (ix3 1 k j) := by
  pointwise []

theorem pre_keys (x : FVec Ideal Cert.Pre_finite4.S16x256x1024 .bf16) (h1 : Cert.Pre_finite4.S16x256x1024.Slices ![0, 0, 0] Cert.Pre_finite4.S16x256x512) (h2 : FTy.bits .bf16 < FTy.bits .f32) (b : Fin 16) (a : Fin 256) (j : Fin 512) :
    (extf .f32 (extractStridedSlice Cert.Pre_finite4.S16x256x512 ![0, 0, 0] x h1) h2 : Cert.Pre_finite4.S16x256x512.Idx → EReal) (ix3 b a j) = x (ix3 b a ⟨j.val, by omega⟩) := by
  pointwise []

/-- The precondition, read back. -/
theorem real_of_pre [hp : Cert.Pre_finite4.Facts] (a0 : FVec Ideal Cert.Pre_finite4.S16x2048x1024 .f32) (a1 : FVec Ideal Cert.Pre_finite4.S2x1024 .f32)
    (a2 : FVec Ideal Cert.Pre_finite4.S2x1024x512 .f32) (a3 : FVec Ideal Cert.Pre_finite4.S16x256x1024 .bf16) (a4 : FVec Ideal Cert.Pre_finite4.S2x512x1024 .f32)
    (h : Cert.Pre_finite4.fn (F := Ideal) a0 a1 a2 a3 a4 = (fun _ => 1#1)) :
    (∀ k, IsReal (a1 (ix2 1 k))) ∧ (∀ k j, IsReal (a2 (ix3 1 k j))) ∧ (∀ b a (j : Fin 512), IsReal (a3 (ix3 b a ⟨j.val, by omega⟩))) := by
  have h0 := congrFun h ix0
  dsimp only [Cert.Pre_finite4.fn, Cert.Pre_finite4.fn_part1] at h0
  haveI : Subsingleton Cert.Pre_finite4.S_.Idx := ⟨fun a b => funext fun d => d.elim0⟩
  obtain ⟨h0, h2⟩ := IntOp.andi_eq_one.1 h0
  obtain ⟨h0, h1⟩ := IntOp.andi_eq_one.1 h0
  refine ⟨fun k => ?_, fun k j => ?_, fun b a j => ?_⟩
  · obtain ⟨r, e⟩ := Cert.Finite.isReal_of_all _ _ (fun _ => rfl) _ _ _ _ h0 (ix1 k)
    exact ⟨r, (pre_norm a1 _ _ k).symm.trans e⟩
  · obtain ⟨r, e⟩ := Cert.Finite.isReal_of_all _ _ (fun _ => rfl) _ _ _ _ h1 (ix2 k j)
    exact ⟨r, (pre_wq a2 _ _ k j).symm.trans e⟩
  · obtain ⟨r, e⟩ := Cert.Finite.isReal_of_all _ _ (fun _ => rfl) _ _ _ _ h2 (ix3 b a j)
    exact ⟨r, (pre_keys a3 _ _ b a j).symm.trans e⟩

end Cert.AttendRun

/-- The kernel's scale to base 2, named. -/
theorem Cert.Proof.preserves4 : Cert.preserves_Kernel4_Kernel4Ideal :=
  IdealRules.named_const.statement Cert.Kernel4Ideal.κ "scale2" .f32 0x3E0293EE#32 (((11863283 / 134217728) * (Real.log 2)⁻¹ : ℝ) : EReal) rfl

/-- THE VALUE CLAIM of layer 1's cross-attention: at the ideal instance, from equal arguments with finite norm weights, query weights and keys, the call and the
    reference end with the same result array. -/
theorem Cert.Proof.algebraic4 :
    Cert.algebraic_Kernel4Ideal_Reference4Ideal_pre_finite4 (hKernel4Ideal := Cert.Kernel4Ideal.Gen.facts) (hReference4Ideal := Cert.Reference4Ideal.Gen.facts)
      (hPre_finite4 := Cert.Pre_finite4.Gen.facts) := by
  intro m g m' g' hpre hargs
  refine ⟨fun c => (Cert.Kernel4Ideal.Gen.dats m 0 c).arrAt 6 Cert.Kernel4Ideal.cfg0.N, Cert.Kernel4Ideal.Value.run_blocks m g, ?_⟩
  refine (θ_run _ _ _).mono (fun _ h c => ⟨(h c).1.trans ?_, (h c).2⟩) (Cert.Reference4Ideal.Value.run m' g')
  rw [Cert.Reference4Ideal.Read.val_main_v44_eq, (hargs c).1, (hargs c).2.1, (hargs c).2.2.1, (hargs c).2.2.2.1, (hargs c).2.2.2.2]
  obtain ⟨r0, r1, r2⟩ := Cert.AttendRun.real_of_pre (hp := Cert.Pre_finite4.Gen.facts) _ _ _ _ _ (hpre c)
  funext y
  obtain ⟨b, q, r, k, rfl⟩ : ∃ (b : Fin 16) (q : Fin 2) (r k : Fin 1024), y = ix3 b ⟨q.val * 1024 + r.val, by omega⟩ k := by
    have h1 : (y 1).val < 2048 := (y 1).isLt
    refine ⟨y 0, ⟨(y 1).val / 1024, by omega⟩, ⟨(y 1).val % 1024, by omega⟩, y 2, ?_⟩
    funext d; apply Fin.ext
    match d with
    | ⟨0, _⟩ => rfl
    | ⟨1, _⟩ => show (y 1).val = (y 1).val / 1024 * 1024 + (y 1).val % 1024; omega
    | ⟨2, _⟩ => rfl
  refine (Cert.AttendRef.ref_apply _ _ _ _ _ b ⟨q.val * 1024 + r.val, by omega⟩ k).trans (Eq.trans ?_ (Cert.AttendRun.final_apply m c b q r k).symm)
  exact (attn_eq _ _ _ r0 r1 (r2 b) k).symm
-- ==== Proof.MixK.lean ====
/-
  Untrusted. What the attention kernel of layer 0 leaves in a block of its result: on every row, the layer of that row after the
  mixer's output projection is added to it.
-/
module

public import proofs.«01_k».proof.Proof.Attend
public import proofs.«01_k».proof.Proof.Gen.Kernel7Ideal.Value

@[expose] public section

set_option maxRecDepth 16384

noncomputable section

namespace Cert.MixK

open Idealize.ShloMosaic Idealize.ShloMosaic.TcCoe Idealize.SL.Sem
open Cert.Rows Cert.Attend
open Cert.Kernel7Ideal Cert.Kernel7Ideal.Gen

/-- A row with the mixer's two halves, each by its half of the output weights, added to it. -/
def mixRow (h : Fin 1024 → EReal) (a b : Fin 512 → EReal) (wa wb : Fin 512 → Fin 1024 → EReal) (k : Fin 1024) : EReal :=
  h k + ∑ c, a c * wa c k + ∑ c, b c * wb c k

theorem scale2_eq : Named.named (F := Ideal) κ "scale2" (φ := .f32) 0x3E0293EE#32 = scale2 :=
  IdealRules.named_const.ideal_named_scalar _ _ _ _ rfl

/-- The row after the mixer. -/
theorem pay2_apply (v0 : FVec Ideal S1x1024x1024 .f32) (v2 : FVec Ideal S1x512x1024 .bf16) (v4 : FVec Ideal S512x1024 .bf16) (v8 : FVec Ideal S1x1024x512 .bf16)
    (v10 : FVec Ideal S512x1024 .bf16) (r k : Fin 1024) :
    (k0_pay2 (F := Ideal) v0 v2 v4 v8 v10 : S1024x1024.Idx → EReal) (ix2 r k)
      = mixRow (fun k => v0 (ix3 0 r k)) (fun c => v2 (ix3 0 c r)) (fun c => v8 (ix3 0 r c)) (fun c k => v4 (ix2 c k)) (fun c k => v10 (ix2 c k)) k := by
  unfold mixRow
  pointwise [k0_pay2]

theorem pay3_apply (v0 : FVec Ideal S1x1024x1024 .f32) (v2 : FVec Ideal S1x512x1024 .bf16) (v4 : FVec Ideal S512x1024 .bf16) (v8 : FVec Ideal S1x1024x512 .bf16)
    (v10 : FVec Ideal S512x1024 .bf16) (g : FVec Ideal S1x1024 .f32) (w : FVec Ideal S1x1024x512 .bf16) (r : Fin 1024) (j : Fin 512) :
    (k0_pay3 (F := Ideal) v0 v2 v4 v8 v10 g w : S1024x512.Idx → EReal) (ix2 r j)
      = qrow (fun k => (k0_pay2 (F := Ideal) v0 v2 v4 v8 v10 : S1024x1024.Idx → EReal) (ix2 r k)) (fun k => g (ix2 0 k)) (fun k j => w (ix3 0 k j)) j := by
  generalize hn : k0_pay2 (F := Ideal) v0 v2 v4 v8 v10 = n
  unfold qrow
  pointwise [k0_pay3, hn, rms]

theorem pay4_apply (r : Fin 1024) (j : Fin 512) : (k0_pay4 (F := Ideal) : S1024x512.Idx → EReal) (ix2 r j) = scale2 := by
  rw [← scale2_eq]
  pointwise [k0_pay4]

theorem pay5_apply (x y : FVec Ideal S1024x512 .f32) (r : Fin 1024) (j : Fin 512) :
    (k0_pay5 (F := Ideal) x y : S1024x512.Idx → EReal) (ix2 r j) = x (ix2 r j) * y (ix2 r j) := by
  pointwise [k0_pay5]

theorem pay6_apply (m : Fin 256) (d : Fin 128) : (k0_pay6 (F := Ideal) : S256x128.Idx → EReal) (ix2 m d) = 1 := by
  pointwise [k0_pay6]

theorem pay7_apply (x y : FVec Ideal S1024x512 .f32) (k v : FVec Ideal S1x256x128 .bf16) (r : Fin 1024) (d : Fin 128) :
    (k0_pay7 (F := Ideal) x y k v : S1024x128.Idx → EReal) (ix2 r d)
      = (∑ m, pexp (fun m => ∑ e : Fin 128, (k0_pay5 (F := Ideal) x y : S1024x512.Idx → EReal) (ix2 r ⟨0 + e.val, by omega⟩) * k (ix3 0 m e)) m * v (ix3 0 m d))
        * Ideal.div 1 (∑ m, pexp (fun m => ∑ e : Fin 128, (k0_pay5 (F := Ideal) x y : S1024x512.Idx → EReal) (ix2 r ⟨0 + e.val, by omega⟩) * k (ix3 0 m e)) m * (k0_pay6 (F := Ideal) : S256x128.Idx → EReal) (ix2 m 0)) := by
  generalize hn : k0_pay5 (F := Ideal) x y = n
  generalize ho : k0_pay6 (F := Ideal) = o
  simp only [Nat.zero_add]
  unfold pexp top
  pointwise [k0_pay7, hn, ho]
  rfl

theorem pay8_apply (x y : FVec Ideal S1024x512 .f32) (k v : FVec Ideal S1x256x128 .bf16) (r : Fin 1024) (d : Fin 128) :
    (k0_pay11 (F := Ideal) (k0_pay9 (F := Ideal) x y k v) (k0_pay10 (F := Ideal) x y k v) : S1024x128.Idx → EReal) (ix2 r d)
      = (∑ m, pexp (fun m => ∑ e : Fin 128, (k0_pay5 (F := Ideal) x y : S1024x512.Idx → EReal) (ix2 r ⟨128 + e.val, by omega⟩) * k (ix3 0 m e)) m * v (ix3 0 m d))
        * Ideal.div 1 (∑ m, pexp (fun m => ∑ e : Fin 128, (k0_pay5 (F := Ideal) x y : S1024x512.Idx → EReal) (ix2 r ⟨128 + e.val, by omega⟩) * k (ix3 0 m e)) m * (k0_pay6 (F := Ideal) : S256x128.Idx → EReal) (ix2 m 0)) := by
  generalize hn : k0_pay5 (F := Ideal) x y = n
  generalize ho : k0_pay6 (F := Ideal) = o
  unfold pexp top
  pointwise [k0_pay11, k0_pay10, k0_pay9, k0_pay8, hn, ho]
  rfl

theorem pay12_apply (q : FVec Ideal S1024x512 .bf16) (o : FVec Ideal S256x128 .bf16) (k v : FVec Ideal S1x256x128 .bf16) (r : Fin 1024) (d : Fin 128) :
    (k0_pay12 (F := Ideal) q o k v : S1024x128.Idx → EReal) (ix2 r d)
      = (∑ m, pexp (fun m => ∑ e : Fin 128, q (ix2 r ⟨256 + e.val, by omega⟩) * k (ix3 0 m e)) m * v (ix3 0 m d))
        * Ideal.div 1 (∑ m, pexp (fun m => ∑ e : Fin 128, q (ix2 r ⟨256 + e.val, by omega⟩) * k (ix3 0 m e)) m * o (ix2 m 0)) := by
  unfold pexp top
  pointwise [k0_pay12]
  rfl

theorem pay13_val (q : FVec Ideal S1024x512 .bf16) (o : FVec Ideal S256x128 .bf16) (k v : FVec Ideal S1x256x128 .bf16) (r : Fin 1024) (d : Fin 128) :
    (k0_pay13 (F := Ideal) q o k v : S1024x256.Idx → EReal) (ix2 r ⟨d.val, by omega⟩)
      = ∑ m, pexp (fun m => ∑ e : Fin 128, q (ix2 r ⟨384 + e.val, by omega⟩) * k (ix3 0 m e)) m * v (ix3 0 m d) := by
  unfold pexp top
  pointwise [k0_pay13]
  rfl

theorem pay13_sum (q : FVec Ideal S1024x512 .bf16) (o : FVec Ideal S256x128 .bf16) (k v : FVec Ideal S1x256x128 .bf16) (r : Fin 1024) :
    (k0_pay13 (F := Ideal) q o k v : S1024x256.Idx → EReal) (ix2 r ⟨128, by omega⟩)
      = ∑ m, pexp (fun m => ∑ e : Fin 128, q (ix2 r ⟨384 + e.val, by omega⟩) * k (ix3 0 m e)) m * o (ix2 m 0) := by
  unfold pexp top
  pointwise [k0_pay13]
  rfl

/-- The last step: the four heads side by side, by the output weights, onto the row. -/
theorem pay1_apply (x : FVec Ideal S1024x1024 .f32) (h0 h1 h2 : FVec Ideal S1024x128 .bf16) (p : FVec Ideal S1024x256 .f32)
    (w : FVec Ideal S1x512x1024 .bf16) (r k : Fin 1024) (G : Fin 512 → EReal)
    (H0 : ∀ d : Fin 128, h0 (ix2 r d) = G ⟨d.val, by omega⟩) (H1 : ∀ d : Fin 128, h1 (ix2 r d) = G ⟨128 + d.val, by omega⟩)
    (H2 : ∀ d : Fin 128, h2 (ix2 r d) = G ⟨256 + d.val, by omega⟩)
    (H3 : ∀ d : Fin 128, p (ix2 r ⟨d.val, by omega⟩) * Ideal.div 1 (p (ix2 r ⟨128, by omega⟩)) = G ⟨384 + d.val, by omega⟩) :
    (k0_pay1 (F := Ideal) x h0 h1 h2 p w : S1x1024x1024.Idx → EReal) (ix3 0 r k) = x (ix2 r k) + ∑ c : Fin 512, G c * w (ix3 0 c k) := by
  pointwise [k0_pay1]
  refine congrArg₂ (· + ·) rfl (Finset.sum_congr rfl fun c _ => congrArg₂ (· * ·) ?_ rfl)
  by_cases c0 : c.val < 128
  · rw [dif_pos c0]
    exact H0 ⟨c.val, c0⟩
  rw [dif_neg c0]
  by_cases c1 : c.val - 128 < 128
  · rw [dif_pos c1]
    exact (H1 ⟨c.val - 128, c1⟩).trans (congrArg G (Fin.ext (by show 128 + (c.val - 128) = c.val; omega)))
  rw [dif_neg c1]
  by_cases c2 : c.val - 128 - 128 < 128
  · rw [dif_pos c2]
    exact (H2 ⟨c.val - 128 - 128, c2⟩).trans (congrArg G (Fin.ext (by show 256 + (c.val - 128 - 128) = c.val; omega)))
  have c3 : c.val - 128 - 128 - 128 < 128 := by have := c.isLt; omega
  rw [dif_neg c2]
  exact (H3 ⟨c.val - 128 - 128 - 128, c3⟩).trans (congrArg G (Fin.ext (by show 384 + (c.val - 128 - 128 - 128) = c.val; omega)))

theorem ld_full0 (x : Vec Ideal S1x1024x1024 .f32) : View.ld x r0_0 = x := idx_full x _
theorem ld_full1 (x : Vec Ideal S1x512x1024 .bf16) : View.ld x r0_1 = x := idx_full x _
theorem ld_full2 (x : Vec Ideal S512x1024 .bf16) : View.ld x r0_2 = x := idx_full x _
theorem ld_full3 (x : Vec Ideal S1x1024x512 .bf16) : View.ld x r0_3 = x := idx_full x _
theorem ld_full4 (x : Vec Ideal S1x1024 .f32) : View.ld x r0_4 = x := idx_full x _

/-- The 128 columns of the keys (or of the values) from column `o`. -/
def cols (x : Vec Ideal S1x256x512 .bf16) (o : ℕ) (ho : o + 128 ≤ 512) : Vec Ideal S1x256x128 .bf16 :=
  fun y => x (ix3 0 (y 1) ⟨o + (y 2).val, by have : (y 2).val < 128 := (y 2).isLt; omega⟩)

theorem cols_apply (x : Vec Ideal S1x256x512 .bf16) (o : ℕ) (ho : o + 128 ≤ 512) (m : Fin 256) (e : Fin 128) :
    cols x o ho (ix3 0 m e) = x (ix3 0 m ⟨o + e.val, by omega⟩) := rfl

theorem ld_5 (x : Vec Ideal S1x256x512 .bf16) : View.ld x r0_5 = cols x 0 (by omega) := by
  funext y
  refine congrArg x (funext fun a => Fin.ext ?_)
  match a with
  | ⟨0, _⟩ => show 0 + 1 * (y 0).val = 0; have : (y 0).val < 1 := (y 0).isLt; omega
  | ⟨1, _⟩ => show 0 + 1 * (y 1).val = (y 1).val; omega
  | ⟨2, _⟩ => show 0 + 1 * (y 2).val = 0 + (y 2).val; omega

theorem ld_6 (x : Vec Ideal S1x256x512 .bf16) : View.ld x r0_6 = cols x 128 (by omega) := by
  funext y
  refine congrArg x (funext fun a => Fin.ext ?_)
  match a with
  | ⟨0, _⟩ => show 0 + 1 * (y 0).val = 0; have : (y 0).val < 1 := (y 0).isLt; omega
  | ⟨1, _⟩ => show 0 + 1 * (y 1).val = (y 1).val; omega
  | ⟨2, _⟩ => show 128 + 1 * (y 2).val = 128 + (y 2).val; omega

theorem ld_7 (x : Vec Ideal S1x256x512 .bf16) : View.ld x r0_7 = cols x 256 (by omega) := by
  funext y
  refine congrArg x (funext fun a => Fin.ext ?_)
  match a with
  | ⟨0, _⟩ => show 0 + 1 * (y 0).val = 0; have : (y 0).val < 1 := (y 0).isLt; omega
  | ⟨1, _⟩ => show 0 + 1 * (y 1).val = (y 1).val; omega
  | ⟨2, _⟩ => show 256 + 1 * (y 2).val = 256 + (y 2).val; omega

theorem ld_8 (x : Vec Ideal S1x256x512 .bf16) : View.ld x r0_8 = cols x 384 (by omega) := by
  funext y
  refine congrArg x (funext fun a => Fin.ext ?_)
  match a with
  | ⟨0, _⟩ => show 0 + 1 * (y 0).val = 0; have : (y 0).val < 1 := (y 0).isLt; omega
  | ⟨1, _⟩ => show 0 + 1 * (y 1).val = (y 1).val; omega
  | ⟨2, _⟩ => show 384 + 1 * (y 2).val = 384 + (y 2).val; omega

/-- Entry `c` of the heads when `c` lies in the head that begins at `o`. -/
theorem khd_at (q : Fin 512 → EReal) (K V : Fin 256 → Fin 512 → EReal) (o : ℕ) (ho : o + 128 ≤ 512) (h : o / 128 * 128 = o) (d : Fin 128) :
    khd q K V ⟨o + d.val, by omega⟩
      = (∑ m, pexp (fun m => ∑ e : Fin 128, q ⟨o + e.val, by omega⟩ * K m ⟨o + e.val, by omega⟩) m * V m ⟨o + d.val, by omega⟩)
        * Ideal.div 1 (∑ m, pexp (fun m => ∑ e : Fin 128, q ⟨o + e.val, by omega⟩ * K m ⟨o + e.val, by omega⟩) m * 1) := by
  have e : (o + d.val) / 128 * 128 = o := by omega
  unfold khd khead
  simp only [e]

/-- The result block, its rows by their own functions. -/
def outV (x0 : Vec Ideal S1x1024x1024 .f32) (x1 : Vec Ideal S1x512x1024 .bf16) (x2 : Vec Ideal S1x1024x512 .bf16) (x3 x4 : Vec Ideal S512x1024 .bf16)
    (x5 : Vec Ideal S1x1024 .f32) (x6 : Vec Ideal S1x1024x512 .bf16) (x7 x8 : Vec Ideal S1x256x512 .bf16) (x9 : Vec Ideal S1x512x1024 .bf16)
    (y : S1x1024x1024.Idx) : EReal :=
  kattn (mixRow (fun k => x0 (ix3 0 (y 1) k)) (fun c => x1 (ix3 0 c (y 1))) (fun c => x2 (ix3 0 (y 1) c)) (fun c k => x3 (ix2 c k)) (fun c k => x4 (ix2 c k)))
    (fun k => x5 (ix2 0 k)) (fun k j => x6 (ix3 0 k j)) (fun m c => x7 (ix3 0 m c)) (fun m c => x8 (ix3 0 m c)) (fun c k => x9 (ix3 0 c k)) (y 2)

/-- The result block at an index. -/
theorem out_apply (x0 : Vec Ideal S1x1024x1024 .f32) (x1 : Vec Ideal S1x512x1024 .bf16) (x2 : Vec Ideal S1x1024x512 .bf16) (x3 x4 : Vec Ideal S512x1024 .bf16)
    (x5 : Vec Ideal S1x1024 .f32) (x6 : Vec Ideal S1x1024x512 .bf16) (x7 x8 : Vec Ideal S1x256x512 .bf16) (x9 : Vec Ideal S1x512x1024 .bf16)
    (r k : Fin 1024) :
    (out0_10 (F := Ideal) x0 x1 x2 x3 x4 x5 x6 x7 x8 x9 : S1x1024x1024.Idx → EReal) (ix3 0 r k)
      = kattn (mixRow (fun k => x0 (ix3 0 r k)) (fun c => x1 (ix3 0 c r)) (fun c => x2 (ix3 0 r c)) (fun c k => x3 (ix2 c k)) (fun c k => x4 (ix2 c k)))
          (fun k => x5 (ix2 0 k)) (fun k j => x6 (ix3 0 k j)) (fun m c => x7 (ix3 0 m c)) (fun m c => x8 (ix3 0 m c)) (fun c k => x9 (ix3 0 c k)) k := by
  unfold out0_10
  rw [ld_full0, ld_full1, ld_full2, ld_full3, ld_full2, ld_full1, ld_5, ld_5, ld_6, ld_6, ld_7, ld_7, ld_8, ld_8]
  refine View.canon_apply_of_pieces (Val := Elt Ideal) (S := S1x1024x1024) (e := .f32) (outV x0 x1 x2 x3 x4 x5 x6 x7 x8 x9) _ ?_ (ix3 0 r k) (View.cover_of_tiledL _ ![1, 1024, 1024] (by sl_kernel_rfl) _)
  intro p hp z
  obtain rfl := List.mem_singleton.mp hp
  obtain ⟨r, k, rfl⟩ : ∃ r k : Fin 1024, z = ix3 0 r k := ⟨z 1, z 2, by
    funext a
    match a with
    | ⟨0, _⟩ => exact Subsingleton.elim (α := Fin 1) _ _
    | ⟨1, _⟩ => rfl
    | ⟨2, _⟩ => rfl⟩
  have hz : r0_0.emb (ix3 0 r k) = ix3 0 r k := Rect.emb_unit_full _ _
  show _ = outV x0 x1 x2 x3 x4 x5 x6 x7 x8 x9 (r0_0.emb (ix3 0 r k))
  rw [hz]
  unfold outV kattn
  simp only [ix3_0, ix3_1, ix3_2]
  have h14 : k0_pay14 (F := Ideal) x0 x1 x2 x3 x4 x5 x6 x7 x8 x9 = k0_pay3 (F := Ideal) x0 x1 x3 x2 x4 x5 x6 := by
    unfold k0_pay14
    rw [ld_full0, ld_full1, ld_full2, ld_full3, ld_full2, ld_full4, ld_full3]
  refine (pay1_apply _ _ _ _ _ _ r k (khd (fun j => qrow (mixRow (fun k => x0 (ix3 0 r k)) (fun c => x1 (ix3 0 c r)) (fun c => x2 (ix3 0 r c)) (fun c k => x3 (ix2 c k)) (fun c k => x4 (ix2 c k)))
        (fun k => x5 (ix2 0 k)) (fun k j => x6 (ix3 0 k j)) j * scale2)
    (fun m c => x7 (ix3 0 m c)) (fun m c => x8 (ix3 0 m c))) ?_ ?_ ?_ ?_).trans ?_
  · intro d
    rw [pay7_apply]
    have := khd_at (fun j => qrow (mixRow (fun k => x0 (ix3 0 r k)) (fun c => x1 (ix3 0 c r)) (fun c => x2 (ix3 0 r c)) (fun c k => x3 (ix2 c k)) (fun c k => x4 (ix2 c k)))
        (fun k => x5 (ix2 0 k)) (fun k j => x6 (ix3 0 k j)) j * scale2)
      (fun m c => x7 (ix3 0 m c)) (fun m c => x8 (ix3 0 m c)) 0 (by omega) rfl d
    simp only [Nat.zero_add] at this
    rw [this]
    simp only [Nat.zero_add, pay5_apply, h14, k0_pay15, pay4_apply, pay3_apply, pay2_apply, pay6_apply, cols_apply]
  · intro d
    rw [pay8_apply, khd_at _ _ _ 128 (by omega) rfl d]
    simp only [pay5_apply, h14, k0_pay15, pay4_apply, pay3_apply, pay2_apply, pay6_apply, cols_apply]
  · intro d
    rw [pay12_apply, khd_at _ _ _ 256 (by omega) rfl d]
    simp only [k0_pay16, k0_pay17, pay5_apply, h14, k0_pay15, pay4_apply, pay3_apply, pay2_apply, pay6_apply, cols_apply]
  · intro d
    rw [pay13_val, pay13_sum, khd_at _ _ _ 384 (by omega) rfl d]
    simp only [k0_pay16, k0_pay17, pay5_apply, h14, k0_pay15, pay4_apply, pay3_apply, pay2_apply, pay6_apply, cols_apply]
  · simp only [pay2_apply]

end Cert.MixK
-- ==== Proof.MixRef.lean ====
/-
  Untrusted. What the reference of layer 0's cross-attention computes, read at an index: row `r` of sequence `b` is the layer of
  that row, in the terms of the row functions.
-/
module

public import proofs.«01_k».proof.Proof.MixK
public import proofs.«01_k».proof.Proof.Gen.Reference7Ideal.Read

@[expose] public section

set_option maxRecDepth 16384

noncomputable section

namespace Cert.MixRef

open Idealize.ShloMosaic Idealize.ShloMosaic.TcCoe Idealize.SL.Sem
open Cert.Rows Cert.Attend
open Cert.MixK (mixRow)
open Cert.Reference7Ideal Cert.Reference7Ideal.Read

variable (x0 : (⟨S16x2048x1024, .f32⟩ : BufTy).Contents (Elt Ideal)) (x1 : (⟨S16x512x2048, .bf16⟩ : BufTy).Contents (Elt Ideal))
  (x2 : (⟨S16x2048x512, .bf16⟩ : BufTy).Contents (Elt Ideal)) (x3 : (⟨S1x1024x1024, .f32⟩ : BufTy).Contents (Elt Ideal))
  (x4 : (⟨S2x1024, .f32⟩ : BufTy).Contents (Elt Ideal)) (x5 : (⟨S2x1024x512, .f32⟩ : BufTy).Contents (Elt Ideal))
  (x6 : (⟨S16x256x1024, .bf16⟩ : BufTy).Contents (Elt Ideal)) (x7 : (⟨S2x512x1024, .f32⟩ : BufTy).Contents (Elt Ideal))

/-- The mixer's two halves side by side. -/
theorem v2_apply (b : Fin 16) (r : Fin 2048) (c : Fin 1024) :
    val_main_v2 (F := Ideal) x1 x2 (ix3 b r c)
      = if h : c.val < 512 then x1 (ix3 b ⟨c.val, h⟩ r) else x2 (ix3 b r ⟨c.val - 512, by omega⟩) := by
  pointwise [val_main_v2, val_main_v1, val_main_v0]

/-- The row after the mixer, the sum over all 1024 columns at once. -/
theorem v5_raw (b : Fin 16) (r : Fin 2048) (k : Fin 1024) :
    val_main_v5 (F := Ideal) x0 x1 x2 x3 (ix3 b r k)
      = x0 (ix3 b r k) + ∑ c : Fin 1024, val_main_v2 (F := Ideal) x1 x2 (ix3 b r c) * x3 (ix3 0 c k) := by
  generalize hn : val_main_v2 (F := Ideal) x1 x2 = n
  pointwise [val_main_v5, val_main_v4, val_main_v3, hn]

/-- The row after the mixer. -/
theorem v5_apply (b : Fin 16) (r : Fin 2048) (k : Fin 1024) :
    val_main_v5 (F := Ideal) x0 x1 x2 x3 (ix3 b r k)
      = mixRow (fun k => x0 (ix3 b r k)) (fun c => x1 (ix3 b c r)) (fun c => x2 (ix3 b r c)) (fun c k => x3 (ix3 0 ⟨c.val, by omega⟩ k))
          (fun c k => x3 (ix3 0 ⟨512 + c.val, by omega⟩ k)) k := by
  rw [v5_raw]
  unfold mixRow
  rw [add_assoc]
  refine congrArg₂ (· + ·) rfl ?_
  refine (Fin.sum_univ_add (a := 512) (b := 512) (fun c : Fin (512 + 512) => val_main_v2 (F := Ideal) x1 x2 (ix3 b r c) * x3 (ix3 0 c k))).trans (congrArg₂ (· + ·) ?_ ?_)
  · refine Finset.sum_congr rfl fun c _ => congrArg₂ (· * ·) ((v2_apply x1 x2 b r _).trans ?_) rfl
    exact dif_pos c.isLt
  · refine Finset.sum_congr rfl fun c _ => congrArg₂ (· * ·) ((v2_apply x1 x2 b r _).trans ?_) rfl
    refine (dif_neg (by show ¬ (512 + c.val < 512); omega)).trans ?_
    exact congrArg (fun j => x2 (ix3 b r j)) (Fin.ext (by show 512 + c.val - 512 = c.val; omega))

/-- The normalised row. -/
theorem v24_apply (b : Fin 16) (r : Fin 2048) (k : Fin 1024) :
    val_main_v24 (F := Ideal) x0 x1 x2 x3 x4 (ix3 b r k) = rms (fun k => val_main_v5 (F := Ideal) x0 x1 x2 x3 (ix3 b r k)) (fun k => x4 (ix2 0 k)) k := by
  generalize hn : val_main_v5 (F := Ideal) x0 x1 x2 x3 = n
  pointwise [hn, val_main_v24, val_main_v23, val_main_v22, val_main_v21, val_main_v20, val_main_v19, val_main_v18, val_main_v17, val_main_v16, val_main_v15, val_main_v14, val_main_v13, val_main_v12, val_main_v7, val_main_v6, val_main_cst, val_main_cst_0, val_main_cst_1, rms, Ideal.ofBits_zero_f32, zero_add]

/-- The query row. -/
theorem v25_apply (b : Fin 16) (r : Fin 2048) (j : Fin 512) :
    val_main_v25 (F := Ideal) x0 x1 x2 x3 x4 x5 (ix3 b r j) = qrow (fun k => val_main_v5 (F := Ideal) x0 x1 x2 x3 (ix3 b r k)) (fun k => x4 (ix2 0 k)) (fun k j => x5 (ix3 0 k j)) j := by
  simp only [qrow, ← v24_apply x0 x1 x2 x3 x4]
  generalize hn : val_main_v24 (F := Ideal) x0 x1 x2 x3 x4 = n
  pointwise [val_main_v25, val_main_v9, val_main_v8, hn]

/-- The scores of head `h`. -/
theorem v34_apply (b : Fin 16) (h : Fin 4) (r : Fin 2048) (m : Fin 256) :
    val_main_v34 (F := Ideal) x0 x1 x2 x3 x4 x5 x6 (ix4 b h r m)
      = (∑ e : Fin 128, val_main_v25 (F := Ideal) x0 x1 x2 x3 x4 x5 (ix3 b r ⟨h.val * 128 + e.val, by omega⟩) * x6 (ix3 b m ⟨h.val * 128 + e.val, by omega⟩))
        * Ideal.ofBits .f32 0x3DB504F3#32 := by
  generalize hn : val_main_v25 (F := Ideal) x0 x1 x2 x3 x4 x5 = n
  pointwise [val_main_v34, val_main_v33, val_main_v32, val_main_v30, val_main_v28, val_main_v27, val_main_v26, val_main_cst_2, hn]

theorem rmax (x : FVec Ideal S16x4x2048x256 .f32) (h0 : S16x4x2048x256.ReducesTo [3] S16x4x2048) (h1 : 0 < S_.numel) (b : Fin 16) (h : Fin 4) (r : Fin 2048) :
    Host.reduce (FloatOps.maximumf (F := Ideal) (φ := .f32)) x (constant (F := Ideal) S_ .f32 0xFF800000#32) h0 h1 (ix3 b h r)
      = top (fun m => x (ix4 b h r m)) := by
  unfold top
  pointwise []

/-- The largest score of head `h`. -/
theorem v37_apply (b : Fin 16) (h : Fin 4) (r : Fin 2048) :
    val_main_v37 (F := Ideal) x0 x1 x2 x3 x4 x5 x6 (ix3 b h r)
      = max (Ideal.ofBits .f32 0xFF800000#32) (top (fun m => val_main_v34 (F := Ideal) x0 x1 x2 x3 x4 x5 x6 (ix4 b h r m))) := by
  rw [val_main_v37_apply, val_main_v36_apply, val_main_cst_4_apply]
  unfold val_main_v35
  generalize val_main_v34 (F := Ideal) x0 x1 x2 x3 x4 x5 x6 = n
  exact congrArg (max (Ideal.ofBits .f32 0xFF800000#32)) (rmax n _ _ b h r)

/-- The weights of head `h`. -/
theorem v45_apply (b : Fin 16) (h : Fin 4) (r : Fin 2048) (m : Fin 256) :
    val_main_v45 (F := Ideal) x0 x1 x2 x3 x4 x5 x6 (ix4 b h r m)
      = Ideal.div (Ideal.exp (val_main_v34 (F := Ideal) x0 x1 x2 x3 x4 x5 x6 (ix4 b h r m) - val_main_v37 (F := Ideal) x0 x1 x2 x3 x4 x5 x6 (ix3 b h r)))
          (∑ m, Ideal.exp (val_main_v34 (F := Ideal) x0 x1 x2 x3 x4 x5 x6 (ix4 b h r m) - val_main_v37 (F := Ideal) x0 x1 x2 x3 x4 x5 x6 (ix3 b h r))) := by
  generalize hM : val_main_v37 (F := Ideal) x0 x1 x2 x3 x4 x5 x6 = M
  generalize hl : val_main_v34 (F := Ideal) x0 x1 x2 x3 x4 x5 x6 = l
  pointwise [val_main_v45, val_main_v44, val_main_v43, val_main_v42, val_main_v41, val_main_v40, val_main_v39, val_main_v38, val_main_cst_5, hM, hl, Ideal.ofBits_zero_f32, zero_add]

/-- The heads side by side. -/
theorem v48_apply (b : Fin 16) (r : Fin 2048) (c : Fin 512) :
    val_main_v48 (F := Ideal) x0 x1 x2 x3 x4 x5 x6 (ix3 b r c)
      = rhd (qrow (fun k => val_main_v5 (F := Ideal) x0 x1 x2 x3 (ix3 b r k)) (fun k => x4 (ix2 0 k)) (fun k j => x5 (ix3 0 k j))) (fun m c => x6 (ix3 b m ⟨c.val, by omega⟩))
          (fun m c => x6 (ix3 b m ⟨512 + c.val, by omega⟩)) c := by
  have e : val_main_v48 (F := Ideal) x0 x1 x2 x3 x4 x5 x6 (ix3 b r c)
      = ∑ m, x6 (ix3 b m ⟨512 + c.val, by omega⟩) * val_main_v45 (F := Ideal) x0 x1 x2 x3 x4 x5 x6 (ix4 b ⟨c.val / 128, by omega⟩ r m) := by
    generalize hn : val_main_v45 (F := Ideal) x0 x1 x2 x3 x4 x5 x6 = n
    pointwise [val_main_v48, val_main_v47, val_main_v46, val_main_v31, val_main_v29, val_main_v27, hn]
  rw [e]
  unfold rhd rhead
  simp only [v45_apply, v37_apply, v34_apply, v25_apply]

/-- THE REFERENCE'S RESULT AT AN INDEX. -/
theorem ref_apply (b : Fin 16) (r : Fin 2048) (k : Fin 1024) :
    val_main_v50 (F := Ideal) x0 x1 x2 x3 x4 x5 x6 x7 (ix3 b r k)
      = rattn (fun k => val_main_v5 (F := Ideal) x0 x1 x2 x3 (ix3 b r k)) (fun k => x4 (ix2 0 k)) (fun k j => x5 (ix3 0 k j)) (fun m c => x6 (ix3 b m ⟨c.val, by omega⟩))
          (fun m c => x6 (ix3 b m ⟨512 + c.val, by omega⟩)) (fun c k => x7 (ix3 0 c k)) k := by
  unfold rattn
  simp only [← v48_apply x0 x1 x2 x3 x4 x5 x6]
  generalize hn : val_main_v48 (F := Ideal) x0 x1 x2 x3 x4 x5 x6 = n
  generalize hx : val_main_v5 (F := Ideal) x0 x1 x2 x3 = x
  pointwise [val_main_v50, val_main_v49, val_main_v11, val_main_v10, hn, hx]

end Cert.MixRef
-- ==== Proof.MixRun.lean ====
/-
  Untrusted. The cross-attention of layer 0, the mixer's output projection before it, from its arguments to its result.
-/
module

public import proofs.«01_k».proof.Defs
public import proofs.«01_k».proof.Proof.MixK
public import proofs.«01_k».proof.Proof.MixRef
public import proofs.«01_k».proof.Proof.Finite
public import proofs.«01_k».proof.Proof.FramesX
public import Idealize.ShloMosaic.Lib.Quiescent

@[expose] public section

set_option maxRecDepth 16384

noncomputable section

open Idealize.ShloMosaic Idealize.ShloMosaic.TcCoe Idealize.SL.Sem
open Cert.Rows Cert.Attend
open Cert.MixK (mixRow)

namespace Cert.MixRun

open Cert.Kernel7Ideal Cert.Kernel7Ideal.Gen
open Idealize.ShloMosaic.Pipeline (Dat)

variable (m : (ℓ : Loc nD τ sig) → Buf (Elt Ideal) ℓ) (ρ : Dev nD → PrngReg)

/-- Where each window's block lies, at each of the 32 points. -/
theorem idx_facts : ∀ t : Fin cfg0.N,
    (win0_0.index t (0 : Fin 3) = t.val / 2 ∧ win0_0.index t (1 : Fin 3) = t.val % 2 ∧ win0_0.index t (2 : Fin 3) = 0)
    ∧ (win0_1.index t (0 : Fin 3) = t.val / 2 ∧ win0_1.index t (1 : Fin 3) = 0 ∧ win0_1.index t (2 : Fin 3) = t.val % 2)
    ∧ (win0_2.index t (0 : Fin 3) = t.val / 2 ∧ win0_2.index t (1 : Fin 3) = t.val % 2 ∧ win0_2.index t (2 : Fin 3) = 0)
    ∧ (win0_3.index t (0 : Fin 2) = 0 ∧ win0_3.index t (1 : Fin 2) = 0)
    ∧ (win0_4.index t (0 : Fin 2) = 1 ∧ win0_4.index t (1 : Fin 2) = 0)
    ∧ (win0_5.index t (0 : Fin 2) = 0 ∧ win0_5.index t (1 : Fin 2) = 0)
    ∧ (win0_6.index t (0 : Fin 3) = 0 ∧ win0_6.index t (1 : Fin 3) = 0 ∧ win0_6.index t (2 : Fin 3) = 0)
    ∧ (win0_7.index t (0 : Fin 3) = t.val / 2 ∧ win0_7.index t (1 : Fin 3) = 0 ∧ win0_7.index t (2 : Fin 3) = 0)
    ∧ (win0_8.index t (0 : Fin 3) = t.val / 2 ∧ win0_8.index t (1 : Fin 3) = 0 ∧ win0_8.index t (2 : Fin 3) = 1)
    ∧ (win0_9.index t (0 : Fin 3) = 0 ∧ win0_9.index t (1 : Fin 3) = 0 ∧ win0_9.index t (2 : Fin 3) = 0)
    ∧ (win0_10.index t (0 : Fin 3) = t.val / 2 ∧ win0_10.index t (1 : Fin 3) = t.val % 2 ∧ win0_10.index t (2 : Fin 3) = 0) :=
  (by decide +kernel : ∀ t : Fin grid0.N, _)

theorem lt32 (t : Fin cfg0.N) : t.val < 32 := by
  have h : t.val < grid0.N := t.isLt
  rwa [N_0] at h

/-- The sequence of point `t`'s block. -/
abbrev bAt (t : Fin cfg0.N) : Fin 16 := ⟨t.val / 2, by have := lt32 t; omega⟩

/-- Position `r` of point `t`'s block, as a position of its sequence. -/
abbrev rowAt (t : Fin cfg0.N) (r : Fin 1024) : Fin 2048 := ⟨t.val % 2 * 1024 + r.val, by omega⟩

theorem emb0 (t : Fin cfg0.N) (a : Fin 1024) (b : Fin 1024) : ((cfg0.win 0).blk t).view.emb (ix3 0 a b) = ix3 (bAt t) (rowAt t a) b := by
  obtain ⟨⟨e0, e1, e2⟩, _⟩ := idx_facts t
  funext d; apply Fin.ext
  match d with
  | ⟨0, _⟩ => show win0_0.index t (0 : Fin 3) * 1 + 1 * 0 = t.val / 2; omega
  | ⟨1, _⟩ => show win0_0.index t (1 : Fin 3) * 1024 + 1 * a.val = t.val % 2 * 1024 + a.val; omega
  | ⟨2, _⟩ => show win0_0.index t (2 : Fin 3) * 1024 + 1 * b.val = b.val; omega

theorem emb1 (t : Fin cfg0.N) (a : Fin 512) (b : Fin 1024) : ((cfg0.win 1).blk t).view.emb (ix3 0 a b) = ix3 (bAt t) a (rowAt t b) := by
  obtain ⟨_, ⟨e0, e1, e2⟩, _⟩ := idx_facts t
  funext d; apply Fin.ext
  match d with
  | ⟨0, _⟩ => show win0_1.index t (0 : Fin 3) * 1 + 1 * 0 = t.val / 2; omega
  | ⟨1, _⟩ => show win0_1.index t (1 : Fin 3) * 512 + 1 * a.val = a.val; omega
  | ⟨2, _⟩ => show win0_1.index t (2 : Fin 3) * 1024 + 1 * b.val = t.val % 2 * 1024 + b.val; omega

theorem emb2 (t : Fin cfg0.N) (a : Fin 1024) (b : Fin 512) : ((cfg0.win 2).blk t).view.emb (ix3 0 a b) = ix3 (bAt t) (rowAt t a) b := by
  obtain ⟨_, _, ⟨e0, e1, e2⟩, _⟩ := idx_facts t
  funext d; apply Fin.ext
  match d with
  | ⟨0, _⟩ => show win0_2.index t (0 : Fin 3) * 1 + 1 * 0 = t.val / 2; omega
  | ⟨1, _⟩ => show win0_2.index t (1 : Fin 3) * 1024 + 1 * a.val = t.val % 2 * 1024 + a.val; omega
  | ⟨2, _⟩ => show win0_2.index t (2 : Fin 3) * 512 + 1 * b.val = b.val; omega

theorem emb3 (t : Fin cfg0.N) (a : Fin 512) (b : Fin 1024) : ((cfg0.win 3).blk t).view.emb (ix2 a b) = ix2 ⟨a.val, by omega⟩ b := by
  obtain ⟨_, _, _, ⟨e0, e1⟩, _⟩ := idx_facts t
  funext d; apply Fin.ext
  match d with
  | ⟨0, _⟩ => show win0_3.index t (0 : Fin 2) * 512 + 1 * a.val = a.val; omega
  | ⟨1, _⟩ => show win0_3.index t (1 : Fin 2) * 1024 + 1 * b.val = b.val; omega

theorem emb4 (t : Fin cfg0.N) (a : Fin 512) (b : Fin 1024) : ((cfg0.win 4).blk t).view.emb (ix2 a b) = ix2 ⟨512 + a.val, by omega⟩ b := by
  obtain ⟨_, _, _, _, ⟨e0, e1⟩, _⟩ := idx_facts t
  funext d; apply Fin.ext
  match d with
  | ⟨0, _⟩ => show win0_4.index t (0 : Fin 2) * 512 + 1 * a.val = 512 + a.val; omega
  | ⟨1, _⟩ => show win0_4.index t (1 : Fin 2) * 1024 + 1 * b.val = b.val; omega

theorem emb5 (t : Fin cfg0.N) (a : Fin 1024) : ((cfg0.win 5).blk t).view.emb (ix2 0 a) = ix2 0 a := by
  obtain ⟨_, _, _, _, _, ⟨e0, e1⟩, _⟩ := idx_facts t
  funext d; apply Fin.ext
  match d with
  | ⟨0, _⟩ => show win0_5.index t (0 : Fin 2) * 1 + 1 * 0 = 0; omega
  | ⟨1, _⟩ => show win0_5.index t (1 : Fin 2) * 1024 + 1 * a.val = a.val; omega

theorem emb6 (t : Fin cfg0.N) (a : Fin 1024) (b : Fin 512) : ((cfg0.win 6).blk t).view.emb (ix3 0 a b) = ix3 0 a b := by
  obtain ⟨_, _, _, _, _, _, ⟨e0, e1, e2⟩, _⟩ := idx_facts t
  funext d; apply Fin.ext
  match d with
  | ⟨0, _⟩ => show win0_6.index t (0 : Fin 3) * 1 + 1 * 0 = 0; omega
  | ⟨1, _⟩ => show win0_6.index t (1 : Fin 3) * 1024 + 1 * a.val = a.val; omega
  | ⟨2, _⟩ => show win0_6.index t (2 : Fin 3) * 512 + 1 * b.val = b.val; omega

theorem emb7 (t : Fin cfg0.N) (a : Fin 256) (b : Fin 512) : ((cfg0.win 7).blk t).view.emb (ix3 0 a b) = ix3 (bAt t) a ⟨b.val, by omega⟩ := by
  obtain ⟨_, _, _, _, _, _, _, ⟨e0, e1, e2⟩, _⟩ := idx_facts t
  funext d; apply Fin.ext
  match d with
  | ⟨0, _⟩ => show win0_7.index t (0 : Fin 3) * 1 + 1 * 0 = t.val / 2; omega
  | ⟨1, _⟩ => show win0_7.index t (1 : Fin 3) * 256 + 1 * a.val = a.val; omega
  | ⟨2, _⟩ => show win0_7.index t (2 : Fin 3) * 512 + 1 * b.val = b.val; omega

theorem emb8 (t : Fin cfg0.N) (a : Fin 256) (b : Fin 512) : ((cfg0.win 8).blk t).view.emb (ix3 0 a b) = ix3 (bAt t) a ⟨512 + b.val, by omega⟩ := by
  obtain ⟨_, _, _, _, _, _, _, _, ⟨e0, e1, e2⟩, _⟩ := idx_facts t
  funext d; apply Fin.ext
  match d with
  | ⟨0, _⟩ => show win0_8.index t (0 : Fin 3) * 1 + 1 * 0 = t.val / 2; omega
  | ⟨1, _⟩ => show win0_8.index t (1 : Fin 3) * 256 + 1 * a.val = a.val; omega
  | ⟨2, _⟩ => show win0_8.index t (2 : Fin 3) * 512 + 1 * b.val = 512 + b.val; omega

theorem emb9 (t : Fin cfg0.N) (a : Fin 512) (b : Fin 1024) : ((cfg0.win 9).blk t).view.emb (ix3 0 a b) = ix3 0 a b := by
  obtain ⟨_, _, _, _, _, _, _, _, _, ⟨e0, e1, e2⟩, _⟩ := idx_facts t
  funext d; apply Fin.ext
  match d with
  | ⟨0, _⟩ => show win0_9.index t (0 : Fin 3) * 1 + 1 * 0 = 0; omega
  | ⟨1, _⟩ => show win0_9.index t (1 : Fin 3) * 512 + 1 * a.val = a.val; omega
  | ⟨2, _⟩ => show win0_9.index t (2 : Fin 3) * 1024 + 1 * b.val = b.val; omega

theorem emb10 (t : Fin cfg0.N) (a : Fin 1024) (b : Fin 1024) : ((cfg0.win 10).blk t).view.emb (ix3 0 a b) = ix3 (bAt t) (rowAt t a) b := by
  obtain ⟨_, _, _, _, _, _, _, _, _, _, ⟨e0, e1, e2⟩⟩ := idx_facts t
  funext d; apply Fin.ext
  match d with
  | ⟨0, _⟩ => show win0_10.index t (0 : Fin 3) * 1 + 1 * 0 = t.val / 2; omega
  | ⟨1, _⟩ => show win0_10.index t (1 : Fin 3) * 1024 + 1 * a.val = t.val % 2 * 1024 + a.val; omega
  | ⟨2, _⟩ => show win0_10.index t (2 : Fin 3) * 1024 + 1 * b.val = b.val; omega

theorem V_arg0 (c : Dev nD) : V m c main_arg0 = (m ((c : Thread nD τ).loc main_arg0)) := by
  unfold_abbrev_sides
  after_results

theorem V_arg1 (c : Dev nD) : V m c main_arg1 = (m ((c : Thread nD τ).loc main_arg1)) := by
  unfold_abbrev_sides
  after_results

theorem V_arg2 (c : Dev nD) : V m c main_arg2 = (m ((c : Thread nD τ).loc main_arg2)) := by
  unfold_abbrev_sides
  after_results

theorem V_arg6 (c : Dev nD) : V m c main_arg6 = (m ((c : Thread nD τ).loc main_arg6)) := by
  unfold_abbrev_sides
  after_results

theorem V_v6 (c : Dev nD) : V m c main_v6 = shapeCast S1x1024 (shapeCast S1024 (extractStridedSlice S1x1024 ![0, 0] (m ((c : Thread nD τ).loc main_arg4)) slices_S2x1024_S1x1024_0_0) shapeCasts_S1x1024_S1024) shapeCasts_S1024_S1x1024 := by
  unfold_abbrev_sides
  after_results
  rfl

theorem V_v2 (c : Dev nD) : V m c main_v2 = truncf (F := Ideal) .bf16 (m ((c : Thread nD τ).loc main_arg5) : FVec Ideal S2x1024x512 .f32) bitsLt_bf16_f32 := by
  unfold_abbrev_sides
  after_results

theorem V_v3 (c : Dev nD) : V m c main_v3 = truncf (F := Ideal) .bf16 (m ((c : Thread nD τ).loc main_arg7) : FVec Ideal S2x512x1024 .f32) bitsLt_bf16_f32 := by
  unfold_abbrev_sides
  after_results

theorem V_v5 (c : Dev nD) : V m c main_v5 = truncf (F := Ideal) .bf16 (shapeCast S1024x1024 (m ((c : Thread nD τ).loc main_arg3)) shapeCasts_S1x1024x1024_S1024x1024 : FVec Ideal S1024x1024 .f32) bitsLt_bf16_f32 := by
  unfold_abbrev_sides
  after_results
  rfl

theorem cast1 (x : FVec Ideal S2x1024 .f32) (b : Fin 1024) :
    (shapeCast S1x1024 (shapeCast S1024 (extractStridedSlice S1x1024 ![0, 0] x slices_S2x1024_S1x1024_0_0) shapeCasts_S1x1024_S1024) shapeCasts_S1024_S1x1024 : S1x1024.Idx → EReal) (ix2 0 b) = x (ix2 0 b) := by
  pointwise []

theorem cast3 (x : FVec Ideal S1x1024x1024 .f32) (a b : Fin 1024) :
    (truncf (F := Ideal) .bf16 (shapeCast S1024x1024 x shapeCasts_S1x1024x1024_S1024x1024 : FVec Ideal S1024x1024 .f32) bitsLt_bf16_f32 : S1024x1024.Idx → EReal) (ix2 a b) = x (ix3 0 a b) := by
  pointwise []

theorem iblk0_apply (d : Dev nD) (t : Fin cfg0.N) (a : Fin 1024) (b : Fin 1024) :
    (iblk m d 0 t : S1x1024x1024.Idx → EReal) (ix3 0 a b) = ((m ((d : Thread nD τ).loc main_arg0)) : S16x2048x1024.Idx → EReal) (ix3 (bAt t) (rowAt t a) b) := by
  show V m d main_arg0 (((cfg0.win 0).blk t).view.emb (ix3 0 a b)) = _
  rw [emb0]
  exact congrFun (V_arg0 m d) _

theorem iblk1_apply (d : Dev nD) (t : Fin cfg0.N) (a : Fin 512) (b : Fin 1024) :
    (iblk m d 1 t : S1x512x1024.Idx → EReal) (ix3 0 a b) = ((m ((d : Thread nD τ).loc main_arg1)) : S16x512x2048.Idx → EReal) (ix3 (bAt t) a (rowAt t b)) := by
  show V m d main_arg1 (((cfg0.win 1).blk t).view.emb (ix3 0 a b)) = _
  rw [emb1]
  exact congrFun (V_arg1 m d) _

theorem iblk2_apply (d : Dev nD) (t : Fin cfg0.N) (a : Fin 1024) (b : Fin 512) :
    (iblk m d 2 t : S1x1024x512.Idx → EReal) (ix3 0 a b) = ((m ((d : Thread nD τ).loc main_arg2)) : S16x2048x512.Idx → EReal) (ix3 (bAt t) (rowAt t a) b) := by
  show V m d main_arg2 (((cfg0.win 2).blk t).view.emb (ix3 0 a b)) = _
  rw [emb2]
  exact congrFun (V_arg2 m d) _

theorem iblk3_apply (d : Dev nD) (t : Fin cfg0.N) (a : Fin 512) (b : Fin 1024) :
    (iblk m d 3 t : S512x1024.Idx → EReal) (ix2 a b) = ((m ((d : Thread nD τ).loc main_arg3)) : S1x1024x1024.Idx → EReal) (ix3 0 ⟨a.val, by omega⟩ b) := by
  show V m d main_v5 (((cfg0.win 3).blk t).view.emb (ix2 a b)) = _
  rw [emb3]
  exact (congrFun (V_v5 m d) _).trans (cast3 _ _ _)

theorem iblk4_apply (d : Dev nD) (t : Fin cfg0.N) (a : Fin 512) (b : Fin 1024) :
    (iblk m d 4 t : S512x1024.Idx → EReal) (ix2 a b) = ((m ((d : Thread nD τ).loc main_arg3)) : S1x1024x1024.Idx → EReal) (ix3 0 ⟨512 + a.val, by omega⟩ b) := by
  show V m d main_v5 (((cfg0.win 4).blk t).view.emb (ix2 a b)) = _
  rw [emb4]
  exact (congrFun (V_v5 m d) _).trans (cast3 _ _ _)

theorem iblk5_apply (d : Dev nD) (t : Fin cfg0.N) (a : Fin 1024) :
    (iblk m d 5 t : S1x1024.Idx → EReal) (ix2 0 a) = ((m ((d : Thread nD τ).loc main_arg4)) : S2x1024.Idx → EReal) (ix2 0 a) := by
  show V m d main_v6 (((cfg0.win 5).blk t).view.emb (ix2 0 a)) = _
  rw [emb5]
  exact (congrFun (V_v6 m d) _).trans (cast1 _ _)

theorem iblk6_apply (d : Dev nD) (t : Fin cfg0.N) (a : Fin 1024) (b : Fin 512) :
    (iblk m d 6 t : S1x1024x512.Idx → EReal) (ix3 0 a b) = ((m ((d : Thread nD τ).loc main_arg5)) : S2x1024x512.Idx → EReal) (ix3 0 a b) := by
  show V m d main_v2 (((cfg0.win 6).blk t).view.emb (ix3 0 a b)) = _
  rw [emb6]
  exact congrFun (V_v2 m d) _

theorem iblk7_apply (d : Dev nD) (t : Fin cfg0.N) (a : Fin 256) (b : Fin 512) :
    (iblk m d 7 t : S1x256x512.Idx → EReal) (ix3 0 a b) = ((m ((d : Thread nD τ).loc main_arg6)) : S16x256x1024.Idx → EReal) (ix3 (bAt t) a ⟨b.val, by omega⟩) := by
  show V m d main_arg6 (((cfg0.win 7).blk t).view.emb (ix3 0 a b)) = _
  rw [emb7]
  exact congrFun (V_arg6 m d) _

theorem iblk8_apply (d : Dev nD) (t : Fin cfg0.N) (a : Fin 256) (b : Fin 512) :
    (iblk m d 8 t : S1x256x512.Idx → EReal) (ix3 0 a b) = ((m ((d : Thread nD τ).loc main_arg6)) : S16x256x1024.Idx → EReal) (ix3 (bAt t) a ⟨512 + b.val, by omega⟩) := by
  show V m d main_arg6 (((cfg0.win 8).blk t).view.emb (ix3 0 a b)) = _
  rw [emb8]
  exact congrFun (V_arg6 m d) _

theorem iblk9_apply (d : Dev nD) (t : Fin cfg0.N) (a : Fin 512) (b : Fin 1024) :
    (iblk m d 9 t : S1x512x1024.Idx → EReal) (ix3 0 a b) = ((m ((d : Thread nD τ).loc main_arg7)) : S2x512x1024.Idx → EReal) (ix3 0 a b) := by
  show V m d main_v3 (((cfg0.win 9).blk t).view.emb (ix3 0 a b)) = _
  rw [emb9]
  exact congrFun (V_v3 m d) _

/-- THE ARRAY AFTER THE RUN, AT POSITION `r` OF BLOCK `q` OF SEQUENCE `b`: the layer of that row. -/
theorem final_apply (d : Dev nD) (b : Fin 16) (q : Fin 2) (r k : Fin 1024) :
    ((dats m 0 d).arrAt 10 cfg0.N : S16x2048x1024.Idx → EReal) (ix3 b ⟨q.val * 1024 + r.val, by omega⟩ k)
      = kattn (mixRow (fun k => ((m ((d : Thread nD τ).loc main_arg0)) : S16x2048x1024.Idx → EReal) (ix3 b ⟨q.val * 1024 + r.val, by omega⟩ k))
            (fun c => ((m ((d : Thread nD τ).loc main_arg1)) : S16x512x2048.Idx → EReal) (ix3 b c ⟨q.val * 1024 + r.val, by omega⟩))
            (fun c => ((m ((d : Thread nD τ).loc main_arg2)) : S16x2048x512.Idx → EReal) (ix3 b ⟨q.val * 1024 + r.val, by omega⟩ c))
            (fun c k => ((m ((d : Thread nD τ).loc main_arg3)) : S1x1024x1024.Idx → EReal) (ix3 0 ⟨c.val, by omega⟩ k)) (fun c k => ((m ((d : Thread nD τ).loc main_arg3)) : S1x1024x1024.Idx → EReal) (ix3 0 ⟨512 + c.val, by omega⟩ k)))
          (fun k => ((m ((d : Thread nD τ).loc main_arg4)) : S2x1024.Idx → EReal) (ix2 0 k)) (fun k j => ((m ((d : Thread nD τ).loc main_arg5)) : S2x1024x512.Idx → EReal) (ix3 0 k j))
          (fun a j => ((m ((d : Thread nD τ).loc main_arg6)) : S16x256x1024.Idx → EReal) (ix3 b a ⟨j.val, by omega⟩))
          (fun a j => ((m ((d : Thread nD τ).loc main_arg6)) : S16x256x1024.Idx → EReal) (ix3 b a ⟨512 + j.val, by omega⟩))
          (fun j k => ((m ((d : Thread nD τ).loc main_arg7)) : S2x512x1024.Idx → EReal) (ix3 0 j k)) k := by
  obtain ⟨t, ht⟩ : ∃ t : Fin cfg0.N, t.val = b.val * 2 + q.val := ⟨⟨b.val * 2 + q.val, by show _ < grid0.N; rw [N_0]; omega⟩, rfl⟩
  have hb : b = bAt t := Fin.ext (by show b.val = t.val / 2; omega)
  have hq : q = ⟨t.val % 2, Nat.mod_lt _ Nat.two_pos⟩ := Fin.ext (by show q.val = t.val % 2; omega)
  subst hb hq
  have h := congrFun (Cert.Kernel7Ideal.Value.blocks10 m d t (flush0_10 t)) (ix3 0 r k)
  rw [Cert.Kernel7Ideal.Value.flushed10] at h
  have h' : (dats m 0 d).arrAt 10 cfg0.N (((cfg0.win 10).blk t).view.emb (ix3 0 r k)) = _ := h
  rw [emb10] at h'
  refine h'.trans ((Cert.MixK.out_apply _ _ _ _ _ _ _ _ _ _ _ _).trans ?_)
  simp only [iblk0_apply, iblk1_apply, iblk2_apply, iblk3_apply, iblk4_apply, iblk5_apply, iblk6_apply, iblk7_apply, iblk8_apply, iblk9_apply]

theorem pre_norm (x : FVec Ideal Cert.Pre_finite7.S2x1024 .f32) (h1 : Cert.Pre_finite7.S2x1024.Slices ![0, 0] Cert.Pre_finite7.S1x1024) (h2 : Cert.Pre_finite7.S1x1024.ShapeCasts Cert.Pre_finite7.S1024) (k : Fin 1024) :
    (shapeCast Cert.Pre_finite7.S1024 (extractStridedSlice Cert.Pre_finite7.S1x1024 ![0, 0] x h1) h2 : Cert.Pre_finite7.S1024.Idx → EReal) (ix1 k) = x (ix2 0 k) := by
  pointwise []

theorem pre_wq (x : FVec Ideal Cert.Pre_finite7.S2x1024x512 .f32) (h1 : Cert.Pre_finite7.S2x1024x512.Slices ![0, 0, 0] Cert.Pre_finite7.S1x1024x512) (h2 : Cert.Pre_finite7.S1x1024x512.ShapeCasts Cert.Pre_finite7.S1024x512) (k : Fin 1024) (j : Fin 512) :
    (shapeCast Cert.Pre_finite7.S1024x512 (extractStridedSlice Cert.Pre_finite7.S1x1024x512 ![0, 0, 0] x h1) h2 : Cert.Pre_finite7.S1024x512.Idx → EReal) (ix2 k j) = x (ix3 0 k j) := by
  pointwise []

theorem pre_keys (x : FVec Ideal Cert.Pre_finite7.S16x256x1024 .bf16) (h1 : Cert.Pre_finite7.S16x256x1024.Slices ![0, 0, 0] Cert.Pre_finite7.S16x256x512) (h2 : FTy.bits .bf16 < FTy.bits .f32) (b : Fin 16) (a : Fin 256) (j : Fin 512) :
    (extf .f32 (extractStridedSlice Cert.Pre_finite7.S16x256x512 ![0, 0, 0] x h1) h2 : Cert.Pre_finite7.S16x256x512.Idx → EReal) (ix3 b a j) = x (ix3 b a ⟨j.val, by omega⟩) := by
  pointwise []

/-- The precondition, read back. -/
theorem real_of_pre [hp : Cert.Pre_finite7.Facts] (a0 : FVec Ideal Cert.Pre_finite7.S16x2048x1024 .f32) (a1 : FVec Ideal Cert.Pre_finite7.S16x512x2048 .bf16)
    (a2 : FVec Ideal Cert.Pre_finite7.S16x2048x512 .bf16) (a3 : FVec Ideal Cert.Pre_finite7.S1x1024x1024 .f32) (a4 : FVec Ideal Cert.Pre_finite7.S2x1024 .f32)
    (a5 : FVec Ideal Cert.Pre_finite7.S2x1024x512 .f32) (a6 : FVec Ideal Cert.Pre_finite7.S16x256x1024 .bf16) (a7 : FVec Ideal Cert.Pre_finite7.S2x512x1024 .f32)
    (h : Cert.Pre_finite7.fn (F := Ideal) a0 a1 a2 a3 a4 a5 a6 a7 = (fun _ => 1#1)) :
    (∀ k, IsReal (a4 (ix2 0 k))) ∧ (∀ k j, IsReal (a5 (ix3 0 k j))) ∧ (∀ b a (j : Fin 512), IsReal (a6 (ix3 b a ⟨j.val, by omega⟩))) := by
  have h0 := congrFun h ix0
  dsimp only [Cert.Pre_finite7.fn, Cert.Pre_finite7.fn_part1] at h0
  haveI : Subsingleton Cert.Pre_finite7.S_.Idx := ⟨fun a b => funext fun d => d.elim0⟩
  obtain ⟨h0, h2⟩ := IntOp.andi_eq_one.1 h0
  obtain ⟨h0, h1⟩ := IntOp.andi_eq_one.1 h0
  refine ⟨fun k => ?_, fun k j => ?_, fun b a j => ?_⟩
  · obtain ⟨r, e⟩ := Cert.Finite.isReal_of_all _ _ (fun _ => rfl) _ _ _ _ h0 (ix1 k)
    exact ⟨r, (pre_norm a4 _ _ k).symm.trans e⟩
  · obtain ⟨r, e⟩ := Cert.Finite.isReal_of_all _ _ (fun _ => rfl) _ _ _ _ h1 (ix2 k j)
    exact ⟨r, (pre_wq a5 _ _ k j).symm.trans e⟩
  · obtain ⟨r, e⟩ := Cert.Finite.isReal_of_all _ _ (fun _ => rfl) _ _ _ _ h2 (ix3 b a j)
    exact ⟨r, (pre_keys a6 _ _ b a j).symm.trans e⟩

end Cert.MixRun

/-- The kernel's scale to base 2, named. -/
theorem Cert.Proof.preserves7 : Cert.preserves_Kernel7_Kernel7Ideal :=
  IdealRules.named_const.statement Cert.Kernel7Ideal.κ "scale2" .f32 0x3E0293EE#32 (((11863283 / 134217728) * (Real.log 2)⁻¹ : ℝ) : EReal) rfl

/-- THE VALUE CLAIM of layer 0's mixer output and cross-attention: at the ideal instance, from equal arguments with finite norm weights, query weights and keys, the
    call and the reference end with the same result array. -/
theorem Cert.Proof.algebraic7 :
    Cert.algebraic_Kernel7Ideal_Reference7Ideal_pre_finite7 (hKernel7Ideal := Cert.Kernel7Ideal.Gen.facts) (hReference7Ideal := Cert.Reference7Ideal.Gen.facts)
      (hPre_finite7 := Cert.Pre_finite7.Gen.facts) := by
  intro m g m' g' hpre hargs
  refine ⟨fun c => (Cert.Kernel7Ideal.Gen.dats m 0 c).arrAt 10 Cert.Kernel7Ideal.cfg0.N, Cert.Kernel7Ideal.Value.run_blocks m g, ?_⟩
  refine (θ_run _ _ _).mono (fun _ h c => ⟨(h c).1.trans ?_, (h c).2⟩) (Cert.Reference7Ideal.Value.run m' g')
  obtain ⟨a0, a1, a2, a3, a4, a5, a6, a7⟩ := hargs c
  rw [Cert.Reference7Ideal.Read.val_main_v50_eq, a0, a1, a2, a3, a4, a5, a6, a7]
  obtain ⟨r0, r1, r2⟩ := Cert.MixRun.real_of_pre (hp := Cert.Pre_finite7.Gen.facts) _ _ _ _ _ _ _ _ (hpre c)
  funext y
  obtain ⟨b, q, r, k, rfl⟩ : ∃ (b : Fin 16) (q : Fin 2) (r k : Fin 1024), y = ix3 b ⟨q.val * 1024 + r.val, by omega⟩ k := by
    have h1 : (y 1).val < 2048 := (y 1).isLt
    refine ⟨y 0, ⟨(y 1).val / 1024, by omega⟩, ⟨(y 1).val % 1024, by omega⟩, y 2, ?_⟩
    funext d; apply Fin.ext
    match d with
    | ⟨0, _⟩ => rfl
    | ⟨1, _⟩ => show (y 1).val = (y 1).val / 1024 * 1024 + (y 1).val % 1024; omega
    | ⟨2, _⟩ => rfl
  refine (Cert.MixRef.ref_apply _ _ _ _ _ _ _ _ b ⟨q.val * 1024 + r.val, by omega⟩ k).trans (Eq.trans ?_ (Cert.MixRun.final_apply m c b q r k).symm)
  simp only [Cert.MixRef.v5_apply]
  exact (attn_eq _ _ _ r0 r1 (r2 b) k).symm
-- ==== Proof.lean ====
/-
  The proof of `Cert.Claim`: the claims of the statement, each by the theorem that proves it. Untrusted.
-/
module

public import proofs.«01_k».proof.Defs
public import proofs.«01_k».proof.Proof.Dsa
public import proofs.«01_k».proof.Proof.Frames
public import proofs.«01_k».proof.Proof.SwigluRun
public import proofs.«01_k».proof.Proof.GmlpRun
public import proofs.«01_k».proof.Proof.NormMatmulRun
public import proofs.«01_k».proof.Proof.SwigluARun
public import proofs.«01_k».proof.Proof.KvProj
public import proofs.«01_k».proof.Proof.FramesX
public import proofs.«01_k».proof.Proof.AttendRun
public import proofs.«01_k».proof.Proof.MixRun

@[expose] public section

noncomputable section

open Idealize.ShloMosaic Idealize.ShloMosaic.TcCoe

/-- The sparse-attention kernel's frame: it ends with no fault, its arguments unchanged, every counter at zero. -/
theorem frame_kernel : Cert.quiescent_Kernel (hKernel := Cert.Kernel.Gen.facts) :=
  fun m ρ _ => Cert.Kernel.Hand.run_dsa (F := Bits) m ρ

theorem Cert.Proof.claim : Cert.Claim :=
  ⟨Cert.Kernel.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Pre_finite4.Gen.facts,
    Cert.Pre_finite7.Gen.facts,
    frame_kernel,
    Cert.Proof.frame_kernel2,
    Cert.Proof.frame_kernel2Ideal,
    Cert.Proof.frame_reference2,
    Cert.Proof.frame_kernel3,
    Cert.Proof.frame_kernel3Ideal,
    Cert.Proof.frame_reference3,
    Cert.Proof.frame_kernel4,
    Cert.Proof.frame_kernel4Ideal,
    Cert.Proof.frame_kernel4Ideal_pre,
    Cert.Proof.frame_reference4,
    Cert.Proof.frame_reference4_pre,
    Cert.Proof.frame_kernel5,
    Cert.Proof.frame_kernel5Ideal,
    Cert.Proof.frame_reference5,
    Cert.Proof.frame_kernel6,
    Cert.Proof.frame_kernel6Ideal,
    Cert.Proof.frame_reference6,
    Cert.Proof.frame_kernel7,
    Cert.Proof.frame_kernel7Ideal,
    Cert.Proof.frame_kernel7Ideal_pre,
    Cert.Proof.frame_reference7,
    Cert.Proof.frame_reference7_pre,
    Cert.Proof.frame_kernel8,
    Cert.Proof.frame_kernel8Ideal,
    Cert.Proof.frame_reference8,
    trivial,
    Cert.Proof.algebraic2,
    trivial,
    Cert.Proof.algebraic3,
    Cert.Proof.preserves4,
    Cert.Proof.algebraic4,
    trivial,
    Cert.Proof.algebraic5,
    trivial,
    Cert.Proof.algebraic6,
    Cert.Proof.preserves7,
    Cert.Proof.algebraic7,
    trivial,
    Cert.Proof.algebraic8⟩

end
